-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).2 = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_ret_finite [hPre_ret_finite : Cert.Pre_ret_finite.Facts] (m : (ℓ : Loc Cert.RetIdeal.nD Cert.RetIdeal.τ Cert.RetIdeal.sig) → Buf (Elt Ideal) ℓ) : Prop :=
  ∀ c : Dev Cert.RetIdeal.nD,
    (Cert.Pre_ret_finite.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3))).1 = (fun _ => 1#1)
    ∧ (Cert.Pre_ret_finite.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3))).2.1 = (fun _ => 1#1)
    ∧ (Cert.Pre_ret_finite.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3))).2.2.1 = (fun _ => 1#1)
    ∧ (Cert.Pre_ret_finite.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3))).2.2.2 = (fun _ => 1#1)

def Pre_RetReferenceIdeal (m : (ℓ : Loc Cert.RetReferenceIdeal.nD Cert.RetReferenceIdeal.τ Cert.RetReferenceIdeal.sig) → Buf (Elt Ideal) ℓ) : Prop :=
  True

def Pre_RetReferenceIdeal_ret_finite [hPre_ret_finite : Cert.Pre_ret_finite.Facts] (m : (ℓ : Loc Cert.RetReferenceIdeal.nD Cert.RetReferenceIdeal.τ Cert.RetReferenceIdeal.sig) → Buf (Elt Ideal) ℓ) : Prop :=
  ∀ c : Dev Cert.RetReferenceIdeal.nD,
    (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1)) (m ((c.tc : Thread Cert.RetReferenceIdeal.nD Cert.RetReferenceIdeal.τ).loc Cert.RetReferenceIdeal.main_arg2)) (m ((c.tc : Thread Cert.RetReferenceIdeal.nD Cert.RetReferenceIdeal.τ).loc Cert.RetReferenceIdeal.main_arg3))).1 = (fun _ => 1#1)
    ∧ (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1)) (m ((c.tc : Thread Cert.RetReferenceIdeal.nD Cert.RetReferenceIdeal.τ).loc Cert.RetReferenceIdeal.main_arg2)) (m ((c.tc : Thread Cert.RetReferenceIdeal.nD Cert.RetReferenceIdeal.τ).loc Cert.RetReferenceIdeal.main_arg3))).2.1 = (fun _ => 1#1)
    ∧ (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1)) (m ((c.tc : Thread Cert.RetReferenceIdeal.nD Cert.RetReferenceIdeal.τ).loc Cert.RetReferenceIdeal.main_arg2)) (m ((c.tc : Thread Cert.RetReferenceIdeal.nD Cert.RetReferenceIdeal.τ).loc Cert.RetReferenceIdeal.main_arg3))).2.2.1 = (fun _ => 1#1)
    ∧ (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1)) (m ((c.tc : Thread Cert.RetReferenceIdeal.nD Cert.RetReferenceIdeal.τ).loc Cert.RetReferenceIdeal.main_arg2)) (m ((c.tc : Thread Cert.RetReferenceIdeal.nD Cert.RetReferenceIdeal.τ).loc Cert.RetReferenceIdeal.main_arg3))).2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutReferenceIdeal (m : (ℓ : Loc Cert.RetOutReferenceIdeal.nD Cert.RetOutReferenceIdeal.τ Cert.RetOutReferenceIdeal.sig) → Buf (Elt Ideal) ℓ) : Prop :=
  True

def Pre_RetOutDx (m : (ℓ : Loc Cert.RetOutDx.nD Cert.RetOutDx.τ Cert.RetOutDx.sig) → Buf (Elt Bits) ℓ) : Prop :=
  True

def Pre_RetOutDxIdeal (m : (ℓ : Loc Cert.RetOutDxIdeal.nD Cert.RetOutDxIdeal.τ Cert.RetOutDxIdeal.sig) → Buf (Elt Ideal) ℓ) : Prop :=
  True

def Pre_RetOutDxReferenceIdeal (m : (ℓ : Loc Cert.RetOutDxReferenceIdeal.nD Cert.RetOutDxReferenceIdeal.τ Cert.RetOutDxReferenceIdeal.sig) → Buf (Elt Ideal) ℓ) : Prop :=
  True

def Pre_RetOutDw (m : (ℓ : Loc Cert.RetOutDw.nD Cert.RetOutDw.τ Cert.RetOutDw.sig) → Buf (Elt Bits) ℓ) : Prop :=
  True

def Pre_RetOutDwIdeal (m : (ℓ : Loc Cert.RetOutDwIdeal.nD Cert.RetOutDwIdeal.τ Cert.RetOutDwIdeal.sig) → Buf (Elt Ideal) ℓ) : Prop :=
  True

def Pre_RetOutDwReferenceIdeal (m : (ℓ : Loc Cert.RetOutDwReferenceIdeal.nD Cert.RetOutDwReferenceIdeal.τ Cert.RetOutDwReferenceIdeal.sig) → Buf (Elt Ideal) ℓ) : Prop :=
  True

def Pre_XoDx (m : (ℓ : Loc Cert.XoDx.nD Cert.XoDx.τ Cert.XoDx.sig) → Buf (Elt Bits) ℓ) : Prop :=
  True

def Pre_XoDxIdeal (m : (ℓ : Loc Cert.XoDxIdeal.nD Cert.XoDxIdeal.τ Cert.XoDxIdeal.sig) → Buf (Elt Ideal) ℓ) : Prop :=
  True

def Pre_XoDxReferenceIdeal (m : (ℓ : Loc Cert.XoDxReferenceIdeal.nD Cert.XoDxReferenceIdeal.τ Cert.XoDxReferenceIdeal.sig) → Buf (Elt Ideal) ℓ) : Prop :=
  True

def Pre_XoDw (m : (ℓ : Loc Cert.XoDw.nD Cert.XoDw.τ Cert.XoDw.sig) → Buf (Elt Bits) ℓ) : Prop :=
  True

def Pre_XoDwIdeal (m : (ℓ : Loc Cert.XoDwIdeal.nD Cert.XoDwIdeal.τ Cert.XoDwIdeal.sig) → Buf (Elt Ideal) ℓ) : Prop :=
  True

def Pre_XoDwReferenceIdeal (m : (ℓ : Loc Cert.XoDwReferenceIdeal.nD Cert.XoDwReferenceIdeal.τ Cert.XoDwReferenceIdeal.sig) → Buf (Elt Ideal) ℓ) : Prop :=
  True

def Pre_XqDw (m : (ℓ : Loc Cert.XqDw.nD Cert.XqDw.τ Cert.XqDw.sig) → Buf (Elt Bits) ℓ) : Prop :=
  True

def Pre_XqDwIdeal (m : (ℓ : Loc Cert.XqDwIdeal.nD Cert.XqDwIdeal.τ Cert.XqDwIdeal.sig) → Buf (Elt Ideal) ℓ) : Prop :=
  True

def Pre_XqDwReferenceIdeal (m : (ℓ : Loc Cert.XqDwReferenceIdeal.nD Cert.XqDwReferenceIdeal.τ Cert.XqDwReferenceIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqReferenceIdeal (m : (ℓ : Loc Cert.XqReferenceIdeal.nD Cert.XqReferenceIdeal.τ Cert.XqReferenceIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutReferenceIdeal (m : (ℓ : Loc Cert.ConvOutReferenceIdeal.nD Cert.ConvOutReferenceIdeal.τ Cert.ConvOutReferenceIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdReferenceIdeal (m : (ℓ : Loc Cert.GateBwdReferenceIdeal.nD Cert.GateBwdReferenceIdeal.τ Cert.GateBwdReferenceIdeal.sig) → Buf (Elt Ideal) ℓ) : Prop :=
  True

def Pre_XqDx (m : (ℓ : Loc Cert.XqDx.nD Cert.XqDx.τ Cert.XqDx.sig) → Buf (Elt Bits) ℓ) : Prop :=
  True

def Pre_XqDxIdeal (m : (ℓ : Loc Cert.XqDxIdeal.nD Cert.XqDxIdeal.τ Cert.XqDxIdeal.sig) → Buf (Elt Ideal) ℓ) : Prop :=
  True

def Pre_XqDxReferenceIdeal (m : (ℓ : Loc Cert.XqDxReferenceIdeal.nD Cert.XqDxReferenceIdeal.τ Cert.XqDxReferenceIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoReferenceIdeal (m : (ℓ : Loc Cert.XoReferenceIdeal.nD Cert.XoReferenceIdeal.τ Cert.XoReferenceIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_ConvOutDx (m : (ℓ : Loc Cert.ConvOutDx.nD Cert.ConvOutDx.τ Cert.ConvOutDx.sig) → Buf (Elt Bits) ℓ) : Prop :=
  True

def Pre_ConvOutDxIdeal (m : (ℓ : Loc Cert.ConvOutDxIdeal.nD Cert.ConvOutDxIdeal.τ Cert.ConvOutDxIdeal.sig) → Buf (Elt Ideal) ℓ) : Prop :=
  True

def Pre_ConvOutDxIdeal_conv_out_finite [hPre_conv_out_finite : Cert.Pre_conv_out_finite.Facts] (m : (ℓ : Loc Cert.ConvOutDxIdeal.nD Cert.ConvOutDxIdeal.τ Cert.ConvOutDxIdeal.sig) → Buf (Elt Ideal) ℓ) : Prop :=
  ∀ c : Dev Cert.ConvOutDxIdeal.nD,
    (Cert.Pre_conv_out_finite.fn (F := Ideal) (m ((c.tc : Thread Cert.ConvOutDxIdeal.nD Cert.ConvOutDxIdeal.τ).loc Cert.ConvOutDxIdeal.main_arg0)) (m ((c.tc : Thread Cert.ConvOutDxIdeal.nD Cert.ConvOutDxIdeal.τ).loc Cert.ConvOutDxIdeal.main_arg1)) (m ((c.tc : Thread Cert.ConvOutDxIdeal.nD Cert.ConvOutDxIdeal.τ).loc Cert.ConvOutDxIdeal.main_arg2)) (m ((c.tc : Thread Cert.ConvOutDxIdeal.nD Cert.ConvOutDxIdeal.τ).loc Cert.ConvOutDxIdeal.main_arg3)) (m ((c.tc : Thread Cert.ConvOutDxIdeal.nD Cert.ConvOutDxIdeal.τ).loc Cert.ConvOutDxIdeal.main_arg4))).1 = (fun _ => 1#1)
    ∧ (Cert.Pre_conv_out_finite.fn (F := Ideal) (m ((c.tc : Thread Cert.ConvOutDxIdeal.nD Cert.ConvOutDxIdeal.τ).loc Cert.ConvOutDxIdeal.main_arg0)) (m ((c.tc : Thread Cert.ConvOutDxIdeal.nD Cert.ConvOutDxIdeal.τ).loc Cert.ConvOutDxIdeal.main_arg1)) (m ((c.tc : Thread Cert.ConvOutDxIdeal.nD Cert.ConvOutDxIdeal.τ).loc Cert.ConvOutDxIdeal.main_arg2)) (m ((c.tc : Thread Cert.ConvOutDxIdeal.nD Cert.ConvOutDxIdeal.τ).loc Cert.ConvOutDxIdeal.main_arg3)) (m ((c.tc : Thread Cert.ConvOutDxIdeal.nD Cert.ConvOutDxIdeal.τ).loc Cert.ConvOutDxIdeal.main_arg4))).2.1 = (fun _ => 1#1)
    ∧ (Cert.Pre_conv_out_finite.fn (F := Ideal) (m ((c.tc : Thread Cert.ConvOutDxIdeal.nD Cert.ConvOutDxIdeal.τ).loc Cert.ConvOutDxIdeal.main_arg0)) (m ((c.tc : Thread Cert.ConvOutDxIdeal.nD Cert.ConvOutDxIdeal.τ).loc Cert.ConvOutDxIdeal.main_arg1)) (m ((c.tc : Thread Cert.ConvOutDxIdeal.nD Cert.ConvOutDxIdeal.τ).loc Cert.ConvOutDxIdeal.main_arg2)) (m ((c.tc : Thread Cert.ConvOutDxIdeal.nD Cert.ConvOutDxIdeal.τ).loc Cert.ConvOutDxIdeal.main_arg3)) (m ((c.tc : Thread Cert.ConvOutDxIdeal.nD Cert.ConvOutDxIdeal.τ).loc Cert.ConvOutDxIdeal.main_arg4))).2.2 = (fun _ => 1#1)

def Pre_ConvOutDxReferenceIdeal (m : (ℓ : Loc Cert.ConvOutDxReferenceIdeal.nD Cert.ConvOutDxReferenceIdeal.τ Cert.ConvOutDxReferenceIdeal.sig) → Buf (Elt Ideal) ℓ) : Prop :=
  True

def Pre_ConvOutDxReferenceIdeal_conv_out_finite [hPre_conv_out_finite : Cert.Pre_conv_out_finite.Facts] (m : (ℓ : Loc Cert.ConvOutDxReferenceIdeal.nD Cert.ConvOutDxReferenceIdeal.τ Cert.ConvOutDxReferenceIdeal.sig) → Buf (Elt Ideal) ℓ) : Prop :=
  ∀ c : Dev Cert.ConvOutDxReferenceIdeal.nD,
    (Cert.Pre_conv_out_finite.fn (F := Ideal) (m ((c.tc : Thread Cert.ConvOutDxReferenceIdeal.nD Cert.ConvOutDxReferenceIdeal.τ).loc Cert.ConvOutDxReferenceIdeal.main_arg0)) (m ((c.tc : Thread Cert.ConvOutDxReferenceIdeal.nD Cert.ConvOutDxReferenceIdeal.τ).loc Cert.ConvOutDxReferenceIdeal.main_arg1)) (m ((c.tc : Thread Cert.ConvOutDxReferenceIdeal.nD Cert.ConvOutDxReferenceIdeal.τ).loc Cert.ConvOutDxReferenceIdeal.main_arg2)) (m ((c.tc : Thread Cert.ConvOutDxReferenceIdeal.nD Cert.ConvOutDxReferenceIdeal.τ).loc Cert.ConvOutDxReferenceIdeal.main_arg3)) (m ((c.tc : Thread Cert.ConvOutDxReferenceIdeal.nD Cert.ConvOutDxReferenceIdeal.τ).loc Cert.ConvOutDxReferenceIdeal.main_arg4))).1 = (fun _ => 1#1)
    ∧ (Cert.Pre_conv_out_finite.fn (F := Ideal) (m ((c.tc : Thread Cert.ConvOutDxReferenceIdeal.nD Cert.ConvOutDxReferenceIdeal.τ).loc Cert.ConvOutDxReferenceIdeal.main_arg0)) (m ((c.tc : Thread Cert.ConvOutDxReferenceIdeal.nD Cert.ConvOutDxReferenceIdeal.τ).loc Cert.ConvOutDxReferenceIdeal.main_arg1)) (m ((c.tc : Thread Cert.ConvOutDxReferenceIdeal.nD Cert.ConvOutDxReferenceIdeal.τ).loc Cert.ConvOutDxReferenceIdeal.main_arg2)) (m ((c.tc : Thread Cert.ConvOutDxReferenceIdeal.nD Cert.ConvOutDxReferenceIdeal.τ).loc Cert.ConvOutDxReferenceIdeal.main_arg3)) (m ((c.tc : Thread Cert.ConvOutDxReferenceIdeal.nD Cert.ConvOutDxReferenceIdeal.τ).loc Cert.ConvOutDxReferenceIdeal.main_arg4))).2.1 = (fun _ => 1#1)
    ∧ (Cert.Pre_conv_out_finite.fn (F := Ideal) (m ((c.tc : Thread Cert.ConvOutDxReferenceIdeal.nD Cert.ConvOutDxReferenceIdeal.τ).loc Cert.ConvOutDxReferenceIdeal.main_arg0)) (m ((c.tc : Thread Cert.ConvOutDxReferenceIdeal.nD Cert.ConvOutDxReferenceIdeal.τ).loc Cert.ConvOutDxReferenceIdeal.main_arg1)) (m ((c.tc : Thread Cert.ConvOutDxReferenceIdeal.nD Cert.ConvOutDxReferenceIdeal.τ).loc Cert.ConvOutDxReferenceIdeal.main_arg2)) (m ((c.tc : Thread Cert.ConvOutDxReferenceIdeal.nD Cert.ConvOutDxReferenceIdeal.τ).loc Cert.ConvOutDxReferenceIdeal.main_arg3)) (m ((c.tc : Thread Cert.ConvOutDxReferenceIdeal.nD Cert.ConvOutDxReferenceIdeal.τ).loc Cert.ConvOutDxReferenceIdeal.main_arg4))).2.2 = (fun _ => 1#1)

def Pre_DownLast (m : (ℓ : Loc Cert.DownLast.nD Cert.DownLast.τ Cert.DownLast.sig) → Buf (Elt Bits) ℓ) : Prop :=
  True

def Pre_DownLastIdeal (m : (ℓ : Loc Cert.DownLastIdeal.nD Cert.DownLastIdeal.τ Cert.DownLastIdeal.sig) → Buf (Elt Ideal) ℓ) : Prop :=
  True

def Pre_DownLastReferenceIdeal (m : (ℓ : Loc Cert.DownLastReferenceIdeal.nD Cert.DownLastReferenceIdeal.τ Cert.DownLastReferenceIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2)
      ∧ r.2.mem ((c.tc : Thread Cert.InDxReferenceIdeal.nD Cert.InDxReferenceIdeal.τ).loc Cert.InDxReferenceIdeal.main_arg3) = m ((c.tc : Thread Cert.InDxReferenceIdeal.nD Cert.InDxReferenceIdeal.τ).loc Cert.InDxReferenceIdeal.main_arg3)
      ∧ r.2.mem ((c.tc : Thread Cert.InDxReferenceIdeal.nD Cert.InDxReferenceIdeal.τ).loc Cert.InDxReferenceIdeal.main_arg4) = m ((c.tc : Thread Cert.InDxReferenceIdeal.nD Cert.InDxReferenceIdeal.τ).loc Cert.InDxReferenceIdeal.main_arg4))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2)
      ∧ r.2.mem ((c.tc : Thread Cert.UpDxReferenceIdeal.nD Cert.UpDxReferenceIdeal.τ).loc Cert.UpDxReferenceIdeal.main_arg3) = m ((c.tc : Thread Cert.UpDxReferenceIdeal.nD Cert.UpDxReferenceIdeal.τ).loc Cert.UpDxReferenceIdeal.main_arg3)
      ∧ r.2.mem ((c.tc : Thread Cert.UpDxReferenceIdeal.nD Cert.UpDxReferenceIdeal.τ).loc Cert.UpDxReferenceIdeal.main_arg4) = m ((c.tc : Thread Cert.UpDxReferenceIdeal.nD Cert.UpDxReferenceIdeal.τ).loc Cert.UpDxReferenceIdeal.main_arg4))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetIdeal_pre_ret_finite [hRetIdeal : Cert.RetIdeal.Facts] [hPre_ret_finite : Cert.Pre_ret_finite.Facts] : Prop :=
  ∀ (m : (ℓ : Loc Cert.RetIdeal.nD Cert.RetIdeal.τ Cert.RetIdeal.sig) → Buf (Elt Ideal) ℓ) (g : Dev Cert.RetIdeal.nD → PrngReg), Pre_RetIdeal_ret_finite m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1)
      ∧ r.2.mem ((c.tc : Thread Cert.RetReferenceIdeal.nD Cert.RetReferenceIdeal.τ).loc Cert.RetReferenceIdeal.main_arg2) = m ((c.tc : Thread Cert.RetReferenceIdeal.nD Cert.RetReferenceIdeal.τ).loc Cert.RetReferenceIdeal.main_arg2)
      ∧ r.2.mem ((c.tc : Thread Cert.RetReferenceIdeal.nD Cert.RetReferenceIdeal.τ).loc Cert.RetReferenceIdeal.main_arg3) = m ((c.tc : Thread Cert.RetReferenceIdeal.nD Cert.RetReferenceIdeal.τ).loc Cert.RetReferenceIdeal.main_arg3))
      ∧ r.2.sem = fun _ => 0)

def quiescent_RetReferenceIdeal_pre_ret_finite [hRetReferenceIdeal : Cert.RetReferenceIdeal.Facts] [hPre_ret_finite : Cert.Pre_ret_finite.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal_ret_finite m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1)
      ∧ r.2.mem ((c.tc : Thread Cert.RetReferenceIdeal.nD Cert.RetReferenceIdeal.τ).loc Cert.RetReferenceIdeal.main_arg2) = m ((c.tc : Thread Cert.RetReferenceIdeal.nD Cert.RetReferenceIdeal.τ).loc Cert.RetReferenceIdeal.main_arg2)
      ∧ r.2.mem ((c.tc : Thread Cert.RetReferenceIdeal.nD Cert.RetReferenceIdeal.τ).loc Cert.RetReferenceIdeal.main_arg3) = m ((c.tc : Thread Cert.RetReferenceIdeal.nD Cert.RetReferenceIdeal.τ).loc Cert.RetReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1))
      ∧ r.2.sem = fun _ => 0)

def quiescent_RetOutReferenceIdeal [hRetOutReferenceIdeal : Cert.RetOutReferenceIdeal.Facts] : Prop :=
  ∀ (m : (ℓ : Loc Cert.RetOutReferenceIdeal.nD Cert.RetOutReferenceIdeal.τ Cert.RetOutReferenceIdeal.sig) → Buf (Elt Ideal) ℓ) (g : Dev Cert.RetOutReferenceIdeal.nD → PrngReg), Pre_RetOutReferenceIdeal m →
    θ_run (Cert.RetOutReferenceIdeal.defs (F := Ideal)) (onTc (τ := Cert.RetOutReferenceIdeal.τ) (Cert.RetOutReferenceIdeal.main (F := Ideal))) ⟨m, fun _ => 0, g⟩ (fun r => (∀ c : Dev Cert.RetOutReferenceIdeal.nD,
      r.2.mem ((c.tc : Thread Cert.RetOutReferenceIdeal.nD Cert.RetOutReferenceIdeal.τ).loc Cert.RetOutReferenceIdeal.main_arg0) = m ((c.tc : Thread Cert.RetOutReferenceIdeal.nD Cert.RetOutReferenceIdeal.τ).loc Cert.RetOutReferenceIdeal.main_arg0)
      ∧ r.2.mem ((c.tc : Thread Cert.RetOutReferenceIdeal.nD Cert.RetOutReferenceIdeal.τ).loc Cert.RetOutReferenceIdeal.main_arg1) = m ((c.tc : Thread Cert.RetOutReferenceIdeal.nD Cert.RetOutReferenceIdeal.τ).loc Cert.RetOutReferenceIdeal.main_arg1))
      ∧ r.2.sem = fun _ => 0)

def quiescent_RetOutDx [hRetOutDx : Cert.RetOutDx.Facts] : Prop :=
  ∀ (m : (ℓ : Loc Cert.RetOutDx.nD Cert.RetOutDx.τ Cert.RetOutDx.sig) → Buf (Elt Bits) ℓ) (g : Dev Cert.RetOutDx.nD → PrngReg), Pre_RetOutDx m →
    θ_run (Cert.RetOutDx.defs (F := Bits)) (onTc (τ := Cert.RetOutDx.τ) (Cert.RetOutDx.main (F := Bits))) ⟨m, fun _ => 0, g⟩ (fun r => (∀ c : Dev Cert.RetOutDx.nD,
      r.2.mem ((c.tc : Thread Cert.RetOutDx.nD Cert.RetOutDx.τ).loc Cert.RetOutDx.main_arg0) = m ((c.tc : Thread Cert.RetOutDx.nD Cert.RetOutDx.τ).loc Cert.RetOutDx.main_arg0)
      ∧ r.2.mem ((c.tc : Thread Cert.RetOutDx.nD Cert.RetOutDx.τ).loc Cert.RetOutDx.main_arg1) = m ((c.tc : Thread Cert.RetOutDx.nD Cert.RetOutDx.τ).loc Cert.RetOutDx.main_arg1))
      ∧ r.2.sem = fun _ => 0)

def quiescent_RetOutDxIdeal [hRetOutDxIdeal : Cert.RetOutDxIdeal.Facts] : Prop :=
  ∀ (m : (ℓ : Loc Cert.RetOutDxIdeal.nD Cert.RetOutDxIdeal.τ Cert.RetOutDxIdeal.sig) → Buf (Elt Ideal) ℓ) (g : Dev Cert.RetOutDxIdeal.nD → PrngReg), Pre_RetOutDxIdeal m →
    θ_run (Cert.RetOutDxIdeal.defs (F := Ideal)) (onTc (τ := Cert.RetOutDxIdeal.τ) (Cert.RetOutDxIdeal.main (F := Ideal))) ⟨m, fun _ => 0, g⟩ (fun r => (∀ c : Dev Cert.RetOutDxIdeal.nD,
      r.2.mem ((c.tc : Thread Cert.RetOutDxIdeal.nD Cert.RetOutDxIdeal.τ).loc Cert.RetOutDxIdeal.main_arg0) = m ((c.tc : Thread Cert.RetOutDxIdeal.nD Cert.RetOutDxIdeal.τ).loc Cert.RetOutDxIdeal.main_arg0)
      ∧ r.2.mem ((c.tc : Thread Cert.RetOutDxIdeal.nD Cert.RetOutDxIdeal.τ).loc Cert.RetOutDxIdeal.main_arg1) = m ((c.tc : Thread Cert.RetOutDxIdeal.nD Cert.RetOutDxIdeal.τ).loc Cert.RetOutDxIdeal.main_arg1))
      ∧ r.2.sem = fun _ => 0)

def quiescent_RetOutDxReferenceIdeal [hRetOutDxReferenceIdeal : Cert.RetOutDxReferenceIdeal.Facts] : Prop :=
  ∀ (m : (ℓ : Loc Cert.RetOutDxReferenceIdeal.nD Cert.RetOutDxReferenceIdeal.τ Cert.RetOutDxReferenceIdeal.sig) → Buf (Elt Ideal) ℓ) (g : Dev Cert.RetOutDxReferenceIdeal.nD → PrngReg), Pre_RetOutDxReferenceIdeal m →
    θ_run (Cert.RetOutDxReferenceIdeal.defs (F := Ideal)) (onTc (τ := Cert.RetOutDxReferenceIdeal.τ) (Cert.RetOutDxReferenceIdeal.main (F := Ideal))) ⟨m, fun _ => 0, g⟩ (fun r => (∀ c : Dev Cert.RetOutDxReferenceIdeal.nD,
      r.2.mem ((c.tc : Thread Cert.RetOutDxReferenceIdeal.nD Cert.RetOutDxReferenceIdeal.τ).loc Cert.RetOutDxReferenceIdeal.main_arg0) = m ((c.tc : Thread Cert.RetOutDxReferenceIdeal.nD Cert.RetOutDxReferenceIdeal.τ).loc Cert.RetOutDxReferenceIdeal.main_arg0)
      ∧ r.2.mem ((c.tc : Thread Cert.RetOutDxReferenceIdeal.nD Cert.RetOutDxReferenceIdeal.τ).loc Cert.RetOutDxReferenceIdeal.main_arg1) = m ((c.tc : Thread Cert.RetOutDxReferenceIdeal.nD Cert.RetOutDxReferenceIdeal.τ).loc Cert.RetOutDxReferenceIdeal.main_arg1))
      ∧ r.2.sem = fun _ => 0)

def quiescent_RetOutDw [hRetOutDw : Cert.RetOutDw.Facts] : Prop :=
  ∀ (m : (ℓ : Loc Cert.RetOutDw.nD Cert.RetOutDw.τ Cert.RetOutDw.sig) → Buf (Elt Bits) ℓ) (g : Dev Cert.RetOutDw.nD → PrngReg), Pre_RetOutDw m →
    θ_run (Cert.RetOutDw.defs (F := Bits)) (onTc (τ := Cert.RetOutDw.τ) (Cert.RetOutDw.main (F := Bits))) ⟨m, fun _ => 0, g⟩ (fun r => (∀ c : Dev Cert.RetOutDw.nD,
      r.2.mem ((c.tc : Thread Cert.RetOutDw.nD Cert.RetOutDw.τ).loc Cert.RetOutDw.main_arg0) = m ((c.tc : Thread Cert.RetOutDw.nD Cert.RetOutDw.τ).loc Cert.RetOutDw.main_arg0)
      ∧ r.2.mem ((c.tc : Thread Cert.RetOutDw.nD Cert.RetOutDw.τ).loc Cert.RetOutDw.main_arg1) = m ((c.tc : Thread Cert.RetOutDw.nD Cert.RetOutDw.τ).loc Cert.RetOutDw.main_arg1))
      ∧ r.2.sem = fun _ => 0)

def quiescent_RetOutDwIdeal [hRetOutDwIdeal : Cert.RetOutDwIdeal.Facts] : Prop :=
  ∀ (m : (ℓ : Loc Cert.RetOutDwIdeal.nD Cert.RetOutDwIdeal.τ Cert.RetOutDwIdeal.sig) → Buf (Elt Ideal) ℓ) (g : Dev Cert.RetOutDwIdeal.nD → PrngReg), Pre_RetOutDwIdeal m →
    θ_run (Cert.RetOutDwIdeal.defs (F := Ideal)) (onTc (τ := Cert.RetOutDwIdeal.τ) (Cert.RetOutDwIdeal.main (F := Ideal))) ⟨m, fun _ => 0, g⟩ (fun r => (∀ c : Dev Cert.RetOutDwIdeal.nD,
      r.2.mem ((c.tc : Thread Cert.RetOutDwIdeal.nD Cert.RetOutDwIdeal.τ).loc Cert.RetOutDwIdeal.main_arg0) = m ((c.tc : Thread Cert.RetOutDwIdeal.nD Cert.RetOutDwIdeal.τ).loc Cert.RetOutDwIdeal.main_arg0)
      ∧ r.2.mem ((c.tc : Thread Cert.RetOutDwIdeal.nD Cert.RetOutDwIdeal.τ).loc Cert.RetOutDwIdeal.main_arg1) = m ((c.tc : Thread Cert.RetOutDwIdeal.nD Cert.RetOutDwIdeal.τ).loc Cert.RetOutDwIdeal.main_arg1))
      ∧ r.2.sem = fun _ => 0)

def quiescent_RetOutDwReferenceIdeal [hRetOutDwReferenceIdeal : Cert.RetOutDwReferenceIdeal.Facts] : Prop :=
  ∀ (m : (ℓ : Loc Cert.RetOutDwReferenceIdeal.nD Cert.RetOutDwReferenceIdeal.τ Cert.RetOutDwReferenceIdeal.sig) → Buf (Elt Ideal) ℓ) (g : Dev Cert.RetOutDwReferenceIdeal.nD → PrngReg), Pre_RetOutDwReferenceIdeal m →
    θ_run (Cert.RetOutDwReferenceIdeal.defs (F := Ideal)) (onTc (τ := Cert.RetOutDwReferenceIdeal.τ) (Cert.RetOutDwReferenceIdeal.main (F := Ideal))) ⟨m, fun _ => 0, g⟩ (fun r => (∀ c : Dev Cert.RetOutDwReferenceIdeal.nD,
      r.2.mem ((c.tc : Thread Cert.RetOutDwReferenceIdeal.nD Cert.RetOutDwReferenceIdeal.τ).loc Cert.RetOutDwReferenceIdeal.main_arg0) = m ((c.tc : Thread Cert.RetOutDwReferenceIdeal.nD Cert.RetOutDwReferenceIdeal.τ).loc Cert.RetOutDwReferenceIdeal.main_arg0)
      ∧ r.2.mem ((c.tc : Thread Cert.RetOutDwReferenceIdeal.nD Cert.RetOutDwReferenceIdeal.τ).loc Cert.RetOutDwReferenceIdeal.main_arg1) = m ((c.tc : Thread Cert.RetOutDwReferenceIdeal.nD Cert.RetOutDwReferenceIdeal.τ).loc Cert.RetOutDwReferenceIdeal.main_arg1))
      ∧ r.2.sem = fun _ => 0)

def quiescent_XoDx [hXoDx : Cert.XoDx.Facts] : Prop :=
  ∀ (m : (ℓ : Loc Cert.XoDx.nD Cert.XoDx.τ Cert.XoDx.sig) → Buf (Elt Bits) ℓ) (g : Dev Cert.XoDx.nD → PrngReg), Pre_XoDx m →
    θ_run (Cert.XoDx.defs (F := Bits)) (onTc (τ := Cert.XoDx.τ) (Cert.XoDx.main (F := Bits))) ⟨m, fun _ => 0, g⟩ (fun r => (∀ c : Dev Cert.XoDx.nD,
      r.2.mem ((c.tc : Thread Cert.XoDx.nD Cert.XoDx.τ).loc Cert.XoDx.main_arg0) = m ((c.tc : Thread Cert.XoDx.nD Cert.XoDx.τ).loc Cert.XoDx.main_arg0)
      ∧ r.2.mem ((c.tc : Thread Cert.XoDx.nD Cert.XoDx.τ).loc Cert.XoDx.main_arg1) = m ((c.tc : Thread Cert.XoDx.nD Cert.XoDx.τ).loc Cert.XoDx.main_arg1))
      ∧ r.2.sem = fun _ => 0)

def quiescent_XoDxIdeal [hXoDxIdeal : Cert.XoDxIdeal.Facts] : Prop :=
  ∀ (m : (ℓ : Loc Cert.XoDxIdeal.nD Cert.XoDxIdeal.τ Cert.XoDxIdeal.sig) → Buf (Elt Ideal) ℓ) (g : Dev Cert.XoDxIdeal.nD → PrngReg), Pre_XoDxIdeal m →
    θ_run (Cert.XoDxIdeal.defs (F := Ideal)) (onTc (τ := Cert.XoDxIdeal.τ) (Cert.XoDxIdeal.main (F := Ideal))) ⟨m, fun _ => 0, g⟩ (fun r => (∀ c : Dev Cert.XoDxIdeal.nD,
      r.2.mem ((c.tc : Thread Cert.XoDxIdeal.nD Cert.XoDxIdeal.τ).loc Cert.XoDxIdeal.main_arg0) = m ((c.tc : Thread Cert.XoDxIdeal.nD Cert.XoDxIdeal.τ).loc Cert.XoDxIdeal.main_arg0)
      ∧ r.2.mem ((c.tc : Thread Cert.XoDxIdeal.nD Cert.XoDxIdeal.τ).loc Cert.XoDxIdeal.main_arg1) = m ((c.tc : Thread Cert.XoDxIdeal.nD Cert.XoDxIdeal.τ).loc Cert.XoDxIdeal.main_arg1))
      ∧ r.2.sem = fun _ => 0)

def quiescent_XoDxReferenceIdeal [hXoDxReferenceIdeal : Cert.XoDxReferenceIdeal.Facts] : Prop :=
  ∀ (m : (ℓ : Loc Cert.XoDxReferenceIdeal.nD Cert.XoDxReferenceIdeal.τ Cert.XoDxReferenceIdeal.sig) → Buf (Elt Ideal) ℓ) (g : Dev Cert.XoDxReferenceIdeal.nD → PrngReg), Pre_XoDxReferenceIdeal m →
    θ_run (Cert.XoDxReferenceIdeal.defs (F := Ideal)) (onTc (τ := Cert.XoDxReferenceIdeal.τ) (Cert.XoDxReferenceIdeal.main (F := Ideal))) ⟨m, fun _ => 0, g⟩ (fun r => (∀ c : Dev Cert.XoDxReferenceIdeal.nD,
      r.2.mem ((c.tc : Thread Cert.XoDxReferenceIdeal.nD Cert.XoDxReferenceIdeal.τ).loc Cert.XoDxReferenceIdeal.main_arg0) = m ((c.tc : Thread Cert.XoDxReferenceIdeal.nD Cert.XoDxReferenceIdeal.τ).loc Cert.XoDxReferenceIdeal.main_arg0)
      ∧ r.2.mem ((c.tc : Thread Cert.XoDxReferenceIdeal.nD Cert.XoDxReferenceIdeal.τ).loc Cert.XoDxReferenceIdeal.main_arg1) = m ((c.tc : Thread Cert.XoDxReferenceIdeal.nD Cert.XoDxReferenceIdeal.τ).loc Cert.XoDxReferenceIdeal.main_arg1))
      ∧ r.2.sem = fun _ => 0)

def quiescent_XoDw [hXoDw : Cert.XoDw.Facts] : Prop :=
  ∀ (m : (ℓ : Loc Cert.XoDw.nD Cert.XoDw.τ Cert.XoDw.sig) → Buf (Elt Bits) ℓ) (g : Dev Cert.XoDw.nD → PrngReg), Pre_XoDw m →
    θ_run (Cert.XoDw.defs (F := Bits)) (onTc (τ := Cert.XoDw.τ) (Cert.XoDw.main (F := Bits))) ⟨m, fun _ => 0, g⟩ (fun r => (∀ c : Dev Cert.XoDw.nD,
      r.2.mem ((c.tc : Thread Cert.XoDw.nD Cert.XoDw.τ).loc Cert.XoDw.main_arg0) = m ((c.tc : Thread Cert.XoDw.nD Cert.XoDw.τ).loc Cert.XoDw.main_arg0)
      ∧ r.2.mem ((c.tc : Thread Cert.XoDw.nD Cert.XoDw.τ).loc Cert.XoDw.main_arg1) = m ((c.tc : Thread Cert.XoDw.nD Cert.XoDw.τ).loc Cert.XoDw.main_arg1))
      ∧ r.2.sem = fun _ => 0)

def quiescent_XoDwIdeal [hXoDwIdeal : Cert.XoDwIdeal.Facts] : Prop :=
  ∀ (m : (ℓ : Loc Cert.XoDwIdeal.nD Cert.XoDwIdeal.τ Cert.XoDwIdeal.sig) → Buf (Elt Ideal) ℓ) (g : Dev Cert.XoDwIdeal.nD → PrngReg), Pre_XoDwIdeal m →
    θ_run (Cert.XoDwIdeal.defs (F := Ideal)) (onTc (τ := Cert.XoDwIdeal.τ) (Cert.XoDwIdeal.main (F := Ideal))) ⟨m, fun _ => 0, g⟩ (fun r => (∀ c : Dev Cert.XoDwIdeal.nD,
      r.2.mem ((c.tc : Thread Cert.XoDwIdeal.nD Cert.XoDwIdeal.τ).loc Cert.XoDwIdeal.main_arg0) = m ((c.tc : Thread Cert.XoDwIdeal.nD Cert.XoDwIdeal.τ).loc Cert.XoDwIdeal.main_arg0)
      ∧ r.2.mem ((c.tc : Thread Cert.XoDwIdeal.nD Cert.XoDwIdeal.τ).loc Cert.XoDwIdeal.main_arg1) = m ((c.tc : Thread Cert.XoDwIdeal.nD Cert.XoDwIdeal.τ).loc Cert.XoDwIdeal.main_arg1))
      ∧ r.2.sem = fun _ => 0)

def quiescent_XoDwReferenceIdeal [hXoDwReferenceIdeal : Cert.XoDwReferenceIdeal.Facts] : Prop :=
  ∀ (m : (ℓ : Loc Cert.XoDwReferenceIdeal.nD Cert.XoDwReferenceIdeal.τ Cert.XoDwReferenceIdeal.sig) → Buf (Elt Ideal) ℓ) (g : Dev Cert.XoDwReferenceIdeal.nD → PrngReg), Pre_XoDwReferenceIdeal m →
    θ_run (Cert.XoDwReferenceIdeal.defs (F := Ideal)) (onTc (τ := Cert.XoDwReferenceIdeal.τ) (Cert.XoDwReferenceIdeal.main (F := Ideal))) ⟨m, fun _ => 0, g⟩ (fun r => (∀ c : Dev Cert.XoDwReferenceIdeal.nD,
      r.2.mem ((c.tc : Thread Cert.XoDwReferenceIdeal.nD Cert.XoDwReferenceIdeal.τ).loc Cert.XoDwReferenceIdeal.main_arg0) = m ((c.tc : Thread Cert.XoDwReferenceIdeal.nD Cert.XoDwReferenceIdeal.τ).loc Cert.XoDwReferenceIdeal.main_arg0)
      ∧ r.2.mem ((c.tc : Thread Cert.XoDwReferenceIdeal.nD Cert.XoDwReferenceIdeal.τ).loc Cert.XoDwReferenceIdeal.main_arg1) = m ((c.tc : Thread Cert.XoDwReferenceIdeal.nD Cert.XoDwReferenceIdeal.τ).loc Cert.XoDwReferenceIdeal.main_arg1))
      ∧ r.2.sem = fun _ => 0)

def quiescent_XqDw [hXqDw : Cert.XqDw.Facts] : Prop :=
  ∀ (m : (ℓ : Loc Cert.XqDw.nD Cert.XqDw.τ Cert.XqDw.sig) → Buf (Elt Bits) ℓ) (g : Dev Cert.XqDw.nD → PrngReg), Pre_XqDw m →
    θ_run (Cert.XqDw.defs (F := Bits)) (onTc (τ := Cert.XqDw.τ) (Cert.XqDw.main (F := Bits))) ⟨m, fun _ => 0, g⟩ (fun r => (∀ c : Dev Cert.XqDw.nD,
      r.2.mem ((c.tc : Thread Cert.XqDw.nD Cert.XqDw.τ).loc Cert.XqDw.main_arg0) = m ((c.tc : Thread Cert.XqDw.nD Cert.XqDw.τ).loc Cert.XqDw.main_arg0)
      ∧ r.2.mem ((c.tc : Thread Cert.XqDw.nD Cert.XqDw.τ).loc Cert.XqDw.main_arg1) = m ((c.tc : Thread Cert.XqDw.nD Cert.XqDw.τ).loc Cert.XqDw.main_arg1))
      ∧ r.2.sem = fun _ => 0)

def quiescent_XqDwIdeal [hXqDwIdeal : Cert.XqDwIdeal.Facts] : Prop :=
  ∀ (m : (ℓ : Loc Cert.XqDwIdeal.nD Cert.XqDwIdeal.τ Cert.XqDwIdeal.sig) → Buf (Elt Ideal) ℓ) (g : Dev Cert.XqDwIdeal.nD → PrngReg), Pre_XqDwIdeal m →
    θ_run (Cert.XqDwIdeal.defs (F := Ideal)) (onTc (τ := Cert.XqDwIdeal.τ) (Cert.XqDwIdeal.main (F := Ideal))) ⟨m, fun _ => 0, g⟩ (fun r => (∀ c : Dev Cert.XqDwIdeal.nD,
      r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
      ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ r.2.sem = fun _ => 0)

def quiescent_XqDwReferenceIdeal [hXqDwReferenceIdeal : Cert.XqDwReferenceIdeal.Facts] : Prop :=
  ∀ (m : (ℓ : Loc Cert.XqDwReferenceIdeal.nD Cert.XqDwReferenceIdeal.τ Cert.XqDwReferenceIdeal.sig) → Buf (Elt Ideal) ℓ) (g : Dev Cert.XqDwReferenceIdeal.nD → PrngReg), Pre_XqDwReferenceIdeal m →
    θ_run (Cert.XqDwReferenceIdeal.defs (F := Ideal)) (onTc (τ := Cert.XqDwReferenceIdeal.τ) (Cert.XqDwReferenceIdeal.main (F := Ideal))) ⟨m, fun _ => 0, g⟩ (fun r => (∀ c : Dev Cert.XqDwReferenceIdeal.nD,
      r.2.mem ((c.tc : Thread Cert.XqDwReferenceIdeal.nD Cert.XqDwReferenceIdeal.τ).loc Cert.XqDwReferenceIdeal.main_arg0) = m ((c.tc : Thread Cert.XqDwReferenceIdeal.nD Cert.XqDwReferenceIdeal.τ).loc Cert.XqDwReferenceIdeal.main_arg0)
      ∧ r.2.mem ((c.tc : Thread Cert.XqDwReferenceIdeal.nD Cert.XqDwReferenceIdeal.τ).loc Cert.XqDwReferenceIdeal.main_arg1) = m ((c.tc : Thread Cert.XqDwReferenceIdeal.nD Cert.XqDwReferenceIdeal.τ).loc Cert.XqDwReferenceIdeal.main_arg1))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqReferenceIdeal [hXqReferenceIdeal : Cert.XqReferenceIdeal.Facts] : Prop :=
  ∀ (m : (ℓ : Loc Cert.XqReferenceIdeal.nD Cert.XqReferenceIdeal.τ Cert.XqReferenceIdeal.sig) → Buf (Elt Ideal) ℓ) (g : Dev Cert.XqReferenceIdeal.nD → PrngReg), Pre_XqReferenceIdeal m →
    θ_run (Cert.XqReferenceIdeal.defs (F := Ideal)) (onTc (τ := Cert.XqReferenceIdeal.τ) (Cert.XqReferenceIdeal.main (F := Ideal))) ⟨m, fun _ => 0, g⟩ (fun r => (∀ c : Dev Cert.XqReferenceIdeal.nD,
      r.2.mem ((c.tc : Thread Cert.XqReferenceIdeal.nD Cert.XqReferenceIdeal.τ).loc Cert.XqReferenceIdeal.main_arg0) = m ((c.tc : Thread Cert.XqReferenceIdeal.nD Cert.XqReferenceIdeal.τ).loc Cert.XqReferenceIdeal.main_arg0)
      ∧ r.2.mem ((c.tc : Thread Cert.XqReferenceIdeal.nD Cert.XqReferenceIdeal.τ).loc Cert.XqReferenceIdeal.main_arg1) = m ((c.tc : Thread Cert.XqReferenceIdeal.nD Cert.XqReferenceIdeal.τ).loc Cert.XqReferenceIdeal.main_arg1))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1))
      ∧ r.2.sem = fun _ => 0)

def quiescent_ConvOutReferenceIdeal [hConvOutReferenceIdeal : Cert.ConvOutReferenceIdeal.Facts] : Prop :=
  ∀ (m : (ℓ : Loc Cert.ConvOutReferenceIdeal.nD Cert.ConvOutReferenceIdeal.τ Cert.ConvOutReferenceIdeal.sig) → Buf (Elt Ideal) ℓ) (g : Dev Cert.ConvOutReferenceIdeal.nD → PrngReg), Pre_ConvOutReferenceIdeal m →
    θ_run (Cert.ConvOutReferenceIdeal.defs (F := Ideal)) (onTc (τ := Cert.ConvOutReferenceIdeal.τ) (Cert.ConvOutReferenceIdeal.main (F := Ideal))) ⟨m, fun _ => 0, g⟩ (fun r => (∀ c : Dev Cert.ConvOutReferenceIdeal.nD,
      r.2.mem ((c.tc : Thread Cert.ConvOutReferenceIdeal.nD Cert.ConvOutReferenceIdeal.τ).loc Cert.ConvOutReferenceIdeal.main_arg0) = m ((c.tc : Thread Cert.ConvOutReferenceIdeal.nD Cert.ConvOutReferenceIdeal.τ).loc Cert.ConvOutReferenceIdeal.main_arg0)
      ∧ r.2.mem ((c.tc : Thread Cert.ConvOutReferenceIdeal.nD Cert.ConvOutReferenceIdeal.τ).loc Cert.ConvOutReferenceIdeal.main_arg1) = m ((c.tc : Thread Cert.ConvOutReferenceIdeal.nD Cert.ConvOutReferenceIdeal.τ).loc Cert.ConvOutReferenceIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4)
      ∧ r.2.mem ((c.tc : Thread Cert.GateBwd.nD Cert.GateBwd.τ).loc Cert.GateBwd.main_arg5) = m ((c.tc : Thread Cert.GateBwd.nD Cert.GateBwd.τ).loc Cert.GateBwd.main_arg5))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ r.2.sem = fun _ => 0)

def quiescent_GateBwdReferenceIdeal [hGateBwdReferenceIdeal : Cert.GateBwdReferenceIdeal.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2)
      ∧ r.2.mem ((c.tc : Thread Cert.GateBwdReferenceIdeal.nD Cert.GateBwdReferenceIdeal.τ).loc Cert.GateBwdReferenceIdeal.main_arg3) = m ((c.tc : Thread Cert.GateBwdReferenceIdeal.nD Cert.GateBwdReferenceIdeal.τ).loc Cert.GateBwdReferenceIdeal.main_arg3)
      ∧ r.2.mem ((c.tc : Thread Cert.GateBwdReferenceIdeal.nD Cert.GateBwdReferenceIdeal.τ).loc Cert.GateBwdReferenceIdeal.main_arg4) = m ((c.tc : Thread Cert.GateBwdReferenceIdeal.nD Cert.GateBwdReferenceIdeal.τ).loc Cert.GateBwdReferenceIdeal.main_arg4)
      ∧ r.2.mem ((c.tc : Thread Cert.GateBwdReferenceIdeal.nD Cert.GateBwdReferenceIdeal.τ).loc Cert.GateBwdReferenceIdeal.main_arg5) = m ((c.tc : Thread Cert.GateBwdReferenceIdeal.nD Cert.GateBwdReferenceIdeal.τ).loc Cert.GateBwdReferenceIdeal.main_arg5))
      ∧ r.2.sem = fun _ => 0)

def quiescent_XqDx [hXqDx : Cert.XqDx.Facts] : Prop :=
  ∀ (m : (ℓ : Loc Cert.XqDx.nD Cert.XqDx.τ Cert.XqDx.sig) → Buf (Elt Bits) ℓ) (g : Dev Cert.XqDx.nD → PrngReg), Pre_XqDx m →
    θ_run (Cert.XqDx.defs (F := Bits)) (onTc (τ := Cert.XqDx.τ) (Cert.XqDx.main (F := Bits))) ⟨m, fun _ => 0, g⟩ (fun r => (∀ c : Dev Cert.XqDx.nD,
      r.2.mem ((c.tc : Thread Cert.XqDx.nD Cert.XqDx.τ).loc Cert.XqDx.main_arg0) = m ((c.tc : Thread Cert.XqDx.nD Cert.XqDx.τ).loc Cert.XqDx.main_arg0)
      ∧ r.2.mem ((c.tc : Thread Cert.XqDx.nD Cert.XqDx.τ).loc Cert.XqDx.main_arg1) = m ((c.tc : Thread Cert.XqDx.nD Cert.XqDx.τ).loc Cert.XqDx.main_arg1)
      ∧ r.2.mem ((c.tc : Thread Cert.XqDx.nD Cert.XqDx.τ).loc Cert.XqDx.main_arg2) = m ((c.tc : Thread Cert.XqDx.nD Cert.XqDx.τ).loc Cert.XqDx.main_arg2)
      ∧ r.2.mem ((c.tc : Thread Cert.XqDx.nD Cert.XqDx.τ).loc Cert.XqDx.main_arg3) = m ((c.tc : Thread Cert.XqDx.nD Cert.XqDx.τ).loc Cert.XqDx.main_arg3)
      ∧ r.2.mem ((c.tc : Thread Cert.XqDx.nD Cert.XqDx.τ).loc Cert.XqDx.main_arg4) = m ((c.tc : Thread Cert.XqDx.nD Cert.XqDx.τ).loc Cert.XqDx.main_arg4))
      ∧ r.2.sem = fun _ => 0)

def quiescent_XqDxIdeal [hXqDxIdeal : Cert.XqDxIdeal.Facts] : Prop :=
  ∀ (m : (ℓ : Loc Cert.XqDxIdeal.nD Cert.XqDxIdeal.τ Cert.XqDxIdeal.sig) → Buf (Elt Ideal) ℓ) (g : Dev Cert.XqDxIdeal.nD → PrngReg), Pre_XqDxIdeal m →
    θ_run (Cert.XqDxIdeal.defs (F := Ideal)) (onTc (τ := Cert.XqDxIdeal.τ) (Cert.XqDxIdeal.main (F := Ideal))) ⟨m, fun _ => 0, g⟩ (fun r => (∀ c : Dev Cert.XqDxIdeal.nD,
      r.2.mem ((c.tc : Thread Cert.XqDxIdeal.nD Cert.XqDxIdeal.τ).loc Cert.XqDxIdeal.main_arg0) = m ((c.tc : Thread Cert.XqDxIdeal.nD Cert.XqDxIdeal.τ).loc Cert.XqDxIdeal.main_arg0)
      ∧ r.2.mem ((c.tc : Thread Cert.XqDxIdeal.nD Cert.XqDxIdeal.τ).loc Cert.XqDxIdeal.main_arg1) = m ((c.tc : Thread Cert.XqDxIdeal.nD Cert.XqDxIdeal.τ).loc Cert.XqDxIdeal.main_arg1)
      ∧ r.2.mem ((c.tc : Thread Cert.XqDxIdeal.nD Cert.XqDxIdeal.τ).loc Cert.XqDxIdeal.main_arg2) = m ((c.tc : Thread Cert.XqDxIdeal.nD Cert.XqDxIdeal.τ).loc Cert.XqDxIdeal.main_arg2)
      ∧ r.2.mem ((c.tc : Thread Cert.XqDxIdeal.nD Cert.XqDxIdeal.τ).loc Cert.XqDxIdeal.main_arg3) = m ((c.tc : Thread Cert.XqDxIdeal.nD Cert.XqDxIdeal.τ).loc Cert.XqDxIdeal.main_arg3)
      ∧ r.2.mem ((c.tc : Thread Cert.XqDxIdeal.nD Cert.XqDxIdeal.τ).loc Cert.XqDxIdeal.main_arg4) = m ((c.tc : Thread Cert.XqDxIdeal.nD Cert.XqDxIdeal.τ).loc Cert.XqDxIdeal.main_arg4))
      ∧ r.2.sem = fun _ => 0)

def quiescent_XqDxReferenceIdeal [hXqDxReferenceIdeal : Cert.XqDxReferenceIdeal.Facts] : Prop :=
  ∀ (m : (ℓ : Loc Cert.XqDxReferenceIdeal.nD Cert.XqDxReferenceIdeal.τ Cert.XqDxReferenceIdeal.sig) → Buf (Elt Ideal) ℓ) (g : Dev Cert.XqDxReferenceIdeal.nD → PrngReg), Pre_XqDxReferenceIdeal m →
    θ_run (Cert.XqDxReferenceIdeal.defs (F := Ideal)) (onTc (τ := Cert.XqDxReferenceIdeal.τ) (Cert.XqDxReferenceIdeal.main (F := Ideal))) ⟨m, fun _ => 0, g⟩ (fun r => (∀ c : Dev Cert.XqDxReferenceIdeal.nD,
      r.2.mem ((c.tc : Thread Cert.XqDxReferenceIdeal.nD Cert.XqDxReferenceIdeal.τ).loc Cert.XqDxReferenceIdeal.main_arg0) = m ((c.tc : Thread Cert.XqDxReferenceIdeal.nD Cert.XqDxReferenceIdeal.τ).loc Cert.XqDxReferenceIdeal.main_arg0)
      ∧ r.2.mem ((c.tc : Thread Cert.XqDxReferenceIdeal.nD Cert.XqDxReferenceIdeal.τ).loc Cert.XqDxReferenceIdeal.main_arg1) = m ((c.tc : Thread Cert.XqDxReferenceIdeal.nD Cert.XqDxReferenceIdeal.τ).loc Cert.XqDxReferenceIdeal.main_arg1)
      ∧ r.2.mem ((c.tc : Thread Cert.XqDxReferenceIdeal.nD Cert.XqDxReferenceIdeal.τ).loc Cert.XqDxReferenceIdeal.main_arg2) = m ((c.tc : Thread Cert.XqDxReferenceIdeal.nD Cert.XqDxReferenceIdeal.τ).loc Cert.XqDxReferenceIdeal.main_arg2)
      ∧ r.2.mem ((c.tc : Thread Cert.XqDxReferenceIdeal.nD Cert.XqDxReferenceIdeal.τ).loc Cert.XqDxReferenceIdeal.main_arg3) = m ((c.tc : Thread Cert.XqDxReferenceIdeal.nD Cert.XqDxReferenceIdeal.τ).loc Cert.XqDxReferenceIdeal.main_arg3)
      ∧ r.2.mem ((c.tc : Thread Cert.XqDxReferenceIdeal.nD Cert.XqDxReferenceIdeal.τ).loc Cert.XqDxReferenceIdeal.main_arg4) = m ((c.tc : Thread Cert.XqDxReferenceIdeal.nD Cert.XqDxReferenceIdeal.τ).loc Cert.XqDxReferenceIdeal.main_arg4))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1)
      ∧ r.2.mem ((c.tc : Thread Cert.Xo.nD Cert.Xo.τ).loc Cert.Xo.main_arg2) = m ((c.tc : Thread Cert.Xo.nD Cert.Xo.τ).loc Cert.Xo.main_arg2)
      ∧ r.2.mem ((c.tc : Thread Cert.Xo.nD Cert.Xo.τ).loc Cert.Xo.main_arg3) = m ((c.tc : Thread Cert.Xo.nD Cert.Xo.τ).loc Cert.Xo.main_arg3))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
      ∧ r.2.mem ((c.tc : Thread Cert.XoIdeal.nD Cert.XoIdeal.τ).loc Cert.XoIdeal.main_arg2) = m ((c.tc : Thread Cert.XoIdeal.nD Cert.XoIdeal.τ).loc Cert.XoIdeal.main_arg2)
      ∧ r.2.mem ((c.tc : Thread Cert.XoIdeal.nD Cert.XoIdeal.τ).loc Cert.XoIdeal.main_arg3) = m ((c.tc : Thread Cert.XoIdeal.nD Cert.XoIdeal.τ).loc Cert.XoIdeal.main_arg3))
      ∧ r.2.sem = fun _ => 0)

def quiescent_XoReferenceIdeal [hXoReferenceIdeal : Cert.XoReferenceIdeal.Facts] : Prop :=
  ∀ (m : (ℓ : Loc Cert.XoReferenceIdeal.nD Cert.XoReferenceIdeal.τ Cert.XoReferenceIdeal.sig) → Buf (Elt Ideal) ℓ) (g : Dev Cert.XoReferenceIdeal.nD → PrngReg), Pre_XoReferenceIdeal m →
    θ_run (Cert.XoReferenceIdeal.defs (F := Ideal)) (onTc (τ := Cert.XoReferenceIdeal.τ) (Cert.XoReferenceIdeal.main (F := Ideal))) ⟨m, fun _ => 0, g⟩ (fun r => (∀ c : Dev Cert.XoReferenceIdeal.nD,
      r.2.mem ((c.tc : Thread Cert.XoReferenceIdeal.nD Cert.XoReferenceIdeal.τ).loc Cert.XoReferenceIdeal.main_arg0) = m ((c.tc : Thread Cert.XoReferenceIdeal.nD Cert.XoReferenceIdeal.τ).loc Cert.XoReferenceIdeal.main_arg0)
      ∧ r.2.mem ((c.tc : Thread Cert.XoReferenceIdeal.nD Cert.XoReferenceIdeal.τ).loc Cert.XoReferenceIdeal.main_arg1) = m ((c.tc : Thread Cert.XoReferenceIdeal.nD Cert.XoReferenceIdeal.τ).loc Cert.XoReferenceIdeal.main_arg1)
      ∧ r.2.mem ((c.tc : Thread Cert.XoReferenceIdeal.nD Cert.XoReferenceIdeal.τ).loc Cert.XoReferenceIdeal.main_arg2) = m ((c.tc : Thread Cert.XoReferenceIdeal.nD Cert.XoReferenceIdeal.τ).loc Cert.XoReferenceIdeal.main_arg2)
      ∧ r.2.mem ((c.tc : Thread Cert.XoReferenceIdeal.nD Cert.XoReferenceIdeal.τ).loc Cert.XoReferenceIdeal.main_arg3) = m ((c.tc : Thread Cert.XoReferenceIdeal.nD Cert.XoReferenceIdeal.τ).loc Cert.XoReferenceIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1))
      ∧ r.2.sem = fun _ => 0)

def quiescent_ConvOutDx [hConvOutDx : Cert.ConvOutDx.Facts] : Prop :=
  ∀ (m : (ℓ : Loc Cert.ConvOutDx.nD Cert.ConvOutDx.τ Cert.ConvOutDx.sig) → Buf (Elt Bits) ℓ) (g : Dev Cert.ConvOutDx.nD → PrngReg), Pre_ConvOutDx m →
    θ_run (Cert.ConvOutDx.defs (F := Bits)) (onTc (τ := Cert.ConvOutDx.τ) (Cert.ConvOutDx.main (F := Bits))) ⟨m, fun _ => 0, g⟩ (fun r => (∀ c : Dev Cert.ConvOutDx.nD,
      r.2.mem ((c.tc : Thread Cert.ConvOutDx.nD Cert.ConvOutDx.τ).loc Cert.ConvOutDx.main_arg0) = m ((c.tc : Thread Cert.ConvOutDx.nD Cert.ConvOutDx.τ).loc Cert.ConvOutDx.main_arg0)
      ∧ r.2.mem ((c.tc : Thread Cert.ConvOutDx.nD Cert.ConvOutDx.τ).loc Cert.ConvOutDx.main_arg1) = m ((c.tc : Thread Cert.ConvOutDx.nD Cert.ConvOutDx.τ).loc Cert.ConvOutDx.main_arg1)
      ∧ r.2.mem ((c.tc : Thread Cert.ConvOutDx.nD Cert.ConvOutDx.τ).loc Cert.ConvOutDx.main_arg2) = m ((c.tc : Thread Cert.ConvOutDx.nD Cert.ConvOutDx.τ).loc Cert.ConvOutDx.main_arg2)
      ∧ r.2.mem ((c.tc : Thread Cert.ConvOutDx.nD Cert.ConvOutDx.τ).loc Cert.ConvOutDx.main_arg3) = m ((c.tc : Thread Cert.ConvOutDx.nD Cert.ConvOutDx.τ).loc Cert.ConvOutDx.main_arg3)
      ∧ r.2.mem ((c.tc : Thread Cert.ConvOutDx.nD Cert.ConvOutDx.τ).loc Cert.ConvOutDx.main_arg4) = m ((c.tc : Thread Cert.ConvOutDx.nD Cert.ConvOutDx.τ).loc Cert.ConvOutDx.main_arg4))
      ∧ r.2.sem = fun _ => 0)

def quiescent_ConvOutDxIdeal [hConvOutDxIdeal : Cert.ConvOutDxIdeal.Facts] : Prop :=
  ∀ (m : (ℓ : Loc Cert.ConvOutDxIdeal.nD Cert.ConvOutDxIdeal.τ Cert.ConvOutDxIdeal.sig) → Buf (Elt Ideal) ℓ) (g : Dev Cert.ConvOutDxIdeal.nD → PrngReg), Pre_ConvOutDxIdeal m →
    θ_run (Cert.ConvOutDxIdeal.defs (F := Ideal)) (onTc (τ := Cert.ConvOutDxIdeal.τ) (Cert.ConvOutDxIdeal.main (F := Ideal))) ⟨m, fun _ => 0, g⟩ (fun r => (∀ c : Dev Cert.ConvOutDxIdeal.nD,
      r.2.mem ((c.tc : Thread Cert.ConvOutDxIdeal.nD Cert.ConvOutDxIdeal.τ).loc Cert.ConvOutDxIdeal.main_arg0) = m ((c.tc : Thread Cert.ConvOutDxIdeal.nD Cert.ConvOutDxIdeal.τ).loc Cert.ConvOutDxIdeal.main_arg0)
      ∧ r.2.mem ((c.tc : Thread Cert.ConvOutDxIdeal.nD Cert.ConvOutDxIdeal.τ).loc Cert.ConvOutDxIdeal.main_arg1) = m ((c.tc : Thread Cert.ConvOutDxIdeal.nD Cert.ConvOutDxIdeal.τ).loc Cert.ConvOutDxIdeal.main_arg1)
      ∧ r.2.mem ((c.tc : Thread Cert.ConvOutDxIdeal.nD Cert.ConvOutDxIdeal.τ).loc Cert.ConvOutDxIdeal.main_arg2) = m ((c.tc : Thread Cert.ConvOutDxIdeal.nD Cert.ConvOutDxIdeal.τ).loc Cert.ConvOutDxIdeal.main_arg2)
      ∧ r.2.mem ((c.tc : Thread Cert.ConvOutDxIdeal.nD Cert.ConvOutDxIdeal.τ).loc Cert.ConvOutDxIdeal.main_arg3) = m ((c.tc : Thread Cert.ConvOutDxIdeal.nD Cert.ConvOutDxIdeal.τ).loc Cert.ConvOutDxIdeal.main_arg3)
      ∧ r.2.mem ((c.tc : Thread Cert.ConvOutDxIdeal.nD Cert.ConvOutDxIdeal.τ).loc Cert.ConvOutDxIdeal.main_arg4) = m ((c.tc : Thread Cert.ConvOutDxIdeal.nD Cert.ConvOutDxIdeal.τ).loc Cert.ConvOutDxIdeal.main_arg4))
      ∧ r.2.sem = fun _ => 0)

def quiescent_ConvOutDxIdeal_pre_conv_out_finite [hConvOutDxIdeal : Cert.ConvOutDxIdeal.Facts] [hPre_conv_out_finite : Cert.Pre_conv_out_finite.Facts] : Prop :=
  ∀ (m : (ℓ : Loc Cert.ConvOutDxIdeal.nD Cert.ConvOutDxIdeal.τ Cert.ConvOutDxIdeal.sig) → Buf (Elt Ideal) ℓ) (g : Dev Cert.ConvOutDxIdeal.nD → PrngReg), Pre_ConvOutDxIdeal_conv_out_finite m →
    θ_run (Cert.ConvOutDxIdeal.defs (F := Ideal)) (onTc (τ := Cert.ConvOutDxIdeal.τ) (Cert.ConvOutDxIdeal.main (F := Ideal))) ⟨m, fun _ => 0, g⟩ (fun r => (∀ c : Dev Cert.ConvOutDxIdeal.nD,
      r.2.mem ((c.tc : Thread Cert.ConvOutDxIdeal.nD Cert.ConvOutDxIdeal.τ).loc Cert.ConvOutDxIdeal.main_arg0) = m ((c.tc : Thread Cert.ConvOutDxIdeal.nD Cert.ConvOutDxIdeal.τ).loc Cert.ConvOutDxIdeal.main_arg0)
      ∧ r.2.mem ((c.tc : Thread Cert.ConvOutDxIdeal.nD Cert.ConvOutDxIdeal.τ).loc Cert.ConvOutDxIdeal.main_arg1) = m ((c.tc : Thread Cert.ConvOutDxIdeal.nD Cert.ConvOutDxIdeal.τ).loc Cert.ConvOutDxIdeal.main_arg1)
      ∧ r.2.mem ((c.tc : Thread Cert.ConvOutDxIdeal.nD Cert.ConvOutDxIdeal.τ).loc Cert.ConvOutDxIdeal.main_arg2) = m ((c.tc : Thread Cert.ConvOutDxIdeal.nD Cert.ConvOutDxIdeal.τ).loc Cert.ConvOutDxIdeal.main_arg2)
      ∧ r.2.mem ((c.tc : Thread Cert.ConvOutDxIdeal.nD Cert.ConvOutDxIdeal.τ).loc Cert.ConvOutDxIdeal.main_arg3) = m ((c.tc : Thread Cert.ConvOutDxIdeal.nD Cert.ConvOutDxIdeal.τ).loc Cert.ConvOutDxIdeal.main_arg3)
      ∧ r.2.mem ((c.tc : Thread Cert.ConvOutDxIdeal.nD Cert.ConvOutDxIdeal.τ).loc Cert.ConvOutDxIdeal.main_arg4) = m ((c.tc : Thread Cert.ConvOutDxIdeal.nD Cert.ConvOutDxIdeal.τ).loc Cert.ConvOutDxIdeal.main_arg4))
      ∧ r.2.sem = fun _ => 0)

def quiescent_ConvOutDxReferenceIdeal [hConvOutDxReferenceIdeal : Cert.ConvOutDxReferenceIdeal.Facts] : Prop :=
  ∀ (m : (ℓ : Loc Cert.ConvOutDxReferenceIdeal.nD Cert.ConvOutDxReferenceIdeal.τ Cert.ConvOutDxReferenceIdeal.sig) → Buf (Elt Ideal) ℓ) (g : Dev Cert.ConvOutDxReferenceIdeal.nD → PrngReg), Pre_ConvOutDxReferenceIdeal m →
    θ_run (Cert.ConvOutDxReferenceIdeal.defs (F := Ideal)) (onTc (τ := Cert.ConvOutDxReferenceIdeal.τ) (Cert.ConvOutDxReferenceIdeal.main (F := Ideal))) ⟨m, fun _ => 0, g⟩ (fun r => (∀ c : Dev Cert.ConvOutDxReferenceIdeal.nD,
      r.2.mem ((c.tc : Thread Cert.ConvOutDxReferenceIdeal.nD Cert.ConvOutDxReferenceIdeal.τ).loc Cert.ConvOutDxReferenceIdeal.main_arg0) = m ((c.tc : Thread Cert.ConvOutDxReferenceIdeal.nD Cert.ConvOutDxReferenceIdeal.τ).loc Cert.ConvOutDxReferenceIdeal.main_arg0)
      ∧ r.2.mem ((c.tc : Thread Cert.ConvOutDxReferenceIdeal.nD Cert.ConvOutDxReferenceIdeal.τ).loc Cert.ConvOutDxReferenceIdeal.main_arg1) = m ((c.tc : Thread Cert.ConvOutDxReferenceIdeal.nD Cert.ConvOutDxReferenceIdeal.τ).loc Cert.ConvOutDxReferenceIdeal.main_arg1)
      ∧ r.2.mem ((c.tc : Thread Cert.ConvOutDxReferenceIdeal.nD Cert.ConvOutDxReferenceIdeal.τ).loc Cert.ConvOutDxReferenceIdeal.main_arg2) = m ((c.tc : Thread Cert.ConvOutDxReferenceIdeal.nD Cert.ConvOutDxReferenceIdeal.τ).loc Cert.ConvOutDxReferenceIdeal.main_arg2)
      ∧ r.2.mem ((c.tc : Thread Cert.ConvOutDxReferenceIdeal.nD Cert.ConvOutDxReferenceIdeal.τ).loc Cert.ConvOutDxReferenceIdeal.main_arg3) = m ((c.tc : Thread Cert.ConvOutDxReferenceIdeal.nD Cert.ConvOutDxReferenceIdeal.τ).loc Cert.ConvOutDxReferenceIdeal.main_arg3)
      ∧ r.2.mem ((c.tc : Thread Cert.ConvOutDxReferenceIdeal.nD Cert.ConvOutDxReferenceIdeal.τ).loc Cert.ConvOutDxReferenceIdeal.main_arg4) = m ((c.tc : Thread Cert.ConvOutDxReferenceIdeal.nD Cert.ConvOutDxReferenceIdeal.τ).loc Cert.ConvOutDxReferenceIdeal.main_arg4))
      ∧ r.2.sem = fun _ => 0)

def quiescent_ConvOutDxReferenceIdeal_pre_conv_out_finite [hConvOutDxReferenceIdeal : Cert.ConvOutDxReferenceIdeal.Facts] [hPre_conv_out_finite : Cert.Pre_conv_out_finite.Facts] : Prop :=
  ∀ (m : (ℓ : Loc Cert.ConvOutDxReferenceIdeal.nD Cert.ConvOutDxReferenceIdeal.τ Cert.ConvOutDxReferenceIdeal.sig) → Buf (Elt Ideal) ℓ) (g : Dev Cert.ConvOutDxReferenceIdeal.nD → PrngReg), Pre_ConvOutDxReferenceIdeal_conv_out_finite m →
    θ_run (Cert.ConvOutDxReferenceIdeal.defs (F := Ideal)) (onTc (τ := Cert.ConvOutDxReferenceIdeal.τ) (Cert.ConvOutDxReferenceIdeal.main (F := Ideal))) ⟨m, fun _ => 0, g⟩ (fun r => (∀ c : Dev Cert.ConvOutDxReferenceIdeal.nD,
      r.2.mem ((c.tc : Thread Cert.ConvOutDxReferenceIdeal.nD Cert.ConvOutDxReferenceIdeal.τ).loc Cert.ConvOutDxReferenceIdeal.main_arg0) = m ((c.tc : Thread Cert.ConvOutDxReferenceIdeal.nD Cert.ConvOutDxReferenceIdeal.τ).loc Cert.ConvOutDxReferenceIdeal.main_arg0)
      ∧ r.2.mem ((c.tc : Thread Cert.ConvOutDxReferenceIdeal.nD Cert.ConvOutDxReferenceIdeal.τ).loc Cert.ConvOutDxReferenceIdeal.main_arg1) = m ((c.tc : Thread Cert.ConvOutDxReferenceIdeal.nD Cert.ConvOutDxReferenceIdeal.τ).loc Cert.ConvOutDxReferenceIdeal.main_arg1)
      ∧ r.2.mem ((c.tc : Thread Cert.ConvOutDxReferenceIdeal.nD Cert.ConvOutDxReferenceIdeal.τ).loc Cert.ConvOutDxReferenceIdeal.main_arg2) = m ((c.tc : Thread Cert.ConvOutDxReferenceIdeal.nD Cert.ConvOutDxReferenceIdeal.τ).loc Cert.ConvOutDxReferenceIdeal.main_arg2)
      ∧ r.2.mem ((c.tc : Thread Cert.ConvOutDxReferenceIdeal.nD Cert.ConvOutDxReferenceIdeal.τ).loc Cert.ConvOutDxReferenceIdeal.main_arg3) = m ((c.tc : Thread Cert.ConvOutDxReferenceIdeal.nD Cert.ConvOutDxReferenceIdeal.τ).loc Cert.ConvOutDxReferenceIdeal.main_arg3)
      ∧ r.2.mem ((c.tc : Thread Cert.ConvOutDxReferenceIdeal.nD Cert.ConvOutDxReferenceIdeal.τ).loc Cert.ConvOutDxReferenceIdeal.main_arg4) = m ((c.tc : Thread Cert.ConvOutDxReferenceIdeal.nD Cert.ConvOutDxReferenceIdeal.τ).loc Cert.ConvOutDxReferenceIdeal.main_arg4))
      ∧ r.2.sem = fun _ => 0)

def quiescent_DownLast [hDownLast : Cert.DownLast.Facts] : Prop :=
  ∀ (m : (ℓ : Loc Cert.DownLast.nD Cert.DownLast.τ Cert.DownLast.sig) → Buf (Elt Bits) ℓ) (g : Dev Cert.DownLast.nD → PrngReg), Pre_DownLast m →
    θ_run (Cert.DownLast.defs (F := Bits)) (onTc (τ := Cert.DownLast.τ) (Cert.DownLast.main (F := Bits))) ⟨m, fun _ => 0, g⟩ (fun r => (∀ c : Dev Cert.DownLast.nD,
      r.2.mem ((c.tc : Thread Cert.DownLast.nD Cert.DownLast.τ).loc Cert.DownLast.main_arg0) = m ((c.tc : Thread Cert.DownLast.nD Cert.DownLast.τ).loc Cert.DownLast.main_arg0)
      ∧ r.2.mem ((c.tc : Thread Cert.DownLast.nD Cert.DownLast.τ).loc Cert.DownLast.main_arg1) = m ((c.tc : Thread Cert.DownLast.nD Cert.DownLast.τ).loc Cert.DownLast.main_arg1)
      ∧ r.2.mem ((c.tc : Thread Cert.DownLast.nD Cert.DownLast.τ).loc Cert.DownLast.main_arg2) = m ((c.tc : Thread Cert.DownLast.nD Cert.DownLast.τ).loc Cert.DownLast.main_arg2))
      ∧ r.2.sem = fun _ => 0)

def quiescent_DownLastIdeal [hDownLastIdeal : Cert.DownLastIdeal.Facts] : Prop :=
  ∀ (m : (ℓ : Loc Cert.DownLastIdeal.nD Cert.DownLastIdeal.τ Cert.DownLastIdeal.sig) → Buf (Elt Ideal) ℓ) (g : Dev Cert.DownLastIdeal.nD → PrngReg), Pre_DownLastIdeal m →
    θ_run (Cert.DownLastIdeal.defs (F := Ideal)) (onTc (τ := Cert.DownLastIdeal.τ) (Cert.DownLastIdeal.main (F := Ideal))) ⟨m, fun _ => 0, g⟩ (fun r => (∀ c : Dev Cert.DownLastIdeal.nD,
      r.2.mem ((c.tc : Thread Cert.DownLastIdeal.nD Cert.DownLastIdeal.τ).loc Cert.DownLastIdeal.main_arg0) = m ((c.tc : Thread Cert.DownLastIdeal.nD Cert.DownLastIdeal.τ).loc Cert.DownLastIdeal.main_arg0)
      ∧ r.2.mem ((c.tc : Thread Cert.DownLastIdeal.nD Cert.DownLastIdeal.τ).loc Cert.DownLastIdeal.main_arg1) = m ((c.tc : Thread Cert.DownLastIdeal.nD Cert.DownLastIdeal.τ).loc Cert.DownLastIdeal.main_arg1)
      ∧ r.2.mem ((c.tc : Thread Cert.DownLastIdeal.nD Cert.DownLastIdeal.τ).loc Cert.DownLastIdeal.main_arg2) = m ((c.tc : Thread Cert.DownLastIdeal.nD Cert.DownLastIdeal.τ).loc Cert.DownLastIdeal.main_arg2))
      ∧ r.2.sem = fun _ => 0)

def quiescent_DownLastReferenceIdeal [hDownLastReferenceIdeal : Cert.DownLastReferenceIdeal.Facts] : Prop :=
  ∀ (m : (ℓ : Loc Cert.DownLastReferenceIdeal.nD Cert.DownLastReferenceIdeal.τ Cert.DownLastReferenceIdeal.sig) → Buf (Elt Ideal) ℓ) (g : Dev Cert.DownLastReferenceIdeal.nD → PrngReg), Pre_DownLastReferenceIdeal m →
    θ_run (Cert.DownLastReferenceIdeal.defs (F := Ideal)) (onTc (τ := Cert.DownLastReferenceIdeal.τ) (Cert.DownLastReferenceIdeal.main (F := Ideal))) ⟨m, fun _ => 0, g⟩ (fun r => (∀ c : Dev Cert.DownLastReferenceIdeal.nD,
      r.2.mem ((c.tc : Thread Cert.DownLastReferenceIdeal.nD Cert.DownLastReferenceIdeal.τ).loc Cert.DownLastReferenceIdeal.main_arg0) = m ((c.tc : Thread Cert.DownLastReferenceIdeal.nD Cert.DownLastReferenceIdeal.τ).loc Cert.DownLastReferenceIdeal.main_arg0)
      ∧ r.2.mem ((c.tc : Thread Cert.DownLastReferenceIdeal.nD Cert.DownLastReferenceIdeal.τ).loc Cert.DownLastReferenceIdeal.main_arg1) = m ((c.tc : Thread Cert.DownLastReferenceIdeal.nD Cert.DownLastReferenceIdeal.τ).loc Cert.DownLastReferenceIdeal.main_arg1)
      ∧ r.2.mem ((c.tc : Thread Cert.DownLastReferenceIdeal.nD Cert.DownLastReferenceIdeal.τ).loc Cert.DownLastReferenceIdeal.main_arg2) = m ((c.tc : Thread Cert.DownLastReferenceIdeal.nD Cert.DownLastReferenceIdeal.τ).loc Cert.DownLastReferenceIdeal.main_arg2))
      ∧ r.2.sem = fun _ => 0)

def preserves_Attn_AttnIdeal : Prop :=
  True

def algebraic_AttnIdeal_AttnReferenceIdeal_pre_attn_finite [hAttnIdeal : Cert.AttnIdeal.Facts] [hAttnReferenceIdeal : Cert.AttnReferenceIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_attn_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v70) = v0 c
          ∧ r.2.mem ((c.tc : Thread Cert.AttnReferenceIdeal.nD Cert.AttnReferenceIdeal.τ).loc Cert.AttnReferenceIdeal.main_v68) = v1 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)
      ∧ m' ((c.tc : Thread Cert.InDxReferenceIdeal.nD Cert.InDxReferenceIdeal.τ).loc Cert.InDxReferenceIdeal.main_arg2) = m ((c.tc : Thread Cert.InDxIdeal.nD Cert.InDxIdeal.τ).loc Cert.InDxIdeal.main_arg2)
      ∧ m' ((c.tc : Thread Cert.InDxReferenceIdeal.nD Cert.InDxReferenceIdeal.τ).loc Cert.InDxReferenceIdeal.main_arg3) = m ((c.tc : Thread Cert.InDxIdeal.nD Cert.InDxIdeal.τ).loc Cert.InDxIdeal.main_arg3)
      ∧ m' ((c.tc : Thread Cert.InDxReferenceIdeal.nD Cert.InDxReferenceIdeal.τ).loc Cert.InDxReferenceIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v4_0)) (v1 : (c : Dev Cert.InDxIdeal.nD) → Buf (Elt Ideal) ((c.tc : Thread Cert.InDxIdeal.nD Cert.InDxIdeal.τ).loc Cert.InDxIdeal.main_v4_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v4_0) = v0 c
          ∧ r.2.mem ((c.tc : Thread Cert.InDxIdeal.nD Cert.InDxIdeal.τ).loc Cert.InDxIdeal.main_v4_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v41) = v0 c
          ∧ r.2.mem ((c.tc : Thread Cert.InDxReferenceIdeal.nD Cert.InDxReferenceIdeal.τ).loc Cert.InDxReferenceIdeal.main_v42) = v1 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1)
          ∧ r.2.mem ((c.tc : Thread Cert.InDxReferenceIdeal.nD Cert.InDxReferenceIdeal.τ).loc Cert.InDxReferenceIdeal.main_arg2) = m' ((c.tc : Thread Cert.InDxReferenceIdeal.nD Cert.InDxReferenceIdeal.τ).loc Cert.InDxReferenceIdeal.main_arg2)
          ∧ r.2.mem ((c.tc : Thread Cert.InDxReferenceIdeal.nD Cert.InDxReferenceIdeal.τ).loc Cert.InDxReferenceIdeal.main_arg3) = m' ((c.tc : Thread Cert.InDxReferenceIdeal.nD Cert.InDxReferenceIdeal.τ).loc Cert.InDxReferenceIdeal.main_arg3)
          ∧ r.2.mem ((c.tc : Thread Cert.InDxReferenceIdeal.nD Cert.InDxReferenceIdeal.τ).loc Cert.InDxReferenceIdeal.main_arg4) = m' ((c.tc : Thread Cert.InDxReferenceIdeal.nD Cert.InDxReferenceIdeal.τ).loc Cert.InDxReferenceIdeal.main_arg4))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v8) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v3) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)
      ∧ m' ((c.tc : Thread Cert.UpDxReferenceIdeal.nD Cert.UpDxReferenceIdeal.τ).loc Cert.UpDxReferenceIdeal.main_arg2) = m ((c.tc : Thread Cert.UpDxIdeal.nD Cert.UpDxIdeal.τ).loc Cert.UpDxIdeal.main_arg2)
      ∧ m' ((c.tc : Thread Cert.UpDxReferenceIdeal.nD Cert.UpDxReferenceIdeal.τ).loc Cert.UpDxReferenceIdeal.main_arg3) = m ((c.tc : Thread Cert.UpDxIdeal.nD Cert.UpDxIdeal.τ).loc Cert.UpDxIdeal.main_arg3)
      ∧ m' ((c.tc : Thread Cert.UpDxReferenceIdeal.nD Cert.UpDxReferenceIdeal.τ).loc Cert.UpDxReferenceIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v4_0)) (v1 : (c : Dev Cert.UpDxIdeal.nD) → Buf (Elt Ideal) ((c.tc : Thread Cert.UpDxIdeal.nD Cert.UpDxIdeal.τ).loc Cert.UpDxIdeal.main_v4_1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v4_0) = v0 c
          ∧ r.2.mem ((c.tc : Thread Cert.UpDxIdeal.nD Cert.UpDxIdeal.τ).loc Cert.UpDxIdeal.main_v4_1) = v1 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v41) = v0 c
          ∧ r.2.mem ((c.tc : Thread Cert.UpDxReferenceIdeal.nD Cert.UpDxReferenceIdeal.τ).loc Cert.UpDxReferenceIdeal.main_v42) = v1 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2)
          ∧ r.2.mem ((c.tc : Thread Cert.UpDxReferenceIdeal.nD Cert.UpDxReferenceIdeal.τ).loc Cert.UpDxReferenceIdeal.main_arg3) = m' ((c.tc : Thread Cert.UpDxReferenceIdeal.nD Cert.UpDxReferenceIdeal.τ).loc Cert.UpDxReferenceIdeal.main_arg3)
          ∧ r.2.mem ((c.tc : Thread Cert.UpDxReferenceIdeal.nD Cert.UpDxReferenceIdeal.τ).loc Cert.UpDxReferenceIdeal.main_arg4) = m' ((c.tc : Thread Cert.UpDxReferenceIdeal.nD Cert.UpDxReferenceIdeal.τ).loc Cert.UpDxReferenceIdeal.main_arg4))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v8) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v3)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v3) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v4) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v5) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_Ret_RetIdeal : Prop :=
  True

def algebraic_RetIdeal_RetReferenceIdeal_pre_ret_finite [hRetIdeal : Cert.RetIdeal.Facts] [hRetReferenceIdeal : Cert.RetReferenceIdeal.Facts] [hPre_ret_finite : Cert.Pre_ret_finite.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetIdeal_ret_finite m →
    (∀ c : Dev Cert.RetIdeal.nD,
      m' ((c.tc : Thread Cert.RetReferenceIdeal.nD Cert.RetReferenceIdeal.τ).loc Cert.RetReferenceIdeal.main_arg0) = m ((c.tc : Thread Cert.RetIdeal.nD Cert.RetIdeal.τ).loc Cert.RetIdeal.main_arg0)
      ∧ m' ((c.tc : Thread Cert.RetReferenceIdeal.nD Cert.RetReferenceIdeal.τ).loc Cert.RetReferenceIdeal.main_arg1) = m ((c.tc : Thread Cert.RetIdeal.nD Cert.RetIdeal.τ).loc Cert.RetIdeal.main_arg1)
      ∧ m' ((c.tc : Thread Cert.RetReferenceIdeal.nD Cert.RetReferenceIdeal.τ).loc Cert.RetReferenceIdeal.main_arg2) = m ((c.tc : Thread Cert.RetIdeal.nD Cert.RetIdeal.τ).loc Cert.RetIdeal.main_arg2)
      ∧ m' ((c.tc : Thread Cert.RetReferenceIdeal.nD Cert.RetReferenceIdeal.τ).loc Cert.RetReferenceIdeal.main_arg3) = m ((c.tc : Thread Cert.RetIdeal.nD Cert.RetIdeal.τ).loc Cert.RetIdeal.main_arg3)) →
    ∃ (v0 : (c : Dev Cert.RetIdeal.nD) → Buf (Elt Ideal) ((c.tc : Thread Cert.RetIdeal.nD Cert.RetIdeal.τ).loc Cert.RetIdeal.main_v129_0)) (v1 : (c : Dev Cert.RetIdeal.nD) → Buf (Elt Ideal) ((c.tc : Thread Cert.RetIdeal.nD Cert.RetIdeal.τ).loc Cert.RetIdeal.main_v129_1)) (v2 : (c : Dev Cert.RetIdeal.nD) → Buf (Elt Ideal) ((c.tc : Thread Cert.RetIdeal.nD Cert.RetIdeal.τ).loc Cert.RetIdeal.main_v129_2)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v129_0) = v0 c
          ∧ r.2.mem ((c.tc : Thread Cert.RetIdeal.nD Cert.RetIdeal.τ).loc Cert.RetIdeal.main_v129_1) = v1 c
          ∧ r.2.mem ((c.tc : Thread Cert.RetIdeal.nD Cert.RetIdeal.τ).loc Cert.RetIdeal.main_v129_2) = v2 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v194) = v0 c
          ∧ r.2.mem ((c.tc : Thread Cert.RetReferenceIdeal.nD Cert.RetReferenceIdeal.τ).loc Cert.RetReferenceIdeal.main_v195) = v1 c
          ∧ r.2.mem ((c.tc : Thread Cert.RetReferenceIdeal.nD Cert.RetReferenceIdeal.τ).loc Cert.RetReferenceIdeal.main_v196) = v2 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0)
          ∧ r.2.mem ((c.tc : Thread Cert.RetReferenceIdeal.nD Cert.RetReferenceIdeal.τ).loc Cert.RetReferenceIdeal.main_arg1) = m' ((c.tc : Thread Cert.RetReferenceIdeal.nD Cert.RetReferenceIdeal.τ).loc Cert.RetReferenceIdeal.main_arg1)
          ∧ r.2.mem ((c.tc : Thread Cert.RetReferenceIdeal.nD Cert.RetReferenceIdeal.τ).loc Cert.RetReferenceIdeal.main_arg2) = m' ((c.tc : Thread Cert.RetReferenceIdeal.nD Cert.RetReferenceIdeal.τ).loc Cert.RetReferenceIdeal.main_arg2)
          ∧ r.2.mem ((c.tc : Thread Cert.RetReferenceIdeal.nD Cert.RetReferenceIdeal.τ).loc Cert.RetReferenceIdeal.main_arg3) = m' ((c.tc : Thread Cert.RetReferenceIdeal.nD Cert.RetReferenceIdeal.τ).loc Cert.RetReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_v18) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_RetOut_RetOutIdeal : Prop :=
  True

def algebraic_RetOutIdeal_RetOutReferenceIdeal [hRetOutIdeal : Cert.RetOutIdeal.Facts] [hRetOutReferenceIdeal : Cert.RetOutReferenceIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutReferenceIdeal.nD Cert.RetOutReferenceIdeal.τ Cert.RetOutReferenceIdeal.sig) → Buf (Elt Ideal) ℓ) (g' : Dev Cert.RetOutReferenceIdeal.nD → PrngReg), Pre_RetOutIdeal m →
    (∀ c : Dev Cert.RetOutIdeal.nD,
      m' ((c.tc : Thread Cert.RetOutReferenceIdeal.nD Cert.RetOutReferenceIdeal.τ).loc Cert.RetOutReferenceIdeal.main_arg0) = m ((c.tc : Thread Cert.RetOutIdeal.nD Cert.RetOutIdeal.τ).loc Cert.RetOutIdeal.main_arg0)
      ∧ m' ((c.tc : Thread Cert.RetOutReferenceIdeal.nD Cert.RetOutReferenceIdeal.τ).loc Cert.RetOutReferenceIdeal.main_arg1) = m ((c.tc : Thread Cert.RetOutIdeal.nD Cert.RetOutIdeal.τ).loc Cert.RetOutIdeal.main_arg1)) →
    ∃ (v0 : (c : Dev Cert.RetOutIdeal.nD) → Buf (Elt Ideal) ((c.tc : Thread Cert.RetOutIdeal.nD Cert.RetOutIdeal.τ).loc Cert.RetOutIdeal.main_v3)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v3) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1))
      ∧ θ_run (Cert.RetOutReferenceIdeal.defs (F := Ideal)) (onTc (τ := Cert.RetOutReferenceIdeal.τ) (Cert.RetOutReferenceIdeal.main (F := Ideal))) ⟨m', fun _ => 0, g'⟩ (fun r => ∀ c : Dev Cert.RetOutReferenceIdeal.nD,
          r.2.mem ((c.tc : Thread Cert.RetOutReferenceIdeal.nD Cert.RetOutReferenceIdeal.τ).loc Cert.RetOutReferenceIdeal.main_v3) = v0 c
          ∧ r.2.mem ((c.tc : Thread Cert.RetOutReferenceIdeal.nD Cert.RetOutReferenceIdeal.τ).loc Cert.RetOutReferenceIdeal.main_arg0) = m' ((c.tc : Thread Cert.RetOutReferenceIdeal.nD Cert.RetOutReferenceIdeal.τ).loc Cert.RetOutReferenceIdeal.main_arg0)
          ∧ r.2.mem ((c.tc : Thread Cert.RetOutReferenceIdeal.nD Cert.RetOutReferenceIdeal.τ).loc Cert.RetOutReferenceIdeal.main_arg1) = m' ((c.tc : Thread Cert.RetOutReferenceIdeal.nD Cert.RetOutReferenceIdeal.τ).loc Cert.RetOutReferenceIdeal.main_arg1))

def preserves_RetOutDx_RetOutDxIdeal : Prop :=
  True

def algebraic_RetOutDxIdeal_RetOutDxReferenceIdeal [hRetOutDxIdeal : Cert.RetOutDxIdeal.Facts] [hRetOutDxReferenceIdeal : Cert.RetOutDxReferenceIdeal.Facts] : Prop :=
  ∀ (m : (ℓ : Loc Cert.RetOutDxIdeal.nD Cert.RetOutDxIdeal.τ Cert.RetOutDxIdeal.sig) → Buf (Elt Ideal) ℓ) (g : Dev Cert.RetOutDxIdeal.nD → PrngReg)
    (m' : (ℓ : Loc Cert.RetOutDxReferenceIdeal.nD Cert.RetOutDxReferenceIdeal.τ Cert.RetOutDxReferenceIdeal.sig) → Buf (Elt Ideal) ℓ) (g' : Dev Cert.RetOutDxReferenceIdeal.nD → PrngReg), Pre_RetOutDxIdeal m →
    (∀ c : Dev Cert.RetOutDxIdeal.nD,
      m' ((c.tc : Thread Cert.RetOutDxReferenceIdeal.nD Cert.RetOutDxReferenceIdeal.τ).loc Cert.RetOutDxReferenceIdeal.main_arg0) = m ((c.tc : Thread Cert.RetOutDxIdeal.nD Cert.RetOutDxIdeal.τ).loc Cert.RetOutDxIdeal.main_arg0)
      ∧ m' ((c.tc : Thread Cert.RetOutDxReferenceIdeal.nD Cert.RetOutDxReferenceIdeal.τ).loc Cert.RetOutDxReferenceIdeal.main_arg1) = m ((c.tc : Thread Cert.RetOutDxIdeal.nD Cert.RetOutDxIdeal.τ).loc Cert.RetOutDxIdeal.main_arg1)) →
    ∃ (v0 : (c : Dev Cert.RetOutDxIdeal.nD) → Buf (Elt Ideal) ((c.tc : Thread Cert.RetOutDxIdeal.nD Cert.RetOutDxIdeal.τ).loc Cert.RetOutDxIdeal.main_v3)),
      θ_run (Cert.RetOutDxIdeal.defs (F := Ideal)) (onTc (τ := Cert.RetOutDxIdeal.τ) (Cert.RetOutDxIdeal.main (F := Ideal))) ⟨m, fun _ => 0, g⟩ (fun r => ∀ c : Dev Cert.RetOutDxIdeal.nD,
          r.2.mem ((c.tc : Thread Cert.RetOutDxIdeal.nD Cert.RetOutDxIdeal.τ).loc Cert.RetOutDxIdeal.main_v3) = v0 c
          ∧ r.2.mem ((c.tc : Thread Cert.RetOutDxIdeal.nD Cert.RetOutDxIdeal.τ).loc Cert.RetOutDxIdeal.main_arg0) = m ((c.tc : Thread Cert.RetOutDxIdeal.nD Cert.RetOutDxIdeal.τ).loc Cert.RetOutDxIdeal.main_arg0)
          ∧ r.2.mem ((c.tc : Thread Cert.RetOutDxIdeal.nD Cert.RetOutDxIdeal.τ).loc Cert.RetOutDxIdeal.main_arg1) = m ((c.tc : Thread Cert.RetOutDxIdeal.nD Cert.RetOutDxIdeal.τ).loc Cert.RetOutDxIdeal.main_arg1))
      ∧ θ_run (Cert.RetOutDxReferenceIdeal.defs (F := Ideal)) (onTc (τ := Cert.RetOutDxReferenceIdeal.τ) (Cert.RetOutDxReferenceIdeal.main (F := Ideal))) ⟨m', fun _ => 0, g'⟩ (fun r => ∀ c : Dev Cert.RetOutDxReferenceIdeal.nD,
          r.2.mem ((c.tc : Thread Cert.RetOutDxReferenceIdeal.nD Cert.RetOutDxReferenceIdeal.τ).loc Cert.RetOutDxReferenceIdeal.main_v5) = v0 c
          ∧ r.2.mem ((c.tc : Thread Cert.RetOutDxReferenceIdeal.nD Cert.RetOutDxReferenceIdeal.τ).loc Cert.RetOutDxReferenceIdeal.main_arg0) = m' ((c.tc : Thread Cert.RetOutDxReferenceIdeal.nD Cert.RetOutDxReferenceIdeal.τ).loc Cert.RetOutDxReferenceIdeal.main_arg0)
          ∧ r.2.mem ((c.tc : Thread Cert.RetOutDxReferenceIdeal.nD Cert.RetOutDxReferenceIdeal.τ).loc Cert.RetOutDxReferenceIdeal.main_arg1) = m' ((c.tc : Thread Cert.RetOutDxReferenceIdeal.nD Cert.RetOutDxReferenceIdeal.τ).loc Cert.RetOutDxReferenceIdeal.main_arg1))

def preserves_RetOutDw_RetOutDwIdeal : Prop :=
  True

def algebraic_RetOutDwIdeal_RetOutDwReferenceIdeal [hRetOutDwIdeal : Cert.RetOutDwIdeal.Facts] [hRetOutDwReferenceIdeal : Cert.RetOutDwReferenceIdeal.Facts] : Prop :=
  ∀ (m : (ℓ : Loc Cert.RetOutDwIdeal.nD Cert.RetOutDwIdeal.τ Cert.RetOutDwIdeal.sig) → Buf (Elt Ideal) ℓ) (g : Dev Cert.RetOutDwIdeal.nD → PrngReg)
    (m' : (ℓ : Loc Cert.RetOutDwReferenceIdeal.nD Cert.RetOutDwReferenceIdeal.τ Cert.RetOutDwReferenceIdeal.sig) → Buf (Elt Ideal) ℓ) (g' : Dev Cert.RetOutDwReferenceIdeal.nD → PrngReg), Pre_RetOutDwIdeal m →
    (∀ c : Dev Cert.RetOutDwIdeal.nD,
      m' ((c.tc : Thread Cert.RetOutDwReferenceIdeal.nD Cert.RetOutDwReferenceIdeal.τ).loc Cert.RetOutDwReferenceIdeal.main_arg0) = m ((c.tc : Thread Cert.RetOutDwIdeal.nD Cert.RetOutDwIdeal.τ).loc Cert.RetOutDwIdeal.main_arg0)
      ∧ m' ((c.tc : Thread Cert.RetOutDwReferenceIdeal.nD Cert.RetOutDwReferenceIdeal.τ).loc Cert.RetOutDwReferenceIdeal.main_arg1) = m ((c.tc : Thread Cert.RetOutDwIdeal.nD Cert.RetOutDwIdeal.τ).loc Cert.RetOutDwIdeal.main_arg1)) →
    ∃ (v0 : (c : Dev Cert.RetOutDwIdeal.nD) → Buf (Elt Ideal) ((c.tc : Thread Cert.RetOutDwIdeal.nD Cert.RetOutDwIdeal.τ).loc Cert.RetOutDwIdeal.main_v0)),
      θ_run (Cert.RetOutDwIdeal.defs (F := Ideal)) (onTc (τ := Cert.RetOutDwIdeal.τ) (Cert.RetOutDwIdeal.main (F := Ideal))) ⟨m, fun _ => 0, g⟩ (fun r => ∀ c : Dev Cert.RetOutDwIdeal.nD,
          r.2.mem ((c.tc : Thread Cert.RetOutDwIdeal.nD Cert.RetOutDwIdeal.τ).loc Cert.RetOutDwIdeal.main_v0) = v0 c
          ∧ r.2.mem ((c.tc : Thread Cert.RetOutDwIdeal.nD Cert.RetOutDwIdeal.τ).loc Cert.RetOutDwIdeal.main_arg0) = m ((c.tc : Thread Cert.RetOutDwIdeal.nD Cert.RetOutDwIdeal.τ).loc Cert.RetOutDwIdeal.main_arg0)
          ∧ r.2.mem ((c.tc : Thread Cert.RetOutDwIdeal.nD Cert.RetOutDwIdeal.τ).loc Cert.RetOutDwIdeal.main_arg1) = m ((c.tc : Thread Cert.RetOutDwIdeal.nD Cert.RetOutDwIdeal.τ).loc Cert.RetOutDwIdeal.main_arg1))
      ∧ θ_run (Cert.RetOutDwReferenceIdeal.defs (F := Ideal)) (onTc (τ := Cert.RetOutDwReferenceIdeal.τ) (Cert.RetOutDwReferenceIdeal.main (F := Ideal))) ⟨m', fun _ => 0, g'⟩ (fun r => ∀ c : Dev Cert.RetOutDwReferenceIdeal.nD,
          r.2.mem ((c.tc : Thread Cert.RetOutDwReferenceIdeal.nD Cert.RetOutDwReferenceIdeal.τ).loc Cert.RetOutDwReferenceIdeal.main_v6) = v0 c
          ∧ r.2.mem ((c.tc : Thread Cert.RetOutDwReferenceIdeal.nD Cert.RetOutDwReferenceIdeal.τ).loc Cert.RetOutDwReferenceIdeal.main_arg0) = m' ((c.tc : Thread Cert.RetOutDwReferenceIdeal.nD Cert.RetOutDwReferenceIdeal.τ).loc Cert.RetOutDwReferenceIdeal.main_arg0)
          ∧ r.2.mem ((c.tc : Thread Cert.RetOutDwReferenceIdeal.nD Cert.RetOutDwReferenceIdeal.τ).loc Cert.RetOutDwReferenceIdeal.main_arg1) = m' ((c.tc : Thread Cert.RetOutDwReferenceIdeal.nD Cert.RetOutDwReferenceIdeal.τ).loc Cert.RetOutDwReferenceIdeal.main_arg1))

def preserves_XoDx_XoDxIdeal : Prop :=
  True

def algebraic_XoDxIdeal_XoDxReferenceIdeal [hXoDxIdeal : Cert.XoDxIdeal.Facts] [hXoDxReferenceIdeal : Cert.XoDxReferenceIdeal.Facts] : Prop :=
  ∀ (m : (ℓ : Loc Cert.XoDxIdeal.nD Cert.XoDxIdeal.τ Cert.XoDxIdeal.sig) → Buf (Elt Ideal) ℓ) (g : Dev Cert.XoDxIdeal.nD → PrngReg)
    (m' : (ℓ : Loc Cert.XoDxReferenceIdeal.nD Cert.XoDxReferenceIdeal.τ Cert.XoDxReferenceIdeal.sig) → Buf (Elt Ideal) ℓ) (g' : Dev Cert.XoDxReferenceIdeal.nD → PrngReg), Pre_XoDxIdeal m →
    (∀ c : Dev Cert.XoDxIdeal.nD,
      m' ((c.tc : Thread Cert.XoDxReferenceIdeal.nD Cert.XoDxReferenceIdeal.τ).loc Cert.XoDxReferenceIdeal.main_arg0) = m ((c.tc : Thread Cert.XoDxIdeal.nD Cert.XoDxIdeal.τ).loc Cert.XoDxIdeal.main_arg0)
      ∧ m' ((c.tc : Thread Cert.XoDxReferenceIdeal.nD Cert.XoDxReferenceIdeal.τ).loc Cert.XoDxReferenceIdeal.main_arg1) = m ((c.tc : Thread Cert.XoDxIdeal.nD Cert.XoDxIdeal.τ).loc Cert.XoDxIdeal.main_arg1)) →
    ∃ (v0 : (c : Dev Cert.XoDxIdeal.nD) → Buf (Elt Ideal) ((c.tc : Thread Cert.XoDxIdeal.nD Cert.XoDxIdeal.τ).loc Cert.XoDxIdeal.main_v3)),
      θ_run (Cert.XoDxIdeal.defs (F := Ideal)) (onTc (τ := Cert.XoDxIdeal.τ) (Cert.XoDxIdeal.main (F := Ideal))) ⟨m, fun _ => 0, g⟩ (fun r => ∀ c : Dev Cert.XoDxIdeal.nD,
          r.2.mem ((c.tc : Thread Cert.XoDxIdeal.nD Cert.XoDxIdeal.τ).loc Cert.XoDxIdeal.main_v3) = v0 c
          ∧ r.2.mem ((c.tc : Thread Cert.XoDxIdeal.nD Cert.XoDxIdeal.τ).loc Cert.XoDxIdeal.main_arg0) = m ((c.tc : Thread Cert.XoDxIdeal.nD Cert.XoDxIdeal.τ).loc Cert.XoDxIdeal.main_arg0)
          ∧ r.2.mem ((c.tc : Thread Cert.XoDxIdeal.nD Cert.XoDxIdeal.τ).loc Cert.XoDxIdeal.main_arg1) = m ((c.tc : Thread Cert.XoDxIdeal.nD Cert.XoDxIdeal.τ).loc Cert.XoDxIdeal.main_arg1))
      ∧ θ_run (Cert.XoDxReferenceIdeal.defs (F := Ideal)) (onTc (τ := Cert.XoDxReferenceIdeal.τ) (Cert.XoDxReferenceIdeal.main (F := Ideal))) ⟨m', fun _ => 0, g'⟩ (fun r => ∀ c : Dev Cert.XoDxReferenceIdeal.nD,
          r.2.mem ((c.tc : Thread Cert.XoDxReferenceIdeal.nD Cert.XoDxReferenceIdeal.τ).loc Cert.XoDxReferenceIdeal.main_v4) = v0 c
          ∧ r.2.mem ((c.tc : Thread Cert.XoDxReferenceIdeal.nD Cert.XoDxReferenceIdeal.τ).loc Cert.XoDxReferenceIdeal.main_arg0) = m' ((c.tc : Thread Cert.XoDxReferenceIdeal.nD Cert.XoDxReferenceIdeal.τ).loc Cert.XoDxReferenceIdeal.main_arg0)
          ∧ r.2.mem ((c.tc : Thread Cert.XoDxReferenceIdeal.nD Cert.XoDxReferenceIdeal.τ).loc Cert.XoDxReferenceIdeal.main_arg1) = m' ((c.tc : Thread Cert.XoDxReferenceIdeal.nD Cert.XoDxReferenceIdeal.τ).loc Cert.XoDxReferenceIdeal.main_arg1))

def preserves_XoDw_XoDwIdeal : Prop :=
  True

def algebraic_XoDwIdeal_XoDwReferenceIdeal [hXoDwIdeal : Cert.XoDwIdeal.Facts] [hXoDwReferenceIdeal : Cert.XoDwReferenceIdeal.Facts] : Prop :=
  ∀ (m : (ℓ : Loc Cert.XoDwIdeal.nD Cert.XoDwIdeal.τ Cert.XoDwIdeal.sig) → Buf (Elt Ideal) ℓ) (g : Dev Cert.XoDwIdeal.nD → PrngReg)
    (m' : (ℓ : Loc Cert.XoDwReferenceIdeal.nD Cert.XoDwReferenceIdeal.τ Cert.XoDwReferenceIdeal.sig) → Buf (Elt Ideal) ℓ) (g' : Dev Cert.XoDwReferenceIdeal.nD → PrngReg), Pre_XoDwIdeal m →
    (∀ c : Dev Cert.XoDwIdeal.nD,
      m' ((c.tc : Thread Cert.XoDwReferenceIdeal.nD Cert.XoDwReferenceIdeal.τ).loc Cert.XoDwReferenceIdeal.main_arg0) = m ((c.tc : Thread Cert.XoDwIdeal.nD Cert.XoDwIdeal.τ).loc Cert.XoDwIdeal.main_arg0)
      ∧ m' ((c.tc : Thread Cert.XoDwReferenceIdeal.nD Cert.XoDwReferenceIdeal.τ).loc Cert.XoDwReferenceIdeal.main_arg1) = m ((c.tc : Thread Cert.XoDwIdeal.nD Cert.XoDwIdeal.τ).loc Cert.XoDwIdeal.main_arg1)) →
    ∃ (v0 : (c : Dev Cert.XoDwIdeal.nD) → Buf (Elt Ideal) ((c.tc : Thread Cert.XoDwIdeal.nD Cert.XoDwIdeal.τ).loc Cert.XoDwIdeal.main_v0)),
      θ_run (Cert.XoDwIdeal.defs (F := Ideal)) (onTc (τ := Cert.XoDwIdeal.τ) (Cert.XoDwIdeal.main (F := Ideal))) ⟨m, fun _ => 0, g⟩ (fun r => ∀ c : Dev Cert.XoDwIdeal.nD,
          r.2.mem ((c.tc : Thread Cert.XoDwIdeal.nD Cert.XoDwIdeal.τ).loc Cert.XoDwIdeal.main_v0) = v0 c
          ∧ r.2.mem ((c.tc : Thread Cert.XoDwIdeal.nD Cert.XoDwIdeal.τ).loc Cert.XoDwIdeal.main_arg0) = m ((c.tc : Thread Cert.XoDwIdeal.nD Cert.XoDwIdeal.τ).loc Cert.XoDwIdeal.main_arg0)
          ∧ r.2.mem ((c.tc : Thread Cert.XoDwIdeal.nD Cert.XoDwIdeal.τ).loc Cert.XoDwIdeal.main_arg1) = m ((c.tc : Thread Cert.XoDwIdeal.nD Cert.XoDwIdeal.τ).loc Cert.XoDwIdeal.main_arg1))
      ∧ θ_run (Cert.XoDwReferenceIdeal.defs (F := Ideal)) (onTc (τ := Cert.XoDwReferenceIdeal.τ) (Cert.XoDwReferenceIdeal.main (F := Ideal))) ⟨m', fun _ => 0, g'⟩ (fun r => ∀ c : Dev Cert.XoDwReferenceIdeal.nD,
          r.2.mem ((c.tc : Thread Cert.XoDwReferenceIdeal.nD Cert.XoDwReferenceIdeal.τ).loc Cert.XoDwReferenceIdeal.main_v5) = v0 c
          ∧ r.2.mem ((c.tc : Thread Cert.XoDwReferenceIdeal.nD Cert.XoDwReferenceIdeal.τ).loc Cert.XoDwReferenceIdeal.main_arg0) = m' ((c.tc : Thread Cert.XoDwReferenceIdeal.nD Cert.XoDwReferenceIdeal.τ).loc Cert.XoDwReferenceIdeal.main_arg0)
          ∧ r.2.mem ((c.tc : Thread Cert.XoDwReferenceIdeal.nD Cert.XoDwReferenceIdeal.τ).loc Cert.XoDwReferenceIdeal.main_arg1) = m' ((c.tc : Thread Cert.XoDwReferenceIdeal.nD Cert.XoDwReferenceIdeal.τ).loc Cert.XoDwReferenceIdeal.main_arg1))

def preserves_XqDw_XqDwIdeal : Prop :=
  True

def algebraic_XqDwIdeal_XqDwReferenceIdeal [hXqDwIdeal : Cert.XqDwIdeal.Facts] [hXqDwReferenceIdeal : Cert.XqDwReferenceIdeal.Facts] : Prop :=
  ∀ (m : (ℓ : Loc Cert.XqDwIdeal.nD Cert.XqDwIdeal.τ Cert.XqDwIdeal.sig) → Buf (Elt Ideal) ℓ) (g : Dev Cert.XqDwIdeal.nD → PrngReg)
    (m' : (ℓ : Loc Cert.XqDwReferenceIdeal.nD Cert.XqDwReferenceIdeal.τ Cert.XqDwReferenceIdeal.sig) → Buf (Elt Ideal) ℓ) (g' : Dev Cert.XqDwReferenceIdeal.nD → PrngReg), Pre_XqDwIdeal m →
    (∀ c : Dev Cert.XqDwIdeal.nD,
      m' ((c.tc : Thread Cert.XqDwReferenceIdeal.nD Cert.XqDwReferenceIdeal.τ).loc Cert.XqDwReferenceIdeal.main_arg0) = m ((c.tc : Thread Cert.XqDwIdeal.nD Cert.XqDwIdeal.τ).loc Cert.XqDwIdeal.main_arg0)
      ∧ m' ((c.tc : Thread Cert.XqDwReferenceIdeal.nD Cert.XqDwReferenceIdeal.τ).loc Cert.XqDwReferenceIdeal.main_arg1) = m ((c.tc : Thread Cert.XqDwIdeal.nD Cert.XqDwIdeal.τ).loc Cert.XqDwIdeal.main_arg1)) →
    ∃ (v0 : (c : Dev Cert.XqDwIdeal.nD) → Buf (Elt Ideal) ((c.tc : Thread Cert.XqDwIdeal.nD Cert.XqDwIdeal.τ).loc Cert.XqDwIdeal.main_v0)),
      θ_run (Cert.XqDwIdeal.defs (F := Ideal)) (onTc (τ := Cert.XqDwIdeal.τ) (Cert.XqDwIdeal.main (F := Ideal))) ⟨m, fun _ => 0, g⟩ (fun r => ∀ c : Dev Cert.XqDwIdeal.nD,
          r.2.mem ((c.tc : Thread Cert.XqDwIdeal.nD Cert.XqDwIdeal.τ).loc Cert.XqDwIdeal.main_v0) = v0 c
          ∧ r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
          ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ θ_run (Cert.XqDwReferenceIdeal.defs (F := Ideal)) (onTc (τ := Cert.XqDwReferenceIdeal.τ) (Cert.XqDwReferenceIdeal.main (F := Ideal))) ⟨m', fun _ => 0, g'⟩ (fun r => ∀ c : Dev Cert.XqDwReferenceIdeal.nD,
          r.2.mem ((c.tc : Thread Cert.XqDwReferenceIdeal.nD Cert.XqDwReferenceIdeal.τ).loc Cert.XqDwReferenceIdeal.main_v6) = v0 c
          ∧ r.2.mem ((c.tc : Thread Cert.XqDwReferenceIdeal.nD Cert.XqDwReferenceIdeal.τ).loc Cert.XqDwReferenceIdeal.main_arg0) = m' ((c.tc : Thread Cert.XqDwReferenceIdeal.nD Cert.XqDwReferenceIdeal.τ).loc Cert.XqDwReferenceIdeal.main_arg0)
          ∧ r.2.mem ((c.tc : Thread Cert.XqDwReferenceIdeal.nD Cert.XqDwReferenceIdeal.τ).loc Cert.XqDwReferenceIdeal.main_arg1) = m' ((c.tc : Thread Cert.XqDwReferenceIdeal.nD Cert.XqDwReferenceIdeal.τ).loc Cert.XqDwReferenceIdeal.main_arg1))

def preserves_Xq_XqIdeal : Prop :=
  True

def algebraic_XqIdeal_XqReferenceIdeal [hXqIdeal : Cert.XqIdeal.Facts] [hXqReferenceIdeal : Cert.XqReferenceIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqReferenceIdeal.nD Cert.XqReferenceIdeal.τ Cert.XqReferenceIdeal.sig) → Buf (Elt Ideal) ℓ) (g' : Dev Cert.XqReferenceIdeal.nD → PrngReg), Pre_XqIdeal m →
    (∀ c : Dev Cert.XqIdeal.nD,
      m' ((c.tc : Thread Cert.XqReferenceIdeal.nD Cert.XqReferenceIdeal.τ).loc Cert.XqReferenceIdeal.main_arg0) = m ((c.tc : Thread Cert.XqIdeal.nD Cert.XqIdeal.τ).loc Cert.XqIdeal.main_arg0)
      ∧ m' ((c.tc : Thread Cert.XqReferenceIdeal.nD Cert.XqReferenceIdeal.τ).loc Cert.XqReferenceIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v3)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v3) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqReferenceIdeal.defs (F := Ideal)) (onTc (τ := Cert.XqReferenceIdeal.τ) (Cert.XqReferenceIdeal.main (F := Ideal))) ⟨m', fun _ => 0, g'⟩ (fun r => ∀ c : Dev Cert.XqReferenceIdeal.nD,
          r.2.mem ((c.tc : Thread Cert.XqReferenceIdeal.nD Cert.XqReferenceIdeal.τ).loc Cert.XqReferenceIdeal.main_v4) = v0 c
          ∧ r.2.mem ((c.tc : Thread Cert.XqReferenceIdeal.nD Cert.XqReferenceIdeal.τ).loc Cert.XqReferenceIdeal.main_arg0) = m' ((c.tc : Thread Cert.XqReferenceIdeal.nD Cert.XqReferenceIdeal.τ).loc Cert.XqReferenceIdeal.main_arg0)
          ∧ r.2.mem ((c.tc : Thread Cert.XqReferenceIdeal.nD Cert.XqReferenceIdeal.τ).loc Cert.XqReferenceIdeal.main_arg1) = m' ((c.tc : Thread Cert.XqReferenceIdeal.nD Cert.XqReferenceIdeal.τ).loc Cert.XqReferenceIdeal.main_arg1))

def preserves_ConvOut_ConvOutIdeal : Prop :=
  True

def algebraic_ConvOutIdeal_ConvOutReferenceIdeal [hConvOutIdeal : Cert.ConvOutIdeal.Facts] [hConvOutReferenceIdeal : Cert.ConvOutReferenceIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutReferenceIdeal.nD Cert.ConvOutReferenceIdeal.τ Cert.ConvOutReferenceIdeal.sig) → Buf (Elt Ideal) ℓ) (g' : Dev Cert.ConvOutReferenceIdeal.nD → PrngReg), Pre_ConvOutIdeal m →
    (∀ c : Dev Cert.ConvOutIdeal.nD,
      m' ((c.tc : Thread Cert.ConvOutReferenceIdeal.nD Cert.ConvOutReferenceIdeal.τ).loc Cert.ConvOutReferenceIdeal.main_arg0) = m ((c.tc : Thread Cert.ConvOutIdeal.nD Cert.ConvOutIdeal.τ).loc Cert.ConvOutIdeal.main_arg0)
      ∧ m' ((c.tc : Thread Cert.ConvOutReferenceIdeal.nD Cert.ConvOutReferenceIdeal.τ).loc Cert.ConvOutReferenceIdeal.main_arg1) = m ((c.tc : Thread Cert.ConvOutIdeal.nD Cert.ConvOutIdeal.τ).loc Cert.ConvOutIdeal.main_arg1)) →
    ∃ (v0 : (c : Dev Cert.ConvOutIdeal.nD) → Buf (Elt Ideal) ((c.tc : Thread Cert.ConvOutIdeal.nD Cert.ConvOutIdeal.τ).loc Cert.ConvOutIdeal.main_v3)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v3) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1))
      ∧ θ_run (Cert.ConvOutReferenceIdeal.defs (F := Ideal)) (onTc (τ := Cert.ConvOutReferenceIdeal.τ) (Cert.ConvOutReferenceIdeal.main (F := Ideal))) ⟨m', fun _ => 0, g'⟩ (fun r => ∀ c : Dev Cert.ConvOutReferenceIdeal.nD,
          r.2.mem ((c.tc : Thread Cert.ConvOutReferenceIdeal.nD Cert.ConvOutReferenceIdeal.τ).loc Cert.ConvOutReferenceIdeal.main_v3) = v0 c
          ∧ r.2.mem ((c.tc : Thread Cert.ConvOutReferenceIdeal.nD Cert.ConvOutReferenceIdeal.τ).loc Cert.ConvOutReferenceIdeal.main_arg0) = m' ((c.tc : Thread Cert.ConvOutReferenceIdeal.nD Cert.ConvOutReferenceIdeal.τ).loc Cert.ConvOutReferenceIdeal.main_arg0)
          ∧ r.2.mem ((c.tc : Thread Cert.ConvOutReferenceIdeal.nD Cert.ConvOutReferenceIdeal.τ).loc Cert.ConvOutReferenceIdeal.main_arg1) = m' ((c.tc : Thread Cert.ConvOutReferenceIdeal.nD Cert.ConvOutReferenceIdeal.τ).loc Cert.ConvOutReferenceIdeal.main_arg1))

def preserves_GateBwd_GateBwdIdeal : Prop :=
  True

def algebraic_GateBwdIdeal_GateBwdReferenceIdeal [hGateBwdIdeal : Cert.GateBwdIdeal.Facts] [hGateBwdReferenceIdeal : Cert.GateBwdReferenceIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdReferenceIdeal.nD Cert.GateBwdReferenceIdeal.τ Cert.GateBwdReferenceIdeal.sig) → Buf (Elt Ideal) ℓ) (g' : Dev Cert.GateBwdReferenceIdeal.nD → PrngReg), Pre_GateBwdIdeal m →
    (∀ c : Dev Cert.GateBwdIdeal.nD,
      m' ((c.tc : Thread Cert.GateBwdReferenceIdeal.nD Cert.GateBwdReferenceIdeal.τ).loc Cert.GateBwdReferenceIdeal.main_arg0) = m ((c.tc : Thread Cert.GateBwdIdeal.nD Cert.GateBwdIdeal.τ).loc Cert.GateBwdIdeal.main_arg0)
      ∧ m' ((c.tc : Thread Cert.GateBwdReferenceIdeal.nD Cert.GateBwdReferenceIdeal.τ).loc Cert.GateBwdReferenceIdeal.main_arg1) = m ((c.tc : Thread Cert.GateBwdIdeal.nD Cert.GateBwdIdeal.τ).loc Cert.GateBwdIdeal.main_arg1)
      ∧ m' ((c.tc : Thread Cert.GateBwdReferenceIdeal.nD Cert.GateBwdReferenceIdeal.τ).loc Cert.GateBwdReferenceIdeal.main_arg2) = m ((c.tc : Thread Cert.GateBwdIdeal.nD Cert.GateBwdIdeal.τ).loc Cert.GateBwdIdeal.main_arg2)
      ∧ m' ((c.tc : Thread Cert.GateBwdReferenceIdeal.nD Cert.GateBwdReferenceIdeal.τ).loc Cert.GateBwdReferenceIdeal.main_arg3) = m ((c.tc : Thread Cert.GateBwdIdeal.nD Cert.GateBwdIdeal.τ).loc Cert.GateBwdIdeal.main_arg3)
      ∧ m' ((c.tc : Thread Cert.GateBwdReferenceIdeal.nD Cert.GateBwdReferenceIdeal.τ).loc Cert.GateBwdReferenceIdeal.main_arg4) = m ((c.tc : Thread Cert.GateBwdIdeal.nD Cert.GateBwdIdeal.τ).loc Cert.GateBwdIdeal.main_arg4)
      ∧ m' ((c.tc : Thread Cert.GateBwdReferenceIdeal.nD Cert.GateBwdReferenceIdeal.τ).loc Cert.GateBwdReferenceIdeal.main_arg5) = m ((c.tc : Thread Cert.GateBwdIdeal.nD Cert.GateBwdIdeal.τ).loc Cert.GateBwdIdeal.main_arg5)) →
    ∃ (v0 : (c : Dev Cert.GateBwdIdeal.nD) → Buf (Elt Ideal) ((c.tc : Thread Cert.GateBwdIdeal.nD Cert.GateBwdIdeal.τ).loc Cert.GateBwdIdeal.main_v2_0)) (v1 : (c : Dev Cert.GateBwdIdeal.nD) → Buf (Elt Ideal) ((c.tc : Thread Cert.GateBwdIdeal.nD Cert.GateBwdIdeal.τ).loc Cert.GateBwdIdeal.main_v2_1)) (v2 : (c : Dev Cert.GateBwdIdeal.nD) → Buf (Elt Ideal) ((c.tc : Thread Cert.GateBwdIdeal.nD Cert.GateBwdIdeal.τ).loc Cert.GateBwdIdeal.main_v2_2)) (v3 : (c : Dev Cert.GateBwdIdeal.nD) → Buf (Elt Ideal) ((c.tc : Thread Cert.GateBwdIdeal.nD Cert.GateBwdIdeal.τ).loc Cert.GateBwdIdeal.main_v2_3)) (v4 : (c : Dev Cert.GateBwdIdeal.nD) → Buf (Elt Ideal) ((c.tc : Thread Cert.GateBwdIdeal.nD Cert.GateBwdIdeal.τ).loc Cert.GateBwdIdeal.main_v2_4)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v2_0) = v0 c
          ∧ r.2.mem ((c.tc : Thread Cert.GateBwdIdeal.nD Cert.GateBwdIdeal.τ).loc Cert.GateBwdIdeal.main_v2_1) = v1 c
          ∧ r.2.mem ((c.tc : Thread Cert.GateBwdIdeal.nD Cert.GateBwdIdeal.τ).loc Cert.GateBwdIdeal.main_v2_2) = v2 c
          ∧ r.2.mem ((c.tc : Thread Cert.GateBwdIdeal.nD Cert.GateBwdIdeal.τ).loc Cert.GateBwdIdeal.main_v2_3) = v3 c
          ∧ r.2.mem ((c.tc : Thread Cert.GateBwdIdeal.nD Cert.GateBwdIdeal.τ).loc Cert.GateBwdIdeal.main_v2_4) = v4 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
          ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ θ_run (Cert.GateBwdReferenceIdeal.defs (F := Ideal)) (onTc (τ := Cert.GateBwdReferenceIdeal.τ) (Cert.GateBwdReferenceIdeal.main (F := Ideal))) ⟨m', fun _ => 0, g'⟩ (fun r => ∀ c : Dev Cert.GateBwdReferenceIdeal.nD,
          r.2.mem ((c.tc : Thread Cert.GateBwdReferenceIdeal.nD Cert.GateBwdReferenceIdeal.τ).loc Cert.GateBwdReferenceIdeal.main_v35) = v0 c
          ∧ r.2.mem ((c.tc : Thread Cert.GateBwdReferenceIdeal.nD Cert.GateBwdReferenceIdeal.τ).loc Cert.GateBwdReferenceIdeal.main_v36) = v1 c
          ∧ r.2.mem ((c.tc : Thread Cert.GateBwdReferenceIdeal.nD Cert.GateBwdReferenceIdeal.τ).loc Cert.GateBwdReferenceIdeal.main_v37) = v2 c
          ∧ r.2.mem ((c.tc : Thread Cert.GateBwdReferenceIdeal.nD Cert.GateBwdReferenceIdeal.τ).loc Cert.GateBwdReferenceIdeal.main_v38) = v3 c
          ∧ r.2.mem ((c.tc : Thread Cert.GateBwdReferenceIdeal.nD Cert.GateBwdReferenceIdeal.τ).loc Cert.GateBwdReferenceIdeal.main_v39) = v4 c
          ∧ r.2.mem ((c.tc : Thread Cert.GateBwdReferenceIdeal.nD Cert.GateBwdReferenceIdeal.τ).loc Cert.GateBwdReferenceIdeal.main_arg0) = m' ((c.tc : Thread Cert.GateBwdReferenceIdeal.nD Cert.GateBwdReferenceIdeal.τ).loc Cert.GateBwdReferenceIdeal.main_arg0)
          ∧ r.2.mem ((c.tc : Thread Cert.GateBwdReferenceIdeal.nD Cert.GateBwdReferenceIdeal.τ).loc Cert.GateBwdReferenceIdeal.main_arg1) = m' ((c.tc : Thread Cert.GateBwdReferenceIdeal.nD Cert.GateBwdReferenceIdeal.τ).loc Cert.GateBwdReferenceIdeal.main_arg1)
          ∧ r.2.mem ((c.tc : Thread Cert.GateBwdReferenceIdeal.nD Cert.GateBwdReferenceIdeal.τ).loc Cert.GateBwdReferenceIdeal.main_arg2) = m' ((c.tc : Thread Cert.GateBwdReferenceIdeal.nD Cert.GateBwdReferenceIdeal.τ).loc Cert.GateBwdReferenceIdeal.main_arg2)
          ∧ r.2.mem ((c.tc : Thread Cert.GateBwdReferenceIdeal.nD Cert.GateBwdReferenceIdeal.τ).loc Cert.GateBwdReferenceIdeal.main_arg3) = m' ((c.tc : Thread Cert.GateBwdReferenceIdeal.nD Cert.GateBwdReferenceIdeal.τ).loc Cert.GateBwdReferenceIdeal.main_arg3)
          ∧ r.2.mem ((c.tc : Thread Cert.GateBwdReferenceIdeal.nD Cert.GateBwdReferenceIdeal.τ).loc Cert.GateBwdReferenceIdeal.main_arg4) = m' ((c.tc : Thread Cert.GateBwdReferenceIdeal.nD Cert.GateBwdReferenceIdeal.τ).loc Cert.GateBwdReferenceIdeal.main_arg4)
          ∧ r.2.mem ((c.tc : Thread Cert.GateBwdReferenceIdeal.nD Cert.GateBwdReferenceIdeal.τ).loc Cert.GateBwdReferenceIdeal.main_arg5) = m' ((c.tc : Thread Cert.GateBwdReferenceIdeal.nD Cert.GateBwdReferenceIdeal.τ).loc Cert.GateBwdReferenceIdeal.main_arg5))

def preserves_XqDx_XqDxIdeal : Prop :=
  True

def algebraic_XqDxIdeal_XqDxReferenceIdeal [hXqDxIdeal : Cert.XqDxIdeal.Facts] [hXqDxReferenceIdeal : Cert.XqDxReferenceIdeal.Facts] : Prop :=
  ∀ (m : (ℓ : Loc Cert.XqDxIdeal.nD Cert.XqDxIdeal.τ Cert.XqDxIdeal.sig) → Buf (Elt Ideal) ℓ) (g : Dev Cert.XqDxIdeal.nD → PrngReg)
    (m' : (ℓ : Loc Cert.XqDxReferenceIdeal.nD Cert.XqDxReferenceIdeal.τ Cert.XqDxReferenceIdeal.sig) → Buf (Elt Ideal) ℓ) (g' : Dev Cert.XqDxReferenceIdeal.nD → PrngReg), Pre_XqDxIdeal m →
    (∀ c : Dev Cert.XqDxIdeal.nD,
      m' ((c.tc : Thread Cert.XqDxReferenceIdeal.nD Cert.XqDxReferenceIdeal.τ).loc Cert.XqDxReferenceIdeal.main_arg0) = m ((c.tc : Thread Cert.XqDxIdeal.nD Cert.XqDxIdeal.τ).loc Cert.XqDxIdeal.main_arg0)
      ∧ m' ((c.tc : Thread Cert.XqDxReferenceIdeal.nD Cert.XqDxReferenceIdeal.τ).loc Cert.XqDxReferenceIdeal.main_arg1) = m ((c.tc : Thread Cert.XqDxIdeal.nD Cert.XqDxIdeal.τ).loc Cert.XqDxIdeal.main_arg1)
      ∧ m' ((c.tc : Thread Cert.XqDxReferenceIdeal.nD Cert.XqDxReferenceIdeal.τ).loc Cert.XqDxReferenceIdeal.main_arg2) = m ((c.tc : Thread Cert.XqDxIdeal.nD Cert.XqDxIdeal.τ).loc Cert.XqDxIdeal.main_arg2)
      ∧ m' ((c.tc : Thread Cert.XqDxReferenceIdeal.nD Cert.XqDxReferenceIdeal.τ).loc Cert.XqDxReferenceIdeal.main_arg3) = m ((c.tc : Thread Cert.XqDxIdeal.nD Cert.XqDxIdeal.τ).loc Cert.XqDxIdeal.main_arg3)
      ∧ m' ((c.tc : Thread Cert.XqDxReferenceIdeal.nD Cert.XqDxReferenceIdeal.τ).loc Cert.XqDxReferenceIdeal.main_arg4) = m ((c.tc : Thread Cert.XqDxIdeal.nD Cert.XqDxIdeal.τ).loc Cert.XqDxIdeal.main_arg4)) →
    ∃ (v0 : (c : Dev Cert.XqDxIdeal.nD) → Buf (Elt Ideal) ((c.tc : Thread Cert.XqDxIdeal.nD Cert.XqDxIdeal.τ).loc Cert.XqDxIdeal.main_v4_0)) (v1 : (c : Dev Cert.XqDxIdeal.nD) → Buf (Elt Ideal) ((c.tc : Thread Cert.XqDxIdeal.nD Cert.XqDxIdeal.τ).loc Cert.XqDxIdeal.main_v4_1)),
      θ_run (Cert.XqDxIdeal.defs (F := Ideal)) (onTc (τ := Cert.XqDxIdeal.τ) (Cert.XqDxIdeal.main (F := Ideal))) ⟨m, fun _ => 0, g⟩ (fun r => ∀ c : Dev Cert.XqDxIdeal.nD,
          r.2.mem ((c.tc : Thread Cert.XqDxIdeal.nD Cert.XqDxIdeal.τ).loc Cert.XqDxIdeal.main_v4_0) = v0 c
          ∧ r.2.mem ((c.tc : Thread Cert.XqDxIdeal.nD Cert.XqDxIdeal.τ).loc Cert.XqDxIdeal.main_v4_1) = v1 c
          ∧ r.2.mem ((c.tc : Thread Cert.XqDxIdeal.nD Cert.XqDxIdeal.τ).loc Cert.XqDxIdeal.main_arg0) = m ((c.tc : Thread Cert.XqDxIdeal.nD Cert.XqDxIdeal.τ).loc Cert.XqDxIdeal.main_arg0)
          ∧ r.2.mem ((c.tc : Thread Cert.XqDxIdeal.nD Cert.XqDxIdeal.τ).loc Cert.XqDxIdeal.main_arg1) = m ((c.tc : Thread Cert.XqDxIdeal.nD Cert.XqDxIdeal.τ).loc Cert.XqDxIdeal.main_arg1)
          ∧ r.2.mem ((c.tc : Thread Cert.XqDxIdeal.nD Cert.XqDxIdeal.τ).loc Cert.XqDxIdeal.main_arg2) = m ((c.tc : Thread Cert.XqDxIdeal.nD Cert.XqDxIdeal.τ).loc Cert.XqDxIdeal.main_arg2)
          ∧ r.2.mem ((c.tc : Thread Cert.XqDxIdeal.nD Cert.XqDxIdeal.τ).loc Cert.XqDxIdeal.main_arg3) = m ((c.tc : Thread Cert.XqDxIdeal.nD Cert.XqDxIdeal.τ).loc Cert.XqDxIdeal.main_arg3)
          ∧ r.2.mem ((c.tc : Thread Cert.XqDxIdeal.nD Cert.XqDxIdeal.τ).loc Cert.XqDxIdeal.main_arg4) = m ((c.tc : Thread Cert.XqDxIdeal.nD Cert.XqDxIdeal.τ).loc Cert.XqDxIdeal.main_arg4))
      ∧ θ_run (Cert.XqDxReferenceIdeal.defs (F := Ideal)) (onTc (τ := Cert.XqDxReferenceIdeal.τ) (Cert.XqDxReferenceIdeal.main (F := Ideal))) ⟨m', fun _ => 0, g'⟩ (fun r => ∀ c : Dev Cert.XqDxReferenceIdeal.nD,
          r.2.mem ((c.tc : Thread Cert.XqDxReferenceIdeal.nD Cert.XqDxReferenceIdeal.τ).loc Cert.XqDxReferenceIdeal.main_v41) = v0 c
          ∧ r.2.mem ((c.tc : Thread Cert.XqDxReferenceIdeal.nD Cert.XqDxReferenceIdeal.τ).loc Cert.XqDxReferenceIdeal.main_v42) = v1 c
          ∧ r.2.mem ((c.tc : Thread Cert.XqDxReferenceIdeal.nD Cert.XqDxReferenceIdeal.τ).loc Cert.XqDxReferenceIdeal.main_arg0) = m' ((c.tc : Thread Cert.XqDxReferenceIdeal.nD Cert.XqDxReferenceIdeal.τ).loc Cert.XqDxReferenceIdeal.main_arg0)
          ∧ r.2.mem ((c.tc : Thread Cert.XqDxReferenceIdeal.nD Cert.XqDxReferenceIdeal.τ).loc Cert.XqDxReferenceIdeal.main_arg1) = m' ((c.tc : Thread Cert.XqDxReferenceIdeal.nD Cert.XqDxReferenceIdeal.τ).loc Cert.XqDxReferenceIdeal.main_arg1)
          ∧ r.2.mem ((c.tc : Thread Cert.XqDxReferenceIdeal.nD Cert.XqDxReferenceIdeal.τ).loc Cert.XqDxReferenceIdeal.main_arg2) = m' ((c.tc : Thread Cert.XqDxReferenceIdeal.nD Cert.XqDxReferenceIdeal.τ).loc Cert.XqDxReferenceIdeal.main_arg2)
          ∧ r.2.mem ((c.tc : Thread Cert.XqDxReferenceIdeal.nD Cert.XqDxReferenceIdeal.τ).loc Cert.XqDxReferenceIdeal.main_arg3) = m' ((c.tc : Thread Cert.XqDxReferenceIdeal.nD Cert.XqDxReferenceIdeal.τ).loc Cert.XqDxReferenceIdeal.main_arg3)
          ∧ r.2.mem ((c.tc : Thread Cert.XqDxReferenceIdeal.nD Cert.XqDxReferenceIdeal.τ).loc Cert.XqDxReferenceIdeal.main_arg4) = m' ((c.tc : Thread Cert.XqDxReferenceIdeal.nD Cert.XqDxReferenceIdeal.τ).loc Cert.XqDxReferenceIdeal.main_arg4))

def preserves_Xo_XoIdeal : Prop :=
  True

def algebraic_XoIdeal_XoReferenceIdeal [hXoIdeal : Cert.XoIdeal.Facts] [hXoReferenceIdeal : Cert.XoReferenceIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoReferenceIdeal.nD Cert.XoReferenceIdeal.τ Cert.XoReferenceIdeal.sig) → Buf (Elt Ideal) ℓ) (g' : Dev Cert.XoReferenceIdeal.nD → PrngReg), Pre_XoIdeal m →
    (∀ c : Dev Cert.XoIdeal.nD,
      m' ((c.tc : Thread Cert.XoReferenceIdeal.nD Cert.XoReferenceIdeal.τ).loc Cert.XoReferenceIdeal.main_arg0) = m ((c.tc : Thread Cert.XoIdeal.nD Cert.XoIdeal.τ).loc Cert.XoIdeal.main_arg0)
      ∧ m' ((c.tc : Thread Cert.XoReferenceIdeal.nD Cert.XoReferenceIdeal.τ).loc Cert.XoReferenceIdeal.main_arg1) = m ((c.tc : Thread Cert.XoIdeal.nD Cert.XoIdeal.τ).loc Cert.XoIdeal.main_arg1)
      ∧ m' ((c.tc : Thread Cert.XoReferenceIdeal.nD Cert.XoReferenceIdeal.τ).loc Cert.XoReferenceIdeal.main_arg2) = m ((c.tc : Thread Cert.XoIdeal.nD Cert.XoIdeal.τ).loc Cert.XoIdeal.main_arg2)
      ∧ m' ((c.tc : Thread Cert.XoReferenceIdeal.nD Cert.XoReferenceIdeal.τ).loc Cert.XoReferenceIdeal.main_arg3) = m ((c.tc : Thread Cert.XoIdeal.nD Cert.XoIdeal.τ).loc Cert.XoIdeal.main_arg3)) →
    ∃ (v0 : (c : Dev Cert.XoIdeal.nD) → Buf (Elt Ideal) ((c.tc : Thread Cert.XoIdeal.nD Cert.XoIdeal.τ).loc Cert.XoIdeal.main_v4_0)) (v1 : (c : Dev Cert.XoIdeal.nD) → Buf (Elt Ideal) ((c.tc : Thread Cert.XoIdeal.nD Cert.XoIdeal.τ).loc Cert.XoIdeal.main_v4_1)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v4_0) = v0 c
          ∧ r.2.mem ((c.tc : Thread Cert.XoIdeal.nD Cert.XoIdeal.τ).loc Cert.XoIdeal.main_v4_1) = v1 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
          ∧ r.2.mem ((c.tc : Thread Cert.XoIdeal.nD Cert.XoIdeal.τ).loc Cert.XoIdeal.main_arg2) = m ((c.tc : Thread Cert.XoIdeal.nD Cert.XoIdeal.τ).loc Cert.XoIdeal.main_arg2)
          ∧ r.2.mem ((c.tc : Thread Cert.XoIdeal.nD Cert.XoIdeal.τ).loc Cert.XoIdeal.main_arg3) = m ((c.tc : Thread Cert.XoIdeal.nD Cert.XoIdeal.τ).loc Cert.XoIdeal.main_arg3))
      ∧ θ_run (Cert.XoReferenceIdeal.defs (F := Ideal)) (onTc (τ := Cert.XoReferenceIdeal.τ) (Cert.XoReferenceIdeal.main (F := Ideal))) ⟨m', fun _ => 0, g'⟩ (fun r => ∀ c : Dev Cert.XoReferenceIdeal.nD,
          r.2.mem ((c.tc : Thread Cert.XoReferenceIdeal.nD Cert.XoReferenceIdeal.τ).loc Cert.XoReferenceIdeal.main_v4) = v0 c
          ∧ r.2.mem ((c.tc : Thread Cert.XoReferenceIdeal.nD Cert.XoReferenceIdeal.τ).loc Cert.XoReferenceIdeal.main_v18) = v1 c
          ∧ r.2.mem ((c.tc : Thread Cert.XoReferenceIdeal.nD Cert.XoReferenceIdeal.τ).loc Cert.XoReferenceIdeal.main_arg0) = m' ((c.tc : Thread Cert.XoReferenceIdeal.nD Cert.XoReferenceIdeal.τ).loc Cert.XoReferenceIdeal.main_arg0)
          ∧ r.2.mem ((c.tc : Thread Cert.XoReferenceIdeal.nD Cert.XoReferenceIdeal.τ).loc Cert.XoReferenceIdeal.main_arg1) = m' ((c.tc : Thread Cert.XoReferenceIdeal.nD Cert.XoReferenceIdeal.τ).loc Cert.XoReferenceIdeal.main_arg1)
          ∧ r.2.mem ((c.tc : Thread Cert.XoReferenceIdeal.nD Cert.XoReferenceIdeal.τ).loc Cert.XoReferenceIdeal.main_arg2) = m' ((c.tc : Thread Cert.XoReferenceIdeal.nD Cert.XoReferenceIdeal.τ).loc Cert.XoReferenceIdeal.main_arg2)
          ∧ r.2.mem ((c.tc : Thread Cert.XoReferenceIdeal.nD Cert.XoReferenceIdeal.τ).loc Cert.XoReferenceIdeal.main_arg3) = m' ((c.tc : Thread Cert.XoReferenceIdeal.nD Cert.XoReferenceIdeal.τ).loc Cert.XoReferenceIdeal.main_arg3))

def preserves_AttnFwd_AttnFwdIdeal : Prop :=
  True

def algebraic_AttnFwdIdeal_AttnFwdReferenceIdeal [hAttnFwdIdeal : Cert.AttnFwdIdeal.Facts] [hAttnFwdReferenceIdeal : Cert.AttnFwdReferenceIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v24) = v0 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1))

def preserves_ConvOutDx_ConvOutDxIdeal : Prop :=
  True

def algebraic_ConvOutDxIdeal_ConvOutDxReferenceIdeal_pre_conv_out_finite [hConvOutDxIdeal : Cert.ConvOutDxIdeal.Facts] [hConvOutDxReferenceIdeal : Cert.ConvOutDxReferenceIdeal.Facts] [hPre_conv_out_finite : Cert.Pre_conv_out_finite.Facts] : Prop :=
  ∀ (m : (ℓ : Loc Cert.ConvOutDxIdeal.nD Cert.ConvOutDxIdeal.τ Cert.ConvOutDxIdeal.sig) → Buf (Elt Ideal) ℓ) (g : Dev Cert.ConvOutDxIdeal.nD → PrngReg)
    (m' : (ℓ : Loc Cert.ConvOutDxReferenceIdeal.nD Cert.ConvOutDxReferenceIdeal.τ Cert.ConvOutDxReferenceIdeal.sig) → Buf (Elt Ideal) ℓ) (g' : Dev Cert.ConvOutDxReferenceIdeal.nD → PrngReg), Pre_ConvOutDxIdeal_conv_out_finite m →
    (∀ c : Dev Cert.ConvOutDxIdeal.nD,
      m' ((c.tc : Thread Cert.ConvOutDxReferenceIdeal.nD Cert.ConvOutDxReferenceIdeal.τ).loc Cert.ConvOutDxReferenceIdeal.main_arg0) = m ((c.tc : Thread Cert.ConvOutDxIdeal.nD Cert.ConvOutDxIdeal.τ).loc Cert.ConvOutDxIdeal.main_arg0)
      ∧ m' ((c.tc : Thread Cert.ConvOutDxReferenceIdeal.nD Cert.ConvOutDxReferenceIdeal.τ).loc Cert.ConvOutDxReferenceIdeal.main_arg1) = m ((c.tc : Thread Cert.ConvOutDxIdeal.nD Cert.ConvOutDxIdeal.τ).loc Cert.ConvOutDxIdeal.main_arg1)
      ∧ m' ((c.tc : Thread Cert.ConvOutDxReferenceIdeal.nD Cert.ConvOutDxReferenceIdeal.τ).loc Cert.ConvOutDxReferenceIdeal.main_arg2) = m ((c.tc : Thread Cert.ConvOutDxIdeal.nD Cert.ConvOutDxIdeal.τ).loc Cert.ConvOutDxIdeal.main_arg2)
      ∧ m' ((c.tc : Thread Cert.ConvOutDxReferenceIdeal.nD Cert.ConvOutDxReferenceIdeal.τ).loc Cert.ConvOutDxReferenceIdeal.main_arg3) = m ((c.tc : Thread Cert.ConvOutDxIdeal.nD Cert.ConvOutDxIdeal.τ).loc Cert.ConvOutDxIdeal.main_arg3)
      ∧ m' ((c.tc : Thread Cert.ConvOutDxReferenceIdeal.nD Cert.ConvOutDxReferenceIdeal.τ).loc Cert.ConvOutDxReferenceIdeal.main_arg4) = m ((c.tc : Thread Cert.ConvOutDxIdeal.nD Cert.ConvOutDxIdeal.τ).loc Cert.ConvOutDxIdeal.main_arg4)) →
    ∃ (v0 : (c : Dev Cert.ConvOutDxIdeal.nD) → Buf (Elt Ideal) ((c.tc : Thread Cert.ConvOutDxIdeal.nD Cert.ConvOutDxIdeal.τ).loc Cert.ConvOutDxIdeal.main_v5_0)) (v1 : (c : Dev Cert.ConvOutDxIdeal.nD) → Buf (Elt Ideal) ((c.tc : Thread Cert.ConvOutDxIdeal.nD Cert.ConvOutDxIdeal.τ).loc Cert.ConvOutDxIdeal.main_v5_1)) (v2 : (c : Dev Cert.ConvOutDxIdeal.nD) → Buf (Elt Ideal) ((c.tc : Thread Cert.ConvOutDxIdeal.nD Cert.ConvOutDxIdeal.τ).loc Cert.ConvOutDxIdeal.main_v5_2)),
      θ_run (Cert.ConvOutDxIdeal.defs (F := Ideal)) (onTc (τ := Cert.ConvOutDxIdeal.τ) (Cert.ConvOutDxIdeal.main (F := Ideal))) ⟨m, fun _ => 0, g⟩ (fun r => ∀ c : Dev Cert.ConvOutDxIdeal.nD,
          r.2.mem ((c.tc : Thread Cert.ConvOutDxIdeal.nD Cert.ConvOutDxIdeal.τ).loc Cert.ConvOutDxIdeal.main_v5_0) = v0 c
          ∧ r.2.mem ((c.tc : Thread Cert.ConvOutDxIdeal.nD Cert.ConvOutDxIdeal.τ).loc Cert.ConvOutDxIdeal.main_v5_1) = v1 c
          ∧ r.2.mem ((c.tc : Thread Cert.ConvOutDxIdeal.nD Cert.ConvOutDxIdeal.τ).loc Cert.ConvOutDxIdeal.main_v5_2) = v2 c
          ∧ r.2.mem ((c.tc : Thread Cert.ConvOutDxIdeal.nD Cert.ConvOutDxIdeal.τ).loc Cert.ConvOutDxIdeal.main_arg0) = m ((c.tc : Thread Cert.ConvOutDxIdeal.nD Cert.ConvOutDxIdeal.τ).loc Cert.ConvOutDxIdeal.main_arg0)
          ∧ r.2.mem ((c.tc : Thread Cert.ConvOutDxIdeal.nD Cert.ConvOutDxIdeal.τ).loc Cert.ConvOutDxIdeal.main_arg1) = m ((c.tc : Thread Cert.ConvOutDxIdeal.nD Cert.ConvOutDxIdeal.τ).loc Cert.ConvOutDxIdeal.main_arg1)
          ∧ r.2.mem ((c.tc : Thread Cert.ConvOutDxIdeal.nD Cert.ConvOutDxIdeal.τ).loc Cert.ConvOutDxIdeal.main_arg2) = m ((c.tc : Thread Cert.ConvOutDxIdeal.nD Cert.ConvOutDxIdeal.τ).loc Cert.ConvOutDxIdeal.main_arg2)
          ∧ r.2.mem ((c.tc : Thread Cert.ConvOutDxIdeal.nD Cert.ConvOutDxIdeal.τ).loc Cert.ConvOutDxIdeal.main_arg3) = m ((c.tc : Thread Cert.ConvOutDxIdeal.nD Cert.ConvOutDxIdeal.τ).loc Cert.ConvOutDxIdeal.main_arg3)
          ∧ r.2.mem ((c.tc : Thread Cert.ConvOutDxIdeal.nD Cert.ConvOutDxIdeal.τ).loc Cert.ConvOutDxIdeal.main_arg4) = m ((c.tc : Thread Cert.ConvOutDxIdeal.nD Cert.ConvOutDxIdeal.τ).loc Cert.ConvOutDxIdeal.main_arg4))
      ∧ θ_run (Cert.ConvOutDxReferenceIdeal.defs (F := Ideal)) (onTc (τ := Cert.ConvOutDxReferenceIdeal.τ) (Cert.ConvOutDxReferenceIdeal.main (F := Ideal))) ⟨m', fun _ => 0, g'⟩ (fun r => ∀ c : Dev Cert.ConvOutDxReferenceIdeal.nD,
          r.2.mem ((c.tc : Thread Cert.ConvOutDxReferenceIdeal.nD Cert.ConvOutDxReferenceIdeal.τ).loc Cert.ConvOutDxReferenceIdeal.main_v68) = v0 c
          ∧ r.2.mem ((c.tc : Thread Cert.ConvOutDxReferenceIdeal.nD Cert.ConvOutDxReferenceIdeal.τ).loc Cert.ConvOutDxReferenceIdeal.main_v69) = v1 c
          ∧ r.2.mem ((c.tc : Thread Cert.ConvOutDxReferenceIdeal.nD Cert.ConvOutDxReferenceIdeal.τ).loc Cert.ConvOutDxReferenceIdeal.main_v70) = v2 c
          ∧ r.2.mem ((c.tc : Thread Cert.ConvOutDxReferenceIdeal.nD Cert.ConvOutDxReferenceIdeal.τ).loc Cert.ConvOutDxReferenceIdeal.main_arg0) = m' ((c.tc : Thread Cert.ConvOutDxReferenceIdeal.nD Cert.ConvOutDxReferenceIdeal.τ).loc Cert.ConvOutDxReferenceIdeal.main_arg0)
          ∧ r.2.mem ((c.tc : Thread Cert.ConvOutDxReferenceIdeal.nD Cert.ConvOutDxReferenceIdeal.τ).loc Cert.ConvOutDxReferenceIdeal.main_arg1) = m' ((c.tc : Thread Cert.ConvOutDxReferenceIdeal.nD Cert.ConvOutDxReferenceIdeal.τ).loc Cert.ConvOutDxReferenceIdeal.main_arg1)
          ∧ r.2.mem ((c.tc : Thread Cert.ConvOutDxReferenceIdeal.nD Cert.ConvOutDxReferenceIdeal.τ).loc Cert.ConvOutDxReferenceIdeal.main_arg2) = m' ((c.tc : Thread Cert.ConvOutDxReferenceIdeal.nD Cert.ConvOutDxReferenceIdeal.τ).loc Cert.ConvOutDxReferenceIdeal.main_arg2)
          ∧ r.2.mem ((c.tc : Thread Cert.ConvOutDxReferenceIdeal.nD Cert.ConvOutDxReferenceIdeal.τ).loc Cert.ConvOutDxReferenceIdeal.main_arg3) = m' ((c.tc : Thread Cert.ConvOutDxReferenceIdeal.nD Cert.ConvOutDxReferenceIdeal.τ).loc Cert.ConvOutDxReferenceIdeal.main_arg3)
          ∧ r.2.mem ((c.tc : Thread Cert.ConvOutDxReferenceIdeal.nD Cert.ConvOutDxReferenceIdeal.τ).loc Cert.ConvOutDxReferenceIdeal.main_arg4) = m' ((c.tc : Thread Cert.ConvOutDxReferenceIdeal.nD Cert.ConvOutDxReferenceIdeal.τ).loc Cert.ConvOutDxReferenceIdeal.main_arg4))

def preserves_DownLast_DownLastIdeal : Prop :=
  True

def algebraic_DownLastIdeal_DownLastReferenceIdeal [hDownLastIdeal : Cert.DownLastIdeal.Facts] [hDownLastReferenceIdeal : Cert.DownLastReferenceIdeal.Facts] : Prop :=
  ∀ (m : (ℓ : Loc Cert.DownLastIdeal.nD Cert.DownLastIdeal.τ Cert.DownLastIdeal.sig) → Buf (Elt Ideal) ℓ) (g : Dev Cert.DownLastIdeal.nD → PrngReg)
    (m' : (ℓ : Loc Cert.DownLastReferenceIdeal.nD Cert.DownLastReferenceIdeal.τ Cert.DownLastReferenceIdeal.sig) → Buf (Elt Ideal) ℓ) (g' : Dev Cert.DownLastReferenceIdeal.nD → PrngReg), Pre_DownLastIdeal m →
    (∀ c : Dev Cert.DownLastIdeal.nD,
      m' ((c.tc : Thread Cert.DownLastReferenceIdeal.nD Cert.DownLastReferenceIdeal.τ).loc Cert.DownLastReferenceIdeal.main_arg0) = m ((c.tc : Thread Cert.DownLastIdeal.nD Cert.DownLastIdeal.τ).loc Cert.DownLastIdeal.main_arg0)
      ∧ m' ((c.tc : Thread Cert.DownLastReferenceIdeal.nD Cert.DownLastReferenceIdeal.τ).loc Cert.DownLastReferenceIdeal.main_arg1) = m ((c.tc : Thread Cert.DownLastIdeal.nD Cert.DownLastIdeal.τ).loc Cert.DownLastIdeal.main_arg1)
      ∧ m' ((c.tc : Thread Cert.DownLastReferenceIdeal.nD Cert.DownLastReferenceIdeal.τ).loc Cert.DownLastReferenceIdeal.main_arg2) = m ((c.tc : Thread Cert.DownLastIdeal.nD Cert.DownLastIdeal.τ).loc Cert.DownLastIdeal.main_arg2)) →
    ∃ (v0 : (c : Dev Cert.DownLastIdeal.nD) → Buf (Elt Ideal) ((c.tc : Thread Cert.DownLastIdeal.nD Cert.DownLastIdeal.τ).loc Cert.DownLastIdeal.main_v3)),
      θ_run (Cert.DownLastIdeal.defs (F := Ideal)) (onTc (τ := Cert.DownLastIdeal.τ) (Cert.DownLastIdeal.main (F := Ideal))) ⟨m, fun _ => 0, g⟩ (fun r => ∀ c : Dev Cert.DownLastIdeal.nD,
          r.2.mem ((c.tc : Thread Cert.DownLastIdeal.nD Cert.DownLastIdeal.τ).loc Cert.DownLastIdeal.main_v3) = v0 c
          ∧ r.2.mem ((c.tc : Thread Cert.DownLastIdeal.nD Cert.DownLastIdeal.τ).loc Cert.DownLastIdeal.main_arg0) = m ((c.tc : Thread Cert.DownLastIdeal.nD Cert.DownLastIdeal.τ).loc Cert.DownLastIdeal.main_arg0)
          ∧ r.2.mem ((c.tc : Thread Cert.DownLastIdeal.nD Cert.DownLastIdeal.τ).loc Cert.DownLastIdeal.main_arg1) = m ((c.tc : Thread Cert.DownLastIdeal.nD Cert.DownLastIdeal.τ).loc Cert.DownLastIdeal.main_arg1)
          ∧ r.2.mem ((c.tc : Thread Cert.DownLastIdeal.nD Cert.DownLastIdeal.τ).loc Cert.DownLastIdeal.main_arg2) = m ((c.tc : Thread Cert.DownLastIdeal.nD Cert.DownLastIdeal.τ).loc Cert.DownLastIdeal.main_arg2))
      ∧ θ_run (Cert.DownLastReferenceIdeal.defs (F := Ideal)) (onTc (τ := Cert.DownLastReferenceIdeal.τ) (Cert.DownLastReferenceIdeal.main (F := Ideal))) ⟨m', fun _ => 0, g'⟩ (fun r => ∀ c : Dev Cert.DownLastReferenceIdeal.nD,
          r.2.mem ((c.tc : Thread Cert.DownLastReferenceIdeal.nD Cert.DownLastReferenceIdeal.τ).loc Cert.DownLastReferenceIdeal.main_v4) = v0 c
          ∧ r.2.mem ((c.tc : Thread Cert.DownLastReferenceIdeal.nD Cert.DownLastReferenceIdeal.τ).loc Cert.DownLastReferenceIdeal.main_arg0) = m' ((c.tc : Thread Cert.DownLastReferenceIdeal.nD Cert.DownLastReferenceIdeal.τ).loc Cert.DownLastReferenceIdeal.main_arg0)
          ∧ r.2.mem ((c.tc : Thread Cert.DownLastReferenceIdeal.nD Cert.DownLastReferenceIdeal.τ).loc Cert.DownLastReferenceIdeal.main_arg1) = m' ((c.tc : Thread Cert.DownLastReferenceIdeal.nD Cert.DownLastReferenceIdeal.τ).loc Cert.DownLastReferenceIdeal.main_arg1)
          ∧ r.2.mem ((c.tc : Thread Cert.DownLastReferenceIdeal.nD Cert.DownLastReferenceIdeal.τ).loc Cert.DownLastReferenceIdeal.main_arg2) = m' ((c.tc : Thread Cert.DownLastReferenceIdeal.nD Cert.DownLastReferenceIdeal.τ).loc Cert.DownLastReferenceIdeal.main_arg2))

def Claim : Prop :=
  ∃ (hAttn : Cert.Attn.Facts) (hAttnIdeal : Cert.AttnIdeal.Facts) (hAttnReferenceIdeal : Cert.AttnReferenceIdeal.Facts) (hInDx : Cert.InDx.Facts) (hInDxIdeal : Cert.InDxIdeal.Facts) (hInDxReferenceIdeal : Cert.InDxReferenceIdeal.Facts) (hInDw : Cert.InDw.Facts) (hInDwIdeal : Cert.InDwIdeal.Facts) (hInDwReferenceIdeal : Cert.InDwReferenceIdeal.Facts) (hIn : Cert.In.Facts) (hInIdeal : Cert.InIdeal.Facts) (hInReferenceIdeal : Cert.InReferenceIdeal.Facts) (hUpDx : Cert.UpDx.Facts) (hUpDxIdeal : Cert.UpDxIdeal.Facts) (hUpDxReferenceIdeal : Cert.UpDxReferenceIdeal.Facts) (hUpDw : Cert.UpDw.Facts) (hUpDwIdeal : Cert.UpDwIdeal.Facts) (hUpDwReferenceIdeal : Cert.UpDwReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hRet : Cert.Ret.Facts) (hRetIdeal : Cert.RetIdeal.Facts) (hRetReferenceIdeal : Cert.RetReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hRetOut : Cert.RetOut.Facts) (hRetOutIdeal : Cert.RetOutIdeal.Facts) (hRetOutReferenceIdeal : Cert.RetOutReferenceIdeal.Facts) (hRetOutDx : Cert.RetOutDx.Facts) (hRetOutDxIdeal : Cert.RetOutDxIdeal.Facts) (hRetOutDxReferenceIdeal : Cert.RetOutDxReferenceIdeal.Facts) (hRetOutDw : Cert.RetOutDw.Facts) (hRetOutDwIdeal : Cert.RetOutDwIdeal.Facts) (hRetOutDwReferenceIdeal : Cert.RetOutDwReferenceIdeal.Facts) (hXoDx : Cert.XoDx.Facts) (hXoDxIdeal : Cert.XoDxIdeal.Facts) (hXoDxReferenceIdeal : Cert.XoDxReferenceIdeal.Facts) (hXoDw : Cert.XoDw.Facts) (hXoDwIdeal : Cert.XoDwIdeal.Facts) (hXoDwReferenceIdeal : Cert.XoDwReferenceIdeal.Facts) (hXqDw : Cert.XqDw.Facts) (hXqDwIdeal : Cert.XqDwIdeal.Facts) (hXqDwReferenceIdeal : Cert.XqDwReferenceIdeal.Facts) (hXq : Cert.Xq.Facts) (hXqIdeal : Cert.XqIdeal.Facts) (hXqReferenceIdeal : Cert.XqReferenceIdeal.Facts) (hConvOut : Cert.ConvOut.Facts) (hConvOutIdeal : Cert.ConvOutIdeal.Facts) (hConvOutReferenceIdeal : Cert.ConvOutReferenceIdeal.Facts) (hGateBwd : Cert.GateBwd.Facts) (hGateBwdIdeal : Cert.GateBwdIdeal.Facts) (hGateBwdReferenceIdeal : Cert.GateBwdReferenceIdeal.Facts) (hXqDx : Cert.XqDx.Facts) (hXqDxIdeal : Cert.XqDxIdeal.Facts) (hXqDxReferenceIdeal : Cert.XqDxReferenceIdeal.Facts) (hXo : Cert.Xo.Facts) (hXoIdeal : Cert.XoIdeal.Facts) (hXoReferenceIdeal : Cert.XoReferenceIdeal.Facts) (hAttnFwd : Cert.AttnFwd.Facts) (hAttnFwdIdeal : Cert.AttnFwdIdeal.Facts) (hAttnFwdReferenceIdeal : Cert.AttnFwdReferenceIdeal.Facts) (hConvOutDx : Cert.ConvOutDx.Facts) (hConvOutDxIdeal : Cert.ConvOutDxIdeal.Facts) (hConvOutDxReferenceIdeal : Cert.ConvOutDxReferenceIdeal.Facts) (hDownLast : Cert.DownLast.Facts) (hDownLastIdeal : Cert.DownLastIdeal.Facts) (hDownLastReferenceIdeal : Cert.DownLastReferenceIdeal.Facts) (hPre_attn_finite : Cert.Pre_attn_finite.Facts) (hPre_ret_finite : Cert.Pre_ret_finite.Facts) (hPre_conv_out_finite : Cert.Pre_conv_out_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_InDx (hInDx := hInDx)
    ∧ quiescent_InDxIdeal (hInDxIdeal := hInDxIdeal)
    ∧ quiescent_InDxReferenceIdeal (hInDxReferenceIdeal := hInDxReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_In (hIn := hIn)
    ∧ quiescent_InIdeal (hInIdeal := hInIdeal)
    ∧ quiescent_InReferenceIdeal (hInReferenceIdeal := hInReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_Ret (hRet := hRet)
    ∧ quiescent_RetIdeal (hRetIdeal := hRetIdeal)
    ∧ quiescent_RetIdeal_pre_ret_finite (hRetIdeal := hRetIdeal) (hPre_ret_finite := hPre_ret_finite)
    ∧ quiescent_RetReferenceIdeal (hRetReferenceIdeal := hRetReferenceIdeal)
    ∧ quiescent_RetReferenceIdeal_pre_ret_finite (hRetReferenceIdeal := hRetReferenceIdeal) (hPre_ret_finite := hPre_ret_finite)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_RetOut (hRetOut := hRetOut)
    ∧ quiescent_RetOutIdeal (hRetOutIdeal := hRetOutIdeal)
    ∧ quiescent_RetOutReferenceIdeal (hRetOutReferenceIdeal := hRetOutReferenceIdeal)
    ∧ quiescent_RetOutDx (hRetOutDx := hRetOutDx)
    ∧ quiescent_RetOutDxIdeal (hRetOutDxIdeal := hRetOutDxIdeal)
    ∧ quiescent_RetOutDxReferenceIdeal (hRetOutDxReferenceIdeal := hRetOutDxReferenceIdeal)
    ∧ quiescent_RetOutDw (hRetOutDw := hRetOutDw)
    ∧ quiescent_RetOutDwIdeal (hRetOutDwIdeal := hRetOutDwIdeal)
    ∧ quiescent_RetOutDwReferenceIdeal (hRetOutDwReferenceIdeal := hRetOutDwReferenceIdeal)
    ∧ quiescent_XoDx (hXoDx := hXoDx)
    ∧ quiescent_XoDxIdeal (hXoDxIdeal := hXoDxIdeal)
    ∧ quiescent_XoDxReferenceIdeal (hXoDxReferenceIdeal := hXoDxReferenceIdeal)
    ∧ quiescent_XoDw (hXoDw := hXoDw)
    ∧ quiescent_XoDwIdeal (hXoDwIdeal := hXoDwIdeal)
    ∧ quiescent_XoDwReferenceIdeal (hXoDwReferenceIdeal := hXoDwReferenceIdeal)
    ∧ quiescent_XqDw (hXqDw := hXqDw)
    ∧ quiescent_XqDwIdeal (hXqDwIdeal := hXqDwIdeal)
    ∧ quiescent_XqDwReferenceIdeal (hXqDwReferenceIdeal := hXqDwReferenceIdeal)
    ∧ quiescent_Xq (hXq := hXq)
    ∧ quiescent_XqIdeal (hXqIdeal := hXqIdeal)
    ∧ quiescent_XqReferenceIdeal (hXqReferenceIdeal := hXqReferenceIdeal)
    ∧ quiescent_ConvOut (hConvOut := hConvOut)
    ∧ quiescent_ConvOutIdeal (hConvOutIdeal := hConvOutIdeal)
    ∧ quiescent_ConvOutReferenceIdeal (hConvOutReferenceIdeal := hConvOutReferenceIdeal)
    ∧ quiescent_GateBwd (hGateBwd := hGateBwd)
    ∧ quiescent_GateBwdIdeal (hGateBwdIdeal := hGateBwdIdeal)
    ∧ quiescent_GateBwdReferenceIdeal (hGateBwdReferenceIdeal := hGateBwdReferenceIdeal)
    ∧ quiescent_XqDx (hXqDx := hXqDx)
    ∧ quiescent_XqDxIdeal (hXqDxIdeal := hXqDxIdeal)
    ∧ quiescent_XqDxReferenceIdeal (hXqDxReferenceIdeal := hXqDxReferenceIdeal)
    ∧ quiescent_Xo (hXo := hXo)
    ∧ quiescent_XoIdeal (hXoIdeal := hXoIdeal)
    ∧ quiescent_XoReferenceIdeal (hXoReferenceIdeal := hXoReferenceIdeal)
    ∧ quiescent_AttnFwd (hAttnFwd := hAttnFwd)
    ∧ quiescent_AttnFwdIdeal (hAttnFwdIdeal := hAttnFwdIdeal)
    ∧ quiescent_AttnFwdReferenceIdeal (hAttnFwdReferenceIdeal := hAttnFwdReferenceIdeal)
    ∧ quiescent_ConvOutDx (hConvOutDx := hConvOutDx)
    ∧ quiescent_ConvOutDxIdeal (hConvOutDxIdeal := hConvOutDxIdeal)
    ∧ quiescent_ConvOutDxIdeal_pre_conv_out_finite (hConvOutDxIdeal := hConvOutDxIdeal) (hPre_conv_out_finite := hPre_conv_out_finite)
    ∧ quiescent_ConvOutDxReferenceIdeal (hConvOutDxReferenceIdeal := hConvOutDxReferenceIdeal)
    ∧ quiescent_ConvOutDxReferenceIdeal_pre_conv_out_finite (hConvOutDxReferenceIdeal := hConvOutDxReferenceIdeal) (hPre_conv_out_finite := hPre_conv_out_finite)
    ∧ quiescent_DownLast (hDownLast := hDownLast)
    ∧ quiescent_DownLastIdeal (hDownLastIdeal := hDownLastIdeal)
    ∧ quiescent_DownLastReferenceIdeal (hDownLastReferenceIdeal := hDownLastReferenceIdeal)
    ∧ preserves_Attn_AttnIdeal
    ∧ algebraic_AttnIdeal_AttnReferenceIdeal_pre_attn_finite (hAttnIdeal := hAttnIdeal) (hAttnReferenceIdeal := hAttnReferenceIdeal) (hPre_attn_finite := hPre_attn_finite)
    ∧ preserves_InDx_InDxIdeal
    ∧ algebraic_InDxIdeal_InDxReferenceIdeal (hInDxIdeal := hInDxIdeal) (hInDxReferenceIdeal := hInDxReferenceIdeal)
    ∧ preserves_InDw_InDwIdeal
    ∧ algebraic_InDwIdeal_InDwReferenceIdeal (hInDwIdeal := hInDwIdeal) (hInDwReferenceIdeal := hInDwReferenceIdeal)
    ∧ preserves_In_InIdeal
    ∧ algebraic_InIdeal_InReferenceIdeal (hInIdeal := hInIdeal) (hInReferenceIdeal := hInReferenceIdeal)
    ∧ preserves_UpDx_UpDxIdeal
    ∧ algebraic_UpDxIdeal_UpDxReferenceIdeal (hUpDxIdeal := hUpDxIdeal) (hUpDxReferenceIdeal := hUpDxReferenceIdeal)
    ∧ preserves_UpDw_UpDwIdeal
    ∧ algebraic_UpDwIdeal_UpDwReferenceIdeal (hUpDwIdeal := hUpDwIdeal) (hUpDwReferenceIdeal := hUpDwReferenceIdeal)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_Ret_RetIdeal
    ∧ algebraic_RetIdeal_RetReferenceIdeal_pre_ret_finite (hRetIdeal := hRetIdeal) (hRetReferenceIdeal := hRetReferenceIdeal) (hPre_ret_finite := hPre_ret_finite)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_RetOut_RetOutIdeal
    ∧ algebraic_RetOutIdeal_RetOutReferenceIdeal (hRetOutIdeal := hRetOutIdeal) (hRetOutReferenceIdeal := hRetOutReferenceIdeal)
    ∧ preserves_RetOutDx_RetOutDxIdeal
    ∧ algebraic_RetOutDxIdeal_RetOutDxReferenceIdeal (hRetOutDxIdeal := hRetOutDxIdeal) (hRetOutDxReferenceIdeal := hRetOutDxReferenceIdeal)
    ∧ preserves_RetOutDw_RetOutDwIdeal
    ∧ algebraic_RetOutDwIdeal_RetOutDwReferenceIdeal (hRetOutDwIdeal := hRetOutDwIdeal) (hRetOutDwReferenceIdeal := hRetOutDwReferenceIdeal)
    ∧ preserves_XoDx_XoDxIdeal
    ∧ algebraic_XoDxIdeal_XoDxReferenceIdeal (hXoDxIdeal := hXoDxIdeal) (hXoDxReferenceIdeal := hXoDxReferenceIdeal)
    ∧ preserves_XoDw_XoDwIdeal
    ∧ algebraic_XoDwIdeal_XoDwReferenceIdeal (hXoDwIdeal := hXoDwIdeal) (hXoDwReferenceIdeal := hXoDwReferenceIdeal)
    ∧ preserves_XqDw_XqDwIdeal
    ∧ algebraic_XqDwIdeal_XqDwReferenceIdeal (hXqDwIdeal := hXqDwIdeal) (hXqDwReferenceIdeal := hXqDwReferenceIdeal)
    ∧ preserves_Xq_XqIdeal
    ∧ algebraic_XqIdeal_XqReferenceIdeal (hXqIdeal := hXqIdeal) (hXqReferenceIdeal := hXqReferenceIdeal)
    ∧ preserves_ConvOut_ConvOutIdeal
    ∧ algebraic_ConvOutIdeal_ConvOutReferenceIdeal (hConvOutIdeal := hConvOutIdeal) (hConvOutReferenceIdeal := hConvOutReferenceIdeal)
    ∧ preserves_GateBwd_GateBwdIdeal
    ∧ algebraic_GateBwdIdeal_GateBwdReferenceIdeal (hGateBwdIdeal := hGateBwdIdeal) (hGateBwdReferenceIdeal := hGateBwdReferenceIdeal)
    ∧ preserves_XqDx_XqDxIdeal
    ∧ algebraic_XqDxIdeal_XqDxReferenceIdeal (hXqDxIdeal := hXqDxIdeal) (hXqDxReferenceIdeal := hXqDxReferenceIdeal)
    ∧ preserves_Xo_XoIdeal
    ∧ algebraic_XoIdeal_XoReferenceIdeal (hXoIdeal := hXoIdeal) (hXoReferenceIdeal := hXoReferenceIdeal)
    ∧ preserves_AttnFwd_AttnFwdIdeal
    ∧ algebraic_AttnFwdIdeal_AttnFwdReferenceIdeal (hAttnFwdIdeal := hAttnFwdIdeal) (hAttnFwdReferenceIdeal := hAttnFwdReferenceIdeal)
    ∧ preserves_ConvOutDx_ConvOutDxIdeal
    ∧ algebraic_ConvOutDxIdeal_ConvOutDxReferenceIdeal_pre_conv_out_finite (hConvOutDxIdeal := hConvOutDxIdeal) (hConvOutDxReferenceIdeal := hConvOutDxReferenceIdeal) (hPre_conv_out_finite := hPre_conv_out_finite)
    ∧ preserves_DownLast_DownLastIdeal
    ∧ algebraic_DownLastIdeal_DownLastReferenceIdeal (hDownLastIdeal := hDownLastIdeal) (hDownLastReferenceIdeal := hDownLastReferenceIdeal)
-- ==== Pre_attn_finite.lean ====
abbrev S16384x1024 : Shape := ⟨2, ![16384, 1024]⟩
abbrev S256x2048 : Shape := ⟨2, ![256, 2048]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S256x2048 : S_.BroadcastsInDim S256x2048 (![] : Fin 0 → Fin S256x2048.rank)

variable [Facts]

def fn {F : FTy → Type} [FloatOps F] (main_arg0 : FVec F S16384x1024 .bf16) (main_arg1 : FVec F S256x2048 .f32) (main_arg2 : FVec F S16384x1024 .f32) : IVec S16384x1024 1 × IVec S256x2048 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  (main_v3, main_v6)
-- ==== Pre_conv_out_finite.lean ====
abbrev S16384x1024 : Shape := ⟨2, ![16384, 1024]⟩
abbrev S4x1024x1024 : Shape := ⟨3, ![4, 1024, 1024]⟩
abbrev S1024 : Shape := ⟨1, ![1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S4x1024x1024 : S_.BroadcastsInDim S4x1024x1024 (![] : Fin 0 → Fin S4x1024x1024.rank)
  bcast_S_S1024 : S_.BroadcastsInDim S1024 (![] : Fin 0 → Fin S1024.rank)

variable [Facts]

def fn {F : FTy → Type} [FloatOps F] (main_arg0 : FVec F S16384x1024 .bf16) (main_arg1 : FVec F S4x1024x1024 .f32) (main_arg2 : FVec F S16384x1024 .f32) (main_arg3 : FVec F S1024 .f32) (main_arg4 : FVec F S1024 .f32) : IVec S16384x1024 1 × IVec S4x1024x1024 1 × IVec S1024 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_v7 : FVec F S1024 .f32 := Host.absf main_arg3
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  (main_v3, main_v6, main_v9)
-- ==== Pre_ret_finite.lean ====
abbrev S16384x10240 : Shape := ⟨2, ![16384, 10240]⟩
abbrev S16384x128 : Shape := ⟨2, ![16384, 128]⟩
abbrev S16384x2048 : Shape := ⟨2, ![16384, 2048]⟩
abbrev S_ : Shape := ⟨0, ![]⟩

class Facts : Prop where
  bcast_S_S16384x10240 : S_.BroadcastsInDim S16384x10240 (![] : Fin 0 → Fin S16384x10240.rank)
  bcast_S_S16384x128 : S_.BroadcastsInDim S16384x128 (![] : Fin 0 → Fin S16384x128.rank)
  bcast_S_S16384x2048 : S_.BroadcastsInDim S16384x2048 (![] : Fin 0 → Fin S16384x2048.rank)

variable [Facts]

def fn {F : FTy → Type} [FloatOps F] (main_arg0 : FVec F S16384x10240 .f32) (main_arg1 : FVec F S16384x128 .f32) (main_arg2 : FVec F S16384x128 .f32) (main_arg3 : FVec F S16384x2048 .f32) : IVec S16384x10240 1 × IVec S16384x128 1 × IVec S16384x128 1 × IVec S16384x2048 1 :=
  let main_v0 : FVec F S16384x10240 .f32 := Host.absf main_arg0
  let main_cst : FVec F S_ .f32 := constant S_ .f32 0x7F800000#32
  let main_v1 : FVec F S16384x10240 .f32 := broadcastInDim S16384x10240 ![] bcast_S_S16384x10240 main_cst
  let main_v2 : IVec S16384x10240 1 := cmpf .olt main_v0 main_v1
  let main_v3 : FVec F S16384x128 .f32 := Host.absf main_arg1
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : FVec F S16384x128 .f32 := Host.absf main_arg2
  let main_cst_1 : FVec F S_ .f32 := constant S_ .f32 0x7F800000#32
  let main_v7 : FVec F S16384x128 .f32 := broadcastInDim S16384x128 ![] bcast_S_S16384x128 main_cst_1
  let main_v8 : IVec S16384x128 1 := cmpf .olt main_v6 main_v7
  let main_v9 : FVec F S16384x2048 .f32 := Host.absf main_arg3
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  (main_v2, main_v5, main_v8, main_v11)
-- ==== Attn.lean ====
abbrev S16384x1024 : Shape := ⟨2, ![16384, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S256x2048, .f32⟩
  | .hbm, ⟨2, _⟩ => ⟨S16384x1024, .f32⟩
  | .hbm, ⟨3, _⟩ => ⟨S16384x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v141 : BitVec 1 := Scalar.cmpi .eq arg0 c0_i32
  let v142 : BitVec 32 := Scalar.extui v141
  let c0_i32_71 : BitVec 32 := 0#32
  let v143 : BitVec 1 := Scalar.cmpi .ne v142 c0_i32_71
  v143

def k0_cond2 (i : grid0.Coords) : BitVec 1 :=
  let arg0 : BitVec 32 := BitVec.ofNat 32 (i 0).val
  let c0_i32_72 : BitVec 32 := 0#32
  let v144 : BitVec 1 := Scalar.cmpi .sgt arg0 c0_i32_72
  let v145 : BitVec 32 := Scalar.extui v144
  let c0_i32_73 : BitVec 32 := 0#32
  let v146 : BitVec 1 := Scalar.cmpi .ne v145 c0_i32_73
  v146

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AttnReferenceIdeal.lean ====
abbrev S16384x1024 : Shape := ⟨2, ![16384, 1024]⟩
abbrev S256x2048 : Shape := ⟨2, ![256, 2048]⟩
abbrev S1x16384x4x256 : Shape := ⟨4, ![1, 16384, 4, 256]⟩
abbrev S1x256x2048 : Shape := ⟨3, ![1, 256, 2048]⟩
abbrev S1x256x1024 : Shape := ⟨3, ![1, 256, 1024]⟩
abbrev S1x256x4x256 : Shape := ⟨4, ![1, 256, 4, 256]⟩
abbrev S1x4x16384x256 : Shape := ⟨4, ![1, 4, 16384, 256]⟩
abbrev S_ : Shape := ⟨0, ![]⟩
abbrev S1x4x16384 : Shape := ⟨3, ![1, 4, 16384]⟩
abbrev S1x4x16384x1 : Shape := ⟨4, ![1, 4, 16384, 1]⟩
abbrev S1x4x256x16384 : Shape := ⟨4, ![1, 4, 256, 16384]⟩
abbrev S1x4x256x256 : Shape := ⟨4, ![1, 4, 256, 256]⟩
abbrev S4x16384 : Shape := ⟨2, ![4, 16384]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S256x2048, .f32⟩
  | .hbm, ⟨2, _⟩ => ⟨S16384x1024, .f32⟩
  | .hbm, ⟨3, _⟩ => ⟨S16384x1024, .f32⟩
  | .hbm, ⟨4, _⟩ => ⟨S1x16384x4x256, .f32⟩
  | .hbm, ⟨5, _⟩ => ⟨S1x256x2048, .f32⟩
  | .hbm, ⟨6, _⟩ => ⟨S1x256x1024, .f32⟩
  | .hbm, ⟨7, _⟩ => ⟨S1x256x1024, .f32⟩
  | .hbm, ⟨8, _⟩ => ⟨S1x256x4x256, .f32⟩
  | .hbm, ⟨9, _⟩ => ⟨S1x256x4x256, .f32⟩
  | .hbm, ⟨10, _⟩ => ⟨S1x4x16384x256, .f32⟩
  | .hbm, ⟨11, _⟩ => ⟨S_, .f32⟩
  | .hbm, ⟨12, _⟩ => ⟨S1x4x16384x256, .f32⟩
  | .hbm, ⟨13, _⟩ => ⟨S1x4x16384x256, .f32⟩
  | .hbm, ⟨14, _⟩ => ⟨S_, .f32⟩
  | .hbm, ⟨15, _⟩ => ⟨S1x4x16384, .f32⟩
  | .hbm, ⟨16, _⟩ => ⟨S1x4x16384x1, .f32⟩
  | .hbm, ⟨17, _⟩ => ⟨S1x4x16384x256, .f32⟩
  | .hbm, ⟨18, _⟩ => ⟨S1x4x16384x256, .i1⟩
  | .hbm, ⟨19, _⟩ => ⟨S1x4x16384x256, .f32⟩
  | .hbm, ⟨20, _⟩ => ⟨S_, .f32⟩
  | .hbm, ⟨21, _⟩ => ⟨S1x4x16384, .f32⟩
  | .hbm, ⟨22, _⟩ => ⟨S_, .f32⟩
  | .hbm, ⟨23, _⟩ => ⟨S1x4x16384, .f32⟩
  | .hbm, ⟨24, _⟩ => ⟨S1x4x16384, .f32⟩
  | .hbm, ⟨25, _⟩ => ⟨S_, .f32⟩
  | .hbm, ⟨26, _⟩ => ⟨S1x4x16384, .f32⟩
  | .hbm, ⟨27, _⟩ => ⟨S1x4x16384, .i1⟩
  | .hbm, ⟨28, _⟩ => ⟨S_, .f32⟩
  | .hbm, ⟨29, _⟩ => ⟨S1x4x16384, .f32⟩
  | .hbm, ⟨30, _⟩ => ⟨S1x4x16384, .i1⟩
  | .hbm, ⟨31, _⟩ => ⟨S_, .f32⟩
  | .hbm, ⟨32, _⟩ => ⟨S1x4x16384, .f32⟩
  | .hbm, ⟨33, _⟩ => ⟨S_, .f32⟩
  | .hbm, ⟨34, _⟩ => ⟨S1x4x16384, .f32⟩
  | .hbm, ⟨35, _⟩ => ⟨S_, .f32⟩
  | .hbm, ⟨36, _⟩ => ⟨S1x4x16384, .f32⟩
  | .hbm, ⟨37, _⟩ => ⟨S1x4x16384, .f32⟩
  | .hbm, ⟨38, _⟩ => ⟨S1x4x16384, .f32⟩
  | .hbm, ⟨39, _⟩ => ⟨S1x4x16384x1, .f32⟩
  | .hbm, ⟨40, _⟩ => ⟨S1x4x16384x256, .f32⟩
  | .hbm, ⟨41, _⟩ => ⟨S1x4x16384x256, .f32⟩
  | .hbm, ⟨42, _⟩ => ⟨S1x4x16384x256, .f32⟩
  | .hbm, ⟨43, _⟩ => ⟨S_, .f32⟩
  | .hbm, ⟨44, _⟩ => ⟨S1x4x16384, .f32⟩
  | .hbm, ⟨45, _⟩ => ⟨S1x4x16384x1, .f32⟩
  | .hbm, ⟨46, _⟩ => ⟨S1x4x16384x256, .f32⟩
  | .hbm, ⟨47, _⟩ => ⟨S1x4x16384x256, .f32⟩
  | .hbm, ⟨48, _⟩ => ⟨S1x4x16384x1, .f32⟩
  | .hbm, ⟨49, _⟩ => ⟨S_, .f32⟩
  | .hbm, ⟨50, _⟩ => ⟨S1x4x16384x1, .f32⟩
  | .hbm, ⟨51, _⟩ => ⟨S1x4x16384x1, .f32⟩
  | .hbm, ⟨52, _⟩ => ⟨S1x4x256x16384, .f32⟩
  | .hbm, ⟨53, _⟩ => ⟨S1x16384x4x256, .f32⟩
  | .hbm, ⟨54, _⟩ => ⟨S16384x1024, .f32⟩
  | .hbm, ⟨55, _⟩ => ⟨S1x16384x4x256, .f32⟩
  | .hbm, ⟨56, _⟩ => ⟨S1x4x256x16384, .f32⟩
  | .hbm, ⟨57, _⟩ => ⟨S1x4x16384x256, .f32⟩
  | .hbm, ⟨58, _⟩ => ⟨S1x4x256x256, .f32⟩
  | .hbm, ⟨59, _⟩ => ⟨S1x256x4x256, .f32⟩
  | .hbm, ⟨60, _⟩ => ⟨S1x4x16384x256, .f32⟩
  | .hbm, ⟨61, _⟩ => ⟨S1x4x16384x256, .f32⟩
  | .hbm, ⟨62, _⟩ => ⟨S1x4x16384x256, .f32⟩
  | .hbm, ⟨63, _⟩ => ⟨S_, .f32⟩
  | .hbm, ⟨64, _⟩ => ⟨S1x4x16384, .f32⟩
  | .hbm, ⟨65, _⟩ => ⟨S1x4x16384x1, .f32⟩
  | .hbm, ⟨66, _⟩ => ⟨S1x4x16384x1, .f32⟩
  | .hbm, ⟨67, _⟩ => ⟨S1x4x16384x256, .f32⟩
  | .hbm, ⟨68, _⟩ => ⟨S1x4x16384x256, .f32⟩
  | .hbm, ⟨69, _⟩ => ⟨S_, .f32⟩
  | .hbm, ⟨70, _⟩ => ⟨S4x16384, .f32⟩
  | .hbm, ⟨71, _⟩ => ⟨S1x4x16384, .f32⟩
  | .hbm, ⟨72, _⟩ => ⟨S1x4x16384x256, .f32⟩
  | .hbm, ⟨73, _⟩ => ⟨S1x4x16384x256, .f32⟩
  | .hbm, ⟨74, _⟩ => ⟨S1x4x16384x256, .f32⟩
  | .hbm, ⟨75, _⟩ => ⟨S_, .f32⟩
  | .hbm, ⟨76, _⟩ => ⟨S1x4x16384x256, .f32⟩
  | .hbm, ⟨77, _⟩ => ⟨S1x4x16384x256, .f32⟩
  | .hbm, ⟨78, _⟩ => ⟨S1x4x256x256, .f32⟩
  | .hbm, ⟨79, _⟩ => ⟨S1x256x4x256, .f32⟩
  | .hbm, ⟨80, _⟩ => ⟨S1x4x16384x256, .f32⟩
  | .hbm, ⟨81, _⟩ => ⟨S1x16384x4x256, .f32⟩
  | .hbm, ⟨82, _⟩ => ⟨S1x256x1024, .f32⟩
  | .hbm, ⟨83, _⟩ => ⟨S1x256x1024, .f32⟩
  | .hbm, ⟨84, _⟩ => ⟨S1x256x2048, .f32⟩
  | .hbm, ⟨85, _⟩ => ⟨S_, .f32⟩
  | .hbm, ⟨86, _⟩ => ⟨S256x2048, .f32⟩
  | .hbm, ⟨87, _⟩ => ⟨S16384x1024, .f32⟩
  | .hbm, ⟨88, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== InDx.lean ====
abbrev S16384x10240 : Shape := ⟨2, ![16384, 10240]⟩
abbrev S4x1024x10240 : Shape := ⟨3, ![4, 1024, 10240]⟩
abbrev S16384x1024 : Shape := ⟨2, ![16384, 1024]⟩
abbrev S1024 : Shape := ⟨1, ![1024]⟩
abbrev S4x1024x4x2560 : Shape := ⟨4, ![4, 1024, 4, 2560]⟩
abbrev S4x4x1024x2560 : Shape := ⟨4, ![4, 4, 1024, 2560]⟩
abbrev S1x1024 : Shape := ⟨2, ![1, 1024]⟩
abbrev S1024x2560 : Shape := ⟨2, ![1024, 2560]⟩
abbrev S1x1x1024x2560 : Shape := ⟨4, ![1, 1, 1024, 2560]⟩
abbrev S1024x1024 : Shape := ⟨2, ![1024, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S16384x10240, .bf16⟩
  | .hbm, ⟨1, _⟩ => ⟨S4x1024x10240, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S4x1024x10240, .bf16⟩
  | .hbm, ⟨6, _⟩ => ⟨S4x1024x4x2560, .bf16⟩
  | .hbm, ⟨7, _⟩ => ⟨S4x4x1024x2560, .bf16⟩
  | .hbm, ⟨8, _⟩ => ⟨S1x1024, .f32⟩
  | .hbm, ⟨9, _⟩ => ⟨S16384x1024, .f32⟩
  | .hbm, ⟨10, _⟩ => ⟨S1x1024, .f32⟩
  | .local _ .vmem, ⟨0, _⟩ => ⟨S1024x2560, .bf16⟩
  | .local _ .vmem, ⟨1, _⟩ => ⟨S1024x2560, .bf16⟩
  | .local _ .vmem, ⟨2, _⟩ => ⟨S1x1x1024x2560, .bf16⟩
  | .local _ .vmem, ⟨3, _⟩ => ⟨S1x1x1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def k0_cond4 (i : grid0.Coords) : BitVec 1 :=
  let arg0 : BitVec 32 := BitVec.ofNat 32 (i 0).val
  let c0_i32_26 : BitVec 32 := 0#32
  let v53 : BitVec 1 := Scalar.cmpi .eq arg0 c0_i32_26
  let v54 : BitVec 32 := Scalar.extui v53
  let c0_i32_27 : BitVec 32 := 0#32
  let v55 : BitVec 1 := Scalar.cmpi .ne v54 c0_i32_27
  v55

def k0_cond5 (i : grid0.Coords) : BitVec 1 :=
  let arg0 : BitVec 32 := BitVec.ofNat 32 (i 0).val
  let c0_i32_28 : BitVec 32 := 0#32
  let v56 : BitVec 1 := Scalar.cmpi .sgt arg0 c0_i32_28
  let v57 : BitVec 32 := Scalar.extui v56
  let c0_i32_29 : BitVec 32 := 0#32
  let v58 : BitVec 1 := Scalar.cmpi .ne v57 c0_i32_29
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== InDxReferenceIdeal.lean ====
abbrev S16384x10240 : Shape := ⟨2, ![16384, 10240]⟩
abbrev S4x1024x10240 : Shape := ⟨3, ![4, 1024, 10240]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x10240 : Shape := ⟨3, ![1, 1024, 10240]⟩
abbrev S1024x10240 : Shape := ⟨2, ![1024, 10240]⟩

abbrev nBuf : Space → Nat
  | .hbm => 57
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S4x1024x10240, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1x1024x10240, .f32⟩
  | .hbm, ⟨26, _⟩ => ⟨S1024x10240, .f32⟩
  | .hbm, ⟨27, _⟩ => ⟨S16384x10240, .f32⟩
  | .hbm, ⟨28, _⟩ => ⟨S16384x10240, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S1x1024, .f32⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== InDw.lean ====
abbrev S16384x1024 : Shape := ⟨2, ![16384, 1024]⟩
abbrev S16384x10240 : Shape := ⟨2, ![16384, 10240]⟩
abbrev S1x4x1024x2560 : Shape := ⟨4, ![1, 4, 1024, 2560]⟩
abbrev S2048x1024 : Shape := ⟨2, ![2048, 1024]⟩
abbrev S2048x1280 : Shape := ⟨2, ![2048, 1280]⟩
abbrev S1x1x1024x1280 : Shape := ⟨4, ![1, 1, 1024, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x10240, .bf16⟩
  | .hbm, ⟨2, _⟩ => ⟨S1x4x1024x2560, .f32⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1x1x1024x1280, .f32⟩
  | .local _ .vmem, ⟨5, _⟩ => ⟨S1x1x1024x1280, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S16384x1024 : Shape := ⟨2, ![16384, 1024]⟩
abbrev S16384x10240 : Shape := ⟨2, ![16384, 10240]⟩
abbrev S_ : Shape := ⟨0, ![]⟩
abbrev S1024x10240 : Shape := ⟨2, ![1024, 10240]⟩
abbrev S10240x1024 : Shape := ⟨2, ![10240, 1024]⟩
abbrev S1024x4x2560 : Shape := ⟨3, ![1024, 4, 2560]⟩
abbrev S4x1024x2560 : Shape := ⟨3, ![4, 1024, 2560]⟩
abbrev S1x4x1024x2560 : Shape := ⟨4, ![1, 4, 1024, 2560]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x10240, .bf16⟩
  | .hbm, ⟨2, _⟩ => ⟨S16384x1024, .f32⟩
  | .hbm, ⟨3, _⟩ => ⟨S_, .f32⟩
  | .hbm, ⟨4, _⟩ => ⟨S1024x10240, .f32⟩
  | .hbm, ⟨5, _⟩ => ⟨S16384x10240, .f32⟩
  | .hbm, ⟨6, _⟩ => ⟨S16384x10240, .f32⟩
  | .hbm, ⟨7, _⟩ => ⟨S10240x1024, .f32⟩
  | .hbm, ⟨8, _⟩ => ⟨S1024x10240, .f32⟩
  | .hbm, ⟨9, _⟩ => ⟨S1024x4x2560, .f32⟩
  | .hbm, ⟨10, _⟩ => ⟨S4x1024x2560, .f32⟩
  | .hbm, ⟨11, _⟩ => ⟨S1x4x1024x2560, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== In.lean ====
abbrev S16384x1024 : Shape := ⟨2, ![16384, 1024]⟩
abbrev S4x1024x10240 : Shape := ⟨3, ![4, 1024, 10240]⟩
abbrev S4x1024x4x2560 : Shape := ⟨4, ![4, 1024, 4, 2560]⟩
abbrev S4x4x1024x2560 : Shape := ⟨4, ![4, 4, 1024, 2560]⟩
abbrev S16384x10240 : Shape := ⟨2, ![16384, 10240]⟩
abbrev S1024x1024 : Shape := ⟨2, ![1024, 1024]⟩
abbrev S1x1x1024x1280 : Shape := ⟨4, ![1, 1, 1024, 1280]⟩
abbrev S1024x1280 : Shape := ⟨2, ![1024, 1280]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S4x1024x10240, .f32⟩
  | .hbm, ⟨2, _⟩ => ⟨S4x1024x10240, .bf16⟩
  | .hbm, ⟨3, _⟩ => ⟨S4x1024x4x2560, .bf16⟩
  | .hbm, ⟨4, _⟩ => ⟨S4x4x1024x2560, .bf16⟩
  | .hbm, ⟨5, _⟩ => ⟨S16384x10240, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1280, .bf16⟩
  | .local _ .vmem, ⟨3, _⟩ => ⟨S1x1x1024x1280, .bf16⟩
  | .local _ .vmem, ⟨4, _⟩ => ⟨S1024x1280, .f32⟩
  | .local _ .vmem, ⟨5, _⟩ => ⟨S1024x1280, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S16384x1024 : Shape := ⟨2, ![16384, 1024]⟩
abbrev S4x1024x10240 : Shape := ⟨3, ![4, 1024, 10240]⟩
abbrev S1x1024x10240 : Shape := ⟨3, ![1, 1024, 10240]⟩
abbrev S1024x10240 : Shape := ⟨2, ![1024, 10240]⟩
abbrev S16384x10240 : Shape := ⟨2, ![16384, 10240]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x1024x10240, .f32⟩
  | .hbm, ⟨2, _⟩ => ⟨S16384x1024, .f32⟩
  | .hbm, ⟨3, _⟩ => ⟨S1x1024x10240, .f32⟩
  | .hbm, ⟨4, _⟩ => ⟨S1024x10240, .f32⟩
  | .hbm, ⟨5, _⟩ => ⟨S16384x10240, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpDx.lean ====
abbrev S16384x5632 : Shape := ⟨2, ![16384, 5632]⟩
abbrev S4x1024x5632 : Shape := ⟨3, ![4, 1024, 5632]⟩
abbrev S16384x1024 : Shape := ⟨2, ![16384, 1024]⟩
abbrev S1024 : Shape := ⟨1, ![1024]⟩
abbrev S4x1024x4x1408 : Shape := ⟨4, ![4, 1024, 4, 1408]⟩
abbrev S4x4x1024x1408 : Shape := ⟨4, ![4, 4, 1024, 1408]⟩
abbrev S1x1024 : Shape := ⟨2, ![1, 1024]⟩
abbrev S1024x1408 : Shape := ⟨2, ![1024, 1408]⟩
abbrev S1x1x1024x1408 : Shape := ⟨4, ![1, 1, 1024, 1408]⟩
abbrev S1024x1024 : Shape := ⟨2, ![1024, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S16384x5632, .bf16⟩
  | .hbm, ⟨1, _⟩ => ⟨S4x1024x5632, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S4x1024x5632, .bf16⟩
  | .hbm, ⟨6, _⟩ => ⟨S4x1024x4x1408, .bf16⟩
  | .hbm, ⟨7, _⟩ => ⟨S4x4x1024x1408, .bf16⟩
  | .hbm, ⟨8, _⟩ => ⟨S1x1024, .f32⟩
  | .hbm, ⟨9, _⟩ => ⟨S16384x1024, .f32⟩
  | .hbm, ⟨10, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def k0_cond4 (i : grid0.Coords) : BitVec 1 :=
  let arg0 : BitVec 32 := BitVec.ofNat 32 (i 0).val
  let c0_i32_26 : BitVec 32 := 0#32
  let v53 : BitVec 1 := Scalar.cmpi .eq arg0 c0_i32_26
  let v54 : BitVec 32 := Scalar.extui v53
  let c0_i32_27 : BitVec 32 := 0#32
  let v55 : BitVec 1 := Scalar.cmpi .ne v54 c0_i32_27
  v55

def k0_cond5 (i : grid0.Coords) : BitVec 1 :=
  let arg0 : BitVec 32 := BitVec.ofNat 32 (i 0).val
  let c0_i32_28 : BitVec 32 := 0#32
  let v56 : BitVec 1 := Scalar.cmpi .sgt arg0 c0_i32_28
  let v57 : BitVec 32 := Scalar.extui v56
  let c0_i32_29 : BitVec 32 := 0#32
  let v58 : BitVec 1 := Scalar.cmpi .ne v57 c0_i32_29
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpDxReferenceIdeal.lean ====
abbrev S16384x5632 : Shape := ⟨2, ![16384, 5632]⟩
abbrev S4x1024x5632 : Shape := ⟨3, ![4, 1024, 5632]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩

abbrev nBuf : Space → Nat
  | .hbm => 57
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S4x1024x5632, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1x1024x5632, .f32⟩
  | .hbm, ⟨26, _⟩ => ⟨S1024x5632, .f32⟩
  | .hbm, ⟨27, _⟩ => ⟨S16384x5632, .f32⟩
  | .hbm, ⟨28, _⟩ => ⟨S16384x5632, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S1x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== UpDw.lean ====
abbrev S16384x1024 : Shape := ⟨2, ![16384, 1024]⟩
abbrev S16384x5632 : Shape := ⟨2, ![16384, 5632]⟩
abbrev S1x4x1024x1408 : Shape := ⟨4, ![1, 4, 1024, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1x4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S16384x1024, .f32⟩
  | .hbm, ⟨3, _⟩ => ⟨S_, .f32⟩
  | .hbm, ⟨4, _⟩ => ⟨S1024x5632, .f32⟩
  | .hbm, ⟨5, _⟩ => ⟨S16384x5632, .f32⟩
  | .hbm, ⟨6, _⟩ => ⟨S16384x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S1x4x1024x1408, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownDx.lean ====
abbrev S16384x1024 : Shape := ⟨2, ![16384, 1024]⟩
abbrev S4x2816x1024 : Shape := ⟨3, ![4, 2816, 1024]⟩
abbrev S4x4x704x1024 : Shape := ⟨4, ![4, 4, 704, 1024]⟩
abbrev S16384x2816 : Shape := ⟨2, ![16384, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4x2816x1024, .f32⟩
  | .hbm, ⟨2, _⟩ => ⟨S4x2816x1024, .bf16⟩
  | .hbm, ⟨3, _⟩ => ⟨S4x4x704x1024, .bf16⟩
  | .hbm, ⟨4, _⟩ => ⟨S4x2816x1024, .bf16⟩
  | .hbm, ⟨5, _⟩ => ⟨S16384x2816, .f32⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S16384x1024 : Shape := ⟨2, ![16384, 1024]⟩
abbrev S4x2816x1024 : Shape := ⟨3, ![4, 2816, 1024]⟩
abbrev S_ : Shape := ⟨0, ![]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x2816x1024, .f32⟩
  | .hbm, ⟨2, _⟩ => ⟨S_, .f32⟩
  | .hbm, ⟨3, _⟩ => ⟨S16384x2816, .f32⟩
  | .hbm, ⟨4, _⟩ => ⟨S1x2816x1024, .f32⟩
  | .hbm, ⟨5, _⟩ => ⟨S2816x1024, .f32⟩
  | .hbm, ⟨6, _⟩ => ⟨S16384x1024, .f32⟩
  | .hbm, ⟨7, _⟩ => ⟨S16384x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S16384x2816 : Shape := ⟨2, ![16384, 2816]⟩
abbrev S16384x1024 : Shape := ⟨2, ![16384, 1024]⟩
abbrev S1x2816x1024 : Shape := ⟨3, ![1, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S1x2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1x1408x1024, .f32⟩
  | .local _ .vmem, ⟨5, _⟩ => ⟨S1x1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S16384x2816, .f32⟩
  | .hbm, ⟨3, _⟩ => ⟨S_, .f32⟩
  | .hbm, ⟨4, _⟩ => ⟨S2816x1024, .f32⟩
  | .hbm, ⟨5, _⟩ => ⟨S16384x1024, .f32⟩
  | .hbm, ⟨6, _⟩ => ⟨S1024x2816, .f32⟩
  | .hbm, ⟨7, _⟩ => ⟨S2816x1024, .f32⟩
  | .hbm, ⟨8, _⟩ => ⟨S1x2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ret.lean ====
abbrev S16384x10240 : Shape := ⟨2, ![16384, 10240]⟩
abbrev S16384x128 : Shape := ⟨2, ![16384, 128]⟩
abbrev S16384x2048 : Shape := ⟨2, ![16384, 2048]⟩
abbrev S16384x1024 : Shape := ⟨2, ![16384, 1024]⟩
abbrev S16384x4x256 : Shape := ⟨3, ![16384, 4, 256]⟩
abbrev S16384x1x128 : Shape := ⟨3, ![16384, 1, 128]⟩
abbrev S16384x4x128 : Shape := ⟨3, ![16384, 4, 128]⟩
abbrev S256x64x4x256 : Shape := ⟨4, ![256, 64, 4, 256]⟩
abbrev S256x64x4x512 : Shape := ⟨4, ![256, 64, 4, 512]⟩
abbrev S4 : Shape := ⟨1, ![4]⟩
abbrev S_ : Shape := ⟨0, ![]⟩
abbrev S64 : Shape := ⟨1, ![64]⟩
abbrev S1x4 : Shape := ⟨2, ![1, 4]⟩
abbrev S64x1 : Shape := ⟨2, ![64, 1]⟩
abbrev S64x4 : Shape := ⟨2, ![64, 4]⟩
abbrev S64x4x1 : Shape := ⟨3, ![64, 4, 1]⟩
abbrev S1x64x4x1 : Shape := ⟨4, ![1, 64, 4, 1]⟩
abbrev S32 : Shape := ⟨1, ![32]⟩
abbrev S256 : Shape := ⟨1, ![256]⟩
abbrev S32x1 : Shape := ⟨2, ![32, 1]⟩
abbrev S1x256 : Shape := ⟨2, ![1, 256]⟩
abbrev S32x256 : Shape := ⟨2, ![32, 256]⟩
abbrev S1x32x256 : Shape := ⟨3, ![1, 32, 256]⟩
abbrev S4x1x1 : Shape := ⟨3, ![4, 1, 1]⟩
abbrev S4x32x256 : Shape := ⟨3, ![4, 32, 256]⟩
abbrev S4x32x256x1x1 : Shape := ⟨5, ![4, 32, 256, 1, 1]⟩
abbrev S4x256x64x256 : Shape := ⟨4, ![4, 256, 64, 256]⟩
abbrev S4x1x256x64x256 : Shape := ⟨5, ![4, 1, 256, 64, 256]⟩
abbrev S4x32x256x64x256 : Shape := ⟨5, ![4, 32, 256, 64, 256]⟩
abbrev S4x32x256x512 : Shape := ⟨4, ![4, 32, 256, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S4x512x512 : Shape := ⟨3, ![4, 512, 512]⟩
abbrev S4x1 : Shape := ⟨2, ![4, 1]⟩
abbrev S4x512 : Shape := ⟨2, ![4, 512]⟩
abbrev S4x512x1 : Shape := ⟨3, ![4, 512, 1]⟩
abbrev S512x256 : Shape := ⟨2, ![512, 256]⟩
abbrev S512x128 : Shape := ⟨2, ![512, 128]⟩
abbrev S1x512x1 : Shape := ⟨3, ![1, 512, 1]⟩
abbrev S1x1x1 : Shape := ⟨3, ![1, 1, 1]⟩
abbrev S1x1x256x512 : Shape := ⟨4, ![1, 1, 256, 512]⟩
abbrev S256x512 : Shape := ⟨2, ![256, 512]⟩
abbrev S1x1 : Shape := ⟨2, ![1, 1]⟩

abbrev nBuf : Space → Nat
  | .hbm => 175
  | .vmem => 29
  | .smem => 0
  | _ => 0

abbrev hbmTy0_0 (i : Nat) : BufTy := match i % 128 with
  | 0 => ⟨S16384x10240, .f32⟩
  | 1 => ⟨S16384x128, .f32⟩
  | 2 => ⟨S16384x128, .f32⟩
  | 3 => ⟨S16384x2048, .f32⟩
  | 4 => ⟨S16384x1024, .f32⟩
  | 5 => ⟨S16384x4x256, .f32⟩
  | 6 => ⟨S16384x1x128, .f32⟩
  | 7 => ⟨S16384x1x128, .f32⟩
  | 8 => ⟨S16384x4x128, .f32⟩
  | 9 => ⟨S16384x4x128, .f32⟩
  | 10 => ⟨S16384x4x128, .f32⟩
  | 11 => ⟨S16384x4x128, .f32⟩
  | 12 => ⟨S16384x4x128, .f32⟩
  | 13 => ⟨S16384x4x128, .f32⟩
  | 14 => ⟨S16384x4x128, .f32⟩
  | 15 => ⟨S16384x4x128, .f32⟩
  | 16 => ⟨S16384x4x128, .f32⟩
  | 17 => ⟨S16384x4x128, .f32⟩
  | 18 => ⟨S16384x4x128, .f32⟩
  | 19 => ⟨S16384x4x128, .f32⟩
  | 20 => ⟨S16384x4x256, .f32⟩
  | 21 => ⟨S256x64x4x256, .f32⟩
  | 22 => ⟨S16384x2048, .f32⟩
  | 23 => ⟨S256x64x4x512, .f32⟩
  | 24 => ⟨S4, .f32⟩
  | 25 => ⟨S_, .f32⟩
  | 26 => ⟨S4, .f32⟩
  | 27 => ⟨S4, .f32⟩
  | 28 => ⟨S_, .f32⟩
  | 29 => ⟨S4, .f32⟩
  | 30 => ⟨S4, .f32⟩
  | 31 => ⟨S_, .f32⟩
  | 32 => ⟨S4, .f32⟩
  | 33 => ⟨S4, .f32⟩
  | 34 => ⟨S4, .f32⟩
  | 35 => ⟨S64, .f32⟩
  | 36 => ⟨S1x4, .f32⟩
  | 37 => ⟨S64x1, .f32⟩
  | 38 => ⟨S_, .f32⟩
  | 39 => ⟨S64x1, .f32⟩
  | 40 => ⟨S64x1, .f32⟩
  | 41 => ⟨S64x4, .f32⟩
  | 42 => ⟨S64x4, .f32⟩
  | 43 => ⟨S64x4, .f32⟩
  | 44 => ⟨S64x4, .f32⟩
  | 45 => ⟨S64x4x1, .f32⟩
  | 46 => ⟨S1x64x4x1, .f32⟩
  | 47 => ⟨S256x64x4x256, .f32⟩
  | 48 => ⟨S256x64x4x256, .f32⟩
  | 49 => ⟨S32, .f32⟩
  | 50 => ⟨S_, .f32⟩
  | 51 => ⟨S32, .f32⟩
  | 52 => ⟨S32, .f32⟩
  | 53 => ⟨S256, .f32⟩
  | 54 => ⟨S32x1, .f32⟩
  | 55 => ⟨S1x256, .f32⟩
  | 56 => ⟨S32x256, .f32⟩
  | 57 => ⟨S32x256, .f32⟩
  | 58 => ⟨S32x256, .f32⟩
  | 59 => ⟨S_, .f32⟩
  | 60 => ⟨S32x256, .f32⟩
  | 61 => ⟨S32x256, .f32⟩
  | 62 => ⟨S_, .f32⟩
  | 63 => ⟨S32x256, .f32⟩
  | 64 => ⟨S32x256, .f32⟩
  | 65 => ⟨S1x256, .f32⟩
  | 66 => ⟨S32x1, .f32⟩
  | 67 => ⟨S32x256, .f32⟩
  | 68 => ⟨S32x256, .f32⟩
  | 69 => ⟨S32x256, .i1⟩
  | 70 => ⟨S1x32x256, .i1⟩
  | 71 => ⟨S4x1x1, .f32⟩
  | 72 => ⟨S_, .f32⟩
  | 73 => ⟨S32x256, .f32⟩
  | 74 => ⟨S32x256, .f32⟩
  | 75 => ⟨S1x32x256, .f32⟩
  | 76 => ⟨S4x32x256, .f32⟩
  | 77 => ⟨S4x32x256, .f32⟩
  | 78 => ⟨S4x32x256, .f32⟩
  | 79 => ⟨S4x32x256, .f32⟩
  | 80 => ⟨S_, .f32⟩
  | 81 => ⟨S_, .f32⟩
  | 82 => ⟨S4x32x256, .i1⟩
  | 83 => ⟨S4x32x256, .f32⟩
  | 84 => ⟨S4x32x256, .f32⟩
  | 85 => ⟨S4x32x256x1x1, .f32⟩
  | 86 => ⟨S4x256x64x256, .f32⟩
  | 87 => ⟨S4x1x256x64x256, .f32⟩
  | 88 => ⟨S4x32x256x64x256, .f32⟩
  | 89 => ⟨S4x32x256x64x256, .f32⟩
  | 90 => ⟨S4x32x256x64x256, .f32⟩
  | 91 => ⟨S4x32x256x512, .f32⟩
  | 92 => ⟨S4x32x256x512, .bf16⟩
  | 93 => ⟨S4, .f32⟩
  | 94 => ⟨S_, .f32⟩
  | 95 => ⟨S4, .f32⟩
  | 96 => ⟨S4, .f32⟩
  | 97 => ⟨S_, .f32⟩
  | 98 => ⟨S4, .f32⟩
  | 99 => ⟨S4, .f32⟩
  | 100 => ⟨S_, .f32⟩
  | 101 => ⟨S4, .f32⟩
  | 102 => ⟨S4, .f32⟩
  | 103 => ⟨S4, .f32⟩
  | 104 => ⟨S512, .f32⟩
  | 105 => ⟨S512x1, .f32⟩
  | 106 => ⟨S1x512, .f32⟩
  | 107 => ⟨S512x512, .f32⟩
  | 108 => ⟨S512x512, .f32⟩
  | 109 => ⟨S512x512, .f32⟩
  | 110 => ⟨S512x512, .f32⟩
  | 111 => ⟨S512, .i32⟩
  | 112 => ⟨S_, .i32⟩
  | 113 => ⟨S_, .i32⟩
  | 114 => ⟨S512, .i32⟩
  | 115 => ⟨S512, .i32⟩
  | 116 => ⟨S512, .i32⟩
  | 117 => ⟨S_, .i32⟩
  | 118 => ⟨S512, .i32⟩
  | 119 => ⟨S512, .i1⟩
  | 120 => ⟨S512, .i32⟩
  | 121 => ⟨S512, .i32⟩
  | 122 => ⟨S_, .i32⟩
  | 123 => ⟨S512, .i32⟩
  | 124 => ⟨S512, .i1⟩
  | 125 => ⟨S512, .i1⟩
  | 126 => ⟨S_, .i32⟩
  | 127 => ⟨S512, .i32⟩
  | _ => ⟨S16384x10240, .f32⟩

abbrev hbmTy0_1 (i : Nat) : BufTy := match i % 128 with
  | 0 => ⟨S512, .i32⟩
  | 1 => ⟨S512, .i32⟩
  | 2 => ⟨S1x512, .i32⟩
  | 3 => ⟨S512x1, .i32⟩
  | 4 => ⟨S512x512, .i32⟩
  | 5 => ⟨S512x512, .i32⟩
  | 6 => ⟨S512x512, .i1⟩
  | 7 => ⟨S1x512x512, .i1⟩
  | 8 => ⟨S4x1x1, .f32⟩
  | 9 => ⟨S1x512x512, .f32⟩
  | 10 => ⟨S4x512x512, .f32⟩
  | 11 => ⟨S4x512x512, .f32⟩
  | 12 => ⟨S4x512x512, .f32⟩
  | 13 => ⟨S4x512x512, .f32⟩
  | 14 => ⟨S_, .f32⟩
  | 15 => ⟨S_, .f32⟩
  | 16 => ⟨S4x512x512, .i1⟩
  | 17 => ⟨S4x512x512, .f32⟩
  | 18 => ⟨S4x512x512, .f32⟩
  | 19 => ⟨S4x1, .f32⟩
  | 20 => ⟨S1x512, .f32⟩
  | 21 => ⟨S_, .f32⟩
  | 22 => ⟨S1x512, .f32⟩
  | 23 => ⟨S1x512, .f32⟩
  | 24 => ⟨S4x512, .f32⟩
  | 25 => ⟨S4x512, .f32⟩
  | 26 => ⟨S4x512, .f32⟩
  | 27 => ⟨S4x512, .f32⟩
  | 28 => ⟨S4x512x1, .f32⟩
  | 29 => ⟨S4x1, .f32⟩
  | 30 => ⟨S1x512, .f32⟩
  | 31 => ⟨S_, .f32⟩
  | 32 => ⟨S1x512, .f32⟩
  | 33 => ⟨S1x512, .f32⟩
  | 34 => ⟨S4x512, .f32⟩
  | 35 => ⟨S4x512, .f32⟩
  | 36 => ⟨S4x512, .f32⟩
  | 37 => ⟨S4x512, .f32⟩
  | 38 => ⟨S4x512x1, .f32⟩
  | 39 => ⟨S_, .f32⟩
  | 40 => ⟨S4, .f32⟩
  | 41 => ⟨S4, .f32⟩
  | 42 => ⟨S4, .f32⟩
  | 43 => ⟨S4x1x1, .f32⟩
  | 44 => ⟨S16384x1024, .bf16⟩
  | 45 => ⟨S16384x1024, .bf16⟩
  | 46 => ⟨S16384x2048, .bf16⟩
  | _ => ⟨S16384x10240, .f32⟩

abbrev hbmTy (i : Nat) : BufTy := match i / 128 with
  | 0 => hbmTy0_0 i
  | 1 => hbmTy0_1 i
  | _ => ⟨S16384x10240, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x512, .f32⟩
  | .local _ .vmem, ⟨11, _⟩ => ⟨S1x512x512, .f32⟩
  | .local _ .vmem, ⟨12, _⟩ => ⟨S1x512x1, .f32⟩
  | .local _ .vmem, ⟨13, _⟩ => ⟨S1x512x1, .f32⟩
  | .local _ .vmem, ⟨14, _⟩ => ⟨S1x512x1, .f32⟩
  | .local _ .vmem, ⟨15, _⟩ => ⟨S1x512x1, .f32⟩
  | .local _ .vmem, ⟨16, _⟩ => ⟨S1x1x1, .f32⟩
  | .local _ .vmem, ⟨17, _⟩ => ⟨S1x1x1, .f32⟩
  | .local _ .vmem, ⟨18, _⟩ => ⟨S1x1x256x512, .bf16⟩
  | .local _ .vmem, ⟨19, _⟩ => ⟨S1x1x256x512, .bf16⟩
  | .local _ .vmem, ⟨20, _⟩ => ⟨S512x512, .f32⟩
  | .local _ .vmem, ⟨21, _⟩ => ⟨S512x512, .f32⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x512, .bf16⟩
  | .local _ .vmem, ⟨27, _⟩ => ⟨S512x512, .bf16⟩
  | .local _ .vmem, ⟨28, _⟩ => ⟨S256x512, .f32⟩
  | _, _ => ⟨S16384x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_v51 : Ref sig .tc := ⟨.hbm, 61, rfl⟩
abbrev main_cst_5 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_6 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_7 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_8 : Ref sig .tc := ⟨.hbm, 94, rfl⟩
abbrev main_v78 : Ref sig .tc := ⟨.hbm, 95, rfl⟩
abbrev main_v79 : Ref sig .tc := ⟨.hbm, 96, rfl⟩
abbrev main_cst_9 : Ref sig .tc := ⟨.hbm, 97, rfl⟩
abbrev main_v80 : Ref sig .tc := ⟨.hbm, 98, rfl⟩
abbrev main_v81 : Ref sig .tc := ⟨.hbm, 99, rfl⟩
abbrev main_cst_10 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_c : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_v8 : Ref sig .tc := ⟨.hbm, 121, rfl⟩
abbrev main_call1_c : Ref sig .tc := ⟨.hbm, 122, rfl⟩
abbrev main_call1_v9 : Ref sig .tc := ⟨.hbm, 123, rfl⟩
abbrev main_call1_v10 : Ref sig .tc := ⟨.hbm, 124, rfl⟩
abbrev main_call1_v11 : Ref sig .tc := ⟨.hbm, 125, rfl⟩
abbrev main_call1_c_0 : Ref sig .tc := ⟨.hbm, 126, rfl⟩
abbrev main_call1_v12 : Ref sig .tc := ⟨.hbm, 127, rfl⟩
abbrev main_call1_v13 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_11 : Ref sig .tc := ⟨.hbm, 142, rfl⟩
abbrev main_call2_v0 : Ref sig .tc := ⟨.hbm, 143, rfl⟩
abbrev main_call2_v1 : Ref sig .tc := ⟨.hbm, 144, rfl⟩
abbrev main_call2_v2 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_12 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_13 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_14 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129_0 : Ref sig .tc := ⟨.hbm, 172, rfl⟩
abbrev main_v129_1 : Ref sig .tc := ⟨.hbm, 173, rfl⟩
abbrev main_v129_2 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c4_i32 : BitVec 32 := 4#32
  let v1 : BitVec 32 := Scalar.addi c4_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c4_i32 : BitVec 32 := 4#32
  let v1 : BitVec 32 := Scalar.addi c4_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== RetReferenceIdeal.lean ====
abbrev S16384x10240 : Shape := ⟨2, ![16384, 10240]⟩
abbrev S16384x128 : Shape := ⟨2, ![16384, 128]⟩
abbrev S16384x2048 : Shape := ⟨2, ![16384, 2048]⟩
abbrev S16384x1024 : Shape := ⟨2, ![16384, 1024]⟩
abbrev S16384x1x128 : Shape := ⟨3, ![16384, 1, 128]⟩
abbrev S16384x4x256 : Shape := ⟨3, ![16384, 4, 256]⟩
abbrev S16384x4x128 : Shape := ⟨3, ![16384, 4, 128]⟩
abbrev S_ : Shape := ⟨0, ![]⟩
abbrev S16384x4x512 : Shape := ⟨3, ![16384, 4, 512]⟩
abbrev S256x64x4x256 : Shape := ⟨4, ![256, 64, 4, 256]⟩
abbrev S256x64x4x512 : Shape := ⟨4, ![256, 64, 4, 512]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S1x4 : Shape := ⟨2, ![1, 4]⟩
abbrev S64x4 : Shape := ⟨2, ![64, 4]⟩
abbrev S256x4x64x64 : Shape := ⟨4, ![256, 4, 64, 64]⟩
abbrev S1x4x64x64 : Shape := ⟨4, ![1, 4, 64, 64]⟩
abbrev S256x4x512x64 : Shape := ⟨4, ![256, 4, 512, 64]⟩
abbrev S64x4x1 : Shape := ⟨3, ![64, 4, 1]⟩
abbrev S1x64x4x1 : Shape := ⟨4, ![1, 64, 4, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x256x256 : Shape := ⟨3, ![4, 256, 256]⟩
abbrev S256x4x256x512 : Shape := ⟨4, ![256, 4, 256, 512]⟩
abbrev S4x256x512x256 : Shape := ⟨4, ![4, 256, 512, 256]⟩
abbrev S256x4x64x256 : Shape := ⟨4, ![256, 4, 64, 256]⟩
abbrev S256x4x512x256 : Shape := ⟨4, ![256, 4, 512, 256]⟩
abbrev S256x4x256x64 : Shape := ⟨4, ![256, 4, 256, 64]⟩

abbrev nBuf : Space → Nat
  | .hbm => 219
  | .vmem => 0
  | .smem => 0
  | _ => 0

abbrev hbmTy0_0 (i : Nat) : BufTy := match i % 128 with
  | 0 => ⟨S16384x10240, .f32⟩
  | 1 => ⟨S16384x128, .f32⟩
  | 2 => ⟨S16384x128, .f32⟩
  | 3 => ⟨S16384x2048, .f32⟩
  | 4 => ⟨S16384x1024, .f32⟩
  | 5 => ⟨S16384x1024, .f32⟩
  | 6 => ⟨S16384x2048, .f32⟩
  | 7 => ⟨S16384x1x128, .f32⟩
  | 8 => ⟨S16384x1x128, .f32⟩
  | 9 => ⟨S16384x4x256, .f32⟩
  | 10 => ⟨S16384x4x128, .f32⟩
  | 11 => ⟨S16384x4x128, .f32⟩
  | 12 => ⟨S16384x4x128, .f32⟩
  | 13 => ⟨S16384x4x128, .f32⟩
  | 14 => ⟨S16384x4x128, .f32⟩
  | 15 => ⟨S16384x4x128, .f32⟩
  | 16 => ⟨S16384x4x128, .f32⟩
  | 17 => ⟨S16384x4x128, .f32⟩
  | 18 => ⟨S16384x4x128, .f32⟩
  | 19 => ⟨S16384x4x128, .f32⟩
  | 20 => ⟨S16384x4x128, .f32⟩
  | 21 => ⟨S16384x4x128, .f32⟩
  | 22 => ⟨S16384x4x256, .f32⟩
  | 23 => ⟨S_, .f32⟩
  | 24 => ⟨S16384x4x256, .f32⟩
  | 25 => ⟨S16384x4x256, .f32⟩
  | 26 => ⟨S16384x4x256, .f32⟩
  | 27 => ⟨S16384x4x128, .f32⟩
  | 28 => ⟨S16384x4x128, .f32⟩
  | 29 => ⟨S16384x4x128, .f32⟩
  | 30 => ⟨S16384x4x128, .f32⟩
  | 31 => ⟨S16384x4x128, .f32⟩
  | 32 => ⟨S16384x4x128, .f32⟩
  | 33 => ⟨S16384x4x128, .f32⟩
  | 34 => ⟨S16384x4x128, .f32⟩
  | 35 => ⟨S16384x4x128, .f32⟩
  | 36 => ⟨S16384x4x128, .f32⟩
  | 37 => ⟨S16384x4x128, .f32⟩
  | 38 => ⟨S16384x4x128, .f32⟩
  | 39 => ⟨S16384x4x256, .f32⟩
  | 40 => ⟨S16384x4x512, .f32⟩
  | 41 => ⟨S256x64x4x256, .f32⟩
  | 42 => ⟨S256x64x4x256, .f32⟩
  | 43 => ⟨S256x64x4x512, .f32⟩
  | 44 => ⟨S4, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S_, .f32⟩
  | 52 => ⟨S4, .f32⟩
  | 53 => ⟨S4, .f32⟩
  | 54 => ⟨S4, .f32⟩
  | 55 => ⟨S64, .f32⟩
  | 56 => ⟨S64x1, .f32⟩
  | 57 => ⟨S1x64, .f32⟩
  | 58 => ⟨S64x64, .f32⟩
  | 59 => ⟨S64x64, .f32⟩
  | 60 => ⟨S64x64, .f32⟩
  | 61 => ⟨S64x64, .f32⟩
  | 62 => ⟨S4x1x1, .f32⟩
  | 63 => ⟨S1x64x64, .f32⟩
  | 64 => ⟨S4x64x64, .f32⟩
  | 65 => ⟨S4x64x64, .f32⟩
  | 66 => ⟨S4x64x64, .f32⟩
  | 67 => ⟨S4x64x64, .f32⟩
  | 68 => ⟨S1x4, .f32⟩
  | 69 => ⟨S64x1, .f32⟩
  | 70 => ⟨S_, .f32⟩
  | 71 => ⟨S64x1, .f32⟩
  | 72 => ⟨S64x1, .f32⟩
  | 73 => ⟨S64x4, .f32⟩
  | 74 => ⟨S64x4, .f32⟩
  | 75 => ⟨S64x4, .f32⟩
  | 76 => ⟨S64x4, .f32⟩
  | 77 => ⟨S1x4, .f32⟩
  | 78 => ⟨S64x1, .f32⟩
  | 79 => ⟨S_, .f32⟩
  | 80 => ⟨S64x1, .f32⟩
  | 81 => ⟨S64x1, .f32⟩
  | 82 => ⟨S64x4, .f32⟩
  | 83 => ⟨S64x4, .f32⟩
  | 84 => ⟨S64x4, .f32⟩
  | 85 => ⟨S64x4, .f32⟩
  | 86 => ⟨S256x4x64x64, .f32⟩
  | 87 => ⟨S1x4x64x64, .f32⟩
  | 88 => ⟨S256x4x64x64, .f32⟩
  | 89 => ⟨S256x4x64x64, .f32⟩
  | 90 => ⟨S256x4x512x64, .f32⟩
  | 91 => ⟨S256x64x4x512, .f32⟩
  | 92 => ⟨S64x4x1, .f32⟩
  | 93 => ⟨S1x64x4x1, .f32⟩
  | 94 => ⟨S256x64x4x256, .f32⟩
  | 95 => ⟨S256x64x4x256, .f32⟩
  | 96 => ⟨S256, .f32⟩
  | 97 => ⟨S256x1, .f32⟩
  | 98 => ⟨S1x256, .f32⟩
  | 99 => ⟨S256x256, .f32⟩
  | 100 => ⟨S256x256, .f32⟩
  | 101 => ⟨S256x256, .f32⟩
  | 102 => ⟨S_, .f32⟩
  | 103 => ⟨S256x256, .f32⟩
  | 104 => ⟨S256x256, .f32⟩
  | 105 => ⟨S_, .f32⟩
  | 106 => ⟨S256x256, .f32⟩
  | 107 => ⟨S256x256, .f32⟩
  | 108 => ⟨S1x256, .f32⟩
  | 109 => ⟨S256x1, .f32⟩
  | 110 => ⟨S256x256, .f32⟩
  | 111 => ⟨S256x256, .f32⟩
  | 112 => ⟨S256x256, .i1⟩
  | 113 => ⟨S1x256x256, .i1⟩
  | 114 => ⟨S4x1x1, .f32⟩
  | 115 => ⟨S_, .f32⟩
  | 116 => ⟨S256x256, .f32⟩
  | 117 => ⟨S256x256, .f32⟩
  | 118 => ⟨S1x256x256, .f32⟩
  | 119 => ⟨S4x256x256, .f32⟩
  | 120 => ⟨S4x256x256, .f32⟩
  | 121 => ⟨S4x256x256, .f32⟩
  | 122 => ⟨S4x256x256, .f32⟩
  | 123 => ⟨S_, .f32⟩
  | 124 => ⟨S_, .f32⟩
  | 125 => ⟨S4x256x256, .i1⟩
  | 126 => ⟨S4x256x256, .f32⟩
  | 127 => ⟨S4x256x256, .f32⟩
  | _ => ⟨S16384x10240, .f32⟩

abbrev hbmTy0_1 (i : Nat) : BufTy := match i % 128 with
  | 0 => ⟨S256x4x256x512, .f32⟩
  | 1 => ⟨S4x256x512x256, .f32⟩
  | 2 => ⟨S256x4x256x512, .f32⟩
  | 3 => ⟨S256x4x512x64, .f32⟩
  | 4 => ⟨S256x64x4x512, .f32⟩
  | 5 => ⟨S64x4x1, .f32⟩
  | 6 => ⟨S1x64x4x1, .f32⟩
  | 7 => ⟨S256x64x4x512, .f32⟩
  | 8 => ⟨S256x64x4x512, .f32⟩
  | 9 => ⟨S256x64x4x512, .f32⟩
  | 10 => ⟨S16384x4x512, .f32⟩
  | 11 => ⟨S16384x2048, .f32⟩
  | 12 => ⟨S16384x4x512, .f32⟩
  | 13 => ⟨S256x64x4x512, .f32⟩
  | 14 => ⟨S256x64x4x512, .f32⟩
  | 15 => ⟨S256x64x4x512, .f32⟩
  | 16 => ⟨S256x4x512x64, .f32⟩
  | 17 => ⟨S256x4x64x256, .f32⟩
  | 18 => ⟨S256x64x4x256, .f32⟩
  | 19 => ⟨S256x4x512x256, .f32⟩
  | 20 => ⟨S256x4x256x512, .f32⟩
  | 21 => ⟨S4x256x512x256, .f32⟩
  | 22 => ⟨S4x256x512x256, .f32⟩
  | 23 => ⟨S256x4x256x512, .f32⟩
  | 24 => ⟨S256x4x512x64, .f32⟩
  | 25 => ⟨S256x64x4x512, .f32⟩
  | 26 => ⟨S256x4x256x64, .f32⟩
  | 27 => ⟨S256x64x4x256, .f32⟩
  | 28 => ⟨S256x64x4x256, .f32⟩
  | 29 => ⟨S256x64x4x256, .f32⟩
  | 30 => ⟨S256x4x512x64, .f32⟩
  | 31 => ⟨S256x4x64x64, .f32⟩
  | 32 => ⟨S256x4x512x64, .f32⟩
  | 33 => ⟨S256x64x4x512, .f32⟩
  | 34 => ⟨S256x64x4x512, .f32⟩
  | 35 => ⟨S256x4x64x64, .f32⟩
  | 36 => ⟨S256x4x64x64, .f32⟩
  | 37 => ⟨S256x4x64x256, .f32⟩
  | 38 => ⟨S256x64x4x256, .f32⟩
  | 39 => ⟨S256x64x4x256, .f32⟩
  | 40 => ⟨S256x4x64x256, .f32⟩
  | 41 => ⟨S256x64x4x256, .f32⟩
  | 42 => ⟨S256x64x4x256, .f32⟩
  | 43 => ⟨S16384x4x512, .f32⟩
  | 44 => ⟨S16384x4x256, .f32⟩
  | 45 => ⟨S16384x4x256, .f32⟩
  | 46 => ⟨S16384x2048, .f32⟩
  | 47 => ⟨S16384x4x128, .f32⟩
  | 48 => ⟨S16384x4x128, .f32⟩
  | 49 => ⟨S16384x4x128, .f32⟩
  | 50 => ⟨S16384x4x128, .f32⟩
  | 51 => ⟨S16384x4x128, .f32⟩
  | 52 => ⟨S16384x4x128, .f32⟩
  | 53 => ⟨S16384x4x128, .f32⟩
  | 54 => ⟨S16384x4x128, .f32⟩
  | 55 => ⟨S16384x4x128, .f32⟩
  | 56 => ⟨S16384x4x128, .f32⟩
  | 57 => ⟨S16384x4x128, .f32⟩
  | 58 => ⟨S16384x4x128, .f32⟩
  | 59 => ⟨S16384x4x128, .f32⟩
  | 60 => ⟨S_, .f32⟩
  | 61 => ⟨S16384x4x256, .f32⟩
  | 62 => ⟨S_, .f32⟩
  | 63 => ⟨S16384x4x256, .f32⟩
  | 64 => ⟨S16384x4x256, .f32⟩
  | 65 => ⟨S16384x1024, .f32⟩
  | 66 => ⟨S_, .f32⟩
  | 67 => ⟨S16384x4x256, .f32⟩
  | 68 => ⟨S16384x4x256, .f32⟩
  | 69 => ⟨S16384x4x128, .f32⟩
  | 70 => ⟨S16384x4x128, .f32⟩
  | 71 => ⟨S16384x4x128, .f32⟩
  | 72 => ⟨S16384x4x128, .f32⟩
  | 73 => ⟨S16384x4x128, .f32⟩
  | 74 => ⟨S16384x4x128, .f32⟩
  | 75 => ⟨S16384x4x128, .f32⟩
  | 76 => ⟨S16384x4x128, .f32⟩
  | 77 => ⟨S16384x4x128, .f32⟩
  | 78 => ⟨S16384x4x128, .f32⟩
  | 79 => ⟨S16384x4x128, .f32⟩
  | 80 => ⟨S16384x4x128, .f32⟩
  | 81 => ⟨S16384x4x128, .f32⟩
  | 82 => ⟨S_, .f32⟩
  | 83 => ⟨S16384x4x256, .f32⟩
  | 84 => ⟨S_, .f32⟩
  | 85 => ⟨S16384x4x256, .f32⟩
  | 86 => ⟨S16384x4x256, .f32⟩
  | 87 => ⟨S16384x1024, .f32⟩
  | 88 => ⟨S16384x1024, .bf16⟩
  | 89 => ⟨S16384x1024, .bf16⟩
  | 90 => ⟨S16384x2048, .bf16⟩
  | _ => ⟨S16384x10240, .f32⟩

abbrev hbmTy (i : Nat) : BufTy := match i / 128 with
  | 0 => hbmTy0_0 i
  | 1 => hbmTy0_1 i
  | _ => ⟨S16384x10240, .f32⟩

abbrev bufTy : (tb : Table) → Fin (tcTables nBuf tb) → BufTy
  | .hbm, ⟨i, _⟩ => hbmTy i
  | _, _ => ⟨S16384x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_0 : Ref sig .tc := ⟨.hbm, 45, rfl⟩
abbrev main_v40 : Ref sig .tc := ⟨.hbm, 46, rfl⟩
abbrev main_v41 : Ref sig .tc := ⟨.hbm, 47, rfl⟩
abbrev main_cst_1 : Ref sig .tc := ⟨.hbm, 48, rfl⟩
abbrev main_v42 : Ref sig .tc := ⟨.hbm, 49, rfl⟩
abbrev main_v43 : Ref sig .tc := ⟨.hbm, 50, rfl⟩
abbrev main_cst_2 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_3 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_cst_4 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_cst_5 : Ref sig .tc := ⟨.hbm, 102, rfl⟩
abbrev main_v92 : Ref sig .tc := ⟨.hbm, 103, rfl⟩
abbrev main_v93 : Ref sig .tc := ⟨.hbm, 104, rfl⟩
abbrev main_cst_6 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_cst_7 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_cst_8 : Ref sig .tc := ⟨.hbm, 123, rfl⟩
abbrev main_call0_v0 : Ref sig .tc := ⟨.hbm, 124, rfl⟩
abbrev main_call0_v1 : Ref sig .tc := ⟨.hbm, 125, rfl⟩
abbrev main_call0_v2 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_cst_9 : Ref sig .tc := ⟨.hbm, 188, rfl⟩
abbrev main_v171 : Ref sig .tc := ⟨.hbm, 189, rfl⟩
abbrev main_cst_10 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_cst_11 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_cst_12 : Ref sig .tc := ⟨.hbm, 210, rfl⟩
abbrev main_v190 : Ref sig .tc := ⟨.hbm, 211, rfl⟩
abbrev main_cst_13 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩

abbrev nD : Nat := 1
abbrev τ : Topo := Topo.v7x

variable {F : FTy → Type} [FloatOps F]
-- ==== Up.lean ====
abbrev S16384x1024 : Shape := ⟨2, ![16384, 1024]⟩
abbrev S4x1024x5632 : Shape := ⟨3, ![4, 1024, 5632]⟩
abbrev S4x1024x4x1408 : Shape := ⟨4, ![4, 1024, 4, 1408]⟩
abbrev S4x4x1024x1408 : Shape := ⟨4, ![4, 4, 1024, 1408]⟩
abbrev S16384x5632 : Shape := ⟨2, ![16384, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S4x1024x5632, .f32⟩
  | .hbm, ⟨2, _⟩ => ⟨S4x1024x5632, .bf16⟩
  | .hbm, ⟨3, _⟩ => ⟨S4x1024x4x1408, .bf16⟩
  | .hbm, ⟨4, _⟩ => ⟨S4x4x1024x1408, .bf16⟩
  | .hbm, ⟨5, _⟩ => ⟨S16384x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .f32⟩
  | .local _ .vmem, ⟨5, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S16384x1024 : Shape := ⟨2, ![16384, 1024]⟩
abbrev S4x1024x5632 : Shape := ⟨3, ![4, 1024, 5632]⟩
abbrev S1x1024x5632 : Shape := ⟨3, ![1, 1024, 5632]⟩
abbrev S1024x5632 : Shape := ⟨2, ![1024, 5632]⟩
abbrev S16384x5632 : Shape := ⟨2, ![16384, 5632]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x1024x5632, .f32⟩
  | .hbm, ⟨2, _⟩ => ⟨S16384x1024, .f32⟩
  | .hbm, ⟨3, _⟩ => ⟨S1x1024x5632, .f32⟩
  | .hbm, ⟨4, _⟩ => ⟨S1024x5632, .f32⟩
  | .hbm, ⟨5, _⟩ => ⟨S16384x5632, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S16384x2816 : Shape := ⟨2, ![16384, 2816]⟩
abbrev S4x2816x1024 : Shape := ⟨3, ![4, 2816, 1024]⟩
abbrev S16384x1024 : Shape := ⟨2, ![16384, 1024]⟩
abbrev S1024 : Shape := ⟨1, ![1024]⟩
abbrev S4x4x704x1024 : Shape := ⟨4, ![4, 4, 704, 1024]⟩
abbrev S1x1024 : Shape := ⟨2, ![1, 1024]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2816, .bf16⟩
  | .hbm, ⟨1, _⟩ => ⟨S4x2816x1024, .f32⟩
  | .hbm, ⟨2, _⟩ => ⟨S16384x1024, .f32⟩
  | .hbm, ⟨3, _⟩ => ⟨S1024, .f32⟩
  | .hbm, ⟨4, _⟩ => ⟨S4x2816x1024, .bf16⟩
  | .hbm, ⟨5, _⟩ => ⟨S4x4x704x1024, .bf16⟩
  | .hbm, ⟨6, _⟩ => ⟨S1x1024, .f32⟩
  | .hbm, ⟨7, _⟩ => ⟨S4x2816x1024, .bf16⟩
  | .hbm, ⟨8, _⟩ => ⟨S16384x1024, .f32⟩
  | .hbm, ⟨9, _⟩ => ⟨S16384x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let c1_i32 : BitVec 32 := 1#32
  let v8 : BitVec 1 := Scalar.cmpi .slt arg2 c1_i32
  let v9 : BitVec 1 := Scalar.andi v7 v8
  let v10 : BitVec 32 := Scalar.extui v9
  let c0_i32_6 : BitVec 32 := 0#32
  let v11 : BitVec 1 := Scalar.cmpi .ne v10 c0_i32_6
  v11

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownReferenceIdeal.lean ====
abbrev S16384x2816 : Shape := ⟨2, ![16384, 2816]⟩
abbrev S4x2816x1024 : Shape := ⟨3, ![4, 2816, 1024]⟩
abbrev S16384x1024 : Shape := ⟨2, ![16384, 1024]⟩
abbrev S1024 : Shape := ⟨1, ![1024]⟩
abbrev S1x2816x1024 : Shape := ⟨3, ![1, 2816, 1024]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S4x2816x1024, .f32⟩
  | .hbm, ⟨2, _⟩ => ⟨S16384x1024, .f32⟩
  | .hbm, ⟨3, _⟩ => ⟨S1024, .f32⟩
  | .hbm, ⟨4, _⟩ => ⟨S16384x2816, .f32⟩
  | .hbm, ⟨5, _⟩ => ⟨S1x2816x1024, .f32⟩
  | .hbm, ⟨6, _⟩ => ⟨S2816x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== RetOut.lean ====
abbrev S16384x2048 : Shape := ⟨2, ![16384, 2048]⟩
abbrev S4x2048x1024 : Shape := ⟨3, ![4, 2048, 1024]⟩
abbrev S4x4x512x1024 : Shape := ⟨4, ![4, 4, 512, 1024]⟩
abbrev S16384x1024 : Shape := ⟨2, ![16384, 1024]⟩
abbrev S1024x1024 : Shape := ⟨2, ![1024, 1024]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S4x2048x1024, .f32⟩
  | .hbm, ⟨2, _⟩ => ⟨S4x2048x1024, .bf16⟩
  | .hbm, ⟨3, _⟩ => ⟨S4x4x512x1024, .bf16⟩
  | .hbm, ⟨4, _⟩ => ⟨S4x2048x1024, .bf16⟩
  | .hbm, ⟨5, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let c1_i32 : BitVec 32 := 1#32
  let v8 : BitVec 1 := Scalar.cmpi .slt arg2 c1_i32
  let v9 : BitVec 1 := Scalar.andi v7 v8
  let v10 : BitVec 32 := Scalar.extui v9
  let c0_i32_6 : BitVec 32 := 0#32
  let v11 : BitVec 1 := Scalar.cmpi .ne v10 c0_i32_6
  v11

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetOutReferenceIdeal.lean ====
abbrev S16384x2048 : Shape := ⟨2, ![16384, 2048]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x1024, .f32⟩
  | .hbm, ⟨2, _⟩ => ⟨S16384x2048, .f32⟩
  | .hbm, ⟨3, _⟩ => ⟨S1x2048x1024, .f32⟩
  | .hbm, ⟨4, _⟩ => ⟨S2048x1024, .f32⟩
  | .hbm, ⟨5, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RetOutDx.lean ====
abbrev S16384x1024 : Shape := ⟨2, ![16384, 1024]⟩
abbrev S4x2048x1024 : Shape := ⟨3, ![4, 2048, 1024]⟩
abbrev S4x4x512x1024 : Shape := ⟨4, ![4, 4, 512, 1024]⟩
abbrev S16384x2048 : Shape := ⟨2, ![16384, 2048]⟩
abbrev S1024x1024 : Shape := ⟨2, ![1024, 1024]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S4x2048x1024, .f32⟩
  | .hbm, ⟨2, _⟩ => ⟨S4x2048x1024, .bf16⟩
  | .hbm, ⟨3, _⟩ => ⟨S4x4x512x1024, .bf16⟩
  | .hbm, ⟨4, _⟩ => ⟨S4x2048x1024, .bf16⟩
  | .hbm, ⟨5, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetOutDxReferenceIdeal.lean ====
abbrev S16384x1024 : Shape := ⟨2, ![16384, 1024]⟩
abbrev S4x2048x1024 : Shape := ⟨3, ![4, 2048, 1024]⟩
abbrev S_ : Shape := ⟨0, ![]⟩
abbrev S16384x2048 : Shape := ⟨2, ![16384, 2048]⟩
abbrev S1x2048x1024 : Shape := ⟨3, ![1, 2048, 1024]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x2048x1024, .f32⟩
  | .hbm, ⟨2, _⟩ => ⟨S_, .f32⟩
  | .hbm, ⟨3, _⟩ => ⟨S16384x2048, .f32⟩
  | .hbm, ⟨4, _⟩ => ⟨S1x2048x1024, .f32⟩
  | .hbm, ⟨5, _⟩ => ⟨S2048x1024, .f32⟩
  | .hbm, ⟨6, _⟩ => ⟨S16384x1024, .f32⟩
  | .hbm, ⟨7, _⟩ => ⟨S16384x1024, .f32⟩
  | .hbm, ⟨8, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RetOutDw.lean ====
abbrev S16384x2048 : Shape := ⟨2, ![16384, 2048]⟩
abbrev S16384x1024 : Shape := ⟨2, ![16384, 1024]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S1x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetOutDwReferenceIdeal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩
abbrev S1x2048x1024 : Shape := ⟨3, ![1, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x2048, .f32⟩
  | .hbm, ⟨3, _⟩ => ⟨S_, .f32⟩
  | .hbm, ⟨4, _⟩ => ⟨S2048x1024, .f32⟩
  | .hbm, ⟨5, _⟩ => ⟨S16384x1024, .f32⟩
  | .hbm, ⟨6, _⟩ => ⟨S16384x1024, .f32⟩
  | .hbm, ⟨7, _⟩ => ⟨S1024x2048, .f32⟩
  | .hbm, ⟨8, _⟩ => ⟨S2048x1024, .f32⟩
  | .hbm, ⟨9, _⟩ => ⟨S1x2048x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== XoDx.lean ====
abbrev S16384x1024 : Shape := ⟨2, ![16384, 1024]⟩
abbrev S4x1024x1024 : Shape := ⟨3, ![4, 1024, 1024]⟩
abbrev S4x4x256x1024 : Shape := ⟨4, ![4, 4, 256, 1024]⟩
abbrev S1024x1024 : Shape := ⟨2, ![1024, 1024]⟩
abbrev S1x1024x1024 : Shape := ⟨3, ![1, 1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S4x1024x1024, .f32⟩
  | .hbm, ⟨2, _⟩ => ⟨S4x1024x1024, .bf16⟩
  | .hbm, ⟨3, _⟩ => ⟨S4x4x256x1024, .bf16⟩
  | .hbm, ⟨4, _⟩ => ⟨S4x1024x1024, .bf16⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XoDxReferenceIdeal.lean ====
abbrev S16384x1024 : Shape := ⟨2, ![16384, 1024]⟩
abbrev S4x1024x1024 : Shape := ⟨3, ![4, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x1024, .f32⟩
  | .hbm, ⟨2, _⟩ => ⟨S_, .f32⟩
  | .hbm, ⟨3, _⟩ => ⟨S16384x1024, .f32⟩
  | .hbm, ⟨4, _⟩ => ⟨S1x1024x1024, .f32⟩
  | .hbm, ⟨5, _⟩ => ⟨S1024x1024, .f32⟩
  | .hbm, ⟨6, _⟩ => ⟨S16384x1024, .f32⟩
  | .hbm, ⟨7, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XoDw.lean ====
abbrev S16384x1024 : Shape := ⟨2, ![16384, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XoDwReferenceIdeal.lean ====
abbrev S16384x1024 : Shape := ⟨2, ![16384, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XqDw.lean ====
abbrev S16384x1024 : Shape := ⟨2, ![16384, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XqDwReferenceIdeal.lean ====
abbrev S16384x1024 : Shape := ⟨2, ![16384, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Xq.lean ====
abbrev S16384x1024 : Shape := ⟨2, ![16384, 1024]⟩
abbrev S4x1024x1024 : Shape := ⟨3, ![4, 1024, 1024]⟩
abbrev S4x4x256x1024 : Shape := ⟨4, ![4, 4, 256, 1024]⟩
abbrev S1024x1024 : Shape := ⟨2, ![1024, 1024]⟩
abbrev S1x1024x1024 : Shape := ⟨3, ![1, 1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S4x1024x1024, .f32⟩
  | .hbm, ⟨2, _⟩ => ⟨S4x1024x1024, .bf16⟩
  | .hbm, ⟨3, _⟩ => ⟨S4x4x256x1024, .bf16⟩
  | .hbm, ⟨4, _⟩ => ⟨S4x1024x1024, .bf16⟩
  | .hbm, ⟨5, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqReferenceIdeal.lean ====
abbrev S16384x1024 : Shape := ⟨2, ![16384, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x1024x1024, .f32⟩
  | .hbm, ⟨2, _⟩ => ⟨S16384x1024, .f32⟩
  | .hbm, ⟨3, _⟩ => ⟨S1x1024x1024, .f32⟩
  | .hbm, ⟨4, _⟩ => ⟨S1024x1024, .f32⟩
  | .hbm, ⟨5, _⟩ => ⟨S16384x1024, .f32⟩
  | .hbm, ⟨6, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ConvOut.lean ====
abbrev S16384x1024 : Shape := ⟨2, ![16384, 1024]⟩
abbrev S4x1024x1024 : Shape := ⟨3, ![4, 1024, 1024]⟩
abbrev S4x4x256x1024 : Shape := ⟨4, ![4, 4, 256, 1024]⟩
abbrev S1024x1024 : Shape := ⟨2, ![1024, 1024]⟩
abbrev S1x1024x1024 : Shape := ⟨3, ![1, 1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S4x1024x1024, .f32⟩
  | .hbm, ⟨2, _⟩ => ⟨S4x1024x1024, .bf16⟩
  | .hbm, ⟨3, _⟩ => ⟨S4x4x256x1024, .bf16⟩
  | .hbm, ⟨4, _⟩ => ⟨S4x1024x1024, .bf16⟩
  | .hbm, ⟨5, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvOutReferenceIdeal.lean ====
abbrev S16384x1024 : Shape := ⟨2, ![16384, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x1024x1024, .f32⟩
  | .hbm, ⟨2, _⟩ => ⟨S16384x1024, .f32⟩
  | .hbm, ⟨3, _⟩ => ⟨S1x1024x1024, .f32⟩
  | .hbm, ⟨4, _⟩ => ⟨S1024x1024, .f32⟩
  | .hbm, ⟨5, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateBwd.lean ====
abbrev S16384x10240 : Shape := ⟨2, ![16384, 10240]⟩
abbrev S2048 : Shape := ⟨1, ![2048]⟩
abbrev S16384x1024 : Shape := ⟨2, ![16384, 1024]⟩
abbrev S1024 : Shape := ⟨1, ![1024]⟩
abbrev S1x2048 : Shape := ⟨2, ![1, 2048]⟩
abbrev S1x1024 : Shape := ⟨2, ![1, 1024]⟩
abbrev S16384x2048 : Shape := ⟨2, ![16384, 2048]⟩
abbrev S256x2048 : Shape := ⟨2, ![256, 2048]⟩
abbrev S256x1024 : Shape := ⟨2, ![256, 1024]⟩

abbrev nBuf : Space → Nat
  | .hbm => 13
  | .vmem => 18
  | .smem => 0
  | _ => 0

abbrev bufTy : (tb : Table) → Fin (tcTables nBuf tb) → BufTy
  | .hbm, ⟨0, _⟩ => ⟨S16384x10240, .f32⟩
  | .hbm, ⟨1, _⟩ => ⟨S2048, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S1x2048, .f32⟩
  | .hbm, ⟨7, _⟩ => ⟨S1x1024, .f32⟩
  | .hbm, ⟨8, _⟩ => ⟨S16384x1024, .bf16⟩
  | .hbm, ⟨9, _⟩ => ⟨S16384x1024, .bf16⟩
  | .hbm, ⟨10, _⟩ => ⟨S16384x2048, .bf16⟩
  | .hbm, ⟨11, _⟩ => ⟨S1x2048, .f32⟩
  | .hbm, ⟨12, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x1024, .f32⟩
  | _, _ => ⟨S16384x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_21 : BitVec 32 := 0#32
  let v42 : BitVec 1 := Scalar.cmpi .ne v41 c0_i32_21
  v42

def k0_cond2 (i : grid0.Coords) : BitVec 1 :=
  let arg0 : BitVec 32 := BitVec.ofNat 32 (i 0).val
  let c0_i32_22 : BitVec 32 := 0#32
  let v43 : BitVec 1 := Scalar.cmpi .sgt arg0 c0_i32_22
  let v44 : BitVec 32 := Scalar.extui v43
  let c0_i32_23 : BitVec 32 := 0#32
  let v45 : BitVec 1 := Scalar.cmpi .ne v44 c0_i32_23
  v45

def k0_cond3 (i : grid0.Coords) : BitVec 1 :=
  let arg0 : BitVec 32 := BitVec.ofNat 32 (i 0).val
  let c0_i32_25 : BitVec 32 := 0#32
  let v48 : BitVec 1 := Scalar.cmpi .eq arg0 c0_i32_25
  let v49 : BitVec 32 := Scalar.extui v48
  let c0_i32_26 : BitVec 32 := 0#32
  let v50 : BitVec 1 := Scalar.cmpi .ne v49 c0_i32_26
  v50

def k0_cond4 (i : grid0.Coords) : BitVec 1 :=
  let arg0 : BitVec 32 := BitVec.ofNat 32 (i 0).val
  let c0_i32_27 : BitVec 32 := 0#32
  let v51 : BitVec 1 := Scalar.cmpi .sgt arg0 c0_i32_27
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GateBwdReferenceIdeal.lean ====
abbrev S16384x10240 : Shape := ⟨2, ![16384, 10240]⟩
abbrev S2048 : Shape := ⟨1, ![2048]⟩
abbrev S16384x1024 : Shape := ⟨2, ![16384, 1024]⟩
abbrev S1024 : Shape := ⟨1, ![1024]⟩
abbrev S16384x2048 : Shape := ⟨2, ![16384, 2048]⟩
abbrev S1x2048 : Shape := ⟨2, ![1, 2048]⟩
abbrev S_ : Shape := ⟨0, ![]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x10240, .f32⟩
  | .hbm, ⟨1, _⟩ => ⟨S2048, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S_, .f32⟩
  | .hbm, ⟨38, _⟩ => ⟨S1024, .f32⟩
  | .hbm, ⟨39, _⟩ => ⟨S16384x1024, .f32⟩
  | .hbm, ⟨40, _⟩ => ⟨S16384x1024, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S_, .f32⟩
  | .hbm, ⟨47, _⟩ => ⟨S2048, .f32⟩
  | .hbm, ⟨48, _⟩ => ⟨S16384x1024, .bf16⟩
  | .hbm, ⟨49, _⟩ => ⟨S16384x1024, .bf16⟩
  | .hbm, ⟨50, _⟩ => ⟨S16384x2048, .bf16⟩
  | .hbm, ⟨51, _⟩ => ⟨S1x2048, .f32⟩
  | .hbm, ⟨52, _⟩ => ⟨S1x1024, .f32⟩
  | _, _ => ⟨S16384x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== XqDx.lean ====
abbrev S16384x1024 : Shape := ⟨2, ![16384, 1024]⟩
abbrev S4x1024x1024 : Shape := ⟨3, ![4, 1024, 1024]⟩
abbrev S1024 : Shape := ⟨1, ![1024]⟩
abbrev S4x4x256x1024 : Shape := ⟨4, ![4, 4, 256, 1024]⟩
abbrev S1x1024 : Shape := ⟨2, ![1, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S4x1024x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S4x1024x1024, .bf16⟩
  | .hbm, ⟨6, _⟩ => ⟨S4x4x256x1024, .bf16⟩
  | .hbm, ⟨7, _⟩ => ⟨S1x1024, .f32⟩
  | .hbm, ⟨8, _⟩ => ⟨S4x1024x1024, .bf16⟩
  | .hbm, ⟨9, _⟩ => ⟨S16384x1024, .f32⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_18 : BitVec 32 := 0#32
  let v41 : BitVec 1 := Scalar.cmpi .ne v40 c0_i32_18
  v41

def k0_cond2 (i : grid0.Coords) : BitVec 1 :=
  let arg0 : BitVec 32 := BitVec.ofNat 32 (i 0).val
  let c0_i32_19 : BitVec 32 := 0#32
  let v42 : BitVec 1 := Scalar.cmpi .sgt arg0 c0_i32_19
  let v43 : BitVec 32 := Scalar.extui v42
  let c0_i32_20 : BitVec 32 := 0#32
  let v44 : BitVec 1 := Scalar.cmpi .ne v43 c0_i32_20
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== XqDxReferenceIdeal.lean ====
abbrev S16384x1024 : Shape := ⟨2, ![16384, 1024]⟩
abbrev S4x1024x1024 : Shape := ⟨3, ![4, 1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x1024x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1x1024x1024, .f32⟩
  | .hbm, ⟨26, _⟩ => ⟨S1024x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S1x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Xo.lean ====
abbrev S16384x1024 : Shape := ⟨2, ![16384, 1024]⟩
abbrev S4x1024x1024 : Shape := ⟨3, ![4, 1024, 1024]⟩
abbrev S1024 : Shape := ⟨1, ![1024]⟩
abbrev S4x4x256x1024 : Shape := ⟨4, ![4, 4, 256, 1024]⟩
abbrev S1x1024 : Shape := ⟨2, ![1, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S4x1024x1024, .f32⟩
  | .hbm, ⟨2, _⟩ => ⟨S16384x1024, .f32⟩
  | .hbm, ⟨3, _⟩ => ⟨S1024, .f32⟩
  | .hbm, ⟨4, _⟩ => ⟨S4x1024x1024, .bf16⟩
  | .hbm, ⟨5, _⟩ => ⟨S4x4x256x1024, .bf16⟩
  | .hbm, ⟨6, _⟩ => ⟨S1x1024, .f32⟩
  | .hbm, ⟨7, _⟩ => ⟨S4x1024x1024, .bf16⟩
  | .hbm, ⟨8, _⟩ => ⟨S16384x1024, .f32⟩
  | .hbm, ⟨9, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== XoReferenceIdeal.lean ====
abbrev S16384x1024 : Shape := ⟨2, ![16384, 1024]⟩
abbrev S4x1024x1024 : Shape := ⟨3, ![4, 1024, 1024]⟩
abbrev S1024 : Shape := ⟨1, ![1024]⟩
abbrev S1x1024x1024 : Shape := ⟨3, ![1, 1024, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x1024x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S1x1024x1024, .f32⟩
  | .hbm, ⟨6, _⟩ => ⟨S1024x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== AttnFwd.lean ====
abbrev S16384x1024 : Shape := ⟨2, ![16384, 1024]⟩
abbrev S256x2048 : Shape := ⟨2, ![256, 2048]⟩
abbrev S512x1024 : Shape := ⟨2, ![512, 1024]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S256x2048, .f32⟩
  | .hbm, ⟨2, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .f32⟩
  | .local _ .vmem, ⟨3, _⟩ => ⟨S512x1024, .bf16⟩
  | .local _ .vmem, ⟨4, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnFwdReferenceIdeal.lean ====
abbrev S16384x1024 : Shape := ⟨2, ![16384, 1024]⟩
abbrev S256x2048 : Shape := ⟨2, ![256, 2048]⟩
abbrev S1x16384x4x256 : Shape := ⟨4, ![1, 16384, 4, 256]⟩
abbrev S1x256x2048 : Shape := ⟨3, ![1, 256, 2048]⟩
abbrev S1x256x1024 : Shape := ⟨3, ![1, 256, 1024]⟩
abbrev S1x256x4x256 : Shape := ⟨4, ![1, 256, 4, 256]⟩
abbrev S1x4x16384x256 : Shape := ⟨4, ![1, 4, 16384, 256]⟩
abbrev S_ : Shape := ⟨0, ![]⟩
abbrev S1x4x16384 : Shape := ⟨3, ![1, 4, 16384]⟩
abbrev S1x4x16384x1 : Shape := ⟨4, ![1, 4, 16384, 1]⟩
abbrev S1x4x256x16384 : Shape := ⟨4, ![1, 4, 256, 16384]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S256x2048, .f32⟩
  | .hbm, ⟨2, _⟩ => ⟨S16384x1024, .f32⟩
  | .hbm, ⟨3, _⟩ => ⟨S1x16384x4x256, .f32⟩
  | .hbm, ⟨4, _⟩ => ⟨S1x256x2048, .f32⟩
  | .hbm, ⟨5, _⟩ => ⟨S1x256x1024, .f32⟩
  | .hbm, ⟨6, _⟩ => ⟨S1x256x1024, .f32⟩
  | .hbm, ⟨7, _⟩ => ⟨S1x256x4x256, .f32⟩
  | .hbm, ⟨8, _⟩ => ⟨S1x256x4x256, .f32⟩
  | .hbm, ⟨9, _⟩ => ⟨S1x4x16384x256, .f32⟩
  | .hbm, ⟨10, _⟩ => ⟨S_, .f32⟩
  | .hbm, ⟨11, _⟩ => ⟨S1x4x16384x256, .f32⟩
  | .hbm, ⟨12, _⟩ => ⟨S1x4x16384x256, .f32⟩
  | .hbm, ⟨13, _⟩ => ⟨S_, .f32⟩
  | .hbm, ⟨14, _⟩ => ⟨S1x4x16384, .f32⟩
  | .hbm, ⟨15, _⟩ => ⟨S_, .f32⟩
  | .hbm, ⟨16, _⟩ => ⟨S1x4x16384, .f32⟩
  | .hbm, ⟨17, _⟩ => ⟨S1x4x16384, .f32⟩
  | .hbm, ⟨18, _⟩ => ⟨S1x4x16384x1, .f32⟩
  | .hbm, ⟨19, _⟩ => ⟨S1x4x16384x256, .f32⟩
  | .hbm, ⟨20, _⟩ => ⟨S1x4x16384x256, .f32⟩
  | .hbm, ⟨21, _⟩ => ⟨S1x4x16384x256, .f32⟩
  | .hbm, ⟨22, _⟩ => ⟨S_, .f32⟩
  | .hbm, ⟨23, _⟩ => ⟨S1x4x16384, .f32⟩
  | .hbm, ⟨24, _⟩ => ⟨S1x4x16384x1, .f32⟩
  | .hbm, ⟨25, _⟩ => ⟨S1x4x16384x256, .f32⟩
  | .hbm, ⟨26, _⟩ => ⟨S1x4x16384x256, .f32⟩
  | .hbm, ⟨27, _⟩ => ⟨S1x4x256x16384, .f32⟩
  | .hbm, ⟨28, _⟩ => ⟨S1x16384x4x256, .f32⟩
  | .hbm, ⟨29, _⟩ => ⟨S16384x1024, .f32⟩
  | .hbm, ⟨30, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== ConvOutDx.lean ====
abbrev S16384x1024 : Shape := ⟨2, ![16384, 1024]⟩
abbrev S4x1024x1024 : Shape := ⟨3, ![4, 1024, 1024]⟩
abbrev S1024 : Shape := ⟨1, ![1024]⟩
abbrev S4x4x256x1024 : Shape := ⟨4, ![4, 4, 256, 1024]⟩
abbrev S1x1024 : Shape := ⟨2, ![1, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S4x1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S4x1024x1024, .bf16⟩
  | .hbm, ⟨6, _⟩ => ⟨S4x4x256x1024, .bf16⟩
  | .hbm, ⟨7, _⟩ => ⟨S1x1024, .f32⟩
  | .hbm, ⟨8, _⟩ => ⟨S1x1024, .f32⟩
  | .hbm, ⟨9, _⟩ => ⟨S4x1024x1024, .bf16⟩
  | .hbm, ⟨10, _⟩ => ⟨S16384x1024, .f32⟩
  | .hbm, ⟨11, _⟩ => ⟨S1x1024, .f32⟩
  | .hbm, ⟨12, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_25 : BitVec 32 := 0#32
  let v63 : BitVec 1 := Scalar.cmpi .ne v62 c0_i32_25
  v63

def k0_cond2 (i : grid0.Coords) : BitVec 1 :=
  let arg0 : BitVec 32 := BitVec.ofNat 32 (i 0).val
  let c0_i32_26 : BitVec 32 := 0#32
  let v64 : BitVec 1 := Scalar.cmpi .sgt arg0 c0_i32_26
  let v65 : BitVec 32 := Scalar.extui v64
  let c0_i32_27 : BitVec 32 := 0#32
  let v66 : BitVec 1 := Scalar.cmpi .ne v65 c0_i32_27
  v66

def k0_cond3 (i : grid0.Coords) : BitVec 1 :=
  let arg0 : BitVec 32 := BitVec.ofNat 32 (i 0).val
  let c0_i32_28 : BitVec 32 := 0#32
  let v67 : BitVec 1 := Scalar.cmpi .eq arg0 c0_i32_28
  let v68 : BitVec 32 := Scalar.extui v67
  let c0_i32_29 : BitVec 32 := 0#32
  let v69 : BitVec 1 := Scalar.cmpi .ne v68 c0_i32_29
  v69

def k0_cond4 (i : grid0.Coords) : BitVec 1 :=
  let arg0 : BitVec 32 := BitVec.ofNat 32 (i 0).val
  let c0_i32_30 : BitVec 32 := 0#32
  let v70 : BitVec 1 := Scalar.cmpi .sgt arg0 c0_i32_30
  let v71 : BitVec 32 := Scalar.extui v70
  let c0_i32_31 : BitVec 32 := 0#32
  let v72 : BitVec 1 := Scalar.cmpi .ne v71 c0_i32_31
  v72

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== ConvOutDxReferenceIdeal.lean ====
abbrev S16384x1024 : Shape := ⟨2, ![16384, 1024]⟩
abbrev S4x1024x1024 : Shape := ⟨3, ![4, 1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024x1024, .f32⟩
  | .hbm, ⟨55, _⟩ => ⟨S1024x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S16384x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S1024, .f32⟩
  | .hbm, ⟨76, _⟩ => ⟨S16384x1024, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S16384x1, .f32⟩
  | .hbm, ⟨83, _⟩ => ⟨S16384x1024, .f32⟩
  | .hbm, ⟨84, _⟩ => ⟨S_, .f32⟩
  | .hbm, ⟨85, _⟩ => ⟨S16384, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S_, .f32⟩
  | .hbm, ⟨91, _⟩ => ⟨S16384, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S16384, .f32⟩
  | .hbm, ⟨97, _⟩ => ⟨S16384x1, .f32⟩
  | .hbm, ⟨98, _⟩ => ⟨S16384x1024, .f32⟩
  | .hbm, ⟨99, _⟩ => ⟨S16384x1, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S_, .f32⟩
  | .hbm, ⟨104, _⟩ => ⟨S16384, .f32⟩
  | .hbm, ⟨105, _⟩ => ⟨S16384x1024, .f32⟩
  | .hbm, ⟨106, _⟩ => ⟨S16384x1024, .f32⟩
  | .hbm, ⟨107, _⟩ => ⟨S1x1024, .f32⟩
  | .hbm, ⟨108, _⟩ => ⟨S1x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v29_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v29_1 : Ref sig .tc := ⟨.hbm, 52, rfl⟩
abbrev main_v29_0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_11 : Ref sig .tc := ⟨.hbm, 84, rfl⟩
abbrev main_v52 : Ref sig .tc := ⟨.hbm, 85, rfl⟩
abbrev main_v53 : Ref sig .tc := ⟨.hbm, 86, rfl⟩
abbrev main_cst_12 : Ref sig .tc := ⟨.hbm, 87, rfl⟩
abbrev main_v54 : Ref sig .tc := ⟨.hbm, 88, rfl⟩
abbrev main_v55 : Ref sig .tc := ⟨.hbm, 89, rfl⟩
abbrev main_cst_13 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_14 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_15 : Ref sig .tc := ⟨.hbm, 100, rfl⟩
abbrev main_v64 : Ref sig .tc := ⟨.hbm, 101, rfl⟩
abbrev main_v65 : Ref sig .tc := ⟨.hbm, 102, rfl⟩
abbrev main_cst_16 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩

abbrev nD : Nat := 1
abbrev τ : Topo := Topo.v7x

variable {F : FTy → Type} [FloatOps F]
-- ==== DownLast.lean ====
abbrev S16384x2816 : Shape := ⟨2, ![16384, 2816]⟩
abbrev S4x2816x1024 : Shape := ⟨3, ![4, 2816, 1024]⟩
abbrev S16384x1024 : Shape := ⟨2, ![16384, 1024]⟩
abbrev S4x4x704x1024 : Shape := ⟨4, ![4, 4, 704, 1024]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S4x2816x1024, .f32⟩
  | .hbm, ⟨2, _⟩ => ⟨S16384x1024, .f32⟩
  | .hbm, ⟨3, _⟩ => ⟨S4x2816x1024, .bf16⟩
  | .hbm, ⟨4, _⟩ => ⟨S4x4x704x1024, .bf16⟩
  | .hbm, ⟨5, _⟩ => ⟨S4x2816x1024, .bf16⟩
  | .hbm, ⟨6, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let c1_i32 : BitVec 32 := 1#32
  let v8 : BitVec 1 := Scalar.cmpi .slt arg2 c1_i32
  let v9 : BitVec 1 := Scalar.andi v7 v8
  let v10 : BitVec 32 := Scalar.extui v9
  let c0_i32_6 : BitVec 32 := 0#32
  let v11 : BitVec 1 := Scalar.cmpi .ne v10 c0_i32_6
  v11

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownLastReferenceIdeal.lean ====
abbrev S16384x2816 : Shape := ⟨2, ![16384, 2816]⟩
abbrev S4x2816x1024 : Shape := ⟨3, ![4, 2816, 1024]⟩
abbrev S16384x1024 : Shape := ⟨2, ![16384, 1024]⟩
abbrev S1x2816x1024 : Shape := ⟨3, ![1, 2816, 1024]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S4x2816x1024, .f32⟩
  | .hbm, ⟨2, _⟩ => ⟨S16384x1024, .f32⟩
  | .hbm, ⟨3, _⟩ => ⟨S16384x2816, .f32⟩
  | .hbm, ⟨4, _⟩ => ⟨S1x2816x1024, .f32⟩
  | .hbm, ⟨5, _⟩ => ⟨S2816x1024, .f32⟩
  | .hbm, ⟨6, _⟩ => ⟨S16384x1024, .f32⟩
  | .hbm, ⟨7, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.AttnSpec.lean ====
/-
  The gradient of one head of the memory cross-attention for ONE query row, over the extended reals: plain functions of
  the row `q`, the head's keys `k` and values `v` and the row `g` of the incoming gradient. The kernel's body and the
  reference both read as these functions; where the two write the softmax's gradient differently, this file shows that
  the two ways agree wherever the queries and the keys are
  real numbers (the values and the incoming gradient may be infinite).
-/
module

public import Idealize.ShloMosaic.Lib.Pipeline.ValueKit
public import Idealize.ShloMosaic.Lib.Pointwise

@[expose] public section

set_option maxRecDepth 16384

noncomputable section

open Idealize.ShloMosaic

namespace Cert.AttnSpec

/-- Column `d` of head `h` in an array of four heads of 256 columns. -/
abbrev hcol (h : Fin 4) (d : Fin 256) : Fin 1024 := ⟨h.val * 256 + d.val, by omega⟩
/-- Column `d` of head `h`'s keys in the joined array of keys and values. -/
abbrev kcol (h : Fin 4) (d : Fin 256) : Fin 2048 := ⟨h.val * 256 + d.val, by omega⟩
/-- Column `d` of head `h`'s values in the joined array of keys and values. -/
abbrev vcol (h : Fin 4) (d : Fin 256) : Fin 2048 := ⟨1024 + (h.val * 256 + d.val), by omega⟩

/-- The scale of the scores, `1/16`. -/
abbrev scale : EReal := Ideal.ofBits FTy.f32 1031798784#32
/-- The start of a maximum, minus infinity. -/
abbrev ninf : EReal := Ideal.ofBits FTy.f32 4286578688#32

variable (q g : Fin 256 → EReal) (k v : Fin 256 → Fin 256 → EReal)

/-- The score of the row against memory position `m`. -/
def sc (m : Fin 256) : EReal := (∑ d, q d * k m d) * scale
/-- The row's largest score. -/
def mx : EReal := Finset.fold max ninf (sc q k) Finset.univ
/-- The unnormalised weight. -/
def ex (m : Fin 256) : EReal := Ideal.exp (sc q k m - mx q k)
/-- The row's normaliser. -/
def zz : EReal := ∑ m, ex q k m
/-- The attention weight. -/
def pr (m : Fin 256) : EReal := Ideal.div (ex q k m) (zz q k)
/-- The gradient of the weight. -/
def dp (m : Fin 256) : EReal := ∑ d, g d * v m d
/-- The gradient of the score before the scale, as the kernel writes it. -/
def ds (m : Fin 256) : EReal := (pr q k m * (dp g v m - ∑ n, dp g v n * pr q k n)) * scale
/-- The same gradient as differentiating the quotient writes it. -/
def ds' (m : Fin 256) : EReal :=
  ((Ideal.div (dp g v m) (zz q k) + -(∑ n, dp g v n * Ideal.div (Ideal.ofBits FTy.f32 1065353216#32) (zz q k * zz q k) * ex q k n))
    * ex q k m) * scale

/-- The query's gradient. -/
def dq (d : Fin 256) : EReal := ∑ m, ds q g k v m * k m d

/-! ## The two ways to write the gradient agree -/

/-- A finite nonnegative factor goes into a sum. -/
theorem mul_sum_of_nonneg {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- Minus infinity is the least extended real. -/
theorem ninf_eq : ninf = ⊥ := by
  simp [ninf, Ideal.ofBits, Ideal.ieee]

/-- The scale is a real number. -/
theorem scale_eq : scale = ((1 / 16 : ℝ) : EReal) := by
  simp [scale, Ideal.ofBits, Ideal.ieee]
  norm_num
  rw [← EReal.coe_mul]
  norm_num

/-- A sum of reals is a real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The fold of a maximum from minus infinity over finitely many, at least one, reals is a real. -/
theorem fold_max_real {ι : Type*} (s : Finset ι) (f : ι → ℝ) :
    Finset.fold max (⊥ : EReal) (fun i => (f i : EReal)) s = ⊥ ∧ s = ∅ ∨
      ∃ r : ℝ, Finset.fold max (⊥ : EReal) (fun i => (f i : EReal)) s = r := by
  classical
  induction s using Finset.induction_on with
  | empty => left; simp
  | insert a s ha ih =>
    right
    rw [Finset.fold_insert ha]
    rcases ih with ⟨h, -⟩ | ⟨r, h⟩
    · exact ⟨f a, by rw [h]; simp⟩
    · exact ⟨max (f a) r, by rw [h]; exact (EReal.coe_strictMono.monotone.map_max).symm⟩

/-- With finite queries and keys every weight before normalising is a positive real. -/
theorem ex_real (hq : ∀ d, ∃ r : ℝ, q d = r) (hk : ∀ m d, ∃ r : ℝ, k m d = r) :
    ∃ e : Fin 256 → ℝ, (∀ m, 0 < e m) ∧ ∀ m, ex q k m = (e m : EReal) := by
  choose a ha using hq
  choose b hb using hk
  have hsc : ∀ m, sc q k m = (((∑ d, a d * b m d) * (1 / 16) : ℝ) : EReal) := fun m => by
    rw [sc, scale_eq, EReal.coe_mul, ← coe_sum]
    simp only [ha, hb, EReal.coe_mul]
  obtain ⟨M, hM⟩ : ∃ M : ℝ, mx q k = M := by
    have h : mx q k = Finset.fold max (⊥ : EReal) (fun m => (((∑ d, a d * b m d) * (1 / 16) : ℝ) : EReal)) Finset.univ := by
      rw [mx, ninf_eq, funext hsc]
    rcases fold_max_real Finset.univ (fun m : Fin 256 => (∑ d, a d * b m d) * (1 / 16)) with ⟨-, h0⟩ | ⟨r, hr⟩
    · exact absurd h0 (Finset.univ_nonempty.ne_empty)
    · exact ⟨r, h.trans hr⟩
  refine ⟨fun m => Real.exp ((∑ d, a d * b m d) * (1 / 16) - M), fun m => Real.exp_pos _, fun m => ?_⟩
  rw [ex, hsc, hM, ← EReal.coe_sub]
  rfl

/-- Division by a real that is not zero is multiplication by its inverse. -/
theorem div_real (x : EReal) (z : ℝ) (hz : z ≠ 0) : Ideal.div x z = x * ((z⁻¹ : ℝ) : EReal) := by
  rw [Ideal.div, if_neg (by exact_mod_cast hz), EReal.coe_inv]

/-- The kernel's gradient of a score is the one that differentiating the quotient gives, for finite queries and keys and
    any incoming gradient. -/
theorem ds_eq (hq : ∀ d, ∃ r : ℝ, q d = r) (hk : ∀ m d, ∃ r : ℝ, k m d = r) (m : Fin 256) : ds' q g k v m = ds q g k v m := by
  obtain ⟨e, he, hex⟩ := ex_real q k hq hk
  have hz : zz q k = ((∑ m, e m : ℝ) : EReal) := by rw [zz, ← coe_sum]; simp only [hex]
  have hzp : 0 < ∑ m, e m := Finset.sum_pos (fun m _ => he m) Finset.univ_nonempty
  generalize (∑ m, e m) = z at hz hzp
  have hz0 : z ≠ 0 := hzp.ne'
  have hpr : ∀ n, pr q k n = ((e n * z⁻¹ : ℝ) : EReal) := fun n => by
    rw [pr, hz, hex, div_real _ _ hz0, EReal.coe_mul]
  have hone : Ideal.ofBits FTy.f32 1065353216#32 = ((1 : ℝ) : EReal) := by simp
  have hzi : (0 : ℝ) ≤ z⁻¹ := (inv_pos.mpr hzp).le
  rw [ds, ds']
  congr 1
  rw [hz, ← EReal.coe_mul, div_real _ _ hz0, div_real _ _ (mul_ne_zero hz0 hz0), hone, ← EReal.coe_mul, one_mul, mul_inv]
  simp only [hpr, hex]
  have h1 : ∑ n, dp g v n * ((e n * z⁻¹ : ℝ) : EReal) = ((z⁻¹ : ℝ) : EReal) * ∑ n, dp g v n * (e n : EReal) := by
    rw [mul_sum_of_nonneg _ _ hzi]
    refine Finset.sum_congr rfl fun n _ => ?_
    rw [EReal.coe_mul]; ac_rfl
  have h2 : ∑ n, dp g v n * ((z⁻¹ * z⁻¹ : ℝ) : EReal) * (e n : EReal)
      = ((z⁻¹ : ℝ) : EReal) * (((z⁻¹ : ℝ) : EReal) * ∑ n, dp g v n * (e n : EReal)) := by
    rw [mul_sum_of_nonneg _ _ hzi, mul_sum_of_nonneg _ _ hzi]
    refine Finset.sum_congr rfl fun n _ => ?_
    rw [EReal.coe_mul]; ac_rfl
  rw [h1, h2]
  generalize (((z⁻¹ : ℝ) : EReal) * ∑ n, dp g v n * (e n : EReal)) = X
  rw [sub_eq_add_neg, EReal.coe_mul, mul_assoc,
    EReal.left_distrib_of_nonneg_of_ne_top (x := ((z⁻¹ : ℝ) : EReal)) (by exact_mod_cast hzi) (EReal.coe_ne_top _), mul_comm _ ((e m : ℝ) : EReal),
    mul_neg, mul_comm (dp g v m)]

end Cert.AttnSpec
-- ==== Proof.AttnBlock.lean ====
/-
  One grid point of the attention gradient's kernel: what the body computes for one head from its tile of 512 query
  rows. Each payload of the body is the corresponding function of one head's row (AttnSpec.lean).
-/
module

public import proofs.«01_k».proof.Proof.AttnSpec
public import proofs.«01_k».proof.Proof.Gen.AttnIdeal.Value

@[expose] public section

set_option maxRecDepth 16384

noncomputable section

open Idealize.ShloMosaic Idealize.ShloMosaic.TcCoe Idealize.SL.Sem

namespace Cert.AttnIdeal.Val

open Cert.AttnIdeal Cert.AttnIdeal.Gen Cert.AttnSpec

/-- Row `i` of a tile of one head's queries (or of its incoming gradients). -/
abbrev trow {φ : FTy} (a : FVec Ideal S512x256 φ) (i : Fin 512) : Fin 256 → EReal := fun d => a (ix2 i d)
/-- One head's keys (or values) as a table. -/
abbrev tab (b : FVec Ideal S256x256 .f32) : Fin 256 → Fin 256 → EReal := fun m d => b (ix2 m d)

variable (a : FVec Ideal S512x256 .bf16) (b c : FVec Ideal S256x256 .f32) (g : FVec Ideal S512x256 .f32)

theorem pay3 (i : Fin 512) (m : Fin 256) : k0_pay3 (F := Ideal) a b (ix2 i m) = pr (trow a i) (tab b) m := by
  pointwise [k0_pay3, k0_pay2]
  rfl

theorem pay6 (i : Fin 512) (m : Fin 256) : k0_pay6 (F := Ideal) a b c g (ix2 i m) = ds (trow a i) (trow g i) (tab b) (tab c) m := by
  pointwise [k0_pay6, k0_pay4]
  simp only [pay3]
  rfl

/-- The tile's rows of the queries' gradient. -/
theorem pay7 (i : Fin 512) (d : Fin 256) : k0_pay7 (F := Ideal) a b c g (ix2 i d) = dq (trow a i) (trow g i) (tab b) (tab c) d := by
  pointwise [k0_pay7, k0_pay2]
  simp only [pay6]
  rfl

/-- The tile's share of the values' gradient. -/
theorem pay5 (m d : Fin 256) : k0_pay5 (F := Ideal) a b g (ix2 m d) = ∑ i, pr (trow a i) (tab b) m * trow g i d := by
  pointwise [k0_pay5, k0_pay4]
  simp only [pay3]

/-- The tile's share of the keys' gradient. -/
theorem pay8 (m d : Fin 256) : k0_pay8 (F := Ideal) a b c g (ix2 m d) = ∑ i, ds (trow a i) (trow g i) (tab b) (tab c) m * trow a i d := by
  pointwise [k0_pay8]
  simp only [pay6]

theorem pay14_eq : k0_pay14 (F := Ideal) a b c g = k0_pay7 (F := Ideal) a b c g := rfl
theorem pay21_eq : k0_pay21 (F := Ideal) a (k0_pay16 b) c g = k0_pay7 (F := Ideal) a b c g := rfl
theorem pay28_eq : k0_pay28 (F := Ideal) a (k0_pay23 b) (k0_pay24 c) g = k0_pay7 (F := Ideal) a b c g := rfl
theorem pay12_eq : k0_pay12 (F := Ideal) a b g = k0_pay5 (F := Ideal) a b g := rfl
theorem pay15_eq : k0_pay15 (F := Ideal) a b c g = k0_pay8 (F := Ideal) a b c g := rfl
theorem pay19_eq : k0_pay19 (F := Ideal) a (k0_pay16 b) g = k0_pay5 (F := Ideal) a b g := rfl
theorem pay22_eq : k0_pay22 (F := Ideal) a (k0_pay16 b) c g = k0_pay8 (F := Ideal) a b c g := rfl

variable (v0 k0 v1 k1 v2 k2 : FVec Ideal S256x256 .f32)

/-- The joined tile share: the four heads' keys come first … -/
theorem pay29_k (h : Fin 4) (m d : Fin 256) : k0_pay29 (F := Ideal) v0 k0 v1 k1 v2 k2 a (k0_pay23 b) (k0_pay24 c) g (ix2 m (kcol h d))
    = (![k0, k1, k2, k0_pay8 (F := Ideal) a b c g] h) (ix2 m d) := by
  have e : ∑ x, k0_pay27 (F := Ideal) a (k0_pay23 b) (k0_pay24 c) g (ix2 x m) * a (ix2 x d) = k0_pay8 (F := Ideal) a b c g (ix2 m d) := by
    pointwise [k0_pay8]
    rfl
  pointwise [k0_pay29]
  match h with
  | ⟨0, _⟩ => rw [dif_pos (by dsimp only; omega)]; exact congrArg k0 (congrArg (ix2 m) (Fin.ext (by dsimp only; omega)))
  | ⟨1, _⟩ => rw [dif_neg (by dsimp only; omega), dif_pos (by dsimp only; omega)]; exact congrArg k1 (congrArg (ix2 m) (Fin.ext (by dsimp only; omega)))
  | ⟨2, _⟩ => rw [dif_neg (by dsimp only; omega), dif_neg (by dsimp only; omega), dif_pos (by dsimp only; omega)]; exact congrArg k2 (congrArg (ix2 m) (Fin.ext (by dsimp only; omega)))
  | ⟨3, _⟩ => rw [dif_neg (by dsimp only; omega), dif_neg (by dsimp only; omega), dif_neg (by dsimp only; omega), dif_pos (by dsimp only; omega)]; exact Eq.trans (Finset.sum_congr rfl fun x _ => congrArg (_ * ·) (congrArg a (congrArg (ix2 x) (Fin.ext (by dsimp only; omega))))) e

/-- … and the four heads' values after them. -/
theorem pay29_v (h : Fin 4) (m d : Fin 256) : k0_pay29 (F := Ideal) v0 k0 v1 k1 v2 k2 a (k0_pay23 b) (k0_pay24 c) g (ix2 m (vcol h d))
    = (![v0, v1, v2, k0_pay5 (F := Ideal) a b g] h) (ix2 m d) := by
  have e : ∑ x, k0_pay25 (F := Ideal) a (k0_pay23 b) (ix2 x m) * k0_pay26 (F := Ideal) g (ix2 x d) = k0_pay5 (F := Ideal) a b g (ix2 m d) := by
    pointwise [k0_pay5]
    rfl
  pointwise [k0_pay29]
  match h with
  | ⟨0, _⟩ => rw [dif_neg (by dsimp only; omega), dif_neg (by dsimp only; omega), dif_neg (by dsimp only; omega), dif_neg (by dsimp only; omega), dif_pos (by dsimp only; omega)]; exact congrArg v0 (congrArg (ix2 m) (Fin.ext (by dsimp only; omega)))
  | ⟨1, _⟩ => rw [dif_neg (by dsimp only; omega), dif_neg (by dsimp only; omega), dif_neg (by dsimp only; omega), dif_neg (by dsimp only; omega), dif_neg (by dsimp only; omega), dif_pos (by dsimp only; omega)]; exact congrArg v1 (congrArg (ix2 m) (Fin.ext (by dsimp only; omega)))
  | ⟨2, _⟩ => rw [dif_neg (by dsimp only; omega), dif_neg (by dsimp only; omega), dif_neg (by dsimp only; omega), dif_neg (by dsimp only; omega), dif_neg (by dsimp only; omega), dif_neg (by dsimp only; omega), dif_pos (by dsimp only; omega)]; exact congrArg v2 (congrArg (ix2 m) (Fin.ext (by dsimp only; omega)))
  | ⟨3, _⟩ => rw [dif_neg (by dsimp only; omega), dif_neg (by dsimp only; omega), dif_neg (by dsimp only; omega), dif_neg (by dsimp only; omega), dif_neg (by dsimp only; omega), dif_neg (by dsimp only; omega), dif_neg (by dsimp only; omega)]; exact Eq.trans (Finset.sum_congr rfl fun x _ => congrArg (_ * ·) (congrArg (k0_pay26 (F := Ideal) g) (congrArg (ix2 x) (Fin.ext (by dsimp only; omega))))) e

/-! ## One grid point's blocks -/

variable (x0 : FVec Ideal S512x1024 .bf16) (x1 : FVec Ideal S256x2048 .f32) (x2 : FVec Ideal S512x1024 .f32)

/-- Row `i` of head `h` of the tile of queries. -/
abbrev qb (h : Fin 4) (i : Fin 512) : Fin 256 → EReal := fun d => x0 (ix2 i (hcol h d))
/-- Row `i` of head `h` of the tile of incoming gradients. -/
abbrev gb (h : Fin 4) (i : Fin 512) : Fin 256 → EReal := fun d => x2 (ix2 i (hcol h d))
/-- Head `h`'s keys. -/
abbrev kb (h : Fin 4) : Fin 256 → Fin 256 → EReal := fun m d => x1 (ix2 m (kcol h d))
/-- Head `h`'s values. -/
abbrev vb (h : Fin 4) : Fin 256 → Fin 256 → EReal := fun m d => x1 (ix2 m (vcol h d))

/-- Head `h`'s columns of a tile of rows. -/
def ldT {e : EltTy} (x : S512x1024.Idx → Elt Ideal e) (h : Fin 4) : S512x256.Idx → Elt Ideal e := fun i => x (ix2 (i 0) (hcol h (i 1)))
/-- Head `h`'s keys out of the joined block. -/
def ldK {e : EltTy} (x : S256x2048.Idx → Elt Ideal e) (h : Fin 4) : S256x256.Idx → Elt Ideal e := fun i => x (ix2 (i 0) (kcol h (i 1)))
/-- Head `h`'s values out of the joined block. -/
def ldV {e : EltTy} (x : S256x2048.Idx → Elt Ideal e) (h : Fin 4) : S256x256.Idx → Elt Ideal e := fun i => x (ix2 (i 0) (vcol h (i 1)))

theorem ldT0 (e : EltTy) (x : S512x1024.Idx → Elt Ideal e) :
    View.ld (Val := Elt Ideal) (e' := e) x (Rect.unit ![0, 0] ![512, 256] inb_S512x1024_S512x256_0_0) = ldT x 0 := by
  funext i
  refine congrArg x ?_
  funext a
  match a with
  | ⟨0, _⟩ => exact Fin.ext (by show 0 + 1 * (i 0).val = (i 0).val; omega)
  | ⟨1, _⟩ => exact Fin.ext (by show 0 + 1 * (i 1).val = 0 * 256 + (i 1).val; omega)
theorem ldK0 (e : EltTy) (x : S256x2048.Idx → Elt Ideal e) :
    View.ld (Val := Elt Ideal) (e' := e) x (Rect.unit ![0, 0] ![256, 256] inb_S256x2048_S256x256_0_0) = ldK x 0 := by
  funext i
  refine congrArg x ?_
  funext a
  match a with
  | ⟨0, _⟩ => exact Fin.ext (by show 0 + 1 * (i 0).val = (i 0).val; omega)
  | ⟨1, _⟩ => exact Fin.ext (by show 0 + 1 * (i 1).val = 0 * 256 + (i 1).val; omega)
theorem ldV0 (e : EltTy) (x : S256x2048.Idx → Elt Ideal e) :
    View.ld (Val := Elt Ideal) (e' := e) x (Rect.unit ![0, 1024] ![256, 256] inb_S256x2048_S256x256_0_1024) = ldV x 0 := by
  funext i
  refine congrArg x ?_
  funext a
  match a with
  | ⟨0, _⟩ => exact Fin.ext (by show 0 + 1 * (i 0).val = (i 0).val; omega)
  | ⟨1, _⟩ => exact Fin.ext (by show 1024 + 1 * (i 1).val = 1024 + (0 * 256 + (i 1).val); omega)
theorem ldT1 (e : EltTy) (x : S512x1024.Idx → Elt Ideal e) :
    View.ld (Val := Elt Ideal) (e' := e) x (Rect.unit ![0, 256] ![512, 256] inb_S512x1024_S512x256_0_256) = ldT x 1 := by
  funext i
  refine congrArg x ?_
  funext a
  match a with
  | ⟨0, _⟩ => exact Fin.ext (by show 0 + 1 * (i 0).val = (i 0).val; omega)
  | ⟨1, _⟩ => exact Fin.ext (by show 256 + 1 * (i 1).val = 1 * 256 + (i 1).val; omega)
theorem ldK1 (e : EltTy) (x : S256x2048.Idx → Elt Ideal e) :
    View.ld (Val := Elt Ideal) (e' := e) x (Rect.unit ![0, 256] ![256, 256] inb_S256x2048_S256x256_0_256) = ldK x 1 := by
  funext i
  refine congrArg x ?_
  funext a
  match a with
  | ⟨0, _⟩ => exact Fin.ext (by show 0 + 1 * (i 0).val = (i 0).val; omega)
  | ⟨1, _⟩ => exact Fin.ext (by show 256 + 1 * (i 1).val = 1 * 256 + (i 1).val; omega)
theorem ldV1 (e : EltTy) (x : S256x2048.Idx → Elt Ideal e) :
    View.ld (Val := Elt Ideal) (e' := e) x (Rect.unit ![0, 1280] ![256, 256] inb_S256x2048_S256x256_0_1280) = ldV x 1 := by
  funext i
  refine congrArg x ?_
  funext a
  match a with
  | ⟨0, _⟩ => exact Fin.ext (by show 0 + 1 * (i 0).val = (i 0).val; omega)
  | ⟨1, _⟩ => exact Fin.ext (by show 1280 + 1 * (i 1).val = 1024 + (1 * 256 + (i 1).val); omega)
theorem ldT2 (e : EltTy) (x : S512x1024.Idx → Elt Ideal e) :
    View.ld (Val := Elt Ideal) (e' := e) x (Rect.unit ![0, 512] ![512, 256] inb_S512x1024_S512x256_0_512) = ldT x 2 := by
  funext i
  refine congrArg x ?_
  funext a
  match a with
  | ⟨0, _⟩ => exact Fin.ext (by show 0 + 1 * (i 0).val = (i 0).val; omega)
  | ⟨1, _⟩ => exact Fin.ext (by show 512 + 1 * (i 1).val = 2 * 256 + (i 1).val; omega)
theorem ldK2 (e : EltTy) (x : S256x2048.Idx → Elt Ideal e) :
    View.ld (Val := Elt Ideal) (e' := e) x (Rect.unit ![0, 512] ![256, 256] inb_S256x2048_S256x256_0_512) = ldK x 2 := by
  funext i
  refine congrArg x ?_
  funext a
  match a with
  | ⟨0, _⟩ => exact Fin.ext (by show 0 + 1 * (i 0).val = (i 0).val; omega)
  | ⟨1, _⟩ => exact Fin.ext (by show 512 + 1 * (i 1).val = 2 * 256 + (i 1).val; omega)
theorem ldV2 (e : EltTy) (x : S256x2048.Idx → Elt Ideal e) :
    View.ld (Val := Elt Ideal) (e' := e) x (Rect.unit ![0, 1536] ![256, 256] inb_S256x2048_S256x256_0_1536) = ldV x 2 := by
  funext i
  refine congrArg x ?_
  funext a
  match a with
  | ⟨0, _⟩ => exact Fin.ext (by show 0 + 1 * (i 0).val = (i 0).val; omega)
  | ⟨1, _⟩ => exact Fin.ext (by show 1536 + 1 * (i 1).val = 1024 + (2 * 256 + (i 1).val); omega)
theorem ldT3 (e : EltTy) (x : S512x1024.Idx → Elt Ideal e) :
    View.ld (Val := Elt Ideal) (e' := e) x (Rect.unit ![0, 768] ![512, 256] inb_S512x1024_S512x256_0_768) = ldT x 3 := by
  funext i
  refine congrArg x ?_
  funext a
  match a with
  | ⟨0, _⟩ => exact Fin.ext (by show 0 + 1 * (i 0).val = (i 0).val; omega)
  | ⟨1, _⟩ => exact Fin.ext (by show 768 + 1 * (i 1).val = 3 * 256 + (i 1).val; omega)
theorem ldK3 (e : EltTy) (x : S256x2048.Idx → Elt Ideal e) :
    View.ld (Val := Elt Ideal) (e' := e) x (Rect.unit ![0, 768] ![256, 256] inb_S256x2048_S256x256_0_768) = ldK x 3 := by
  funext i
  refine congrArg x ?_
  funext a
  match a with
  | ⟨0, _⟩ => exact Fin.ext (by show 0 + 1 * (i 0).val = (i 0).val; omega)
  | ⟨1, _⟩ => exact Fin.ext (by show 768 + 1 * (i 1).val = 3 * 256 + (i 1).val; omega)
theorem ldV3 (e : EltTy) (x : S256x2048.Idx → Elt Ideal e) :
    View.ld (Val := Elt Ideal) (e' := e) x (Rect.unit ![0, 1792] ![256, 256] inb_S256x2048_S256x256_0_1792) = ldV x 3 := by
  funext i
  refine congrArg x ?_
  funext a
  match a with
  | ⟨0, _⟩ => exact Fin.ext (by show 0 + 1 * (i 0).val = (i 0).val; omega)
  | ⟨1, _⟩ => exact Fin.ext (by show 1792 + 1 * (i 1).val = 1024 + (3 * 256 + (i 1).val); omega)

/-- The tile's share of the gradient of the joined keys and values: what the point adds to the accumulated block. -/
def share : FVec Ideal S256x2048 .f32 :=
  k0_pay29 (F := Ideal) (k0_pay5 (ldT x0 0) (ldK x1 0) (ldT x2 0)) (k0_pay8 (ldT x0 0) (ldK x1 0) (ldV x1 0) (ldT x2 0))
    (k0_pay12 (ldT x0 1) (ldK x1 1) (ldT x2 1)) (k0_pay15 (ldT x0 1) (ldK x1 1) (ldV x1 1) (ldT x2 1))
    (k0_pay19 (ldT x0 2) (k0_pay16 (ldK x1 2)) (ldT x2 2)) (k0_pay22 (ldT x0 2) (k0_pay16 (ldK x1 2)) (ldV x1 2) (ldT x2 2))
    (ldT x0 3) (k0_pay23 (ldK x1 3)) (k0_pay24 (ldV x1 3)) (ldT x2 3)

theorem share_k (h : Fin 4) (m d : Fin 256) : share x0 x1 x2 (ix2 m (kcol h d)) = ∑ i, ds (qb x0 h i) (gb x2 h i) (kb x1 h) (vb x1 h) m * qb x0 h i d := by
  unfold share
  rw [pay29_k]
  match h with
  | ⟨0, _⟩ => exact pay8 _ _ _ _ m d
  | ⟨1, _⟩ => exact pay8 _ _ _ _ m d
  | ⟨2, _⟩ => exact pay8 _ _ _ _ m d
  | ⟨3, _⟩ => exact pay8 _ _ _ _ m d

theorem share_v (h : Fin 4) (m d : Fin 256) : share x0 x1 x2 (ix2 m (vcol h d)) = ∑ i, pr (qb x0 h i) (kb x1 h) m * gb x2 h i d := by
  unfold share
  rw [pay29_v]
  match h with
  | ⟨0, _⟩ => exact pay5 _ _ _ m d
  | ⟨1, _⟩ => exact pay5 _ _ _ m d
  | ⟨2, _⟩ => exact pay5 _ _ _ m d
  | ⟨3, _⟩ => exact pay5 _ _ _ m d

/-- The tile's rows of the queries' gradient, at row `i`, head `h`, column `d`. -/
def rows (h : Fin 4) (i : Fin 512) (d : Fin 256) : EReal := dq (qb x0 h i) (gb x2 h i) (kb x1 h) (vb x1 h) d

theorem rows_eq (h : Fin 4) (x : S512x256.Idx) (y : S512x1024.Idx) (h0 : (y 0).val = (x 0).val) (h1 : (y 1).val = h.val * 256 + (x 1).val)
    (hh : (y 1).val / 256 < 4) (hd : (y 1).val % 256 < 256) :
    k0_pay7 (F := Ideal) (ldT x0 h) (ldK x1 h) (ldV x1 h) (ldT x2 h) x = rows x0 x1 x2 ⟨(y 1).val / 256, hh⟩ (y 0) ⟨(y 1).val % 256, hd⟩ := by
  have hx : (x 1).val < 256 := (x 1).isLt
  have e0 : (y 0 : Fin 512) = x 0 := Fin.ext h0
  have eh : (⟨(y 1).val / 256, hh⟩ : Fin 4) = h := Fin.ext (by dsimp only; omega)
  have ed : (⟨(y 1).val % 256, hd⟩ : Fin 256) = x 1 := Fin.ext (by dsimp only; omega)
  have ex : x = ix2 (x 0) (x 1) := by funext a; match a with | ⟨0, _⟩ => rfl | ⟨1, _⟩ => rfl
  rw [eh, ed]
  refine Eq.trans (congrArg _ ex) (Eq.trans (pay7 _ _ _ _ (x 0) (x 1)) ?_)
  unfold rows
  rw [show (y 0 : Fin 512) = x 0 from e0]
  rfl

/-! ## What a grid point leaves -/

variable (m : (ℓ : Loc nD τ sig) → Buf (Elt Ideal) ℓ) (cc : Dev nD)

/-- A point's tile of queries. -/
abbrev b0 (t : Fin cfg0.N) : FVec Ideal S512x1024 .bf16 := iblk m cc 0 t
/-- A point's keys and values. -/
abbrev b1 (t : Fin cfg0.N) : FVec Ideal S256x2048 .f32 := iblk m cc 1 t
/-- A point's tile of incoming gradients. -/
abbrev b2 (t : Fin cfg0.N) : FVec Ideal S512x1024 .f32 := iblk m cc 2 t

theorem y1_lt (y : S512x1024.Idx) : (y 1).val < 1024 := (y 1).isLt

/-- Every point leaves its tile's rows of the queries' gradient. -/
theorem out3 (t : Fin cfg0.N) (y : S512x1024.Idx) :
   (outsAt0 m cc t.val t.isLt).1 y = rows (b0 m cc t) (b1 m cc t) (b2 m cc t)
     ⟨(y 1).val / 256, by have := y1_lt y; omega⟩ (y 0) ⟨(y 1).val % 256, Nat.mod_lt _ (by decide)⟩ := by
  have ht : t.val < 32 := lt_of_lt_of_eq t.isLt N_0
  by_cases ht0 : t.val % 32 = 0
  · rw [outsAt0_A m cc t ht0 (by omega)]
    frame_out
    canon_tiles x h
    case piece0 => rw [pay28_eq, ldT3, ldT3, ldK3, ldV3]; exact rows_eq _ _ _ 3 x y h0 h1 _ _
    case piece1 => rw [pay21_eq, ldT2, ldT2, ldK2, ldV2]; exact rows_eq _ _ _ 2 x y h0 h1 _ _
    case piece2 => rw [pay14_eq, ldT1, ldT1, ldK1, ldV1]; exact rows_eq _ _ _ 1 x y h0 h1 _ _
    case piece3 => rw [ldT0, ldT0, ldK0, ldV0]; exact rows_eq _ _ _ 0 x y h0 (h1.trans (Nat.zero_add _).symm) _ _
  · rw [outsAt0_B m cc t ht0 (by omega)]
    frame_out
    canon_tiles x h
    case piece0 => rw [pay28_eq, ldT3, ldT3, ldK3, ldV3]; exact rows_eq _ _ _ 3 x y h0 h1 _ _
    case piece1 => rw [pay21_eq, ldT2, ldT2, ldK2, ldV2]; exact rows_eq _ _ _ 2 x y h0 h1 _ _
    case piece2 => rw [pay14_eq, ldT1, ldT1, ldK1, ldV1]; exact rows_eq _ _ _ 1 x y h0 h1 _ _
    case piece3 => rw [ldT0, ldT0, ldK0, ldV0]; exact rows_eq _ _ _ 0 x y h0 (h1.trans (Nat.zero_add _).symm) _ _

/-- The first point leaves its share … -/
theorem out4_A (t : Fin cfg0.N) (h0 : t.val % 32 = 0) (h1 : ¬ 1 ≤ t.val)  :
   (outsAt0 m cc t.val t.isLt).2 = share (b0 m cc t) (b1 m cc t) (b2 m cc t) := by
  rw [outsAt0_A m cc t h0 h1]
  frame_out
  simp only [ldT0, ldT1, ldT2, ldT3, ldK0, ldK1, ldK2, ldK3, ldV0, ldV1, ldV2, ldV3]
  rfl

/-- … and every later point adds its own to what the point before left. -/
theorem out4_B (t : Fin cfg0.N) (h0 : ¬ t.val % 32 = 0) (h1 : 1 ≤ t.val)  :
   (outsAt0 m cc t.val t.isLt).2 = k0_pay1 (share (b0 m cc t) (b1 m cc t) (b2 m cc t)) (outsAt0 m cc (t.val - 1) (Nat.lt_of_le_of_lt (Nat.sub_le _ _) t.isLt)).2 := by
  rw [outsAt0_B m cc t h0 h1]
  frame_out
  simp only [ldT0, ldT1, ldT2, ldT3, ldK0, ldK1, ldK2, ldK3, ldV0, ldV1, ldV2, ldV3]
  rfl

/-! ## The arrays after the run -/

theorem idx (t : Fin cfg0.N) : win0_0.index t = ![t.val, 0] ∧ win0_1.index t = ![0, 0] ∧ win0_2.index t = ![t.val, 0]
    ∧ win0_3.index t = ![t.val, 0] ∧ win0_4.index t = ![0, 0] := by
  revert t
  decide +kernel

variable (y0 : FVec Ideal S16384x1024 .bf16) (y1 : FVec Ideal S256x2048 .f32) (y2 : FVec Ideal S16384x1024 .f32)

/-- Row `i` of head `h` of the queries. -/
abbrev qa (h : Fin 4) (i : Fin 16384) : Fin 256 → EReal := fun d => y0 (ix2 i (hcol h d))
/-- Row `i` of head `h` of the incoming gradients. -/
abbrev ga (h : Fin 4) (i : Fin 16384) : Fin 256 → EReal := fun d => y2 (ix2 i (hcol h d))

theorem row_lt (t : Fin cfg0.N) (i : Fin 512) : t.val * 512 + i.val < 16384 := by
  have ht : t.val < 32 := lt_of_lt_of_eq t.isLt N_0
  omega

theorem qb_eq (t : Fin cfg0.N) (h : Fin 4) (i : Fin 512) :
    qb (b0 m cc t) h i = qa (m ((cc : Thread nD τ).loc main_arg0)) h ⟨t.val * 512 + i.val, row_lt t i⟩ := by
  funext d
  show iblk m cc 0 t (ix2 i (hcol h d)) = _
  blk_ext [iblk, V, idx t]

theorem gb_eq (t : Fin cfg0.N) (h : Fin 4) (i : Fin 512) :
    gb (b2 m cc t) h i = ga (m ((cc : Thread nD τ).loc main_arg2)) h ⟨t.val * 512 + i.val, row_lt t i⟩ := by
  funext d
  show iblk m cc 2 t (ix2 i (hcol h d)) = _
  blk_ext [iblk, V, idx t]

theorem kb_eq (t : Fin cfg0.N) (h : Fin 4) : kb (b1 m cc t) h = kb (m ((cc : Thread nD τ).loc main_arg1)) h := by
  funext n d
  show iblk m cc 1 t (ix2 n (kcol h d)) = _
  blk_ext [iblk, V, idx t]

theorem vb_eq (t : Fin cfg0.N) (h : Fin 4) : vb (b1 m cc t) h = vb (m ((cc : Thread nD τ).loc main_arg1)) h := by
  funext n d
  show iblk m cc 1 t (ix2 n (vcol h d)) = _
  blk_ext [iblk, V, idx t]

/-- The queries' gradient as the kernel leaves it: row by row, head by head. -/
def dqA : S16384x1024.Idx → EReal := fun j =>
  dq (qa y0 ⟨(j 1).val / 256, by have : (j 1).val < 1024 := (j 1).isLt; omega⟩ (j 0)) (ga y2 ⟨(j 1).val / 256, by have : (j 1).val < 1024 := (j 1).isLt; omega⟩ (j 0))
    (kb y1 ⟨(j 1).val / 256, by have : (j 1).val < 1024 := (j 1).isLt; omega⟩) (vb y1 ⟨(j 1).val / 256, by have : (j 1).val < 1024 := (j 1).isLt; omega⟩)
    ⟨(j 1).val % 256, Nat.mod_lt _ (by decide)⟩

theorem dqA_at (j : S16384x1024.Idx) (h : Fin 4) (i : Fin 16384) (d : Fin 256) (e0 : (j 0).val = i.val) (e1 : (j 1).val = h.val * 256 + d.val) :
    dqA y0 y1 y2 j = dq (qa y0 h i) (ga y2 h i) (kb y1 h) (vb y1 h) d := by
  have e : j = ix2 i (hcol h d) := by
    funext a
    match a with
    | ⟨0, _⟩ => exact Fin.ext e0
    | ⟨1, _⟩ => exact Fin.ext e1
  subst e
  have eh : (⟨(h.val * 256 + d.val) / 256, by omega⟩ : Fin 4) = h := Fin.ext (by dsimp only; omega)
  have ed : (⟨(h.val * 256 + d.val) % 256, Nat.mod_lt _ (by decide)⟩ : Fin 256) = d := Fin.ext (by dsimp only; omega)
  show dq (qa y0 ⟨(h.val * 256 + d.val) / 256, _⟩ i) (ga y2 ⟨(h.val * 256 + d.val) / 256, _⟩ i) (kb y1 ⟨(h.val * 256 + d.val) / 256, _⟩)
    (vb y1 ⟨(h.val * 256 + d.val) / 256, _⟩) ⟨(h.val * 256 + d.val) % 256, _⟩ = _
  rw [eh, ed]

theorem rows_at (t : Fin cfg0.N) (h : Fin 4) (i : Fin 512) (d : Fin 256) : rows (b0 m cc t) (b1 m cc t) (b2 m cc t) h i d
    = dq (qa (m ((cc : Thread nD τ).loc main_arg0)) h ⟨t.val * 512 + i.val, row_lt t i⟩) (ga (m ((cc : Thread nD τ).loc main_arg2)) h ⟨t.val * 512 + i.val, row_lt t i⟩)
      (kb (m ((cc : Thread nD τ).loc main_arg1)) h) (vb (m ((cc : Thread nD τ).loc main_arg1)) h) d := by
  unfold rows
  rw [qb_eq, gb_eq, kb_eq, vb_eq]

theorem final3 : (dats m 0 cc).arrAt 3 cfg0.N
    = dqA (m ((cc : Thread nD τ).loc main_arg0)) (m ((cc : Thread nD τ).loc main_arg1)) (m ((cc : Thread nD τ).loc main_arg2)) := by
  refine (dats m 0 cc).arrAt_eq_of_covers 3 _ (by decide +kernel) fun t hf y => ?_
  blk_simp
  rw [after0_3, out3]
  have hlt := y1_lt y
  have e1 : (((win0_3.blk t).view.emb y) 1).val = (y 1).val := by blk_simp [idx t]
  have e0 : (((win0_3.blk t).view.emb y) 0).val = t.val * 512 + (y 0).val := by blk_simp [idx t]
  refine Eq.trans ?_ (dqA_at _ _ _ _ ⟨(y 1).val / 256, by omega⟩ ⟨t.val * 512 + (y 0).val, row_lt t (y 0)⟩ ⟨(y 1).val % 256, Nat.mod_lt _ (by decide)⟩ e0
    (e1.trans (by dsimp only; omega))).symm
  exact rows_at m cc t _ (y 0) _

/-- The joined gradient of the keys and values is the sum of the 32 tiles' shares. -/
theorem final4 (y : S256x2048.Idx) : (dats m 0 cc).arrAt 4 cfg0.N y
    = ∑ s : Fin 32, share (b0 m cc ⟨s.val, lt_of_lt_of_eq s.isLt N_0.symm⟩) (b1 m cc ⟨s.val, lt_of_lt_of_eq s.isLt N_0.symm⟩) (b2 m cc ⟨s.val, lt_of_lt_of_eq s.isLt N_0.symm⟩) y := by
  revert y
  refine funext_iff.mp ?_
  refine (dats m 0 cc).arrAt_eq_of_covers 4 _ (by decide +kernel) fun t hf y => ?_
  blk_simp
  rw [after0_4, Pipeline.eq_sum_fin_of_reset_step_apply_of_flush (fun n h => (outsAt0 m cc n h).2) 32 (fun _ => 0) _
    (fun t h j => by rw [out4_A m cc t h (by have := lt_of_lt_of_eq t.isLt N_0; omega)]; exact (zero_add _).symm)
    (fun t h j => by rw [out4_B m cc t h (by omega)]; pointwise [k0_pay1])
    t ((flush0_4 t).mp hf) _, zero_add]
  refine Fin.sum_fin_congr fun s => ?_
  have ht : t.val < 32 := lt_of_lt_of_eq t.isLt N_0
  have es : 32 * (t.val / 32) + s.val = s.val := by omega
  have ey : (win0_4.blk t).view.emb y = y := by blk_ext [idx t]
  simp only [es]
  exact congrArg _ ey.symm

end Cert.AttnIdeal.Val
-- ==== Proof.AttnRef.lean ====
/-
  The reference's gradient of the memory cross-attention, read element by element: each stage of the reference is the
  corresponding function of one head's row (AttnSpec.lean).
-/
module

public import proofs.«01_k».proof.Proof.AttnSpec
public import proofs.«01_k».proof.Proof.Gen.AttnReferenceIdeal.Read

@[expose] public section

set_option maxRecDepth 16384

noncomputable section

open Idealize.ShloMosaic Idealize.ShloMosaic.TcCoe Idealize.SL.Sem

namespace Cert.AttnReferenceIdeal.Val

open Cert.AttnReferenceIdeal Cert.AttnReferenceIdeal.Gen Cert.AttnReferenceIdeal.Read Cert.AttnSpec

variable (x0 : FVec Ideal S16384x1024 .bf16) (x1 : FVec Ideal S256x2048 .f32) (x2 : FVec Ideal S16384x1024 .f32)

/-- Row `i` of head `h` of the queries. -/
abbrev qrow (h : Fin 4) (i : Fin 16384) : Fin 256 → EReal := fun d => x0 (ix2 i (hcol h d))
/-- Row `i` of head `h` of the incoming gradient. -/
abbrev grow (h : Fin 4) (i : Fin 16384) : Fin 256 → EReal := fun d => x2 (ix2 i (hcol h d))
/-- Head `h` of the keys. -/
abbrev keys (h : Fin 4) : Fin 256 → Fin 256 → EReal := fun m d => x1 (ix2 m (kcol h d))
/-- Head `h` of the values. -/
abbrev vals (h : Fin 4) : Fin 256 → Fin 256 → EReal := fun m d => x1 (ix2 m (vcol h d))

theorem r1 (h : Fin 4) (i : Fin 16384) (d : Fin 256) : val_main_v1 (F := Ideal) x0 (ix4 0 i h d) = qrow x0 h i d := by
  pointwise [val_main_v1, val_main_v0]

theorem r5 (h : Fin 4) (i : Fin 256) (d : Fin 256) : val_main_v5 (F := Ideal) x1 (ix4 0 i h d) = keys x1 h i d := by
  pointwise [val_main_v5, val_main_v3, val_main_v2]

theorem r6 (h : Fin 4) (i : Fin 256) (d : Fin 256) : val_main_v6 (F := Ideal) x1 (ix4 0 i h d) = vals x1 h i d := by
  pointwise [val_main_v6, val_main_v4, val_main_v2]

theorem r9 (h : Fin 4) (i : Fin 16384) (m : Fin 256) :
    val_main_v9 (F := Ideal) x0 x1 (ix4 0 h i m) = sc (qrow x0 h i) (keys x1 h) m := by
  pointwise [val_main_v9, val_main_v7, val_main_v8, val_main_cst]
  simp only [r1, r5]; rfl

theorem r10 (h : Fin 4) (i : Fin 16384) : val_main_v10 (F := Ideal) x0 x1 (ix3 0 h i) = mx (qrow x0 h i) (keys x1 h) := by
  pointwise [val_main_v10, val_main_cst_0]
  simp only [r9]; rfl

theorem r17 (h : Fin 4) (i : Fin 16384) : val_main_v17 (F := Ideal) x0 x1 (ix3 0 h i) = mx (qrow x0 h i) (keys x1 h) := by
  rw [val_main_v17_apply, r10]
  refine Eq.trans (b := max ninf (mx (qrow x0 h i) (keys x1 h))) rfl ?_
  rw [ninf_eq]
  exact max_eq_right bot_le

theorem r28 (h : Fin 4) (i : Fin 16384) (m : Fin 256) :
    val_main_v28 (F := Ideal) x0 x1 (ix4 0 h i m) = mx (qrow x0 h i) (keys x1 h) := by
  rw [val_main_v28_apply, val_main_v27_apply, ← r17]
  congr 1
  funext a
  match a with
  | ⟨0, _⟩ => rfl
  | ⟨1, _⟩ => rfl
  | ⟨2, _⟩ => rfl

theorem r30 (h : Fin 4) (i : Fin 16384) (m : Fin 256) :
    val_main_v30 (F := Ideal) x0 x1 (ix4 0 h i m) = ex (qrow x0 h i) (keys x1 h) m := by
  rw [val_main_v30_apply, val_main_v29_apply, r28, r9]
  rfl

theorem r32 (h : Fin 4) (i : Fin 16384) : val_main_v32 (F := Ideal) x0 x1 (ix4 0 h i 0) = zz (qrow x0 h i) (keys x1 h) := by
  pointwise [val_main_v32, val_main_v31, val_main_cst_8]
  simp only [r30]; rfl

theorem r34 (h : Fin 4) (i : Fin 16384) (m : Fin 256) :
    val_main_v34 (F := Ideal) x0 x1 (ix4 0 h i m) = pr (qrow x0 h i) (keys x1 h) m := by
  pointwise [val_main_v34, val_main_v33]
  simp only [r30, r32]; rfl

theorem r42 (h : Fin 4) (i : Fin 16384) (d : Fin 256) : val_main_v42 (F := Ideal) x2 (ix4 0 h d i) = grow x2 h i d := by
  pointwise [val_main_v42, val_main_v41]

theorem r43 (h : Fin 4) (i : Fin 16384) (m : Fin 256) :
    val_main_v43 (F := Ideal) x1 x2 (ix4 0 h i m) = dp (grow x2 h i) (vals x1 h) m := by
  pointwise [val_main_v43]
  simp only [r42, r6]; rfl

theorem r51 (h : Fin 4) (i : Fin 16384) : val_main_v51 (F := Ideal) x0 x1 x2 (ix4 0 h i 0)
    = -(∑ n, dp (grow x2 h i) (vals x1 h) n
        * Ideal.div (Ideal.ofBits FTy.f32 1065353216#32) (zz (qrow x0 h i) (keys x1 h) * zz (qrow x0 h i) (keys x1 h))
        * ex (qrow x0 h i) (keys x1 h) n) := by
  pointwise [val_main_v51, val_main_v50, val_main_v49, val_main_v48, val_main_v47, val_main_v46, val_main_v37, val_main_v36,
    val_main_v35, val_main_cst_9, val_main_cst_10]
  simp only [r30, r32, r43]
  trace_state

/-- Summing over two axes of extent one reads the one element. -/
theorem r54 (h : Fin 4) (i : Fin 16384) : val_main_v54 (F := Ideal) x0 x1 x2 (ix2 h i) = val_main_v51 (F := Ideal) x0 x1 x2 (ix4 0 h i 0) := by
  pointwise [val_main_v54, val_main_cst_11]
  generalize val_main_v51 (F := Ideal) x0 x1 x2 = y
  rw [Ideal.hostReduceAdd, zero_add]
  refine Finset.sum_eq_single_of_mem _ ?_ fun b hb hne => ?_
  · rw [Finset.mem_filter]
    refine ⟨Finset.mem_univ _, funext fun a => ?_⟩
    match a with
    | ⟨0, _⟩ => exact Fin.ext (Shape.ReducesTo.drop_apply_val_of_eq reducesTo_S1x4x16384x1_S4x16384_d0_3 (ix4 0 h i 0) 0 1)
    | ⟨1, _⟩ => exact Fin.ext (Shape.ReducesTo.drop_apply_val_of_eq reducesTo_S1x4x16384x1_S4x16384_d0_3 (ix4 0 h i 0) 1 2)
  · exfalso
    apply hne
    have hd := (Finset.mem_filter.mp hb).2
    have h1 := congrArg Fin.val (congrFun hd 0)
    have h2 := congrArg Fin.val (congrFun hd 1)
    rw [Shape.ReducesTo.drop_apply_val_of_eq _ _ _ 1] at h1
    rw [Shape.ReducesTo.drop_apply_val_of_eq _ _ _ 2] at h2
    funext a
    match a with
    | ⟨0, _⟩ => exact Subsingleton.elim (α := Fin 1) _ _
    | ⟨1, _⟩ => exact Fin.ext h1
    | ⟨2, _⟩ => exact Fin.ext h2
    | ⟨3, _⟩ => exact Subsingleton.elim (α := Fin 1) _ _

theorem r60 (h : Fin 4) (i : Fin 16384) (m : Fin 256) : val_main_v60 (F := Ideal) x0 x1 x2 (ix4 0 h i m)
    = ds' (qrow x0 h i) (grow x2 h i) (keys x1 h) (vals x1 h) m := by
  pointwise [val_main_v60, val_main_v59, val_main_v58, val_main_v57, val_main_v56, val_main_v55, val_main_v53, val_main_v52, val_main_cst_12]
  simp only [r30, r32, r43, r54, r51]; rfl

theorem split_hcol (h : Fin 4) (d : Fin 256) : (h.val * 256 + d.val) / 256 = h.val ∧ (h.val * 256 + d.val) % 256 = d.val := by
  omega

/-- The queries' gradient, at row `i`, head `h`, column `d`. -/
theorem ref_dq (h : Fin 4) (i : Fin 16384) (d : Fin 256) : val_main_v70 (F := Ideal) x0 x1 x2 (ix2 i (hcol h d))
    = ∑ m, ds' (qrow x0 h i) (grow x2 h i) (keys x1 h) (vals x1 h) m * keys x1 h m d := by
  pointwise [val_main_v70, val_main_v69, val_main_v64, val_main_v63]
  simp only [(split_hcol h d).1, (split_hcol h d).2, Fin.eta, r60, r5]

theorem r67_lo (m : Fin 256) (h : Fin 4) (d : Fin 256) : val_main_v68 (F := Ideal) x0 x1 x2 (ix2 m (kcol h d))
    = val_main_v66 (F := Ideal) x0 x1 x2 (ix3 0 m (hcol h d)) := by
  pointwise [val_main_v68, val_main_cst_13, val_main_v67, Value.fn_main_v67]
  rw [Fin.sum_univ_one, dif_pos (by omega)]

theorem r67_hi (m : Fin 256) (h : Fin 4) (d : Fin 256) : val_main_v68 (F := Ideal) x0 x1 x2 (ix2 m (vcol h d))
    = val_main_v65 (F := Ideal) x0 x1 x2 (ix3 0 m (hcol h d)) := by
  pointwise [val_main_v68, val_main_cst_13, val_main_v67, Value.fn_main_v67]
  rw [Fin.sum_univ_one]

/-- The keys' gradient, at memory position `m`, head `h`, column `d`. -/
theorem ref_dk (h : Fin 4) (m : Fin 256) (d : Fin 256) : val_main_v68 (F := Ideal) x0 x1 x2 (ix2 m (kcol h d))
    = ∑ i, ds' (qrow x0 h i) (grow x2 h i) (keys x1 h) (vals x1 h) m * qrow x0 h i d := by
  rw [r67_lo]
  pointwise [val_main_v66, val_main_v62, val_main_v61]
  simp only [(split_hcol h d).1, (split_hcol h d).2, Fin.eta, r60, r1]

/-- The values' gradient, at memory position `m`, head `h`, column `d`. -/
theorem ref_dv (h : Fin 4) (m : Fin 256) (d : Fin 256) : val_main_v68 (F := Ideal) x0 x1 x2 (ix2 m (vcol h d))
    = ∑ i, pr (qrow x0 h i) (keys x1 h) m * grow x2 h i d := by
  rw [r67_hi]
  pointwise [val_main_v65, val_main_v45, val_main_v44]
  simp only [(split_hcol h d).1, (split_hcol h d).2, Fin.eta, r42, r34]
  exact Finset.sum_congr rfl fun i _ => mul_comm _ _

end Cert.AttnReferenceIdeal.Val
-- ==== Proof.AttnEq.lean ====
/-
  The kernel's two results are the reference's, for finite queries, keys and values: the queries' gradient row by row,
  and the joined gradient of keys and values, where the kernel's 32 tiles of 512 rows together run over all rows.
-/
module

public import proofs.«01_k».proof.Proof.AttnBlock
public import proofs.«01_k».proof.Proof.AttnRef
public import proofs.«01_k».proof.Defs

@[expose] public section

set_option maxRecDepth 16384

noncomputable section

open Idealize.ShloMosaic Idealize.ShloMosaic.TcCoe Idealize.SL.Sem

namespace Cert.AttnEq

open Cert.AttnSpec Cert.AttnIdeal.Val Cert.AttnReferenceIdeal.Val

theorem pre_facts : Cert.Pre_attn_finite.Facts := ⟨by decide, by decide, by decide⟩

/-- An extended real whose absolute value is below infinity is a real number. -/
theorem real_of_abs_lt (x : EReal) (h : Ideal.cmp .olt (max x (-x)) (Ideal.ofBits FTy.f32 2139095040#32) = 1#1) : ∃ r : ℝ, x = r := by
  have ht : Ideal.ofBits FTy.f32 2139095040#32 = ⊤ := by simp [Ideal.ofBits, Ideal.ieee]
  rw [ht] at h
  have hlt : max x (-x) < ⊤ := by
    by_contra hn
    simp [Ideal.cmp, hn] at h
  induction x with
  | bot => simp at hlt
  | top => simp at hlt
  | coe r => exact ⟨r, rfl⟩

variable (y0 : FVec Ideal Cert.AttnIdeal.S16384x1024 .bf16) (y1 : FVec Ideal Cert.AttnIdeal.S256x2048 .f32) (y2 : FVec Ideal Cert.AttnIdeal.S16384x1024 .f32)

section
variable (hpre : letI := pre_facts; (Cert.Pre_attn_finite.fn (F := Ideal) y0 y1 y2).1 = (fun _ => 1#1) ∧ (Cert.Pre_attn_finite.fn (F := Ideal) y0 y1 y2).2 = fun _ => 1#1)
include hpre

theorem q_real (i : Fin 16384) (d : Fin 1024) : ∃ r : ℝ, y0 (ix2 i d) = r :=
  real_of_abs_lt _ (congrFun hpre.1 (ix2 i d))

theorem k_real (i : Fin 256) (d : Fin 2048) : ∃ r : ℝ, y1 (ix2 i d) = r :=
  real_of_abs_lt _ (congrFun hpre.2 (ix2 i d))

end

variable (hq : ∀ i d, ∃ r : ℝ, y0 (ix2 i d) = r) (hk : ∀ i d, ∃ r : ℝ, y1 (ix2 i d) = r)
include hq hk

theorem dq_at (h : Fin 4) (i : Fin 16384) (d : Fin 256) :
    dqA y0 y1 y2 (ix2 i (hcol h d)) = Cert.AttnReferenceIdeal.Read.val_main_v70 (F := Ideal) y0 y1 y2 (ix2 i (hcol h d)) := by
  refine (dqA_at y0 y1 y2 _ h i d rfl rfl).trans (Eq.trans ?_ (ref_dq y0 y1 y2 h i d).symm)
  refine Finset.sum_congr rfl fun n _ => ?_
  exact congrArg (· * keys y1 h n d) (ds_eq (qrow y0 h i) (grow y2 h i) (keys y1 h) (vals y1 h) (fun d => hq _ _) (fun m d => hk _ _) n).symm

omit hq hk in
/-- Two arrays of rows of four heads that agree head by head agree. -/
theorem ext_rows (f g : Cert.AttnIdeal.S16384x1024.Idx → EReal) (e : ∀ (h : Fin 4) (i : Fin 16384) (d : Fin 256), f (ix2 i (hcol h d)) = g (ix2 i (hcol h d))) : f = g := by
  funext j
  have hj : (j 1).val < 1024 := (j 1).isLt
  have ej : j = ix2 (j 0) (hcol ⟨(j 1).val / 256, by omega⟩ ⟨(j 1).val % 256, Nat.mod_lt _ (by decide)⟩) := by
    funext a
    match a with
    | ⟨0, _⟩ => rfl
    | ⟨1, _⟩ => exact Fin.ext (by show (j 1).val = (j 1).val / 256 * 256 + (j 1).val % 256; omega)
  rw [ej]
  exact e _ _ _

omit hq hk in
/-- Two joined arrays that agree on each head's keys and each head's values agree. -/
theorem ext_joined (f g : Cert.AttnIdeal.S256x2048.Idx → EReal) (ek : ∀ (h : Fin 4) (m d : Fin 256), f (ix2 m (kcol h d)) = g (ix2 m (kcol h d)))
    (ev : ∀ (h : Fin 4) (m d : Fin 256), f (ix2 m (vcol h d)) = g (ix2 m (vcol h d))) : f = g := by
  funext j
  have hj : (j 1).val < 2048 := (j 1).isLt
  by_cases hlo : (j 1).val < 1024
  · have ej : j = ix2 (j 0) (kcol ⟨(j 1).val / 256, by omega⟩ ⟨(j 1).val % 256, Nat.mod_lt _ (by decide)⟩) := by
      funext a
      match a with
      | ⟨0, _⟩ => rfl
      | ⟨1, _⟩ => exact Fin.ext (by show (j 1).val = (j 1).val / 256 * 256 + (j 1).val % 256; omega)
    rw [ej]
    exact ek _ _ _
  · have ej : j = ix2 (j 0) (vcol ⟨((j 1).val - 1024) / 256, by omega⟩ ⟨((j 1).val - 1024) % 256, Nat.mod_lt _ (by decide)⟩) := by
      funext a
      match a with
      | ⟨0, _⟩ => rfl
      | ⟨1, _⟩ => exact Fin.ext (by show (j 1).val = 1024 + (((j 1).val - 1024) / 256 * 256 + ((j 1).val - 1024) % 256); omega)
    rw [ej]
    exact ev _ _ _

theorem dq_eq : dqA y0 y1 y2 = Cert.AttnReferenceIdeal.Read.val_main_v70 (F := Ideal) y0 y1 y2 :=
  ext_rows _ _ (dq_at y0 y1 y2 hq hk)

omit hq hk in
/-- Summing tile by tile and row by row of a tile is summing over all rows. -/
theorem sum_tiles {f : Fin 32 → Fin 512 → EReal} {g : Fin 16384 → EReal} (h : ∀ (s : Fin 32) (i : Fin 512), f s i = g ⟨s.val * 512 + i.val, by omega⟩) :
    ∑ s, ∑ i, f s i = ∑ i, g i := by
  refine Fin.sum_mul_add_congr fun s k hl => ?_
  exact h s k

omit hq hk y0 y1 y2
variable (m : (ℓ : Loc Cert.AttnIdeal.nD Cert.AttnIdeal.τ Cert.AttnIdeal.sig) → Buf (Elt Ideal) ℓ) (cc : Dev Cert.AttnIdeal.nD)

theorem final_dkv (hq : ∀ (i : Fin 16384) (d : Fin 1024), ∃ r : ℝ, (m ((cc : Thread Cert.AttnIdeal.nD Cert.AttnIdeal.τ).loc Cert.AttnIdeal.main_arg0) : FVec Ideal Cert.AttnIdeal.S16384x1024 .bf16) (ix2 i d) = (r : EReal))
    (hk : ∀ (i : Fin 256) (d : Fin 2048), ∃ r : ℝ, (m ((cc : Thread Cert.AttnIdeal.nD Cert.AttnIdeal.τ).loc Cert.AttnIdeal.main_arg1) : FVec Ideal Cert.AttnIdeal.S256x2048 .f32) (ix2 i d) = (r : EReal)) :
    (Cert.AttnIdeal.Gen.dats m 0 cc).arrAt 4 Cert.AttnIdeal.cfg0.N
    = Cert.AttnReferenceIdeal.Read.val_main_v68 (F := Ideal) (m ((cc : Thread Cert.AttnIdeal.nD Cert.AttnIdeal.τ).loc Cert.AttnIdeal.main_arg0))
      (m ((cc : Thread Cert.AttnIdeal.nD Cert.AttnIdeal.τ).loc Cert.AttnIdeal.main_arg1)) (m ((cc : Thread Cert.AttnIdeal.nD Cert.AttnIdeal.τ).loc Cert.AttnIdeal.main_arg2)) := by
  refine ext_joined _ _ (fun h n d => ?_) (fun h n d => ?_)
  · refine (final4 m cc _).trans (Eq.trans ?_ (ref_dk _ _ _ h n d).symm)
    simp only [share_k]
    refine sum_tiles fun s i => ?_
    rw [qb_eq, gb_eq, kb_eq, vb_eq, ds_eq _ _ _ _ (fun d => hq _ _) (fun n d => hk _ _)]
  · refine (final4 m cc _).trans (Eq.trans ?_ (ref_dv _ _ _ h n d).symm)
    simp only [share_v]
    refine sum_tiles fun s i => ?_
    rw [qb_eq, gb_eq, kb_eq]

end Cert.AttnEq
-- ==== Proof.RetSpec.lean ====
/-
  The retention's gradient over the reals, one head at a time. The decay between a row `n` and a row `m` that it sees is
  `exp (L * |n - m|)`; a row sees the rows of its own chunk of 64 and of the chunks before. The gradients are sums over all
  rows with this weight. Here they are cut into blocks: the rows of one block, and the rows of all later (or earlier) blocks
  through one decayed sum per block, for the kernel's blocks of 512 rows and the reference's of 64 alike.
-/
module

public import Mathlib.Analysis.SpecialFunctions.Exp
public import Mathlib.Logic.Equiv.Fin.Basic
public import Mathlib.Algebra.BigOperators.Fin

@[expose] public section

set_option maxRecDepth 16384

noncomputable section

namespace Cert.RetSpec

/-- The decay with which row `n` sees row `m`. -/
def w (L : ℝ) (n m : Fin 16384) : ℝ := if m.val / 64 ≤ n.val / 64 then Real.exp (L * |(n.val : ℝ) - (m.val : ℝ)|) else 0

/-- Row `a` of block `T`, for blocks of `B` rows. -/
def row {B K : ℕ} (h : K * B = 16384) (T : Fin K) (a : Fin B) : Fin 16384 :=
  ⟨T.val * B + a.val, by have := Nat.mul_le_mul_right B (Nat.succ_le_of_lt T.isLt); have := a.isLt; rw [Nat.succ_mul] at *; omega⟩

variable {B K : ℕ} (h : K * B = 16384)

theorem sum_rows (f : Fin 16384 → ℝ) : ∑ n, f n = ∑ T : Fin K, ∑ a : Fin B, f (row h T a) := by
  rw [← Fintype.sum_prod_type' (fun T a => f (row h T a))]
  refine (Fintype.sum_equiv (finProdFinEquiv.trans (finCongr h)) _ _ fun x => ?_).symm
  refine congrArg f (Fin.ext ?_)
  simp [row, finProdFinEquiv, Nat.add_comm, Nat.mul_comm]

theorem row_val (T : Fin K) (a : Fin B) : ((row h T a).val : ℝ) = T.val * B + a.val := by
  simp [row]

theorem chunk_le {T T' : Fin K} (hB : 64 ∣ B) (a b : Fin B) (hT : T < T') : (row h T a).val / 64 ≤ (row h T' b).val / 64 := by
  have h1 : T.val * B + a.val < T'.val * B + b.val := by
    have := Nat.mul_le_mul_right B (Nat.succ_le_of_lt (show T.val < T'.val from hT))
    have := a.isLt
    rw [Nat.succ_mul] at *
    omega
  exact Nat.div_le_div_right h1.le

theorem chunk_lt {T T' : Fin K} (hB : 64 ∣ B) (a b : Fin B) (hT : T < T') : (row h T a).val / 64 < (row h T' b).val / 64 := by
  obtain ⟨c, rfl⟩ := hB
  have h2 := Nat.mul_le_mul_right c (Nat.succ_le_of_lt (show T.val < T'.val from hT))
  rw [Nat.succ_mul] at h2
  have ha := a.isLt
  simp only [row]
  have e1 : T.val * (64 * c) = 64 * (T.val * c) := by ring
  have e2 : T'.val * (64 * c) = 64 * (T'.val * c) := by ring
  rw [e1, e2]
  generalize T.val * c = x at *
  generalize T'.val * c = y at *
  omega

/-- The decayed sum of the blocks after block `T`. -/
def later (L : ℝ) (T : Fin K) (g : Fin 16384 → ℝ) : ℝ := ∑ T' : Fin K,
  if T < T' then Real.exp (L * ((T'.val - T.val - 1) * B)) * ∑ a : Fin B, Real.exp (L * (a.val + 1)) * g (row h T' a) else 0

/-- The decayed sum of the chunks before chunk `s`. -/
def earlier (L : ℝ) (s : ℕ) (g : Fin 16384 → ℝ) : ℝ := ∑ j : Fin 256,
  if j.val < s then Real.exp (L * ((s - j.val - 1) * 64)) * ∑ c : Fin 64, Real.exp (L * (63 - c.val)) * g (row (K := 256) (by decide) j c) else 0

theorem later_sum {ι : Type} [Fintype ι] (L : ℝ) (T : Fin K) (c : ι → ℝ) (g : ι → Fin 16384 → ℝ) :
    ∑ e, c e * later h L T (g e) = later h L T (fun n => ∑ e, c e * g e n) := by
  unfold later
  simp only [Finset.mul_sum]
  rw [Finset.sum_comm]
  refine Finset.sum_congr rfl fun T' _ => ?_
  by_cases hT : T < T'
  · simp only [if_pos hT]
    simp only [Finset.mul_sum]
    rw [Finset.sum_comm]
    refine Finset.sum_congr rfl fun a _ => Finset.sum_congr rfl fun e _ => ?_
    ring
  · simp [if_neg hT]

theorem earlier_sum {ι : Type} [Fintype ι] (L : ℝ) (s : ℕ) (c : ι → ℝ) (g : ι → Fin 16384 → ℝ) :
    ∑ e, c e * earlier L s (g e) = earlier L s (fun n => ∑ e, c e * g e n) := by
  unfold earlier
  simp only [Finset.mul_sum]
  rw [Finset.sum_comm]
  refine Finset.sum_congr rfl fun T' _ => ?_
  by_cases hT : T'.val < s
  · simp only [if_pos hT, Finset.mul_sum]
    rw [Finset.sum_comm]
    refine Finset.sum_congr rfl fun a _ => Finset.sum_congr rfl fun e _ => ?_
    ring
  · simp [if_neg hT]

/-- What a row's weighted sum over all rows that see it is: its block and the blocks after. -/
theorem sum_seen (hB : 64 ∣ B) (L : ℝ) (T : Fin K) (b : Fin B) (g : Fin 16384 → ℝ) :
    ∑ n, w L n (row h T b) * g n = ∑ a : Fin B, w L (row h T a) (row h T b) * g (row h T a)
      + Real.exp (L * (B - 1 - b.val)) * later h L T g := by
  rw [sum_rows h]
  have e : ∀ T' : Fin K, ∑ a : Fin B, w L (row h T' a) (row h T b) * g (row h T' a)
      = (if T' = T then ∑ a : Fin B, w L (row h T a) (row h T b) * g (row h T a) else 0)
        + Real.exp (L * (B - 1 - b.val)) * (if T < T' then Real.exp (L * ((T'.val - T.val - 1) * B)) * ∑ a : Fin B, Real.exp (L * (a.val + 1)) * g (row h T' a) else 0) := by
    intro T'
    rcases lt_trichotomy T T' with hT | rfl | hT
    · rw [if_neg hT.ne', if_pos hT, zero_add, Finset.mul_sum, Finset.mul_sum]
      refine Finset.sum_congr rfl fun a _ => ?_
      have hle := chunk_le h hB b a hT
      have hv : ((row h T b).val : ℝ) ≤ (row h T' a).val := by
        have := chunk_lt h hB b a hT
        exact_mod_cast (by omega : (row h T b).val ≤ (row h T' a).val)
      rw [w, if_pos hle, abs_of_nonneg (sub_nonneg.mpr hv), row_val, row_val, ← mul_assoc, ← mul_assoc, ← Real.exp_add, ← Real.exp_add]
      congr 2
      ring
    · simp
    · rw [if_neg hT.ne, if_neg hT.asymm, mul_zero, add_zero]
      refine Finset.sum_eq_zero fun a _ => ?_
      rw [w, if_neg (by have := chunk_lt h hB a b hT; omega), zero_mul]
  rw [Finset.sum_congr rfl fun T' _ => e T', Finset.sum_add_distrib, Finset.sum_ite_eq' Finset.univ T, if_pos (Finset.mem_univ T), ← Finset.mul_sum]
  rfl

/-- What a row's weighted sum over all rows that it sees is: its block and the chunks before the block. -/
theorem sum_sees (hB : 64 ∣ B) (L : ℝ) (T : Fin K) (a : Fin B) (g : Fin 16384 → ℝ) :
    ∑ m, w L (row h T a) m * g m = ∑ b : Fin B, w L (row h T a) (row h T b) * g (row h T b)
      + Real.exp (L * (a.val + 1)) * earlier L (T.val * B / 64) g := by
  obtain ⟨r, rfl⟩ := hB
  have hs : T.val * (64 * r) / 64 = T.val * r := by rw [show T.val * (64 * r) = T.val * r * 64 by ring, Nat.mul_div_cancel _ (by norm_num)]
  have split : ∀ m : Fin 16384, w L (row h T a) m * g m
      = (if m.val / 64 < T.val * r then w L (row h T a) m * g m else 0) + (if m.val / 64 < T.val * r then 0 else w L (row h T a) m * g m) := by
    intro m
    split_ifs <;> simp
  rw [Finset.sum_congr rfl fun m _ => split m, Finset.sum_add_distrib, add_comm]
  refine congrArg₂ (· + ·) ?_ ?_
  · rw [sum_rows h, Finset.sum_eq_single T]
    · refine Finset.sum_congr rfl fun b _ => ?_
      rw [if_neg]
      simp only [row]
      rw [show T.val * (64 * r) = 64 * (T.val * r) by ring]
      generalize T.val * r = x
      omega
    · intro T' _ hne
      refine Finset.sum_eq_zero fun b _ => ?_
      rcases lt_or_gt_of_ne hne with hT | hT
      · rw [if_pos]
        have h2 := Nat.mul_le_mul_right r (Nat.succ_le_of_lt (show T'.val < T.val from hT))
        rw [Nat.succ_mul] at h2
        have hb := b.isLt
        simp only [row]
        rw [show T'.val * (64 * r) = 64 * (T'.val * r) by ring]
        generalize T.val * r = x at *
        generalize T'.val * r = y at *
        omega
      · rw [w, if_neg (not_le.mpr (chunk_lt h (Dvd.intro r rfl) a b hT)), zero_mul, ite_self]
    · intro hn
      exact absurd (Finset.mem_univ T) hn
  · rw [sum_rows (K := 256) (B := 64) (by decide), earlier, Finset.mul_sum, hs]
    refine Finset.sum_congr rfl fun j _ => ?_
    have hj : ∀ c : Fin 64, (row (K := 256) (B := 64) (by decide) j c).val / 64 = j.val := by
      intro c
      simp only [row]
      omega
    by_cases hlt : j.val < T.val * r
    · rw [if_pos hlt, Finset.mul_sum, Finset.mul_sum]
      refine Finset.sum_congr rfl fun c _ => ?_
      rw [if_pos (by rw [hj]; exact hlt), w, hj]
      have hrow : (row h T a).val = 64 * (T.val * r) + a.val := by
        simp only [row]
        ring
      have hcv := c.isLt
      have hle : j.val ≤ (row h T a).val / 64 := by rw [hrow]; omega
      have hv : ((row (K := 256) (B := 64) (by decide) j c).val : ℝ) ≤ (row h T a).val := by
        have : (row (K := 256) (B := 64) (by decide) j c).val ≤ (row h T a).val := by rw [hrow]; simp only [row]; omega
        exact_mod_cast this
      rw [if_pos hle, abs_of_nonneg (sub_nonneg.mpr hv), row_val, row_val, ← mul_assoc, ← mul_assoc, ← Real.exp_add, ← Real.exp_add]
      congr 2
      push_cast
      ring
    · rw [if_neg hlt, mul_zero]
      refine Finset.sum_eq_zero fun c _ => ?_
      rw [if_neg (by rw [hj]; exact hlt)]

/-- The decayed sum of the later blocks, one block at a time from the last. -/
theorem later_step (L : ℝ) (T T' : Fin K) (hT : T'.val = T.val + 1) (g : Fin 16384 → ℝ) :
    later h L T g = later h L T' g * Real.exp (L * B) + ∑ a : Fin B, Real.exp (L * (a.val + 1)) * g (row h T' a) := by
  have e : ∀ U : Fin K, (if T < U then Real.exp (L * ((U.val - T.val - 1) * B)) * ∑ a : Fin B, Real.exp (L * (a.val + 1)) * g (row h U a) else 0)
      = (if T' < U then Real.exp (L * ((U.val - T'.val - 1) * B)) * ∑ a : Fin B, Real.exp (L * (a.val + 1)) * g (row h U a) else 0) * Real.exp (L * B)
        + (if U = T' then ∑ a : Fin B, Real.exp (L * (a.val + 1)) * g (row h T' a) else 0) := by
    intro U
    rcases lt_trichotomy T' U with hU | rfl | hU
    · have hU' : T < U := by have : T'.val < U.val := hU; exact Fin.lt_def.mpr (by omega)
      rw [if_pos hU', if_pos hU, if_neg hU.ne', add_zero, mul_right_comm, ← Real.exp_add]
      congr 2
      rw [hT]
      push_cast
      ring
    · have hU' : T < T' := Fin.lt_def.mpr (by omega)
      rw [if_pos hU', if_neg (lt_irrefl _), if_pos rfl, zero_mul, zero_add, hT]
      push_cast
      rw [show L * (((T.val : ℝ) + 1 - T.val - 1) * B) = 0 by ring, Real.exp_zero, one_mul]
    · have hU' : ¬T < U := by have : U.val < T'.val := hU; rw [Fin.lt_def]; omega
      rw [if_neg hU', if_neg hU.asymm, if_neg hU.ne]
      simp
  unfold later
  rw [Finset.sum_congr rfl fun U _ => e U, Finset.sum_add_distrib, Finset.sum_ite_eq' Finset.univ T', if_pos (Finset.mem_univ T'), Finset.sum_mul]

theorem later_last (L : ℝ) (T : Fin K) (hT : T.val + 1 = K) (g : Fin 16384 → ℝ) : later h L T g = 0 := by
  refine Finset.sum_eq_zero fun U _ => if_neg ?_
  have := U.isLt
  rw [Fin.lt_def]
  omega

end Cert.RetSpec
-- ==== Proof.RetReal.lean ====
/-
  The retention's gradient as the two programs compute it, over the reals: the rotated queries and keys of a head, the
  decay's logarithm, the gradients as sums over all rows, and these sums cut into blocks. Also the few facts that turn the
  programs' extended reals into real numbers.
-/
module

public import proofs.«01_k».proof.Proof.RetSpec
public import proofs.«01_k».proof.Proof.AttnSpec
public import Idealize.ShloMosaic.Lib.Pointwise

@[expose] public section

set_option maxRecDepth 16384

noncomputable section

open Idealize.ShloMosaic Idealize.ShloMosaic.TcCoe

namespace Cert.RetSpec

/-! ## The gradients of one head -/

section
variable (L : ℝ) (q k : Fin 16384 → Fin 256 → ℝ) (v g : Fin 16384 → Fin 512 → ℝ)

/-- The values' gradient. -/
def gvAll (m : Fin 16384) (e : Fin 512) : ℝ := ∑ n, w L n m * ((∑ d, q n d * k m d) * g n e)
/-- The rotated keys' gradient. -/
def gkAll (m : Fin 16384) (d : Fin 256) : ℝ := ∑ n, w L n m * ((∑ e, g n e * v m e) * q n d)
/-- The rotated, scaled queries' gradient. -/
def gqAll (n : Fin 16384) (d : Fin 256) : ℝ := ∑ m, w L n m * ((∑ e, g n e * v m e) * k m d)

variable {B K : ℕ} (h : K * B = 16384) (hB : 64 ∣ B)
include hB

theorem gv_blocks (T : Fin K) (b : Fin B) (e : Fin 512) : gvAll L q k g (row h T b) e
    = ∑ a, (∑ d, q (row h T a) d * k (row h T b) d) * w L (row h T a) (row h T b) * g (row h T a) e
      + ∑ d, k (row h T b) d * Real.exp (L * (B - 1 - b.val)) * later h L T (fun n => q n d * g n e) := by
  unfold gvAll
  rw [sum_seen h hB]
  refine congrArg₂ (· + ·) (Finset.sum_congr rfl fun a _ => by ring) ?_
  have e1 : (fun n => (∑ d, q n d * k (row h T b) d) * g n e) = fun n => ∑ d, k (row h T b) d * (q n d * g n e) := by
    funext n
    rw [Finset.sum_mul]
    exact Finset.sum_congr rfl fun d _ => by ring
  rw [e1, ← later_sum h L T (fun d => k (row h T b) d) (fun d n => q n d * g n e), Finset.mul_sum]
  exact Finset.sum_congr rfl fun d _ => by ring

theorem gk_blocks (T : Fin K) (b : Fin B) (d : Fin 256) : gkAll L q v g (row h T b) d
    = ∑ a, (∑ e, g (row h T a) e * v (row h T b) e) * w L (row h T a) (row h T b) * q (row h T a) d
      + (∑ e, v (row h T b) e * later h L T (fun n => q n d * g n e)) * Real.exp (L * (B - 1 - b.val)) := by
  unfold gkAll
  rw [sum_seen h hB]
  refine congrArg₂ (· + ·) (Finset.sum_congr rfl fun a _ => by ring) ?_
  have e1 : (fun n => (∑ e, g n e * v (row h T b) e) * q n d) = fun n => ∑ e, v (row h T b) e * (q n d * g n e) := by
    funext n
    rw [Finset.sum_mul]
    exact Finset.sum_congr rfl fun d _ => by ring
  rw [e1, ← later_sum h L T (fun e => v (row h T b) e) (fun e n => q n d * g n e), mul_comm]

theorem gq_blocks (T : Fin K) (a : Fin B) (d : Fin 256) : gqAll L k v g (row h T a) d
    = ∑ e, g (row h T a) e * Real.exp (L * (a.val + 1)) * earlier L (T.val * B / 64) (fun m => k m d * v m e)
      + ∑ b, (∑ e, g (row h T a) e * v (row h T b) e) * w L (row h T a) (row h T b) * k (row h T b) d := by
  unfold gqAll
  rw [sum_sees h hB, add_comm]
  refine congrArg₂ (· + ·) ?_ (Finset.sum_congr rfl fun a _ => by ring)
  have e1 : (fun m => (∑ e, g (row h T a) e * v m e) * k m d) = fun m => ∑ e, g (row h T a) e * (k m d * v m e) := by
    funext n
    rw [Finset.sum_mul]
    exact Finset.sum_congr rfl fun d _ => by ring
  rw [e1, ← earlier_sum L (T.val * B / 64) (fun e => g (row h T a) e) (fun e m => k m d * v m e), Finset.mul_sum]
  exact Finset.sum_congr rfl fun d _ => by ring

omit hB in
/-- The decay within one block. -/
theorem w_block (hB : 64 ∣ B) (T : Fin K) (a b : Fin B) :
    w L (row h T a) (row h T b) = if b.val / 64 ≤ a.val / 64 then Real.exp (L * |(a.val : ℝ) - (b.val : ℝ)|) else 0 := by
  obtain ⟨r, rfl⟩ := hB
  have e : ∀ c : Fin (64 * r), (row h T c).val / 64 = T.val * r + c.val / 64 := by
    intro c
    simp only [row]
    rw [show T.val * (64 * r) = 64 * (T.val * r) by ring]
    generalize T.val * r = x
    omega
  have e2 : ((row h T a).val : ℝ) - ((row h T b).val : ℝ) = (a.val : ℝ) - (b.val : ℝ) := by
    rw [row_val, row_val]
    ring
  unfold w
  rw [e, e, e2]
  by_cases hc : b.val / 64 ≤ a.val / 64
  · rw [if_pos hc, if_pos (by omega)]
  · rw [if_neg hc, if_neg (by omega)]

omit hB in
/-- Within a chunk every row sees every row. -/
theorem w_chunk (h : 256 * 64 = 16384) (T : Fin 256) (a b : Fin 64) :
    w L (row h T a) (row h T b) = Real.exp (L * |(a.val : ℝ) - (b.val : ℝ)|) := by
  rw [w_block L h (by norm_num), if_pos (by omega)]
end

/-! ## Rotation -/

/-- A head's row rotated by the row's cosines and sines. -/
def rot (c s : Fin 128 → ℝ) (x : Fin 256 → ℝ) (d : Fin 256) : ℝ :=
  if h : d.val < 128 then x d * c ⟨d.val, h⟩ - x ⟨128 + d.val, by omega⟩ * s ⟨d.val, h⟩
  else x ⟨128 + (d.val - 128), by omega⟩ * c ⟨d.val - 128, by omega⟩ + x ⟨d.val - 128, by omega⟩ * s ⟨d.val - 128, by omega⟩

/-- The rotation back. -/
def rotT (c s : Fin 128 → ℝ) (x : Fin 256 → ℝ) (d : Fin 256) : ℝ :=
  if h : d.val < 128 then x d * c ⟨d.val, h⟩ + x ⟨128 + d.val, by omega⟩ * s ⟨d.val, h⟩
  else x ⟨128 + (d.val - 128), by omega⟩ * c ⟨d.val - 128, by omega⟩ - x ⟨d.val - 128, by omega⟩ * s ⟨d.val - 128, by omega⟩

section
variable (P : Fin 16384 → Fin 10240 → ℝ) (C S : Fin 16384 → Fin 128 → ℝ) (G : Fin 16384 → Fin 2048 → ℝ)

/-- Head `h`'s queries, rotated and scaled. -/
def qr (h : Fin 4) (n : Fin 16384) (d : Fin 256) : ℝ := rot (C n) (S n) (fun d => P n ⟨h.val * 256 + d.val, by omega⟩) d * (1 / 16)
/-- Head `h`'s keys, rotated. -/
def kr (h : Fin 4) (n : Fin 16384) (d : Fin 256) : ℝ := rot (C n) (S n) (fun d => P n ⟨1024 + (h.val * 256 + d.val), by omega⟩) d
/-- Head `h`'s values. -/
def vr (h : Fin 4) (n : Fin 16384) (e : Fin 512) : ℝ := P n ⟨2048 + (h.val * 512 + e.val), by omega⟩
/-- Head `h`'s incoming gradient. -/
def gr (h : Fin 4) (n : Fin 16384) (e : Fin 512) : ℝ := G n ⟨h.val * 512 + e.val, by omega⟩
/-- The logarithm of head `h`'s decay from one row to the next. -/
def lg (h : Fin 4) : ℝ := Real.log (1 - Real.rpow 2 (-5 - h.val))

/-- The queries' gradient. -/
def gqOut (h : Fin 4) (n : Fin 16384) (d : Fin 256) : ℝ :=
  rotT (C n) (S n) (fun d => gqAll (lg h) (kr P C S h) (vr P h) (gr G h) n d * (1 / 16)) d
/-- The keys' gradient. -/
def gkOut (h : Fin 4) (n : Fin 16384) (d : Fin 256) : ℝ :=
  rotT (C n) (S n) (fun d => gkAll (lg h) (qr P C S h) (vr P h) (gr G h) n d) d
/-- The values' gradient. -/
def gvOut (h : Fin 4) (n : Fin 16384) (e : Fin 512) : ℝ := gvAll (lg h) (qr P C S h) (kr P C S h) (gr G h) n e
end

/-! ## Extended reals that are real -/

theorem lit2 : Ideal.ofBits FTy.f32 1073741824#32 = ((2 : ℝ) : EReal) := by simp [Ideal.ofBits, Ideal.ieee]; rw [← EReal.coe_mul]; norm_num
theorem litm5 : Ideal.ofBits FTy.f32 3231711232#32 = ((-5 : ℝ) : EReal) := by simp [Ideal.ofBits, Ideal.ieee]; rw [← EReal.coe_mul]; norm_num
theorem lit16 : Ideal.ofBits FTy.f32 1031798784#32 = ((1 / 16 : ℝ) : EReal) := by simp [Ideal.ofBits, Ideal.ieee]; rw [← EReal.coe_mul]; norm_num
theorem lit8 : Ideal.ofBits FTy.f32 0x41000000#32 = ((8 : ℝ) : EReal) := by simp [Ideal.ofBits, Ideal.ieee]; rw [← EReal.coe_mul]; norm_num
theorem lit63 : Ideal.ofBits FTy.f32 0x427C0000#32 = ((63 : ℝ) : EReal) := by simp [Ideal.ofBits, Ideal.ieee]; rw [← EReal.coe_mul]; norm_num
theorem lit64 : Ideal.ofBits FTy.f32 0x42800000#32 = ((64 : ℝ) : EReal) := by simp [Ideal.ofBits, Ideal.ieee]; rw [← EReal.coe_mul]; norm_num
theorem lit511 : Ideal.ofBits FTy.f32 0x43FF8000#32 = ((511 : ℝ) : EReal) := by simp [Ideal.ofBits, Ideal.ieee]; rw [← EReal.coe_mul]; norm_num
theorem lit512 : Ideal.ofBits FTy.f32 0x44000000#32 = ((512 : ℝ) : EReal) := by simp [Ideal.ofBits, Ideal.ieee]; rw [← EReal.coe_mul]; norm_num

/-- A small number read from its word. -/
theorem nat_word (n : ℕ) (hn : n < 2 ^ 31) : FloatOps.sitofp (F := Ideal) FTy.f32 (BitVec.ofNat 32 n) = ((n : ℝ) : EReal) := by
  refine Eq.trans (b := (((BitVec.ofNat 32 n).toInt : ℝ) : EReal)) rfl ?_
  rw [BitVec.toInt_eq_toNat_of_lt (by rw [BitVec.toNat_ofNat, Nat.mod_eq_of_lt (by omega)]; omega), BitVec.toNat_ofNat, Nat.mod_eq_of_lt (by omega)]
  simp

theorem absf_coe (r : ℝ) : FloatOps.absf (F := Ideal) (φ := FTy.f32) (r : EReal) = ((|r| : ℝ) : EReal) := by
  refine Eq.trans (b := max (r : EReal) (-(r : EReal))) rfl ?_
  rw [abs_eq_max_neg, EReal.coe_strictMono.monotone.map_max]
  rfl

/-- The decay's logarithm as both programs take it. -/
theorem lg_coe (h : Fin 4) : Ideal.log (1 - Ideal.pow (Ideal.ofBits FTy.f32 1073741824#32)
    (Ideal.ofBits FTy.f32 3231711232#32 - FloatOps.sitofp (F := Ideal) FTy.f32 (BitVec.ofNat 32 h.val))) = ((lg h : ℝ) : EReal) := by
  rw [nat_word _ (by omega), lit2, litm5, ← EReal.coe_sub, Ideal.pow_coe_coe, show (1 : EReal) = ((1 : ℝ) : EReal) from rfl, ← EReal.coe_sub, Ideal.log_coe, if_neg]
  · rfl
  · rw [not_le, sub_pos]
    exact Real.rpow_lt_one_of_one_lt_of_neg (by norm_num) (by have : (0 : ℝ) ≤ h.val := Nat.cast_nonneg _; linarith)

end Cert.RetSpec
-- ==== Proof.RetBlock.lean ====
/-
  One grid point of the retention gradient's kernel: what the body computes for one head from its tile of 512 rows, the
  state before the tile and the state's gradient behind it, for real blocks.
-/
module

public import proofs.«01_k».proof.Proof.RetReal
public import proofs.«01_k».proof.Proof.Gen.RetIdeal.Value
public import Idealize.ShloMosaic.Lib.Pipeline.ReadBack

@[expose] public section

set_option maxRecDepth 16384

noncomputable section

open Idealize.ShloMosaic Idealize.ShloMosaic.TcCoe Idealize.SL.Sem

namespace Cert.RetIdeal.Val

open Cert.RetIdeal Cert.RetIdeal.Gen Cert.RetSpec

theorem h512 : 32 * 512 = 16384 := by decide

theorem q_lt (h : Fin 4) (d : Fin 256) : h.val * 256 + d.val < 10240 := by omega
theorem k_lt (h : Fin 4) (d : Fin 256) : 1024 + (h.val * 256 + d.val) < 10240 := by omega

section
variable (P : Fin 16384 → Fin 10240 → ℝ) (C S : Fin 16384 → Fin 128 → ℝ) (G : Fin 16384 → Fin 2048 → ℝ) (h : Fin 4) (T : Fin 32)
variable (x0 x1 : FVec Ideal S512x256 .f32) (x2 : FVec Ideal S512x512 .f32) (x3 x4 : FVec Ideal S512x128 .f32) (x5 : FVec Ideal S1x512x512 .f32)
  (x6 x7 : FVec Ideal S1x512x1 .f32) (x8 : FVec Ideal S1x1x1 .f32) (x9 : FVec Ideal S1x1x256x512 .bf16) (x10 : FVec Ideal S512x512 .f32) (D : FVec Ideal S256x512 .f32)
variable (h0 : ∀ a d, x0 (ix2 a d) = ((P (row h512 T a) ⟨h.val * 256 + d.val, q_lt h d⟩ : ℝ) : EReal))
  (h1 : ∀ a d, x1 (ix2 a d) = ((P (row h512 T a) ⟨1024 + (h.val * 256 + d.val), k_lt h d⟩ : ℝ) : EReal))
  (h2 : ∀ a e, x2 (ix2 a e) = ((vr P h (row h512 T a) e : ℝ) : EReal))
  (h3 : ∀ a j, x3 (ix2 a j) = ((C (row h512 T a) j : ℝ) : EReal)) (h4 : ∀ a j, x4 (ix2 a j) = ((S (row h512 T a) j : ℝ) : EReal))
  (h5 : ∀ a b, x5 (ix3 0 a b) = ((w (lg h) (row h512 T a) (row h512 T b) : ℝ) : EReal))
  (h6 : ∀ a, x6 (ix3 0 a 0) = ((Real.exp (lg h * (a.val + 1)) : ℝ) : EReal))
  (h7 : ∀ a, x7 (ix3 0 a 0) = ((Real.exp (lg h * (511 - a.val)) : ℝ) : EReal))
  (h8 : x8 (ix3 0 0 0) = ((Real.exp (lg h * 512) : ℝ) : EReal))
  (h9 : ∀ d e, x9 (ix4 0 0 d e) = ((earlier (lg h) (T.val * 512 / 64) (fun m => kr P C S h m d * vr P h m e) : ℝ) : EReal))
  (h10 : ∀ a e, x10 (ix2 a e) = ((gr G h (row h512 T a) e : ℝ) : EReal))
  (hD : ∀ d e, D (ix2 d e) = ((later h512 (lg h) T (fun n => qr P C S h n d * gr G h n e) : ℝ) : EReal))

include h3 h4 in
theorem p5 (x0 : FVec Ideal S512x256 .f32) (h0 : ∀ a d, x0 (ix2 a d) = ((P (row h512 T a) ⟨h.val * 256 + d.val, q_lt h d⟩ : ℝ) : EReal)) (a : Fin 512) (d : Fin 256) :
    k0_pay5 (F := Ideal) x3 x4 x0 (ix2 a d) = ((qr P C S h (row h512 T a) d : ℝ) : EReal) := by
  pointwise [k0_pay5]
  simp only [h0, h3, h4, lit16, ← EReal.coe_mul, ← EReal.coe_sub, ← EReal.coe_add]
  unfold qr rot
  by_cases hd : d.val < 128
  · simp only [dif_pos hd, ← EReal.coe_mul]
  · simp only [dif_neg hd, ← EReal.coe_mul]

include h1 h3 h4 in
theorem p6 (a : Fin 512) (d : Fin 256) : k0_pay6 (F := Ideal) x3 x4 x1 (ix2 a d) = ((kr P C S h (row h512 T a) d : ℝ) : EReal) := by
  pointwise [k0_pay6]
  simp only [h1, h3, h4, ← EReal.coe_mul, ← EReal.coe_sub, ← EReal.coe_add]
  unfold kr rot
  by_cases hd : d.val < 128
  · simp only [dif_pos hd]
  · simp only [dif_neg hd]

/-- The tile of the values' gradient. -/
def gvT : FVec Ideal S512x512 .bf16 :=
  k0_pay13 (F := Ideal) (k0_pay5 x3 x4 x0) (k0_pay6 x3 x4 x1) (k0_pay7 x3 x4 x1) (k0_pay9 x5) (k0_pay10 x7) x10 D
/-- The tile of the queries' gradient. -/
def gqT : FVec Ideal S512x256 .bf16 :=
  k0_pay2 (F := Ideal) x3 x4 (k0_pay16 (k0_pay7 x3 x4 x1) (k0_pay8 x2) (k0_pay9 x5) x10 x6 x9)
/-- The tile of the keys' gradient. -/
def gkT : FVec Ideal S512x256 .bf16 :=
  k0_pay3 (F := Ideal) x3 x4 (k0_pay17 (k0_pay5 x3 x4 x0) (k0_pay8 x2) (k0_pay9 x5) (k0_pay10 x7) x10 D)
/-- The state's gradient before the tile. -/
def dsT : FVec Ideal S256x512 .f32 :=
  k0_pay1 (F := Ideal) (k0_pay5 x3 x4 x0) (k0_pay14 x10 x6) D (k0_pay18 x8)

include h0 h1 h3 h4 h5 h7 h10 hD in
theorem gvT_eq (b : Fin 512) (e : Fin 512) : gvT x0 x1 x3 x4 x5 x7 x10 D (ix2 b e)
    = ((gvAll (lg h) (qr P C S h) (kr P C S h) (gr G h) (row h512 T b) e : ℝ) : EReal) := by
  pointwise [gvT, k0_pay13, k0_pay12, k0_pay11, k0_pay9, k0_pay10, k0_pay7]
  simp only [p5 P C S h T x3 x4 h3 h4 x0 h0, p6 P C S h T x1 x3 x4 h1 h3 h4, h5, h7, h10, hD, ← EReal.coe_mul, Cert.AttnSpec.coe_sum, ← EReal.coe_add]
  refine congrArg _ ?_
  rw [gv_blocks (lg h) _ _ _ h512 (by norm_num)]
  refine congrArg₂ (· + ·) (Finset.sum_congr rfl fun a _ => by ring) (Finset.sum_congr rfl fun d _ => ?_)
  norm_num

include h0 h2 h3 h4 h5 h7 h10 hD in
theorem gkT_eq (b : Fin 512) (d : Fin 256) : gkT x0 x2 x3 x4 x5 x7 x10 D (ix2 b d) = ((gkOut P C S G h (row h512 T b) d : ℝ) : EReal) := by
  have e : ∀ d, k0_pay17 (F := Ideal) (k0_pay5 x3 x4 x0) (k0_pay8 x2) (k0_pay9 x5) (k0_pay10 x7) x10 D (ix2 b d)
      = ((gkAll (lg h) (qr P C S h) (vr P h) (gr G h) (row h512 T b) d : ℝ) : EReal) := by
    intro d
    pointwise [k0_pay17, k0_pay15, k0_pay12, k0_pay11, k0_pay9, k0_pay10, k0_pay8]
    simp only [p5 P C S h T x3 x4 h3 h4 x0 h0, h2, h5, h7, h10, hD, ← EReal.coe_mul, Cert.AttnSpec.coe_sum, ← EReal.coe_add]
    refine congrArg _ ?_
    rw [gk_blocks (lg h) _ _ _ h512 (by norm_num)]
    refine congrArg₂ (· + ·) (Finset.sum_congr rfl fun a _ => by ring) (congrArg₂ (· * ·) rfl ?_)
    norm_num
  unfold gkT
  generalize k0_pay17 (F := Ideal) (k0_pay5 x3 x4 x0) (k0_pay8 x2) (k0_pay9 x5) (k0_pay10 x7) x10 D = y at e
  pointwise [k0_pay3]
  simp only [e, h3, h4, ← EReal.coe_mul, ← EReal.coe_sub, ← EReal.coe_add]
  unfold gkOut rotT
  by_cases hd : d.val < 128
  · simp only [dif_pos hd]
  · simp only [dif_neg hd]

include h1 h2 h3 h4 h5 h6 h9 h10 in
theorem gqT_eq (a : Fin 512) (d : Fin 256) : gqT x1 x2 x3 x4 x5 x6 x9 x10 (ix2 a d) = ((gqOut P C S G h (row h512 T a) d : ℝ) : EReal) := by
  have e : ∀ d, k0_pay16 (F := Ideal) (k0_pay7 x3 x4 x1) (k0_pay8 x2) (k0_pay9 x5) x10 x6 x9 (ix2 a d)
      = ((gqAll (lg h) (kr P C S h) (vr P h) (gr G h) (row h512 T a) d : ℝ) : EReal) := by
    intro d
    pointwise [k0_pay16, k0_pay15, k0_pay14, k0_pay11, k0_pay9, k0_pay8, k0_pay7]
    simp only [p6 P C S h T x1 x3 x4 h1 h3 h4, h2, h5, h6, h9, h10, ← EReal.coe_mul, Cert.AttnSpec.coe_sum, ← EReal.coe_add]
    refine congrArg _ ?_
    rw [gq_blocks (lg h) _ _ _ h512 (by norm_num)]
  unfold gqT
  generalize k0_pay16 (F := Ideal) (k0_pay7 x3 x4 x1) (k0_pay8 x2) (k0_pay9 x5) x10 x6 x9 = y at e
  pointwise [k0_pay2]
  simp only [e, h3, h4, lit16, ← EReal.coe_mul, ← EReal.coe_sub, ← EReal.coe_add]
  unfold gqOut rotT
  by_cases hd : d.val < 128
  · simp only [dif_pos hd]
  · simp only [dif_neg hd]

include h0 h3 h4 h6 h8 h10 hD in
theorem dsT_eq (T' : Fin 32) (hT : T.val = T'.val + 1) (d : Fin 256) (e : Fin 512) : dsT x0 x3 x4 x6 x8 x10 D (ix2 d e)
    = ((later h512 (lg h) T' (fun n => qr P C S h n d * gr G h n e) : ℝ) : EReal) := by
  pointwise [dsT, k0_pay1, k0_pay14, k0_pay18]
  simp only [p5 P C S h T x3 x4 h3 h4 x0 h0, h6, h8, h10, hD, ← EReal.coe_mul, Cert.AttnSpec.coe_sum, ← EReal.coe_add]
  refine congrArg _ ?_
  rw [later_step h512 (lg h) T' T hT]
  refine congrArg₂ (· + ·) (by norm_num) (Finset.sum_congr rfl fun a _ => by ring)

end

set_option maxHeartbeats 2000000

section
variable (m : (ℓ : Loc nD τ sig) → Buf (Elt Ideal) ℓ) (cc : Dev nD)

theorem outA_q (t : Fin cfg0.N) (h0 : t.val % 32 = 0) : (outsAt0 m cc t.val t.isLt).1
    = gqT (iblk m cc 1 t) (iblk m cc 2 t) (iblk m cc 3 t) (iblk m cc 4 t) (iblk m cc 5 t) (iblk m cc 6 t) (iblk m cc 9 t) (iblk m cc 10 t) := by
  rw [outsAt0_A m cc t h0]
  frame_out
  rfl

theorem outA_k (t : Fin cfg0.N) (h0 : t.val % 32 = 0) : (outsAt0 m cc t.val t.isLt).2.1
    = gkT (iblk m cc 0 t) (iblk m cc 2 t) (iblk m cc 3 t) (iblk m cc 4 t) (iblk m cc 5 t) (iblk m cc 7 t) (iblk m cc 10 t) (k0_pay4 (F := Ideal)) := by
  rw [outsAt0_A m cc t h0]
  frame_out
  rfl

theorem outA_v (t : Fin cfg0.N) (h0 : t.val % 32 = 0) : (outsAt0 m cc t.val t.isLt).2.2.1
    = gvT (iblk m cc 0 t) (iblk m cc 1 t) (iblk m cc 3 t) (iblk m cc 4 t) (iblk m cc 5 t) (iblk m cc 7 t) (iblk m cc 10 t) (k0_pay4 (F := Ideal)) := by
  rw [outsAt0_A m cc t h0]
  frame_out
  rfl

theorem outA_s (t : Fin cfg0.N) (h0 : t.val % 32 = 0) : (outsAt0 m cc t.val t.isLt).2.2.2
    = dsT (iblk m cc 0 t) (iblk m cc 3 t) (iblk m cc 4 t) (iblk m cc 6 t) (iblk m cc 8 t) (iblk m cc 10 t) (k0_pay4 (F := Ideal)) := by
  rw [outsAt0_A m cc t h0]
  frame_out
  rfl

theorem outB_q (t : Fin cfg0.N) (h0 : ¬t.val % 32 = 0) (D : FVec Ideal S256x512 .f32)
    (hD : (outsAt0 m cc (t.val - 1) (Nat.lt_of_le_of_lt (Nat.sub_le _ _) t.isLt)).2.2.2 = D) : (outsAt0 m cc t.val t.isLt).1
    = gqT (iblk m cc 1 t) (iblk m cc 2 t) (iblk m cc 3 t) (iblk m cc 4 t) (iblk m cc 5 t) (iblk m cc 6 t) (iblk m cc 9 t) (iblk m cc 10 t) := by
  rw [outsAt0_B m cc t h0, hD]
  frame_out
  rfl

theorem outB_k (t : Fin cfg0.N) (h0 : ¬t.val % 32 = 0) (D : FVec Ideal S256x512 .f32)
    (hD : (outsAt0 m cc (t.val - 1) (Nat.lt_of_le_of_lt (Nat.sub_le _ _) t.isLt)).2.2.2 = D) : (outsAt0 m cc t.val t.isLt).2.1
    = gkT (iblk m cc 0 t) (iblk m cc 2 t) (iblk m cc 3 t) (iblk m cc 4 t) (iblk m cc 5 t) (iblk m cc 7 t) (iblk m cc 10 t) D := by
  rw [outsAt0_B m cc t h0, hD]
  frame_out
  rw [read_unread_whole]
  rfl

theorem outB_v (t : Fin cfg0.N) (h0 : ¬t.val % 32 = 0) (D : FVec Ideal S256x512 .f32)
    (hD : (outsAt0 m cc (t.val - 1) (Nat.lt_of_le_of_lt (Nat.sub_le _ _) t.isLt)).2.2.2 = D) : (outsAt0 m cc t.val t.isLt).2.2.1
    = gvT (iblk m cc 0 t) (iblk m cc 1 t) (iblk m cc 3 t) (iblk m cc 4 t) (iblk m cc 5 t) (iblk m cc 7 t) (iblk m cc 10 t) D := by
  rw [outsAt0_B m cc t h0, hD]
  frame_out
  rw [read_unread_whole]
  rfl

theorem outB_s (t : Fin cfg0.N) (h0 : ¬t.val % 32 = 0) (D : FVec Ideal S256x512 .f32)
    (hD : (outsAt0 m cc (t.val - 1) (Nat.lt_of_le_of_lt (Nat.sub_le _ _) t.isLt)).2.2.2 = D) : (outsAt0 m cc t.val t.isLt).2.2.2
    = dsT (iblk m cc 0 t) (iblk m cc 3 t) (iblk m cc 4 t) (iblk m cc 6 t) (iblk m cc 8 t) (iblk m cc 10 t) D := by
  rw [outsAt0_B m cc t h0, hD]
  frame_out
  rw [read_unread_whole]
  rfl

end

end Cert.RetIdeal.Val
-- ==== Proof.RetHost.lean ====
/-
  The tables the host prepares for the retention gradient's kernel: the decays within a tile of 512 rows, along it and across
  it, for each head.
-/
module

public import proofs.«01_k».proof.Proof.RetReal
public import proofs.«01_k».proof.Proof.Gen.RetIdeal.Value

@[expose] public section

set_option maxRecDepth 16384

noncomputable section

open Idealize.ShloMosaic Idealize.ShloMosaic.TcCoe Idealize.SL.Sem

namespace Cert.RetIdeal.Val

open Cert.RetIdeal Cert.RetIdeal.Gen Cert.RetSpec

variable (m : (ℓ : Loc nD τ sig) → Buf (Elt Ideal) ℓ) (cc : Dev nD)

set_option maxHeartbeats 2000000

theorem V_v128 (h : Fin 4) : (V m cc main_v128 : FVec Ideal S4x1x1 .f32) (ix3 h 0 0) = ((Real.exp (lg h * 512) : ℝ) : EReal) := by
  dsimp only [V, hostOps0, hostOps0_1, hostOps0_2, hostOps0_3, hostOps0_4, hostOps0_5, hostOps0_6]
  simp only [List.flatten_cons, List.flatten_nil, List.append_nil, List.cons_append, List.nil_append]
  after_results_simp
  pointwise []
  rw [lg_coe, lit512, ← EReal.coe_mul, Ideal.exp_coe]

theorem V_v115 (h : Fin 4) (a : Fin 512) : (V m cc main_v115 : FVec Ideal S4x512x1 .f32) (ix3 h a 0) = ((Real.exp (lg h * (a.val + 1)) : ℝ) : EReal) := by
  dsimp only [V, hostOps0, hostOps0_1, hostOps0_2, hostOps0_3, hostOps0_4, hostOps0_5, hostOps0_6]
  simp only [List.flatten_cons, List.flatten_nil, List.append_nil, List.cons_append, List.nil_append]
  after_results_simp
  pointwise []
  rw [lg_coe, nat_word _ (by omega), show (1 : EReal) = ((1 : ℝ) : EReal) from rfl, ← EReal.coe_add, ← EReal.coe_mul, Ideal.exp_coe]

theorem V_v124 (h : Fin 4) (a : Fin 512) : (V m cc main_v124 : FVec Ideal S4x512x1 .f32) (ix3 h a 0) = ((Real.exp (lg h * (511 - a.val)) : ℝ) : EReal) := by
  dsimp only [V, hostOps0, hostOps0_1, hostOps0_2, hostOps0_3, hostOps0_4, hostOps0_5, hostOps0_6]
  simp only [List.flatten_cons, List.flatten_nil, List.append_nil, List.cons_append, List.nil_append]
  after_results_simp
  pointwise []
  rw [lg_coe, nat_word _ (by omega), lit511, ← EReal.coe_sub, ← EReal.coe_mul, Ideal.exp_coe]

/-- The host's rounded-down quotient of a word by 64. -/
def chunkOf (x : BitVec 32) : BitVec 32 := Scalar.select
  (IntOp.andi (IntOp.cmpi CmpIPredicate.ne (if x = 0 then (0 : BitVec 32) else if x.msb = true then -1 else 1)
      (if 64#32 = 0 then (0 : BitVec 32) else if (64#32).msb = true then -1 else 1))
    (IntOp.cmpi CmpIPredicate.ne (IntOp.remsi ArithUnit.host x 64#32) 0#32))
  (IntOp.subi (IntOp.divsi ArithUnit.host x 64#32) 1#32) (IntOp.divsi ArithUnit.host x 64#32)

theorem chunkOf_eq (a : Fin 512) : chunkOf (BitVec.ofNat 32 a.val) = BitVec.ofNat 32 (a.val / 64) := by
  revert a
  decide +kernel

theorem sle_eq (x y : Fin 8) : IntOp.cmpi CmpIPredicate.sle (BitVec.ofNat 32 x.val) (BitVec.ofNat 32 y.val) = if x.val ≤ y.val then 1#1 else 0#1 := by
  revert x y
  decide +kernel

theorem V_v106 (h : Fin 4) (a b : Fin 512) : (V m cc main_v106 : FVec Ideal S4x512x512 .f32) (ix3 h a b)
    = ((if b.val / 64 ≤ a.val / 64 then Real.exp (lg h * |(a.val : ℝ) - (b.val : ℝ)|) else 0 : ℝ) : EReal) := by
  dsimp only [V, hostOps0, hostOps0_1, hostOps0_2, hostOps0_3, hostOps0_4, hostOps0_5, hostOps0_6]
  simp only [List.flatten_cons, List.flatten_nil, List.append_nil, List.cons_append, List.nil_append]
  after_results_simp
  simp only [StableHlo.TRef.toBuf, StableHlo.TRef.ofBuf, cast_eq, id]
  pointwise []
  rw [lg_coe, nat_word a.val (by omega), nat_word b.val (by omega), ← EReal.coe_sub, absf_coe, ← EReal.coe_mul, Ideal.exp_coe]
  refine Eq.trans (congrArg (fun c => Scalar.select c _ _) (congrArg₂ (IntOp.cmpi CmpIPredicate.sle) (chunkOf_eq b) (chunkOf_eq a))) ?_
  rw [ sle_eq ⟨b.val / 64, by omega⟩ ⟨a.val / 64, by omega⟩]
  by_cases hc : b.val / 64 ≤ a.val / 64
  · rw [if_pos hc, if_pos hc]
    rfl
  · rw [if_neg hc, if_neg hc]
    rfl

/-- The decay from chunk `j` to the tile of rows `T`, as the host takes it. -/
theorem apart (h : Fin 4) (T : Fin 32) (j : Fin 256) :
    (if ((j.val : ℝ) : EReal) < ((T.val : ℝ) : EReal) * ((8 : ℝ) : EReal) then
      Ideal.exp (((lg h : ℝ) : EReal) * (max (((T.val : ℝ) : EReal) * ((8 : ℝ) : EReal) - ((j.val : ℝ) : EReal) - 1) 0 * ((64 : ℝ) : EReal))) else 0)
    = ((if j.val < T.val * 512 / 64 then Real.exp (lg h * ((((T.val * 512 / 64 : ℕ) : ℝ) - j.val - 1) * 64)) else 0 : ℝ) : EReal) := by
  rw [show T.val * 512 / 64 = T.val * 8 by omega]
  have e : ((T.val * 8 : ℕ) : ℝ) = (T.val : ℝ) * 8 := by push_cast; ring
  by_cases hc : j.val < T.val * 8
  · have hr : (j.val : ℝ) < (T.val : ℝ) * 8 := e ▸ Nat.cast_lt.mpr hc
    have h0 : (0 : ℝ) ≤ (T.val : ℝ) * 8 - j.val - 1 := by
      have : ((j.val + 1 : ℕ) : ℝ) ≤ ((T.val * 8 : ℕ) : ℝ) := Nat.cast_le.mpr hc
      push_cast at this
      linarith
    rw [if_pos (by rw [← EReal.coe_mul]; exact EReal.coe_lt_coe_iff.mpr hr), if_pos hc, e, ← EReal.coe_mul, show (1 : EReal) = ((1 : ℝ) : EReal) from rfl, ← EReal.coe_sub, ← EReal.coe_sub,
      max_eq_left (EReal.coe_nonneg.mpr h0), ← EReal.coe_mul, ← EReal.coe_mul, Ideal.exp_coe]
  · have hr : ¬(j.val : ℝ) < (T.val : ℝ) * 8 := fun hn => hc (Nat.cast_lt.mp (e.symm ▸ hn))
    rw [if_neg (by rw [← EReal.coe_mul]; exact fun hn => hr (EReal.coe_lt_coe_iff.mp hn)), if_neg hc]
    rfl

theorem V_v76 (P : Fin 16384 → Fin 10240 → ℝ) (C S : Fin 16384 → Fin 128 → ℝ)
    (hP : ∀ i j, (m ((cc : Thread nD τ).loc main_arg0) : FVec Ideal S16384x10240 .f32) (ix2 i j) = ((P i j : ℝ) : EReal))
    (hC : ∀ i j, (m ((cc : Thread nD τ).loc main_arg1) : FVec Ideal S16384x128 .f32) (ix2 i j) = ((C i j : ℝ) : EReal))
    (hS : ∀ i j, (m ((cc : Thread nD τ).loc main_arg2) : FVec Ideal S16384x128 .f32) (ix2 i j) = ((S i j : ℝ) : EReal))
    (h : Fin 4) (T : Fin 32) (d : Fin 256) (e : Fin 512) : (V m cc main_v76 : FVec Ideal S4x32x256x512 .bf16) (ix4 h T d e)
    = ((earlier (lg h) (T.val * 512 / 64) (fun n => kr P C S h n d * vr P h n e) : ℝ) : EReal) := by
  dsimp only [V, hostOps0, hostOps0_1, hostOps0_2, hostOps0_3, hostOps0_4, hostOps0_5, hostOps0_6]
  simp only [List.flatten_cons, List.flatten_nil, List.append_nil, List.cons_append, List.nil_append]
  after_results_simp
  simp only [StableHlo.TRef.toBuf, StableHlo.TRef.ofBuf, cast_eq, id]
  pointwise []
  after_results_simp
  pointwise []
  have hP' : ∀ i j, m (cc, Proc.tc.devRef main_arg0) (ix2 i j) = ((P i j : ℝ) : EReal) := hP
  have hC' : ∀ i j, m (cc, Proc.tc.devRef main_arg1) (ix2 i j) = ((C i j : ℝ) : EReal) := hC
  have hS' : ∀ i j, m (cc, Proc.tc.devRef main_arg2) (ix2 i j) = ((S i j : ℝ) : EReal) := hS
  have n1 : ∀ j : Fin 256, FloatOps.sitofp (F := Ideal) FTy.f32 (BitVec.ofNat 32 j.val) = ((j.val : ℝ) : EReal) := fun j => nat_word _ (by omega)
  have n2 : ∀ j : Fin 64, FloatOps.sitofp (F := Ideal) FTy.f32 (BitVec.ofNat 32 j.val) = ((j.val : ℝ) : EReal) := fun j => nat_word _ (by omega)
  have n3 : FloatOps.sitofp (F := Ideal) FTy.f32 (BitVec.ofNat 32 T.val) = ((T.val : ℝ) : EReal) := nat_word _ (by omega)
  simp only [lg_coe, n1, n2, n3, lit8, lit64, lit63, apart]
  by_cases hd : d.val < 128
  · simp only [dif_pos hd, hP', hC', hS', ← EReal.coe_mul, ← EReal.coe_sub, Ideal.exp_coe, Cert.AttnSpec.coe_sum]
    refine congrArg _ ?_
    rw [Finset.sum_comm]
    refine Finset.sum_congr rfl fun j _ => ?_
    unfold kr rot vr
    simp only [dif_pos hd]
    by_cases hj : j.val < T.val * 512 / 64
    · simp only [if_pos hj, Finset.mul_sum]
      refine Finset.sum_congr rfl fun c _ => ?_
      unfold row
      ring
    · simp only [if_neg hj, zero_mul, Finset.sum_const_zero]
  · simp only [dif_neg hd, hP', hC', hS', ← EReal.coe_mul, ← EReal.coe_add, ← EReal.coe_sub, Ideal.exp_coe, Cert.AttnSpec.coe_sum]
    refine congrArg _ ?_
    rw [Finset.sum_comm]
    refine Finset.sum_congr rfl fun j _ => ?_
    unfold kr rot vr
    simp only [dif_neg hd]
    by_cases hj : j.val < T.val * 512 / 64
    · simp only [if_pos hj, Finset.mul_sum]
      refine Finset.sum_congr rfl fun c _ => ?_
      unfold row
      ring
    · simp only [if_neg hj, zero_mul, Finset.sum_const_zero]

end Cert.RetIdeal.Val
-- ==== Proof.RetVal.lean ====
/-
  The kernel of the retention's gradient, point by point: a head's tiles of 512 rows run from the last to the first, and the
  state's gradient that is carried from tile to tile is the decayed sum over the rows behind. Its three results are the
  gradients' sums over all rows.
-/
module

public import proofs.«01_k».proof.Proof.RetBlock
public import proofs.«01_k».proof.Proof.RetHost

@[expose] public section

set_option maxRecDepth 16384

noncomputable section

open Idealize.ShloMosaic Idealize.ShloMosaic.TcCoe Idealize.SL.Sem

namespace Cert.RetIdeal.Val

open Cert.RetIdeal Cert.RetIdeal.Gen Cert.RetSpec

theorem t_lt (t : Fin cfg0.N) : t.val < 128 := lt_of_lt_of_eq t.isLt N_0

/-- The head a point works on. -/
def hd (t : Fin cfg0.N) : Fin 4 := ⟨t.val / 32, by have := t_lt t; omega⟩
/-- The tile of rows a point works on. -/
def tl (t : Fin cfg0.N) : Fin 32 := ⟨31 - t.val % 32, by omega⟩

theorem idx (t : Fin cfg0.N) : win0_0.index t = ![(tl t).val, (hd t).val] ∧ win0_1.index t = ![(tl t).val, 4 + (hd t).val]
    ∧ win0_2.index t = ![(tl t).val, 4 + (hd t).val] ∧ win0_3.index t = ![(tl t).val, 0] ∧ win0_4.index t = ![(tl t).val, 0]
    ∧ win0_5.index t = ![(hd t).val, 0, 0] ∧ win0_6.index t = ![(hd t).val, 0, 0] ∧ win0_7.index t = ![(hd t).val, 0, 0]
    ∧ win0_8.index t = ![(hd t).val, 0, 0] ∧ win0_9.index t = ![(hd t).val, (tl t).val, 0, 0] ∧ win0_10.index t = ![(tl t).val, (hd t).val]
    ∧ win0_11.index t = ![(tl t).val, (hd t).val] ∧ win0_12.index t = ![(tl t).val, (hd t).val] ∧ win0_13.index t = ![(tl t).val, (hd t).val] := by
  revert t
  decide +kernel

variable (m : (ℓ : Loc nD τ sig) → Buf (Elt Ideal) ℓ) (cc : Dev nD)
variable (P : Fin 16384 → Fin 10240 → ℝ) (C S : Fin 16384 → Fin 128 → ℝ) (G : Fin 16384 → Fin 2048 → ℝ)
variable (hP : ∀ i j, (m ((cc : Thread nD τ).loc main_arg0) : FVec Ideal S16384x10240 .f32) (ix2 i j) = ((P i j : ℝ) : EReal))
  (hC : ∀ i j, (m ((cc : Thread nD τ).loc main_arg1) : FVec Ideal S16384x128 .f32) (ix2 i j) = ((C i j : ℝ) : EReal))
  (hS : ∀ i j, (m ((cc : Thread nD τ).loc main_arg2) : FVec Ideal S16384x128 .f32) (ix2 i j) = ((S i j : ℝ) : EReal))
  (hG : ∀ i j, (m ((cc : Thread nD τ).loc main_arg3) : FVec Ideal S16384x2048 .f32) (ix2 i j) = ((G i j : ℝ) : EReal))

/-! ## A point's blocks -/

section
variable (t : Fin cfg0.N)

include hP in
theorem b0 (a : Fin 512) (d : Fin 256) : (iblk m cc 0 t : FVec Ideal S512x256 .f32) (ix2 a d) = ((P (row h512 (tl t) a) ⟨(hd t).val * 256 + d.val, by omega⟩ : ℝ) : EReal) := by
  refine Eq.trans ?_ (hP _ _)
  rw [← V_main_arg0 m cc]
  unfold row
  blk_ext [iblk, idx t]

include hP in
theorem b1 (a : Fin 512) (d : Fin 256) : (iblk m cc 1 t : FVec Ideal S512x256 .f32) (ix2 a d) = ((P (row h512 (tl t) a) ⟨1024 + ((hd t).val * 256 + d.val), by omega⟩ : ℝ) : EReal) := by
  refine Eq.trans ?_ (hP _ _)
  rw [← V_main_arg0 m cc]
  unfold row
  blk_ext [iblk, idx t]

include hP in
theorem b2 (a : Fin 512) (e : Fin 512) : (iblk m cc 2 t : FVec Ideal S512x512 .f32) (ix2 a e) = ((vr P (hd t) (row h512 (tl t) a) e : ℝ) : EReal) := by
  refine Eq.trans ?_ (hP _ _)
  rw [← V_main_arg0 m cc]
  unfold row
  blk_ext [iblk, idx t]

include hC in
theorem b3 (a : Fin 512) (j : Fin 128) : (iblk m cc 3 t : FVec Ideal S512x128 .f32) (ix2 a j) = ((C (row h512 (tl t) a) j : ℝ) : EReal) := by
  refine Eq.trans ?_ (hC _ _)
  rw [← V_main_arg1 m cc]
  unfold row
  blk_ext [iblk, idx t]

include hS in
theorem b4 (a : Fin 512) (j : Fin 128) : (iblk m cc 4 t : FVec Ideal S512x128 .f32) (ix2 a j) = ((S (row h512 (tl t) a) j : ℝ) : EReal) := by
  refine Eq.trans ?_ (hS _ _)
  rw [← V_main_arg2 m cc]
  unfold row
  blk_ext [iblk, idx t]

theorem b5 (a b : Fin 512) : (iblk m cc 5 t : FVec Ideal S1x512x512 .f32) (ix3 0 a b) = ((w (lg (hd t)) (row h512 (tl t) a) (row h512 (tl t) b) : ℝ) : EReal) := by
  rw [w_block _ h512 (by norm_num)]
  refine Eq.trans ?_ (V_v106 m cc (hd t) a b)
  blk_ext [iblk, idx t]

theorem b6 (a : Fin 512) : (iblk m cc 6 t : FVec Ideal S1x512x1 .f32) (ix3 0 a 0) = ((Real.exp (lg (hd t) * (a.val + 1)) : ℝ) : EReal) := by
  refine Eq.trans ?_ (V_v115 m cc (hd t) a)
  blk_ext [iblk, idx t]

theorem b7 (a : Fin 512) : (iblk m cc 7 t : FVec Ideal S1x512x1 .f32) (ix3 0 a 0) = ((Real.exp (lg (hd t) * (511 - a.val)) : ℝ) : EReal) := by
  refine Eq.trans ?_ (V_v124 m cc (hd t) a)
  blk_ext [iblk, idx t]

theorem b8 : (iblk m cc 8 t : FVec Ideal S1x1x1 .f32) (ix3 0 0 0) = ((Real.exp (lg (hd t) * 512) : ℝ) : EReal) := by
  refine Eq.trans ?_ (V_v128 m cc (hd t))
  blk_ext [iblk, idx t]

include hP hC hS in
theorem b9 (d : Fin 256) (e : Fin 512) : (iblk m cc 9 t : FVec Ideal S1x1x256x512 .bf16) (ix4 0 0 d e)
    = ((earlier (lg (hd t)) ((tl t).val * 512 / 64) (fun n => kr P C S (hd t) n d * vr P (hd t) n e) : ℝ) : EReal) := by
  refine Eq.trans ?_ (V_v76 m cc P C S hP hC hS (hd t) (tl t) d e)
  blk_ext [iblk, idx t]

include hG in
theorem b10 (a : Fin 512) (e : Fin 512) : (iblk m cc 10 t : FVec Ideal S512x512 .f32) (ix2 a e) = ((gr G (hd t) (row h512 (tl t) a) e : ℝ) : EReal) := by
  refine Eq.trans ?_ (hG _ _)
  rw [← V_main_arg3 m cc]
  unfold row
  blk_ext [iblk, idx t]

end

/-! ## The carried gradient -/

section
include hP hC hS hG

/-- The state's gradient that point `t` finds is the decayed sum over the tiles behind its own, and it leaves its tile's gradients. -/
theorem outs (t : Fin cfg0.N) : ∃ D : FVec Ideal S256x512 .f32,
    (∀ d e, D (ix2 d e) = ((later h512 (lg (hd t)) (tl t) (fun n => qr P C S (hd t) n d * gr G (hd t) n e) : ℝ) : EReal))
    ∧ (outsAt0 m cc t.val t.isLt).2.1 = gkT (iblk m cc 0 t) (iblk m cc 2 t) (iblk m cc 3 t) (iblk m cc 4 t) (iblk m cc 5 t) (iblk m cc 7 t) (iblk m cc 10 t) D
    ∧ (outsAt0 m cc t.val t.isLt).2.2.1 = gvT (iblk m cc 0 t) (iblk m cc 1 t) (iblk m cc 3 t) (iblk m cc 4 t) (iblk m cc 5 t) (iblk m cc 7 t) (iblk m cc 10 t) D
    ∧ (outsAt0 m cc t.val t.isLt).2.2.2 = dsT (iblk m cc 0 t) (iblk m cc 3 t) (iblk m cc 4 t) (iblk m cc 6 t) (iblk m cc 8 t) (iblk m cc 10 t) D := by
  obtain ⟨n, hn⟩ := t
  induction n using Nat.strong_induction_on with
  | _ n ih =>
  by_cases h0 : n % 32 = 0
  · refine ⟨k0_pay4 (F := Ideal), fun d e => ?_, outA_k m cc ⟨n, hn⟩ h0, outA_v m cc ⟨n, hn⟩ h0, outA_s m cc ⟨n, hn⟩ h0⟩
    rw [later_last h512 _ (tl ⟨n, hn⟩) (by show 31 - n % 32 + 1 = 32; omega)]
    pointwise [k0_pay4]
    simp
  · have hn' : n - 1 < cfg0.N := Nat.lt_of_le_of_lt (Nat.sub_le _ _) hn
    obtain ⟨D, hD, -, -, hs⟩ := ih (n - 1) (by omega) hn'
    refine ⟨(outsAt0 m cc (n - 1) hn').2.2.2, fun d e => ?_, outB_k m cc ⟨n, hn⟩ h0 _ rfl, outB_v m cc ⟨n, hn⟩ h0 _ rfl, outB_s m cc ⟨n, hn⟩ h0 _ rfl⟩
    have eh : hd ⟨n, hn⟩ = hd ⟨n - 1, hn'⟩ := Fin.ext (by show n / 32 = (n - 1) / 32; omega)
    have et : (tl ⟨n - 1, hn'⟩).val = (tl ⟨n, hn⟩).val + 1 := by show 31 - (n - 1) % 32 = 31 - n % 32 + 1; omega
    rw [eh]
    refine (congrFun hs (ix2 d e)).trans ?_
    exact dsT_eq P C S G (hd ⟨n - 1, hn'⟩) (tl ⟨n - 1, hn'⟩) _ _ _ _ _ _ _ (b0 m cc P hP _) (b3 m cc C hC _) (b4 m cc S hS _) (b6 m cc _) (b8 m cc _) (b10 m cc G hG _) hD
      (tl ⟨n, hn⟩) et d e

theorem out_k (t : Fin cfg0.N) (b : Fin 512) (d : Fin 256) : ((outsAt0 m cc t.val t.isLt).2.1 : FVec Ideal S512x256 .bf16) (ix2 b d)
    = ((gkOut P C S G (hd t) (row h512 (tl t) b) d : ℝ) : EReal) := by
  obtain ⟨D, hD, hk, -, -⟩ := outs m cc P C S G hP hC hS hG t
  rw [hk]
  exact gkT_eq P C S G (hd t) (tl t) _ _ _ _ _ _ _ _ (b0 m cc P hP t) (b2 m cc P hP t) (b3 m cc C hC t) (b4 m cc S hS t) (b5 m cc t) (b7 m cc t) (b10 m cc G hG t) hD b d

theorem out_v (t : Fin cfg0.N) (b : Fin 512) (e : Fin 512) : ((outsAt0 m cc t.val t.isLt).2.2.1 : FVec Ideal S512x512 .bf16) (ix2 b e)
    = ((gvOut P C S G (hd t) (row h512 (tl t) b) e : ℝ) : EReal) := by
  obtain ⟨D, hD, -, hv, -⟩ := outs m cc P C S G hP hC hS hG t
  rw [hv]
  exact gvT_eq P C S G (hd t) (tl t) _ _ _ _ _ _ _ _ (b0 m cc P hP t) (b1 m cc P hP t) (b3 m cc C hC t) (b4 m cc S hS t) (b5 m cc t) (b7 m cc t) (b10 m cc G hG t) hD b e

theorem out_q (t : Fin cfg0.N) (a : Fin 512) (d : Fin 256) : ((outsAt0 m cc t.val t.isLt).1 : FVec Ideal S512x256 .bf16) (ix2 a d)
    = ((gqOut P C S G (hd t) (row h512 (tl t) a) d : ℝ) : EReal) := by
  have e : (outsAt0 m cc t.val t.isLt).1 = gqT (iblk m cc 1 t) (iblk m cc 2 t) (iblk m cc 3 t) (iblk m cc 4 t) (iblk m cc 5 t) (iblk m cc 6 t) (iblk m cc 9 t) (iblk m cc 10 t) := by
    by_cases h0 : t.val % 32 = 0
    · exact outA_q m cc t h0
    · exact outB_q m cc t h0 _ rfl
  rw [e]
  exact gqT_eq P C S G (hd t) (tl t) _ _ _ _ _ _ _ _ (b1 m cc P hP t) (b2 m cc P hP t) (b3 m cc C hC t) (b4 m cc S hS t) (b5 m cc t) (b6 m cc t) (b9 m cc P C S hP hC hS t) (b10 m cc G hG t) a d

end

/-! ## The arrays after the run -/

/-- Four heads' rows of 256 side by side. -/
def joinH (f : Fin 4 → Fin 16384 → Fin 256 → ℝ) : S16384x1024.Idx → EReal := fun j =>
  ((f ⟨(j 1).val / 256, by have : (j 1).val < 1024 := (j 1).isLt; omega⟩ (j 0) ⟨(j 1).val % 256, Nat.mod_lt _ (by decide)⟩ : ℝ) : EReal)
/-- Four heads' rows of 512 side by side. -/
def joinV (f : Fin 4 → Fin 16384 → Fin 512 → ℝ) : S16384x2048.Idx → EReal := fun j =>
  ((f ⟨(j 1).val / 512, by have : (j 1).val < 2048 := (j 1).isLt; omega⟩ (j 0) ⟨(j 1).val % 512, Nat.mod_lt _ (by decide)⟩ : ℝ) : EReal)

theorem joinH_at (f : Fin 4 → Fin 16384 → Fin 256 → ℝ) (j : S16384x1024.Idx) (h : Fin 4) (n : Fin 16384) (d : Fin 256)
    (e0 : (j 0).val = n.val) (e1 : (j 1).val = h.val * 256 + d.val) : joinH f j = ((f h n d : ℝ) : EReal) := by
  have a : (⟨(j 1).val / 256, by have : (j 1).val < 1024 := (j 1).isLt; omega⟩ : Fin 4) = h := Fin.ext (by dsimp only; omega)
  have b : (⟨(j 1).val % 256, Nat.mod_lt _ (by decide)⟩ : Fin 256) = d := Fin.ext (by dsimp only; omega)
  have c : j 0 = n := Fin.ext e0
  unfold joinH
  rw [a, b, c]

theorem joinV_at (f : Fin 4 → Fin 16384 → Fin 512 → ℝ) (j : S16384x2048.Idx) (h : Fin 4) (n : Fin 16384) (d : Fin 512)
    (e0 : (j 0).val = n.val) (e1 : (j 1).val = h.val * 512 + d.val) : joinV f j = ((f h n d : ℝ) : EReal) := by
  have a : (⟨(j 1).val / 512, by have : (j 1).val < 2048 := (j 1).isLt; omega⟩ : Fin 4) = h := Fin.ext (by dsimp only; omega)
  have b : (⟨(j 1).val % 512, Nat.mod_lt _ (by decide)⟩ : Fin 512) = d := Fin.ext (by dsimp only; omega)
  have c : j 0 = n := Fin.ext e0
  unfold joinV
  rw [a, b, c]

section
include hP hC hS hG

theorem final11 : (dats m 0 cc).arrAt 11 cfg0.N = joinH (gqOut P C S G) := by
  refine (dats m 0 cc).arrAt_eq_of_covers 11 _ (by decide +kernel) fun t hf y => ?_
  blk_simp
  rw [after0_11]
  have e1 : (((win0_11.blk t).view.emb y) 1).val = (hd t).val * 256 + (y 1).val := by blk_simp [idx t]
  have e0 : (((win0_11.blk t).view.emb y) 0).val = (tl t).val * 512 + (y 0).val := by blk_simp [idx t]
  refine Eq.trans ?_ (joinH_at _ _ (hd t) (row h512 (tl t) (y 0)) (y 1) e0 e1).symm
  exact (congrArg _ (eq_ix2 y)).trans (out_q m cc P C S G hP hC hS hG t (y 0) (y 1))

theorem final12 : (dats m 0 cc).arrAt 12 cfg0.N = joinH (gkOut P C S G) := by
  refine (dats m 0 cc).arrAt_eq_of_covers 12 _ (by decide +kernel) fun t hf y => ?_
  blk_simp
  rw [after0_12]
  have e1 : (((win0_12.blk t).view.emb y) 1).val = (hd t).val * 256 + (y 1).val := by blk_simp [idx t]
  have e0 : (((win0_12.blk t).view.emb y) 0).val = (tl t).val * 512 + (y 0).val := by blk_simp [idx t]
  refine Eq.trans ?_ (joinH_at _ _ (hd t) (row h512 (tl t) (y 0)) (y 1) e0 e1).symm
  exact (congrArg _ (eq_ix2 y)).trans (out_k m cc P C S G hP hC hS hG t (y 0) (y 1))

theorem final13 : (dats m 0 cc).arrAt 13 cfg0.N = joinV (gvOut P C S G) := by
  refine (dats m 0 cc).arrAt_eq_of_covers 13 _ (by decide +kernel) fun t hf y => ?_
  blk_simp
  rw [after0_13]
  have e1 : (((win0_13.blk t).view.emb y) 1).val = (hd t).val * 512 + (y 1).val := by blk_simp [idx t]
  have e0 : (((win0_13.blk t).view.emb y) 0).val = (tl t).val * 512 + (y 0).val := by blk_simp [idx t]
  refine Eq.trans ?_ (joinV_at _ _ (hd t) (row h512 (tl t) (y 0)) (y 1) e0 e1).symm
  exact (congrArg _ (eq_ix2 y)).trans (out_v m cc P C S G hP hC hS hG t (y 0) (y 1))

end

end Cert.RetIdeal.Val
-- ==== Proof.RetRef.lean ====
/-
  The reference's retention gradient: its stages, chunk by chunk of 64 rows, are real for real arguments, and together they
  are the gradients' sums over all rows.
-/
module

public import proofs.«01_k».proof.Proof.RetReal
public import proofs.«01_k».proof.Proof.Gen.RetReferenceIdeal.Run
public import proofs.«01_k».proof.Proof.Gen.RetReferenceIdeal.Read

@[expose] public section

set_option maxRecDepth 16384

noncomputable section

namespace Cert.RetReferenceIdeal.Val

open Idealize.ShloMosaic Idealize.ShloMosaic.TcCoe Idealize.SL.Sem
open Cert.RetReferenceIdeal Cert.RetReferenceIdeal.Gen Cert.RetReferenceIdeal.Read Cert.RetSpec

/-! ## The decays -/

theorem r46 (h : Fin 4) : val_main_v46 (F := Ideal) (ix1 h) = ((lg h : ℝ) : EReal) := by
  pointwise [val_main_v46, val_main_v45, val_main_v44, val_main_v43, val_main_v42, val_main_v41, val_main_v40, val_main_v39, val_main_cst_0, val_main_cst_1, val_main_cst_2]
  exact lg_coe h

theorem r59 (h : Fin 4) (a b : Fin 64) : val_main_v59 (F := Ideal) (ix3 h a b) = ((Real.exp (lg h * |(a.val : ℝ) - (b.val : ℝ)|) : ℝ) : EReal) := by
  pointwise [val_main_v59, val_main_v58, val_main_v57, val_main_v56, val_main_v55, val_main_v54, val_main_v53, val_main_v52, val_main_v51, val_main_v50, val_main_v49, val_main_v48, val_main_v47]
  rw [r46, nat_word _ (by omega), nat_word _ (by omega), ← EReal.coe_sub, absf_coe, ← EReal.coe_mul, Ideal.exp_coe]

theorem r67 (h : Fin 4) (a : Fin 64) : val_main_v67 (F := Ideal) (ix2 a h) = ((Real.exp (lg h * (a.val + 1)) : ℝ) : EReal) := by
  pointwise [val_main_v67, val_main_v66, val_main_v65, val_main_v64, val_main_v63, val_main_v62, val_main_v61, val_main_v60, val_main_v47, val_main_cst_3]
  rw [r46, nat_word _ (by omega), show (1 : EReal) = ((1 : ℝ) : EReal) from rfl, ← EReal.coe_add, ← EReal.coe_mul, Ideal.exp_coe]

theorem r75 (h : Fin 4) (a : Fin 64) : val_main_v75 (F := Ideal) (ix2 a h) = ((Real.exp (lg h * (63 - a.val)) : ℝ) : EReal) := by
  pointwise [val_main_v75, val_main_v74, val_main_v73, val_main_v72, val_main_v71, val_main_v70, val_main_v69, val_main_v68, val_main_v47, val_main_cst_4]
  rw [r46, nat_word _ (by omega), lit63, ← EReal.coe_sub, ← EReal.coe_mul, Ideal.exp_coe]

/-- The decay from chunk `j` to a later chunk `n`. -/
theorem r110 (h : Fin 4) (n j : Fin 256) : val_main_v110 (F := Ideal) (ix3 h n j)
    = ((if j.val < n.val then Real.exp (lg h * (((n.val : ℝ) - j.val - 1) * 64)) else 0 : ℝ) : EReal) := by
  pointwise [val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_cst_5, val_main_cst_6, val_main_cst_7, val_main_cst_8, val_main_call0_v1, val_main_call0_v2, val_main_call0_v0]
  rw [r46, nat_word n.val (by omega), nat_word j.val (by omega), lit64]
  by_cases hc : j.val < n.val
  · rw [if_pos (EReal.coe_lt_coe_iff.mpr (Nat.cast_lt.mpr hc)), if_pos hc, show (1 : EReal) = ((1 : ℝ) : EReal) from rfl, ← EReal.coe_sub, ← EReal.coe_sub]
    have h0 : (0 : ℝ) ≤ (n.val : ℝ) - j.val - 1 := by
      have : ((j.val + 1 : ℕ) : ℝ) ≤ n.val := Nat.cast_le.mpr hc
      push_cast at this
      linarith
    rw [max_eq_left (EReal.coe_nonneg.mpr h0), ← EReal.coe_mul, ← EReal.coe_mul, Ideal.exp_coe]
  · rw [if_neg (fun hn => hc (Nat.cast_lt.mp (EReal.coe_lt_coe_iff.mp hn))), if_neg hc]
    show Ideal.ofBits FTy.f32 0#32 = _
    simp

/-! ## Stages -/

theorem h64 : 256 * 64 = 16384 := by decide

variable (x0 : FVec Ideal S16384x10240 .f32) (x1 x2 : FVec Ideal S16384x128 .f32) (x3 : FVec Ideal S16384x2048 .f32)
variable (P : Fin 16384 → Fin 10240 → ℝ) (C S : Fin 16384 → Fin 128 → ℝ) (G : Fin 16384 → Fin 2048 → ℝ)

section
variable (hP : ∀ i j, x0 (ix2 i j) = ((P i j : ℝ) : EReal)) (hC : ∀ i j, x1 (ix2 i j) = ((C i j : ℝ) : EReal)) (hS : ∀ i j, x2 (ix2 i j) = ((S i j : ℝ) : EReal))

section
include hP hC hS
theorem r36 (n : Fin 256) (c : Fin 64) (h : Fin 4) (d : Fin 256) : val_main_v36 (F := Ideal) x0 x1 x2 (ix4 n c h d) = ((qr P C S h (row h64 n c) d : ℝ) : EReal) := by
  pointwise [val_main_v36, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v0, val_main_cst]
  simp only [hP, hC, hS, lit16, ← EReal.coe_mul, ← EReal.coe_sub, ← EReal.coe_add]
  unfold qr rot
  by_cases hd : d.val < 128
  · simp only [dif_pos hd, ← EReal.coe_mul]; rfl
  · simp only [dif_neg hd, ← EReal.coe_mul]; rfl

theorem r37 (n : Fin 256) (c : Fin 64) (h : Fin 4) (d : Fin 256) : val_main_v37 (F := Ideal) x0 x1 x2 (ix4 n c h d) = ((kr P C S h (row h64 n c) d : ℝ) : EReal) := by
  pointwise [val_main_v37, val_main_v34, val_main_v33, val_main_v32, val_main_v31, val_main_v30, val_main_v29, val_main_v28, val_main_v27, val_main_v26, val_main_v25, val_main_v24, val_main_v23, val_main_v22, val_main_v21, val_main_v4, val_main_v3, val_main_v1]
  simp only [hP, hC, hS, ← EReal.coe_mul, ← EReal.coe_sub, ← EReal.coe_add]
  unfold kr rot
  by_cases hd : d.val < 128
  · simp only [dif_pos hd]; rfl
  · simp only [dif_neg hd]; rfl

theorem r85 (n : Fin 256) (c : Fin 64) (h : Fin 4) (d : Fin 256) : val_main_v85 (F := Ideal) x0 x1 x2 (ix4 n c h d)
    = ((kr P C S h (row h64 n c) d * Real.exp (lg h * (63 - c.val)) : ℝ) : EReal) := by
  pointwise [val_main_v85, val_main_v84, val_main_v83, val_main_v82]
  simp only [r37 x0 x1 x2 P C S hP hC hS, r75, ← EReal.coe_mul]

theorem r79 (n : Fin 256) (h : Fin 4) (c k : Fin 64) : val_main_v79 (F := Ideal) x0 x1 x2 (ix4 n h c k)
    = (((∑ d, qr P C S h (row h64 n c) d * kr P C S h (row h64 n k) d) * Real.exp (lg h * |(c.val : ℝ) - (k.val : ℝ)|) : ℝ) : EReal) := by
  pointwise [val_main_v79, val_main_v78, val_main_v77, val_main_v76]
  simp only [r36 x0 x1 x2 P C S hP hC hS, r37 x0 x1 x2 P C S hP hC hS, r59, ← EReal.coe_mul, Cert.AttnSpec.coe_sum]
end

section
include hP
omit hP in
theorem row_back (n : Fin 16384) : row h64 ⟨n.val / 64, by omega⟩ ⟨n.val % 64, by omega⟩ = n :=
  Fin.ext (by show n.val / 64 * 64 + n.val % 64 = n.val; omega)

theorem r38 (n : Fin 256) (c : Fin 64) (h : Fin 4) (e : Fin 512) : val_main_v38 (F := Ideal) x0 (ix4 n c h e) = ((vr P h (row h64 n c) e : ℝ) : EReal) := by
  pointwise [val_main_v38, val_main_v35, val_main_v2]
  exact hP _ _
end

section
include hP hC hS
/-- The state before chunk `n`. -/
theorem r113 (n : Fin 256) (h : Fin 4) (d : Fin 256) (e : Fin 512) : val_main_v113 (F := Ideal) x0 x1 x2 (ix4 n h d e)
    = ((earlier (lg h) n.val (fun m => kr P C S h m d * vr P h m e) : ℝ) : EReal) := by
  pointwise [val_main_v113, val_main_v112, val_main_v111]
  simp only [r85 x0 x1 x2 P C S hP hC hS, r38 x0 P hP, r110, ← EReal.coe_mul, Cert.AttnSpec.coe_sum]
  refine congrArg _ (Finset.sum_congr rfl fun j _ => ?_)
  by_cases hj : j.val < n.val
  · rw [if_pos hj, if_pos hj, mul_comm]
    exact congrArg _ (Finset.sum_congr rfl fun c _ => by ring)
  · rw [if_neg hj, if_neg hj, mul_zero]
end

variable (hG : ∀ i j, x3 (ix2 i j) = ((G i j : ℝ) : EReal))

section
include hG
theorem r124 (n : Fin 256) (c : Fin 64) (h : Fin 4) (e : Fin 512) : val_main_v124 (F := Ideal) x3 (ix4 n c h e) = ((gr G h (row h64 n c) e : ℝ) : EReal) := by
  pointwise [val_main_v124, val_main_v123]
  exact hG _ _

theorem r127 (n : Fin 256) (h : Fin 4) (e : Fin 512) (c : Fin 64) : val_main_v127 (F := Ideal) x3 (ix4 n h e c)
    = ((gr G h (row h64 n c) e * Real.exp (lg h * (c.val + 1)) : ℝ) : EReal) := by
  pointwise [val_main_v127, val_main_v126, val_main_v125, val_main_v117, val_main_v116]
  simp only [r124 x3 G hG, r67, ← EReal.coe_mul]

include hP in
theorem r147 (n : Fin 256) (h : Fin 4) (c k : Fin 64) : val_main_v147 (F := Ideal) x0 x3 (ix4 n h c k)
    = (((∑ e, gr G h (row h64 n c) e * vr P h (row h64 n k) e) * Real.exp (lg h * |(c.val : ℝ) - (k.val : ℝ)|) : ℝ) : EReal) := by
  pointwise [val_main_v147, val_main_v146, val_main_v77, val_main_v142, val_main_v141]
  simp only [r124 x3 G hG, r38 x0 P hP, r59, ← EReal.coe_mul, Cert.AttnSpec.coe_sum]
end

include hP hC hS hG

/-- The gradient of the state before chunk `j + 1`. -/
theorem r134 (j : Fin 256) (h : Fin 4) (d : Fin 256) (e : Fin 512) : val_main_v134 (F := Ideal) x0 x1 x2 x3 (ix4 j h d e)
    = ((later h64 (lg h) j (fun n => qr P C S h n d * gr G h n e) : ℝ) : EReal) := by
  pointwise [val_main_v134, val_main_v133, val_main_v132, val_main_v131, val_main_v130]
  simp only [r127 x3 G hG, r36 x0 x1 x2 P C S hP hC hS, r110, ← EReal.coe_mul, Cert.AttnSpec.coe_sum]
  refine congrArg _ (Finset.sum_congr rfl fun n _ => ?_)
  by_cases hj : j.val < n.val
  · rw [if_pos hj, if_pos (Fin.lt_def.mpr hj), mul_comm]
    refine congrArg₂ (· * ·) (by norm_num) (Finset.sum_congr rfl fun c _ => by ring)
  · rw [if_neg hj, if_neg (fun hn => hj (Fin.lt_def.mp hn)), mul_zero]

theorem r145 (n : Fin 256) (c : Fin 64) (h : Fin 4) (e : Fin 512) : val_main_v145 (F := Ideal) x0 x1 x2 x3 (ix4 n c h e)
    = ((gvAll (lg h) (qr P C S h) (kr P C S h) (gr G h) (row h64 n c) e : ℝ) : EReal) := by
  pointwise [val_main_v145, val_main_v144, val_main_v143, val_main_v141, val_main_v136, val_main_v135]
  simp only [r134 x0 x1 x2 x3 P C S G hP hC hS hG, r85 x0 x1 x2 P C S hP hC hS, r124 x3 G hG, r79 x0 x1 x2 P C S hP hC hS, ← EReal.coe_mul, Cert.AttnSpec.coe_sum, ← EReal.coe_add]
  refine congrArg _ ?_
  rw [gv_blocks (lg h) _ _ _ h64 (by norm_num), add_comm]
  simp only [w_chunk]
  refine congrArg₂ (· + ·) (Finset.sum_congr rfl fun a _ => by ring) (Finset.sum_congr rfl fun d _ => ?_)
  rw [mul_comm]
  norm_num

theorem r150 (n : Fin 256) (c : Fin 64) (h : Fin 4) (d : Fin 256) : val_main_v150 (F := Ideal) x0 x1 x2 x3 (ix4 n c h d)
    = ((gkAll (lg h) (qr P C S h) (vr P h) (gr G h) (row h64 n c) d : ℝ) : EReal) := by
  pointwise [val_main_v150, val_main_v149, val_main_v148, val_main_v140, val_main_v139, val_main_v138, val_main_v137, val_main_v83, val_main_v82]
  simp only [r134 x0 x1 x2 x3 P C S G hP hC hS hG, r38 x0 P hP, r75, r147 x0 x3 P G hP hG, r36 x0 x1 x2 P C S hP hC hS, ← EReal.coe_mul, Cert.AttnSpec.coe_sum, ← EReal.coe_add]
  refine congrArg _ ?_
  rw [gk_blocks (lg h) _ _ _ h64 (by norm_num), add_comm]
  simp only [w_chunk]
  refine congrArg₂ (· + ·) (Finset.sum_congr rfl fun a _ => by ring) (congrArg₂ (· * ·) (Finset.sum_congr rfl fun d _ => by ring) ?_)
  norm_num

theorem r153 (n : Fin 256) (c : Fin 64) (h : Fin 4) (d : Fin 256) : val_main_v153 (F := Ideal) x0 x1 x2 x3 (ix4 n c h d)
    = ((gqAll (lg h) (kr P C S h) (vr P h) (gr G h) (row h64 n c) d : ℝ) : EReal) := by
  pointwise [val_main_v153, val_main_v152, val_main_v151, val_main_v129, val_main_v128]
  simp only [r127 x3 G hG, r113 x0 x1 x2 P C S hP hC hS, r147 x0 x3 P G hP hG, r37 x0 x1 x2 P C S hP hC hS, ← EReal.coe_mul, Cert.AttnSpec.coe_sum, ← EReal.coe_add]
  refine congrArg _ ?_
  rw [gq_blocks (lg h) _ _ _ h64 (by norm_num), Nat.mul_div_cancel _ (by norm_num : 0 < 64)]
  simp only [w_chunk]

/-! ## Results -/

theorem ref_gv (n : Fin 16384) (h : Fin 4) (e : Fin 512) : val_main_v196 (F := Ideal) x0 x1 x2 x3 (ix2 n ⟨h.val * 512 + e.val, by omega⟩) = ((gvOut P C S G h n e : ℝ) : EReal) := by
  pointwise [val_main_v196, val_main_v157, val_main_v154]
  rw [r145 x0 x1 x2 x3 P C S G hP hC hS hG, row_back]
  rfl

theorem ref_gk (n : Fin 16384) (h : Fin 4) (d : Fin 256) : val_main_v195 (F := Ideal) x0 x1 x2 x3 (ix2 n ⟨h.val * 256 + d.val, by omega⟩) = ((gkOut P C S G h n d : ℝ) : EReal) := by
  pointwise [val_main_v195, val_main_v174, val_main_v173, val_main_v172, val_main_v171, val_main_v170, val_main_v169, val_main_v168, val_main_v167, val_main_v166, val_main_v165, val_main_v164, val_main_v163, val_main_v162, val_main_v161, val_main_v160, val_main_v159, val_main_v158, val_main_cst_9, val_main_cst_10, val_main_v155, val_main_v3, val_main_v4]
  simp only [r150 x0 x1 x2 x3 P C S G hP hC hS hG, row_back, hC, hS]
  unfold gkOut rotT
  by_cases hd : d.val < 128
  · rw [dif_neg (by omega), zero_add]
    simp only [dif_pos hd, ← EReal.coe_mul, ← EReal.coe_add]
    exact congrArg _ (add_comm _ _)
  · rw [dif_pos (by omega), dif_neg hd, add_zero]
    simp only [dif_neg hd, ← EReal.coe_mul, ← EReal.coe_neg, ← EReal.coe_add]
    exact congrArg _ (by ring)

theorem ref_gq (n : Fin 16384) (h : Fin 4) (d : Fin 256) : val_main_v194 (F := Ideal) x0 x1 x2 x3 (ix2 n ⟨h.val * 256 + d.val, by omega⟩) = ((gqOut P C S G h n d : ℝ) : EReal) := by
  pointwise [val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_cst_11, val_main_cst_12, val_main_cst_13, val_main_v156, val_main_v3, val_main_v4]
  simp only [r153 x0 x1 x2 x3 P C S G hP hC hS hG, row_back, hC, hS, lit16]
  unfold gqOut rotT
  by_cases hd : d.val < 128
  · rw [dif_neg (by omega), zero_add]
    simp only [dif_pos hd, ← EReal.coe_mul, ← EReal.coe_add]
    exact congrArg _ (add_comm _ _)
  · rw [dif_pos (by omega), dif_neg hd, add_zero]
    simp only [dif_neg hd, ← EReal.coe_mul, ← EReal.coe_neg, ← EReal.coe_add]
    exact congrArg _ (by ring)
end

end Cert.RetReferenceIdeal.Val
-- ==== Proof.RetEq.lean ====
/-
  The retention gradient's three results are the reference's, for finite arguments: both are the same real sums, laid out
  with four heads side by side.
-/
module

public import proofs.«01_k».proof.Proof.RetVal
public import proofs.«01_k».proof.Proof.RetRef
public import proofs.«01_k».proof.Proof.AttnEq
public import proofs.«01_k».proof.Defs

@[expose] public section

set_option maxRecDepth 16384

noncomputable section

open Idealize.ShloMosaic Idealize.ShloMosaic.TcCoe Idealize.SL.Sem

namespace Cert.RetEq

open Cert.RetIdeal.Val Cert.RetSpec Cert.RetReferenceIdeal.Val Cert.RetReferenceIdeal.Read

theorem pre_facts : Cert.Pre_ret_finite.Facts := ⟨by decide, by decide, by decide⟩

variable (x0 : FVec Ideal Cert.RetIdeal.S16384x10240 .f32) (x1 x2 : FVec Ideal Cert.RetIdeal.S16384x128 .f32) (x3 : FVec Ideal Cert.RetIdeal.S16384x2048 .f32)

/-- Arguments that pass the precondition are arrays of real numbers. -/
theorem reals (hpre : letI := pre_facts; (Cert.Pre_ret_finite.fn (F := Ideal) x0 x1 x2 x3).1 = (fun _ => 1#1) ∧ (Cert.Pre_ret_finite.fn (F := Ideal) x0 x1 x2 x3).2.1 = (fun _ => 1#1)
      ∧ (Cert.Pre_ret_finite.fn (F := Ideal) x0 x1 x2 x3).2.2.1 = (fun _ => 1#1) ∧ (Cert.Pre_ret_finite.fn (F := Ideal) x0 x1 x2 x3).2.2.2 = fun _ => 1#1) :
    ∃ (P : Fin 16384 → Fin 10240 → ℝ) (C S : Fin 16384 → Fin 128 → ℝ) (G : Fin 16384 → Fin 2048 → ℝ),
      (∀ i j, x0 (ix2 i j) = ((P i j : ℝ) : EReal)) ∧ (∀ i j, x1 (ix2 i j) = ((C i j : ℝ) : EReal))
      ∧ (∀ i j, x2 (ix2 i j) = ((S i j : ℝ) : EReal)) ∧ ∀ i j, x3 (ix2 i j) = ((G i j : ℝ) : EReal) := by
  have e0 : ∀ i j, ∃ r : ℝ, x0 (ix2 i j) = (r : EReal) := fun i j => Cert.AttnEq.real_of_abs_lt _ (congrFun hpre.1 (ix2 i j))
  have e1 : ∀ i j, ∃ r : ℝ, x1 (ix2 i j) = (r : EReal) := fun i j => Cert.AttnEq.real_of_abs_lt _ (congrFun hpre.2.1 (ix2 i j))
  have e2 : ∀ i j, ∃ r : ℝ, x2 (ix2 i j) = (r : EReal) := fun i j => Cert.AttnEq.real_of_abs_lt _ (congrFun hpre.2.2.1 (ix2 i j))
  have e3 : ∀ i j, ∃ r : ℝ, x3 (ix2 i j) = (r : EReal) := fun i j => Cert.AttnEq.real_of_abs_lt _ (congrFun hpre.2.2.2 (ix2 i j))
  choose P hP using e0
  choose C hC using e1
  choose S hS using e2
  choose G hG using e3
  exact ⟨P, C, S, G, hP, hC, hS, hG⟩

/-- An array whose entries are those of four heads' rows of 256 is these rows side by side. -/
theorem ext_H (f : Fin 4 → Fin 16384 → Fin 256 → ℝ) (g : Cert.RetIdeal.S16384x1024.Idx → EReal)
    (e : ∀ (n : Fin 16384) (h : Fin 4) (d : Fin 256), g (ix2 n ⟨h.val * 256 + d.val, by omega⟩) = ((f h n d : ℝ) : EReal)) : joinH f = g := by
  funext j
  have hj : (j 1).val < 1024 := (j 1).isLt
  have ej : j = ix2 (j 0) ⟨(⟨(j 1).val / 256, by omega⟩ : Fin 4).val * 256 + (⟨(j 1).val % 256, Nat.mod_lt _ (by decide)⟩ : Fin 256).val, by dsimp only; omega⟩ := by
    funext a
    match a with
    | ⟨0, _⟩ => rfl
    | ⟨1, _⟩ => exact Fin.ext (by show (j 1).val = (j 1).val / 256 * 256 + (j 1).val % 256; omega)
  exact ((congrArg g ej).trans (e _ _ _)).symm

/-- An array whose entries are those of four heads' rows of 512 is these rows side by side. -/
theorem ext_V (f : Fin 4 → Fin 16384 → Fin 512 → ℝ) (g : Cert.RetIdeal.S16384x2048.Idx → EReal)
    (e : ∀ (n : Fin 16384) (h : Fin 4) (d : Fin 512), g (ix2 n ⟨h.val * 512 + d.val, by omega⟩) = ((f h n d : ℝ) : EReal)) : joinV f = g := by
  funext j
  have hj : (j 1).val < 2048 := (j 1).isLt
  have ej : j = ix2 (j 0) ⟨(⟨(j 1).val / 512, by omega⟩ : Fin 4).val * 512 + (⟨(j 1).val % 512, Nat.mod_lt _ (by decide)⟩ : Fin 512).val, by dsimp only; omega⟩ := by
    funext a
    match a with
    | ⟨0, _⟩ => rfl
    | ⟨1, _⟩ => exact Fin.ext (by show (j 1).val = (j 1).val / 512 * 512 + (j 1).val % 512; omega)
  exact ((congrArg g ej).trans (e _ _ _)).symm

variable (P : Fin 16384 → Fin 10240 → ℝ) (C S : Fin 16384 → Fin 128 → ℝ) (G : Fin 16384 → Fin 2048 → ℝ)
variable (hP : ∀ i j, x0 (ix2 i j) = ((P i j : ℝ) : EReal)) (hC : ∀ i j, x1 (ix2 i j) = ((C i j : ℝ) : EReal))
  (hS : ∀ i j, x2 (ix2 i j) = ((S i j : ℝ) : EReal)) (hG : ∀ i j, x3 (ix2 i j) = ((G i j : ℝ) : EReal))
include hP hC hS hG

/-- The reference's gradient of the queries. -/
theorem gq_eq : joinH (gqOut P C S G) = val_main_v194 (F := Ideal) x0 x1 x2 x3 := ext_H _ _ (ref_gq x0 x1 x2 x3 P C S G hP hC hS hG)
/-- The reference's gradient of the keys. -/
theorem gk_eq : joinH (gkOut P C S G) = val_main_v195 (F := Ideal) x0 x1 x2 x3 := ext_H _ _ (ref_gk x0 x1 x2 x3 P C S G hP hC hS hG)
/-- The reference's gradient of the values. -/
theorem gv_eq : joinV (gvOut P C S G) = val_main_v196 (F := Ideal) x0 x1 x2 x3 := ext_V _ _ (ref_gv x0 x1 x2 x3 P C S G hP hC hS hG)

end Cert.RetEq

end
-- ==== Proof.InVal.lean ====
/-
  The combined input projection: the kernel's blocks are the reference's product.
-/
module

public import proofs.«01_k».proof.Proof.Gen.InIdeal.Value
public import proofs.«01_k».proof.Proof.Gen.InReferenceIdeal.Run
public import proofs.«01_k».proof.Proof.Gen.InReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InIdeal.Val

open Cert.InIdeal Cert.InIdeal.Gen

variable (m : (ℓ : Loc nD τ sig) → Buf (Elt Ideal) ℓ) (cc : Dev nD)

/-- A point's rows. -/
abbrev b0 (t : Fin cfg0.N) : FVec Ideal S1024x1024 .bf16 := iblk m cc 0 t
/-- A point's columns of a shard of the weights. -/
abbrev b1 (t : Fin cfg0.N) : FVec Ideal S1x1x1024x1280 .bf16 := iblk m cc 1 t

theorem pay1_eq (x0 : FVec Ideal S1024x1024 .bf16) (x1 : FVec Ideal S1x1x1024x1280 .bf16) (i : Fin 1024) (n : Fin 1280) :
    k0_pay1 (F := Ideal) x0 x1 (ix2 i n) = ∑ k : Fin 1024, x0 (ix2 i k) * x1 (ix4 0 0 k n) := by
  pointwise [k0_pay1]

theorem out_eq (t : Fin cfg0.N) (i : Fin 1024) (n : Fin 1280) :
    (dats m 0 cc).after 2 t (ix2 i n) = ∑ k : Fin 1024, b0 m cc t (ix2 i k) * b1 m cc t (ix4 0 0 k n) := by
  rw [after0_2]
  refine Eq.trans ?_ (pay1_eq (b0 m cc t) (b1 m cc t) i n)
  frame_out

/-- The weights as the kernel is given them: one layer's columns split into four shards. -/
theorem V_v2 (l n : Fin 4) (j : Fin 1024) (k : Fin 2560) : (V m cc main_v2 : FVec Ideal S4x4x1024x2560 .bf16) (ix4 l n j k)
    = (m ((cc : Thread nD τ).loc main_arg1) : FVec Ideal S4x1024x10240 .f32) (ix3 l j ⟨n.val * 2560 + k.val, by omega⟩) := by
  have e : (V m cc main_v2 : FVec Ideal S4x4x1024x2560 .bf16)
      = transpose S4x4x1024x2560 [0, 2, 1, 3] (shapeCast S4x1024x4x2560 (truncf (F := Ideal) .bf16
          (m ((cc : Thread nD τ).loc main_arg1) : FVec Ideal S4x1024x10240 .f32) bitsLt_bf16_f32) shapeCasts_S4x1024x10240_S4x1024x4x2560)
          transposes_S4x1024x4x2560_S4x4x1024x2560_0_2_1_3 := by
    after_results
    rfl
  rw [e]
  pointwise []

theorem idx (t : Fin cfg0.N) : win0_0.index t = ![t.val / 8, 0] ∧ win0_1.index t = ![0, t.val % 8 / 2, 0, t.val % 2]
    ∧ win0_2.index t = ![t.val / 8, t.val % 8] := by
  revert t
  decide +kernel

theorem b0_eq (t : Fin cfg0.N) (i k : Fin 1024) :
    b0 m cc t (ix2 i k) = (m ((cc : Thread nD τ).loc main_arg0) : FVec Ideal S16384x1024 .bf16)
      (ix2 ⟨t.val / 8 * 1024 + i.val, by have : t.val < 128 := lt_of_lt_of_eq t.isLt N_0; omega⟩ k) := by
  rw [← V_main_arg0 m cc]
  show iblk m cc 0 t (ix2 i k) = _
  blk_ext [iblk, idx t]

theorem b1_eq (t : Fin cfg0.N) (k : Fin 1024) (n : Fin 1280) :
    b1 m cc t (ix4 0 0 k n) = (m ((cc : Thread nD τ).loc main_arg1) : FVec Ideal S4x1024x10240 .f32) (ix3 0 k ⟨t.val % 8 * 1280 + n.val, by omega⟩) := by
  have e : (⟨t.val % 8 * 1280 + n.val, by omega⟩ : Fin 10240) = ⟨t.val % 8 / 2 * 2560 + (t.val % 2 * 1280 + n.val), by omega⟩ := Fin.ext (by dsimp only; omega)
  rw [e]
  refine Eq.trans ?_ (V_v2 m cc 0 ⟨t.val % 8 / 2, by omega⟩ k ⟨t.val % 2 * 1280 + n.val, by omega⟩)
  show iblk m cc 1 t (ix4 0 0 k n) = _
  blk_ext [iblk, idx t]

/-- The whole product. -/
def prod (x0 : FVec Ideal S16384x1024 .bf16) (x1 : FVec Ideal S4x1024x10240 .f32) : S16384x10240.Idx → EReal := fun y =>
  ∑ k : Fin 1024, x0 (ix2 (y 0) k) * x1 (ix3 0 k (y 1))

theorem prod_at (x0 : FVec Ideal S16384x1024 .bf16) (x1 : FVec Ideal S4x1024x10240 .f32) (y : S16384x10240.Idx) (r : Fin 16384) (n : Fin 10240)
    (e0 : (y 0).val = r.val) (e1 : (y 1).val = n.val) : prod x0 x1 y = ∑ k : Fin 1024, x0 (ix2 r k) * x1 (ix3 0 k n) := by
  have er : (y 0 : Fin 16384) = r := Fin.ext e0
  have en : (y 1 : Fin 10240) = n := Fin.ext e1
  unfold prod
  rw [← er, ← en]

theorem final2 : (dats m 0 cc).arrAt 2 cfg0.N = prod (m ((cc : Thread nD τ).loc main_arg0)) (m ((cc : Thread nD τ).loc main_arg1)) := by
  refine (dats m 0 cc).arrAt_eq_of_covers 2 _ (by decide +kernel) fun t hf y => ?_
  have ht : t.val < 128 := lt_of_lt_of_eq t.isLt N_0
  have h0 : (y 0).val < 1024 := (y 0).isLt
  have h1 : (y 1).val < 1280 := (y 1).isLt
  blk_simp
  have e0 : (((win0_2.blk t).view.emb y) 0).val = t.val / 8 * 1024 + (y 0).val := by blk_simp [idx t]
  have e1 : (((win0_2.blk t).view.emb y) 1).val = t.val % 8 * 1280 + (y 1).val := by blk_simp [idx t]
  have hy : (fun a => y a) = ix2 (y 0 : Fin 1024) (y 1 : Fin 1280) := by
    funext a
    match a with
    | ⟨0, _⟩ => rfl
    | ⟨1, _⟩ => rfl
  refine Eq.trans ?_ (prod_at _ _ _ ⟨t.val / 8 * 1024 + (y 0).val, by omega⟩ ⟨t.val % 8 * 1280 + (y 1).val, by omega⟩ e0 e1).symm
  refine (congrArg _ hy).trans ((out_eq m cc t (y 0) (y 1)).trans ?_)
  exact Finset.sum_congr (M := EReal) rfl fun k _ => congrArg₂ (· * ·) (b0_eq m cc t (y 0) k) (b1_eq m cc t k (y 1))

/-- The reference's product is the same sum. -/
theorem ref_eq (x0 : FVec Ideal S16384x1024 .bf16) (x1 : FVec Ideal S4x1024x10240 .f32) :
    Cert.InReferenceIdeal.Read.val_main_v3 (F := Ideal) x0 x1 = prod x0 x1 := by
  funext y
  pointwise [Cert.InReferenceIdeal.Read.val_main_v3, Cert.InReferenceIdeal.Read.val_main_v2, Cert.InReferenceIdeal.Read.val_main_v1,
    Cert.InReferenceIdeal.Read.val_main_v0]
  rfl

end Cert.InIdeal.Val
-- ==== Proof.UpVal.lean ====
/-
  The feed forward part's first projection: the kernel's blocks are the reference's product.
-/
module

public import proofs.«01_k».proof.Proof.Gen.UpIdeal.Value
public import proofs.«01_k».proof.Proof.Gen.UpReferenceIdeal.Run
public import proofs.«01_k».proof.Proof.Gen.UpReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.UpIdeal.Val

open Cert.UpIdeal Cert.UpIdeal.Gen

variable (m : (ℓ : Loc nD τ sig) → Buf (Elt Ideal) ℓ) (cc : Dev nD)

/-- A point's rows. -/
abbrev b0 (t : Fin cfg0.N) : FVec Ideal S1024x1024 .bf16 := iblk m cc 0 t
/-- A point's columns of a shard of the weights. -/
abbrev b1 (t : Fin cfg0.N) : FVec Ideal S1x1x1024x1408 .bf16 := iblk m cc 1 t

theorem pay1_eq (x0 : FVec Ideal S1024x1024 .bf16) (x1 : FVec Ideal S1x1x1024x1408 .bf16) (i : Fin 1024) (n : Fin 1408) :
    k0_pay1 (F := Ideal) x0 x1 (ix2 i n) = ∑ k : Fin 1024, x0 (ix2 i k) * x1 (ix4 0 0 k n) := by
  pointwise [k0_pay1]

theorem out_eq (t : Fin cfg0.N) (i : Fin 1024) (n : Fin 1408) :
    (dats m 0 cc).after 2 t (ix2 i n) = ∑ k : Fin 1024, b0 m cc t (ix2 i k) * b1 m cc t (ix4 0 0 k n) := by
  rw [after0_2]
  refine Eq.trans ?_ (pay1_eq (b0 m cc t) (b1 m cc t) i n)
  frame_out

/-- The weights as the kernel is given them: one layer's columns split into four shards. -/
theorem V_v2 (l n : Fin 4) (j : Fin 1024) (k : Fin 1408) : (V m cc main_v2 : FVec Ideal S4x4x1024x1408 .bf16) (ix4 l n j k)
    = (m ((cc : Thread nD τ).loc main_arg1) : FVec Ideal S4x1024x5632 .f32) (ix3 l j ⟨n.val * 1408 + k.val, by omega⟩) := by
  have e : (V m cc main_v2 : FVec Ideal S4x4x1024x1408 .bf16)
      = transpose S4x4x1024x1408 [0, 2, 1, 3] (shapeCast S4x1024x4x1408 (truncf (F := Ideal) .bf16
          (m ((cc : Thread nD τ).loc main_arg1) : FVec Ideal S4x1024x5632 .f32) bitsLt_bf16_f32) shapeCasts_S4x1024x5632_S4x1024x4x1408)
          transposes_S4x1024x4x1408_S4x4x1024x1408_0_2_1_3 := by
    after_results
    rfl
  rw [e]
  pointwise []

theorem idx (t : Fin cfg0.N) : win0_0.index t = ![t.val / 4, 0] ∧ win0_1.index t = ![0, t.val % 4, 0, 0]
    ∧ win0_2.index t = ![t.val / 4, t.val % 4] := by
  revert t
  decide +kernel

theorem b0_eq (t : Fin cfg0.N) (i k : Fin 1024) :
    b0 m cc t (ix2 i k) = (m ((cc : Thread nD τ).loc main_arg0) : FVec Ideal S16384x1024 .bf16)
      (ix2 ⟨t.val / 4 * 1024 + i.val, by have : t.val < 64 := lt_of_lt_of_eq t.isLt N_0; omega⟩ k) := by
  rw [← V_main_arg0 m cc]
  show iblk m cc 0 t (ix2 i k) = _
  blk_ext [iblk, idx t]

theorem b1_eq (t : Fin cfg0.N) (k : Fin 1024) (n : Fin 1408) :
    b1 m cc t (ix4 0 0 k n) = (m ((cc : Thread nD τ).loc main_arg1) : FVec Ideal S4x1024x5632 .f32) (ix3 0 k ⟨t.val % 4 * 1408 + n.val, by omega⟩) := by
  refine Eq.trans ?_ (V_v2 m cc 0 ⟨t.val % 4, by omega⟩ k n)
  show iblk m cc 1 t (ix4 0 0 k n) = _
  blk_ext [iblk, idx t]

/-- The whole product. -/
def prod (x0 : FVec Ideal S16384x1024 .bf16) (x1 : FVec Ideal S4x1024x5632 .f32) : S16384x5632.Idx → EReal := fun y =>
  ∑ k : Fin 1024, x0 (ix2 (y 0) k) * x1 (ix3 0 k (y 1))

theorem prod_at (x0 : FVec Ideal S16384x1024 .bf16) (x1 : FVec Ideal S4x1024x5632 .f32) (y : S16384x5632.Idx) (r : Fin 16384) (n : Fin 5632)
    (e0 : (y 0).val = r.val) (e1 : (y 1).val = n.val) : prod x0 x1 y = ∑ k : Fin 1024, x0 (ix2 r k) * x1 (ix3 0 k n) := by
  have er : (y 0 : Fin 16384) = r := Fin.ext e0
  have en : (y 1 : Fin 5632) = n := Fin.ext e1
  unfold prod
  rw [← er, ← en]

theorem final2 : (dats m 0 cc).arrAt 2 cfg0.N = prod (m ((cc : Thread nD τ).loc main_arg0)) (m ((cc : Thread nD τ).loc main_arg1)) := by
  refine (dats m 0 cc).arrAt_eq_of_covers 2 _ (by decide +kernel) fun t hf y => ?_
  have ht : t.val < 64 := lt_of_lt_of_eq t.isLt N_0
  have h0 : (y 0).val < 1024 := (y 0).isLt
  have h1 : (y 1).val < 1408 := (y 1).isLt
  blk_simp
  have e0 : (((win0_2.blk t).view.emb y) 0).val = t.val / 4 * 1024 + (y 0).val := by blk_simp [idx t]
  have e1 : (((win0_2.blk t).view.emb y) 1).val = t.val % 4 * 1408 + (y 1).val := by blk_simp [idx t]
  have hy : (fun a => y a) = ix2 (y 0 : Fin 1024) (y 1 : Fin 1408) := by
    funext a
    match a with
    | ⟨0, _⟩ => rfl
    | ⟨1, _⟩ => rfl
  refine Eq.trans ?_ (prod_at _ _ _ ⟨t.val / 4 * 1024 + (y 0).val, by omega⟩ ⟨t.val % 4 * 1408 + (y 1).val, by omega⟩ e0 e1).symm
  refine (congrArg _ hy).trans ((out_eq m cc t (y 0) (y 1)).trans ?_)
  exact Finset.sum_congr (M := EReal) rfl fun k _ => congrArg₂ (· * ·) (b0_eq m cc t (y 0) k) (b1_eq m cc t k (y 1))

/-- The reference's product is the same sum. -/
theorem ref_eq (x0 : FVec Ideal S16384x1024 .bf16) (x1 : FVec Ideal S4x1024x5632 .f32) :
    Cert.UpReferenceIdeal.Read.val_main_v3 (F := Ideal) x0 x1 = prod x0 x1 := by
  funext y
  pointwise [Cert.UpReferenceIdeal.Read.val_main_v3, Cert.UpReferenceIdeal.Read.val_main_v2, Cert.UpReferenceIdeal.Read.val_main_v1,
    Cert.UpReferenceIdeal.Read.val_main_v0]
  rfl

end Cert.UpIdeal.Val
-- ==== Proof.RmsSpec.lean ====
/-
  The gradient of a root-mean-square norm for ONE row of 1024 numbers, over the extended reals: plain functions of the
  row `x`, the gains `g` and the row `d` of the gradient that comes in behind the gains. The kernels write it in closed
  form; differentiating the norm writes it as a sum of three products. This file shows that the two are equal for every
  row, infinite entries included.
-/
module

public import Idealize.ShloMosaic.Lib.Pipeline.ValueKit
public import Idealize.ShloMosaic.Lib.Pointwise

@[expose] public section

set_option maxRecDepth 16384

noncomputable section

open Idealize.ShloMosaic

namespace Cert.RmsSpec

/-- The width of a row, 1024, as the programs write it. -/
abbrev wid : EReal := Ideal.ofBits FTy.f32 0x44800000#32
/-- The small number below the root. -/
abbrev eps : EReal := Ideal.ofBits FTy.f32 0x358637BD#32
/-- Minus one half, the exponent of the norm's factor. -/
abbrev nhalf : EReal := Ideal.ofBits FTy.f32 0xBF000000#32

variable (x g d : Fin 1024 → EReal)

/-- The mean square of the row, raised a little above zero. -/
def ms : EReal := Ideal.div (∑ k, x k * x k) wid + eps
/-- The factor that norms the row. -/
def rr : EReal := Ideal.rsqrt (ms x)
/-- The row's product with its own incoming gradient. -/
def dotx : EReal := ∑ k, x k * (g k * d k)
/-- The row's gradient in closed form. -/
def dx (j : Fin 1024) : EReal := rr x * (g j * d j) - x j * (rr x * rr x * rr x) * Ideal.div (dotx x g d) wid
/-- What one half of the square's gradient contributes. -/
def tt : EReal := Ideal.div ((∑ k, x k * (d k * g k)) * (nhalf * Ideal.div (rr x) (ms x))) wid
/-- The row's gradient as differentiating the norm writes it. -/
def dx' (j : Fin 1024) : EReal := d j * g j * rr x + x j * tt x g d + tt x g d * x j

theorem wid_eq : wid = ((1024 : ℝ) : EReal) := by
  have h : Ideal.ofBits FTy.f32 0x44800000#32 = ((1024 : ℝ) : EReal) := by
    simp [Ideal.ofBits, Ideal.ieee]
    norm_num
    rw [← EReal.coe_mul]
    congr 1
    norm_num
  exact h

theorem nhalf_eq : nhalf = ((-(1 / 2) : ℝ) : EReal) := by
  have h : Ideal.ofBits FTy.f32 0xBF000000#32 = ((-(1 / 2) : ℝ) : EReal) := by
    simp [Ideal.ofBits, Ideal.ieee]
    norm_num
    rw [← EReal.coe_mul]
    congr 1
    norm_num
  exact h

theorem eps_pos : 0 < eps := by
  have h : Ideal.ofBits FTy.f32 0x358637BD#32 = ((8796093 / 2 ^ 43 : ℝ) : EReal) := by
    simp [Ideal.ofBits, Ideal.ieee]
    norm_num
    rw [← EReal.coe_mul]
    congr 1
    norm_num
  rw [eps, h]
  exact EReal.coe_pos.mpr (by norm_num)

theorem sq_nonneg (a : EReal) : 0 ≤ a * a := by
  induction a with
  | bot => simp
  | top => simp
  | coe r => rw [← EReal.coe_mul]; exact EReal.coe_nonneg.mpr (mul_self_nonneg r)

theorem div_wid (a : EReal) : Ideal.div a wid = a * wid⁻¹ := by
  unfold Ideal.div
  rw [if_neg (by rw [wid_eq]; exact_mod_cast (by norm_num : (1024 : ℝ) ≠ 0))]

/-- The mean square is positive. -/
theorem ms_pos : 0 < ms x := by
  have h : 0 ≤ Ideal.div (∑ k, x k * x k) wid := by
    rw [div_wid]
    refine mul_nonneg (Finset.sum_nonneg fun k _ => sq_nonneg _) ?_
    rw [wid_eq, ← EReal.coe_inv]
    exact EReal.coe_nonneg.mpr (by norm_num)
  exact lt_of_lt_of_le eps_pos (le_add_of_nonneg_left h)

/-- The factor over the mean square is the factor's cube. -/
theorem cube (a : EReal) (h : 0 < a) : Ideal.div (Ideal.rsqrt a) a = Ideal.rsqrt a * Ideal.rsqrt a * Ideal.rsqrt a := by
  induction a with
  | bot => simp at h
  | top =>
    have e : Ideal.rsqrt ⊤ = 0 := rfl
    rw [e]
    simp [Ideal.div]
  | coe r =>
    have hr : 0 < r := EReal.coe_pos.mp h
    have e : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [e]
    unfold Ideal.div
    rw [if_neg h.ne', ← EReal.coe_inv, ← EReal.coe_mul, ← EReal.coe_mul, ← EReal.coe_mul]
    congr 1
    rw [mul_assoc, ← mul_inv (Real.sqrt r) (Real.sqrt r), Real.mul_self_sqrt hr.le]

/-- Two halves taken away. -/
theorem halves (z : EReal) : z * nhalf + z * nhalf = -z := by
  rw [nhalf_eq]
  induction z with
  | bot =>
    rw [EReal.bot_mul_coe_of_neg (by norm_num)]
    rfl
  | top =>
    rw [EReal.top_mul_coe_of_neg (by norm_num)]
    rfl
  | coe r =>
    rw [← EReal.coe_mul, ← EReal.coe_add, ← EReal.coe_neg]
    congr 1
    ring

/-- The two ways to write the gradient agree. -/
theorem dx'_eq (j : Fin 1024) : dx' x g d j = dx x g d j := by
  have e : tt x g d = (dotx x g d * (rr x * rr x * rr x) * wid⁻¹) * nhalf := by
    unfold tt dotx
    rw [div_wid, show Ideal.div (rr x) (ms x) = rr x * rr x * rr x from cube _ (ms_pos x)]
    simp only [fun k => mul_comm (d k) (g k)]
    ac_rfl
  have e2 : x j * tt x g d + tt x g d * x j = -(x j * (rr x * rr x * rr x) * Ideal.div (dotx x g d) wid) := by
    rw [mul_comm (tt x g d), e, div_wid]
    refine Eq.trans ?_ ((halves _).trans rfl)
    refine congrArg₂ (· + ·) ?_ ?_ <;> ac_rfl
  unfold dx' dx
  rw [add_assoc, e2, sub_eq_add_neg]
  refine congrArg (· + _) ?_
  ac_rfl

end Cert.RmsSpec
-- ==== Proof.DownVal.lean ====
/-
  The feed forward part's second projection with the residual and the next layer's norm: the kernel's blocks, each the
  sum of two halves on top of the residual, and their normed rows are the reference's.
-/
module

public import proofs.«01_k».proof.Proof.Gen.DownIdeal.Value
public import proofs.«01_k».proof.Proof.Gen.DownReferenceIdeal.Run
public import proofs.«01_k».proof.Proof.Gen.DownReferenceIdeal.Read
public import proofs.«01_k».proof.Proof.RmsSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DownIdeal.Val

open Cert.DownIdeal Cert.DownIdeal.Gen Cert.RmsSpec

variable (m : (ℓ : Loc nD τ sig) → Buf (Elt Ideal) ℓ) (cc : Dev nD)

/-- A point's tile of activations. -/
abbrev b0 (t : Fin cfg0.N) : FVec Ideal S1024x1408 .bf16 := iblk m cc 0 t
/-- A point's rows of the weights. -/
abbrev b1 (t : Fin cfg0.N) : FVec Ideal S1x1408x1024 .bf16 := iblk m cc 1 t
/-- A point's rows of the residual. -/
abbrev b2 (t : Fin cfg0.N) : FVec Ideal S1024x1024 .f32 := iblk m cc 2 t
/-- The gains. -/
abbrev b3 (t : Fin cfg0.N) : FVec Ideal S1x1024 .f32 := iblk m cc 3 t

/-- One half of a block's sum. -/
def share (x0 : FVec Ideal S1024x1408 .bf16) (x1 : FVec Ideal S1x1408x1024 .bf16) (i j : Fin 1024) : EReal :=
  ∑ k : Fin 1408, x0 (ix2 i k) * x1 (ix3 0 k j)

/-- A row normed and scaled by the gains. -/
def nrm (x g : Fin 1024 → EReal) (j : Fin 1024) : EReal := x j * rr x * g j

theorem pay2_eq (x0 : FVec Ideal S1024x1408 .bf16) (x1 : FVec Ideal S1x1408x1024 .bf16) (v : FVec Ideal S1024x1024 .f32) (i j : Fin 1024) :
    k0_pay2 (F := Ideal) x0 x1 v (ix2 i j) = share x0 x1 i j + v (ix2 i j) := by
  pointwise [k0_pay2, k0_pay1]
  rfl

theorem pay4_eq (x0 : FVec Ideal S1024x1408 .bf16) (x1 : FVec Ideal S1x1408x1024 .bf16) (v : FVec Ideal S1024x1024 .f32) (i j : Fin 1024) :
    k0_pay4 (F := Ideal) x0 x1 v (ix2 i j) = v (ix2 i j) + share x0 x1 i j := by
  pointwise [k0_pay4, k0_pay1]
  rfl

theorem pay5_eq (x0 : FVec Ideal S1024x1408 .bf16) (x1 : FVec Ideal S1x1408x1024 .bf16) (v : FVec Ideal S1024x1024 .f32)
    (g : FVec Ideal S1x1024 .f32) (i j : Fin 1024) :
    k0_pay5 (F := Ideal) x0 x1 v g (ix2 i j) = nrm (fun k => k0_pay4 (F := Ideal) x0 x1 v (ix2 i k)) (fun k => g (ix2 0 k)) j := by
  generalize hd : k0_pay4 (F := Ideal) x0 x1 v = d
  pointwise [k0_pay5, hd]
  rfl

/-! ## What a point leaves -/

theorem lt1 (t : Fin cfg0.N) : t.val - 1 < cfg0.N := Nat.lt_of_le_of_lt (Nat.sub_le _ _) t.isLt

theorem out4_A (t : Fin cfg0.N) (h0 : t.val % 2 = 0) (i j : Fin 1024) :
    (outsAt0 m cc t.val t.isLt).1 (ix2 i j) = share (b0 m cc t) (b1 m cc t) i j + b2 m cc t (ix2 i j) := by
  rw [outsAt0_A m cc t h0 (by omega)]
  frame_out
  exact pay2_eq _ _ _ i j

theorem out4_B (t : Fin cfg0.N) (h2 : t.val % 2 = 1) :
    (outsAt0 m cc t.val t.isLt).1 = k0_pay4 (F := Ideal) (b0 m cc t) (b1 m cc t) (outsAt0 m cc (t.val - 1) (lt1 t)).1 := by
  rw [outsAt0_B m cc t (by omega) h2]
  frame_out

theorem out5_B (t : Fin cfg0.N) (h2 : t.val % 2 = 1) :
    (outsAt0 m cc t.val t.isLt).2
      = k0_pay5 (F := Ideal) (b0 m cc t) (b1 m cc t) (outsAt0 m cc (t.val - 1) (lt1 t)).1 (b3 m cc t) := by
  rw [outsAt0_B m cc t (by omega) h2]
  frame_out

theorem out5_nrm (t : Fin cfg0.N) (h2 : t.val % 2 = 1) (i j : Fin 1024) :
    (outsAt0 m cc t.val t.isLt).2 (ix2 i j)
      = nrm (fun k => (outsAt0 m cc t.val t.isLt).1 (ix2 i k)) (fun k => b3 m cc t (ix2 0 k)) j := by
  rw [out5_B m cc t h2, out4_B m cc t h2]
  exact pay5_eq _ _ _ _ i j

/-! ## The blocks as parts of the arrays -/

/-- The weights as the kernel is given them: the four shards' rows below each other. -/
theorem V_v3 (l : Fin 4) (n : Fin 2816) (k : Fin 1024) : (V m cc main_v3 : FVec Ideal S4x2816x1024 .bf16) (ix3 l n k)
    = (m ((cc : Thread nD τ).loc main_arg1) : FVec Ideal S4x2816x1024 .f32) (ix3 l n k) := by
  have e : (V m cc main_v3 : FVec Ideal S4x2816x1024 .bf16)
      = shapeCast S4x2816x1024 (shapeCast S4x4x704x1024 (truncf (F := Ideal) .bf16
          (m ((cc : Thread nD τ).loc main_arg1) : FVec Ideal S4x2816x1024 .f32) bitsLt_bf16_f32) shapeCasts_S4x2816x1024_S4x4x704x1024)
          shapeCasts_S4x4x704x1024_S4x2816x1024 := by
    dsimp only [V, hostOps0]
    after_results
    rfl
  rw [e]
  pointwise []

theorem V_v2 (k : Fin 1024) : (V m cc main_v2 : FVec Ideal S1x1024 .f32) (ix2 0 k)
    = (m ((cc : Thread nD τ).loc main_arg3) : FVec Ideal S1024 .f32) (ix1 k) := by
  have e : (V m cc main_v2 : FVec Ideal S1x1024 .f32)
      = broadcastInDim S1x1024 ![1] bcast_S1024_S1x1024_1 (m ((cc : Thread nD τ).loc main_arg3) : FVec Ideal S1024 .f32) := by
    dsimp only [V, hostOps0]
    after_results
  rw [e]
  pointwise []

theorem idx (t : Fin cfg0.N) : win0_0.index t = ![t.val / 2, t.val % 2] ∧ win0_1.index t = ![0, t.val % 2, 0]
    ∧ win0_2.index t = ![t.val / 2, 0] ∧ win0_3.index t = ![0, 0] ∧ win0_4.index t = ![t.val / 2, 0] ∧ win0_5.index t = ![t.val / 2, 0] := by
  revert t
  decide +kernel

/-- Row `i` of the block of rows a point works on. -/
abbrev row (t : Fin cfg0.N) (i : Fin 1024) : Fin 16384 :=
  ⟨t.val / 2 * 1024 + i.val, by have : t.val < 32 := lt_of_lt_of_eq t.isLt N_0; omega⟩

/-- The arguments as arrays. -/
abbrev A0 : FVec Ideal S16384x2816 .bf16 := m ((cc : Thread nD τ).loc main_arg0)
abbrev A1 : FVec Ideal S4x2816x1024 .f32 := m ((cc : Thread nD τ).loc main_arg1)
abbrev A2 : FVec Ideal S16384x1024 .f32 := m ((cc : Thread nD τ).loc main_arg2)
abbrev A3 : FVec Ideal S1024 .f32 := m ((cc : Thread nD τ).loc main_arg3)

theorem b0_eq (t : Fin cfg0.N) (i : Fin 1024) (k : Fin 1408) :
    b0 m cc t (ix2 i k) = A0 m cc (ix2 (row t i) ⟨t.val % 2 * 1408 + k.val, by omega⟩) := by
  unfold A0
  rw [← V_main_arg0 m cc]
  show iblk m cc 0 t (ix2 i k) = _
  blk_ext [iblk, idx t]

theorem b1_eq (t : Fin cfg0.N) (k : Fin 1408) (j : Fin 1024) :
    b1 m cc t (ix3 0 k j) = A1 m cc (ix3 0 ⟨t.val % 2 * 1408 + k.val, by omega⟩ j) := by
  refine Eq.trans ?_ (V_v3 m cc 0 ⟨t.val % 2 * 1408 + k.val, by omega⟩ j)
  show iblk m cc 1 t (ix3 0 k j) = _
  blk_ext [iblk, idx t]

theorem b2_eq (t : Fin cfg0.N) (i k : Fin 1024) : b2 m cc t (ix2 i k) = A2 m cc (ix2 (row t i) k) := by
  unfold A2
  rw [← V_main_arg2 m cc]
  show iblk m cc 2 t (ix2 i k) = _
  blk_ext [iblk, idx t]

theorem b3_eq (t : Fin cfg0.N) (k : Fin 1024) : b3 m cc t (ix2 0 k) = A3 m cc (ix1 k) := by
  refine Eq.trans ?_ (V_v2 m cc k)
  show iblk m cc 3 t (ix2 0 k) = _
  blk_ext [iblk, idx t]

/-! ## The whole arrays -/

section arrays

variable (x0 : FVec Ideal S16384x2816 .bf16) (x1 : FVec Ideal S4x2816x1024 .f32) (x2 : FVec Ideal S16384x1024 .f32) (x3 : FVec Ideal S1024 .f32)

/-- The residual with the product of row `r` and column `j` on top. -/
def sm (r : Fin 16384) (j : Fin 1024) : EReal := x2 (ix2 r j) + ∑ k : Fin 2816, x0 (ix2 r k) * x1 (ix3 0 k j)

/-- The first result. -/
def hh : S16384x1024.Idx → EReal := fun y => sm x0 x1 x2 (y 0) (y 1)

/-- The second: the first result's rows, normed. -/
def uu : S16384x1024.Idx → EReal := fun y => nrm (sm x0 x1 x2 (y 0)) (fun k => x3 (ix1 k)) (y 1)

theorem hh_at (y : S16384x1024.Idx) (r : Fin 16384) (j : Fin 1024) (e0 : (y 0).val = r.val) (e1 : (y 1).val = j.val) :
    hh x0 x1 x2 y = sm x0 x1 x2 r j := by
  have h0 : (y 0 : Fin 16384) = r := Fin.ext e0
  have h1 : (y 1 : Fin 1024) = j := Fin.ext e1
  unfold hh
  rw [← h0, ← h1]

theorem uu_at (y : S16384x1024.Idx) (r : Fin 16384) (j : Fin 1024) (e0 : (y 0).val = r.val) (e1 : (y 1).val = j.val) :
    uu x0 x1 x2 x3 y = nrm (sm x0 x1 x2 r) (fun k => x3 (ix1 k)) j := by
  have h0 : (y 0 : Fin 16384) = r := Fin.ext e0
  have h1 : (y 1 : Fin 1024) = j := Fin.ext e1
  unfold uu
  rw [← h0, ← h1]

end arrays

/-- At a block's last point the two halves make the whole sum. -/
theorem out4_arr (t : Fin cfg0.N) (h2 : t.val % 2 = 1) (i j : Fin 1024) :
    (outsAt0 m cc t.val t.isLt).1 (ix2 i j) = sm (A0 m cc) (A1 m cc) (A2 m cc) (row t i) j := by
  have ht : t.val < 32 := lt_of_lt_of_eq t.isLt N_0
  have hN : cfg0.N = 32 := N_0
  rw [out4_B m cc t h2, pay4_eq]
  have s0 := out4_A m cc ⟨t.val - 1, by omega⟩ (by dsimp only; omega) i j
  dsimp only at s0
  rw [s0]
  have key : (∑ s : Fin 2, ∑ k : Fin 1408, A0 m cc (ix2 (row t i) ⟨s.val * 1408 + k.val, by omega⟩) * A1 m cc (ix3 0 ⟨s.val * 1408 + k.val, by omega⟩ j))
      = ∑ k : Fin 2816, A0 m cc (ix2 (row t i) k) * A1 m cc (ix3 0 k j) :=
    Fin.sum_mul_add_congr fun s n hl => rfl
  unfold sm
  rw [← key, Fin.sum_univ_two]
  have one : ∀ (u : Fin cfg0.N) (s : Fin 2), u.val / 2 = t.val / 2 → u.val % 2 = s.val → share (b0 m cc u) (b1 m cc u) i j
      = ∑ k : Fin 1408, A0 m cc (ix2 (row t i) ⟨s.val * 1408 + k.val, by omega⟩) * A1 m cc (ix3 0 ⟨s.val * 1408 + k.val, by omega⟩ j) := by
    intro u s e1 e2
    refine Finset.sum_congr rfl fun n _ => congrArg₂ (· * ·) ((b0_eq m cc u i n).trans (congrArg _ (congrArg₂ ix2 (Fin.ext ?_) (Fin.ext ?_))))
      ((b1_eq m cc u n j).trans (congrArg _ (congrArg (ix3 0 · j) (Fin.ext ?_))))
    · dsimp only; rw [e1]
    · dsimp only; rw [e2]
    · dsimp only; rw [e2]
  have er : b2 m cc ⟨t.val - 1, by omega⟩ (ix2 i j) = A2 m cc (ix2 (row t i) j) :=
    (b2_eq m cc _ i j).trans (congrArg _ (congrArg (ix2 · j) (Fin.ext (by dsimp only; omega))))
  refine (congrArg₂ (· + ·) (congrArg₂ (· + ·) (one _ 0 (by dsimp only; omega) (by show (t.val - 1) % 2 = 0; omega)) er) (one t 1 rfl h2)).trans ?_
  rw [add_comm _ (A2 m cc (ix2 (row t i) j)), add_assoc]

theorem out5_arr (t : Fin cfg0.N) (h2 : t.val % 2 = 1) (i j : Fin 1024) : (outsAt0 m cc t.val t.isLt).2 (ix2 i j)
    = nrm (sm (A0 m cc) (A1 m cc) (A2 m cc) (row t i)) (fun k => A3 m cc (ix1 k)) j := by
  rw [out5_nrm m cc t h2 i j,
    show (fun k => (outsAt0 m cc t.val t.isLt).1 (ix2 i k)) = sm (A0 m cc) (A1 m cc) (A2 m cc) (row t i) from funext (out4_arr m cc t h2 i),
    show (fun k => b3 m cc t (ix2 0 k)) = fun k => A3 m cc (ix1 k) from funext (b3_eq m cc t)]

theorem final4 : (dats m 0 cc).arrAt 4 cfg0.N = hh (A0 m cc) (A1 m cc) (A2 m cc) := by
  refine (dats m 0 cc).arrAt_eq_of_covers 4 _ (by decide +kernel) fun t hf y => ?_
  have ht : t.val < 32 := lt_of_lt_of_eq t.isLt N_0
  have h2 : t.val % 2 = 1 := (flush0_4 t).mp hf
  have h0 : (y 0).val < 1024 := (y 0).isLt
  blk_simp
  rw [after0_4]
  have e0 : (((win0_4.blk t).view.emb y) 0).val = t.val / 2 * 1024 + (y 0).val := by blk_simp [idx t]
  have e1 : (((win0_4.blk t).view.emb y) 1).val = (y 1).val := by blk_simp [idx t]
  have hy : (fun a => y a) = ix2 (y 0 : Fin 1024) (y 1 : Fin 1024) := by
    funext a
    match a with
    | ⟨0, _⟩ => rfl
    | ⟨1, _⟩ => rfl
  refine Eq.trans ?_ (hh_at _ _ _ _ (row t (y 0)) (y 1) e0 e1).symm
  exact (congrArg _ hy).trans (out4_arr m cc t h2 (y 0) (y 1))

theorem final5 : (dats m 0 cc).arrAt 5 cfg0.N = uu (A0 m cc) (A1 m cc) (A2 m cc) (A3 m cc) := by
  refine (dats m 0 cc).arrAt_eq_of_covers 5 _ (by decide +kernel) fun t hf y => ?_
  have ht : t.val < 32 := lt_of_lt_of_eq t.isLt N_0
  have h2 : t.val % 2 = 1 := (flush0_5 t).mp hf
  have h0 : (y 0).val < 1024 := (y 0).isLt
  blk_simp
  rw [after0_5]
  have e0 : (((win0_5.blk t).view.emb y) 0).val = t.val / 2 * 1024 + (y 0).val := by blk_simp [idx t]
  have e1 : (((win0_5.blk t).view.emb y) 1).val = (y 1).val := by blk_simp [idx t]
  have hy : (fun a => y a) = ix2 (y 0 : Fin 1024) (y 1 : Fin 1024) := by
    funext a
    match a with
    | ⟨0, _⟩ => rfl
    | ⟨1, _⟩ => rfl
  refine Eq.trans ?_ (uu_at _ _ _ _ _ (row t (y 0)) (y 1) e0 e1).symm
  exact (congrArg _ hy).trans (out5_arr m cc t h2 (y 0) (y 1))

/-! ## The reference -/

section ref

open Cert.DownReferenceIdeal.Read

variable (x0 : FVec Ideal S16384x2816 .bf16) (x1 : FVec Ideal S4x2816x1024 .f32) (x2 : FVec Ideal S16384x1024 .f32) (x3 : FVec Ideal S1024 .f32)

theorem ref_row (r : Fin 16384) (j : Fin 1024) : val_main_v4 (F := Ideal) x0 x1 x2 (ix2 r j) = sm x0 x1 x2 r j := by
  pointwise [val_main_v4, val_main_v3, val_main_v2, val_main_v1, val_main_v0]
  rfl

theorem ref_h : val_main_v4 (F := Ideal) x0 x1 x2 = hh x0 x1 x2 := by
  funext y
  rw [eq_ix2 y]
  exact ref_row x0 x1 x2 _ _

theorem ref_nrm (r : Fin 16384) (j : Fin 1024) : val_main_v18 (F := Ideal) x0 x1 x2 x3 (ix2 r j)
    = nrm (fun k => val_main_v4 (F := Ideal) x0 x1 x2 (ix2 r k)) (fun k => x3 (ix1 k)) j := by
  generalize hv : val_main_v4 (F := Ideal) x0 x1 x2 = v
  pointwise [val_main_v18, val_main_v17, val_main_v16, val_main_v15, val_main_v14, val_main_v13, val_main_v12, val_main_v11, val_main_v10,
    val_main_v9, val_main_v8, val_main_v7, val_main_v6, val_main_v5, val_main_cst, val_main_cst_0, val_main_cst_1, hv]
  rfl

theorem ref_u : val_main_v18 (F := Ideal) x0 x1 x2 x3 = uu x0 x1 x2 x3 := by
  funext y
  rw [eq_ix2 y]
  refine (ref_nrm x0 x1 x2 x3 _ _).trans ?_
  rw [show (fun k => val_main_v4 (F := Ideal) x0 x1 x2 (ix2 (y 0) k)) = sm x0 x1 x2 (y 0) from funext (ref_row x0 x1 x2 _)]
  rfl

end ref

end Cert.DownIdeal.Val
-- ==== Proof.DownLastVal.lean ====
/-
  The last layer's second projection of the feed forward part with the residual: the kernel's blocks, each the sum of two
  halves on top of the residual, are the reference's.
-/
module

public import proofs.«01_k».proof.Proof.Gen.DownLastIdeal.Value
public import proofs.«01_k».proof.Proof.Gen.DownLastReferenceIdeal.Run
public import proofs.«01_k».proof.Proof.Gen.DownLastReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DownLastIdeal.Val

open Cert.DownLastIdeal Cert.DownLastIdeal.Gen

variable (m : (ℓ : Loc nD τ sig) → Buf (Elt Ideal) ℓ) (cc : Dev nD)

/-- A point's tile of activations. -/
abbrev b0 (t : Fin cfg0.N) : FVec Ideal S1024x1408 .bf16 := iblk m cc 0 t
/-- A point's rows of the weights. -/
abbrev b1 (t : Fin cfg0.N) : FVec Ideal S1x1408x1024 .bf16 := iblk m cc 1 t
/-- A point's rows of the residual. -/
abbrev b2 (t : Fin cfg0.N) : FVec Ideal S1024x1024 .f32 := iblk m cc 2 t
/-- One half of a block's sum. -/
def share (x0 : FVec Ideal S1024x1408 .bf16) (x1 : FVec Ideal S1x1408x1024 .bf16) (i j : Fin 1024) : EReal :=
  ∑ k : Fin 1408, x0 (ix2 i k) * x1 (ix3 0 k j)

theorem pay2_eq (x0 : FVec Ideal S1024x1408 .bf16) (x1 : FVec Ideal S1x1408x1024 .bf16) (v : FVec Ideal S1024x1024 .f32) (i j : Fin 1024) :
    k0_pay2 (F := Ideal) x0 x1 v (ix2 i j) = share x0 x1 i j + v (ix2 i j) := by
  pointwise [k0_pay2, k0_pay1]
  rfl

theorem pay4_eq (x0 : FVec Ideal S1024x1408 .bf16) (x1 : FVec Ideal S1x1408x1024 .bf16) (v : FVec Ideal S1024x1024 .f32) (i j : Fin 1024) :
    k0_pay4 (F := Ideal) x0 x1 v (ix2 i j) = v (ix2 i j) + share x0 x1 i j := by
  pointwise [k0_pay4, k0_pay1]
  rfl

/-! ## What a point leaves -/

theorem lt1 (t : Fin cfg0.N) : t.val - 1 < cfg0.N := Nat.lt_of_le_of_lt (Nat.sub_le _ _) t.isLt

theorem out3_A (t : Fin cfg0.N) (h0 : t.val % 2 = 0) (i j : Fin 1024) :
    outsAt0 m cc t.val t.isLt (ix2 i j) = share (b0 m cc t) (b1 m cc t) i j + b2 m cc t (ix2 i j) := by
  rw [outsAt0_A m cc t h0 (by omega)]
  frame_out
  exact pay2_eq _ _ _ i j

theorem out3_B (t : Fin cfg0.N) (h2 : t.val % 2 = 1) :
    outsAt0 m cc t.val t.isLt = k0_pay4 (F := Ideal) (b0 m cc t) (b1 m cc t) (outsAt0 m cc (t.val - 1) (lt1 t)) := by
  rw [outsAt0_B m cc t (by omega) h2]
  frame_out

/-! ## The blocks as parts of the arrays -/

/-- The weights as the kernel is given them: the four shards' rows below each other. -/
theorem V_v2 (l : Fin 4) (n : Fin 2816) (k : Fin 1024) : (V m cc main_v2 : FVec Ideal S4x2816x1024 .bf16) (ix3 l n k)
    = (m ((cc : Thread nD τ).loc main_arg1) : FVec Ideal S4x2816x1024 .f32) (ix3 l n k) := by
  have e : (V m cc main_v2 : FVec Ideal S4x2816x1024 .bf16)
      = shapeCast S4x2816x1024 (shapeCast S4x4x704x1024 (truncf (F := Ideal) .bf16
          (m ((cc : Thread nD τ).loc main_arg1) : FVec Ideal S4x2816x1024 .f32) bitsLt_bf16_f32) shapeCasts_S4x2816x1024_S4x4x704x1024)
          shapeCasts_S4x4x704x1024_S4x2816x1024 := by
    dsimp only [V, hostOps0]
    after_results
    rfl
  rw [e]
  pointwise []

theorem idx (t : Fin cfg0.N) : win0_0.index t = ![t.val / 2, t.val % 2] ∧ win0_1.index t = ![3, t.val % 2, 0]
    ∧ win0_2.index t = ![t.val / 2, 0] ∧ win0_3.index t = ![t.val / 2, 0] := by
  revert t
  decide +kernel

/-- Row `i` of the block of rows a point works on. -/
abbrev row (t : Fin cfg0.N) (i : Fin 1024) : Fin 16384 :=
  ⟨t.val / 2 * 1024 + i.val, by have : t.val < 32 := lt_of_lt_of_eq t.isLt N_0; omega⟩

/-- The arguments as arrays. -/
abbrev A0 : FVec Ideal S16384x2816 .bf16 := m ((cc : Thread nD τ).loc main_arg0)
abbrev A1 : FVec Ideal S4x2816x1024 .f32 := m ((cc : Thread nD τ).loc main_arg1)
abbrev A2 : FVec Ideal S16384x1024 .f32 := m ((cc : Thread nD τ).loc main_arg2)

theorem b0_eq (t : Fin cfg0.N) (i : Fin 1024) (k : Fin 1408) :
    b0 m cc t (ix2 i k) = A0 m cc (ix2 (row t i) ⟨t.val % 2 * 1408 + k.val, by omega⟩) := by
  unfold A0
  rw [← V_main_arg0 m cc]
  show iblk m cc 0 t (ix2 i k) = _
  blk_ext [iblk, idx t]

theorem b1_eq (t : Fin cfg0.N) (k : Fin 1408) (j : Fin 1024) :
    b1 m cc t (ix3 0 k j) = A1 m cc (ix3 3 ⟨t.val % 2 * 1408 + k.val, by omega⟩ j) := by
  refine Eq.trans ?_ (V_v2 m cc 3 ⟨t.val % 2 * 1408 + k.val, by omega⟩ j)
  show iblk m cc 1 t (ix3 0 k j) = _
  blk_ext [iblk, idx t]

theorem b2_eq (t : Fin cfg0.N) (i k : Fin 1024) : b2 m cc t (ix2 i k) = A2 m cc (ix2 (row t i) k) := by
  unfold A2
  rw [← V_main_arg2 m cc]
  show iblk m cc 2 t (ix2 i k) = _
  blk_ext [iblk, idx t]

/-! ## The whole array -/

section arrays

variable (x0 : FVec Ideal S16384x2816 .bf16) (x1 : FVec Ideal S4x2816x1024 .f32) (x2 : FVec Ideal S16384x1024 .f32)

/-- The residual with the product of row `r` and column `j` on top. -/
def sm (r : Fin 16384) (j : Fin 1024) : EReal := x2 (ix2 r j) + ∑ k : Fin 2816, x0 (ix2 r k) * x1 (ix3 3 k j)

/-- The result. -/
def hh : S16384x1024.Idx → EReal := fun y => sm x0 x1 x2 (y 0) (y 1)

theorem hh_at (y : S16384x1024.Idx) (r : Fin 16384) (j : Fin 1024) (e0 : (y 0).val = r.val) (e1 : (y 1).val = j.val) :
    hh x0 x1 x2 y = sm x0 x1 x2 r j := by
  have h0 : (y 0 : Fin 16384) = r := Fin.ext e0
  have h1 : (y 1 : Fin 1024) = j := Fin.ext e1
  unfold hh
  rw [← h0, ← h1]

end arrays

/-- At a block's last point the two halves make the whole sum. -/
theorem out3_arr (t : Fin cfg0.N) (h2 : t.val % 2 = 1) (i j : Fin 1024) :
    outsAt0 m cc t.val t.isLt (ix2 i j) = sm (A0 m cc) (A1 m cc) (A2 m cc) (row t i) j := by
  have ht : t.val < 32 := lt_of_lt_of_eq t.isLt N_0
  have hN : cfg0.N = 32 := N_0
  rw [out3_B m cc t h2, pay4_eq]
  have s0 := out3_A m cc ⟨t.val - 1, by omega⟩ (by dsimp only; omega) i j
  dsimp only at s0
  rw [s0]
  have key : (∑ s : Fin 2, ∑ k : Fin 1408, A0 m cc (ix2 (row t i) ⟨s.val * 1408 + k.val, by omega⟩) * A1 m cc (ix3 3 ⟨s.val * 1408 + k.val, by omega⟩ j))
      = ∑ k : Fin 2816, A0 m cc (ix2 (row t i) k) * A1 m cc (ix3 3 k j) :=
    Fin.sum_mul_add_congr fun s n hl => rfl
  unfold sm
  rw [← key, Fin.sum_univ_two]
  have one : ∀ (u : Fin cfg0.N) (s : Fin 2), u.val / 2 = t.val / 2 → u.val % 2 = s.val → share (b0 m cc u) (b1 m cc u) i j
      = ∑ k : Fin 1408, A0 m cc (ix2 (row t i) ⟨s.val * 1408 + k.val, by omega⟩) * A1 m cc (ix3 3 ⟨s.val * 1408 + k.val, by omega⟩ j) := by
    intro u s e1 e2
    refine Finset.sum_congr rfl fun n _ => congrArg₂ (· * ·) ((b0_eq m cc u i n).trans (congrArg _ (congrArg₂ ix2 (Fin.ext ?_) (Fin.ext ?_))))
      ((b1_eq m cc u n j).trans (congrArg _ (congrArg (ix3 3 · j) (Fin.ext ?_))))
    · dsimp only; rw [e1]
    · dsimp only; rw [e2]
    · dsimp only; rw [e2]
  have er : b2 m cc ⟨t.val - 1, by omega⟩ (ix2 i j) = A2 m cc (ix2 (row t i) j) :=
    (b2_eq m cc _ i j).trans (congrArg _ (congrArg (ix2 · j) (Fin.ext (by dsimp only; omega))))
  refine (congrArg₂ (· + ·) (congrArg₂ (· + ·) (one _ 0 (by dsimp only; omega) (by show (t.val - 1) % 2 = 0; omega)) er) (one t 1 rfl h2)).trans ?_
  rw [add_comm _ (A2 m cc (ix2 (row t i) j)), add_assoc]

theorem final3 : (dats m 0 cc).arrAt 3 cfg0.N = hh (A0 m cc) (A1 m cc) (A2 m cc) := by
  refine (dats m 0 cc).arrAt_eq_of_covers 3 _ (by decide +kernel) fun t hf y => ?_
  have ht : t.val < 32 := lt_of_lt_of_eq t.isLt N_0
  have h2 : t.val % 2 = 1 := (flush0_3 t).mp hf
  have h0 : (y 0).val < 1024 := (y 0).isLt
  blk_simp
  rw [after0_3]
  have e0 : (((win0_3.blk t).view.emb y) 0).val = t.val / 2 * 1024 + (y 0).val := by blk_simp [idx t]
  have e1 : (((win0_3.blk t).view.emb y) 1).val = (y 1).val := by blk_simp [idx t]
  have hy : (fun a => y a) = ix2 (y 0 : Fin 1024) (y 1 : Fin 1024) := by
    funext a
    match a with
    | ⟨0, _⟩ => rfl
    | ⟨1, _⟩ => rfl
  refine Eq.trans ?_ (hh_at _ _ _ _ (row t (y 0)) (y 1) e0 e1).symm
  exact (congrArg _ hy).trans (out3_arr m cc t h2 (y 0) (y 1))

/-! ## The reference -/

section ref

open Cert.DownLastReferenceIdeal.Read

variable (x0 : FVec Ideal S16384x2816 .bf16) (x1 : FVec Ideal S4x2816x1024 .f32) (x2 : FVec Ideal S16384x1024 .f32)

theorem ref_row (r : Fin 16384) (j : Fin 1024) : val_main_v4 (F := Ideal) x0 x1 x2 (ix2 r j) = sm x0 x1 x2 r j := by
  pointwise [val_main_v4, val_main_v3, val_main_v2, val_main_v1, val_main_v0]
  rfl

theorem ref_h : val_main_v4 (F := Ideal) x0 x1 x2 = hh x0 x1 x2 := by
  funext y
  rw [eq_ix2 y]
  exact ref_row x0 x1 x2 _ _

end ref

end Cert.DownLastIdeal.Val
-- ==== Proof.RetOutVal.lean ====
/-
  The retention's output projection: the kernel's blocks, each the sum of two halves, are the reference's product.
-/
module

public import proofs.«01_k».proof.Proof.Gen.RetOutIdeal.Value
public import proofs.«01_k».proof.Proof.Gen.RetOutReferenceIdeal.Run
public import proofs.«01_k».proof.Proof.Gen.RetOutReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RetOutIdeal.Val

open Cert.RetOutIdeal Cert.RetOutIdeal.Gen

variable (m : (ℓ : Loc nD τ sig) → Buf (Elt Ideal) ℓ) (cc : Dev nD)

/-- A point's rows. -/
abbrev b0 (t : Fin cfg0.N) : FVec Ideal S1024x1024 .bf16 := iblk m cc 0 t
/-- A point's rows of the weights. -/
abbrev b1 (t : Fin cfg0.N) : FVec Ideal S1x1024x1024 .bf16 := iblk m cc 1 t

/-- One half of a block's sum. -/
def share (x0 : FVec Ideal S1024x1024 .bf16) (x1 : FVec Ideal S1x1024x1024 .bf16) (y : S1024x1024.Idx) : EReal :=
  ∑ k : Fin 1024, x0 (ix2 (y 0) k) * x1 (ix3 0 k (y 1))

theorem pay1_eq (x0 : FVec Ideal S1024x1024 .bf16) (x1 : FVec Ideal S1x1024x1024 .bf16) (y : S1024x1024.Idx) :
    k0_pay1 (F := Ideal) x0 x1 y = share x0 x1 y := by
  pointwise [k0_pay1]
  rfl

theorem pay3_eq (x0 : FVec Ideal S1024x1024 .bf16) (x1 : FVec Ideal S1x1024x1024 .bf16) (v : FVec Ideal S1024x1024 .f32) (y : S1024x1024.Idx) :
    k0_pay3 (F := Ideal) x0 x1 v y = v y + share x0 x1 y := by
  pointwise [k0_pay3, k0_pay1]
  rfl

theorem out2_A (t : Fin cfg0.N) (h0 : t.val % 2 = 0) (y : S1024x1024.Idx) :
    outsAt0 m cc t.val t.isLt y = share (b0 m cc t) (b1 m cc t) y := by
  rw [outsAt0_A m cc t h0 (by omega)]
  frame_out
  exact pay1_eq _ _ y

theorem out2_B (t : Fin cfg0.N) (h0 : ¬ t.val % 2 = 0) (y : S1024x1024.Idx) :
    outsAt0 m cc t.val t.isLt y = outsAt0 m cc (t.val - 1) (Nat.lt_of_le_of_lt (Nat.sub_le _ _) t.isLt) y + share (b0 m cc t) (b1 m cc t) y := by
  rw [outsAt0_B m cc t h0 (by omega)]
  frame_out
  exact pay3_eq _ _ _ y

/-- The weights as the kernel is given them: the four shards' rows below each other. -/
theorem V_v2 (l : Fin 4) (n : Fin 2048) (k : Fin 1024) : (V m cc main_v2 : FVec Ideal S4x2048x1024 .bf16) (ix3 l n k)
    = (m ((cc : Thread nD τ).loc main_arg1) : FVec Ideal S4x2048x1024 .f32) (ix3 l n k) := by
  have e : (V m cc main_v2 : FVec Ideal S4x2048x1024 .bf16)
      = shapeCast S4x2048x1024 (shapeCast S4x4x512x1024 (truncf (F := Ideal) .bf16
          (m ((cc : Thread nD τ).loc main_arg1) : FVec Ideal S4x2048x1024 .f32) bitsLt_bf16_f32) shapeCasts_S4x2048x1024_S4x4x512x1024)
          shapeCasts_S4x4x512x1024_S4x2048x1024 := by
    dsimp only [V, hostOps0]
    after_results
    rfl
  rw [e]
  pointwise []

theorem idx (t : Fin cfg0.N) : win0_0.index t = ![t.val / 2, t.val % 2] ∧ win0_1.index t = ![0, t.val % 2, 0] ∧ win0_2.index t = ![t.val / 2, 0] := by
  revert t
  decide +kernel

theorem b0_eq (t : Fin cfg0.N) (i k : Fin 1024) :
    b0 m cc t (ix2 i k) = (m ((cc : Thread nD τ).loc main_arg0) : FVec Ideal S16384x2048 .bf16)
      (ix2 ⟨t.val / 2 * 1024 + i.val, by have : t.val < 32 := lt_of_lt_of_eq t.isLt N_0; omega⟩ ⟨t.val % 2 * 1024 + k.val, by omega⟩) := by
  rw [← V_main_arg0 m cc]
  show iblk m cc 0 t (ix2 i k) = _
  blk_ext [iblk, idx t]

theorem b1_eq (t : Fin cfg0.N) (k n : Fin 1024) :
    b1 m cc t (ix3 0 k n) = (m ((cc : Thread nD τ).loc main_arg1) : FVec Ideal S4x2048x1024 .f32) (ix3 0 ⟨t.val % 2 * 1024 + k.val, by omega⟩ n) := by
  refine Eq.trans ?_ (V_v2 m cc 0 ⟨t.val % 2 * 1024 + k.val, by omega⟩ n)
  show iblk m cc 1 t (ix3 0 k n) = _
  blk_ext [iblk, idx t]

/-- The whole product. -/
def prod (x0 : FVec Ideal S16384x2048 .bf16) (x1 : FVec Ideal S4x2048x1024 .f32) : S16384x1024.Idx → EReal := fun y =>
  ∑ k : Fin 2048, x0 (ix2 (y 0) k) * x1 (ix3 0 k (y 1))

theorem prod_at (x0 : FVec Ideal S16384x2048 .bf16) (x1 : FVec Ideal S4x2048x1024 .f32) (y : S16384x1024.Idx) (r : Fin 16384) (n : Fin 1024)
    (e0 : (y 0).val = r.val) (e1 : (y 1).val = n.val) : prod x0 x1 y = ∑ k : Fin 2048, x0 (ix2 r k) * x1 (ix3 0 k n) := by
  have er : (y 0 : Fin 16384) = r := Fin.ext e0
  have en : (y 1 : Fin 1024) = n := Fin.ext e1
  unfold prod
  rw [← er, ← en]

theorem final2 : (dats m 0 cc).arrAt 2 cfg0.N = prod (m ((cc : Thread nD τ).loc main_arg0)) (m ((cc : Thread nD τ).loc main_arg1)) := by
  refine (dats m 0 cc).arrAt_eq_of_covers 2 _ (by decide +kernel) fun t hf y => ?_
  have ht : t.val < 32 := lt_of_lt_of_eq t.isLt N_0
  have h0 : (y 0).val < 1024 := (y 0).isLt
  blk_simp
  rw [after0_2, Pipeline.eq_sum_fin_of_reset_step_apply_of_flush (fun n h => outsAt0 m cc n h) 2 (fun _ => 0) _
    (fun t h j => by rw [out2_A m cc t h]; exact (zero_add _).symm)
    (fun t h j => out2_B m cc t h j)
    t ((flush0_2 t).mp hf) _, zero_add]
  have e0 : (((win0_2.blk t).view.emb y) 0).val = t.val / 2 * 1024 + (y 0).val := by blk_simp [idx t]
  have e1 : (((win0_2.blk t).view.emb y) 1).val = (y 1).val := by blk_simp [idx t]
  refine Eq.trans ?_ (prod_at _ _ _ ⟨t.val / 2 * 1024 + (y 0).val, by omega⟩ (y 1) e0 e1).symm
  refine Fin.sum_mul_add_congr fun s k hl => ?_
  have e : (2 * (t.val / 2) + s.val) % 2 = s.val := by omega
  have e' : (2 * (t.val / 2) + s.val) / 2 = t.val / 2 := by omega
  refine congrArg₂ (· * ·) ((b0_eq m cc _ (y 0) k).trans (congrArg _ (congrArg₂ ix2 (Fin.ext ?_) (Fin.ext ?_))))
    ((b1_eq m cc _ k (y 1)).trans (congrArg _ (congrArg (ix3 0 · (y 1)) (Fin.ext ?_))))
  · dsimp only; omega
  · dsimp only; omega
  · dsimp only; omega

/-- The reference's product is the same sum. -/
theorem ref_eq (x0 : FVec Ideal S16384x2048 .bf16) (x1 : FVec Ideal S4x2048x1024 .f32) :
    Cert.RetOutReferenceIdeal.Read.val_main_v3 (F := Ideal) x0 x1 = prod x0 x1 := by
  funext y
  pointwise [Cert.RetOutReferenceIdeal.Read.val_main_v3, Cert.RetOutReferenceIdeal.Read.val_main_v2, Cert.RetOutReferenceIdeal.Read.val_main_v1, Cert.RetOutReferenceIdeal.Read.val_main_v0]
  rfl

end Cert.RetOutIdeal.Val
-- ==== Proof.RetOutDxVal.lean ====
/-
  The gradient of the retention's output projection by its input: the kernel's blocks are the reference's product.
-/
module

public import proofs.«01_k».proof.Proof.Gen.RetOutDxIdeal.Value
public import proofs.«01_k».proof.Proof.Gen.RetOutDxReferenceIdeal.Run
public import proofs.«01_k».proof.Proof.Gen.RetOutDxReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RetOutDxIdeal.Val

open Cert.RetOutDxIdeal Cert.RetOutDxIdeal.Gen

variable (m : (ℓ : Loc nD τ sig) → Buf (Elt Ideal) ℓ) (cc : Dev nD)

/-- A point's rows of the incoming gradient. -/
abbrev b0 (t : Fin cfg0.N) : FVec Ideal S1024x1024 .bf16 := iblk m cc 0 t
/-- A point's rows of the weights. -/
abbrev b1 (t : Fin cfg0.N) : FVec Ideal S1x1024x1024 .bf16 := iblk m cc 1 t

theorem pay1_eq (x0 : FVec Ideal S1024x1024 .bf16) (x1 : FVec Ideal S1x1024x1024 .bf16) (i : Fin 1024) (n : Fin 1024) :
    k0_pay1 (F := Ideal) x0 x1 (ix2 i n) = ∑ k : Fin 1024, x0 (ix2 i k) * x1 (ix3 0 n k) := by
  pointwise [k0_pay1]

theorem out_eq (t : Fin cfg0.N) (i : Fin 1024) (n : Fin 1024) :
    (dats m 0 cc).after 2 t (ix2 i n) = ∑ k : Fin 1024, b0 m cc t (ix2 i k) * b1 m cc t (ix3 0 n k) := by
  rw [after0_2]
  refine Eq.trans ?_ (pay1_eq (b0 m cc t) (b1 m cc t) i n)
  frame_out

/-- The weights as the kernel is given them: the four shards' rows below each other. -/
theorem V_v2 (l : Fin 4) (n : Fin 2048) (k : Fin 1024) : (V m cc main_v2 : FVec Ideal S4x2048x1024 .bf16) (ix3 l n k)
    = (m ((cc : Thread nD τ).loc main_arg1) : FVec Ideal S4x2048x1024 .f32) (ix3 l n k) := by
  have e : (V m cc main_v2 : FVec Ideal S4x2048x1024 .bf16)
      = shapeCast S4x2048x1024 (shapeCast S4x4x512x1024 (truncf (F := Ideal) .bf16
          (m ((cc : Thread nD τ).loc main_arg1) : FVec Ideal S4x2048x1024 .f32) bitsLt_bf16_f32) shapeCasts_S4x2048x1024_S4x4x512x1024)
          shapeCasts_S4x4x512x1024_S4x2048x1024 := by
    dsimp only [V, hostOps0]
    after_results
    rfl
  rw [e]
  pointwise []

theorem idx (t : Fin cfg0.N) : win0_0.index t = ![t.val / 2, 0] ∧ win0_1.index t = ![0, t.val % 2, 0]
    ∧ win0_2.index t = ![t.val / 2, t.val % 2] := by
  revert t
  decide +kernel

theorem b0_eq (t : Fin cfg0.N) (i k : Fin 1024) :
    b0 m cc t (ix2 i k) = (m ((cc : Thread nD τ).loc main_arg0) : FVec Ideal S16384x1024 .bf16)
      (ix2 ⟨t.val / 2 * 1024 + i.val, by have : t.val < 32 := lt_of_lt_of_eq t.isLt N_0; omega⟩ k) := by
  rw [← V_main_arg0 m cc]
  show iblk m cc 0 t (ix2 i k) = _
  blk_ext [iblk, idx t]

theorem b1_eq (t : Fin cfg0.N) (n : Fin 1024) (k : Fin 1024) :
    b1 m cc t (ix3 0 n k) = (m ((cc : Thread nD τ).loc main_arg1) : FVec Ideal S4x2048x1024 .f32) (ix3 0 ⟨t.val % 2 * 1024 + n.val, by omega⟩ k) := by
  refine Eq.trans ?_ (V_v2 m cc 0 ⟨t.val % 2 * 1024 + n.val, by omega⟩ k)
  show iblk m cc 1 t (ix3 0 n k) = _
  blk_ext [iblk, idx t]

/-- The whole gradient. -/
def dx (x0 : FVec Ideal S16384x1024 .bf16) (x1 : FVec Ideal S4x2048x1024 .f32) : S16384x2048.Idx → EReal := fun y =>
  ∑ k : Fin 1024, x0 (ix2 (y 0) k) * x1 (ix3 0 (y 1) k)

theorem dx_at (x0 : FVec Ideal S16384x1024 .bf16) (x1 : FVec Ideal S4x2048x1024 .f32) (y : S16384x2048.Idx) (r : Fin 16384) (n : Fin 2048)
    (e0 : (y 0).val = r.val) (e1 : (y 1).val = n.val) : dx x0 x1 y = ∑ k : Fin 1024, x0 (ix2 r k) * x1 (ix3 0 n k) := by
  have er : (y 0 : Fin 16384) = r := Fin.ext e0
  have en : (y 1 : Fin 2048) = n := Fin.ext e1
  unfold dx
  rw [← er, ← en]

theorem final2 : (dats m 0 cc).arrAt 2 cfg0.N = dx (m ((cc : Thread nD τ).loc main_arg0)) (m ((cc : Thread nD τ).loc main_arg1)) := by
  refine (dats m 0 cc).arrAt_eq_of_covers 2 _ (by decide +kernel) fun t hf y => ?_
  have ht : t.val < 32 := lt_of_lt_of_eq t.isLt N_0
  have h0 : (y 0).val < 1024 := (y 0).isLt
  have h1 : (y 1).val < 1024 := (y 1).isLt
  blk_simp
  have e0 : (((win0_2.blk t).view.emb y) 0).val = t.val / 2 * 1024 + (y 0).val := by blk_simp [idx t]
  have e1 : (((win0_2.blk t).view.emb y) 1).val = t.val % 2 * 1024 + (y 1).val := by blk_simp [idx t]
  have hy : (fun a => y a) = ix2 (y 0 : Fin 1024) (y 1 : Fin 1024) := by
    funext a
    match a with
    | ⟨0, _⟩ => rfl
    | ⟨1, _⟩ => rfl
  refine Eq.trans ?_ (dx_at _ _ _ ⟨t.val / 2 * 1024 + (y 0).val, by omega⟩ ⟨t.val % 2 * 1024 + (y 1).val, by omega⟩ e0 e1).symm
  refine (congrArg _ hy).trans ((out_eq m cc t (y 0) (y 1)).trans ?_)
  exact Finset.sum_congr (M := EReal) rfl fun k _ => congrArg₂ (· * ·) (b0_eq m cc t (y 0) k) (b1_eq m cc t (y 1) k)

/-- The reference's product is the same sum. -/
theorem ref_eq (x0 : FVec Ideal S16384x1024 .bf16) (x1 : FVec Ideal S4x2048x1024 .f32) :
    Cert.RetOutDxReferenceIdeal.Read.val_main_v5 (F := Ideal) x0 x1 = dx x0 x1 := by
  funext y
  pointwise [Cert.RetOutDxReferenceIdeal.Read.val_main_v5, Cert.RetOutDxReferenceIdeal.Read.val_main_v4, Cert.RetOutDxReferenceIdeal.Read.val_main_v2, Cert.RetOutDxReferenceIdeal.Read.val_main_v1]
  rfl

end Cert.RetOutDxIdeal.Val
-- ==== Proof.RetOutDwVal.lean ====
/-
  The gradient of the retention's output projection by its weights: the kernel's blocks, each the sum over
  the eight tiles of 2048 rows, are the reference's product.
-/
module

public import proofs.«01_k».proof.Proof.Gen.RetOutDwIdeal.Value
public import proofs.«01_k».proof.Proof.Gen.RetOutDwReferenceIdeal.Run
public import proofs.«01_k».proof.Proof.Gen.RetOutDwReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RetOutDwIdeal.Val

open Cert.RetOutDwIdeal Cert.RetOutDwIdeal.Gen

variable (m : (ℓ : Loc nD τ sig) → Buf (Elt Ideal) ℓ) (cc : Dev nD)

/-- A point's tile of activations. -/
abbrev b0 (t : Fin cfg0.N) : FVec Ideal S2048x1024 .bf16 := iblk m cc 0 t
/-- A point's tile of incoming gradients. -/
abbrev b1 (t : Fin cfg0.N) : FVec Ideal S2048x1024 .bf16 := iblk m cc 1 t

/-- One tile's share of a block. -/
def share (x0 : FVec Ideal S2048x1024 .bf16) (x1 : FVec Ideal S2048x1024 .bf16) (y : S1x1024x1024.Idx) : EReal :=
  ∑ i : Fin 2048, x0 (ix2 i (y 1)) * x1 (ix2 i (y 2))

theorem pay2_eq (x0 : FVec Ideal S2048x1024 .bf16) (x1 : FVec Ideal S2048x1024 .bf16) (y : S1x1024x1024.Idx) :
    k0_pay2 (F := Ideal) x0 x1 y = share x0 x1 y := by
  pointwise [k0_pay2, k0_pay1]
  rfl

theorem pay3_eq (x0 : FVec Ideal S2048x1024 .bf16) (x1 : FVec Ideal S2048x1024 .bf16) (v : FVec Ideal S1x1024x1024 .f32) (y : S1x1024x1024.Idx) :
    k0_pay3 (F := Ideal) x0 x1 v y = v y + share x0 x1 y := by
  pointwise [k0_pay3, k0_pay1]
  rfl

theorem out2_A (t : Fin cfg0.N) (h0 : t.val % 8 = 0) (y : S1x1024x1024.Idx) :
    outsAt0 m cc t.val t.isLt y = share (b0 m cc t) (b1 m cc t) y := by
  rw [outsAt0_A m cc t h0 (by omega)]
  frame_out
  exact pay2_eq _ _ y

theorem out2_B (t : Fin cfg0.N) (h0 : ¬ t.val % 8 = 0) (y : S1x1024x1024.Idx) :
    outsAt0 m cc t.val t.isLt y = outsAt0 m cc (t.val - 1) (Nat.lt_of_le_of_lt (Nat.sub_le _ _) t.isLt) y + share (b0 m cc t) (b1 m cc t) y := by
  rw [outsAt0_B m cc t h0 (by omega)]
  frame_out
  exact pay3_eq _ _ _ y

theorem idx (t : Fin cfg0.N) : win0_0.index t = ![t.val % 8, t.val / 8] ∧ win0_1.index t = ![t.val % 8, 0]
    ∧ win0_2.index t = ![0, t.val / 8, 0] := by
  revert t
  decide +kernel

theorem b0_eq (t : Fin cfg0.N) (i : Fin 2048) (k : Fin 1024) :
    b0 m cc t (ix2 i k) = (m ((cc : Thread nD τ).loc main_arg0) : FVec Ideal S16384x2048 .bf16)
      (ix2 ⟨t.val % 8 * 2048 + i.val, by omega⟩ ⟨t.val / 8 * 1024 + k.val, by have : t.val < 16 := lt_of_lt_of_eq t.isLt N_0; omega⟩) := by
  show iblk m cc 0 t (ix2 i k) = _
  blk_ext [iblk, V, idx t]

theorem b1_eq (t : Fin cfg0.N) (i : Fin 2048) (n : Fin 1024) :
    b1 m cc t (ix2 i n) = (m ((cc : Thread nD τ).loc main_arg1) : FVec Ideal S16384x1024 .bf16) (ix2 ⟨t.val % 8 * 2048 + i.val, by omega⟩ n) := by
  show iblk m cc 1 t (ix2 i n) = _
  blk_ext [iblk, V, idx t]

/-- The whole gradient: row `y 1`, column `y 2`. -/
def dw (x0 : FVec Ideal S16384x2048 .bf16) (x1 : FVec Ideal S16384x1024 .bf16) : S1x2048x1024.Idx → EReal := fun y =>
  ∑ r : Fin 16384, x0 (ix2 r (y 1)) * x1 (ix2 r (y 2))

theorem dw_at (x0 : FVec Ideal S16384x2048 .bf16) (x1 : FVec Ideal S16384x1024 .bf16) (y : S1x2048x1024.Idx) (k : Fin 2048) (n : Fin 1024)
    (e1 : (y 1).val = k.val) (e2 : (y 2).val = n.val) : dw x0 x1 y = ∑ r : Fin 16384, x0 (ix2 r k) * x1 (ix2 r n) := by
  have ek : (y 1 : Fin 2048) = k := Fin.ext e1
  have en : (y 2 : Fin 1024) = n := Fin.ext e2
  unfold dw
  rw [← ek, ← en]

theorem final2 : (dats m 0 cc).arrAt 2 cfg0.N = dw (m ((cc : Thread nD τ).loc main_arg0)) (m ((cc : Thread nD τ).loc main_arg1)) := by
  refine (dats m 0 cc).arrAt_eq_of_covers 2 _ (by decide +kernel) fun t hf y => ?_
  have ht : t.val < 16 := lt_of_lt_of_eq t.isLt N_0
  have h1 : (y 1).val < 1024 := (y 1).isLt
  blk_simp
  rw [after0_2, Pipeline.eq_sum_fin_of_reset_step_apply_of_flush (fun n h => outsAt0 m cc n h) 8 (fun _ => 0) _
    (fun t h j => by rw [out2_A m cc t h]; exact (zero_add _).symm)
    (fun t h j => out2_B m cc t h j)
    t ((flush0_2 t).mp hf) _, zero_add]
  have e1 : (((win0_2.blk t).view.emb y) 1).val = t.val / 8 * 1024 + (y 1).val := by blk_simp [idx t]
  have e2 : (((win0_2.blk t).view.emb y) 2).val = (y 2).val := by blk_simp [idx t]
  refine Eq.trans ?_ (dw_at _ _ _ ⟨t.val / 8 * 1024 + (y 1).val, by omega⟩ (y 2) e1 e2).symm
  refine Fin.sum_mul_add_congr fun s i hl => ?_
  have e : (8 * (t.val / 8) + s.val) % 8 = s.val := by omega
  have e' : (8 * (t.val / 8) + s.val) / 8 = t.val / 8 := by omega
  refine congrArg₂ (· * ·) ((b0_eq m cc _ i (y 1)).trans (congrArg _ (congrArg₂ ix2 (Fin.ext ?_) (Fin.ext ?_))))
    ((b1_eq m cc _ i (y 2)).trans (congrArg _ (congrArg (ix2 · (y 2)) (Fin.ext ?_))))
  · dsimp only; omega
  · dsimp only; omega
  · dsimp only; omega

/-- The reference's product is the same sum. -/
theorem ref_eq (x0 : FVec Ideal S16384x2048 .bf16) (x1 : FVec Ideal S16384x1024 .bf16) :
    Cert.RetOutDwReferenceIdeal.Read.val_main_v6 (F := Ideal) x0 x1 = dw x0 x1 := by
  funext y
  pointwise [Cert.RetOutDwReferenceIdeal.Read.val_main_v6, Cert.RetOutDwReferenceIdeal.Read.val_main_v5, Cert.RetOutDwReferenceIdeal.Read.val_main_v4, Cert.RetOutDwReferenceIdeal.Read.val_main_v3, Cert.RetOutDwReferenceIdeal.Read.val_main_v0]
  exact Finset.sum_congr rfl fun x _ => mul_comm _ _

end Cert.RetOutDwIdeal.Val
-- ==== Proof.XoDxVal.lean ====
/-
  The gradient of the attention's output projection by its input: the kernel's blocks are the reference's product.
-/
module

public import proofs.«01_k».proof.Proof.Gen.XoDxIdeal.Value
public import proofs.«01_k».proof.Proof.Gen.XoDxReferenceIdeal.Run
public import proofs.«01_k».proof.Proof.Gen.XoDxReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.XoDxIdeal.Val

open Cert.XoDxIdeal Cert.XoDxIdeal.Gen

variable (m : (ℓ : Loc nD τ sig) → Buf (Elt Ideal) ℓ) (cc : Dev nD)

/-- A point's rows of the incoming gradient. -/
abbrev b0 (t : Fin cfg0.N) : FVec Ideal S1024x1024 .f32 := iblk m cc 0 t
/-- A point's rows of the weights. -/
abbrev b1 (t : Fin cfg0.N) : FVec Ideal S1x1024x1024 .bf16 := iblk m cc 1 t

theorem pay1_eq (x0 : FVec Ideal S1024x1024 .f32) (x1 : FVec Ideal S1x1024x1024 .bf16) (i : Fin 1024) (n : Fin 1024) :
    k0_pay1 (F := Ideal) x0 x1 (ix2 i n) = ∑ k : Fin 1024, x0 (ix2 i k) * x1 (ix3 0 n k) := by
  pointwise [k0_pay1]

theorem out_eq (t : Fin cfg0.N) (i : Fin 1024) (n : Fin 1024) :
    (dats m 0 cc).after 2 t (ix2 i n) = ∑ k : Fin 1024, b0 m cc t (ix2 i k) * b1 m cc t (ix3 0 n k) := by
  rw [after0_2]
  refine Eq.trans ?_ (pay1_eq (b0 m cc t) (b1 m cc t) i n)
  frame_out

/-- The weights as the kernel is given them: the four shards' rows below each other. -/
theorem V_v2 (l : Fin 4) (n : Fin 1024) (k : Fin 1024) : (V m cc main_v2 : FVec Ideal S4x1024x1024 .bf16) (ix3 l n k)
    = (m ((cc : Thread nD τ).loc main_arg1) : FVec Ideal S4x1024x1024 .f32) (ix3 l n k) := by
  have e : (V m cc main_v2 : FVec Ideal S4x1024x1024 .bf16)
      = shapeCast S4x1024x1024 (shapeCast S4x4x256x1024 (truncf (F := Ideal) .bf16
          (m ((cc : Thread nD τ).loc main_arg1) : FVec Ideal S4x1024x1024 .f32) bitsLt_bf16_f32) shapeCasts_S4x1024x1024_S4x4x256x1024)
          shapeCasts_S4x4x256x1024_S4x1024x1024 := by
    dsimp only [V, hostOps0]
    after_results
    rfl
  rw [e]
  pointwise []

theorem idx (t : Fin cfg0.N) : win0_0.index t = ![t.val, 0] ∧ win0_1.index t = ![0, 0, 0]
    ∧ win0_2.index t = ![t.val, 0] := by
  revert t
  decide +kernel

theorem b0_eq (t : Fin cfg0.N) (i k : Fin 1024) :
    b0 m cc t (ix2 i k) = (m ((cc : Thread nD τ).loc main_arg0) : FVec Ideal S16384x1024 .f32)
      (ix2 ⟨t.val * 1024 + i.val, by have : t.val < 16 := lt_of_lt_of_eq t.isLt N_0; omega⟩ k) := by
  rw [← V_main_arg0 m cc]
  show iblk m cc 0 t (ix2 i k) = _
  blk_ext [iblk, idx t]

theorem b1_eq (t : Fin cfg0.N) (n : Fin 1024) (k : Fin 1024) :
    b1 m cc t (ix3 0 n k) = (m ((cc : Thread nD τ).loc main_arg1) : FVec Ideal S4x1024x1024 .f32) (ix3 0 n k) := by
  refine Eq.trans ?_ (V_v2 m cc 0 n k)
  show iblk m cc 1 t (ix3 0 n k) = _
  blk_ext [iblk, idx t]

/-- The whole gradient. -/
def dx (x0 : FVec Ideal S16384x1024 .f32) (x1 : FVec Ideal S4x1024x1024 .f32) : S16384x1024.Idx → EReal := fun y =>
  ∑ k : Fin 1024, x0 (ix2 (y 0) k) * x1 (ix3 0 (y 1) k)

theorem dx_at (x0 : FVec Ideal S16384x1024 .f32) (x1 : FVec Ideal S4x1024x1024 .f32) (y : S16384x1024.Idx) (r : Fin 16384) (n : Fin 1024)
    (e0 : (y 0).val = r.val) (e1 : (y 1).val = n.val) : dx x0 x1 y = ∑ k : Fin 1024, x0 (ix2 r k) * x1 (ix3 0 n k) := by
  have er : (y 0 : Fin 16384) = r := Fin.ext e0
  have en : (y 1 : Fin 1024) = n := Fin.ext e1
  unfold dx
  rw [← er, ← en]

theorem final2 : (dats m 0 cc).arrAt 2 cfg0.N = dx (m ((cc : Thread nD τ).loc main_arg0)) (m ((cc : Thread nD τ).loc main_arg1)) := by
  refine (dats m 0 cc).arrAt_eq_of_covers 2 _ (by decide +kernel) fun t hf y => ?_
  have ht : t.val < 16 := lt_of_lt_of_eq t.isLt N_0
  have h0 : (y 0).val < 1024 := (y 0).isLt
  have h1 : (y 1).val < 1024 := (y 1).isLt
  blk_simp
  have e0 : (((win0_2.blk t).view.emb y) 0).val = t.val * 1024 + (y 0).val := by blk_simp [idx t]
  have e1 : (((win0_2.blk t).view.emb y) 1).val = (y 1).val := by blk_simp [idx t]
  have hy : (fun a => y a) = ix2 (y 0 : Fin 1024) (y 1 : Fin 1024) := by
    funext a
    match a with
    | ⟨0, _⟩ => rfl
    | ⟨1, _⟩ => rfl
  refine Eq.trans ?_ (dx_at _ _ _ ⟨t.val * 1024 + (y 0).val, by omega⟩ (y 1) e0 e1).symm
  refine (congrArg _ hy).trans ((out_eq m cc t (y 0) (y 1)).trans ?_)
  exact Finset.sum_congr (M := EReal) rfl fun k _ => congrArg₂ (· * ·) (b0_eq m cc t (y 0) k) (b1_eq m cc t (y 1) k)

/-- The reference's product is the same sum. -/
theorem ref_eq (x0 : FVec Ideal S16384x1024 .f32) (x1 : FVec Ideal S4x1024x1024 .f32) :
    Cert.XoDxReferenceIdeal.Read.val_main_v4 (F := Ideal) x0 x1 = dx x0 x1 := by
  funext y
  pointwise [Cert.XoDxReferenceIdeal.Read.val_main_v4, Cert.XoDxReferenceIdeal.Read.val_main_v2, Cert.XoDxReferenceIdeal.Read.val_main_v1]
  rfl

end Cert.XoDxIdeal.Val
-- ==== Proof.XoDwVal.lean ====
/-
  The gradient of the attention's output projection by its weights: the kernel's blocks, each the sum over
  the eight tiles of 2048 rows, are the reference's product.
-/
module

public import proofs.«01_k».proof.Proof.Gen.XoDwIdeal.Value
public import proofs.«01_k».proof.Proof.Gen.XoDwReferenceIdeal.Run
public import proofs.«01_k».proof.Proof.Gen.XoDwReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.XoDwIdeal.Val

open Cert.XoDwIdeal Cert.XoDwIdeal.Gen

variable (m : (ℓ : Loc nD τ sig) → Buf (Elt Ideal) ℓ) (cc : Dev nD)

/-- A point's tile of activations. -/
abbrev b0 (t : Fin cfg0.N) : FVec Ideal S2048x1024 .bf16 := iblk m cc 0 t
/-- A point's tile of incoming gradients. -/
abbrev b1 (t : Fin cfg0.N) : FVec Ideal S2048x1024 .f32 := iblk m cc 1 t

/-- One tile's share of a block. -/
def share (x0 : FVec Ideal S2048x1024 .bf16) (x1 : FVec Ideal S2048x1024 .f32) (y : S1x1024x1024.Idx) : EReal :=
  ∑ i : Fin 2048, x0 (ix2 i (y 1)) * x1 (ix2 i (y 2))

theorem pay2_eq (x0 : FVec Ideal S2048x1024 .bf16) (x1 : FVec Ideal S2048x1024 .f32) (y : S1x1024x1024.Idx) :
    k0_pay2 (F := Ideal) x0 x1 y = share x0 x1 y := by
  pointwise [k0_pay2, k0_pay1]
  rfl

theorem pay3_eq (x0 : FVec Ideal S2048x1024 .bf16) (x1 : FVec Ideal S2048x1024 .f32) (v : FVec Ideal S1x1024x1024 .f32) (y : S1x1024x1024.Idx) :
    k0_pay3 (F := Ideal) x0 x1 v y = v y + share x0 x1 y := by
  pointwise [k0_pay3, k0_pay1]
  rfl

theorem out2_A (t : Fin cfg0.N) (h0 : t.val % 8 = 0) (y : S1x1024x1024.Idx) :
    outsAt0 m cc t.val t.isLt y = share (b0 m cc t) (b1 m cc t) y := by
  rw [outsAt0_A m cc t (by have : t.val < 8 := lt_of_lt_of_eq t.isLt N_0; omega) (by have : t.val < 8 := lt_of_lt_of_eq t.isLt N_0; omega)]
  frame_out
  exact pay2_eq _ _ y

theorem out2_B (t : Fin cfg0.N) (h0 : ¬ t.val % 8 = 0) (y : S1x1024x1024.Idx) :
    outsAt0 m cc t.val t.isLt y = outsAt0 m cc (t.val - 1) (Nat.lt_of_le_of_lt (Nat.sub_le _ _) t.isLt) y + share (b0 m cc t) (b1 m cc t) y := by
  rw [outsAt0_B m cc t (by have : t.val < 8 := lt_of_lt_of_eq t.isLt N_0; omega) (by have : t.val < 8 := lt_of_lt_of_eq t.isLt N_0; omega)]
  frame_out
  exact pay3_eq _ _ _ y

theorem idx (t : Fin cfg0.N) : win0_0.index t = ![t.val % 8, 0] ∧ win0_1.index t = ![t.val % 8, 0]
    ∧ win0_2.index t = ![0, 0, 0] := by
  revert t
  decide +kernel

theorem b0_eq (t : Fin cfg0.N) (i : Fin 2048) (k : Fin 1024) :
    b0 m cc t (ix2 i k) = (m ((cc : Thread nD τ).loc main_arg0) : FVec Ideal S16384x1024 .bf16)
      (ix2 ⟨t.val % 8 * 2048 + i.val, by omega⟩ k) := by
  show iblk m cc 0 t (ix2 i k) = _
  blk_ext [iblk, V, idx t]

theorem b1_eq (t : Fin cfg0.N) (i : Fin 2048) (n : Fin 1024) :
    b1 m cc t (ix2 i n) = (m ((cc : Thread nD τ).loc main_arg1) : FVec Ideal S16384x1024 .f32) (ix2 ⟨t.val % 8 * 2048 + i.val, by omega⟩ n) := by
  show iblk m cc 1 t (ix2 i n) = _
  blk_ext [iblk, V, idx t]

/-- The whole gradient: row `y 1`, column `y 2`. -/
def dw (x0 : FVec Ideal S16384x1024 .bf16) (x1 : FVec Ideal S16384x1024 .f32) : S1x1024x1024.Idx → EReal := fun y =>
  ∑ r : Fin 16384, x0 (ix2 r (y 1)) * x1 (ix2 r (y 2))

theorem dw_at (x0 : FVec Ideal S16384x1024 .bf16) (x1 : FVec Ideal S16384x1024 .f32) (y : S1x1024x1024.Idx) (k : Fin 1024) (n : Fin 1024)
    (e1 : (y 1).val = k.val) (e2 : (y 2).val = n.val) : dw x0 x1 y = ∑ r : Fin 16384, x0 (ix2 r k) * x1 (ix2 r n) := by
  have ek : (y 1 : Fin 1024) = k := Fin.ext e1
  have en : (y 2 : Fin 1024) = n := Fin.ext e2
  unfold dw
  rw [← ek, ← en]

theorem final2 : (dats m 0 cc).arrAt 2 cfg0.N = dw (m ((cc : Thread nD τ).loc main_arg0)) (m ((cc : Thread nD τ).loc main_arg1)) := by
  refine (dats m 0 cc).arrAt_eq_of_covers 2 _ (by decide +kernel) fun t hf y => ?_
  have ht : t.val < 8 := lt_of_lt_of_eq t.isLt N_0
  have h1 : (y 1).val < 1024 := (y 1).isLt
  blk_simp
  rw [after0_2, Pipeline.eq_sum_fin_of_reset_step_apply_of_flush (fun n h => outsAt0 m cc n h) 8 (fun _ => 0) _
    (fun t h j => by rw [out2_A m cc t h]; exact (zero_add _).symm)
    (fun t h j => out2_B m cc t h j)
    t ((flush0_2 t).mp hf) _, zero_add]
  have e1 : (((win0_2.blk t).view.emb y) 1).val = (y 1).val := by blk_simp [idx t]
  have e2 : (((win0_2.blk t).view.emb y) 2).val = (y 2).val := by blk_simp [idx t]
  refine Eq.trans ?_ (dw_at _ _ _ (y 1) (y 2) e1 e2).symm
  refine Fin.sum_mul_add_congr fun s i hl => ?_
  have e : (8 * (t.val / 8) + s.val) % 8 = s.val := by omega
  have e' : (8 * (t.val / 8) + s.val) / 8 = t.val / 8 := by omega
  refine congrArg₂ (· * ·) ((b0_eq m cc _ i (y 1)).trans (congrArg _ (congrArg (ix2 · (y 1)) (Fin.ext ?_))))
    ((b1_eq m cc _ i (y 2)).trans (congrArg _ (congrArg (ix2 · (y 2)) (Fin.ext ?_))))
  · dsimp only; omega
  · dsimp only; omega

/-- The reference's product is the same sum. -/
theorem ref_eq (x0 : FVec Ideal S16384x1024 .bf16) (x1 : FVec Ideal S16384x1024 .f32) :
    Cert.XoDwReferenceIdeal.Read.val_main_v5 (F := Ideal) x0 x1 = dw x0 x1 := by
  funext y
  pointwise [Cert.XoDwReferenceIdeal.Read.val_main_v5, Cert.XoDwReferenceIdeal.Read.val_main_v4, Cert.XoDwReferenceIdeal.Read.val_main_v3, Cert.XoDwReferenceIdeal.Read.val_main_v0]
  exact Finset.sum_congr rfl fun x _ => mul_comm _ _

end Cert.XoDwIdeal.Val
-- ==== Proof.XqDwVal.lean ====
/-
  The gradient of the queries' projection by its weights: the kernel's blocks, each the sum over
  the eight tiles of 2048 rows, are the reference's product.
-/
module

public import proofs.«01_k».proof.Proof.Gen.XqDwIdeal.Value
public import proofs.«01_k».proof.Proof.Gen.XqDwReferenceIdeal.Run
public import proofs.«01_k».proof.Proof.Gen.XqDwReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.XqDwIdeal.Val

open Cert.XqDwIdeal Cert.XqDwIdeal.Gen

variable (m : (ℓ : Loc nD τ sig) → Buf (Elt Ideal) ℓ) (cc : Dev nD)

/-- A point's tile of activations. -/
abbrev b0 (t : Fin cfg0.N) : FVec Ideal S2048x1024 .bf16 := iblk m cc 0 t
/-- A point's tile of incoming gradients. -/
abbrev b1 (t : Fin cfg0.N) : FVec Ideal S2048x1024 .bf16 := iblk m cc 1 t

/-- One tile's share of a block. -/
def share (x0 : FVec Ideal S2048x1024 .bf16) (x1 : FVec Ideal S2048x1024 .bf16) (y : S1x1024x1024.Idx) : EReal :=
  ∑ i : Fin 2048, x0 (ix2 i (y 1)) * x1 (ix2 i (y 2))

theorem pay2_eq (x0 : FVec Ideal S2048x1024 .bf16) (x1 : FVec Ideal S2048x1024 .bf16) (y : S1x1024x1024.Idx) :
    k0_pay2 (F := Ideal) x0 x1 y = share x0 x1 y := by
  pointwise [k0_pay2, k0_pay1]
  rfl

theorem pay3_eq (x0 : FVec Ideal S2048x1024 .bf16) (x1 : FVec Ideal S2048x1024 .bf16) (v : FVec Ideal S1x1024x1024 .f32) (y : S1x1024x1024.Idx) :
    k0_pay3 (F := Ideal) x0 x1 v y = v y + share x0 x1 y := by
  pointwise [k0_pay3, k0_pay1]
  rfl

theorem out2_A (t : Fin cfg0.N) (h0 : t.val % 8 = 0) (y : S1x1024x1024.Idx) :
    outsAt0 m cc t.val t.isLt y = share (b0 m cc t) (b1 m cc t) y := by
  rw [outsAt0_A m cc t (by have : t.val < 8 := lt_of_lt_of_eq t.isLt N_0; omega) (by have : t.val < 8 := lt_of_lt_of_eq t.isLt N_0; omega)]
  frame_out
  exact pay2_eq _ _ y

theorem out2_B (t : Fin cfg0.N) (h0 : ¬ t.val % 8 = 0) (y : S1x1024x1024.Idx) :
    outsAt0 m cc t.val t.isLt y = outsAt0 m cc (t.val - 1) (Nat.lt_of_le_of_lt (Nat.sub_le _ _) t.isLt) y + share (b0 m cc t) (b1 m cc t) y := by
  rw [outsAt0_B m cc t (by have : t.val < 8 := lt_of_lt_of_eq t.isLt N_0; omega) (by have : t.val < 8 := lt_of_lt_of_eq t.isLt N_0; omega)]
  frame_out
  exact pay3_eq _ _ _ y

theorem idx (t : Fin cfg0.N) : win0_0.index t = ![t.val % 8, 0] ∧ win0_1.index t = ![t.val % 8, 0]
    ∧ win0_2.index t = ![0, 0, 0] := by
  revert t
  decide +kernel

theorem b0_eq (t : Fin cfg0.N) (i : Fin 2048) (k : Fin 1024) :
    b0 m cc t (ix2 i k) = (m ((cc : Thread nD τ).loc main_arg0) : FVec Ideal S16384x1024 .bf16)
      (ix2 ⟨t.val % 8 * 2048 + i.val, by omega⟩ k) := by
  show iblk m cc 0 t (ix2 i k) = _
  blk_ext [iblk, V, idx t]

theorem b1_eq (t : Fin cfg0.N) (i : Fin 2048) (n : Fin 1024) :
    b1 m cc t (ix2 i n) = (m ((cc : Thread nD τ).loc main_arg1) : FVec Ideal S16384x1024 .bf16) (ix2 ⟨t.val % 8 * 2048 + i.val, by omega⟩ n) := by
  show iblk m cc 1 t (ix2 i n) = _
  blk_ext [iblk, V, idx t]

/-- The whole gradient: row `y 1`, column `y 2`. -/
def dw (x0 : FVec Ideal S16384x1024 .bf16) (x1 : FVec Ideal S16384x1024 .bf16) : S1x1024x1024.Idx → EReal := fun y =>
  ∑ r : Fin 16384, x0 (ix2 r (y 1)) * x1 (ix2 r (y 2))

theorem dw_at (x0 : FVec Ideal S16384x1024 .bf16) (x1 : FVec Ideal S16384x1024 .bf16) (y : S1x1024x1024.Idx) (k : Fin 1024) (n : Fin 1024)
    (e1 : (y 1).val = k.val) (e2 : (y 2).val = n.val) : dw x0 x1 y = ∑ r : Fin 16384, x0 (ix2 r k) * x1 (ix2 r n) := by
  have ek : (y 1 : Fin 1024) = k := Fin.ext e1
  have en : (y 2 : Fin 1024) = n := Fin.ext e2
  unfold dw
  rw [← ek, ← en]

theorem final2 : (dats m 0 cc).arrAt 2 cfg0.N = dw (m ((cc : Thread nD τ).loc main_arg0)) (m ((cc : Thread nD τ).loc main_arg1)) := by
  refine (dats m 0 cc).arrAt_eq_of_covers 2 _ (by decide +kernel) fun t hf y => ?_
  have ht : t.val < 8 := lt_of_lt_of_eq t.isLt N_0
  have h1 : (y 1).val < 1024 := (y 1).isLt
  blk_simp
  rw [after0_2, Pipeline.eq_sum_fin_of_reset_step_apply_of_flush (fun n h => outsAt0 m cc n h) 8 (fun _ => 0) _
    (fun t h j => by rw [out2_A m cc t h]; exact (zero_add _).symm)
    (fun t h j => out2_B m cc t h j)
    t ((flush0_2 t).mp hf) _, zero_add]
  have e1 : (((win0_2.blk t).view.emb y) 1).val = (y 1).val := by blk_simp [idx t]
  have e2 : (((win0_2.blk t).view.emb y) 2).val = (y 2).val := by blk_simp [idx t]
  refine Eq.trans ?_ (dw_at _ _ _ (y 1) (y 2) e1 e2).symm
  refine Fin.sum_mul_add_congr fun s i hl => ?_
  have e : (8 * (t.val / 8) + s.val) % 8 = s.val := by omega
  have e' : (8 * (t.val / 8) + s.val) / 8 = t.val / 8 := by omega
  refine congrArg₂ (· * ·) ((b0_eq m cc _ i (y 1)).trans (congrArg _ (congrArg (ix2 · (y 1)) (Fin.ext ?_))))
    ((b1_eq m cc _ i (y 2)).trans (congrArg _ (congrArg (ix2 · (y 2)) (Fin.ext ?_))))
  · dsimp only; omega
  · dsimp only; omega

/-- The reference's product is the same sum. -/
theorem ref_eq (x0 : FVec Ideal S16384x1024 .bf16) (x1 : FVec Ideal S16384x1024 .bf16) :
    Cert.XqDwReferenceIdeal.Read.val_main_v6 (F := Ideal) x0 x1 = dw x0 x1 := by
  funext y
  pointwise [Cert.XqDwReferenceIdeal.Read.val_main_v6, Cert.XqDwReferenceIdeal.Read.val_main_v5, Cert.XqDwReferenceIdeal.Read.val_main_v4, Cert.XqDwReferenceIdeal.Read.val_main_v3, Cert.XqDwReferenceIdeal.Read.val_main_v0]
  exact Finset.sum_congr rfl fun x _ => mul_comm _ _

end Cert.XqDwIdeal.Val
-- ==== Proof.XqVal.lean ====
/-
  The queries' projection: the kernel's blocks are the reference's product.
-/
module

public import proofs.«01_k».proof.Proof.Gen.XqIdeal.Value
public import proofs.«01_k».proof.Proof.Gen.XqReferenceIdeal.Run
public import proofs.«01_k».proof.Proof.Gen.XqReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.XqIdeal.Val

open Cert.XqIdeal Cert.XqIdeal.Gen

variable (m : (ℓ : Loc nD τ sig) → Buf (Elt Ideal) ℓ) (cc : Dev nD)

/-- A point's rows. -/
abbrev b0 (t : Fin cfg0.N) : FVec Ideal S1024x1024 .bf16 := iblk m cc 0 t
/-- A point's rows of the weights. -/
abbrev b1 (t : Fin cfg0.N) : FVec Ideal S1x1024x1024 .bf16 := iblk m cc 1 t

theorem pay1_eq (x0 : FVec Ideal S1024x1024 .bf16) (x1 : FVec Ideal S1x1024x1024 .bf16) (i n : Fin 1024) :
    k0_pay1 (F := Ideal) x0 x1 (ix2 i n) = ∑ k : Fin 1024, x0 (ix2 i k) * x1 (ix3 0 k n) := by
  pointwise [k0_pay1]

theorem out_eq (t : Fin cfg0.N) (i n : Fin 1024) :
    (dats m 0 cc).after 2 t (ix2 i n) = ∑ k : Fin 1024, b0 m cc t (ix2 i k) * b1 m cc t (ix3 0 k n) := by
  rw [after0_2]
  refine Eq.trans ?_ (pay1_eq (b0 m cc t) (b1 m cc t) i n)
  frame_out

/-- The weights as the kernel is given them: the four shards' rows below each other. -/
theorem V_v2 (l : Fin 4) (n : Fin 1024) (k : Fin 1024) : (V m cc main_v2 : FVec Ideal S4x1024x1024 .bf16) (ix3 l n k)
    = (m ((cc : Thread nD τ).loc main_arg1) : FVec Ideal S4x1024x1024 .f32) (ix3 l n k) := by
  have e : (V m cc main_v2 : FVec Ideal S4x1024x1024 .bf16)
      = shapeCast S4x1024x1024 (shapeCast S4x4x256x1024 (truncf (F := Ideal) .bf16
          (m ((cc : Thread nD τ).loc main_arg1) : FVec Ideal S4x1024x1024 .f32) bitsLt_bf16_f32) shapeCasts_S4x1024x1024_S4x4x256x1024)
          shapeCasts_S4x4x256x1024_S4x1024x1024 := by
    dsimp only [V, hostOps0]
    after_results
    rfl
  rw [e]
  pointwise []

theorem idx (t : Fin cfg0.N) : win0_0.index t = ![t.val, 0] ∧ win0_1.index t = ![0, 0, 0] ∧ win0_2.index t = ![t.val, 0] := by
  revert t
  decide +kernel

theorem b0_eq (t : Fin cfg0.N) (i k : Fin 1024) :
    b0 m cc t (ix2 i k) = (m ((cc : Thread nD τ).loc main_arg0) : FVec Ideal S16384x1024 .bf16)
      (ix2 ⟨t.val * 1024 + i.val, by have : t.val < 16 := lt_of_lt_of_eq t.isLt N_0; omega⟩ k) := by
  rw [← V_main_arg0 m cc]
  show iblk m cc 0 t (ix2 i k) = _
  blk_ext [iblk, idx t]

theorem b1_eq (t : Fin cfg0.N) (k n : Fin 1024) :
    b1 m cc t (ix3 0 k n) = (m ((cc : Thread nD τ).loc main_arg1) : FVec Ideal S4x1024x1024 .f32) (ix3 0 k n) := by
  refine Eq.trans ?_ (V_v2 m cc 0 k n)
  show iblk m cc 1 t (ix3 0 k n) = _
  blk_ext [iblk, idx t]

/-- The whole product. -/
def prod (x0 : FVec Ideal S16384x1024 .bf16) (x1 : FVec Ideal S4x1024x1024 .f32) : S16384x1024.Idx → EReal := fun y =>
  ∑ k : Fin 1024, x0 (ix2 (y 0) k) * x1 (ix3 0 k (y 1))

theorem prod_at (x0 : FVec Ideal S16384x1024 .bf16) (x1 : FVec Ideal S4x1024x1024 .f32) (y : S16384x1024.Idx) (r : Fin 16384) (n : Fin 1024)
    (e0 : (y 0).val = r.val) (e1 : (y 1).val = n.val) : prod x0 x1 y = ∑ k : Fin 1024, x0 (ix2 r k) * x1 (ix3 0 k n) := by
  have er : (y 0 : Fin 16384) = r := Fin.ext e0
  have en : (y 1 : Fin 1024) = n := Fin.ext e1
  unfold prod
  rw [← er, ← en]

theorem final2 : (dats m 0 cc).arrAt 2 cfg0.N = prod (m ((cc : Thread nD τ).loc main_arg0)) (m ((cc : Thread nD τ).loc main_arg1)) := by
  refine (dats m 0 cc).arrAt_eq_of_covers 2 _ (by decide +kernel) fun t hf y => ?_
  have ht : t.val < 16 := lt_of_lt_of_eq t.isLt N_0
  have h0 : (y 0).val < 1024 := (y 0).isLt
  blk_simp
  have e0 : (((win0_2.blk t).view.emb y) 0).val = t.val * 1024 + (y 0).val := by blk_simp [idx t]
  have e1 : (((win0_2.blk t).view.emb y) 1).val = (y 1).val := by blk_simp [idx t]
  have hy : (fun a => y a) = ix2 (y 0 : Fin 1024) (y 1 : Fin 1024) := by
    funext a
    match a with
    | ⟨0, _⟩ => rfl
    | ⟨1, _⟩ => rfl
  refine Eq.trans ?_ (prod_at _ _ _ ⟨t.val * 1024 + (y 0).val, by omega⟩ (y 1) e0 e1).symm
  refine (congrArg _ hy).trans ((out_eq m cc t (y 0) (y 1)).trans ?_)
  exact Finset.sum_congr (M := EReal) rfl fun k _ => congrArg₂ (· * ·) (b0_eq m cc t (y 0) k) (b1_eq m cc t k (y 1))

/-- The reference's product is the same sum. -/
theorem ref_eq (x0 : FVec Ideal S16384x1024 .bf16) (x1 : FVec Ideal S4x1024x1024 .f32) :
    Cert.XqReferenceIdeal.Read.val_main_v4 (F := Ideal) x0 x1 = prod x0 x1 := by
  funext y
  pointwise [Cert.XqReferenceIdeal.Read.val_main_v4, Cert.XqReferenceIdeal.Read.val_main_v3, Cert.XqReferenceIdeal.Read.val_main_v2, Cert.XqReferenceIdeal.Read.val_main_v1, Cert.XqReferenceIdeal.Read.val_main_v0]
  rfl

end Cert.XqIdeal.Val
-- ==== Proof.ConvOutVal.lean ====
/-
  The convolution's output projection: the kernel's blocks are the reference's product.
-/
module

public import proofs.«01_k».proof.Proof.Gen.ConvOutIdeal.Value
public import proofs.«01_k».proof.Proof.Gen.ConvOutReferenceIdeal.Run
public import proofs.«01_k».proof.Proof.Gen.ConvOutReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ConvOutIdeal.Val

open Cert.ConvOutIdeal Cert.ConvOutIdeal.Gen

variable (m : (ℓ : Loc nD τ sig) → Buf (Elt Ideal) ℓ) (cc : Dev nD)

/-- A point's rows. -/
abbrev b0 (t : Fin cfg0.N) : FVec Ideal S1024x1024 .bf16 := iblk m cc 0 t
/-- A point's rows of the weights. -/
abbrev b1 (t : Fin cfg0.N) : FVec Ideal S1x1024x1024 .bf16 := iblk m cc 1 t

theorem pay1_eq (x0 : FVec Ideal S1024x1024 .bf16) (x1 : FVec Ideal S1x1024x1024 .bf16) (i n : Fin 1024) :
    k0_pay1 (F := Ideal) x0 x1 (ix2 i n) = ∑ k : Fin 1024, x0 (ix2 i k) * x1 (ix3 0 k n) := by
  pointwise [k0_pay1]

theorem out_eq (t : Fin cfg0.N) (i n : Fin 1024) :
    (dats m 0 cc).after 2 t (ix2 i n) = ∑ k : Fin 1024, b0 m cc t (ix2 i k) * b1 m cc t (ix3 0 k n) := by
  rw [after0_2]
  refine Eq.trans ?_ (pay1_eq (b0 m cc t) (b1 m cc t) i n)
  frame_out

/-- The weights as the kernel is given them: the four shards' rows below each other. -/
theorem V_v2 (l : Fin 4) (n : Fin 1024) (k : Fin 1024) : (V m cc main_v2 : FVec Ideal S4x1024x1024 .bf16) (ix3 l n k)
    = (m ((cc : Thread nD τ).loc main_arg1) : FVec Ideal S4x1024x1024 .f32) (ix3 l n k) := by
  have e : (V m cc main_v2 : FVec Ideal S4x1024x1024 .bf16)
      = shapeCast S4x1024x1024 (shapeCast S4x4x256x1024 (truncf (F := Ideal) .bf16
          (m ((cc : Thread nD τ).loc main_arg1) : FVec Ideal S4x1024x1024 .f32) bitsLt_bf16_f32) shapeCasts_S4x1024x1024_S4x4x256x1024)
          shapeCasts_S4x4x256x1024_S4x1024x1024 := by
    dsimp only [V, hostOps0]
    after_results
    rfl
  rw [e]
  pointwise []

theorem idx (t : Fin cfg0.N) : win0_0.index t = ![t.val, 0] ∧ win0_1.index t = ![0, 0, 0] ∧ win0_2.index t = ![t.val, 0] := by
  revert t
  decide +kernel

theorem b0_eq (t : Fin cfg0.N) (i k : Fin 1024) :
    b0 m cc t (ix2 i k) = (m ((cc : Thread nD τ).loc main_arg0) : FVec Ideal S16384x1024 .bf16)
      (ix2 ⟨t.val * 1024 + i.val, by have : t.val < 16 := lt_of_lt_of_eq t.isLt N_0; omega⟩ k) := by
  rw [← V_main_arg0 m cc]
  show iblk m cc 0 t (ix2 i k) = _
  blk_ext [iblk, idx t]

theorem b1_eq (t : Fin cfg0.N) (k n : Fin 1024) :
    b1 m cc t (ix3 0 k n) = (m ((cc : Thread nD τ).loc main_arg1) : FVec Ideal S4x1024x1024 .f32) (ix3 0 k n) := by
  refine Eq.trans ?_ (V_v2 m cc 0 k n)
  show iblk m cc 1 t (ix3 0 k n) = _
  blk_ext [iblk, idx t]

/-- The whole product. -/
def prod (x0 : FVec Ideal S16384x1024 .bf16) (x1 : FVec Ideal S4x1024x1024 .f32) : S16384x1024.Idx → EReal := fun y =>
  ∑ k : Fin 1024, x0 (ix2 (y 0) k) * x1 (ix3 0 k (y 1))

theorem prod_at (x0 : FVec Ideal S16384x1024 .bf16) (x1 : FVec Ideal S4x1024x1024 .f32) (y : S16384x1024.Idx) (r : Fin 16384) (n : Fin 1024)
    (e0 : (y 0).val = r.val) (e1 : (y 1).val = n.val) : prod x0 x1 y = ∑ k : Fin 1024, x0 (ix2 r k) * x1 (ix3 0 k n) := by
  have er : (y 0 : Fin 16384) = r := Fin.ext e0
  have en : (y 1 : Fin 1024) = n := Fin.ext e1
  unfold prod
  rw [← er, ← en]

theorem final2 : (dats m 0 cc).arrAt 2 cfg0.N = prod (m ((cc : Thread nD τ).loc main_arg0)) (m ((cc : Thread nD τ).loc main_arg1)) := by
  refine (dats m 0 cc).arrAt_eq_of_covers 2 _ (by decide +kernel) fun t hf y => ?_
  have ht : t.val < 16 := lt_of_lt_of_eq t.isLt N_0
  have h0 : (y 0).val < 1024 := (y 0).isLt
  blk_simp
  have e0 : (((win0_2.blk t).view.emb y) 0).val = t.val * 1024 + (y 0).val := by blk_simp [idx t]
  have e1 : (((win0_2.blk t).view.emb y) 1).val = (y 1).val := by blk_simp [idx t]
  have hy : (fun a => y a) = ix2 (y 0 : Fin 1024) (y 1 : Fin 1024) := by
    funext a
    match a with
    | ⟨0, _⟩ => rfl
    | ⟨1, _⟩ => rfl
  refine Eq.trans ?_ (prod_at _ _ _ ⟨t.val * 1024 + (y 0).val, by omega⟩ (y 1) e0 e1).symm
  refine (congrArg _ hy).trans ((out_eq m cc t (y 0) (y 1)).trans ?_)
  exact Finset.sum_congr (M := EReal) rfl fun k _ => congrArg₂ (· * ·) (b0_eq m cc t (y 0) k) (b1_eq m cc t k (y 1))

/-- The reference's product is the same sum. -/
theorem ref_eq (x0 : FVec Ideal S16384x1024 .bf16) (x1 : FVec Ideal S4x1024x1024 .f32) :
    Cert.ConvOutReferenceIdeal.Read.val_main_v3 (F := Ideal) x0 x1 = prod x0 x1 := by
  funext y
  pointwise [Cert.ConvOutReferenceIdeal.Read.val_main_v3, Cert.ConvOutReferenceIdeal.Read.val_main_v2, Cert.ConvOutReferenceIdeal.Read.val_main_v1, Cert.ConvOutReferenceIdeal.Read.val_main_v0]
  rfl

end Cert.ConvOutIdeal.Val
-- ==== Proof.GateSpec.lean ====
/-
  The two gates for ONE row: of 2048 gate columns the first half gates the retention's branch, the second the
  convolution's, each by the logistic function. Plain functions over the extended reals.
-/
module

public import Idealize.ShloMosaic.Lib.Pipeline.ValueKit
public import Idealize.ShloMosaic.Lib.Pointwise

@[expose] public section

set_option maxRecDepth 16384

noncomputable section

open Idealize.ShloMosaic

namespace Cert.GateSpec

/-- One, as the programs write it. -/
abbrev one : EReal := Ideal.ofBits FTy.f32 0x3F800000#32

theorem one_eq : one = 1 := by
  have h : Ideal.ofBits FTy.f32 0x3F800000#32 = ((1 : ℝ) : EReal) := by
    simp [Ideal.ofBits, Ideal.ieee]
    norm_num
    rw [← EReal.coe_mul]
    norm_num
  exact h

/-- The logistic function as the reference writes it. -/
theorem sig_eq (x : EReal) : Ideal.div one (one + Ideal.exp (-x)) = Ideal.logistic x := by
  rw [one_eq]
  rfl

/-- A column of the first half. -/
abbrev lo (j : Fin 1024) : Fin 2048 := ⟨j.val, by omega⟩
/-- The same column of the second half. -/
abbrev hi (j : Fin 1024) : Fin 2048 := ⟨1024 + j.val, by omega⟩

/-- Every column is in one of the halves. -/
theorem halves (k : Fin 2048) : (∃ j, k = lo j) ∨ ∃ j, k = hi j := by
  rcases lt_or_ge k.val 1024 with h | h
  · exact .inl ⟨⟨k.val, h⟩, rfl⟩
  · exact .inr ⟨⟨k.val - 1024, by omega⟩, Fin.ext (by dsimp only; omega)⟩

variable (p b : Fin 2048 → EReal) (ya yb c d : Fin 1024 → EReal)

/-- A gate. -/
def gt (k : Fin 2048) : EReal := Ideal.logistic (p k + b k)

/-- The gradient that comes into a gate: the mix's gradient `d` times what the gate multiplies. -/
def up (k : Fin 2048) : EReal :=
  if h : k.val < 1024 then d ⟨k.val, h⟩ * ya ⟨k.val, h⟩
  else d ⟨k.val - 1024, by omega⟩ * (yb ⟨k.val - 1024, by omega⟩ + c ⟨k.val - 1024, by omega⟩)

theorem up_lo (j : Fin 1024) : up ya yb c d (lo j) = d j * ya j := dif_pos j.isLt

theorem up_hi (j : Fin 1024) : up ya yb c d (hi j) = d j * (yb j + c j) := by
  have e : (⟨(hi j).val - 1024, by have := (hi j).isLt; omega⟩ : Fin 1024) = j := Fin.ext (by dsimp only; omega)
  unfold up
  rw [dif_neg (by dsimp only; omega), e]

/-- The gradient behind a gate's logistic function. -/
def dgt (k : Fin 2048) : EReal := up ya yb c d k * gt p b k * (one - gt p b k)

end Cert.GateSpec
-- ==== Proof.GateBwdVal.lean ====
/-
  The gradient of the gated mix of the two branches: the kernel's five arrays and the reference's. A block of 256 rows takes
  one point, which writes the rows' gradients and counts the rows into the gradients of the two biases.
-/
module

public import proofs.«01_k».proof.Proof.Gen.GateBwdIdeal.Value
public import proofs.«01_k».proof.Proof.Gen.GateBwdReferenceIdeal.Run
public import proofs.«01_k».proof.Proof.Gen.GateBwdReferenceIdeal.Read
public import proofs.«01_k».proof.Proof.GateSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.GateBwdIdeal.Val

open Cert.GateBwdIdeal Cert.GateBwdIdeal.Gen Cert.GateSpec

/-! ## The payloads -/

section pay

variable (x0 : FVec Ideal S256x2048 .f32) (x1 : FVec Ideal S1x2048 .f32) (x2 x3 : FVec Ideal S256x1024 .f32)
  (x4 : FVec Ideal S1x1024 .f32) (x5 : FVec Ideal S256x1024 .f32)

/-- A gate of a block's row. -/
abbrev bg (i : Fin 256) (k : Fin 2048) : EReal := gt (fun k => x0 (ix2 i k)) (fun k => x1 (ix2 0 k)) k
/-- The gradient behind a gate of a block's row. -/
abbrev bd (i : Fin 256) (k : Fin 2048) : EReal :=
  dgt (fun k => x0 (ix2 i k)) (fun k => x1 (ix2 0 k)) (fun j => x2 (ix2 i j)) (fun j => x3 (ix2 i j)) (fun j => x4 (ix2 0 j)) (fun j => x5 (ix2 i j)) k

theorem pay5_eq (i : Fin 256) (k : Fin 2048) : k0_pay5 (F := Ideal) x0 x1 (ix2 i k) = bg x0 x1 i k := by
  pointwise [k0_pay5]
  rfl

theorem pay6_eq (i : Fin 256) (j : Fin 1024) : k0_pay6 (F := Ideal) x0 x1 (ix2 i j) = bg x0 x1 i (lo j) := by
  refine Eq.trans ?_ (pay5_eq x0 x1 i (lo j))
  generalize hv : k0_pay5 (F := Ideal) x0 x1 = v
  pointwise [k0_pay6, hv]

theorem pay7_eq (i : Fin 256) (j : Fin 1024) : k0_pay7 (F := Ideal) x0 x1 (ix2 i j) = bg x0 x1 i (hi j) := by
  refine Eq.trans ?_ (pay5_eq x0 x1 i (hi j))
  generalize hv : k0_pay5 (F := Ideal) x0 x1 = v
  pointwise [k0_pay7, hv]

theorem pay8_eq (i : Fin 256) (j : Fin 1024) : k0_pay8 (F := Ideal) x0 x1 x5 (ix2 i j) = bg x0 x1 i (hi j) * x5 (ix2 i j) := by
  rw [← pay7_eq]
  generalize hv : k0_pay7 (F := Ideal) x0 x1 = v
  pointwise [k0_pay8, hv]

theorem pay9_eq (i : Fin 256) (j : Fin 1024) : k0_pay9 (F := Ideal) x0 x1 x5 (ix2 i j) = bg x0 x1 i (lo j) * x5 (ix2 i j) := by
  rw [← pay6_eq]
  generalize hv : k0_pay6 (F := Ideal) x0 x1 = v
  pointwise [k0_pay9, hv]

theorem pay10_eq (i : Fin 256) (j : Fin 1024) : k0_pay10 (F := Ideal) x0 x1 x5 (ix2 i j) = bg x0 x1 i (hi j) * x5 (ix2 i j) := by
  rw [← pay8_eq]
  generalize hv : k0_pay8 (F := Ideal) x0 x1 x5 = v
  pointwise [k0_pay10, hv]

theorem pay11_eq (i : Fin 256) (j : Fin 1024) : k0_pay11 (F := Ideal) x0 x1 x5 x2 (ix2 i j) = bd x0 x1 x2 x3 x4 x5 i (lo j) := by
  unfold bd dgt
  rw [up_lo, show gt (fun k => x0 (ix2 i k)) (fun k => x1 (ix2 0 k)) (lo j) = k0_pay6 (F := Ideal) x0 x1 (ix2 i j) from (pay6_eq x0 x1 i j).symm]
  generalize hv : k0_pay6 (F := Ideal) x0 x1 = v
  pointwise [k0_pay11, hv]

theorem pay12_eq (i : Fin 256) (j : Fin 1024) : k0_pay12 (F := Ideal) x0 x1 x5 x3 x4 (ix2 i j) = bd x0 x1 x2 x3 x4 x5 i (hi j) := by
  unfold bd dgt
  rw [up_hi, show gt (fun k => x0 (ix2 i k)) (fun k => x1 (ix2 0 k)) (hi j) = k0_pay7 (F := Ideal) x0 x1 (ix2 i j) from (pay7_eq x0 x1 i j).symm]
  generalize hv : k0_pay7 (F := Ideal) x0 x1 = v
  pointwise [k0_pay12, hv]

theorem pay13_eq (i : Fin 256) (j : Fin 1024) : k0_pay13 (F := Ideal) x0 x1 x5 x2 (ix2 i j) = bd x0 x1 x2 x3 x4 x5 i (lo j) := by
  rw [← pay11_eq]
  generalize hv : k0_pay11 (F := Ideal) x0 x1 x5 x2 = v
  pointwise [k0_pay13, hv]

theorem pay14_eq (i : Fin 256) (j : Fin 1024) : k0_pay14 (F := Ideal) x0 x1 x5 x3 x4 (ix2 i j) = bd x0 x1 x2 x3 x4 x5 i (hi j) := by
  rw [← pay12_eq]
  generalize hv : k0_pay12 (F := Ideal) x0 x1 x5 x3 x4 = v
  pointwise [k0_pay14, hv]

theorem pay3_eq (a : FVec Ideal S256x1024 .f32) (j : Fin 1024) : k0_pay3 (F := Ideal) a (ix2 0 j) = ∑ i : Fin 256, a (ix2 i j) := by
  pointwise [k0_pay3]

theorem pay4_eq (a : FVec Ideal S256x1024 .f32) (b : FVec Ideal S1x1024 .f32) (j : Fin 1024) :
    k0_pay4 (F := Ideal) a b (ix2 0 j) = b (ix2 0 j) + ∑ i : Fin 256, a (ix2 i j) := by
  rw [← pay3_eq]
  generalize hv : k0_pay3 (F := Ideal) a = v
  pointwise [k0_pay4, hv]

theorem pay1_lo (a b : FVec Ideal S256x1024 .f32) (j : Fin 1024) : k0_pay1 (F := Ideal) a b (ix2 0 (lo j)) = ∑ i : Fin 256, a (ix2 i j) := by
  pointwise [k0_pay1]

theorem pay1_hi (a b : FVec Ideal S256x1024 .f32) (j : Fin 1024) : k0_pay1 (F := Ideal) a b (ix2 0 (hi j)) = ∑ i : Fin 256, b (ix2 i j) := by
  pointwise [k0_pay1]

theorem pay1_eq (k : Fin 2048) :
    k0_pay1 (F := Ideal) (k0_pay11 (F := Ideal) x0 x1 x5 x2) (k0_pay12 (F := Ideal) x0 x1 x5 x3 x4) (ix2 0 k) = ∑ i : Fin 256, bd x0 x1 x2 x3 x4 x5 i k := by
  rcases halves k with ⟨j, rfl⟩ | ⟨j, rfl⟩
  · exact (pay1_lo _ _ j).trans (Finset.sum_congr rfl fun i _ => pay11_eq x0 x1 x2 x3 x4 x5 i j)
  · exact (pay1_hi _ _ j).trans (Finset.sum_congr rfl fun i _ => pay12_eq x0 x1 x2 x3 x4 x5 i j)

theorem pay2_eq (b : FVec Ideal S1x2048 .f32) (k : Fin 2048) :
    k0_pay2 (F := Ideal) (k0_pay11 (F := Ideal) x0 x1 x5 x2) (k0_pay12 (F := Ideal) x0 x1 x5 x3 x4) b (ix2 0 k)
      = b (ix2 0 k) + ∑ i : Fin 256, bd x0 x1 x2 x3 x4 x5 i k := by
  rw [← pay1_eq]
  generalize k0_pay11 (F := Ideal) x0 x1 x5 x2 = u
  generalize k0_pay12 (F := Ideal) x0 x1 x5 x3 x4 = w
  generalize hv : k0_pay1 (F := Ideal) u w = v
  pointwise [k0_pay2, hv]

/-- A piece of the gates' gradients that starts at the first column … -/
theorem rows_lo (x : S256x1024.Idx) (y : S256x2048.Idx) (h0 : (y 0).val = (x 0).val) (h1 : (y 1).val = (x 1).val) :
    k0_pay13 (F := Ideal) x0 x1 x5 x2 x = bd x0 x1 x2 x3 x4 x5 (y 0) (y 1) := by
  have e0 : (y 0 : Fin 256) = x 0 := Fin.ext h0
  have e1 : (y 1 : Fin 2048) = lo (x 1) := Fin.ext h1
  have ex : x = ix2 (x 0) (x 1) := by funext a; match a with | ⟨0, _⟩ => rfl | ⟨1, _⟩ => rfl
  refine (congrArg _ ex).trans ((pay13_eq x0 x1 x2 x3 x4 x5 (x 0) (x 1)).trans ?_)
  rw [← e0, ← e1]

/-- … and one that starts in the middle. -/
theorem rows_hi (x : S256x1024.Idx) (y : S256x2048.Idx) (h0 : (y 0).val = (x 0).val) (h1 : (y 1).val = 1024 + (x 1).val) :
    k0_pay14 (F := Ideal) x0 x1 x5 x3 x4 x = bd x0 x1 x2 x3 x4 x5 (y 0) (y 1) := by
  have e0 : (y 0 : Fin 256) = x 0 := Fin.ext h0
  have e1 : (y 1 : Fin 2048) = hi (x 1) := Fin.ext h1
  have ex : x = ix2 (x 0) (x 1) := by funext a; match a with | ⟨0, _⟩ => rfl | ⟨1, _⟩ => rfl
  refine (congrArg _ ex).trans ((pay14_eq x0 x1 x2 x3 x4 x5 (x 0) (x 1)).trans ?_)
  rw [← e0, ← e1]

end pay

/-! ## What a point leaves -/

variable (m : (ℓ : Loc nD τ sig) → Buf (Elt Ideal) ℓ) (cc : Dev nD)

/-- A point's gate columns. -/
abbrev b0 (t : Fin cfg0.N) : FVec Ideal S256x2048 .f32 := iblk m cc 0 t
/-- The gates' bias. -/
abbrev b1 (t : Fin cfg0.N) : FVec Ideal S1x2048 .f32 := iblk m cc 1 t
/-- A point's rows of the retention's branch. -/
abbrev b2 (t : Fin cfg0.N) : FVec Ideal S256x1024 .f32 := iblk m cc 2 t
/-- A point's rows of the convolution's branch. -/
abbrev b3 (t : Fin cfg0.N) : FVec Ideal S256x1024 .f32 := iblk m cc 3 t
/-- The convolution branch's bias. -/
abbrev b4 (t : Fin cfg0.N) : FVec Ideal S1x1024 .f32 := iblk m cc 4 t
/-- A point's rows of the mix's gradient. -/
abbrev b5 (t : Fin cfg0.N) : FVec Ideal S256x1024 .f32 := iblk m cc 5 t

theorem lt1 (t : Fin cfg0.N) : t.val - 1 < cfg0.N := Nat.lt_of_le_of_lt (Nat.sub_le _ _) t.isLt

theorem out6 (t : Fin cfg0.N) (i : Fin 256) (j : Fin 1024) :
    (outsAt0 m cc t.val t.isLt).1 (ix2 i j) = bg (b0 m cc t) (b1 m cc t) i (lo j) * b5 m cc t (ix2 i j) := by
  have ht : t.val < 64 := lt_of_lt_of_eq t.isLt N_0
  by_cases h : t.val = 0
  · rw [outsAt0_A m cc t (by omega) (by omega) (by omega) (by omega)]
    frame_out
    exact pay9_eq _ _ _ i j
  · rw [outsAt0_B m cc t (by omega) (by omega) (by omega) (by omega)]
    frame_out
    exact pay9_eq _ _ _ i j

theorem out7 (t : Fin cfg0.N) (i : Fin 256) (j : Fin 1024) :
    (outsAt0 m cc t.val t.isLt).2.1 (ix2 i j) = bg (b0 m cc t) (b1 m cc t) i (hi j) * b5 m cc t (ix2 i j) := by
  have ht : t.val < 64 := lt_of_lt_of_eq t.isLt N_0
  by_cases h : t.val = 0
  · rw [outsAt0_A m cc t (by omega) (by omega) (by omega) (by omega)]
    frame_out
    exact pay10_eq _ _ _ i j
  · rw [outsAt0_B m cc t (by omega) (by omega) (by omega) (by omega)]
    frame_out
    exact pay10_eq _ _ _ i j

/-- The gates' gradients of a point's rows. -/
abbrev gd (t : Fin cfg0.N) (i : Fin 256) (k : Fin 2048) : EReal :=
  bd (b0 m cc t) (b1 m cc t) (b2 m cc t) (b3 m cc t) (b4 m cc t) (b5 m cc t) i k

theorem y1_lt (y : S256x2048.Idx) : (y 1).val < 2048 := (y 1).isLt

theorem out8 (t : Fin cfg0.N) (y : S256x2048.Idx) : (outsAt0 m cc t.val t.isLt).2.2.1 y = gd m cc t (y 0) (y 1) := by
  have ht : t.val < 64 := lt_of_lt_of_eq t.isLt N_0
  by_cases h : t.val = 0
  · rw [outsAt0_A m cc t (by omega) (by omega) (by omega) (by omega)]
    frame_out
    canon_tiles x h
    case piece0 => exact rows_hi _ _ _ _ _ _ x y h0 h1
    case piece1 => exact rows_lo _ _ _ _ _ _ x y h0 h1
  · rw [outsAt0_B m cc t (by omega) (by omega) (by omega) (by omega)]
    frame_out
    canon_tiles x h
    case piece0 => exact rows_hi _ _ _ _ _ _ x y h0 h1
    case piece1 => exact rows_lo _ _ _ _ _ _ x y h0 h1

/-- A block's share of the gradient of the gates' bias. -/
def sh9 (t : Fin cfg0.N) (k : Fin 2048) : EReal := ∑ i : Fin 256, gd m cc t i k
/-- A block's share of the gradient of the convolution branch's bias. -/
def sh10 (t : Fin cfg0.N) (j : Fin 1024) : EReal := ∑ i : Fin 256, bg (b0 m cc t) (b1 m cc t) i (hi j) * b5 m cc t (ix2 i j)

theorem out9_A (t : Fin cfg0.N) (h : t.val = 0) (k : Fin 2048) : (outsAt0 m cc t.val t.isLt).2.2.2.1 (ix2 0 k) = sh9 m cc t k := by
  rw [outsAt0_A m cc t (by omega) (by omega) (by omega) (by omega)]
  frame_out
  exact pay1_eq _ _ _ _ _ _ k

theorem out9_B (t : Fin cfg0.N) (h : t.val ≠ 0) (k : Fin 2048) :
    (outsAt0 m cc t.val t.isLt).2.2.2.1 (ix2 0 k) = (outsAt0 m cc (t.val - 1) (lt1 t)).2.2.2.1 (ix2 0 k) + sh9 m cc t k := by
  have ht : t.val < 64 := lt_of_lt_of_eq t.isLt N_0
  rw [outsAt0_B m cc t (by omega) (by omega) (by omega) (by omega)]
  frame_out
  exact pay2_eq _ _ _ _ _ _ _ k

theorem out10_A (t : Fin cfg0.N) (h : t.val = 0) (j : Fin 1024) : (outsAt0 m cc t.val t.isLt).2.2.2.2 (ix2 0 j) = sh10 m cc t j := by
  rw [outsAt0_A m cc t (by omega) (by omega) (by omega) (by omega)]
  frame_out
  exact (pay3_eq _ j).trans (Finset.sum_congr rfl fun i _ => pay8_eq _ _ _ i j)

theorem out10_B (t : Fin cfg0.N) (h : t.val ≠ 0) (j : Fin 1024) :
    (outsAt0 m cc t.val t.isLt).2.2.2.2 (ix2 0 j) = (outsAt0 m cc (t.val - 1) (lt1 t)).2.2.2.2 (ix2 0 j) + sh10 m cc t j := by
  have ht : t.val < 64 := lt_of_lt_of_eq t.isLt N_0
  rw [outsAt0_B m cc t (by omega) (by omega) (by omega) (by omega)]
  frame_out
  exact (pay4_eq _ _ j).trans (congrArg (_ + ·) (Finset.sum_congr rfl fun i _ => pay8_eq _ _ _ i j))

/-! ## The blocks as parts of the arrays -/

theorem V_v0 (k : Fin 2048) : (V m cc main_v0 : FVec Ideal S1x2048 .f32) (ix2 0 k)
    = (m ((cc : Thread nD τ).loc main_arg1) : FVec Ideal S2048 .f32) (ix1 k) := by
  have e : (V m cc main_v0 : FVec Ideal S1x2048 .f32)
      = broadcastInDim S1x2048 ![1] bcast_S2048_S1x2048_1 (m ((cc : Thread nD τ).loc main_arg1) : FVec Ideal S2048 .f32) := by
    dsimp only [V, hostOps0]
    after_results
  rw [e]
  pointwise []

theorem V_v1 (k : Fin 1024) : (V m cc main_v1 : FVec Ideal S1x1024 .f32) (ix2 0 k)
    = (m ((cc : Thread nD τ).loc main_arg4) : FVec Ideal S1024 .f32) (ix1 k) := by
  have e : (V m cc main_v1 : FVec Ideal S1x1024 .f32)
      = broadcastInDim S1x1024 ![1] bcast_S1024_S1x1024_1 (m ((cc : Thread nD τ).loc main_arg4) : FVec Ideal S1024 .f32) := by
    dsimp only [V, hostOps0]
    after_results
  rw [e]
  pointwise []

theorem idx (t : Fin cfg0.N) : win0_0.index t = ![t.val, 4] ∧ win0_1.index t = ![0, 0]
    ∧ win0_2.index t = ![t.val, 0] ∧ win0_3.index t = ![t.val, 0] ∧ win0_4.index t = ![0, 0] ∧ win0_5.index t = ![t.val, 0]
    ∧ win0_6.index t = ![t.val, 0] ∧ win0_7.index t = ![t.val, 0] ∧ win0_8.index t = ![t.val, 0]
    ∧ win0_9.index t = ![0, 0] ∧ win0_10.index t = ![0, 0] := by
  revert t
  decide +kernel

/-- Row `i` of the block of rows a point works on. -/
abbrev row (t : Fin cfg0.N) (i : Fin 256) : Fin 16384 :=
  ⟨t.val * 256 + i.val, by have : t.val < 64 := lt_of_lt_of_eq t.isLt N_0; omega⟩

/-- A gate's column among the joined projection's. -/
abbrev gc (k : Fin 2048) : Fin 10240 := ⟨8192 + k.val, by omega⟩

/-- The arguments as arrays. -/
abbrev A0 : FVec Ideal S16384x10240 .f32 := m ((cc : Thread nD τ).loc main_arg0)
abbrev A1 : FVec Ideal S2048 .f32 := m ((cc : Thread nD τ).loc main_arg1)
abbrev A2 : FVec Ideal S16384x1024 .f32 := m ((cc : Thread nD τ).loc main_arg2)
abbrev A3 : FVec Ideal S16384x1024 .f32 := m ((cc : Thread nD τ).loc main_arg3)
abbrev A4 : FVec Ideal S1024 .f32 := m ((cc : Thread nD τ).loc main_arg4)
abbrev A5 : FVec Ideal S16384x1024 .f32 := m ((cc : Thread nD τ).loc main_arg5)

theorem b0_eq (t : Fin cfg0.N) (i : Fin 256) (k : Fin 2048) : b0 m cc t (ix2 i k) = A0 m cc (ix2 (row t i) (gc k)) := by
  unfold A0
  rw [← V_main_arg0 m cc]
  show iblk m cc 0 t (ix2 i k) = _
  blk_ext [iblk, idx t]

theorem b1_eq (t : Fin cfg0.N) (k : Fin 2048) : b1 m cc t (ix2 0 k) = A1 m cc (ix1 k) := by
  refine Eq.trans ?_ (V_v0 m cc k)
  show iblk m cc 1 t (ix2 0 k) = _
  blk_ext [iblk, idx t]

theorem b2_eq (t : Fin cfg0.N) (i : Fin 256) (k : Fin 1024) : b2 m cc t (ix2 i k) = A2 m cc (ix2 (row t i) k) := by
  unfold A2
  rw [← V_main_arg2 m cc]
  show iblk m cc 2 t (ix2 i k) = _
  blk_ext [iblk, idx t]

theorem b3_eq (t : Fin cfg0.N) (i : Fin 256) (k : Fin 1024) : b3 m cc t (ix2 i k) = A3 m cc (ix2 (row t i) k) := by
  unfold A3
  rw [← V_main_arg3 m cc]
  show iblk m cc 3 t (ix2 i k) = _
  blk_ext [iblk, idx t]

theorem b4_eq (t : Fin cfg0.N) (k : Fin 1024) : b4 m cc t (ix2 0 k) = A4 m cc (ix1 k) := by
  refine Eq.trans ?_ (V_v1 m cc k)
  show iblk m cc 4 t (ix2 0 k) = _
  blk_ext [iblk, idx t]

theorem b5_eq (t : Fin cfg0.N) (i : Fin 256) (k : Fin 1024) : b5 m cc t (ix2 i k) = A5 m cc (ix2 (row t i) k) := by
  unfold A5
  rw [← V_main_arg5 m cc]
  show iblk m cc 5 t (ix2 i k) = _
  blk_ext [iblk, idx t]

/-! ## The whole arrays -/

section arrays

variable (y0 : FVec Ideal S16384x10240 .f32) (y1 : FVec Ideal S2048 .f32) (y2 y3 : FVec Ideal S16384x1024 .f32)
  (y4 : FVec Ideal S1024 .f32) (y5 : FVec Ideal S16384x1024 .f32)

/-- A gate of row `r`. -/
def ga (r : Fin 16384) (k : Fin 2048) : EReal := gt (fun k => y0 (ix2 r (gc k))) (fun k => y1 (ix1 k)) k
/-- The gradient behind a gate of row `r`. -/
def da (r : Fin 16384) (k : Fin 2048) : EReal :=
  dgt (fun k => y0 (ix2 r (gc k))) (fun k => y1 (ix1 k)) (fun j => y2 (ix2 r j)) (fun j => y3 (ix2 r j)) (fun j => y4 (ix1 j)) (fun j => y5 (ix2 r j)) k

/-- The gradient of the retention's branch. -/
def f6 : S16384x1024.Idx → EReal := fun y => ga y0 y1 (y 0) (lo (y 1)) * y5 (ix2 (y 0) (y 1))
/-- The gradient of the convolution's branch. -/
def f7 : S16384x1024.Idx → EReal := fun y => ga y0 y1 (y 0) (hi (y 1)) * y5 (ix2 (y 0) (y 1))
/-- The gradient of the gates' columns. -/
def f8 : S16384x2048.Idx → EReal := fun y => da y0 y1 y2 y3 y4 y5 (y 0) (y 1)
/-- The gradient of the gates' bias. -/
def f9 : S1x2048.Idx → EReal := fun y => ∑ r : Fin 16384, da y0 y1 y2 y3 y4 y5 r (y 1)
/-- The gradient of the convolution branch's bias. -/
def f10 : S1x1024.Idx → EReal := fun y => ∑ r : Fin 16384, ga y0 y1 r (hi (y 1)) * y5 (ix2 r (y 1))

theorem f6_at (y : S16384x1024.Idx) (r : Fin 16384) (j : Fin 1024) (e0 : (y 0).val = r.val) (e1 : (y 1).val = j.val) :
    f6 y0 y1 y5 y = ga y0 y1 r (lo j) * y5 (ix2 r j) := by
  have h0 : (y 0 : Fin 16384) = r := Fin.ext e0
  have h1 : (y 1 : Fin 1024) = j := Fin.ext e1
  unfold f6
  rw [← h0, ← h1]

theorem f7_at (y : S16384x1024.Idx) (r : Fin 16384) (j : Fin 1024) (e0 : (y 0).val = r.val) (e1 : (y 1).val = j.val) :
    f7 y0 y1 y5 y = ga y0 y1 r (hi j) * y5 (ix2 r j) := by
  have h0 : (y 0 : Fin 16384) = r := Fin.ext e0
  have h1 : (y 1 : Fin 1024) = j := Fin.ext e1
  unfold f7
  rw [← h0, ← h1]

theorem f8_at (y : S16384x2048.Idx) (r : Fin 16384) (k : Fin 2048) (e0 : (y 0).val = r.val) (e1 : (y 1).val = k.val) :
    f8 y0 y1 y2 y3 y4 y5 y = da y0 y1 y2 y3 y4 y5 r k := by
  have h0 : (y 0 : Fin 16384) = r := Fin.ext e0
  have h1 : (y 1 : Fin 2048) = k := Fin.ext e1
  unfold f8
  rw [← h0, ← h1]

theorem f9_at (y : S1x2048.Idx) (k : Fin 2048) (e1 : (y 1).val = k.val) :
    f9 y0 y1 y2 y3 y4 y5 y = ∑ r : Fin 16384, da y0 y1 y2 y3 y4 y5 r k := by
  have h1 : (y 1 : Fin 2048) = k := Fin.ext e1
  unfold f9
  rw [← h1]

theorem f10_at (y : S1x1024.Idx) (j : Fin 1024) (e1 : (y 1).val = j.val) :
    f10 y0 y1 y5 y = ∑ r : Fin 16384, ga y0 y1 r (hi j) * y5 (ix2 r j) := by
  have h1 : (y 1 : Fin 1024) = j := Fin.ext e1
  unfold f10
  rw [← h1]

end arrays

/-- A point's gates, read from the arrays. -/
theorem bg_arr (t : Fin cfg0.N) (i : Fin 256) (k : Fin 2048) : bg (b0 m cc t) (b1 m cc t) i k = ga (A0 m cc) (A1 m cc) (row t i) k := by
  unfold bg ga
  rw [show (fun k => b0 m cc t (ix2 i k)) = fun k => A0 m cc (ix2 (row t i) (gc k)) from funext (b0_eq m cc t i),
    show (fun k => b1 m cc t (ix2 0 k)) = fun k => A1 m cc (ix1 k) from funext (b1_eq m cc t)]

theorem gd_arr (t : Fin cfg0.N) (i : Fin 256) (k : Fin 2048) :
    gd m cc t i k = da (A0 m cc) (A1 m cc) (A2 m cc) (A3 m cc) (A4 m cc) (A5 m cc) (row t i) k := by
  unfold gd bd da
  rw [show (fun k => b0 m cc t (ix2 i k)) = fun k => A0 m cc (ix2 (row t i) (gc k)) from funext (b0_eq m cc t i),
    show (fun k => b1 m cc t (ix2 0 k)) = fun k => A1 m cc (ix1 k) from funext (b1_eq m cc t),
    show (fun j => b2 m cc t (ix2 i j)) = fun j => A2 m cc (ix2 (row t i) j) from funext (b2_eq m cc t i),
    show (fun j => b3 m cc t (ix2 i j)) = fun j => A3 m cc (ix2 (row t i) j) from funext (b3_eq m cc t i),
    show (fun j => b4 m cc t (ix2 0 j)) = fun j => A4 m cc (ix1 j) from funext (b4_eq m cc t),
    show (fun j => b5 m cc t (ix2 i j)) = fun j => A5 m cc (ix2 (row t i) j) from funext (b5_eq m cc t i)]

theorem final6 : (dats m 0 cc).arrAt 6 cfg0.N = f6 (A0 m cc) (A1 m cc) (A5 m cc) := by
  refine (dats m 0 cc).arrAt_eq_of_covers 6 _ (by decide +kernel) fun t hf y => ?_
  have ht : t.val < 64 := lt_of_lt_of_eq t.isLt N_0
  have h0 : (y 0).val < 256 := (y 0).isLt
  have h1 : (y 1).val < 1024 := (y 1).isLt
  blk_simp
  rw [after0_6]
  have e0 : (((win0_6.blk t).view.emb y) 0).val = t.val * 256 + (y 0).val := by blk_simp [idx t]
  have e1 : (((win0_6.blk t).view.emb y) 1).val = (y 1).val := by blk_simp [idx t]
  have hy : (fun a => y a) = ix2 (y 0 : Fin 256) (y 1 : Fin 1024) := by
    funext a
    match a with
    | ⟨0, _⟩ => rfl
    | ⟨1, _⟩ => rfl
  refine Eq.trans ?_ (f6_at _ _ _ _ (row t (y 0)) (y 1) e0 e1).symm
  exact (congrArg _ hy).trans ((out6 m cc t (y 0) (y 1)).trans (congrArg₂ (· * ·) (bg_arr m cc t (y 0) (lo (y 1))) (b5_eq m cc t (y 0) (y 1))))

theorem final7 : (dats m 0 cc).arrAt 7 cfg0.N = f7 (A0 m cc) (A1 m cc) (A5 m cc) := by
  refine (dats m 0 cc).arrAt_eq_of_covers 7 _ (by decide +kernel) fun t hf y => ?_
  have ht : t.val < 64 := lt_of_lt_of_eq t.isLt N_0
  have h0 : (y 0).val < 256 := (y 0).isLt
  have h1 : (y 1).val < 1024 := (y 1).isLt
  blk_simp
  rw [after0_7]
  have e0 : (((win0_7.blk t).view.emb y) 0).val = t.val * 256 + (y 0).val := by blk_simp [idx t]
  have e1 : (((win0_7.blk t).view.emb y) 1).val = (y 1).val := by blk_simp [idx t]
  have hy : (fun a => y a) = ix2 (y 0 : Fin 256) (y 1 : Fin 1024) := by
    funext a
    match a with
    | ⟨0, _⟩ => rfl
    | ⟨1, _⟩ => rfl
  refine Eq.trans ?_ (f7_at _ _ _ _ (row t (y 0)) (y 1) e0 e1).symm
  exact (congrArg _ hy).trans ((out7 m cc t (y 0) (y 1)).trans (congrArg₂ (· * ·) (bg_arr m cc t (y 0) (hi (y 1))) (b5_eq m cc t (y 0) (y 1))))

theorem final8 : (dats m 0 cc).arrAt 8 cfg0.N = f8 (A0 m cc) (A1 m cc) (A2 m cc) (A3 m cc) (A4 m cc) (A5 m cc) := by
  refine (dats m 0 cc).arrAt_eq_of_covers 8 _ (by decide +kernel) fun t hf y => ?_
  have ht : t.val < 64 := lt_of_lt_of_eq t.isLt N_0
  have h0 : (y 0).val < 256 := (y 0).isLt
  have h1 : (y 1).val < 2048 := (y 1).isLt
  blk_simp
  rw [after0_8]
  have e0 : (((win0_8.blk t).view.emb y) 0).val = t.val * 256 + (y 0).val := by blk_simp [idx t]
  have e1 : (((win0_8.blk t).view.emb y) 1).val = (y 1).val := by blk_simp [idx t]
  have hy : (fun a => y a) = ix2 (y 0 : Fin 256) (y 1 : Fin 2048) := by
    funext a
    match a with
    | ⟨0, _⟩ => rfl
    | ⟨1, _⟩ => rfl
  refine Eq.trans ?_ (f8_at _ _ _ _ _ _ _ (row t (y 0)) (y 1) e0 e1).symm
  exact (congrArg _ hy).trans ((out8 m cc t (ix2 (y 0) (y 1))).trans (gd_arr m cc t (y 0) (y 1)))

/-- The point of block `s`. -/
abbrev pt (s : Nat) (h : s < 64) : Fin cfg0.N := ⟨s, by have : cfg0.N = 64 := N_0; omega⟩

/-- After block `k` the gradient of the gates' bias counts the blocks up to it. -/
theorem acc9 (j : Fin 2048) (k : Nat) (hk : k < 64) :
    (outsAt0 m cc (pt k hk).val (pt k hk).isLt).2.2.2.1 (ix2 0 j) = ∑ s : Fin (k + 1), sh9 m cc (pt s.val (by omega)) j := by
  induction k with
  | zero =>
    rw [out9_A m cc (pt 0 hk) rfl j]
    exact (Fin.sum_univ_one fun s : Fin 1 => sh9 m cc (pt s.val (by omega)) j).symm
  | succ k ih =>
    rw [Fin.sum_univ_castSucc, out9_B m cc (pt (k + 1) hk) (Nat.succ_ne_zero k) j]
    exact congrArg₂ (· + ·) (ih (by omega)) rfl

theorem acc9_last (j : Fin 2048) (t : Fin cfg0.N) (h : t.val = 63) :
    (outsAt0 m cc t.val t.isLt).2.2.2.1 (ix2 0 j) = ∑ s : Fin 64, sh9 m cc (pt s.val s.isLt) j := by
  have e : t = pt 63 (by decide) := Fin.ext (by rw [h])
  rw [e]
  exact acc9 m cc j 63 (by decide)

theorem final9 : (dats m 0 cc).arrAt 9 cfg0.N = f9 (A0 m cc) (A1 m cc) (A2 m cc) (A3 m cc) (A4 m cc) (A5 m cc) := by
  refine (dats m 0 cc).arrAt_eq_of_covers 9 _ (by decide +kernel) fun t hf y => ?_
  have ht : t.val < 64 := lt_of_lt_of_eq t.isLt N_0
  have h3 : t.val % 64 = 63 := (flush0_9 t).mp hf
  have h0 : (y 0).val < 1 := (y 0).isLt
  have h1 : (y 1).val < 2048 := (y 1).isLt
  blk_simp
  rw [after0_9]
  have e1 : (((win0_9.blk t).view.emb y) 1).val = (y 1).val := by blk_simp [idx t]
  have hy : (fun a => y a) = ix2 (0 : Fin 1) (y 1 : Fin 2048) := by
    funext a
    match a with
    | ⟨0, _⟩ => exact Fin.ext (by show (y 0).val = 0; omega)
    | ⟨1, _⟩ => rfl
  refine Eq.trans ?_ (f9_at _ _ _ _ _ _ _ (y 1) e1).symm
  refine (congrArg _ hy).trans ((acc9_last m cc (y 1) t (by omega)).trans ?_)
  refine Fin.sum_mul_add_congr fun s i hl => ?_
  exact gd_arr m cc (pt s.val s.isLt) i (y 1)

/-- After block `k` the gradient of the convolution branch's bias counts the blocks up to it. -/
theorem acc10 (j : Fin 1024) (k : Nat) (hk : k < 64) :
    (outsAt0 m cc (pt k hk).val (pt k hk).isLt).2.2.2.2 (ix2 0 j) = ∑ s : Fin (k + 1), sh10 m cc (pt s.val (by omega)) j := by
  induction k with
  | zero =>
    rw [out10_A m cc (pt 0 hk) rfl j]
    exact (Fin.sum_univ_one fun s : Fin 1 => sh10 m cc (pt s.val (by omega)) j).symm
  | succ k ih =>
    rw [Fin.sum_univ_castSucc, out10_B m cc (pt (k + 1) hk) (Nat.succ_ne_zero k) j]
    exact congrArg₂ (· + ·) (ih (by omega)) rfl

theorem acc10_last (j : Fin 1024) (t : Fin cfg0.N) (h : t.val = 63) :
    (outsAt0 m cc t.val t.isLt).2.2.2.2 (ix2 0 j) = ∑ s : Fin 64, sh10 m cc (pt s.val s.isLt) j := by
  have e : t = pt 63 (by decide) := Fin.ext (by rw [h])
  rw [e]
  exact acc10 m cc j 63 (by decide)

theorem final10 : (dats m 0 cc).arrAt 10 cfg0.N = f10 (A0 m cc) (A1 m cc) (A5 m cc) := by
  refine (dats m 0 cc).arrAt_eq_of_covers 10 _ (by decide +kernel) fun t hf y => ?_
  have ht : t.val < 64 := lt_of_lt_of_eq t.isLt N_0
  have h3 : t.val % 64 = 63 := (flush0_10 t).mp hf
  have h0 : (y 0).val < 1 := (y 0).isLt
  have h1 : (y 1).val < 1024 := (y 1).isLt
  blk_simp
  rw [after0_10]
  have e1 : (((win0_10.blk t).view.emb y) 1).val = (y 1).val := by blk_simp [idx t]
  have hy : (fun a => y a) = ix2 (0 : Fin 1) (y 1 : Fin 1024) := by
    funext a
    match a with
    | ⟨0, _⟩ => exact Fin.ext (by show (y 0).val = 0; omega)
    | ⟨1, _⟩ => rfl
  refine Eq.trans ?_ (f10_at _ _ _ _ (y 1) e1).symm
  refine (congrArg _ hy).trans ((acc10_last m cc (y 1) t (by omega)).trans ?_)
  refine Fin.sum_mul_add_congr fun s i hl => ?_
  exact congrArg₂ (· * ·) (bg_arr m cc (pt s.val s.isLt) i (hi (y 1))) (b5_eq m cc (pt s.val s.isLt) i (y 1))

/-! ## The reference -/

section ref

open Cert.GateBwdReferenceIdeal.Read

variable (x0 : FVec Ideal S16384x10240 .f32) (x1 : FVec Ideal S2048 .f32) (x2 x3 : FVec Ideal S16384x1024 .f32)
  (x4 : FVec Ideal S1024 .f32) (x5 : FVec Ideal S16384x1024 .f32)

theorem r9 (r : Fin 16384) (k : Fin 2048) : val_main_v9 (F := Ideal) x0 x1 (ix2 r k) = ga x0 x1 r k := by
  refine Eq.trans ?_ (sig_eq (x0 (ix2 r (gc k)) + x1 (ix1 k)))
  pointwise [val_main_v9, val_main_v8, val_main_v7, val_main_v6, val_main_v5, val_main_v4, val_main_v3, val_main_v2, val_main_v1, val_main_v0,
    val_main_cst, val_main_cst_0]

theorem r13 (r : Fin 16384) (j : Fin 1024) : val_main_v13 (F := Ideal) x0 x1 (ix2 r j) = ga x0 x1 r (lo j) := by
  rw [← r9]
  generalize hv : val_main_v9 (F := Ideal) x0 x1 = v
  pointwise [val_main_v13, hv]

theorem r14 (r : Fin 16384) (j : Fin 1024) : val_main_v14 (F := Ideal) x0 x1 (ix2 r j) = ga x0 x1 r (hi j) := by
  rw [← r9]
  generalize hv : val_main_v9 (F := Ideal) x0 x1 = v
  pointwise [val_main_v14, hv]

theorem r12 (r : Fin 16384) (k : Fin 2048) : val_main_v12 (F := Ideal) x0 x1 (ix2 r k) = ga x0 x1 r k * (one - ga x0 x1 r k) := by
  rw [← r9]
  generalize hv : val_main_v9 (F := Ideal) x0 x1 = v
  pointwise [val_main_v12, val_main_v11, val_main_v10, val_main_cst_1, hv]

theorem r30 (r : Fin 16384) (k : Fin 2048) : val_main_v30 (F := Ideal) x2 x3 x4 x5 (ix2 r k)
    = up (fun j => x2 (ix2 r j)) (fun j => x3 (ix2 r j)) (fun j => x4 (ix1 j)) (fun j => x5 (ix2 r j)) k := by
  unfold up
  pointwise [val_main_v30, val_main_v29, val_main_v24, val_main_v22, val_main_v21, val_main_v18, val_main_v17, val_main_v16]

theorem r31 (r : Fin 16384) (k : Fin 2048) : val_main_v31 (F := Ideal) x0 x1 x2 x3 x4 x5 (ix2 r k) = da x0 x1 x2 x3 x4 x5 r k := by
  have e : da x0 x1 x2 x3 x4 x5 r k = val_main_v30 (F := Ideal) x2 x3 x4 x5 (ix2 r k) * val_main_v12 (F := Ideal) x0 x1 (ix2 r k) := by
    rw [r30, r12, ← mul_assoc]
    rfl
  rw [e]
  generalize hv : val_main_v30 (F := Ideal) x2 x3 x4 x5 = v
  generalize hw : val_main_v12 (F := Ideal) x0 x1 = w
  pointwise [val_main_v31, hv, hw]

theorem r23 (r : Fin 16384) (j : Fin 1024) : val_main_v23 (F := Ideal) x0 x1 x5 (ix2 r j) = ga x0 x1 r (hi j) * x5 (ix2 r j) := by
  rw [← r14]
  generalize hv : val_main_v14 (F := Ideal) x0 x1 = v
  pointwise [val_main_v23, val_main_v22, hv]

theorem ref6 : val_main_v35 (F := Ideal) x0 x1 x5 = f6 x0 x1 x5 := by
  funext y
  rw [eq_ix2 y]
  refine Eq.trans ?_ (congrArg (· * x5 (ix2 (y 0) (y 1))) (r13 x0 x1 (y 0) (y 1)))
  generalize hv : val_main_v13 (F := Ideal) x0 x1 = v
  pointwise [val_main_v35, val_main_v28, val_main_v21, hv]

theorem ref7 : val_main_v36 (F := Ideal) x0 x1 x5 = f7 x0 x1 x5 := by
  funext y
  rw [eq_ix2 y]
  refine Eq.trans ?_ (r23 x0 x1 x5 (y 0) (y 1))
  generalize hv : val_main_v23 (F := Ideal) x0 x1 x5 = v
  pointwise [val_main_v36, hv]

theorem ref8 : val_main_v37 (F := Ideal) x0 x1 x2 x3 x4 x5 = f8 x0 x1 x2 x3 x4 x5 := by
  funext y
  rw [eq_ix2 y]
  refine Eq.trans ?_ (r31 x0 x1 x2 x3 x4 x5 (y 0) (y 1))
  generalize hv : val_main_v31 (F := Ideal) x0 x1 x2 x3 x4 x5 = v
  pointwise [val_main_v37, hv]

theorem r38 (k : Fin 2048) : val_main_v38 (F := Ideal) x0 x1 x2 x3 x4 x5 (ix2 0 k) = ∑ r : Fin 16384, da x0 x1 x2 x3 x4 x5 r k := by
  have e := fun r => r31 x0 x1 x2 x3 x4 x5 r k
  generalize hv : val_main_v31 (F := Ideal) x0 x1 x2 x3 x4 x5 = v at e
  pointwise [val_main_v38, val_main_v34, val_main_v33, val_main_v32, val_main_cst_4, val_main_cst_5, hv]
  refine Eq.trans (Fin.sum_univ_one _) ?_
  exact Finset.sum_congr rfl fun r _ => e r

theorem r39 (j : Fin 1024) : val_main_v39 (F := Ideal) x0 x1 x5 (ix2 0 j) = ∑ r : Fin 16384, ga x0 x1 r (hi j) * x5 (ix2 r j) := by
  have e := fun r => r23 x0 x1 x5 r j
  generalize hv : val_main_v23 (F := Ideal) x0 x1 x5 = v at e
  pointwise [val_main_v39, val_main_v27, val_main_v26, val_main_v25, val_main_cst_2, val_main_cst_3, hv]
  refine Eq.trans (Fin.sum_univ_one _) ?_
  exact Finset.sum_congr rfl fun r _ => e r

theorem ref9 : val_main_v38 (F := Ideal) x0 x1 x2 x3 x4 x5 = f9 x0 x1 x2 x3 x4 x5 := by
  funext y
  have hy : y = ix2 (0 : Fin 1) (y 1 : Fin 2048) := by
    funext a
    match a with
    | ⟨0, _⟩ => exact Fin.ext (by have h0 : (y 0).val < 1 := (y 0).isLt; show (y 0).val = 0; omega)
    | ⟨1, _⟩ => rfl
  exact (congrArg _ hy).trans (r38 x0 x1 x2 x3 x4 x5 (y 1))

theorem ref10 : val_main_v39 (F := Ideal) x0 x1 x5 = f10 x0 x1 x5 := by
  funext y
  have hy : y = ix2 (0 : Fin 1) (y 1 : Fin 1024) := by
    funext a
    match a with
    | ⟨0, _⟩ => exact Fin.ext (by have h0 : (y 0).val < 1 := (y 0).isLt; show (y 0).val = 0; omega)
    | ⟨1, _⟩ => rfl
  exact (congrArg _ hy).trans (r39 x0 x1 x5 (y 1))

end ref

end Cert.GateBwdIdeal.Val
-- ==== Proof.XqDxVal.lean ====
/-
  The gradient of the attention's projection of the queries and of the norm before it: what the kernel's blocks hold. A block
  of 1024 rows takes one point, which forms the product, norms it, adds the residual and counts the rows into the gradient
  of the gains.
-/
module

public import proofs.«01_k».proof.Proof.Gen.XqDxIdeal.Value
public import proofs.«01_k».proof.Proof.RmsSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.XqDxIdeal.Val

open Cert.XqDxIdeal Cert.XqDxIdeal.Gen Cert.RmsSpec

variable (m : (ℓ : Loc nD τ sig) → Buf (Elt Ideal) ℓ) (cc : Dev nD)

/-- A point's tile of incoming gradients. -/
abbrev b0 (t : Fin cfg0.N) : FVec Ideal S1024x1024 .bf16 := iblk m cc 0 t
/-- A point's shard of the weights. -/
abbrev b1 (t : Fin cfg0.N) : FVec Ideal S1x1024x1024 .bf16 := iblk m cc 1 t
/-- A point's rows of the norm's input. -/
abbrev b2 (t : Fin cfg0.N) : FVec Ideal S1024x1024 .f32 := iblk m cc 2 t
/-- The gains. -/
abbrev b3 (t : Fin cfg0.N) : FVec Ideal S1x1024 .f32 := iblk m cc 3 t
/-- A point's rows of the residual's gradient. -/
abbrev b4 (t : Fin cfg0.N) : FVec Ideal S1024x1024 .f32 := iblk m cc 4 t

/-- The product of a row of incoming gradients and a row of the weights. -/
def prod (x0 : FVec Ideal S1024x1024 .bf16) (x1 : FVec Ideal S1x1024x1024 .bf16) (i j : Fin 1024) : EReal :=
  ∑ n : Fin 1024, x0 (ix2 i n) * x1 (ix3 0 j n)

theorem pay2_eq (x0 : FVec Ideal S1024x1024 .bf16) (x1 : FVec Ideal S1x1024x1024 .bf16) (i j : Fin 1024) :
    k0_pay2 (F := Ideal) x0 x1 (ix2 i j) = prod x0 x1 i j := by
  pointwise [k0_pay2]
  rfl

theorem pay3_eq (h : FVec Ideal S1024x1024 .f32) (i : Fin 1024) :
    k0_pay3 (F := Ideal) h (ix2 i 0) = rr fun k => h (ix2 i k) := by
  pointwise [k0_pay3]
  rfl

theorem pay4_eq (x0 : FVec Ideal S1024x1024 .bf16) (x1 : FVec Ideal S1x1024x1024 .bf16) (h : FVec Ideal S1024x1024 .f32) (j : Fin 1024) :
    k0_pay4 (F := Ideal) x0 x1 h (ix2 0 j)
      = ∑ i : Fin 1024, (h (ix2 i j) * rr fun k => h (ix2 i k)) * k0_pay2 (F := Ideal) x0 x1 (ix2 i j) := by
  generalize hd : k0_pay2 (F := Ideal) x0 x1 = d
  have e := fun i => pay3_eq h i
  generalize hr : k0_pay3 (F := Ideal) h = r at e
  pointwise [k0_pay4, hd, hr]
  exact Finset.sum_congr rfl fun i _ => congrArg (h (ix2 i j) * · * d (ix2 i j)) (e i)

theorem pay5_eq (x0 : FVec Ideal S1024x1024 .bf16) (x1 : FVec Ideal S1x1024x1024 .bf16) (h x : FVec Ideal S1024x1024 .f32)
    (g : FVec Ideal S1x1024 .f32) (i j : Fin 1024) : k0_pay5 (F := Ideal) x0 x1 h g x (ix2 i j)
      = dx (fun k => h (ix2 i k)) (fun k => g (ix2 0 k)) (fun k => k0_pay2 (F := Ideal) x0 x1 (ix2 i k)) j + x (ix2 i j) := by
  generalize hd : k0_pay2 (F := Ideal) x0 x1 = d
  have e := pay3_eq h i
  generalize hr : k0_pay3 (F := Ideal) h = r at e
  pointwise [k0_pay5, hd, hr]
  unfold dx
  rw [← e]
  rfl

theorem pay1_eq (a b : FVec Ideal S1x1024 .f32) (j : Fin 1024) : k0_pay1 (F := Ideal) a b (ix2 0 j) = b (ix2 0 j) + a (ix2 0 j) := by
  pointwise [k0_pay1]

/-! ## What a point leaves -/

theorem lt1 (t : Fin cfg0.N) : t.val - 1 < cfg0.N := Nat.lt_of_le_of_lt (Nat.sub_le _ _) t.isLt

/-- A point's product. -/
def tot (t : Fin cfg0.N) : FVec Ideal S1024x1024 .f32 := k0_pay2 (F := Ideal) (b0 m cc t) (b1 m cc t)

theorem out5 (t : Fin cfg0.N) (i j : Fin 1024) : (outsAt0 m cc t.val t.isLt).1 (ix2 i j)
      = dx (fun k => b2 m cc t (ix2 i k)) (fun k => b3 m cc t (ix2 0 k)) (fun k => tot m cc t (ix2 i k)) j + b4 m cc t (ix2 i j) := by
  have ht : t.val < 16 := lt_of_lt_of_eq t.isLt N_0
  by_cases h : t.val = 0
  · rw [outsAt0_A m cc t (by omega) (by omega)]
    frame_out
    exact pay5_eq _ _ _ _ _ i j
  · rw [outsAt0_B m cc t (by omega) (by omega)]
    frame_out
    exact pay5_eq _ _ _ _ _ i j

/-- A block's share of the gradient of the gains. -/
def gsh (t : Fin cfg0.N) (j : Fin 1024) : EReal :=
  ∑ i : Fin 1024, (b2 m cc t (ix2 i j) * rr fun k => b2 m cc t (ix2 i k)) * tot m cc t (ix2 i j)

theorem out6_A (t : Fin cfg0.N) (h : t.val = 0) (j : Fin 1024) : (outsAt0 m cc t.val t.isLt).2 (ix2 0 j) = gsh m cc t j := by
  rw [outsAt0_A m cc t (by omega) (by omega)]
  frame_out
  exact pay4_eq _ _ _ j

theorem out6_B (t : Fin cfg0.N) (h : t.val ≠ 0) (j : Fin 1024) :
    (outsAt0 m cc t.val t.isLt).2 (ix2 0 j) = (outsAt0 m cc (t.val - 1) (lt1 t)).2 (ix2 0 j) + gsh m cc t j := by
  rw [outsAt0_B m cc t (by have : t.val < 16 := lt_of_lt_of_eq t.isLt N_0; omega) (by omega)]
  frame_out
  refine (pay1_eq _ _ j).trans (congrArg (_ + ·) (pay4_eq _ _ _ j))

/-! ## The blocks as parts of the arrays -/

/-- The weights as the kernel is given them: the four shards' rows below each other. -/
theorem V_v3 (l : Fin 4) (n k : Fin 1024) : (V m cc main_v3 : FVec Ideal S4x1024x1024 .bf16) (ix3 l n k)
    = (m ((cc : Thread nD τ).loc main_arg1) : FVec Ideal S4x1024x1024 .f32) (ix3 l n k) := by
  have e : (V m cc main_v3 : FVec Ideal S4x1024x1024 .bf16)
      = shapeCast S4x1024x1024 (shapeCast S4x4x256x1024 (truncf (F := Ideal) .bf16
          (m ((cc : Thread nD τ).loc main_arg1) : FVec Ideal S4x1024x1024 .f32) bitsLt_bf16_f32) shapeCasts_S4x1024x1024_S4x4x256x1024)
          shapeCasts_S4x4x256x1024_S4x1024x1024 := by
    dsimp only [V, hostOps0]
    after_results
    rfl
  rw [e]
  pointwise []

theorem V_v2 (k : Fin 1024) : (V m cc main_v2 : FVec Ideal S1x1024 .f32) (ix2 0 k)
    = (m ((cc : Thread nD τ).loc main_arg3) : FVec Ideal S1024 .f32) (ix1 k) := by
  have e : (V m cc main_v2 : FVec Ideal S1x1024 .f32)
      = broadcastInDim S1x1024 ![1] bcast_S1024_S1x1024_1 (m ((cc : Thread nD τ).loc main_arg3) : FVec Ideal S1024 .f32) := by
    dsimp only [V, hostOps0]
    after_results
  rw [e]
  pointwise []

theorem idx (t : Fin cfg0.N) : win0_0.index t = ![t.val, 0] ∧ win0_1.index t = ![0, 0, 0]
    ∧ win0_2.index t = ![t.val, 0] ∧ win0_3.index t = ![0, 0] ∧ win0_4.index t = ![t.val, 0]
    ∧ win0_5.index t = ![t.val, 0] ∧ win0_6.index t = ![0, 0] := by
  revert t
  decide +kernel

/-- Row `i` of the block of rows a point works on. -/
abbrev row (t : Fin cfg0.N) (i : Fin 1024) : Fin 16384 :=
  ⟨t.val * 1024 + i.val, by have : t.val < 16 := lt_of_lt_of_eq t.isLt N_0; omega⟩

theorem b0_eq (t : Fin cfg0.N) (i n : Fin 1024) :
    b0 m cc t (ix2 i n) = (m ((cc : Thread nD τ).loc main_arg0) : FVec Ideal S16384x1024 .bf16) (ix2 (row t i) n) := by
  rw [← V_main_arg0 m cc]
  show iblk m cc 0 t (ix2 i n) = _
  blk_ext [iblk, idx t]

theorem b1_eq (t : Fin cfg0.N) (j n : Fin 1024) :
    b1 m cc t (ix3 0 j n) = (m ((cc : Thread nD τ).loc main_arg1) : FVec Ideal S4x1024x1024 .f32) (ix3 0 j n) := by
  refine Eq.trans ?_ (V_v3 m cc 0 j n)
  show iblk m cc 1 t (ix3 0 j n) = _
  blk_ext [iblk, idx t]

theorem b2_eq (t : Fin cfg0.N) (i k : Fin 1024) :
    b2 m cc t (ix2 i k) = (m ((cc : Thread nD τ).loc main_arg2) : FVec Ideal S16384x1024 .f32) (ix2 (row t i) k) := by
  rw [← V_main_arg2 m cc]
  show iblk m cc 2 t (ix2 i k) = _
  blk_ext [iblk, idx t]

theorem b3_eq (t : Fin cfg0.N) (k : Fin 1024) :
    b3 m cc t (ix2 0 k) = (m ((cc : Thread nD τ).loc main_arg3) : FVec Ideal S1024 .f32) (ix1 k) := by
  refine Eq.trans ?_ (V_v2 m cc k)
  show iblk m cc 3 t (ix2 0 k) = _
  blk_ext [iblk, idx t]

theorem b4_eq (t : Fin cfg0.N) (i k : Fin 1024) :
    b4 m cc t (ix2 i k) = (m ((cc : Thread nD τ).loc main_arg4) : FVec Ideal S16384x1024 .f32) (ix2 (row t i) k) := by
  rw [← V_main_arg4 m cc]
  show iblk m cc 4 t (ix2 i k) = _
  blk_ext [iblk, idx t]

/-! ## The whole arrays -/

section arrays

variable (p : FVec Ideal S16384x1024 .bf16) (w : FVec Ideal S4x1024x1024 .f32) (h : FVec Ideal S16384x1024 .f32)
  (g : FVec Ideal S1024 .f32) (e : FVec Ideal S16384x1024 .f32)

/-- The gradient behind the gains: row `r` of the incoming gradient against row `j` of the first layer's weights. -/
def du (r : Fin 16384) (j : Fin 1024) : EReal := ∑ n : Fin 1024, p (ix2 r n) * w (ix3 0 j n)

/-- The gradient of the norm's input, with the residual's. -/
def dh : S16384x1024.Idx → EReal := fun y =>
  dx (fun k => h (ix2 (y 0) k)) (fun k => g (ix1 k)) (du p w (y 0)) (y 1) + e (ix2 (y 0) (y 1))

/-- The gradient of the gains. -/
def dg : S1x1024.Idx → EReal := fun y =>
  ∑ r : Fin 16384, (h (ix2 r (y 1)) * rr fun k => h (ix2 r k)) * du p w r (y 1)

theorem dh_at (y : S16384x1024.Idx) (r : Fin 16384) (j : Fin 1024) (e0 : (y 0).val = r.val) (e1 : (y 1).val = j.val) :
    dh p w h g e y = dx (fun k => h (ix2 r k)) (fun k => g (ix1 k)) (du p w r) j + e (ix2 r j) := by
  have h0 : (y 0 : Fin 16384) = r := Fin.ext e0
  have h1 : (y 1 : Fin 1024) = j := Fin.ext e1
  unfold dh
  rw [← h0, ← h1]

theorem dg_at (y : S1x1024.Idx) (j : Fin 1024) (e1 : (y 1).val = j.val) :
    dg p w h y = ∑ r : Fin 16384, (h (ix2 r j) * rr fun k => h (ix2 r k)) * du p w r j := by
  have h1 : (y 1 : Fin 1024) = j := Fin.ext e1
  unfold dg
  rw [← h1]

end arrays

/-- The arguments as arrays. -/
abbrev P : FVec Ideal S16384x1024 .bf16 := m ((cc : Thread nD τ).loc main_arg0)
abbrev W : FVec Ideal S4x1024x1024 .f32 := m ((cc : Thread nD τ).loc main_arg1)
abbrev H : FVec Ideal S16384x1024 .f32 := m ((cc : Thread nD τ).loc main_arg2)
abbrev G : FVec Ideal S1024 .f32 := m ((cc : Thread nD τ).loc main_arg3)
abbrev E : FVec Ideal S16384x1024 .f32 := m ((cc : Thread nD τ).loc main_arg4)

/-- A point's product, read from the arrays. -/
theorem tot_eq (t : Fin cfg0.N) (i j : Fin 1024) : tot m cc t (ix2 i j) = du (P m cc) (W m cc) (row t i) j :=
  (pay2_eq _ _ i j).trans (Finset.sum_congr rfl fun n _ => congrArg₂ (· * ·) (b0_eq m cc t i n) (b1_eq m cc t j n))

/-- What a point leaves, read from the arrays. -/
theorem out5_arr (t : Fin cfg0.N) (i j : Fin 1024) : (outsAt0 m cc t.val t.isLt).1 (ix2 i j)
    = dx (fun k => H m cc (ix2 (row t i) k)) (fun k => G m cc (ix1 k)) (du (P m cc) (W m cc) (row t i)) j + E m cc (ix2 (row t i) j) := by
  rw [out5 m cc t i j, b4_eq m cc t i j, show (fun k => b2 m cc t (ix2 i k)) = fun k => H m cc (ix2 (row t i) k) from funext (b2_eq m cc t i),
    show (fun k => b3 m cc t (ix2 0 k)) = fun k => G m cc (ix1 k) from funext (b3_eq m cc t),
    show (fun k => tot m cc t (ix2 i k)) = du (P m cc) (W m cc) (row t i) from funext (tot_eq m cc t i)]

theorem final5 : (dats m 0 cc).arrAt 5 cfg0.N = dh (P m cc) (W m cc) (H m cc) (G m cc) (E m cc) := by
  refine (dats m 0 cc).arrAt_eq_of_covers 5 _ (by decide +kernel) fun t hf y => ?_
  have ht : t.val < 16 := lt_of_lt_of_eq t.isLt N_0
  have h0 : (y 0).val < 1024 := (y 0).isLt
  have h1 : (y 1).val < 1024 := (y 1).isLt
  blk_simp
  rw [after0_5]
  have e0 : (((win0_5.blk t).view.emb y) 0).val = t.val * 1024 + (y 0).val := by blk_simp [idx t]
  have e1 : (((win0_5.blk t).view.emb y) 1).val = (y 1).val := by blk_simp [idx t]
  have hy : (fun a => y a) = ix2 (y 0 : Fin 1024) (y 1 : Fin 1024) := by
    funext a
    match a with
    | ⟨0, _⟩ => rfl
    | ⟨1, _⟩ => rfl
  refine Eq.trans ?_ (dh_at _ _ _ _ _ _ (row t (y 0)) (y 1) e0 e1).symm
  exact (congrArg _ hy).trans (out5_arr m cc t (y 0) (y 1))

/-- A block's share of the gains' gradient, read from the arrays. -/
theorem gsh_eq (t : Fin cfg0.N) (j : Fin 1024) :
    gsh m cc t j = ∑ i : Fin 1024, (H m cc (ix2 (row t i) j) * rr fun k => H m cc (ix2 (row t i) k)) * du (P m cc) (W m cc) (row t i) j := by
  unfold gsh
  simp only [b2_eq m cc t, tot_eq m cc t]

/-- The point of block `s`. -/
abbrev pt (s : Nat) (h : s < 16) : Fin cfg0.N := ⟨s, by have : cfg0.N = 16 := N_0; omega⟩

/-- After block `k` the gains' gradient counts the blocks up to it. -/
theorem acc6 (j : Fin 1024) (k : Nat) (hk : k < 16) :
    (outsAt0 m cc (pt k hk).val (pt k hk).isLt).2 (ix2 0 j) = ∑ s : Fin (k + 1), gsh m cc (pt s.val (by omega)) j := by
  induction k with
  | zero =>
    rw [out6_A m cc (pt 0 hk) rfl j]
    exact (Fin.sum_univ_one fun s : Fin 1 => gsh m cc (pt s.val (by omega)) j).symm
  | succ k ih =>
    rw [Fin.sum_univ_castSucc, out6_B m cc (pt (k + 1) hk) (Nat.succ_ne_zero k) j]
    exact congrArg₂ (· + ·) (ih (by omega)) rfl

theorem acc6_last (j : Fin 1024) (t : Fin cfg0.N) (h : t.val = 15) :
    (outsAt0 m cc t.val t.isLt).2 (ix2 0 j) = ∑ s : Fin 16, gsh m cc (pt s.val s.isLt) j := by
  have e : t = pt 15 (by decide) := Fin.ext (by rw [h])
  rw [e]
  exact acc6 m cc j 15 (by decide)

theorem final6 : (dats m 0 cc).arrAt 6 cfg0.N = dg (P m cc) (W m cc) (H m cc) := by
  refine (dats m 0 cc).arrAt_eq_of_covers 6 _ (by decide +kernel) fun t hf y => ?_
  have ht : t.val < 16 := lt_of_lt_of_eq t.isLt N_0
  have h3 : t.val % 16 = 15 := (flush0_6 t).mp hf
  have h0 : (y 0).val < 1 := (y 0).isLt
  have h1 : (y 1).val < 1024 := (y 1).isLt
  blk_simp
  rw [after0_6]
  have e1 : (((win0_6.blk t).view.emb y) 1).val = (y 1).val := by blk_simp [idx t]
  have hy : (fun a => y a) = ix2 (0 : Fin 1) (y 1 : Fin 1024) := by
    funext a
    match a with
    | ⟨0, _⟩ => exact Fin.ext (by show (y 0).val = 0; omega)
    | ⟨1, _⟩ => rfl
  refine Eq.trans ?_ (dg_at _ _ _ _ (y 1) e1).symm
  refine (congrArg _ hy).trans ((acc6_last m cc (y 1) t (by omega)).trans ?_)
  refine (Finset.sum_congr rfl fun s _ => gsh_eq m cc (pt s.val s.isLt) (y 1)).trans ?_
  refine Fin.sum_mul_add_congr fun s i hl => ?_
  have er : row (pt s.val s.isLt) i = ⟨s.val * 1024 + i.val, hl⟩ := rfl
  rw [er]

end Cert.XqDxIdeal.Val
-- ==== Proof.XqDxRef.lean ====
/-
  The reference's gradient of the norm and the projection, read row by row.
-/
module

public import proofs.«01_k».proof.Proof.Gen.XqDxReferenceIdeal.Run
public import proofs.«01_k».proof.Proof.Gen.XqDxReferenceIdeal.Read
public import proofs.«01_k».proof.Proof.RmsSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.XqDxReferenceIdeal.Rd

open Cert.XqDxReferenceIdeal Cert.XqDxReferenceIdeal.Read Cert.RmsSpec

variable (x0 : FVec Ideal S16384x1024 .bf16) (x1 : FVec Ideal S4x1024x1024 .f32) (x2 : FVec Ideal S16384x1024 .f32)
  (x3 : FVec Ideal S1024 .f32) (x4 : FVec Ideal S16384x1024 .f32)

/-- The gradient behind the gains. -/
def du (r : Fin 16384) (j : Fin 1024) : EReal := ∑ n : Fin 1024, x0 (ix2 r n) * x1 (ix3 0 j n)
/-- A row of the norm's input. -/
abbrev hrow (r : Fin 16384) : Fin 1024 → EReal := fun k => x2 (ix2 r k)
/-- The gains. -/
abbrev grow : Fin 1024 → EReal := fun k => x3 (ix1 k)

theorem r6 (r : Fin 16384) : val_main_v6 (F := Ideal) x2 (ix2 r 0) = ms (hrow x2 r) := by
  pointwise [val_main_v6, val_main_v5, val_main_v4, val_main_v3, val_main_v2, val_main_v1, val_main_v0, val_main_cst, val_main_cst_0, val_main_cst_1]
  rfl

theorem r7 (r : Fin 16384) : val_main_v7 (F := Ideal) x2 (ix2 r 0) = rr (hrow x2 r) :=
  congrArg Ideal.rsqrt (r6 x2 r)

theorem r10 (r : Fin 16384) : val_main_v10 (F := Ideal) x2 (ix2 r 0) = nhalf * Ideal.div (rr (hrow x2 r)) (ms (hrow x2 r)) := by
  rw [← r7, ← r6]
  generalize hv : val_main_v7 (F := Ideal) x2 = v
  generalize hw : val_main_v6 (F := Ideal) x2 = w
  pointwise [val_main_v10, val_main_v9, val_main_v8, val_main_cst_2, hv, hw]

theorem r12 (r : Fin 16384) (j : Fin 1024) : val_main_v12 (F := Ideal) x2 (ix2 r j) = x2 (ix2 r j) * rr (hrow x2 r) := by
  rw [← r7]
  generalize hv : val_main_v7 (F := Ideal) x2 = v
  pointwise [val_main_v12, val_main_v11, hv]

theorem r20 (r : Fin 16384) (j : Fin 1024) : val_main_v20 (F := Ideal) x0 x1 (ix2 r j) = du x0 x1 r j := by
  pointwise [val_main_v20, val_main_v19, val_main_v17, val_main_v16]
  rfl

theorem r25 (r : Fin 16384) (j : Fin 1024) : val_main_v25 (F := Ideal) x0 x1 x3 (ix2 r j) = du x0 x1 r j * x3 (ix1 j) := by
  rw [← r20]
  generalize hv : val_main_v20 (F := Ideal) x0 x1 = v
  pointwise [val_main_v25, val_main_v24, val_main_v13, hv]

theorem r29 (r : Fin 16384) : val_main_v29 (F := Ideal) x0 x1 x2 x3 (ix2 r 0) = ∑ k : Fin 1024, x2 (ix2 r k) * (du x0 x1 r k * x3 (ix1 k)) := by
  have e := fun k => r25 x0 x1 x3 r k
  generalize hv : val_main_v25 (F := Ideal) x0 x1 x3 = v at e
  pointwise [val_main_v29, val_main_v28, val_main_v27, val_main_cst_5, hv]
  exact Finset.sum_congr rfl fun k _ => congrArg (x2 (ix2 r k) * ·) (e k)

theorem r36 (r : Fin 16384) (j : Fin 1024) : val_main_v36 (F := Ideal) x0 x1 x2 x3 (ix2 r j) = tt (hrow x2 r) (grow x3) (du x0 x1 r) := by
  unfold tt
  rw [← r10, ← r29]
  generalize hv : val_main_v29 (F := Ideal) x0 x1 x2 x3 = v
  generalize hw : val_main_v10 (F := Ideal) x2 = w
  pointwise [val_main_v36, val_main_v35, val_main_v34, val_main_v33, val_main_v32, val_main_cst_6, val_main_cst_7, hv, hw]
  exact Fin.sum_univ_one _

theorem r41 (r : Fin 16384) (j : Fin 1024) :
    val_main_v41 (F := Ideal) x0 x1 x2 x3 x4 (ix2 r j) = x4 (ix2 r j) + dx' (hrow x2 r) (grow x3) (du x0 x1 r) j := by
  unfold dx'
  rw [← r36 x0 x1 x2 x3 r j, ← r25, ← r7]
  generalize hv : val_main_v36 (F := Ideal) x0 x1 x2 x3 = v
  generalize hw : val_main_v25 (F := Ideal) x0 x1 x3 = w
  generalize hz : val_main_v7 (F := Ideal) x2 = z
  pointwise [val_main_v41, val_main_v40, val_main_v39, val_main_v38, val_main_v37, val_main_v31, val_main_v30, hv, hw, hz]

/-- … in closed form. -/
theorem r41_closed (r : Fin 16384) (j : Fin 1024) :
    val_main_v41 (F := Ideal) x0 x1 x2 x3 x4 (ix2 r j) = dx (hrow x2 r) (grow x3) (du x0 x1 r) j + x4 (ix2 r j) := by
  rw [r41, dx'_eq, add_comm]

theorem r42 (j : Fin 1024) :
    val_main_v42 (F := Ideal) x0 x1 x2 (ix2 0 j) = ∑ r : Fin 16384, (x2 (ix2 r j) * rr (hrow x2 r)) * du x0 x1 r j := by
  have e := fun r => r20 x0 x1 r j
  have e' := fun r => r12 x2 r j
  generalize hv : val_main_v20 (F := Ideal) x0 x1 = v at e
  generalize hw : val_main_v12 (F := Ideal) x2 = w at e'
  pointwise [val_main_v42, val_main_v26, val_main_v23, val_main_v22, val_main_v21, val_main_cst_3, val_main_cst_4, hv, hw]
  refine Eq.trans (Fin.sum_univ_one _) ?_
  exact Finset.sum_congr rfl fun r _ => congrArg₂ (· * ·) (e' r) (e r)

end Cert.XqDxReferenceIdeal.Rd
-- ==== Proof.XqDxEq.lean ====
/-
  The gradient of the projection of the queries and of the norm before it: the kernel's two arrays are the reference's.
-/
module

public import proofs.«01_k».proof.Proof.XqDxVal
public import proofs.«01_k».proof.Proof.XqDxRef

@[expose] public section

set_option maxRecDepth 16384

noncomputable section

open Idealize.ShloMosaic Idealize.ShloMosaic.TcCoe Idealize.SL.Sem

namespace Cert.XqDxEq

open Cert.XqDxIdeal Cert.RmsSpec Cert.XqDxReferenceIdeal.Read

variable (x0 : FVec Ideal S16384x1024 .bf16) (x1 : FVec Ideal S4x1024x1024 .f32) (x2 : FVec Ideal S16384x1024 .f32)
  (x3 : FVec Ideal S1024 .f32) (x4 : FVec Ideal S16384x1024 .f32)

theorem dh_ref : val_main_v41 (F := Ideal) x0 x1 x2 x3 x4 = Val.dh x0 x1 x2 x3 x4 := by
  funext y
  have hy : y = ix2 (y 0 : Fin 16384) (y 1 : Fin 1024) := by
    funext a
    match a with
    | ⟨0, _⟩ => rfl
    | ⟨1, _⟩ => rfl
  exact (congrArg _ hy).trans (Cert.XqDxReferenceIdeal.Rd.r41_closed x0 x1 x2 x3 x4 (y 0) (y 1))

theorem dg_ref : val_main_v42 (F := Ideal) x0 x1 x2 = Val.dg x0 x1 x2 := by
  funext y
  have hy : y = ix2 (0 : Fin 1) (y 1 : Fin 1024) := by
    funext a
    match a with
    | ⟨0, _⟩ => exact Fin.ext (by have h0 : (y 0).val < 1 := (y 0).isLt; show (y 0).val = 0; omega)
    | ⟨1, _⟩ => rfl
  exact (congrArg _ hy).trans (Cert.XqDxReferenceIdeal.Rd.r42 x0 x1 x2 (y 1))

end Cert.XqDxEq
-- ==== Proof.LnSpec.lean ====
/-
  The gradient of silu after a layer norm for ONE row of 1024 numbers, over the extended reals: plain functions of the row
  `x`, the gains `g`, the biases `b` and the row `d` of the gradient that comes in behind the silu. The kernel writes it in
  closed form; differentiating the norm carries a term for the mean that only vanishes because a row's deviations from its
  mean sum to zero. This file shows that the two are equal when the gradient and the gains are real numbers. The row and
  the biases may be infinite: a row with an infinite entry has an infinite variance, and both gradients are zero.
-/
module

public import proofs.«01_k».proof.Proof.RmsSpec
public import proofs.«01_k».proof.Proof.GateSpec
public import proofs.«01_k».proof.Proof.AttnSpec

@[expose] public section

set_option maxRecDepth 16384

noncomputable section

open Idealize.ShloMosaic

namespace Cert.LnSpec

open Cert.RmsSpec (wid nhalf wid_eq nhalf_eq sq_nonneg div_wid cube)
open Cert.GateSpec (one one_eq)

/-- The small number below the root. -/
abbrev eps : EReal := Ideal.ofBits FTy.f32 0x3727C5AC#32
/-- Two, from the square's derivative. -/
abbrev two : EReal := Ideal.ofBits FTy.f32 0x40000000#32

variable (x g b d : Fin 1024 → EReal)

/-- The row's mean. -/
def mu : EReal := Ideal.div (∑ k, x k) wid
/-- The deviations from the mean. -/
def xc (j : Fin 1024) : EReal := x j - mu x
/-- The variance, raised a little above zero. -/
def vr : EReal := Ideal.div (∑ k, xc x k * xc x k) wid + eps
/-- The factor that norms the row. -/
def rs : EReal := Ideal.rsqrt (vr x)
/-- The normed row. -/
def yy (j : Fin 1024) : EReal := xc x j * rs x
/-- … with gains and biases. -/
def zz (j : Fin 1024) : EReal := yy x j * g j + b j

/-- The gradient of silu at `z`. -/
def sil (z d : EReal) : EReal := d * (Ideal.logistic z * (one + z * (one - Ideal.logistic z)))
/-- … as the product rule writes it. -/
def sil' (z d : EReal) : EReal := d * Ideal.logistic z + z * d * (Ideal.logistic z * (one - Ideal.logistic z))

/-- The gradient in front of the silu. -/
def dz (j : Fin 1024) : EReal := sil (zz x g b j) (d j)
def dz' (j : Fin 1024) : EReal := sil' (zz x g b j) (d j)

/-- The norm's gradient in closed form, for the gradient `e` of the normed row. -/
def lin (e : Fin 1024 → EReal) (j : Fin 1024) : EReal :=
  rs x * (e j - Ideal.div (∑ k, e k) wid - yy x j * Ideal.div (∑ k, e k * yy x k) wid)

/-- What the variance's gradient contributes. -/
def tv (e : Fin 1024 → EReal) : EReal := Ideal.div ((∑ k, xc x k * e k) * (nhalf * Ideal.div (rs x) (vr x))) wid

/-- The norm's gradient as differentiating it writes it. -/
def lin' (e : Fin 1024 → EReal) (j : Fin 1024) : EReal :=
  e j * rs x + tv x e * (two * xc x j)
    + Ideal.div ((∑ k, -(e k * rs x)) + ∑ k, -(tv x e * (two * xc x k))) wid

/-- The row's gradient in closed form. -/
def dx (j : Fin 1024) : EReal := lin x (fun k => dz x g b d k * g k) j
/-- The row's gradient as differentiation writes it. -/
def dx' (j : Fin 1024) : EReal := lin' x (fun k => dz' x g b d k * g k) j

theorem two_eq : two = ((2 : ℝ) : EReal) := by
  have h : Ideal.ofBits FTy.f32 0x40000000#32 = ((2 : ℝ) : EReal) := by
    simp [Ideal.ofBits, Ideal.ieee]
    rw [← EReal.coe_mul]
    norm_num
  exact h

theorem eps_real : ∃ r : ℝ, 0 < r ∧ eps = (r : EReal) := by
  refine ⟨10995116 / 2 ^ 40, by norm_num, ?_⟩
  have h : Ideal.ofBits FTy.f32 0x3727C5AC#32 = ((10995116 / 2 ^ 40 : ℝ) : EReal) := by
    simp [Ideal.ofBits, Ideal.ieee]
    norm_num
    rw [← EReal.coe_mul]
    congr 1
    norm_num
  exact h

/-! ## The silu -/

/-- The two ways to write silu's gradient agree, at an infinite argument too, and give a real number. -/
theorem sil_eq (z : EReal) (r : ℝ) : ∃ s : ℝ, sil z r = s ∧ sil' z r = s := by
  unfold sil sil'
  rw [one_eq]
  induction z with
  | bot =>
    have e : Ideal.logistic ⊥ = 0 := by
      have h1 : Ideal.exp (-(⊥ : EReal)) = ⊤ := rfl
      have h2 : (1 : EReal) + ⊤ = ⊤ := rfl
      unfold Ideal.logistic Ideal.div
      rw [h1, h2, if_neg EReal.top_ne_zero, EReal.inv_top, mul_zero]
    refine ⟨0, ?_, ?_⟩ <;> rw [e] <;> simp
  | top =>
    have e : Ideal.logistic ⊤ = 1 := by
      have h1 : Ideal.exp (-(⊤ : EReal)) = 0 := rfl
      unfold Ideal.logistic Ideal.div
      rw [h1, add_zero, if_neg one_ne_zero, one_mul, ← EReal.coe_one, ← EReal.coe_inv, inv_one]
    have h : (1 : EReal) - 1 = 0 := by
      rw [← EReal.coe_one, ← EReal.coe_sub, sub_self, EReal.coe_zero]
    refine ⟨r, ?_, ?_⟩ <;> rw [e, h] <;> simp
  | coe z =>
    obtain ⟨l, e⟩ : ∃ l : ℝ, Ideal.logistic (z : EReal) = l := by
      refine ⟨1 * (1 + Real.exp (-z))⁻¹, ?_⟩
      have hp : (1 : ℝ) + Real.exp (-z) ≠ 0 := by positivity
      have e1 : (1 : EReal) + Ideal.exp (-(z : EReal)) = ((1 + Real.exp (-z) : ℝ) : EReal) := by
        rw [← EReal.coe_neg, EReal.coe_add, EReal.coe_one]
        rfl
      unfold Ideal.logistic Ideal.div
      rw [e1, if_neg (by exact_mod_cast hp), ← EReal.coe_inv, EReal.coe_mul, EReal.coe_one]
    rw [e, ← EReal.coe_one]
    refine ⟨r * (l * (1 + z * (1 - l))), ?_, ?_⟩ <;> norm_cast
    ring

theorem dz_eq (hd : ∀ k, ∃ r : ℝ, d k = r) (j : Fin 1024) : dz' x g b d j = dz x g b d j := by
  obtain ⟨r, h⟩ := hd j
  obtain ⟨s, h1, h2⟩ := sil_eq (zz x g b j) r
  unfold dz' dz
  rw [h, h1, h2]

theorem dz_real (hd : ∀ k, ∃ r : ℝ, d k = r) (j : Fin 1024) : ∃ s : ℝ, dz x g b d j = s := by
  obtain ⟨r, h⟩ := hd j
  obtain ⟨s, h1, h2⟩ := sil_eq (zz x g b j) r
  exact ⟨s, by unfold dz; rw [h, h1]⟩

/-! ## A row with an infinite entry -/

/-- Entries of a sum that is a real number are real numbers. -/
theorem real_of_sum (r : ℝ) (h : ∑ k, x k = r) (j : Fin 1024) : ∃ s : ℝ, x j = s := by
  rw [← Finset.add_sum_erase _ _ (Finset.mem_univ j)] at h
  generalize (∑ k ∈ Finset.univ.erase j, x k) = u at h
  generalize x j = v at h
  induction v with
  | bot => rw [EReal.bot_add] at h; exact absurd h (EReal.bot_ne_coe r)
  | top =>
    induction u with
    | bot => rw [EReal.add_bot] at h; exact absurd h (EReal.bot_ne_coe r)
    | top => exact absurd h (EReal.top_ne_coe r)
    | coe u => rw [EReal.top_add_coe] at h; exact absurd h (EReal.top_ne_coe r)
  | coe s => exact ⟨s, rfl⟩

theorem winv_pos : (0 : ℝ) < (1024 : ℝ)⁻¹ := by norm_num

/-- Infinite deviations have an infinite variance, and their norm's factor is zero. -/
theorem rs_zero (h : ∀ j, xc x j = ⊤ ∨ xc x j = ⊥) : vr x = ⊤ ∧ rs x = 0 := by
  have hs : ∑ k, xc x k * xc x k = ⊤ := by
    have h0 : xc x 0 * xc x 0 = ⊤ := by
      rcases h 0 with e | e <;> rw [e]
      · exact EReal.top_mul_top
      · exact EReal.bot_mul_bot
    refine top_le_iff.mp (h0.symm.le.trans ?_)
    exact Finset.single_le_sum (f := fun k => xc x k * xc x k) (fun k _ => sq_nonneg _) (Finset.mem_univ 0)
  have hv : vr x = ⊤ := by
    obtain ⟨e, _, he⟩ := eps_real
    unfold vr
    rw [hs, div_wid, wid_eq, ← EReal.coe_inv, EReal.top_mul_coe_of_pos winv_pos, he, EReal.top_add_coe]
  refine ⟨hv, ?_⟩
  unfold rs
  rw [hv]
  rfl

/-- Either a row is real or its deviations are all infinite. -/
theorem cases : (∀ j, ∃ r : ℝ, x j = r) ∨ ∀ j, xc x j = ⊤ ∨ xc x j = ⊥ := by
  generalize hs : ∑ k, x k = s
  induction s with
  | bot =>
    right
    intro j
    have hm : mu x = ⊥ := by
      unfold mu
      rw [hs, div_wid, wid_eq, ← EReal.coe_inv, EReal.bot_mul_coe_of_pos winv_pos]
    unfold xc
    rw [hm]
    induction x j with
    | bot => right; rfl
    | top => left; rfl
    | coe r => left; rfl
  | top =>
    right
    intro j
    have hm : mu x = ⊤ := by
      unfold mu
      rw [hs, div_wid, wid_eq, ← EReal.coe_inv, EReal.top_mul_coe_of_pos winv_pos]
    unfold xc
    rw [hm]
    right
    rw [sub_eq_add_neg, EReal.neg_top, EReal.add_bot]
  | coe r => exact .inl (real_of_sum x r hs)

/-! ## A row of real numbers -/

section reals

variable (X E : Fin 1024 → ℝ)

def muR : ℝ := (∑ k, X k) * (1024 : ℝ)⁻¹
def xcR (j : Fin 1024) : ℝ := X j - muR X
def ssR : ℝ := (∑ k, xcR X k * xcR X k) * (1024 : ℝ)⁻¹

theorem xcR_sum : ∑ k, xcR X k = 0 := by
  unfold xcR
  rw [Finset.sum_sub_distrib, Finset.sum_const, Finset.card_univ, Fintype.card_fin, nsmul_eq_mul]
  unfold muR
  push_cast
  ring

theorem xc_real (hx : ∀ k, x k = (X k : EReal)) (j : Fin 1024) : xc x j = (xcR X j : EReal) := by
  unfold xc mu xcR muR
  rw [div_wid, wid_eq, ← EReal.coe_inv]
  simp only [hx, Cert.AttnSpec.coe_sum]
  norm_cast

/-- The factor of a real row is a real number, and over the variance it is its cube. -/
theorem rs_real (hx : ∀ k, x k = (X k : EReal)) :
    ∃ R : ℝ, rs x = R ∧ Ideal.div (rs x) (vr x) = ((R * R * R : ℝ) : EReal) := by
  obtain ⟨e, he, hee⟩ := eps_real
  have hv : vr x = ((ssR X + e : ℝ) : EReal) := by
    unfold vr ssR
    rw [div_wid, wid_eq, ← EReal.coe_inv, hee]
    simp only [xc_real x X hx, ← EReal.coe_mul, Cert.AttnSpec.coe_sum, ← EReal.coe_add]
  have hp : 0 < ssR X + e :=
    add_pos_of_nonneg_of_pos (mul_nonneg (Finset.sum_nonneg fun k _ => mul_self_nonneg _) winv_pos.le) he
  have hr : rs x = (((Real.sqrt (ssR X + e))⁻¹ : ℝ) : EReal) := by
    unfold rs
    rw [hv]
    show (if ssR X + e < 0 then ⊥ else if ssR X + e = 0 then ⊤ else (((Real.sqrt (ssR X + e))⁻¹ : ℝ) : EReal)) = _
    rw [if_neg (not_lt.mpr hp.le), if_neg hp.ne']
  refine ⟨_, hr, ?_⟩
  have hc : Ideal.div (rs x) (vr x) = rs x * rs x * rs x := cube (vr x) (by rw [hv]; exact EReal.coe_pos.mpr hp)
  rw [hc, hr, EReal.coe_mul, EReal.coe_mul]

/-- The two gradients of a real row, as real numbers. -/
theorem lin_real (R : ℝ) (j : Fin 1024) :
    E j * R + (∑ k, xcR X k * E k) * (-(1 / 2) * (R * R * R)) * (1024 : ℝ)⁻¹ * (2 * xcR X j)
      + ((∑ k, -(E k * R)) + ∑ k, -((∑ k, xcR X k * E k) * (-(1 / 2) * (R * R * R)) * (1024 : ℝ)⁻¹ * (2 * xcR X k))) * (1024 : ℝ)⁻¹
    = R * (E j - (∑ k, E k) * (1024 : ℝ)⁻¹ - xcR X j * R * ((∑ k, E k * (xcR X k * R)) * (1024 : ℝ)⁻¹)) := by
  have h1 : ∑ k, -(E k * R) = -((∑ k, E k) * R) := by
    rw [Finset.sum_neg_distrib, Finset.sum_mul]
  have h2 : ∀ c : ℝ, ∑ k, -(c * (2 * xcR X k)) = 0 := by
    intro c
    rw [Finset.sum_neg_distrib, ← Finset.mul_sum, ← Finset.mul_sum, xcR_sum, mul_zero, mul_zero, neg_zero]
  have h3 : ∑ k, E k * (xcR X k * R) = (∑ k, xcR X k * E k) * R := by
    rw [Finset.sum_mul]
    exact Finset.sum_congr rfl fun k _ => by ring
  rw [h1, h2, h3]
  ring

end reals

/-- The two ways to write the norm's gradient agree. -/
theorem lin_eq (e : Fin 1024 → EReal) (he : ∀ k, ∃ r : ℝ, e k = r) (j : Fin 1024) : lin' x e j = lin x e j := by
  rcases cases x with hx | hx
  · choose X hX using hx
    choose E hE using he
    obtain ⟨R, h1, h2⟩ := rs_real x X hX
    unfold lin' lin tv yy
    rw [h2, h1]
    simp only [xc_real x X hX, hE, div_wid]
    rw [wid_eq, nhalf_eq, two_eq, ← EReal.coe_inv]
    simp only [← EReal.coe_mul, ← EReal.coe_neg, ← EReal.coe_sub, Cert.AttnSpec.coe_sum, ← EReal.coe_add]
    exact congrArg _ (lin_real X E R j)
  · obtain ⟨h1, h2⟩ := rs_zero x hx
    have ht : tv x e = 0 := by
      have h0 : Ideal.div (0 : EReal) ⊤ = 0 := by simp [Ideal.div]
      unfold tv
      rw [h1, h2, h0, mul_zero, mul_zero, div_wid, zero_mul]
    unfold lin' lin
    rw [ht, h2]
    simp only [mul_zero, zero_mul, neg_zero, Finset.sum_const_zero, add_zero, div_wid]

/-- The two ways to write the row's gradient agree. -/
theorem dx_eq (hd : ∀ k, ∃ r : ℝ, d k = r) (hg : ∀ k, ∃ r : ℝ, g k = r) (j : Fin 1024) : dx' x g b d j = dx x g b d j := by
  unfold dx' dx
  rw [show (fun k => dz' x g b d k * g k) = fun k => dz x g b d k * g k from funext fun k => congrArg (· * g k) (dz_eq x g b d hd k)]
  refine lin_eq x _ (fun k => ?_) j
  obtain ⟨s, hs⟩ := dz_real x g b d hd k
  obtain ⟨t, ht⟩ := hg k
  exact ⟨s * t, by rw [hs, ht, EReal.coe_mul]⟩

end Cert.LnSpec
-- ==== Proof.ConvOutDxVal.lean ====
/-
  The gradient of the convolution's output projection and of the layer norm and silu before it: what the kernel's blocks
  hold. A block of 1024 rows takes one point, which forms the product, takes it back through the silu and the norm and
  counts the rows into the gradients of the gains and the biases.
-/
module

public import proofs.«01_k».proof.Proof.Gen.ConvOutDxIdeal.Value
public import proofs.«01_k».proof.Proof.LnSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ConvOutDxIdeal.Val

open Cert.ConvOutDxIdeal Cert.ConvOutDxIdeal.Gen Cert.LnSpec

variable (m : (ℓ : Loc nD τ sig) → Buf (Elt Ideal) ℓ) (cc : Dev nD)

/-- A point's tile of incoming gradients. -/
abbrev b0 (t : Fin cfg0.N) : FVec Ideal S1024x1024 .bf16 := iblk m cc 0 t
/-- A point's shard of the weights. -/
abbrev b1 (t : Fin cfg0.N) : FVec Ideal S1x1024x1024 .bf16 := iblk m cc 1 t
/-- A point's rows of the norm's input. -/
abbrev b2 (t : Fin cfg0.N) : FVec Ideal S1024x1024 .f32 := iblk m cc 2 t
/-- The gains. -/
abbrev b3 (t : Fin cfg0.N) : FVec Ideal S1x1024 .f32 := iblk m cc 3 t
/-- The biases. -/
abbrev b4 (t : Fin cfg0.N) : FVec Ideal S1x1024 .f32 := iblk m cc 4 t

/-- The product of a row of incoming gradients and a row of the weights. -/
def prod (x0 : FVec Ideal S1024x1024 .bf16) (x1 : FVec Ideal S1x1024x1024 .bf16) (i j : Fin 1024) : EReal :=
  ∑ n : Fin 1024, x0 (ix2 i n) * x1 (ix3 0 j n)

theorem pay6_eq (g : FVec Ideal S1x1024 .f32) (j : Fin 1024) : k0_pay6 (F := Ideal) g (ix2 0 j) = g (ix2 0 j) := by
  pointwise [k0_pay6]

theorem pay7_eq (h : FVec Ideal S1024x1024 .f32) (i j : Fin 1024) :
    k0_pay7 (F := Ideal) h (ix2 i j) = xc (fun k => h (ix2 i k)) j := by
  pointwise [k0_pay7]
  rfl

theorem pay8_eq (h : FVec Ideal S1024x1024 .f32) (i : Fin 1024) :
    k0_pay8 (F := Ideal) h (ix2 i 0) = rs fun k => h (ix2 i k) := by
  have e := fun k => pay7_eq h i k
  generalize hr : k0_pay7 (F := Ideal) h = r at e
  pointwise [k0_pay8, hr]
  unfold rs vr
  simp only [← e]

theorem pay9_eq (h : FVec Ideal S1024x1024 .f32) (i j : Fin 1024) :
    k0_pay9 (F := Ideal) h (ix2 i j) = yy (fun k => h (ix2 i k)) j := by
  have e := pay7_eq h i j
  have e' := pay8_eq h i
  generalize hr : k0_pay7 (F := Ideal) h = r at e
  generalize hs : k0_pay8 (F := Ideal) h = s at e'
  pointwise [k0_pay9, hr, hs]
  exact congrArg₂ (· * ·) e e'

theorem pay10_eq (x0 : FVec Ideal S1024x1024 .bf16) (x1 : FVec Ideal S1x1024x1024 .bf16) (h : FVec Ideal S1024x1024 .f32)
    (g b : FVec Ideal S1x1024 .f32) (i j : Fin 1024) : k0_pay10 (F := Ideal) x0 x1 h g b (ix2 i j)
      = dz (fun k => h (ix2 i k)) (fun k => g (ix2 0 k)) (fun k => b (ix2 0 k)) (prod x0 x1 i) j := by
  have e := pay9_eq h i j
  have e' := pay6_eq g j
  generalize hr : k0_pay9 (F := Ideal) h = r at e
  generalize hs : k0_pay6 (F := Ideal) g = s at e'
  pointwise [k0_pay10, hr, hs]
  unfold dz zz sil
  dsimp only
  rw [← e, ← e', Cert.GateSpec.one_eq]
  rfl

theorem pay11_eq (g : FVec Ideal S1x1024 .f32) (i j : Fin 1024) : k0_pay11 (F := Ideal) g (ix2 i j) = g (ix2 0 j) := by
  have e' := pay6_eq g j
  generalize hs : k0_pay6 (F := Ideal) g = s at e'
  pointwise [k0_pay11, hs]
  exact e'

theorem pay1_eq (r : FVec Ideal S1024x1 .f32) (y z g : FVec Ideal S1024x1024 .f32) (i j : Fin 1024) :
    k0_pay1 (F := Ideal) r y z g (ix2 i j)
      = r (ix2 i 0) * (z (ix2 i j) * g (ix2 i j) - Ideal.div (∑ k, z (ix2 i k) * g (ix2 i k)) Cert.RmsSpec.wid
        - y (ix2 i j) * Ideal.div (∑ k, z (ix2 i k) * g (ix2 i k) * y (ix2 i k)) Cert.RmsSpec.wid) := by
  pointwise [k0_pay1]

theorem pay2_eq (y z : FVec Ideal S1024x1024 .f32) (j : Fin 1024) :
    k0_pay2 (F := Ideal) y z (ix2 0 j) = ∑ i : Fin 1024, z (ix2 i j) * y (ix2 i j) := by
  pointwise [k0_pay2]

theorem pay3_eq (z : FVec Ideal S1024x1024 .f32) (j : Fin 1024) :
    k0_pay3 (F := Ideal) z (ix2 0 j) = ∑ i : Fin 1024, z (ix2 i j) := by
  pointwise [k0_pay3]

theorem pay4_eq (y z : FVec Ideal S1024x1024 .f32) (a : FVec Ideal S1x1024 .f32) (j : Fin 1024) :
    k0_pay4 (F := Ideal) y z a (ix2 0 j) = a (ix2 0 j) + ∑ i : Fin 1024, z (ix2 i j) * y (ix2 i j) := by
  have e := pay2_eq y z j
  generalize hs : k0_pay2 (F := Ideal) y z = s at e
  pointwise [k0_pay4, hs]
  exact congrArg (_ + ·) e

theorem pay5_eq (z : FVec Ideal S1024x1024 .f32) (a : FVec Ideal S1x1024 .f32) (j : Fin 1024) :
    k0_pay5 (F := Ideal) z a (ix2 0 j) = a (ix2 0 j) + ∑ i : Fin 1024, z (ix2 i j) := by
  have e := pay3_eq z j
  generalize hs : k0_pay3 (F := Ideal) z = s at e
  pointwise [k0_pay5, hs]
  exact congrArg (_ + ·) e

/-! ## What a point leaves -/

theorem lt1 (t : Fin cfg0.N) : t.val - 1 < cfg0.N := Nat.lt_of_le_of_lt (Nat.sub_le _ _) t.isLt

/-- A point's gradient in front of the silu. -/
def zt (t : Fin cfg0.N) : FVec Ideal S1024x1024 .f32 := k0_pay10 (F := Ideal) (b0 m cc t) (b1 m cc t) (b2 m cc t) (b3 m cc t) (b4 m cc t)
/-- A point's normed rows. -/
def yt (t : Fin cfg0.N) : FVec Ideal S1024x1024 .f32 := k0_pay9 (F := Ideal) (b2 m cc t)

/-- What a point leaves of the norm's gradient. -/
def ot (t : Fin cfg0.N) : FVec Ideal S1024x1024 .f32 :=
  k0_pay1 (F := Ideal) (k0_pay8 (F := Ideal) (b2 m cc t)) (yt m cc t) (zt m cc t) (k0_pay11 (F := Ideal) (b3 m cc t))

theorem out5 (t : Fin cfg0.N) (i j : Fin 1024) : (outsAt0 m cc t.val t.isLt).1 (ix2 i j) = ot m cc t (ix2 i j) := by
  have ht : t.val < 16 := lt_of_lt_of_eq t.isLt N_0
  by_cases h : t.val = 0
  · rw [outsAt0_A m cc t (by omega) (by omega) (by omega) (by omega)]
    frame_out
    rfl
  · rw [outsAt0_B m cc t (by omega) (by omega) (by omega) (by omega)]
    frame_out
    rfl

theorem out6_A (t : Fin cfg0.N) (h : t.val = 0) (j : Fin 1024) :
    (outsAt0 m cc t.val t.isLt).2.1 (ix2 0 j) = ∑ i : Fin 1024, zt m cc t (ix2 i j) * yt m cc t (ix2 i j) := by
  rw [outsAt0_A m cc t (by omega) (by omega) (by omega) (by omega)]
  frame_out
  exact pay2_eq _ _ j

theorem out6_B (t : Fin cfg0.N) (h : t.val ≠ 0) (j : Fin 1024) : (outsAt0 m cc t.val t.isLt).2.1 (ix2 0 j)
    = (outsAt0 m cc (t.val - 1) (lt1 t)).2.1 (ix2 0 j) + ∑ i : Fin 1024, zt m cc t (ix2 i j) * yt m cc t (ix2 i j) := by
  have ht : t.val < 16 := lt_of_lt_of_eq t.isLt N_0
  rw [outsAt0_B m cc t (by omega) (by omega) (by omega) (by omega)]
  frame_out
  exact pay4_eq _ _ _ j

theorem out7_A (t : Fin cfg0.N) (h : t.val = 0) (j : Fin 1024) :
    (outsAt0 m cc t.val t.isLt).2.2 (ix2 0 j) = ∑ i : Fin 1024, zt m cc t (ix2 i j) := by
  rw [outsAt0_A m cc t (by omega) (by omega) (by omega) (by omega)]
  frame_out
  exact pay3_eq _ j

theorem out7_B (t : Fin cfg0.N) (h : t.val ≠ 0) (j : Fin 1024) : (outsAt0 m cc t.val t.isLt).2.2 (ix2 0 j)
    = (outsAt0 m cc (t.val - 1) (lt1 t)).2.2 (ix2 0 j) + ∑ i : Fin 1024, zt m cc t (ix2 i j) := by
  have ht : t.val < 16 := lt_of_lt_of_eq t.isLt N_0
  rw [outsAt0_B m cc t (by omega) (by omega) (by omega) (by omega)]
  frame_out
  exact pay5_eq _ _ j

/-! ## The blocks as parts of the arrays -/

/-- The weights as the kernel is given them: the four shards' rows below each other. -/
theorem V_v4 (l : Fin 4) (n k : Fin 1024) : (V m cc main_v4 : FVec Ideal S4x1024x1024 .bf16) (ix3 l n k)
    = (m ((cc : Thread nD τ).loc main_arg1) : FVec Ideal S4x1024x1024 .f32) (ix3 l n k) := by
  have e : (V m cc main_v4 : FVec Ideal S4x1024x1024 .bf16)
      = shapeCast S4x1024x1024 (shapeCast S4x4x256x1024 (truncf (F := Ideal) .bf16
          (m ((cc : Thread nD τ).loc main_arg1) : FVec Ideal S4x1024x1024 .f32) bitsLt_bf16_f32) shapeCasts_S4x1024x1024_S4x4x256x1024)
          shapeCasts_S4x4x256x1024_S4x1024x1024 := by
    dsimp only [V, hostOps0]
    after_results
    rfl
  rw [e]
  pointwise []

theorem V_v2 (k : Fin 1024) : (V m cc main_v2 : FVec Ideal S1x1024 .f32) (ix2 0 k)
    = (m ((cc : Thread nD τ).loc main_arg3) : FVec Ideal S1024 .f32) (ix1 k) := by
  have e : (V m cc main_v2 : FVec Ideal S1x1024 .f32)
      = broadcastInDim S1x1024 ![1] bcast_S1024_S1x1024_1 (m ((cc : Thread nD τ).loc main_arg3) : FVec Ideal S1024 .f32) := by
    dsimp only [V, hostOps0]
    after_results
  rw [e]
  pointwise []

theorem V_v3 (k : Fin 1024) : (V m cc main_v3 : FVec Ideal S1x1024 .f32) (ix2 0 k)
    = (m ((cc : Thread nD τ).loc main_arg4) : FVec Ideal S1024 .f32) (ix1 k) := by
  have e : (V m cc main_v3 : FVec Ideal S1x1024 .f32)
      = broadcastInDim S1x1024 ![1] bcast_S1024_S1x1024_1 (m ((cc : Thread nD τ).loc main_arg4) : FVec Ideal S1024 .f32) := by
    dsimp only [V, hostOps0]
    after_results
  rw [e]
  pointwise []

theorem idx (t : Fin cfg0.N) : win0_0.index t = ![t.val, 0] ∧ win0_1.index t = ![0, 0, 0]
    ∧ win0_2.index t = ![t.val, 0] ∧ win0_3.index t = ![0, 0] ∧ win0_4.index t = ![0, 0]
    ∧ win0_5.index t = ![t.val, 0] ∧ win0_6.index t = ![0, 0] ∧ win0_7.index t = ![0, 0] := by
  revert t
  decide +kernel

/-- Row `i` of the block of rows a point works on. -/
abbrev row (t : Fin cfg0.N) (i : Fin 1024) : Fin 16384 :=
  ⟨t.val * 1024 + i.val, by have : t.val < 16 := lt_of_lt_of_eq t.isLt N_0; omega⟩

theorem b0_eq (t : Fin cfg0.N) (i n : Fin 1024) :
    b0 m cc t (ix2 i n) = (m ((cc : Thread nD τ).loc main_arg0) : FVec Ideal S16384x1024 .bf16) (ix2 (row t i) n) := by
  rw [← V_main_arg0 m cc]
  show iblk m cc 0 t (ix2 i n) = _
  blk_ext [iblk, idx t]

theorem b1_eq (t : Fin cfg0.N) (j n : Fin 1024) :
    b1 m cc t (ix3 0 j n) = (m ((cc : Thread nD τ).loc main_arg1) : FVec Ideal S4x1024x1024 .f32) (ix3 0 j n) := by
  refine Eq.trans ?_ (V_v4 m cc 0 j n)
  show iblk m cc 1 t (ix3 0 j n) = _
  blk_ext [iblk, idx t]

theorem b2_eq (t : Fin cfg0.N) (i k : Fin 1024) :
    b2 m cc t (ix2 i k) = (m ((cc : Thread nD τ).loc main_arg2) : FVec Ideal S16384x1024 .f32) (ix2 (row t i) k) := by
  rw [← V_main_arg2 m cc]
  show iblk m cc 2 t (ix2 i k) = _
  blk_ext [iblk, idx t]

theorem b3_eq (t : Fin cfg0.N) (k : Fin 1024) :
    b3 m cc t (ix2 0 k) = (m ((cc : Thread nD τ).loc main_arg3) : FVec Ideal S1024 .f32) (ix1 k) := by
  refine Eq.trans ?_ (V_v2 m cc k)
  show iblk m cc 3 t (ix2 0 k) = _
  blk_ext [iblk, idx t]

theorem b4_eq (t : Fin cfg0.N) (k : Fin 1024) :
    b4 m cc t (ix2 0 k) = (m ((cc : Thread nD τ).loc main_arg4) : FVec Ideal S1024 .f32) (ix1 k) := by
  refine Eq.trans ?_ (V_v3 m cc k)
  show iblk m cc 4 t (ix2 0 k) = _
  blk_ext [iblk, idx t]

/-! ## The whole arrays -/

section arrays

variable (p : FVec Ideal S16384x1024 .bf16) (w : FVec Ideal S4x1024x1024 .f32) (h : FVec Ideal S16384x1024 .f32)
  (g b : FVec Ideal S1024 .f32)

/-- The gradient behind the silu: row `r` of the incoming gradient against row `j` of the first layer's weights. -/
def du (r : Fin 16384) (j : Fin 1024) : EReal := ∑ n : Fin 1024, p (ix2 r n) * w (ix3 0 j n)

/-- The gradient in front of the silu. -/
def zr (r : Fin 16384) : Fin 1024 → EReal := dz (fun k => h (ix2 r k)) (fun k => g (ix1 k)) (fun k => b (ix1 k)) (du p w r)

/-- The gradient of the norm's input. -/
def dh : S16384x1024.Idx → EReal := fun y =>
  dx (fun k => h (ix2 (y 0) k)) (fun k => g (ix1 k)) (fun k => b (ix1 k)) (du p w (y 0)) (y 1)

/-- The gradient of the gains. -/
def dg : S1x1024.Idx → EReal := fun y => ∑ r : Fin 16384, zr p w h g b r (y 1) * yy (fun k => h (ix2 r k)) (y 1)

/-- The gradient of the biases. -/
def db : S1x1024.Idx → EReal := fun y => ∑ r : Fin 16384, zr p w h g b r (y 1)

theorem dh_at (y : S16384x1024.Idx) (r : Fin 16384) (j : Fin 1024) (e0 : (y 0).val = r.val) (e1 : (y 1).val = j.val) :
    dh p w h g b y = dx (fun k => h (ix2 r k)) (fun k => g (ix1 k)) (fun k => b (ix1 k)) (du p w r) j := by
  have h0 : (y 0 : Fin 16384) = r := Fin.ext e0
  have h1 : (y 1 : Fin 1024) = j := Fin.ext e1
  unfold dh
  rw [← h0, ← h1]

theorem dg_at (y : S1x1024.Idx) (j : Fin 1024) (e1 : (y 1).val = j.val) :
    dg p w h g b y = ∑ r : Fin 16384, zr p w h g b r j * yy (fun k => h (ix2 r k)) j := by
  have h1 : (y 1 : Fin 1024) = j := Fin.ext e1
  unfold dg
  rw [← h1]

theorem db_at (y : S1x1024.Idx) (j : Fin 1024) (e1 : (y 1).val = j.val) :
    db p w h g b y = ∑ r : Fin 16384, zr p w h g b r j := by
  have h1 : (y 1 : Fin 1024) = j := Fin.ext e1
  unfold db
  rw [← h1]

end arrays

/-- The arguments as arrays. -/
abbrev P : FVec Ideal S16384x1024 .bf16 := m ((cc : Thread nD τ).loc main_arg0)
abbrev W : FVec Ideal S4x1024x1024 .f32 := m ((cc : Thread nD τ).loc main_arg1)
abbrev H : FVec Ideal S16384x1024 .f32 := m ((cc : Thread nD τ).loc main_arg2)
abbrev G : FVec Ideal S1024 .f32 := m ((cc : Thread nD τ).loc main_arg3)
abbrev B : FVec Ideal S1024 .f32 := m ((cc : Thread nD τ).loc main_arg4)

/-- A point's product, read from the arrays. -/
theorem prod_eq (t : Fin cfg0.N) (i j : Fin 1024) : prod (b0 m cc t) (b1 m cc t) i j = du (P m cc) (W m cc) (row t i) j :=
  Finset.sum_congr rfl fun n _ => congrArg₂ (· * ·) (b0_eq m cc t i n) (b1_eq m cc t j n)

theorem hrow_eq (t : Fin cfg0.N) (i : Fin 1024) : (fun k => b2 m cc t (ix2 i k)) = fun k => H m cc (ix2 (row t i) k) := funext (b2_eq m cc t i)
theorem grow_eq (t : Fin cfg0.N) : (fun k => b3 m cc t (ix2 0 k)) = fun k => G m cc (ix1 k) := funext (b3_eq m cc t)

theorem zt_eq (t : Fin cfg0.N) (i j : Fin 1024) :
    zt m cc t (ix2 i j) = zr (P m cc) (W m cc) (H m cc) (G m cc) (B m cc) (row t i) j := by
  refine (pay10_eq _ _ _ _ _ i j).trans ?_
  rw [hrow_eq m cc t i, grow_eq m cc t, show (fun k => b4 m cc t (ix2 0 k)) = fun k => B m cc (ix1 k) from funext (b4_eq m cc t),
    show prod (b0 m cc t) (b1 m cc t) i = du (P m cc) (W m cc) (row t i) from funext (prod_eq m cc t i)]
  rfl

theorem yt_eq (t : Fin cfg0.N) (i j : Fin 1024) : yt m cc t (ix2 i j) = yy (fun k => H m cc (ix2 (row t i) k)) j :=
  (pay9_eq _ i j).trans (congrArg (yy · j) (hrow_eq m cc t i))

/-- What a point leaves, read from the arrays. -/
theorem out5_arr (t : Fin cfg0.N) (i j : Fin 1024) : (outsAt0 m cc t.val t.isLt).1 (ix2 i j)
    = dx (fun k => H m cc (ix2 (row t i) k)) (fun k => G m cc (ix1 k)) (fun k => B m cc (ix1 k)) (du (P m cc) (W m cc) (row t i)) j := by
  rw [out5 m cc t i j, ot, pay1_eq, pay8_eq, hrow_eq m cc t i]
  simp only [yt_eq, zt_eq, pay11_eq, b3_eq]
  rfl

theorem final5 : (dats m 0 cc).arrAt 5 cfg0.N = dh (P m cc) (W m cc) (H m cc) (G m cc) (B m cc) := by
  refine (dats m 0 cc).arrAt_eq_of_covers 5 _ (by decide +kernel) fun t hf y => ?_
  have ht : t.val < 16 := lt_of_lt_of_eq t.isLt N_0
  have h0 : (y 0).val < 1024 := (y 0).isLt
  have h1 : (y 1).val < 1024 := (y 1).isLt
  blk_simp
  rw [after0_5]
  have e0 : (((win0_5.blk t).view.emb y) 0).val = t.val * 1024 + (y 0).val := by blk_simp [idx t]
  have e1 : (((win0_5.blk t).view.emb y) 1).val = (y 1).val := by blk_simp [idx t]
  have hy : (fun a => y a) = ix2 (y 0 : Fin 1024) (y 1 : Fin 1024) := by
    funext a
    match a with
    | ⟨0, _⟩ => rfl
    | ⟨1, _⟩ => rfl
  refine Eq.trans ?_ (dh_at _ _ _ _ _ _ (row t (y 0)) (y 1) e0 e1).symm
  exact (congrArg _ hy).trans (out5_arr m cc t (y 0) (y 1))

/-- The point of block `s`. -/
abbrev pt (s : Nat) (h : s < 16) : Fin cfg0.N := ⟨s, by have : cfg0.N = 16 := N_0; omega⟩

/-- A block's share of the gradient of the gains. -/
def gsh (t : Fin cfg0.N) (j : Fin 1024) : EReal := ∑ i : Fin 1024, zt m cc t (ix2 i j) * yt m cc t (ix2 i j)
/-- A block's share of the gradient of the biases. -/
def bsh (t : Fin cfg0.N) (j : Fin 1024) : EReal := ∑ i : Fin 1024, zt m cc t (ix2 i j)

/-- A block's share of the gains' gradient, read from the arrays. -/
theorem gsh_eq (t : Fin cfg0.N) (j : Fin 1024) : gsh m cc t j
    = ∑ i : Fin 1024, zr (P m cc) (W m cc) (H m cc) (G m cc) (B m cc) (row t i) j * yy (fun k => H m cc (ix2 (row t i) k)) j := by
  unfold gsh
  simp only [zt_eq m cc t, yt_eq m cc t]

/-- After block `k` the gains' gradient counts the blocks up to it. -/
theorem acc6 (j : Fin 1024) (k : Nat) (hk : k < 16) :
    (outsAt0 m cc (pt k hk).val (pt k hk).isLt).2.1 (ix2 0 j) = ∑ s : Fin (k + 1), gsh m cc (pt s.val (by omega)) j := by
  induction k with
  | zero =>
    rw [out6_A m cc (pt 0 hk) rfl j]
    exact (Fin.sum_univ_one fun s : Fin 1 => gsh m cc (pt s.val (by omega)) j).symm
  | succ k ih =>
    rw [Fin.sum_univ_castSucc, out6_B m cc (pt (k + 1) hk) (Nat.succ_ne_zero k) j]
    exact congrArg₂ (· + ·) (ih (by omega)) rfl

theorem acc6_last (j : Fin 1024) (t : Fin cfg0.N) (h : t.val = 15) :
    (outsAt0 m cc t.val t.isLt).2.1 (ix2 0 j) = ∑ s : Fin 16, gsh m cc (pt s.val s.isLt) j := by
  have e : t = pt 15 (by decide) := Fin.ext (by rw [h])
  rw [e]
  exact acc6 m cc j 15 (by decide)

theorem final6 : (dats m 0 cc).arrAt 6 cfg0.N = dg (P m cc) (W m cc) (H m cc) (G m cc) (B m cc) := by
  refine (dats m 0 cc).arrAt_eq_of_covers 6 _ (by decide +kernel) fun t hf y => ?_
  have ht : t.val < 16 := lt_of_lt_of_eq t.isLt N_0
  have h3 : t.val % 16 = 15 := (flush0_6 t).mp hf
  have h0 : (y 0).val < 1 := (y 0).isLt
  have h1 : (y 1).val < 1024 := (y 1).isLt
  blk_simp
  rw [after0_6]
  have e1 : (((win0_6.blk t).view.emb y) 1).val = (y 1).val := by blk_simp [idx t]
  have hy : (fun a => y a) = ix2 (0 : Fin 1) (y 1 : Fin 1024) := by
    funext a
    match a with
    | ⟨0, _⟩ => exact Fin.ext (by show (y 0).val = 0; omega)
    | ⟨1, _⟩ => rfl
  refine Eq.trans ?_ (dg_at _ _ _ _ _ _ (y 1) e1).symm
  refine (congrArg _ hy).trans ((acc6_last m cc (y 1) t (by omega)).trans ?_)
  refine (Finset.sum_congr rfl fun s _ => gsh_eq m cc (pt s.val s.isLt) (y 1)).trans ?_
  refine Fin.sum_mul_add_congr fun s i hl => ?_
  have er : row (pt s.val s.isLt) i = ⟨s.val * 1024 + i.val, hl⟩ := rfl
  rw [er]

/-- A block's share of the biases' gradient, read from the arrays. -/
theorem bsh_eq (t : Fin cfg0.N) (j : Fin 1024) : bsh m cc t j
    = ∑ i : Fin 1024, zr (P m cc) (W m cc) (H m cc) (G m cc) (B m cc) (row t i) j := by
  unfold bsh
  simp only [zt_eq m cc t, yt_eq m cc t]

/-- After block `k` the biases' gradient counts the blocks up to it. -/
theorem acc7 (j : Fin 1024) (k : Nat) (hk : k < 16) :
    (outsAt0 m cc (pt k hk).val (pt k hk).isLt).2.2 (ix2 0 j) = ∑ s : Fin (k + 1), bsh m cc (pt s.val (by omega)) j := by
  induction k with
  | zero =>
    rw [out7_A m cc (pt 0 hk) rfl j]
    exact (Fin.sum_univ_one fun s : Fin 1 => bsh m cc (pt s.val (by omega)) j).symm
  | succ k ih =>
    rw [Fin.sum_univ_castSucc, out7_B m cc (pt (k + 1) hk) (Nat.succ_ne_zero k) j]
    exact congrArg₂ (· + ·) (ih (by omega)) rfl

theorem acc7_last (j : Fin 1024) (t : Fin cfg0.N) (h : t.val = 15) :
    (outsAt0 m cc t.val t.isLt).2.2 (ix2 0 j) = ∑ s : Fin 16, bsh m cc (pt s.val s.isLt) j := by
  have e : t = pt 15 (by decide) := Fin.ext (by rw [h])
  rw [e]
  exact acc7 m cc j 15 (by decide)

theorem final7 : (dats m 0 cc).arrAt 7 cfg0.N = db (P m cc) (W m cc) (H m cc) (G m cc) (B m cc) := by
  refine (dats m 0 cc).arrAt_eq_of_covers 7 _ (by decide +kernel) fun t hf y => ?_
  have ht : t.val < 16 := lt_of_lt_of_eq t.isLt N_0
  have h3 : t.val % 16 = 15 := (flush0_7 t).mp hf
  have h0 : (y 0).val < 1 := (y 0).isLt
  have h1 : (y 1).val < 1024 := (y 1).isLt
  blk_simp
  rw [after0_7]
  have e1 : (((win0_7.blk t).view.emb y) 1).val = (y 1).val := by blk_simp [idx t]
  have hy : (fun a => y a) = ix2 (0 : Fin 1) (y 1 : Fin 1024) := by
    funext a
    match a with
    | ⟨0, _⟩ => exact Fin.ext (by show (y 0).val = 0; omega)
    | ⟨1, _⟩ => rfl
  refine Eq.trans ?_ (db_at _ _ _ _ _ _ (y 1) e1).symm
  refine (congrArg _ hy).trans ((acc7_last m cc (y 1) t (by omega)).trans ?_)
  refine (Finset.sum_congr rfl fun s _ => bsh_eq m cc (pt s.val s.isLt) (y 1)).trans ?_
  refine Fin.sum_mul_add_congr fun s i hl => ?_
  have er : row (pt s.val s.isLt) i = ⟨s.val * 1024 + i.val, hl⟩ := rfl
  rw [er]

end Cert.ConvOutDxIdeal.Val
-- ==== Proof.ConvOutDxRef.lean ====
/-
  The reference's gradient of the norm, the silu and the projection, read row by row.
-/
module

public import proofs.«01_k».proof.Proof.Gen.ConvOutDxReferenceIdeal.Run
public import proofs.«01_k».proof.Proof.Gen.ConvOutDxReferenceIdeal.Read
public import proofs.«01_k».proof.Proof.LnSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ConvOutDxReferenceIdeal.Rd

open Cert.ConvOutDxReferenceIdeal Cert.ConvOutDxReferenceIdeal.Read Cert.LnSpec

variable (x0 : FVec Ideal S16384x1024 .bf16) (x1 : FVec Ideal S4x1024x1024 .f32) (x2 : FVec Ideal S16384x1024 .f32)
  (x3 x4 : FVec Ideal S1024 .f32)

/-- The gradient behind the silu. -/
def du (r : Fin 16384) (j : Fin 1024) : EReal := ∑ n : Fin 1024, x0 (ix2 r n) * x1 (ix3 0 j n)
/-- A row of the norm's input. -/
abbrev hrow (r : Fin 16384) : Fin 1024 → EReal := fun k => x2 (ix2 r k)
/-- The gains. -/
abbrev grow : Fin 1024 → EReal := fun k => x3 (ix1 k)
/-- The gradient in front of the silu. -/
abbrev zrow (r : Fin 16384) : Fin 1024 → EReal := dz' (hrow x2 r) (grow x3) (grow x4) (du x0 x1 r)

theorem r3 (r : Fin 16384) : val_main_v3 (F := Ideal) x2 (ix2 r 0) = mu (hrow x2 r) := by
  pointwise [val_main_v3, val_main_v2, val_main_v1, val_main_v0, val_main_cst, val_main_cst_0]
  rfl

theorem r5 (r : Fin 16384) (j : Fin 1024) : val_main_v5 (F := Ideal) x2 (ix2 r j) = xc (hrow x2 r) j := by
  unfold xc
  rw [← r3]
  generalize hv : val_main_v3 (F := Ideal) x2 = v
  pointwise [val_main_v5, val_main_v4, hv]

theorem r14 (r : Fin 16384) (j : Fin 1024) : val_main_v14 (F := Ideal) x2 (ix2 r j) = xc (hrow x2 r) j := by
  unfold xc
  rw [← r3]
  generalize hv : val_main_v3 (F := Ideal) x2 = v
  pointwise [val_main_v14, val_main_v13, hv]

theorem r8 (r : Fin 16384) (j : Fin 1024) : val_main_v8 (F := Ideal) x2 (ix2 r j) = two * xc (hrow x2 r) j := by
  rw [← r5]
  generalize hv : val_main_v5 (F := Ideal) x2 = v
  pointwise [val_main_v8, val_main_v7, val_main_cst_1, hv]

theorem r16 (r : Fin 16384) : val_main_v16 (F := Ideal) x2 (ix2 r 0) = vr (hrow x2 r) := by
  have e := fun k => r5 x2 r k
  generalize hv : val_main_v5 (F := Ideal) x2 = v at e
  pointwise [val_main_v16, val_main_v15, val_main_v12, val_main_v11, val_main_v10, val_main_v9, val_main_v6, val_main_cst_2, val_main_cst_3, val_main_cst_4, hv]
  unfold vr
  simp only [← e]

theorem r17 (r : Fin 16384) : val_main_v17 (F := Ideal) x2 (ix2 r 0) = rs (hrow x2 r) :=
  congrArg Ideal.rsqrt (r16 x2 r)

theorem r20 (r : Fin 16384) :
    val_main_v20 (F := Ideal) x2 (ix2 r 0) = Cert.RmsSpec.nhalf * Ideal.div (rs (hrow x2 r)) (vr (hrow x2 r)) := by
  rw [← r17, ← r16]
  generalize hv : val_main_v17 (F := Ideal) x2 = v
  generalize hw : val_main_v16 (F := Ideal) x2 = w
  pointwise [val_main_v20, val_main_v19, val_main_v18, val_main_cst_5, hv, hw]

theorem r22 (r : Fin 16384) (j : Fin 1024) : val_main_v22 (F := Ideal) x2 (ix2 r j) = yy (hrow x2 r) j := by
  unfold yy
  rw [← r17, ← r14]
  generalize hv : val_main_v17 (F := Ideal) x2 = v
  generalize hw : val_main_v14 (F := Ideal) x2 = w
  pointwise [val_main_v22, val_main_v21, hv, hw]

theorem r28 (r : Fin 16384) (j : Fin 1024) : val_main_v28 (F := Ideal) x2 x3 x4 (ix2 r j) = zz (hrow x2 r) (grow x3) (grow x4) j := by
  unfold zz
  rw [← r22]
  generalize hv : val_main_v22 (F := Ideal) x2 = v
  pointwise [val_main_v28, val_main_v27, val_main_v26, val_main_v25, val_main_v24, val_main_v23, hv]

theorem r29 (r : Fin 16384) (j : Fin 1024) :
    val_main_v29_2 (F := Ideal) x2 x3 x4 (ix2 r j) = Ideal.logistic (zz (hrow x2 r) (grow x3) (grow x4) j) := by
  rw [← r28, ← Cert.GateSpec.sig_eq]
  generalize hv : val_main_v28 (F := Ideal) x2 x3 x4 = v
  pointwise [val_main_v29_2, val_main_call0_v4, val_main_call0_v3, val_main_call0_v2, val_main_call0_v1, val_main_call0_v0, val_main_call0_cst, val_main_call0_cst_0, hv]

theorem r34 (r : Fin 16384) (j : Fin 1024) : val_main_v34 (F := Ideal) x0 x1 (ix2 r j) = du x0 x1 r j := by
  pointwise [val_main_v34, val_main_v33, val_main_v31, val_main_v30]
  rfl

theorem r35 (r : Fin 16384) (j : Fin 1024) : val_main_v35 (F := Ideal) x0 x1 x2 x3 x4 (ix2 r j) = zrow x0 x1 x2 x3 x4 r j := by
  unfold zrow dz' sil'
  rw [← r29, ← r28, ← r34]
  generalize hv : val_main_v28 (F := Ideal) x2 x3 x4 = v
  generalize hw : val_main_v29_2 (F := Ideal) x2 x3 x4 = w
  generalize hu : val_main_v34 (F := Ideal) x0 x1 = u
  pointwise [val_main_v35, val_main_call1_v2, val_main_call1_v1, val_main_call1_v0, val_main_v29_1, val_main_call0_v7, val_main_call0_v6, val_main_call0_cst_1, hv, hw, hu]

theorem r43 (r : Fin 16384) (j : Fin 1024) :
    val_main_v43 (F := Ideal) x0 x1 x2 x3 x4 (ix2 r j) = zrow x0 x1 x2 x3 x4 r j * x3 (ix1 j) := by
  rw [← r35]
  generalize hv : val_main_v35 (F := Ideal) x0 x1 x2 x3 x4 = v
  pointwise [val_main_v43, val_main_v42, val_main_v23, hv]

/-- The gradient of the normed row. -/
abbrev erow (r : Fin 16384) : Fin 1024 → EReal := fun k => zrow x0 x1 x2 x3 x4 r k * x3 (ix1 k)

theorem r57 (r : Fin 16384) (j : Fin 1024) :
    val_main_v57 (F := Ideal) x0 x1 x2 x3 x4 (ix2 r j) = tv (hrow x2 r) (erow x0 x1 x2 x3 x4 r) := by
  have e := fun k => r43 x0 x1 x2 x3 x4 r k
  have e' := fun k => r14 x2 r k
  unfold tv
  rw [← r20]
  generalize hv : val_main_v43 (F := Ideal) x0 x1 x2 x3 x4 = v at e
  generalize hw : val_main_v14 (F := Ideal) x2 = w at e'
  generalize hu : val_main_v20 (F := Ideal) x2 = u
  pointwise [val_main_v57, val_main_v56, val_main_v55, val_main_v54, val_main_v50, val_main_v47, val_main_v46, val_main_v45, val_main_cst_10, val_main_cst_12, val_main_cst_13, hv, hw, hu]
  refine Eq.trans (Fin.sum_univ_one _) ?_
  simp only [e, e']

theorem r58 (r : Fin 16384) (j : Fin 1024) : val_main_v58 (F := Ideal) x0 x1 x2 x3 x4 (ix2 r j)
    = tv (hrow x2 r) (erow x0 x1 x2 x3 x4 r) * (two * xc (hrow x2 r) j) := by
  rw [← r57 x0 x1 x2 x3 x4 r j, ← r8]
  generalize hv : val_main_v57 (F := Ideal) x0 x1 x2 x3 x4 = v
  generalize hw : val_main_v8 (F := Ideal) x2 = w
  pointwise [val_main_v58, hv, hw]

theorem r49 (r : Fin 16384) (j : Fin 1024) :
    val_main_v49 (F := Ideal) x0 x1 x2 x3 x4 (ix2 r j) = erow x0 x1 x2 x3 x4 r j * rs (hrow x2 r) := by
  rw [show erow x0 x1 x2 x3 x4 r j = _ from (r43 x0 x1 x2 x3 x4 r j).symm, ← r17]
  generalize hv : val_main_v43 (F := Ideal) x0 x1 x2 x3 x4 = v
  generalize hw : val_main_v17 (F := Ideal) x2 = w
  pointwise [val_main_v49, val_main_v48, hv, hw]

theorem r67 (r : Fin 16384) (j : Fin 1024) : val_main_v67 (F := Ideal) x0 x1 x2 x3 x4 (ix2 r j)
    = Ideal.div ((∑ k, -(erow x0 x1 x2 x3 x4 r k * rs (hrow x2 r)))
        + ∑ k, -(tv (hrow x2 r) (erow x0 x1 x2 x3 x4 r) * (two * xc (hrow x2 r) k))) Cert.RmsSpec.wid := by
  have e := fun k => r49 x0 x1 x2 x3 x4 r k
  have e' := fun k => r58 x0 x1 x2 x3 x4 r k
  generalize hv : val_main_v49 (F := Ideal) x0 x1 x2 x3 x4 = v at e
  generalize hw : val_main_v58 (F := Ideal) x0 x1 x2 x3 x4 = w at e'
  simp only [← e, ← e']
  pointwise [val_main_v67, val_main_v66, val_main_v65, val_main_v64, val_main_v63, val_main_v61, val_main_v60, val_main_v59, val_main_v53, val_main_v52, val_main_v51, val_main_cst_11, val_main_cst_14, val_main_cst_15, val_main_cst_16, hv, hw]
  exact Fin.sum_univ_one _

theorem r68 (r : Fin 16384) (j : Fin 1024) : val_main_v68 (F := Ideal) x0 x1 x2 x3 x4 (ix2 r j)
    = dx' (hrow x2 r) (grow x3) (grow x4) (du x0 x1 r) j := by
  have e := r67 x0 x1 x2 x3 x4 r j
  have e1 := r49 x0 x1 x2 x3 x4 r j
  have e2 := r58 x0 x1 x2 x3 x4 r j
  generalize hv : val_main_v67 (F := Ideal) x0 x1 x2 x3 x4 = v at e
  generalize hw : val_main_v49 (F := Ideal) x0 x1 x2 x3 x4 = w at e1
  generalize hu : val_main_v58 (F := Ideal) x0 x1 x2 x3 x4 = u at e2
  pointwise [val_main_v68, val_main_v62, hv, hw, hu]
  exact congrArg₂ (· + ·) (congrArg₂ (· + ·) e1 e2) e

theorem r69 (j : Fin 1024) : val_main_v69 (F := Ideal) x0 x1 x2 x3 x4 (ix2 0 j)
    = ∑ r : Fin 16384, yy (hrow x2 r) j * zrow x0 x1 x2 x3 x4 r j := by
  have e := fun r => r35 x0 x1 x2 x3 x4 r j
  have e' := fun r => r22 x2 r j
  generalize hv : val_main_v35 (F := Ideal) x0 x1 x2 x3 x4 = v at e
  generalize hw : val_main_v22 (F := Ideal) x2 = w at e'
  pointwise [val_main_v69, val_main_v44, val_main_v41, val_main_v40, val_main_v39, val_main_cst_8, val_main_cst_9, hv, hw]
  refine Eq.trans (Fin.sum_univ_one _) ?_
  exact Finset.sum_congr rfl fun r _ => congrArg₂ (· * ·) (e' r) (e r)

theorem r70 (j : Fin 1024) : val_main_v70 (F := Ideal) x0 x1 x2 x3 x4 (ix2 0 j) = ∑ r : Fin 16384, zrow x0 x1 x2 x3 x4 r j := by
  have e := fun r => r35 x0 x1 x2 x3 x4 r j
  generalize hv : val_main_v35 (F := Ideal) x0 x1 x2 x3 x4 = v at e
  pointwise [val_main_v70, val_main_v38, val_main_v37, val_main_v36, val_main_cst_6, val_main_cst_7, hv]
  refine Eq.trans (Fin.sum_univ_one _) ?_
  exact Finset.sum_congr rfl fun r _ => e r

end Cert.ConvOutDxReferenceIdeal.Rd
-- ==== Proof.ConvOutDxEq.lean ====
/-
  The gradient of the convolution's output projection and of the layer norm and silu before it: the kernel's three arrays
  are the reference's when the incoming gradient, the weights and the gains are finite.
-/
module

public import proofs.«01_k».proof.Pre_conv_out_finite
public import proofs.«01_k».proof.Proof.ConvOutDxVal
public import proofs.«01_k».proof.Proof.ConvOutDxRef
public import proofs.«01_k».proof.Proof.AttnEq

@[expose] public section

set_option maxRecDepth 16384

noncomputable section

open Idealize.ShloMosaic Idealize.ShloMosaic.TcCoe Idealize.SL.Sem

namespace Cert.ConvOutDxEq

open Cert.ConvOutDxIdeal Cert.LnSpec Cert.ConvOutDxReferenceIdeal.Read

theorem pre_facts : Cert.Pre_conv_out_finite.Facts := ⟨by decide, by decide, by decide, by decide⟩

variable (x0 : FVec Ideal S16384x1024 .bf16) (x1 : FVec Ideal S4x1024x1024 .f32) (x2 : FVec Ideal S16384x1024 .f32)
  (x3 x4 : FVec Ideal S1024 .f32)

/-- Arguments that pass the precondition: the gradient behind the silu and the gains are real numbers. -/
theorem reals (hpre : letI := pre_facts; (Cert.Pre_conv_out_finite.fn (F := Ideal) x0 x1 x2 x3 x4).1 = (fun _ => 1#1)
      ∧ (Cert.Pre_conv_out_finite.fn (F := Ideal) x0 x1 x2 x3 x4).2.1 = (fun _ => 1#1)
      ∧ (Cert.Pre_conv_out_finite.fn (F := Ideal) x0 x1 x2 x3 x4).2.2 = fun _ => 1#1) :
    (∀ r j, ∃ s : ℝ, Cert.ConvOutDxReferenceIdeal.Rd.du x0 x1 r j = s) ∧ ∀ k, ∃ s : ℝ, x3 (ix1 k) = s := by
  have e0 : ∀ i j, ∃ r : ℝ, x0 (ix2 i j) = (r : EReal) := fun i j => Cert.AttnEq.real_of_abs_lt _ (congrFun hpre.1 (ix2 i j))
  have e1 : ∀ l i j, ∃ r : ℝ, x1 (ix3 l i j) = (r : EReal) := fun l i j => Cert.AttnEq.real_of_abs_lt _ (congrFun hpre.2.1 (ix3 l i j))
  have e3 : ∀ k, ∃ r : ℝ, x3 (ix1 k) = (r : EReal) := fun k => Cert.AttnEq.real_of_abs_lt _ (congrFun hpre.2.2 (ix1 k))
  refine ⟨fun r j => ?_, e3⟩
  choose P hP using e0
  choose W hW using e1
  refine ⟨∑ n, P r n * W 0 j n, ?_⟩
  unfold Cert.ConvOutDxReferenceIdeal.Rd.du
  simp only [hP, hW, ← EReal.coe_mul, Cert.AttnSpec.coe_sum]

variable (hd : ∀ r j, ∃ s : ℝ, Cert.ConvOutDxReferenceIdeal.Rd.du x0 x1 r j = s) (hg : ∀ k, ∃ s : ℝ, x3 (ix1 k) = s)
include hd

/-- The reference's gradient in front of the silu is the kernel's. -/
theorem zrow_eq (r : Fin 16384) (j : Fin 1024) :
    Cert.ConvOutDxReferenceIdeal.Rd.zrow x0 x1 x2 x3 x4 r j = Val.zr x0 x1 x2 x3 x4 r j :=
  dz_eq _ _ _ _ (hd r) j

theorem dg_ref : val_main_v69 (F := Ideal) x0 x1 x2 x3 x4 = Val.dg x0 x1 x2 x3 x4 := by
  funext y
  have hy : y = ix2 (0 : Fin 1) (y 1 : Fin 1024) := by
    funext a
    match a with
    | ⟨0, _⟩ => exact Fin.ext (by have h0 : (y 0).val < 1 := (y 0).isLt; show (y 0).val = 0; omega)
    | ⟨1, _⟩ => rfl
  refine (congrArg _ hy).trans ((Cert.ConvOutDxReferenceIdeal.Rd.r69 x0 x1 x2 x3 x4 (y 1)).trans ?_)
  exact Finset.sum_congr rfl fun r _ => (mul_comm _ _).trans (congrArg (· * _) (zrow_eq x0 x1 x2 x3 x4 hd r (y 1)))

theorem db_ref : val_main_v70 (F := Ideal) x0 x1 x2 x3 x4 = Val.db x0 x1 x2 x3 x4 := by
  funext y
  have hy : y = ix2 (0 : Fin 1) (y 1 : Fin 1024) := by
    funext a
    match a with
    | ⟨0, _⟩ => exact Fin.ext (by have h0 : (y 0).val < 1 := (y 0).isLt; show (y 0).val = 0; omega)
    | ⟨1, _⟩ => rfl
  refine (congrArg _ hy).trans ((Cert.ConvOutDxReferenceIdeal.Rd.r70 x0 x1 x2 x3 x4 (y 1)).trans ?_)
  exact Finset.sum_congr rfl fun r _ => zrow_eq x0 x1 x2 x3 x4 hd r (y 1)

include hg

theorem dh_ref : val_main_v68 (F := Ideal) x0 x1 x2 x3 x4 = Val.dh x0 x1 x2 x3 x4 := by
  funext y
  have hy : y = ix2 (y 0 : Fin 16384) (y 1 : Fin 1024) := by
    funext a
    match a with
    | ⟨0, _⟩ => rfl
    | ⟨1, _⟩ => rfl
  refine (congrArg _ hy).trans ((Cert.ConvOutDxReferenceIdeal.Rd.r68 x0 x1 x2 x3 x4 (y 0) (y 1)).trans ?_)
  exact dx_eq _ _ _ _ (hd (y 0)) hg (y 1)

end Cert.ConvOutDxEq
-- ==== Proof.XoVal.lean ====
/-
  The attention's output projection with the residual and the feed forward part's norm: the kernel's blocks, each a product
  on top of the residual, and their normed rows are the reference's.
-/
module

public import proofs.«01_k».proof.Proof.Gen.XoIdeal.Value
public import proofs.«01_k».proof.Proof.Gen.XoReferenceIdeal.Run
public import proofs.«01_k».proof.Proof.Gen.XoReferenceIdeal.Read
public import proofs.«01_k».proof.Proof.RmsSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.XoIdeal.Val

open Cert.XoIdeal Cert.XoIdeal.Gen Cert.RmsSpec

variable (m : (ℓ : Loc nD τ sig) → Buf (Elt Ideal) ℓ) (cc : Dev nD)

/-- A point's tile of the attention's outputs. -/
abbrev b0 (t : Fin cfg0.N) : FVec Ideal S1024x1024 .bf16 := iblk m cc 0 t
/-- The weights. -/
abbrev b1 (t : Fin cfg0.N) : FVec Ideal S1x1024x1024 .bf16 := iblk m cc 1 t
/-- A point's rows of the residual. -/
abbrev b2 (t : Fin cfg0.N) : FVec Ideal S1024x1024 .f32 := iblk m cc 2 t
/-- The gains. -/
abbrev b3 (t : Fin cfg0.N) : FVec Ideal S1x1024 .f32 := iblk m cc 3 t

/-- The product of a row and a column. -/
def share (x0 : FVec Ideal S1024x1024 .bf16) (x1 : FVec Ideal S1x1024x1024 .bf16) (i j : Fin 1024) : EReal :=
  ∑ k : Fin 1024, x0 (ix2 i k) * x1 (ix3 0 k j)

/-- A row normed and scaled by the gains. -/
def nrm (x g : Fin 1024 → EReal) (j : Fin 1024) : EReal := x j * rr x * g j

theorem pay1_eq (x0 : FVec Ideal S1024x1024 .bf16) (x1 : FVec Ideal S1x1024x1024 .bf16) (v : FVec Ideal S1024x1024 .f32) (i j : Fin 1024) :
    k0_pay1 (F := Ideal) x0 x1 v (ix2 i j) = share x0 x1 i j + v (ix2 i j) := by
  pointwise [k0_pay1]
  rfl

theorem pay2_eq (x0 : FVec Ideal S1024x1024 .bf16) (x1 : FVec Ideal S1x1024x1024 .bf16) (v : FVec Ideal S1024x1024 .f32)
    (g : FVec Ideal S1x1024 .f32) (i j : Fin 1024) :
    k0_pay2 (F := Ideal) x0 x1 v g (ix2 i j) = nrm (fun k => k0_pay1 (F := Ideal) x0 x1 v (ix2 i k)) (fun k => g (ix2 0 k)) j := by
  generalize hd : k0_pay1 (F := Ideal) x0 x1 v = d
  pointwise [k0_pay2, hd]
  rfl

/-! ## What a point leaves -/

theorem out4 (t : Fin cfg0.N) (i j : Fin 1024) :
    (dats m 0 cc).after 4 t (ix2 i j) = share (b0 m cc t) (b1 m cc t) i j + b2 m cc t (ix2 i j) := by
  rw [after0_4]
  refine Eq.trans ?_ (pay1_eq (b0 m cc t) (b1 m cc t) (b2 m cc t) i j)
  frame_out

theorem out5 (t : Fin cfg0.N) (i j : Fin 1024) : (dats m 0 cc).after 5 t (ix2 i j)
    = nrm (fun k => share (b0 m cc t) (b1 m cc t) i k + b2 m cc t (ix2 i k)) (fun k => b3 m cc t (ix2 0 k)) j := by
  rw [after0_5]
  refine Eq.trans ?_ ((pay2_eq (b0 m cc t) (b1 m cc t) (b2 m cc t) (b3 m cc t) i j).trans (congrArg (nrm · _ j) (funext (pay1_eq _ _ _ i))))
  frame_out

/-! ## The blocks as parts of the arrays -/

/-- The weights as the kernel is given them: the four shards' rows below each other. -/
theorem V_v3 (l : Fin 4) (n : Fin 1024) (k : Fin 1024) : (V m cc main_v3 : FVec Ideal S4x1024x1024 .bf16) (ix3 l n k)
    = (m ((cc : Thread nD τ).loc main_arg1) : FVec Ideal S4x1024x1024 .f32) (ix3 l n k) := by
  have e : (V m cc main_v3 : FVec Ideal S4x1024x1024 .bf16)
      = shapeCast S4x1024x1024 (shapeCast S4x4x256x1024 (truncf (F := Ideal) .bf16
          (m ((cc : Thread nD τ).loc main_arg1) : FVec Ideal S4x1024x1024 .f32) bitsLt_bf16_f32) shapeCasts_S4x1024x1024_S4x4x256x1024)
          shapeCasts_S4x4x256x1024_S4x1024x1024 := by
    dsimp only [V, hostOps0]
    after_results
    rfl
  rw [e]
  pointwise []

theorem V_v2 (k : Fin 1024) : (V m cc main_v2 : FVec Ideal S1x1024 .f32) (ix2 0 k)
    = (m ((cc : Thread nD τ).loc main_arg3) : FVec Ideal S1024 .f32) (ix1 k) := by
  have e : (V m cc main_v2 : FVec Ideal S1x1024 .f32)
      = broadcastInDim S1x1024 ![1] bcast_S1024_S1x1024_1 (m ((cc : Thread nD τ).loc main_arg3) : FVec Ideal S1024 .f32) := by
    dsimp only [V, hostOps0]
    after_results
  rw [e]
  pointwise []

theorem idx (t : Fin cfg0.N) : win0_0.index t = ![t.val, 0] ∧ win0_1.index t = ![0, 0, 0]
    ∧ win0_2.index t = ![t.val, 0] ∧ win0_3.index t = ![0, 0] ∧ win0_4.index t = ![t.val, 0] ∧ win0_5.index t = ![t.val, 0] := by
  revert t
  decide +kernel

/-- Row `i` of the block of rows a point works on. -/
abbrev row (t : Fin cfg0.N) (i : Fin 1024) : Fin 16384 :=
  ⟨t.val * 1024 + i.val, by have : t.val < 16 := lt_of_lt_of_eq t.isLt N_0; omega⟩

/-- The arguments as arrays. -/
abbrev A0 : FVec Ideal S16384x1024 .bf16 := m ((cc : Thread nD τ).loc main_arg0)
abbrev A1 : FVec Ideal S4x1024x1024 .f32 := m ((cc : Thread nD τ).loc main_arg1)
abbrev A2 : FVec Ideal S16384x1024 .f32 := m ((cc : Thread nD τ).loc main_arg2)
abbrev A3 : FVec Ideal S1024 .f32 := m ((cc : Thread nD τ).loc main_arg3)

theorem b0_eq (t : Fin cfg0.N) (i : Fin 1024) (k : Fin 1024) :
    b0 m cc t (ix2 i k) = A0 m cc (ix2 (row t i) k) := by
  unfold A0
  rw [← V_main_arg0 m cc]
  show iblk m cc 0 t (ix2 i k) = _
  blk_ext [iblk, idx t]

theorem b1_eq (t : Fin cfg0.N) (k : Fin 1024) (j : Fin 1024) :
    b1 m cc t (ix3 0 k j) = A1 m cc (ix3 0 k j) := by
  refine Eq.trans ?_ (V_v3 m cc 0 k j)
  show iblk m cc 1 t (ix3 0 k j) = _
  blk_ext [iblk, idx t]

theorem b2_eq (t : Fin cfg0.N) (i k : Fin 1024) : b2 m cc t (ix2 i k) = A2 m cc (ix2 (row t i) k) := by
  unfold A2
  rw [← V_main_arg2 m cc]
  show iblk m cc 2 t (ix2 i k) = _
  blk_ext [iblk, idx t]

theorem b3_eq (t : Fin cfg0.N) (k : Fin 1024) : b3 m cc t (ix2 0 k) = A3 m cc (ix1 k) := by
  refine Eq.trans ?_ (V_v2 m cc k)
  show iblk m cc 3 t (ix2 0 k) = _
  blk_ext [iblk, idx t]

/-! ## The whole arrays -/

section arrays

variable (x0 : FVec Ideal S16384x1024 .bf16) (x1 : FVec Ideal S4x1024x1024 .f32) (x2 : FVec Ideal S16384x1024 .f32) (x3 : FVec Ideal S1024 .f32)

/-- The residual with the product of row `r` and column `j` on top. -/
def sm (r : Fin 16384) (j : Fin 1024) : EReal := x2 (ix2 r j) + ∑ k : Fin 1024, x0 (ix2 r k) * x1 (ix3 0 k j)

/-- The first result. -/
def hh : S16384x1024.Idx → EReal := fun y => sm x0 x1 x2 (y 0) (y 1)

/-- The second: the first result's rows, normed. -/
def uu : S16384x1024.Idx → EReal := fun y => nrm (sm x0 x1 x2 (y 0)) (fun k => x3 (ix1 k)) (y 1)

theorem hh_at (y : S16384x1024.Idx) (r : Fin 16384) (j : Fin 1024) (e0 : (y 0).val = r.val) (e1 : (y 1).val = j.val) :
    hh x0 x1 x2 y = sm x0 x1 x2 r j := by
  have h0 : (y 0 : Fin 16384) = r := Fin.ext e0
  have h1 : (y 1 : Fin 1024) = j := Fin.ext e1
  unfold hh
  rw [← h0, ← h1]

theorem uu_at (y : S16384x1024.Idx) (r : Fin 16384) (j : Fin 1024) (e0 : (y 0).val = r.val) (e1 : (y 1).val = j.val) :
    uu x0 x1 x2 x3 y = nrm (sm x0 x1 x2 r) (fun k => x3 (ix1 k)) j := by
  have h0 : (y 0 : Fin 16384) = r := Fin.ext e0
  have h1 : (y 1 : Fin 1024) = j := Fin.ext e1
  unfold uu
  rw [← h0, ← h1]

end arrays

/-- What a point leaves, read from the arrays. -/
theorem sum_arr (t : Fin cfg0.N) (i j : Fin 1024) :
    share (b0 m cc t) (b1 m cc t) i j + b2 m cc t (ix2 i j) = sm (A0 m cc) (A1 m cc) (A2 m cc) (row t i) j := by
  unfold sm
  rw [add_comm, b2_eq m cc t i j]
  exact congrArg (_ + ·) (Finset.sum_congr rfl fun k _ => congrArg₂ (· * ·) (b0_eq m cc t i k) (b1_eq m cc t k j))

theorem out5_arr (t : Fin cfg0.N) (i j : Fin 1024) : (dats m 0 cc).after 5 t (ix2 i j)
    = nrm (sm (A0 m cc) (A1 m cc) (A2 m cc) (row t i)) (fun k => A3 m cc (ix1 k)) j := by
  rw [out5 m cc t i j,
    show (fun k => share (b0 m cc t) (b1 m cc t) i k + b2 m cc t (ix2 i k)) = sm (A0 m cc) (A1 m cc) (A2 m cc) (row t i) from funext (sum_arr m cc t i),
    show (fun k => b3 m cc t (ix2 0 k)) = fun k => A3 m cc (ix1 k) from funext (b3_eq m cc t)]

theorem final4 : (dats m 0 cc).arrAt 4 cfg0.N = hh (A0 m cc) (A1 m cc) (A2 m cc) := by
  refine (dats m 0 cc).arrAt_eq_of_covers 4 _ (by decide +kernel) fun t hf y => ?_
  have ht : t.val < 16 := lt_of_lt_of_eq t.isLt N_0
  have h0 : (y 0).val < 1024 := (y 0).isLt
  blk_simp
  have e0 : (((win0_4.blk t).view.emb y) 0).val = t.val * 1024 + (y 0).val := by blk_simp [idx t]
  have e1 : (((win0_4.blk t).view.emb y) 1).val = (y 1).val := by blk_simp [idx t]
  have hy : (fun a => y a) = ix2 (y 0 : Fin 1024) (y 1 : Fin 1024) := by
    funext a
    match a with
    | ⟨0, _⟩ => rfl
    | ⟨1, _⟩ => rfl
  refine Eq.trans ?_ (hh_at _ _ _ _ (row t (y 0)) (y 1) e0 e1).symm
  exact (congrArg _ hy).trans ((out4 m cc t (y 0) (y 1)).trans (sum_arr m cc t (y 0) (y 1)))

theorem final5 : (dats m 0 cc).arrAt 5 cfg0.N = uu (A0 m cc) (A1 m cc) (A2 m cc) (A3 m cc) := by
  refine (dats m 0 cc).arrAt_eq_of_covers 5 _ (by decide +kernel) fun t hf y => ?_
  have ht : t.val < 16 := lt_of_lt_of_eq t.isLt N_0
  have h0 : (y 0).val < 1024 := (y 0).isLt
  blk_simp
  have e0 : (((win0_5.blk t).view.emb y) 0).val = t.val * 1024 + (y 0).val := by blk_simp [idx t]
  have e1 : (((win0_5.blk t).view.emb y) 1).val = (y 1).val := by blk_simp [idx t]
  have hy : (fun a => y a) = ix2 (y 0 : Fin 1024) (y 1 : Fin 1024) := by
    funext a
    match a with
    | ⟨0, _⟩ => rfl
    | ⟨1, _⟩ => rfl
  refine Eq.trans ?_ (uu_at _ _ _ _ _ (row t (y 0)) (y 1) e0 e1).symm
  exact (congrArg _ hy).trans (out5_arr m cc t (y 0) (y 1))

/-! ## The reference -/

section ref

open Cert.XoReferenceIdeal.Read

variable (x0 : FVec Ideal S16384x1024 .bf16) (x1 : FVec Ideal S4x1024x1024 .f32) (x2 : FVec Ideal S16384x1024 .f32) (x3 : FVec Ideal S1024 .f32)

theorem ref_row (r : Fin 16384) (j : Fin 1024) : val_main_v4 (F := Ideal) x0 x1 x2 (ix2 r j) = sm x0 x1 x2 r j := by
  pointwise [val_main_v4, val_main_v3, val_main_v2, val_main_v1, val_main_v0]
  rfl

theorem ref_h : val_main_v4 (F := Ideal) x0 x1 x2 = hh x0 x1 x2 := by
  funext y
  rw [eq_ix2 y]
  exact ref_row x0 x1 x2 _ _

theorem ref_nrm (r : Fin 16384) (j : Fin 1024) : val_main_v18 (F := Ideal) x0 x1 x2 x3 (ix2 r j)
    = nrm (fun k => val_main_v4 (F := Ideal) x0 x1 x2 (ix2 r k)) (fun k => x3 (ix1 k)) j := by
  generalize hv : val_main_v4 (F := Ideal) x0 x1 x2 = v
  pointwise [val_main_v18, val_main_v17, val_main_v16, val_main_v15, val_main_v14, val_main_v13, val_main_v12, val_main_v11, val_main_v10,
    val_main_v9, val_main_v8, val_main_v7, val_main_v6, val_main_v5, val_main_cst, val_main_cst_0, val_main_cst_1, hv]
  rfl

theorem ref_u : val_main_v18 (F := Ideal) x0 x1 x2 x3 = uu x0 x1 x2 x3 := by
  funext y
  rw [eq_ix2 y]
  refine (ref_nrm x0 x1 x2 x3 _ _).trans ?_
  rw [show (fun k => val_main_v4 (F := Ideal) x0 x1 x2 (ix2 (y 0) k)) = sm x0 x1 x2 (y 0) from funext (ref_row x0 x1 x2 _)]
  rfl

end ref

end Cert.XoIdeal.Val
-- ==== Proof.AttnFwdVal.lean ====
/-
  The memory attention's forward call: for each of the four heads the softmax of the scaled scores against the 256 memory
  rows, times the values. The kernel works on tiles of 512 query rows and writes the four heads one after the other; its
  array is the reference's.
-/
module

public import proofs.«01_k».proof.Proof.AttnSpec
public import proofs.«01_k».proof.Proof.Gen.AttnFwdIdeal.Value
public import proofs.«01_k».proof.Proof.Gen.AttnFwdReferenceIdeal.Read

@[expose] public section

set_option maxRecDepth 16384

noncomputable section

open Idealize.ShloMosaic Idealize.ShloMosaic.TcCoe Idealize.SL.Sem

namespace Cert.AttnFwdIdeal.Val

open Cert.AttnFwdIdeal Cert.AttnFwdIdeal.Gen Cert.AttnSpec

/-- Column `d` of one head's result for a query row `q`: the attention weights times the values. -/
def av (q : Fin 256 → EReal) (k v : Fin 256 → Fin 256 → EReal) (d : Fin 256) : EReal := ∑ n, pr q k n * v n d

/-! ## The body -/

section Body

variable (k v : FVec Ideal S256x256 .f32) (q : FVec Ideal S512x256 .bf16)

/-- One head's result on a tile. -/
theorem pay2_eq (i : Fin 512) (d : Fin 256) : k0_pay2 (F := Ideal) k v q (ix2 i d)
    = av (fun e => q (ix2 i e)) (fun n e => k (ix2 n e)) (fun n e => v (ix2 n e)) d := by
  pointwise [k0_pay2]
  rfl

theorem pay6_eq : k0_pay6 (F := Ideal) (k0_pay3 v) (k0_pay4 k q) (k0_pay5 k q) = k0_pay2 (F := Ideal) k v q := rfl
theorem pay7_eq : k0_pay7 (F := Ideal) k v q = k0_pay2 (F := Ideal) k v q := rfl
theorem pay1_eq : k0_pay1 (F := Ideal) (k0_pay8 v) (k0_pay9 k q) (Scalar.ofBits .f32 0x3D800000#32) = k0_pay2 (F := Ideal) k v q := rfl

end Body

variable (x0 : FVec Ideal S512x1024 .bf16) (x1 : FVec Ideal S256x2048 .f32)

/-- Row `i` of head `h` of a tile of queries. -/
abbrev qb (h : Fin 4) (i : Fin 512) : Fin 256 → EReal := fun d => x0 (ix2 i (hcol h d))
/-- Head `h`'s keys. -/
abbrev kb (h : Fin 4) : Fin 256 → Fin 256 → EReal := fun n d => x1 (ix2 n (kcol h d))
/-- Head `h`'s values. -/
abbrev vb (h : Fin 4) : Fin 256 → Fin 256 → EReal := fun n d => x1 (ix2 n (vcol h d))

/-- Head `h`'s columns of a tile of queries. -/
def ldT {e : EltTy} (x : S512x1024.Idx → Elt Ideal e) (h : Fin 4) : S512x256.Idx → Elt Ideal e := fun i => x (ix2 (i 0) (hcol h (i 1)))
/-- Head `h`'s keys out of the joined block. -/
def ldK {e : EltTy} (x : S256x2048.Idx → Elt Ideal e) (h : Fin 4) : S256x256.Idx → Elt Ideal e := fun i => x (ix2 (i 0) (kcol h (i 1)))
/-- Head `h`'s values out of the joined block. -/
def ldV {e : EltTy} (x : S256x2048.Idx → Elt Ideal e) (h : Fin 4) : S256x256.Idx → Elt Ideal e := fun i => x (ix2 (i 0) (vcol h (i 1)))

theorem ldT0 (e : EltTy) (x : S512x1024.Idx → Elt Ideal e) :
    View.ld (Val := Elt Ideal) (e' := e) x (Rect.unit ![0, 0] ![512, 256] inb_S512x1024_S512x256_0_0) = ldT x 0 := by
  funext i
  refine congrArg x ?_
  funext a
  match a with
  | ⟨0, _⟩ => exact Fin.ext (by show 0 + 1 * (i 0).val = (i 0).val; omega)
  | ⟨1, _⟩ => exact Fin.ext (by show 0 + 1 * (i 1).val = 0 * 256 + (i 1).val; omega)
theorem ldK0 (e : EltTy) (x : S256x2048.Idx → Elt Ideal e) :
    View.ld (Val := Elt Ideal) (e' := e) x (Rect.unit ![0, 0] ![256, 256] inb_S256x2048_S256x256_0_0) = ldK x 0 := by
  funext i
  refine congrArg x ?_
  funext a
  match a with
  | ⟨0, _⟩ => exact Fin.ext (by show 0 + 1 * (i 0).val = (i 0).val; omega)
  | ⟨1, _⟩ => exact Fin.ext (by show 0 + 1 * (i 1).val = 0 * 256 + (i 1).val; omega)
theorem ldV0 (e : EltTy) (x : S256x2048.Idx → Elt Ideal e) :
    View.ld (Val := Elt Ideal) (e' := e) x (Rect.unit ![0, 1024] ![256, 256] inb_S256x2048_S256x256_0_1024) = ldV x 0 := by
  funext i
  refine congrArg x ?_
  funext a
  match a with
  | ⟨0, _⟩ => exact Fin.ext (by show 0 + 1 * (i 0).val = (i 0).val; omega)
  | ⟨1, _⟩ => exact Fin.ext (by show 1024 + 1 * (i 1).val = 1024 + (0 * 256 + (i 1).val); omega)
theorem ldT1 (e : EltTy) (x : S512x1024.Idx → Elt Ideal e) :
    View.ld (Val := Elt Ideal) (e' := e) x (Rect.unit ![0, 256] ![512, 256] inb_S512x1024_S512x256_0_256) = ldT x 1 := by
  funext i
  refine congrArg x ?_
  funext a
  match a with
  | ⟨0, _⟩ => exact Fin.ext (by show 0 + 1 * (i 0).val = (i 0).val; omega)
  | ⟨1, _⟩ => exact Fin.ext (by show 256 + 1 * (i 1).val = 1 * 256 + (i 1).val; omega)
theorem ldK1 (e : EltTy) (x : S256x2048.Idx → Elt Ideal e) :
    View.ld (Val := Elt Ideal) (e' := e) x (Rect.unit ![0, 256] ![256, 256] inb_S256x2048_S256x256_0_256) = ldK x 1 := by
  funext i
  refine congrArg x ?_
  funext a
  match a with
  | ⟨0, _⟩ => exact Fin.ext (by show 0 + 1 * (i 0).val = (i 0).val; omega)
  | ⟨1, _⟩ => exact Fin.ext (by show 256 + 1 * (i 1).val = 1 * 256 + (i 1).val; omega)
theorem ldV1 (e : EltTy) (x : S256x2048.Idx → Elt Ideal e) :
    View.ld (Val := Elt Ideal) (e' := e) x (Rect.unit ![0, 1280] ![256, 256] inb_S256x2048_S256x256_0_1280) = ldV x 1 := by
  funext i
  refine congrArg x ?_
  funext a
  match a with
  | ⟨0, _⟩ => exact Fin.ext (by show 0 + 1 * (i 0).val = (i 0).val; omega)
  | ⟨1, _⟩ => exact Fin.ext (by show 1280 + 1 * (i 1).val = 1024 + (1 * 256 + (i 1).val); omega)
theorem ldT2 (e : EltTy) (x : S512x1024.Idx → Elt Ideal e) :
    View.ld (Val := Elt Ideal) (e' := e) x (Rect.unit ![0, 512] ![512, 256] inb_S512x1024_S512x256_0_512) = ldT x 2 := by
  funext i
  refine congrArg x ?_
  funext a
  match a with
  | ⟨0, _⟩ => exact Fin.ext (by show 0 + 1 * (i 0).val = (i 0).val; omega)
  | ⟨1, _⟩ => exact Fin.ext (by show 512 + 1 * (i 1).val = 2 * 256 + (i 1).val; omega)
theorem ldK2 (e : EltTy) (x : S256x2048.Idx → Elt Ideal e) :
    View.ld (Val := Elt Ideal) (e' := e) x (Rect.unit ![0, 512] ![256, 256] inb_S256x2048_S256x256_0_512) = ldK x 2 := by
  funext i
  refine congrArg x ?_
  funext a
  match a with
  | ⟨0, _⟩ => exact Fin.ext (by show 0 + 1 * (i 0).val = (i 0).val; omega)
  | ⟨1, _⟩ => exact Fin.ext (by show 512 + 1 * (i 1).val = 2 * 256 + (i 1).val; omega)
theorem ldV2 (e : EltTy) (x : S256x2048.Idx → Elt Ideal e) :
    View.ld (Val := Elt Ideal) (e' := e) x (Rect.unit ![0, 1536] ![256, 256] inb_S256x2048_S256x256_0_1536) = ldV x 2 := by
  funext i
  refine congrArg x ?_
  funext a
  match a with
  | ⟨0, _⟩ => exact Fin.ext (by show 0 + 1 * (i 0).val = (i 0).val; omega)
  | ⟨1, _⟩ => exact Fin.ext (by show 1536 + 1 * (i 1).val = 1024 + (2 * 256 + (i 1).val); omega)
theorem ldT3 (e : EltTy) (x : S512x1024.Idx → Elt Ideal e) :
    View.ld (Val := Elt Ideal) (e' := e) x (Rect.unit ![0, 768] ![512, 256] inb_S512x1024_S512x256_0_768) = ldT x 3 := by
  funext i
  refine congrArg x ?_
  funext a
  match a with
  | ⟨0, _⟩ => exact Fin.ext (by show 0 + 1 * (i 0).val = (i 0).val; omega)
  | ⟨1, _⟩ => exact Fin.ext (by show 768 + 1 * (i 1).val = 3 * 256 + (i 1).val; omega)
theorem ldK3 (e : EltTy) (x : S256x2048.Idx → Elt Ideal e) :
    View.ld (Val := Elt Ideal) (e' := e) x (Rect.unit ![0, 768] ![256, 256] inb_S256x2048_S256x256_0_768) = ldK x 3 := by
  funext i
  refine congrArg x ?_
  funext a
  match a with
  | ⟨0, _⟩ => exact Fin.ext (by show 0 + 1 * (i 0).val = (i 0).val; omega)
  | ⟨1, _⟩ => exact Fin.ext (by show 768 + 1 * (i 1).val = 3 * 256 + (i 1).val; omega)
theorem ldV3 (e : EltTy) (x : S256x2048.Idx → Elt Ideal e) :
    View.ld (Val := Elt Ideal) (e' := e) x (Rect.unit ![0, 1792] ![256, 256] inb_S256x2048_S256x256_0_1792) = ldV x 3 := by
  funext i
  refine congrArg x ?_
  funext a
  match a with
  | ⟨0, _⟩ => exact Fin.ext (by show 0 + 1 * (i 0).val = (i 0).val; omega)
  | ⟨1, _⟩ => exact Fin.ext (by show 1792 + 1 * (i 1).val = 1024 + (3 * 256 + (i 1).val); omega)

/-- A tile's result at row `i`, head `h`, column `d`. -/
def rows (h : Fin 4) (i : Fin 512) (d : Fin 256) : EReal := av (qb x0 h i) (kb x1 h) (vb x1 h) d

theorem rows_eq (h : Fin 4) (x : S512x256.Idx) (y : S512x1024.Idx) (h0 : (y 0).val = (x 0).val) (h1 : (y 1).val = h.val * 256 + (x 1).val)
    (hh : (y 1).val / 256 < 4) (hd : (y 1).val % 256 < 256) :
    k0_pay2 (F := Ideal) (ldK x1 h) (ldV x1 h) (ldT x0 h) x = rows x0 x1 ⟨(y 1).val / 256, hh⟩ (y 0) ⟨(y 1).val % 256, hd⟩ := by
  have hx : (x 1).val < 256 := (x 1).isLt
  have e0 : (y 0 : Fin 512) = x 0 := Fin.ext h0
  have eh : (⟨(y 1).val / 256, hh⟩ : Fin 4) = h := Fin.ext (by dsimp only; omega)
  have ed : (⟨(y 1).val % 256, hd⟩ : Fin 256) = x 1 := Fin.ext (by dsimp only; omega)
  have ex : x = ix2 (x 0) (x 1) := by funext a; match a with | ⟨0, _⟩ => rfl | ⟨1, _⟩ => rfl
  rw [eh, ed]
  refine Eq.trans (congrArg _ ex) (Eq.trans (pay2_eq _ _ _ (x 0) (x 1)) ?_)
  unfold rows
  rw [show (y 0 : Fin 512) = x 0 from e0]
  rfl

theorem y1_lt (y : S512x1024.Idx) : (y 1).val < 1024 := (y 1).isLt

/-- The four stores of a point: head after head. -/
theorem out2 (y : S512x1024.Idx) : out0_2 (F := Ideal) x0 x1 y
    = rows x0 x1 ⟨(y 1).val / 256, by have := y1_lt y; omega⟩ (y 0) ⟨(y 1).val % 256, Nat.mod_lt _ (by decide)⟩ := by
  frame_out
  canon_tiles x h
  case piece0 => rw [pay1_eq, ldT3, ldK3, ldV3]; exact rows_eq _ _ 3 x y h0 h1 _ _
  case piece1 => rw [pay7_eq, ldT2, ldK2, ldV2]; exact rows_eq _ _ 2 x y h0 h1 _ _
  case piece2 => rw [pay6_eq, ldT1, ldK1, ldV1]; exact rows_eq _ _ 1 x y h0 h1 _ _
  case piece3 => rw [ldT0, ldK0, ldV0]; exact rows_eq _ _ 0 x y h0 (h1.trans (Nat.zero_add _).symm) _ _

/-! ## The array after the run -/

variable (m : (ℓ : Loc nD τ sig) → Buf (Elt Ideal) ℓ) (cc : Dev nD)

theorem idx (t : Fin cfg0.N) : win0_0.index t = ![t.val, 0] ∧ win0_1.index t = ![0, 0] ∧ win0_2.index t = ![t.val, 0] := by
  revert t
  decide +kernel

theorem row_lt (t : Fin cfg0.N) (i : Fin 512) : t.val * 512 + i.val < 16384 := by
  have ht : t.val < 32 := lt_of_lt_of_eq t.isLt N_0
  omega

variable (y0 : FVec Ideal S16384x1024 .bf16) (y1 : FVec Ideal S256x2048 .f32)

/-- Row `i` of head `h` of the queries. -/
abbrev qa (h : Fin 4) (i : Fin 16384) : Fin 256 → EReal := fun d => y0 (ix2 i (hcol h d))

theorem qb_eq (t : Fin cfg0.N) (h : Fin 4) (i : Fin 512) :
    qb (iblk m cc 0 t) h i = qa (m ((cc : Thread nD τ).loc main_arg0)) h ⟨t.val * 512 + i.val, row_lt t i⟩ := by
  funext d
  show iblk m cc 0 t (ix2 i (hcol h d)) = _
  blk_ext [iblk, V, idx t]

theorem kb_eq (t : Fin cfg0.N) (h : Fin 4) : kb (iblk m cc 1 t) h = kb (m ((cc : Thread nD τ).loc main_arg1)) h := by
  funext n d
  show iblk m cc 1 t (ix2 n (kcol h d)) = _
  blk_ext [iblk, V, idx t]

theorem vb_eq (t : Fin cfg0.N) (h : Fin 4) : vb (iblk m cc 1 t) h = vb (m ((cc : Thread nD τ).loc main_arg1)) h := by
  funext n d
  show iblk m cc 1 t (ix2 n (vcol h d)) = _
  blk_ext [iblk, V, idx t]

/-- The whole result: row by row, head by head. -/
def oA : S16384x1024.Idx → EReal := fun j =>
  av (qa y0 ⟨(j 1).val / 256, by have : (j 1).val < 1024 := (j 1).isLt; omega⟩ (j 0))
    (kb y1 ⟨(j 1).val / 256, by have : (j 1).val < 1024 := (j 1).isLt; omega⟩) (vb y1 ⟨(j 1).val / 256, by have : (j 1).val < 1024 := (j 1).isLt; omega⟩)
    ⟨(j 1).val % 256, Nat.mod_lt _ (by decide)⟩

theorem oA_at (j : S16384x1024.Idx) (h : Fin 4) (i : Fin 16384) (d : Fin 256) (e0 : (j 0).val = i.val) (e1 : (j 1).val = h.val * 256 + d.val) :
    oA y0 y1 j = av (qa y0 h i) (kb y1 h) (vb y1 h) d := by
  have e : j = ix2 i (hcol h d) := by
    funext a
    match a with
    | ⟨0, _⟩ => exact Fin.ext e0
    | ⟨1, _⟩ => exact Fin.ext e1
  subst e
  have eh : (⟨(h.val * 256 + d.val) / 256, by omega⟩ : Fin 4) = h := Fin.ext (by dsimp only; omega)
  have ed : (⟨(h.val * 256 + d.val) % 256, Nat.mod_lt _ (by decide)⟩ : Fin 256) = d := Fin.ext (by dsimp only; omega)
  show av (qa y0 ⟨(h.val * 256 + d.val) / 256, _⟩ i) (kb y1 ⟨(h.val * 256 + d.val) / 256, _⟩)
    (vb y1 ⟨(h.val * 256 + d.val) / 256, _⟩) ⟨(h.val * 256 + d.val) % 256, _⟩ = _
  rw [eh, ed]

theorem rows_at (t : Fin cfg0.N) (h : Fin 4) (i : Fin 512) (d : Fin 256) : rows (iblk m cc 0 t) (iblk m cc 1 t) h i d
    = av (qa (m ((cc : Thread nD τ).loc main_arg0)) h ⟨t.val * 512 + i.val, row_lt t i⟩)
      (kb (m ((cc : Thread nD τ).loc main_arg1)) h) (vb (m ((cc : Thread nD τ).loc main_arg1)) h) d := by
  unfold rows
  rw [qb_eq, kb_eq, vb_eq]

/-- The array the kernel leaves. -/
theorem final2 : (dats m 0 cc).arrAt 2 cfg0.N = oA (m ((cc : Thread nD τ).loc main_arg0)) (m ((cc : Thread nD τ).loc main_arg1)) := by
  refine (dats m 0 cc).arrAt_eq_of_covers 2 _ (by decide +kernel) fun t hf y => ?_
  blk_simp
  rw [after0_2, out2]
  have hlt := y1_lt y
  have e1 : (((win0_2.blk t).view.emb y) 1).val = (y 1).val := by blk_simp [idx t]
  have e0 : (((win0_2.blk t).view.emb y) 0).val = t.val * 512 + (y 0).val := by blk_simp [idx t]
  refine Eq.trans ?_ (oA_at _ _ _ ⟨(y 1).val / 256, by omega⟩ ⟨t.val * 512 + (y 0).val, row_lt t (y 0)⟩ ⟨(y 1).val % 256, Nat.mod_lt _ (by decide)⟩ e0
    (e1.trans (by dsimp only; omega))).symm
  exact rows_at m cc t _ (y 0) _

/-! ## The reference -/

section Ref

open Cert.AttnFwdReferenceIdeal.Read

theorem r1 (h : Fin 4) (i : Fin 16384) (d : Fin 256) : val_main_v1 (F := Ideal) y0 (ix4 0 i h d) = qa y0 h i d := by
  pointwise [val_main_v1, val_main_v0]

theorem r5 (h : Fin 4) (i : Fin 256) (d : Fin 256) : val_main_v5 (F := Ideal) y1 (ix4 0 i h d) = kb y1 h i d := by
  pointwise [val_main_v5, val_main_v3, val_main_v2]

theorem r6 (h : Fin 4) (i : Fin 256) (d : Fin 256) : val_main_v6 (F := Ideal) y1 (ix4 0 i h d) = vb y1 h i d := by
  pointwise [val_main_v6, val_main_v4, val_main_v2]

theorem r9 (h : Fin 4) (i : Fin 16384) (n : Fin 256) : val_main_v9 (F := Ideal) y0 y1 (ix4 0 h i n) = sc (qa y0 h i) (kb y1 h) n := by
  pointwise [val_main_v9, val_main_v7, val_main_v8, val_main_cst]
  simp only [r1, r5]; rfl

theorem r10 (h : Fin 4) (i : Fin 16384) : val_main_v10 (F := Ideal) y0 y1 (ix3 0 h i) = mx (qa y0 h i) (kb y1 h) := by
  pointwise [val_main_v10, val_main_cst_0]
  simp only [r9]; rfl

theorem r12 (h : Fin 4) (i : Fin 16384) : val_main_v12 (F := Ideal) y0 y1 (ix3 0 h i) = mx (qa y0 h i) (kb y1 h) := by
  rw [val_main_v12_apply, r10]
  refine Eq.trans (b := max ninf (mx (qa y0 h i) (kb y1 h))) rfl ?_
  rw [ninf_eq]
  exact max_eq_right bot_le

theorem r14 (h : Fin 4) (i : Fin 16384) (n : Fin 256) : val_main_v14 (F := Ideal) y0 y1 (ix4 0 h i n) = mx (qa y0 h i) (kb y1 h) := by
  rw [val_main_v14_apply, val_main_v13_apply, ← r12]
  congr 1
  funext a
  match a with
  | ⟨0, _⟩ => rfl
  | ⟨1, _⟩ => rfl
  | ⟨2, _⟩ => rfl

theorem r16 (h : Fin 4) (i : Fin 16384) (n : Fin 256) : val_main_v16 (F := Ideal) y0 y1 (ix4 0 h i n) = ex (qa y0 h i) (kb y1 h) n := by
  rw [val_main_v16_apply, val_main_v15_apply, r14, r9]
  rfl

theorem r18 (h : Fin 4) (i : Fin 16384) : val_main_v18 (F := Ideal) y0 y1 (ix4 0 h i 0) = zz (qa y0 h i) (kb y1 h) := by
  pointwise [val_main_v18, val_main_v17, val_main_cst_2]
  simp only [r16]; rfl

theorem r20 (h : Fin 4) (i : Fin 16384) (n : Fin 256) : val_main_v20 (F := Ideal) y0 y1 (ix4 0 h i n) = pr (qa y0 h i) (kb y1 h) n := by
  pointwise [val_main_v20, val_main_v19]
  simp only [r16, r18]; rfl

theorem r21 (h : Fin 4) (d : Fin 256) (i : Fin 16384) : val_main_v21 (F := Ideal) y0 y1 (ix4 0 h d i) = av (qa y0 h i) (kb y1 h) (vb y1 h) d := by
  pointwise [val_main_v21]
  simp only [r20, r6]
  exact Finset.sum_congr rfl fun n _ => mul_comm _ _

theorem split_hcol (h : Fin 4) (d : Fin 256) : (h.val * 256 + d.val) / 256 = h.val ∧ (h.val * 256 + d.val) % 256 = d.val := by
  have := d.isLt
  omega

theorem r24 (h : Fin 4) (i : Fin 16384) (d : Fin 256) : val_main_v24 (F := Ideal) y0 y1 (ix2 i (hcol h d)) = av (qa y0 h i) (kb y1 h) (vb y1 h) d := by
  pointwise [val_main_v24, val_main_v23, val_main_v22]
  simp only [(split_hcol h d).1, (split_hcol h d).2, Fin.eta, r21]

/-- The reference's array is the same function of the arguments. -/
theorem ref_eq : val_main_v24 (F := Ideal) y0 y1 = oA y0 y1 := by
  funext j
  have hj : (j 1).val < 1024 := (j 1).isLt
  have ej : j = ix2 (j 0) (hcol ⟨(j 1).val / 256, by omega⟩ ⟨(j 1).val % 256, Nat.mod_lt _ (by decide)⟩) := by
    funext a
    match a with
    | ⟨0, _⟩ => rfl
    | ⟨1, _⟩ => exact Fin.ext (by show (j 1).val = (j 1).val / 256 * 256 + (j 1).val % 256; omega)
  exact (congrArg (val_main_v24 (F := Ideal) y0 y1) ej).trans (r24 y0 y1 _ (j 0) _)

end Ref

end Cert.AttnFwdIdeal.Val
-- ==== Proof.UpDxVal.lean ====
/-
  The gradient of the feed forward part's first projection and of the norm before it: what the kernel's blocks hold. A block of
  1024 rows takes four points, one for each quarter of the 5632 columns; the last of the four norms the sum, adds the
  residual and counts the rows into the gradient of the gains.
-/
module

public import proofs.«01_k».proof.Proof.Gen.UpDxIdeal.Value
public import proofs.«01_k».proof.Proof.RmsSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.UpDxIdeal.Val

open Cert.UpDxIdeal Cert.UpDxIdeal.Gen Cert.RmsSpec

variable (m : (ℓ : Loc nD τ sig) → Buf (Elt Ideal) ℓ) (cc : Dev nD)

/-- A point's tile of incoming gradients. -/
abbrev b0 (t : Fin cfg0.N) : FVec Ideal S1024x1408 .bf16 := iblk m cc 0 t
/-- A point's shard of the weights. -/
abbrev b1 (t : Fin cfg0.N) : FVec Ideal S1x1x1024x1408 .bf16 := iblk m cc 1 t
/-- A point's rows of the norm's input. -/
abbrev b2 (t : Fin cfg0.N) : FVec Ideal S1024x1024 .f32 := iblk m cc 2 t
/-- The gains. -/
abbrev b3 (t : Fin cfg0.N) : FVec Ideal S1x1024 .f32 := iblk m cc 3 t
/-- A point's rows of the residual's gradient. -/
abbrev b4 (t : Fin cfg0.N) : FVec Ideal S1024x1024 .f32 := iblk m cc 4 t

/-- One shard's share of the product. -/
def prod (x0 : FVec Ideal S1024x1408 .bf16) (x1 : FVec Ideal S1x1x1024x1408 .bf16) (i j : Fin 1024) : EReal :=
  ∑ n : Fin 1408, x0 (ix2 i n) * x1 (ix4 0 0 j n)

theorem pay1_eq (x0 : FVec Ideal S1024x1408 .bf16) (x1 : FVec Ideal S1x1x1024x1408 .bf16) (i j : Fin 1024) :
    k0_pay1 (F := Ideal) x0 x1 (ix2 i j) = prod x0 x1 i j := by
  pointwise [k0_pay1]
  rfl

theorem pay2_eq (x0 : FVec Ideal S1024x1408 .bf16) (x1 : FVec Ideal S1x1x1024x1408 .bf16) (v : FVec Ideal S1024x1024 .f32) (i j : Fin 1024) :
    k0_pay2 (F := Ideal) x0 x1 v (ix2 i j) = v (ix2 i j) + prod x0 x1 i j := by
  pointwise [k0_pay2, k0_pay1]
  rfl

theorem pay4_eq (v3 v15 : FVec Ideal S1024x1024 .f32) (i j : Fin 1024) :
    k0_pay4 (F := Ideal) v3 v15 (ix2 i j) = v15 (ix2 i j) + v3 (ix2 i j) := by
  pointwise [k0_pay4]

theorem pay5_eq (h : FVec Ideal S1024x1024 .f32) (i : Fin 1024) :
    k0_pay5 (F := Ideal) h (ix2 i 0) = rr fun k => h (ix2 i k) := by
  pointwise [k0_pay5]
  rfl

theorem pay6_eq (v3 v15 h : FVec Ideal S1024x1024 .f32) (j : Fin 1024) :
    k0_pay6 (F := Ideal) v3 v15 h (ix2 0 j)
      = ∑ i : Fin 1024, (h (ix2 i j) * rr fun k => h (ix2 i k)) * k0_pay4 (F := Ideal) v3 v15 (ix2 i j) := by
  generalize hd : k0_pay4 (F := Ideal) v3 v15 = d
  have e := fun i => pay5_eq h i
  generalize hr : k0_pay5 (F := Ideal) h = r at e
  pointwise [k0_pay6, hd, hr]
  exact Finset.sum_congr rfl fun i _ => congrArg (h (ix2 i j) * · * d (ix2 i j)) (e i)

theorem pay7_eq (v3 v15 h x : FVec Ideal S1024x1024 .f32) (g : FVec Ideal S1x1024 .f32) (i j : Fin 1024) :
    k0_pay7 (F := Ideal) v3 v15 h g x (ix2 i j)
      = dx (fun k => h (ix2 i k)) (fun k => g (ix2 0 k)) (fun k => k0_pay4 (F := Ideal) v3 v15 (ix2 i k)) j + x (ix2 i j) := by
  generalize hd : k0_pay4 (F := Ideal) v3 v15 = d
  have e := pay5_eq h i
  generalize hr : k0_pay5 (F := Ideal) h = r at e
  pointwise [k0_pay7, hd, hr]
  unfold dx
  rw [← e]
  rfl

theorem pay3_eq (a b : FVec Ideal S1x1024 .f32) (j : Fin 1024) : k0_pay3 (F := Ideal) a b (ix2 0 j) = b (ix2 0 j) + a (ix2 0 j) := by
  pointwise [k0_pay3]

/-! ## What a point leaves -/

theorem lt1 (t : Fin cfg0.N) : t.val - 1 < cfg0.N := Nat.lt_of_le_of_lt (Nat.sub_le _ _) t.isLt

theorem out5_A (t : Fin cfg0.N) (h0 : t.val % 4 = 0) (i j : Fin 1024) :
    (outsAt0 m cc t.val t.isLt).1 (ix2 i j) = prod (b0 m cc t) (b1 m cc t) i j := by
  rw [outsAt0_A m cc t h0 (by omega) (by omega)]
  frame_out
  exact pay1_eq _ _ i j

theorem out5_B (t : Fin cfg0.N) (h1 : 1 ≤ t.val % 4 ∧ t.val % 4 ≤ 2) (i j : Fin 1024) :
    (outsAt0 m cc t.val t.isLt).1 (ix2 i j) = (outsAt0 m cc (t.val - 1) (lt1 t)).1 (ix2 i j) + prod (b0 m cc t) (b1 m cc t) i j := by
  rw [outsAt0_B m cc t (by omega) h1 (by omega)]
  frame_out
  exact pay2_eq _ _ _ i j

theorem out6_A (t : Fin cfg0.N) (h0 : t.val % 4 = 0) (h : 4 ≤ t.val) :
    (outsAt0 m cc t.val t.isLt).2 = (outsAt0 m cc (t.val - 1) (lt1 t)).2 := by
  rw [outsAt0_A m cc t h0 (by omega) (by omega)]
  frame_out
  rfl

theorem out6_B (t : Fin cfg0.N) (h1 : 1 ≤ t.val % 4 ∧ t.val % 4 ≤ 2) :
    (outsAt0 m cc t.val t.isLt).2 = (outsAt0 m cc (t.val - 1) (lt1 t)).2 := by
  rw [outsAt0_B m cc t (by omega) h1 (by omega)]
  frame_out
  rfl

/-- The product's sum over the shards so far, at a block's last point. -/
def tot (t : Fin cfg0.N) : FVec Ideal S1024x1024 .f32 :=
  k0_pay4 (F := Ideal) (k0_pay1 (F := Ideal) (b0 m cc t) (b1 m cc t)) (outsAt0 m cc (t.val - 1) (lt1 t)).1

theorem out5_last (t : Fin cfg0.N) (h : t.val % 4 = 3) (i j : Fin 1024) :
    (outsAt0 m cc t.val t.isLt).1 (ix2 i j)
      = dx (fun k => b2 m cc t (ix2 i k)) (fun k => b3 m cc t (ix2 0 k)) (fun k => tot m cc t (ix2 i k)) j + b4 m cc t (ix2 i j) := by
  by_cases h4 : t.val < 4
  · rw [outsAt0_C m cc t (by omega) (by omega) h h4 (by omega)]
    frame_out
    exact pay7_eq _ _ _ _ _ i j
  · rw [outsAt0_D m cc t (by omega) (by omega) h h4 (by omega)]
    frame_out
    exact pay7_eq _ _ _ _ _ i j

/-- A block's share of the gradient of the gains. -/
def gsh (t : Fin cfg0.N) (j : Fin 1024) : EReal :=
  ∑ i : Fin 1024, (b2 m cc t (ix2 i j) * rr fun k => b2 m cc t (ix2 i k)) * tot m cc t (ix2 i j)

theorem out6_C (t : Fin cfg0.N) (h : t.val = 3) (j : Fin 1024) : (outsAt0 m cc t.val t.isLt).2 (ix2 0 j) = gsh m cc t j := by
  rw [outsAt0_C m cc t (by omega) (by omega) (by omega) (by omega) (by omega)]
  frame_out
  exact pay6_eq _ _ _ j

theorem out6_D (t : Fin cfg0.N) (h : t.val % 4 = 3) (h4 : 4 ≤ t.val) (j : Fin 1024) :
    (outsAt0 m cc t.val t.isLt).2 (ix2 0 j) = (outsAt0 m cc (t.val - 1) (lt1 t)).2 (ix2 0 j) + gsh m cc t j := by
  rw [outsAt0_D m cc t (by omega) (by omega) h (by omega) h4]
  frame_out
  refine (pay3_eq _ _ j).trans (congrArg (_ + ·) (pay6_eq _ _ _ j))

/-! ## The blocks as parts of the arrays -/

/-- The weights as the kernel is given them: one layer's columns split into four shards. -/
theorem V_v2 (l n : Fin 4) (j : Fin 1024) (k : Fin 1408) : (V m cc main_v2 : FVec Ideal S4x4x1024x1408 .bf16) (ix4 l n j k)
    = (m ((cc : Thread nD τ).loc main_arg1) : FVec Ideal S4x1024x5632 .f32) (ix3 l j ⟨n.val * 1408 + k.val, by omega⟩) := by
  have e : (V m cc main_v2 : FVec Ideal S4x4x1024x1408 .bf16)
      = transpose S4x4x1024x1408 [0, 2, 1, 3] (shapeCast S4x1024x4x1408 (truncf (F := Ideal) .bf16
          (m ((cc : Thread nD τ).loc main_arg1) : FVec Ideal S4x1024x5632 .f32) bitsLt_bf16_f32) shapeCasts_S4x1024x5632_S4x1024x4x1408)
          transposes_S4x1024x4x1408_S4x4x1024x1408_0_2_1_3 := by
    after_results
    rfl
  rw [e]
  pointwise []

theorem V_v3 (k : Fin 1024) : (V m cc main_v3 : FVec Ideal S1x1024 .f32) (ix2 0 k)
    = (m ((cc : Thread nD τ).loc main_arg3) : FVec Ideal S1024 .f32) (ix1 k) := by
  have e : (V m cc main_v3 : FVec Ideal S1x1024 .f32)
      = broadcastInDim S1x1024 ![1] bcast_S1024_S1x1024_1 (m ((cc : Thread nD τ).loc main_arg3) : FVec Ideal S1024 .f32) := by
    after_results
    rfl
  rw [e]
  pointwise []

theorem idx (t : Fin cfg0.N) : win0_0.index t = ![t.val / 4, t.val % 4] ∧ win0_1.index t = ![0, t.val % 4, 0, 0]
    ∧ win0_2.index t = ![t.val / 4, 0] ∧ win0_3.index t = ![0, 0] ∧ win0_4.index t = ![t.val / 4, 0]
    ∧ win0_5.index t = ![t.val / 4, 0] ∧ win0_6.index t = ![0, 0] := by
  revert t
  decide +kernel

/-- Row `i` of the block of rows a point works on. -/
abbrev row (t : Fin cfg0.N) (i : Fin 1024) : Fin 16384 :=
  ⟨t.val / 4 * 1024 + i.val, by have : t.val < 64 := lt_of_lt_of_eq t.isLt N_0; omega⟩

theorem b0_eq (t : Fin cfg0.N) (i : Fin 1024) (n : Fin 1408) :
    b0 m cc t (ix2 i n) = (m ((cc : Thread nD τ).loc main_arg0) : FVec Ideal S16384x5632 .bf16) (ix2 (row t i) ⟨t.val % 4 * 1408 + n.val, by omega⟩) := by
  rw [← V_main_arg0 m cc]
  show iblk m cc 0 t (ix2 i n) = _
  blk_ext [iblk, idx t]

theorem b1_eq (t : Fin cfg0.N) (j : Fin 1024) (n : Fin 1408) :
    b1 m cc t (ix4 0 0 j n) = (m ((cc : Thread nD τ).loc main_arg1) : FVec Ideal S4x1024x5632 .f32) (ix3 0 j ⟨t.val % 4 * 1408 + n.val, by omega⟩) := by
  rw [← V_v2 m cc 0 ⟨t.val % 4, by omega⟩ j n]
  show iblk m cc 1 t (ix4 0 0 j n) = _
  blk_ext [iblk, idx t]

theorem b2_eq (t : Fin cfg0.N) (i k : Fin 1024) :
    b2 m cc t (ix2 i k) = (m ((cc : Thread nD τ).loc main_arg2) : FVec Ideal S16384x1024 .f32) (ix2 (row t i) k) := by
  rw [← V_main_arg2 m cc]
  show iblk m cc 2 t (ix2 i k) = _
  blk_ext [iblk, idx t]

theorem b3_eq (t : Fin cfg0.N) (k : Fin 1024) :
    b3 m cc t (ix2 0 k) = (m ((cc : Thread nD τ).loc main_arg3) : FVec Ideal S1024 .f32) (ix1 k) := by
  rw [← V_v3 m cc k]
  show iblk m cc 3 t (ix2 0 k) = _
  blk_ext [iblk, idx t]

theorem b4_eq (t : Fin cfg0.N) (i k : Fin 1024) :
    b4 m cc t (ix2 i k) = (m ((cc : Thread nD τ).loc main_arg4) : FVec Ideal S16384x1024 .f32) (ix2 (row t i) k) := by
  rw [← V_main_arg4 m cc]
  show iblk m cc 4 t (ix2 i k) = _
  blk_ext [iblk, idx t]

/-! ## The whole arrays -/

section arrays

variable (p : FVec Ideal S16384x5632 .bf16) (w : FVec Ideal S4x1024x5632 .f32) (h : FVec Ideal S16384x1024 .f32)
  (g : FVec Ideal S1024 .f32) (e : FVec Ideal S16384x1024 .f32)

/-- The gradient behind the gains: row `r` of the incoming gradient against row `j` of the first layer's weights. -/
def du (r : Fin 16384) (j : Fin 1024) : EReal := ∑ n : Fin 5632, p (ix2 r n) * w (ix3 0 j n)

/-- The gradient of the norm's input, with the residual's. -/
def dh : S16384x1024.Idx → EReal := fun y =>
  dx (fun k => h (ix2 (y 0) k)) (fun k => g (ix1 k)) (du p w (y 0)) (y 1) + e (ix2 (y 0) (y 1))

/-- The gradient of the gains. -/
def dg : S1x1024.Idx → EReal := fun y =>
  ∑ r : Fin 16384, (h (ix2 r (y 1)) * rr fun k => h (ix2 r k)) * du p w r (y 1)

theorem dh_at (y : S16384x1024.Idx) (r : Fin 16384) (j : Fin 1024) (e0 : (y 0).val = r.val) (e1 : (y 1).val = j.val) :
    dh p w h g e y = dx (fun k => h (ix2 r k)) (fun k => g (ix1 k)) (du p w r) j + e (ix2 r j) := by
  have h0 : (y 0 : Fin 16384) = r := Fin.ext e0
  have h1 : (y 1 : Fin 1024) = j := Fin.ext e1
  unfold dh
  rw [← h0, ← h1]

theorem dg_at (y : S1x1024.Idx) (j : Fin 1024) (e1 : (y 1).val = j.val) :
    dg p w h y = ∑ r : Fin 16384, (h (ix2 r j) * rr fun k => h (ix2 r k)) * du p w r j := by
  have h1 : (y 1 : Fin 1024) = j := Fin.ext e1
  unfold dg
  rw [← h1]

end arrays

/-- The arguments as arrays. -/
abbrev P : FVec Ideal S16384x5632 .bf16 := m ((cc : Thread nD τ).loc main_arg0)
abbrev W : FVec Ideal S4x1024x5632 .f32 := m ((cc : Thread nD τ).loc main_arg1)
abbrev H : FVec Ideal S16384x1024 .f32 := m ((cc : Thread nD τ).loc main_arg2)
abbrev G : FVec Ideal S1024 .f32 := m ((cc : Thread nD τ).loc main_arg3)
abbrev E : FVec Ideal S16384x1024 .f32 := m ((cc : Thread nD τ).loc main_arg4)

/-- At a block's last point the four shards make the whole product. -/
theorem tot_eq (t : Fin cfg0.N) (h : t.val % 4 = 3) (i j : Fin 1024) : tot m cc t (ix2 i j) = du (P m cc) (W m cc) (row t i) j := by
  have ht : t.val < 64 := lt_of_lt_of_eq t.isLt N_0
  have hN : cfg0.N = 64 := N_0
  refine (pay4_eq _ _ i j).trans ?_
  rw [pay1_eq]
  have s2 := out5_B m cc ⟨t.val - 1, by omega⟩ (by dsimp only; omega) i j
  have s1 := out5_B m cc ⟨t.val - 1 - 1, by omega⟩ (by dsimp only; omega) i j
  have s0 := out5_A m cc ⟨t.val - 1 - 1 - 1, by omega⟩ (by dsimp only; omega) i j
  dsimp only at s0 s1 s2
  rw [s2, s1, s0]
  have key : (∑ s : Fin 4, ∑ n : Fin 1408, P m cc (ix2 (row t i) ⟨s.val * 1408 + n.val, by omega⟩) * W m cc (ix3 0 j ⟨s.val * 1408 + n.val, by omega⟩))
      = du (P m cc) (W m cc) (row t i) j := by
    unfold du
    exact Fin.sum_mul_add_congr fun s n hl => rfl
  rw [← key, Fin.sum_univ_four]
  have one : ∀ (u : Fin cfg0.N) (s : Fin 4), u.val / 4 = t.val / 4 → u.val % 4 = s.val → prod (b0 m cc u) (b1 m cc u) i j
      = ∑ n : Fin 1408, P m cc (ix2 (row t i) ⟨s.val * 1408 + n.val, by omega⟩) * W m cc (ix3 0 j ⟨s.val * 1408 + n.val, by omega⟩) := by
    intro u s e1 e2
    refine Finset.sum_congr rfl fun n _ => congrArg₂ (· * ·) ((b0_eq m cc u i n).trans (congrArg _ (congrArg₂ ix2 (Fin.ext ?_) (Fin.ext ?_))))
      ((b1_eq m cc u j n).trans (congrArg _ (congrArg (ix3 0 j) (Fin.ext ?_))))
    · dsimp only; rw [e1]
    · dsimp only; rw [e2]
    · dsimp only; rw [e2]
  exact congrArg₂ (· + ·) (congrArg₂ (· + ·) (congrArg₂ (· + ·)
    (one _ 0 (by dsimp only; omega) (by show (t.val - 1 - 1 - 1) % 4 = 0; omega)) (one _ 1 (by dsimp only; omega) (by show (t.val - 1 - 1) % 4 = 1; omega)))
    (one _ 2 (by dsimp only; omega) (by show (t.val - 1) % 4 = 2; omega))) (one t 3 rfl h)

/-- What a block's last point leaves, read from the arrays. -/
theorem out5_arr (t : Fin cfg0.N) (h3 : t.val % 4 = 3) (i j : Fin 1024) : (outsAt0 m cc t.val t.isLt).1 (ix2 i j)
    = dx (fun k => H m cc (ix2 (row t i) k)) (fun k => G m cc (ix1 k)) (du (P m cc) (W m cc) (row t i)) j + E m cc (ix2 (row t i) j) := by
  rw [out5_last m cc t h3 i j, b4_eq m cc t i j, show (fun k => b2 m cc t (ix2 i k)) = fun k => H m cc (ix2 (row t i) k) from funext (b2_eq m cc t i),
    show (fun k => b3 m cc t (ix2 0 k)) = fun k => G m cc (ix1 k) from funext (b3_eq m cc t),
    show (fun k => tot m cc t (ix2 i k)) = du (P m cc) (W m cc) (row t i) from funext (tot_eq m cc t h3 i)]

theorem final5 : (dats m 0 cc).arrAt 5 cfg0.N = dh (P m cc) (W m cc) (H m cc) (G m cc) (E m cc) := by
  refine (dats m 0 cc).arrAt_eq_of_covers 5 _ (by decide +kernel) fun t hf y => ?_
  have ht : t.val < 64 := lt_of_lt_of_eq t.isLt N_0
  have h3 : t.val % 4 = 3 := (flush0_5 t).mp hf
  have h0 : (y 0).val < 1024 := (y 0).isLt
  have h1 : (y 1).val < 1024 := (y 1).isLt
  blk_simp
  rw [after0_5]
  have e0 : (((win0_5.blk t).view.emb y) 0).val = t.val / 4 * 1024 + (y 0).val := by blk_simp [idx t]
  have e1 : (((win0_5.blk t).view.emb y) 1).val = (y 1).val := by blk_simp [idx t]
  have hy : (fun a => y a) = ix2 (y 0 : Fin 1024) (y 1 : Fin 1024) := by
    funext a
    match a with
    | ⟨0, _⟩ => rfl
    | ⟨1, _⟩ => rfl
  refine Eq.trans ?_ (dh_at _ _ _ _ _ _ (row t (y 0)) (y 1) e0 e1).symm
  exact (congrArg _ hy).trans (out5_arr m cc t h3 (y 0) (y 1))

/-- A block's share of the gains' gradient, read from the arrays. -/
theorem gsh_eq (t : Fin cfg0.N) (h : t.val % 4 = 3) (j : Fin 1024) :
    gsh m cc t j = ∑ i : Fin 1024, (H m cc (ix2 (row t i) j) * rr fun k => H m cc (ix2 (row t i) k)) * du (P m cc) (W m cc) (row t i) j := by
  unfold gsh
  simp only [b2_eq m cc t, tot_eq m cc t h]

/-- The last point of block `s`. -/
abbrev lastp (s : Nat) (h : s < 16) : Fin cfg0.N := ⟨4 * s + 3, by have : cfg0.N = 64 := N_0; omega⟩

/-- After block `k` the gains' gradient counts the blocks up to it. -/
theorem acc6 (j : Fin 1024) (k : Nat) (hk : k < 16) :
    (outsAt0 m cc (lastp k hk).val (lastp k hk).isLt).2 (ix2 0 j) = ∑ s : Fin (k + 1), gsh m cc (lastp s.val (by omega)) j := by
  have hN : cfg0.N = 64 := N_0
  induction k with
  | zero =>
    rw [out6_C m cc (lastp 0 hk) rfl j]
    exact (Fin.sum_univ_one fun s : Fin 1 => gsh m cc (lastp s.val (by omega)) j).symm
  | succ k ih =>
    rw [Fin.sum_univ_castSucc, out6_D m cc (lastp (k + 1) hk) (by dsimp only; omega) (by dsimp only; omega) j]
    refine congrArg₂ (· + ·) ?_ rfl
    have s2 := out6_B m cc ⟨4 * (k + 1) + 3 - 1, by omega⟩ (by dsimp only; omega)
    have s1 := out6_B m cc ⟨4 * (k + 1) + 3 - 1 - 1, by omega⟩ (by dsimp only; omega)
    have s0 := out6_A m cc ⟨4 * (k + 1) + 3 - 1 - 1 - 1, by omega⟩ (by dsimp only; omega) (by dsimp only; omega)
    dsimp only at s0 s1 s2
    dsimp only
    rw [s2, s1, s0]
    exact ih (by omega)

theorem acc6_last (j : Fin 1024) (t : Fin cfg0.N) (h : t.val = 63) :
    (outsAt0 m cc t.val t.isLt).2 (ix2 0 j) = ∑ s : Fin 16, gsh m cc (lastp s.val s.isLt) j := by
  have e : t = lastp 15 (by decide) := Fin.ext (by rw [h])
  rw [e]
  exact acc6 m cc j 15 (by decide)

theorem final6 : (dats m 0 cc).arrAt 6 cfg0.N = dg (P m cc) (W m cc) (H m cc) := by
  refine (dats m 0 cc).arrAt_eq_of_covers 6 _ (by decide +kernel) fun t hf y => ?_
  have ht : t.val < 64 := lt_of_lt_of_eq t.isLt N_0
  have h3 : t.val % 64 = 63 := (flush0_6 t).mp hf
  have h0 : (y 0).val < 1 := (y 0).isLt
  have h1 : (y 1).val < 1024 := (y 1).isLt
  blk_simp
  rw [after0_6]
  have e1 : (((win0_6.blk t).view.emb y) 1).val = (y 1).val := by blk_simp [idx t]
  have hy : (fun a => y a) = ix2 (0 : Fin 1) (y 1 : Fin 1024) := by
    funext a
    match a with
    | ⟨0, _⟩ => exact Fin.ext (by show (y 0).val = 0; omega)
    | ⟨1, _⟩ => rfl
  refine Eq.trans ?_ (dg_at _ _ _ _ (y 1) e1).symm
  refine (congrArg _ hy).trans ((acc6_last m cc (y 1) t (by omega)).trans ?_)
  refine (Finset.sum_congr rfl fun s _ => gsh_eq m cc (lastp s.val s.isLt) (by dsimp only; omega) (y 1)).trans ?_
  refine Fin.sum_mul_add_congr fun s i hl => ?_
  have er : row (lastp s.val s.isLt) i = ⟨s.val * 1024 + i.val, hl⟩ := Fin.ext (by dsimp only; omega)
  rw [er]

end Cert.UpDxIdeal.Val
-- ==== Proof.UpDxRef.lean ====
/-
  The reference's gradient of the norm and the projection, read row by row.
-/
module

public import proofs.«01_k».proof.Proof.Gen.UpDxReferenceIdeal.Run
public import proofs.«01_k».proof.Proof.Gen.UpDxReferenceIdeal.Read
public import proofs.«01_k».proof.Proof.RmsSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.UpDxReferenceIdeal.Rd

open Cert.UpDxReferenceIdeal Cert.UpDxReferenceIdeal.Read Cert.RmsSpec

variable (x0 : FVec Ideal S16384x5632 .bf16) (x1 : FVec Ideal S4x1024x5632 .f32) (x2 : FVec Ideal S16384x1024 .f32)
  (x3 : FVec Ideal S1024 .f32) (x4 : FVec Ideal S16384x1024 .f32)

/-- The gradient behind the gains. -/
def du (r : Fin 16384) (j : Fin 1024) : EReal := ∑ n : Fin 5632, x0 (ix2 r n) * x1 (ix3 0 j n)
/-- A row of the norm's input. -/
abbrev hrow (r : Fin 16384) : Fin 1024 → EReal := fun k => x2 (ix2 r k)
/-- The gains. -/
abbrev grow : Fin 1024 → EReal := fun k => x3 (ix1 k)

theorem r6 (r : Fin 16384) : val_main_v6 (F := Ideal) x2 (ix2 r 0) = ms (hrow x2 r) := by
  pointwise [val_main_v6, val_main_v5, val_main_v4, val_main_v3, val_main_v2, val_main_v1, val_main_v0, val_main_cst, val_main_cst_0, val_main_cst_1]
  rfl

theorem r7 (r : Fin 16384) : val_main_v7 (F := Ideal) x2 (ix2 r 0) = rr (hrow x2 r) :=
  congrArg Ideal.rsqrt (r6 x2 r)

theorem r10 (r : Fin 16384) : val_main_v10 (F := Ideal) x2 (ix2 r 0) = nhalf * Ideal.div (rr (hrow x2 r)) (ms (hrow x2 r)) := by
  rw [← r7, ← r6]
  generalize hv : val_main_v7 (F := Ideal) x2 = v
  generalize hw : val_main_v6 (F := Ideal) x2 = w
  pointwise [val_main_v10, val_main_v9, val_main_v8, val_main_cst_2, hv, hw]

theorem r12 (r : Fin 16384) (j : Fin 1024) : val_main_v12 (F := Ideal) x2 (ix2 r j) = x2 (ix2 r j) * rr (hrow x2 r) := by
  rw [← r7]
  generalize hv : val_main_v7 (F := Ideal) x2 = v
  pointwise [val_main_v12, val_main_v11, hv]

theorem r20 (r : Fin 16384) (j : Fin 1024) : val_main_v20 (F := Ideal) x0 x1 (ix2 r j) = du x0 x1 r j := by
  pointwise [val_main_v20, val_main_v19, val_main_v17, val_main_v16]
  rfl

theorem r25 (r : Fin 16384) (j : Fin 1024) : val_main_v25 (F := Ideal) x0 x1 x3 (ix2 r j) = du x0 x1 r j * x3 (ix1 j) := by
  rw [← r20]
  generalize hv : val_main_v20 (F := Ideal) x0 x1 = v
  pointwise [val_main_v25, val_main_v24, val_main_v13, hv]

theorem r29 (r : Fin 16384) : val_main_v29 (F := Ideal) x0 x1 x2 x3 (ix2 r 0) = ∑ k : Fin 1024, x2 (ix2 r k) * (du x0 x1 r k * x3 (ix1 k)) := by
  have e := fun k => r25 x0 x1 x3 r k
  generalize hv : val_main_v25 (F := Ideal) x0 x1 x3 = v at e
  pointwise [val_main_v29, val_main_v28, val_main_v27, val_main_cst_5, hv]
  exact Finset.sum_congr rfl fun k _ => congrArg (x2 (ix2 r k) * ·) (e k)

theorem r36 (r : Fin 16384) (j : Fin 1024) : val_main_v36 (F := Ideal) x0 x1 x2 x3 (ix2 r j) = tt (hrow x2 r) (grow x3) (du x0 x1 r) := by
  unfold tt
  rw [← r10, ← r29]
  generalize hv : val_main_v29 (F := Ideal) x0 x1 x2 x3 = v
  generalize hw : val_main_v10 (F := Ideal) x2 = w
  pointwise [val_main_v36, val_main_v35, val_main_v34, val_main_v33, val_main_v32, val_main_cst_6, val_main_cst_7, hv, hw]
  exact Fin.sum_univ_one _

theorem r41 (r : Fin 16384) (j : Fin 1024) :
    val_main_v41 (F := Ideal) x0 x1 x2 x3 x4 (ix2 r j) = x4 (ix2 r j) + dx' (hrow x2 r) (grow x3) (du x0 x1 r) j := by
  unfold dx'
  rw [← r36 x0 x1 x2 x3 r j, ← r25, ← r7]
  generalize hv : val_main_v36 (F := Ideal) x0 x1 x2 x3 = v
  generalize hw : val_main_v25 (F := Ideal) x0 x1 x3 = w
  generalize hz : val_main_v7 (F := Ideal) x2 = z
  pointwise [val_main_v41, val_main_v40, val_main_v39, val_main_v38, val_main_v37, val_main_v31, val_main_v30, hv, hw, hz]

/-- … in closed form. -/
theorem r41_closed (r : Fin 16384) (j : Fin 1024) :
    val_main_v41 (F := Ideal) x0 x1 x2 x3 x4 (ix2 r j) = dx (hrow x2 r) (grow x3) (du x0 x1 r) j + x4 (ix2 r j) := by
  rw [r41, dx'_eq, add_comm]

theorem r42 (j : Fin 1024) :
    val_main_v42 (F := Ideal) x0 x1 x2 (ix2 0 j) = ∑ r : Fin 16384, (x2 (ix2 r j) * rr (hrow x2 r)) * du x0 x1 r j := by
  have e := fun r => r20 x0 x1 r j
  have e' := fun r => r12 x2 r j
  generalize hv : val_main_v20 (F := Ideal) x0 x1 = v at e
  generalize hw : val_main_v12 (F := Ideal) x2 = w at e'
  pointwise [val_main_v42, val_main_v26, val_main_v23, val_main_v22, val_main_v21, val_main_cst_3, val_main_cst_4, hv, hw]
  refine Eq.trans (Fin.sum_univ_one _) ?_
  exact Finset.sum_congr rfl fun r _ => congrArg₂ (· * ·) (e' r) (e r)

end Cert.UpDxReferenceIdeal.Rd
-- ==== Proof.UpDxEq.lean ====
/-
  The gradient of the feed forward part's first projection and of the norm before it: the kernel's two arrays are the reference's.
-/
module

public import proofs.«01_k».proof.Proof.UpDxVal
public import proofs.«01_k».proof.Proof.UpDxRef

@[expose] public section

set_option maxRecDepth 16384

noncomputable section

open Idealize.ShloMosaic Idealize.ShloMosaic.TcCoe Idealize.SL.Sem

namespace Cert.UpDxEq

open Cert.UpDxIdeal Cert.RmsSpec Cert.UpDxReferenceIdeal.Read

variable (x0 : FVec Ideal S16384x5632 .bf16) (x1 : FVec Ideal S4x1024x5632 .f32) (x2 : FVec Ideal S16384x1024 .f32)
  (x3 : FVec Ideal S1024 .f32) (x4 : FVec Ideal S16384x1024 .f32)

theorem dh_ref : val_main_v41 (F := Ideal) x0 x1 x2 x3 x4 = Val.dh x0 x1 x2 x3 x4 := by
  funext y
  have hy : y = ix2 (y 0 : Fin 16384) (y 1 : Fin 1024) := by
    funext a
    match a with
    | ⟨0, _⟩ => rfl
    | ⟨1, _⟩ => rfl
  exact (congrArg _ hy).trans (Cert.UpDxReferenceIdeal.Rd.r41_closed x0 x1 x2 x3 x4 (y 0) (y 1))

theorem dg_ref : val_main_v42 (F := Ideal) x0 x1 x2 = Val.dg x0 x1 x2 := by
  funext y
  have hy : y = ix2 (0 : Fin 1) (y 1 : Fin 1024) := by
    funext a
    match a with
    | ⟨0, _⟩ => exact Fin.ext (by have h0 : (y 0).val < 1 := (y 0).isLt; show (y 0).val = 0; omega)
    | ⟨1, _⟩ => rfl
  exact (congrArg _ hy).trans (Cert.UpDxReferenceIdeal.Rd.r42 x0 x1 x2 (y 1))

end Cert.UpDxEq
-- ==== Proof.UpDwVal.lean ====
/-
  The gradient of the feed forward part's first projection by its weights: the kernel's blocks, each the sum over the eight tiles
  of 2048 rows, are the reference's product, cut into the four shards.
-/
module

public import proofs.«01_k».proof.Proof.Gen.UpDwIdeal.Value
public import proofs.«01_k».proof.Proof.Gen.UpDwReferenceIdeal.Run
public import proofs.«01_k».proof.Proof.Gen.UpDwReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.UpDwIdeal.Val

open Cert.UpDwIdeal Cert.UpDwIdeal.Gen

variable (m : (ℓ : Loc nD τ sig) → Buf (Elt Ideal) ℓ) (cc : Dev nD)

/-- A point's tile of activations. -/
abbrev b0 (t : Fin cfg0.N) : FVec Ideal S2048x1024 .bf16 := iblk m cc 0 t
/-- A point's tile of incoming gradients. -/
abbrev b1 (t : Fin cfg0.N) : FVec Ideal S2048x1408 .bf16 := iblk m cc 1 t

/-- One tile's share of a block. -/
def share (x0 : FVec Ideal S2048x1024 .bf16) (x1 : FVec Ideal S2048x1408 .bf16) (y : S1x1x1024x1408.Idx) : EReal :=
  ∑ i : Fin 2048, x0 (ix2 i (y 2)) * x1 (ix2 i (y 3))

theorem pay2_eq (x0 : FVec Ideal S2048x1024 .bf16) (x1 : FVec Ideal S2048x1408 .bf16) (y : S1x1x1024x1408.Idx) :
    k0_pay2 (F := Ideal) x0 x1 y = share x0 x1 y := by
  pointwise [k0_pay2, k0_pay1]
  rfl

theorem pay3_eq (x0 : FVec Ideal S2048x1024 .bf16) (x1 : FVec Ideal S2048x1408 .bf16) (v : FVec Ideal S1x1x1024x1408 .f32) (y : S1x1x1024x1408.Idx) :
    k0_pay3 (F := Ideal) x0 x1 v y = v y + share x0 x1 y := by
  pointwise [k0_pay3, k0_pay1]
  rfl

theorem out2_A (t : Fin cfg0.N) (h0 : t.val % 8 = 0) (y : S1x1x1024x1408.Idx) :
    outsAt0 m cc t.val t.isLt y = share (b0 m cc t) (b1 m cc t) y := by
  rw [outsAt0_A m cc t h0 (by omega)]
  frame_out
  exact pay2_eq _ _ y

theorem out2_B (t : Fin cfg0.N) (h0 : ¬ t.val % 8 = 0) (y : S1x1x1024x1408.Idx) :
    outsAt0 m cc t.val t.isLt y = outsAt0 m cc (t.val - 1) (Nat.lt_of_le_of_lt (Nat.sub_le _ _) t.isLt) y + share (b0 m cc t) (b1 m cc t) y := by
  rw [outsAt0_B m cc t h0 (by omega)]
  frame_out
  exact pay3_eq _ _ _ y

theorem idx (t : Fin cfg0.N) : win0_0.index t = ![t.val % 8, 0] ∧ win0_1.index t = ![t.val % 8, t.val / 8]
    ∧ win0_2.index t = ![0, t.val / 8, 0, 0] := by
  revert t
  decide +kernel

theorem b0_eq (t : Fin cfg0.N) (i : Fin 2048) (k : Fin 1024) :
    b0 m cc t (ix2 i k) = (m ((cc : Thread nD τ).loc main_arg0) : FVec Ideal S16384x1024 .bf16) (ix2 ⟨t.val % 8 * 2048 + i.val, by omega⟩ k) := by
  show iblk m cc 0 t (ix2 i k) = _
  blk_ext [iblk, V, idx t]

theorem b1_eq (t : Fin cfg0.N) (i : Fin 2048) (n : Fin 1408) :
    b1 m cc t (ix2 i n) = (m ((cc : Thread nD τ).loc main_arg1) : FVec Ideal S16384x5632 .bf16)
      (ix2 ⟨t.val % 8 * 2048 + i.val, by omega⟩ ⟨t.val / 8 * 1408 + n.val, by have : t.val < 32 := lt_of_lt_of_eq t.isLt N_0; omega⟩) := by
  show iblk m cc 1 t (ix2 i n) = _
  blk_ext [iblk, V, idx t]

/-- The whole gradient: shard `y 1`, row `y 2`, column `y 3`. -/
def dw (x0 : FVec Ideal S16384x1024 .bf16) (x1 : FVec Ideal S16384x5632 .bf16) : S1x4x1024x1408.Idx → EReal := fun y =>
  ∑ r : Fin 16384, x0 (ix2 r (y 2)) * x1 (ix2 r ⟨(y 1).val * 1408 + (y 3).val, by have : (y 1).val < 4 := (y 1).isLt; have : (y 3).val < 1408 := (y 3).isLt; omega⟩)

theorem dw_at (x0 : FVec Ideal S16384x1024 .bf16) (x1 : FVec Ideal S16384x5632 .bf16) (y : S1x4x1024x1408.Idx) (k : Fin 1024) (n : Fin 5632)
    (e2 : (y 2).val = k.val) (e3 : (y 1).val * 1408 + (y 3).val = n.val) : dw x0 x1 y = ∑ r : Fin 16384, x0 (ix2 r k) * x1 (ix2 r n) := by
  have ek : (y 2 : Fin 1024) = k := Fin.ext e2
  have en : (⟨(y 1).val * 1408 + (y 3).val, e3 ▸ n.isLt⟩ : Fin 5632) = n := Fin.ext e3
  unfold dw
  rw [← ek, ← en]

theorem final2 : (dats m 0 cc).arrAt 2 cfg0.N = dw (m ((cc : Thread nD τ).loc main_arg0)) (m ((cc : Thread nD τ).loc main_arg1)) := by
  refine (dats m 0 cc).arrAt_eq_of_covers 2 _ (by decide +kernel) fun t hf y => ?_
  have ht : t.val < 32 := lt_of_lt_of_eq t.isLt N_0
  have h3 : (y 3).val < 1408 := (y 3).isLt
  have h1 : (y 1).val < 1 := (y 1).isLt
  blk_simp
  rw [after0_2, Pipeline.eq_sum_fin_of_reset_step_apply_of_flush (fun n h => outsAt0 m cc n h) 8 (fun _ => 0) _
    (fun t h j => by rw [out2_A m cc t h]; exact (zero_add _).symm)
    (fun t h j => out2_B m cc t h j)
    t ((flush0_2 t).mp hf) _, zero_add]
  have e1 : (((win0_2.blk t).view.emb y) 1).val = t.val / 8 + (y 1).val := by blk_simp [idx t]
  have e2 : (((win0_2.blk t).view.emb y) 2).val = (y 2).val := by blk_simp [idx t]
  have e3 : (((win0_2.blk t).view.emb y) 3).val = (y 3).val := by blk_simp [idx t]
  refine Eq.trans ?_ (dw_at _ _ _ (y 2) ⟨t.val / 8 * 1408 + (y 3).val, by omega⟩ e2 (by rw [e1, e3]; dsimp only; omega)).symm
  refine Fin.sum_mul_add_congr fun s i hl => ?_
  have e : (8 * (t.val / 8) + s.val) % 8 = s.val := by omega
  have e' : (8 * (t.val / 8) + s.val) / 8 = t.val / 8 := by omega
  refine congrArg₂ (· * ·) ((b0_eq m cc _ i (y 2)).trans (congrArg _ (congrArg (ix2 · (y 2)) (Fin.ext ?_))))
    ((b1_eq m cc _ i (y 3)).trans (congrArg _ (congrArg₂ ix2 (Fin.ext ?_) (Fin.ext ?_))))
  · dsimp only; omega
  · dsimp only; omega
  · dsimp only; omega

/-- The reference's product is the same sum. -/
theorem ref_eq (x0 : FVec Ideal S16384x1024 .bf16) (x1 : FVec Ideal S16384x5632 .bf16) :
    Cert.UpDwReferenceIdeal.Read.val_main_v8 (F := Ideal) x0 x1 = dw x0 x1 := by
  funext y
  have h1 : (y 1).val < 4 := (y 1).isLt
  have h2 : (y 2).val < 1024 := (y 2).isLt
  have h3 : (y 3).val < 1408 := (y 3).isLt
  pointwise [Cert.UpDwReferenceIdeal.Read.val_main_v8, Cert.UpDwReferenceIdeal.Read.val_main_v7, Cert.UpDwReferenceIdeal.Read.val_main_v6,
    Cert.UpDwReferenceIdeal.Read.val_main_v5, Cert.UpDwReferenceIdeal.Read.val_main_v4]
  exact Finset.sum_congr rfl fun x _ => mul_comm _ _

end Cert.UpDwIdeal.Val
-- ==== Proof.DownDxVal.lean ====
/-
  The gradient of the feed forward part's second projection by its input: the kernel's blocks are the reference's product.
-/
module

public import proofs.«01_k».proof.Proof.Gen.DownDxIdeal.Value
public import proofs.«01_k».proof.Proof.Gen.DownDxReferenceIdeal.Run
public import proofs.«01_k».proof.Proof.Gen.DownDxReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DownDxIdeal.Val

open Cert.DownDxIdeal Cert.DownDxIdeal.Gen

variable (m : (ℓ : Loc nD τ sig) → Buf (Elt Ideal) ℓ) (cc : Dev nD)

/-- A point's rows of the incoming gradient. -/
abbrev b0 (t : Fin cfg0.N) : FVec Ideal S1024x1024 .f32 := iblk m cc 0 t
/-- A point's half of the weights' rows. -/
abbrev b1 (t : Fin cfg0.N) : FVec Ideal S1x1408x1024 .bf16 := iblk m cc 1 t

theorem pay1_eq (x0 : FVec Ideal S1024x1024 .f32) (x1 : FVec Ideal S1x1408x1024 .bf16) (i : Fin 1024) (n : Fin 1408) :
    k0_pay1 (F := Ideal) x0 x1 (ix2 i n) = ∑ k : Fin 1024, x0 (ix2 i k) * x1 (ix3 0 n k) := by
  pointwise [k0_pay1]

theorem out_eq (t : Fin cfg0.N) (i : Fin 1024) (n : Fin 1408) :
    (dats m 0 cc).after 2 t (ix2 i n) = ∑ k : Fin 1024, b0 m cc t (ix2 i k) * b1 m cc t (ix3 0 n k) := by
  rw [after0_2]
  refine Eq.trans ?_ (pay1_eq (b0 m cc t) (b1 m cc t) i n)
  frame_out

/-- The weights as the kernel is given them: the four shards' rows below each other. -/
theorem V_v2 (l : Fin 4) (n : Fin 2816) (k : Fin 1024) : (V m cc main_v2 : FVec Ideal S4x2816x1024 .bf16) (ix3 l n k)
    = (m ((cc : Thread nD τ).loc main_arg1) : FVec Ideal S4x2816x1024 .f32) (ix3 l n k) := by
  have e : (V m cc main_v2 : FVec Ideal S4x2816x1024 .bf16)
      = shapeCast S4x2816x1024 (shapeCast S4x4x704x1024 (truncf (F := Ideal) .bf16
          (m ((cc : Thread nD τ).loc main_arg1) : FVec Ideal S4x2816x1024 .f32) bitsLt_bf16_f32) shapeCasts_S4x2816x1024_S4x4x704x1024)
          shapeCasts_S4x4x704x1024_S4x2816x1024 := by
    dsimp only [V, hostOps0]
    after_results
    rfl
  rw [e]
  pointwise []

theorem idx (t : Fin cfg0.N) : win0_0.index t = ![t.val / 2, 0] ∧ win0_1.index t = ![0, t.val % 2, 0]
    ∧ win0_2.index t = ![t.val / 2, t.val % 2] := by
  revert t
  decide +kernel

theorem b0_eq (t : Fin cfg0.N) (i k : Fin 1024) :
    b0 m cc t (ix2 i k) = (m ((cc : Thread nD τ).loc main_arg0) : FVec Ideal S16384x1024 .f32)
      (ix2 ⟨t.val / 2 * 1024 + i.val, by have : t.val < 32 := lt_of_lt_of_eq t.isLt N_0; omega⟩ k) := by
  rw [← V_main_arg0 m cc]
  show iblk m cc 0 t (ix2 i k) = _
  blk_ext [iblk, idx t]

theorem b1_eq (t : Fin cfg0.N) (n : Fin 1408) (k : Fin 1024) :
    b1 m cc t (ix3 0 n k) = (m ((cc : Thread nD τ).loc main_arg1) : FVec Ideal S4x2816x1024 .f32) (ix3 0 ⟨t.val % 2 * 1408 + n.val, by omega⟩ k) := by
  refine Eq.trans ?_ (V_v2 m cc 0 ⟨t.val % 2 * 1408 + n.val, by omega⟩ k)
  show iblk m cc 1 t (ix3 0 n k) = _
  blk_ext [iblk, idx t]

/-- The whole gradient. -/
def dx (x0 : FVec Ideal S16384x1024 .f32) (x1 : FVec Ideal S4x2816x1024 .f32) : S16384x2816.Idx → EReal := fun y =>
  ∑ k : Fin 1024, x0 (ix2 (y 0) k) * x1 (ix3 0 (y 1) k)

theorem dx_at (x0 : FVec Ideal S16384x1024 .f32) (x1 : FVec Ideal S4x2816x1024 .f32) (y : S16384x2816.Idx) (r : Fin 16384) (n : Fin 2816)
    (e0 : (y 0).val = r.val) (e1 : (y 1).val = n.val) : dx x0 x1 y = ∑ k : Fin 1024, x0 (ix2 r k) * x1 (ix3 0 n k) := by
  have er : (y 0 : Fin 16384) = r := Fin.ext e0
  have en : (y 1 : Fin 2816) = n := Fin.ext e1
  unfold dx
  rw [← er, ← en]

theorem final2 : (dats m 0 cc).arrAt 2 cfg0.N = dx (m ((cc : Thread nD τ).loc main_arg0)) (m ((cc : Thread nD τ).loc main_arg1)) := by
  refine (dats m 0 cc).arrAt_eq_of_covers 2 _ (by decide +kernel) fun t hf y => ?_
  have ht : t.val < 32 := lt_of_lt_of_eq t.isLt N_0
  have h0 : (y 0).val < 1024 := (y 0).isLt
  have h1 : (y 1).val < 1408 := (y 1).isLt
  blk_simp
  have e0 : (((win0_2.blk t).view.emb y) 0).val = t.val / 2 * 1024 + (y 0).val := by blk_simp [idx t]
  have e1 : (((win0_2.blk t).view.emb y) 1).val = t.val % 2 * 1408 + (y 1).val := by blk_simp [idx t]
  have hy : (fun a => y a) = ix2 (y 0 : Fin 1024) (y 1 : Fin 1408) := by
    funext a
    match a with
    | ⟨0, _⟩ => rfl
    | ⟨1, _⟩ => rfl
  refine Eq.trans ?_ (dx_at _ _ _ ⟨t.val / 2 * 1024 + (y 0).val, by omega⟩ ⟨t.val % 2 * 1408 + (y 1).val, by omega⟩ e0 e1).symm
  refine (congrArg _ hy).trans ((out_eq m cc t (y 0) (y 1)).trans ?_)
  exact Finset.sum_congr (M := EReal) rfl fun k _ => congrArg₂ (· * ·) (b0_eq m cc t (y 0) k) (b1_eq m cc t (y 1) k)

/-- The reference's product is the same sum. -/
theorem ref_eq (x0 : FVec Ideal S16384x1024 .f32) (x1 : FVec Ideal S4x2816x1024 .f32) :
    Cert.DownDxReferenceIdeal.Read.val_main_v4 (F := Ideal) x0 x1 = dx x0 x1 := by
  funext y
  pointwise [Cert.DownDxReferenceIdeal.Read.val_main_v4, Cert.DownDxReferenceIdeal.Read.val_main_v2, Cert.DownDxReferenceIdeal.Read.val_main_v1]
  rfl

end Cert.DownDxIdeal.Val
-- ==== Proof.DownDwVal.lean ====
/-
  The gradient of the feed forward part's second projection by its weights: the kernel's two blocks, each the sum over
  the eight tiles of 2048 rows, are the reference's product.
-/
module

public import proofs.«01_k».proof.Proof.Gen.DownDwIdeal.Value
public import proofs.«01_k».proof.Proof.Gen.DownDwReferenceIdeal.Run
public import proofs.«01_k».proof.Proof.Gen.DownDwReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DownDwIdeal.Val

open Cert.DownDwIdeal Cert.DownDwIdeal.Gen

variable (m : (ℓ : Loc nD τ sig) → Buf (Elt Ideal) ℓ) (cc : Dev nD)

/-- A point's tile of activations. -/
abbrev b0 (t : Fin cfg0.N) : FVec Ideal S2048x1408 .bf16 := iblk m cc 0 t
/-- A point's tile of incoming gradients. -/
abbrev b1 (t : Fin cfg0.N) : FVec Ideal S2048x1024 .f32 := iblk m cc 1 t

/-- One tile's share of a block. -/
def share (x0 : FVec Ideal S2048x1408 .bf16) (x1 : FVec Ideal S2048x1024 .f32) (y : S1x1408x1024.Idx) : EReal :=
  ∑ i : Fin 2048, x0 (ix2 i (y 1)) * x1 (ix2 i (y 2))

theorem pay2_eq (x0 : FVec Ideal S2048x1408 .bf16) (x1 : FVec Ideal S2048x1024 .f32) (y : S1x1408x1024.Idx) :
    k0_pay2 (F := Ideal) x0 x1 y = share x0 x1 y := by
  pointwise [k0_pay2, k0_pay1]
  rfl

theorem pay3_eq (x0 : FVec Ideal S2048x1408 .bf16) (x1 : FVec Ideal S2048x1024 .f32) (v : FVec Ideal S1x1408x1024 .f32) (y : S1x1408x1024.Idx) :
    k0_pay3 (F := Ideal) x0 x1 v y = v y + share x0 x1 y := by
  pointwise [k0_pay3, k0_pay1]
  rfl

theorem out2_A (t : Fin cfg0.N) (h0 : t.val % 8 = 0) (y : S1x1408x1024.Idx) :
    outsAt0 m cc t.val t.isLt y = share (b0 m cc t) (b1 m cc t) y := by
  rw [outsAt0_A m cc t h0 (by omega)]
  frame_out
  exact pay2_eq _ _ y

theorem out2_B (t : Fin cfg0.N) (h0 : ¬ t.val % 8 = 0) (y : S1x1408x1024.Idx) :
    outsAt0 m cc t.val t.isLt y = outsAt0 m cc (t.val - 1) (Nat.lt_of_le_of_lt (Nat.sub_le _ _) t.isLt) y + share (b0 m cc t) (b1 m cc t) y := by
  rw [outsAt0_B m cc t h0 (by omega)]
  frame_out
  exact pay3_eq _ _ _ y

theorem idx (t : Fin cfg0.N) : win0_0.index t = ![t.val % 8, t.val / 8] ∧ win0_1.index t = ![t.val % 8, 0]
    ∧ win0_2.index t = ![0, t.val / 8, 0] := by
  revert t
  decide +kernel

theorem b0_eq (t : Fin cfg0.N) (i : Fin 2048) (k : Fin 1408) :
    b0 m cc t (ix2 i k) = (m ((cc : Thread nD τ).loc main_arg0) : FVec Ideal S16384x2816 .bf16)
      (ix2 ⟨t.val % 8 * 2048 + i.val, by omega⟩ ⟨t.val / 8 * 1408 + k.val, by have : t.val < 16 := lt_of_lt_of_eq t.isLt N_0; omega⟩) := by
  show iblk m cc 0 t (ix2 i k) = _
  blk_ext [iblk, V, idx t]

theorem b1_eq (t : Fin cfg0.N) (i : Fin 2048) (n : Fin 1024) :
    b1 m cc t (ix2 i n) = (m ((cc : Thread nD τ).loc main_arg1) : FVec Ideal S16384x1024 .f32) (ix2 ⟨t.val % 8 * 2048 + i.val, by omega⟩ n) := by
  show iblk m cc 1 t (ix2 i n) = _
  blk_ext [iblk, V, idx t]

/-- The whole gradient: row `y 1`, column `y 2`. -/
def dw (x0 : FVec Ideal S16384x2816 .bf16) (x1 : FVec Ideal S16384x1024 .f32) : S1x2816x1024.Idx → EReal := fun y =>
  ∑ r : Fin 16384, x0 (ix2 r (y 1)) * x1 (ix2 r (y 2))

theorem dw_at (x0 : FVec Ideal S16384x2816 .bf16) (x1 : FVec Ideal S16384x1024 .f32) (y : S1x2816x1024.Idx) (k : Fin 2816) (n : Fin 1024)
    (e1 : (y 1).val = k.val) (e2 : (y 2).val = n.val) : dw x0 x1 y = ∑ r : Fin 16384, x0 (ix2 r k) * x1 (ix2 r n) := by
  have ek : (y 1 : Fin 2816) = k := Fin.ext e1
  have en : (y 2 : Fin 1024) = n := Fin.ext e2
  unfold dw
  rw [← ek, ← en]

theorem final2 : (dats m 0 cc).arrAt 2 cfg0.N = dw (m ((cc : Thread nD τ).loc main_arg0)) (m ((cc : Thread nD τ).loc main_arg1)) := by
  refine (dats m 0 cc).arrAt_eq_of_covers 2 _ (by decide +kernel) fun t hf y => ?_
  have ht : t.val < 16 := lt_of_lt_of_eq t.isLt N_0
  have h1 : (y 1).val < 1408 := (y 1).isLt
  blk_simp
  rw [after0_2, Pipeline.eq_sum_fin_of_reset_step_apply_of_flush (fun n h => outsAt0 m cc n h) 8 (fun _ => 0) _
    (fun t h j => by rw [out2_A m cc t h]; exact (zero_add _).symm)
    (fun t h j => out2_B m cc t h j)
    t ((flush0_2 t).mp hf) _, zero_add]
  have e1 : (((win0_2.blk t).view.emb y) 1).val = t.val / 8 * 1408 + (y 1).val := by blk_simp [idx t]
  have e2 : (((win0_2.blk t).view.emb y) 2).val = (y 2).val := by blk_simp [idx t]
  refine Eq.trans ?_ (dw_at _ _ _ ⟨t.val / 8 * 1408 + (y 1).val, by omega⟩ (y 2) e1 e2).symm
  refine Fin.sum_mul_add_congr fun s i hl => ?_
  have e : (8 * (t.val / 8) + s.val) % 8 = s.val := by omega
  have e' : (8 * (t.val / 8) + s.val) / 8 = t.val / 8 := by omega
  refine congrArg₂ (· * ·) ((b0_eq m cc _ i (y 1)).trans (congrArg _ (congrArg₂ ix2 (Fin.ext ?_) (Fin.ext ?_))))
    ((b1_eq m cc _ i (y 2)).trans (congrArg _ (congrArg (ix2 · (y 2)) (Fin.ext ?_))))
  · dsimp only; omega
  · dsimp only; omega
  · dsimp only; omega

/-- The reference's product is the same sum. -/
theorem ref_eq (x0 : FVec Ideal S16384x2816 .bf16) (x1 : FVec Ideal S16384x1024 .f32) :
    Cert.DownDwReferenceIdeal.Read.val_main_v5 (F := Ideal) x0 x1 = dw x0 x1 := by
  funext y
  pointwise [Cert.DownDwReferenceIdeal.Read.val_main_v5, Cert.DownDwReferenceIdeal.Read.val_main_v4, Cert.DownDwReferenceIdeal.Read.val_main_v3,
    Cert.DownDwReferenceIdeal.Read.val_main_v0]
  exact Finset.sum_congr rfl fun x _ => mul_comm _ _

end Cert.DownDwIdeal.Val
-- ==== Proof.InDxVal.lean ====
/-
  The gradient of the combined input projection and of the norm before it: what the kernel's blocks hold. A block of
  1024 rows takes four points, one for each quarter of the 10240 columns; the last of the four norms the sum, adds the
  residual and counts the rows into the gradient of the gains.
-/
module

public import proofs.«01_k».proof.Proof.Gen.InDxIdeal.Value
public import proofs.«01_k».proof.Proof.RmsSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InDxIdeal.Val

open Cert.InDxIdeal Cert.InDxIdeal.Gen Cert.RmsSpec

variable (m : (ℓ : Loc nD τ sig) → Buf (Elt Ideal) ℓ) (cc : Dev nD)

/-- A point's tile of incoming gradients. -/
abbrev b0 (t : Fin cfg0.N) : FVec Ideal S1024x2560 .bf16 := iblk m cc 0 t
/-- A point's shard of the weights. -/
abbrev b1 (t : Fin cfg0.N) : FVec Ideal S1x1x1024x2560 .bf16 := iblk m cc 1 t
/-- A point's rows of the norm's input. -/
abbrev b2 (t : Fin cfg0.N) : FVec Ideal S1024x1024 .f32 := iblk m cc 2 t
/-- The gains. -/
abbrev b3 (t : Fin cfg0.N) : FVec Ideal S1x1024 .f32 := iblk m cc 3 t
/-- A point's rows of the residual's gradient. -/
abbrev b4 (t : Fin cfg0.N) : FVec Ideal S1024x1024 .f32 := iblk m cc 4 t

/-- One shard's share of the product. -/
def prod (x0 : FVec Ideal S1024x2560 .bf16) (x1 : FVec Ideal S1x1x1024x2560 .bf16) (i j : Fin 1024) : EReal :=
  ∑ n : Fin 2560, x0 (ix2 i n) * x1 (ix4 0 0 j n)

theorem pay1_eq (x0 : FVec Ideal S1024x2560 .bf16) (x1 : FVec Ideal S1x1x1024x2560 .bf16) (i j : Fin 1024) :
    k0_pay1 (F := Ideal) x0 x1 (ix2 i j) = prod x0 x1 i j := by
  pointwise [k0_pay1]
  rfl

theorem pay2_eq (x0 : FVec Ideal S1024x2560 .bf16) (x1 : FVec Ideal S1x1x1024x2560 .bf16) (v : FVec Ideal S1024x1024 .f32) (i j : Fin 1024) :
    k0_pay2 (F := Ideal) x0 x1 v (ix2 i j) = v (ix2 i j) + prod x0 x1 i j := by
  pointwise [k0_pay2, k0_pay1]
  rfl

theorem pay4_eq (v3 v15 : FVec Ideal S1024x1024 .f32) (i j : Fin 1024) :
    k0_pay4 (F := Ideal) v3 v15 (ix2 i j) = v15 (ix2 i j) + v3 (ix2 i j) := by
  pointwise [k0_pay4]

theorem pay5_eq (h : FVec Ideal S1024x1024 .f32) (i : Fin 1024) :
    k0_pay5 (F := Ideal) h (ix2 i 0) = rr fun k => h (ix2 i k) := by
  pointwise [k0_pay5]
  rfl

theorem pay6_eq (v3 v15 h : FVec Ideal S1024x1024 .f32) (j : Fin 1024) :
    k0_pay6 (F := Ideal) v3 v15 h (ix2 0 j)
      = ∑ i : Fin 1024, (h (ix2 i j) * rr fun k => h (ix2 i k)) * k0_pay4 (F := Ideal) v3 v15 (ix2 i j) := by
  generalize hd : k0_pay4 (F := Ideal) v3 v15 = d
  have e := fun i => pay5_eq h i
  generalize hr : k0_pay5 (F := Ideal) h = r at e
  pointwise [k0_pay6, hd, hr]
  exact Finset.sum_congr rfl fun i _ => congrArg (h (ix2 i j) * · * d (ix2 i j)) (e i)

theorem pay7_eq (v3 v15 h x : FVec Ideal S1024x1024 .f32) (g : FVec Ideal S1x1024 .f32) (i j : Fin 1024) :
    k0_pay7 (F := Ideal) v3 v15 h g x (ix2 i j)
      = dx (fun k => h (ix2 i k)) (fun k => g (ix2 0 k)) (fun k => k0_pay4 (F := Ideal) v3 v15 (ix2 i k)) j + x (ix2 i j) := by
  generalize hd : k0_pay4 (F := Ideal) v3 v15 = d
  have e := pay5_eq h i
  generalize hr : k0_pay5 (F := Ideal) h = r at e
  pointwise [k0_pay7, hd, hr]
  unfold dx
  rw [← e]
  rfl

theorem pay3_eq (a b : FVec Ideal S1x1024 .f32) (j : Fin 1024) : k0_pay3 (F := Ideal) a b (ix2 0 j) = b (ix2 0 j) + a (ix2 0 j) := by
  pointwise [k0_pay3]

/-! ## What a point leaves -/

theorem lt1 (t : Fin cfg0.N) : t.val - 1 < cfg0.N := Nat.lt_of_le_of_lt (Nat.sub_le _ _) t.isLt

theorem out5_A (t : Fin cfg0.N) (h0 : t.val % 4 = 0) (i j : Fin 1024) :
    (outsAt0 m cc t.val t.isLt).1 (ix2 i j) = prod (b0 m cc t) (b1 m cc t) i j := by
  rw [outsAt0_A m cc t h0 (by omega) (by omega)]
  frame_out
  exact pay1_eq _ _ i j

theorem out5_B (t : Fin cfg0.N) (h1 : 1 ≤ t.val % 4 ∧ t.val % 4 ≤ 2) (i j : Fin 1024) :
    (outsAt0 m cc t.val t.isLt).1 (ix2 i j) = (outsAt0 m cc (t.val - 1) (lt1 t)).1 (ix2 i j) + prod (b0 m cc t) (b1 m cc t) i j := by
  rw [outsAt0_B m cc t (by omega) h1 (by omega)]
  frame_out
  exact pay2_eq _ _ _ i j

theorem out6_A (t : Fin cfg0.N) (h0 : t.val % 4 = 0) (h : 4 ≤ t.val) :
    (outsAt0 m cc t.val t.isLt).2 = (outsAt0 m cc (t.val - 1) (lt1 t)).2 := by
  rw [outsAt0_A m cc t h0 (by omega) (by omega)]
  frame_out
  rfl

theorem out6_B (t : Fin cfg0.N) (h1 : 1 ≤ t.val % 4 ∧ t.val % 4 ≤ 2) :
    (outsAt0 m cc t.val t.isLt).2 = (outsAt0 m cc (t.val - 1) (lt1 t)).2 := by
  rw [outsAt0_B m cc t (by omega) h1 (by omega)]
  frame_out
  rfl

/-- The product's sum over the shards so far, at a block's last point. -/
def tot (t : Fin cfg0.N) : FVec Ideal S1024x1024 .f32 :=
  k0_pay4 (F := Ideal) (k0_pay1 (F := Ideal) (b0 m cc t) (b1 m cc t)) (outsAt0 m cc (t.val - 1) (lt1 t)).1

theorem out5_last (t : Fin cfg0.N) (h : t.val % 4 = 3) (i j : Fin 1024) :
    (outsAt0 m cc t.val t.isLt).1 (ix2 i j)
      = dx (fun k => b2 m cc t (ix2 i k)) (fun k => b3 m cc t (ix2 0 k)) (fun k => tot m cc t (ix2 i k)) j + b4 m cc t (ix2 i j) := by
  by_cases h4 : t.val < 4
  · rw [outsAt0_C m cc t (by omega) (by omega) h h4 (by omega)]
    frame_out
    exact pay7_eq _ _ _ _ _ i j
  · rw [outsAt0_D m cc t (by omega) (by omega) h h4 (by omega)]
    frame_out
    exact pay7_eq _ _ _ _ _ i j

/-- A block's share of the gradient of the gains. -/
def gsh (t : Fin cfg0.N) (j : Fin 1024) : EReal :=
  ∑ i : Fin 1024, (b2 m cc t (ix2 i j) * rr fun k => b2 m cc t (ix2 i k)) * tot m cc t (ix2 i j)

theorem out6_C (t : Fin cfg0.N) (h : t.val = 3) (j : Fin 1024) : (outsAt0 m cc t.val t.isLt).2 (ix2 0 j) = gsh m cc t j := by
  rw [outsAt0_C m cc t (by omega) (by omega) (by omega) (by omega) (by omega)]
  frame_out
  exact pay6_eq _ _ _ j

theorem out6_D (t : Fin cfg0.N) (h : t.val % 4 = 3) (h4 : 4 ≤ t.val) (j : Fin 1024) :
    (outsAt0 m cc t.val t.isLt).2 (ix2 0 j) = (outsAt0 m cc (t.val - 1) (lt1 t)).2 (ix2 0 j) + gsh m cc t j := by
  rw [outsAt0_D m cc t (by omega) (by omega) h (by omega) h4]
  frame_out
  refine (pay3_eq _ _ j).trans (congrArg (_ + ·) (pay6_eq _ _ _ j))

/-! ## The blocks as parts of the arrays -/

/-- The weights as the kernel is given them: one layer's columns split into four shards. -/
theorem V_v2 (l n : Fin 4) (j : Fin 1024) (k : Fin 2560) : (V m cc main_v2 : FVec Ideal S4x4x1024x2560 .bf16) (ix4 l n j k)
    = (m ((cc : Thread nD τ).loc main_arg1) : FVec Ideal S4x1024x10240 .f32) (ix3 l j ⟨n.val * 2560 + k.val, by omega⟩) := by
  have e : (V m cc main_v2 : FVec Ideal S4x4x1024x2560 .bf16)
      = transpose S4x4x1024x2560 [0, 2, 1, 3] (shapeCast S4x1024x4x2560 (truncf (F := Ideal) .bf16
          (m ((cc : Thread nD τ).loc main_arg1) : FVec Ideal S4x1024x10240 .f32) bitsLt_bf16_f32) shapeCasts_S4x1024x10240_S4x1024x4x2560)
          transposes_S4x1024x4x2560_S4x4x1024x2560_0_2_1_3 := by
    after_results
    rfl
  rw [e]
  pointwise []

theorem V_v3 (k : Fin 1024) : (V m cc main_v3 : FVec Ideal S1x1024 .f32) (ix2 0 k)
    = (m ((cc : Thread nD τ).loc main_arg3) : FVec Ideal S1024 .f32) (ix1 k) := by
  have e : (V m cc main_v3 : FVec Ideal S1x1024 .f32)
      = broadcastInDim S1x1024 ![1] bcast_S1024_S1x1024_1 (m ((cc : Thread nD τ).loc main_arg3) : FVec Ideal S1024 .f32) := by
    after_results
    rfl
  rw [e]
  pointwise []

theorem idx (t : Fin cfg0.N) : win0_0.index t = ![t.val / 4, t.val % 4] ∧ win0_1.index t = ![0, t.val % 4, 0, 0]
    ∧ win0_2.index t = ![t.val / 4, 0] ∧ win0_3.index t = ![0, 0] ∧ win0_4.index t = ![t.val / 4, 0]
    ∧ win0_5.index t = ![t.val / 4, 0] ∧ win0_6.index t = ![0, 0] := by
  revert t
  decide +kernel

/-- Row `i` of the block of rows a point works on. -/
abbrev row (t : Fin cfg0.N) (i : Fin 1024) : Fin 16384 :=
  ⟨t.val / 4 * 1024 + i.val, by have : t.val < 64 := lt_of_lt_of_eq t.isLt N_0; omega⟩

theorem b0_eq (t : Fin cfg0.N) (i : Fin 1024) (n : Fin 2560) :
    b0 m cc t (ix2 i n) = (m ((cc : Thread nD τ).loc main_arg0) : FVec Ideal S16384x10240 .bf16) (ix2 (row t i) ⟨t.val % 4 * 2560 + n.val, by omega⟩) := by
  rw [← V_main_arg0 m cc]
  show iblk m cc 0 t (ix2 i n) = _
  blk_ext [iblk, idx t]

theorem b1_eq (t : Fin cfg0.N) (j : Fin 1024) (n : Fin 2560) :
    b1 m cc t (ix4 0 0 j n) = (m ((cc : Thread nD τ).loc main_arg1) : FVec Ideal S4x1024x10240 .f32) (ix3 0 j ⟨t.val % 4 * 2560 + n.val, by omega⟩) := by
  rw [← V_v2 m cc 0 ⟨t.val % 4, by omega⟩ j n]
  show iblk m cc 1 t (ix4 0 0 j n) = _
  blk_ext [iblk, idx t]

theorem b2_eq (t : Fin cfg0.N) (i k : Fin 1024) :
    b2 m cc t (ix2 i k) = (m ((cc : Thread nD τ).loc main_arg2) : FVec Ideal S16384x1024 .f32) (ix2 (row t i) k) := by
  rw [← V_main_arg2 m cc]
  show iblk m cc 2 t (ix2 i k) = _
  blk_ext [iblk, idx t]

theorem b3_eq (t : Fin cfg0.N) (k : Fin 1024) :
    b3 m cc t (ix2 0 k) = (m ((cc : Thread nD τ).loc main_arg3) : FVec Ideal S1024 .f32) (ix1 k) := by
  rw [← V_v3 m cc k]
  show iblk m cc 3 t (ix2 0 k) = _
  blk_ext [iblk, idx t]

theorem b4_eq (t : Fin cfg0.N) (i k : Fin 1024) :
    b4 m cc t (ix2 i k) = (m ((cc : Thread nD τ).loc main_arg4) : FVec Ideal S16384x1024 .f32) (ix2 (row t i) k) := by
  rw [← V_main_arg4 m cc]
  show iblk m cc 4 t (ix2 i k) = _
  blk_ext [iblk, idx t]

/-! ## The whole arrays -/

section arrays

variable (p : FVec Ideal S16384x10240 .bf16) (w : FVec Ideal S4x1024x10240 .f32) (h : FVec Ideal S16384x1024 .f32)
  (g : FVec Ideal S1024 .f32) (e : FVec Ideal S16384x1024 .f32)

/-- The gradient behind the gains: row `r` of the incoming gradient against row `j` of the first layer's weights. -/
def du (r : Fin 16384) (j : Fin 1024) : EReal := ∑ n : Fin 10240, p (ix2 r n) * w (ix3 0 j n)

/-- The gradient of the norm's input, with the residual's. -/
def dh : S16384x1024.Idx → EReal := fun y =>
  dx (fun k => h (ix2 (y 0) k)) (fun k => g (ix1 k)) (du p w (y 0)) (y 1) + e (ix2 (y 0) (y 1))

/-- The gradient of the gains. -/
def dg : S1x1024.Idx → EReal := fun y =>
  ∑ r : Fin 16384, (h (ix2 r (y 1)) * rr fun k => h (ix2 r k)) * du p w r (y 1)

theorem dh_at (y : S16384x1024.Idx) (r : Fin 16384) (j : Fin 1024) (e0 : (y 0).val = r.val) (e1 : (y 1).val = j.val) :
    dh p w h g e y = dx (fun k => h (ix2 r k)) (fun k => g (ix1 k)) (du p w r) j + e (ix2 r j) := by
  have h0 : (y 0 : Fin 16384) = r := Fin.ext e0
  have h1 : (y 1 : Fin 1024) = j := Fin.ext e1
  unfold dh
  rw [← h0, ← h1]

theorem dg_at (y : S1x1024.Idx) (j : Fin 1024) (e1 : (y 1).val = j.val) :
    dg p w h y = ∑ r : Fin 16384, (h (ix2 r j) * rr fun k => h (ix2 r k)) * du p w r j := by
  have h1 : (y 1 : Fin 1024) = j := Fin.ext e1
  unfold dg
  rw [← h1]

end arrays

/-- The arguments as arrays. -/
abbrev P : FVec Ideal S16384x10240 .bf16 := m ((cc : Thread nD τ).loc main_arg0)
abbrev W : FVec Ideal S4x1024x10240 .f32 := m ((cc : Thread nD τ).loc main_arg1)
abbrev H : FVec Ideal S16384x1024 .f32 := m ((cc : Thread nD τ).loc main_arg2)
abbrev G : FVec Ideal S1024 .f32 := m ((cc : Thread nD τ).loc main_arg3)
abbrev E : FVec Ideal S16384x1024 .f32 := m ((cc : Thread nD τ).loc main_arg4)

/-- At a block's last point the four shards make the whole product. -/
theorem tot_eq (t : Fin cfg0.N) (h : t.val % 4 = 3) (i j : Fin 1024) : tot m cc t (ix2 i j) = du (P m cc) (W m cc) (row t i) j := by
  have ht : t.val < 64 := lt_of_lt_of_eq t.isLt N_0
  have hN : cfg0.N = 64 := N_0
  refine (pay4_eq _ _ i j).trans ?_
  rw [pay1_eq]
  have s2 := out5_B m cc ⟨t.val - 1, by omega⟩ (by dsimp only; omega) i j
  have s1 := out5_B m cc ⟨t.val - 1 - 1, by omega⟩ (by dsimp only; omega) i j
  have s0 := out5_A m cc ⟨t.val - 1 - 1 - 1, by omega⟩ (by dsimp only; omega) i j
  dsimp only at s0 s1 s2
  rw [s2, s1, s0]
  have key : (∑ s : Fin 4, ∑ n : Fin 2560, P m cc (ix2 (row t i) ⟨s.val * 2560 + n.val, by omega⟩) * W m cc (ix3 0 j ⟨s.val * 2560 + n.val, by omega⟩))
      = du (P m cc) (W m cc) (row t i) j := by
    unfold du
    exact Fin.sum_mul_add_congr fun s n hl => rfl
  rw [← key, Fin.sum_univ_four]
  have one : ∀ (u : Fin cfg0.N) (s : Fin 4), u.val / 4 = t.val / 4 → u.val % 4 = s.val → prod (b0 m cc u) (b1 m cc u) i j
      = ∑ n : Fin 2560, P m cc (ix2 (row t i) ⟨s.val * 2560 + n.val, by omega⟩) * W m cc (ix3 0 j ⟨s.val * 2560 + n.val, by omega⟩) := by
    intro u s e1 e2
    refine Finset.sum_congr rfl fun n _ => congrArg₂ (· * ·) ((b0_eq m cc u i n).trans (congrArg _ (congrArg₂ ix2 (Fin.ext ?_) (Fin.ext ?_))))
      ((b1_eq m cc u j n).trans (congrArg _ (congrArg (ix3 0 j) (Fin.ext ?_))))
    · dsimp only; rw [e1]
    · dsimp only; rw [e2]
    · dsimp only; rw [e2]
  exact congrArg₂ (· + ·) (congrArg₂ (· + ·) (congrArg₂ (· + ·)
    (one _ 0 (by dsimp only; omega) (by show (t.val - 1 - 1 - 1) % 4 = 0; omega)) (one _ 1 (by dsimp only; omega) (by show (t.val - 1 - 1) % 4 = 1; omega)))
    (one _ 2 (by dsimp only; omega) (by show (t.val - 1) % 4 = 2; omega))) (one t 3 rfl h)

/-- What a block's last point leaves, read from the arrays. -/
theorem out5_arr (t : Fin cfg0.N) (h3 : t.val % 4 = 3) (i j : Fin 1024) : (outsAt0 m cc t.val t.isLt).1 (ix2 i j)
    = dx (fun k => H m cc (ix2 (row t i) k)) (fun k => G m cc (ix1 k)) (du (P m cc) (W m cc) (row t i)) j + E m cc (ix2 (row t i) j) := by
  rw [out5_last m cc t h3 i j, b4_eq m cc t i j, show (fun k => b2 m cc t (ix2 i k)) = fun k => H m cc (ix2 (row t i) k) from funext (b2_eq m cc t i),
    show (fun k => b3 m cc t (ix2 0 k)) = fun k => G m cc (ix1 k) from funext (b3_eq m cc t),
    show (fun k => tot m cc t (ix2 i k)) = du (P m cc) (W m cc) (row t i) from funext (tot_eq m cc t h3 i)]

theorem final5 : (dats m 0 cc).arrAt 5 cfg0.N = dh (P m cc) (W m cc) (H m cc) (G m cc) (E m cc) := by
  refine (dats m 0 cc).arrAt_eq_of_covers 5 _ (by decide +kernel) fun t hf y => ?_
  have ht : t.val < 64 := lt_of_lt_of_eq t.isLt N_0
  have h3 : t.val % 4 = 3 := (flush0_5 t).mp hf
  have h0 : (y 0).val < 1024 := (y 0).isLt
  have h1 : (y 1).val < 1024 := (y 1).isLt
  blk_simp
  rw [after0_5]
  have e0 : (((win0_5.blk t).view.emb y) 0).val = t.val / 4 * 1024 + (y 0).val := by blk_simp [idx t]
  have e1 : (((win0_5.blk t).view.emb y) 1).val = (y 1).val := by blk_simp [idx t]
  have hy : (fun a => y a) = ix2 (y 0 : Fin 1024) (y 1 : Fin 1024) := by
    funext a
    match a with
    | ⟨0, _⟩ => rfl
    | ⟨1, _⟩ => rfl
  refine Eq.trans ?_ (dh_at _ _ _ _ _ _ (row t (y 0)) (y 1) e0 e1).symm
  exact (congrArg _ hy).trans (out5_arr m cc t h3 (y 0) (y 1))

/-- A block's share of the gains' gradient, read from the arrays. -/
theorem gsh_eq (t : Fin cfg0.N) (h : t.val % 4 = 3) (j : Fin 1024) :
    gsh m cc t j = ∑ i : Fin 1024, (H m cc (ix2 (row t i) j) * rr fun k => H m cc (ix2 (row t i) k)) * du (P m cc) (W m cc) (row t i) j := by
  unfold gsh
  simp only [b2_eq m cc t, tot_eq m cc t h]

/-- The last point of block `s`. -/
abbrev lastp (s : Nat) (h : s < 16) : Fin cfg0.N := ⟨4 * s + 3, by have : cfg0.N = 64 := N_0; omega⟩

/-- After block `k` the gains' gradient counts the blocks up to it. -/
theorem acc6 (j : Fin 1024) (k : Nat) (hk : k < 16) :
    (outsAt0 m cc (lastp k hk).val (lastp k hk).isLt).2 (ix2 0 j) = ∑ s : Fin (k + 1), gsh m cc (lastp s.val (by omega)) j := by
  have hN : cfg0.N = 64 := N_0
  induction k with
  | zero =>
    rw [out6_C m cc (lastp 0 hk) rfl j]
    exact (Fin.sum_univ_one fun s : Fin 1 => gsh m cc (lastp s.val (by omega)) j).symm
  | succ k ih =>
    rw [Fin.sum_univ_castSucc, out6_D m cc (lastp (k + 1) hk) (by dsimp only; omega) (by dsimp only; omega) j]
    refine congrArg₂ (· + ·) ?_ rfl
    have s2 := out6_B m cc ⟨4 * (k + 1) + 3 - 1, by omega⟩ (by dsimp only; omega)
    have s1 := out6_B m cc ⟨4 * (k + 1) + 3 - 1 - 1, by omega⟩ (by dsimp only; omega)
    have s0 := out6_A m cc ⟨4 * (k + 1) + 3 - 1 - 1 - 1, by omega⟩ (by dsimp only; omega) (by dsimp only; omega)
    dsimp only at s0 s1 s2
    dsimp only
    rw [s2, s1, s0]
    exact ih (by omega)

theorem acc6_last (j : Fin 1024) (t : Fin cfg0.N) (h : t.val = 63) :
    (outsAt0 m cc t.val t.isLt).2 (ix2 0 j) = ∑ s : Fin 16, gsh m cc (lastp s.val s.isLt) j := by
  have e : t = lastp 15 (by decide) := Fin.ext (by rw [h])
  rw [e]
  exact acc6 m cc j 15 (by decide)

theorem final6 : (dats m 0 cc).arrAt 6 cfg0.N = dg (P m cc) (W m cc) (H m cc) := by
  refine (dats m 0 cc).arrAt_eq_of_covers 6 _ (by decide +kernel) fun t hf y => ?_
  have ht : t.val < 64 := lt_of_lt_of_eq t.isLt N_0
  have h3 : t.val % 64 = 63 := (flush0_6 t).mp hf
  have h0 : (y 0).val < 1 := (y 0).isLt
  have h1 : (y 1).val < 1024 := (y 1).isLt
  blk_simp
  rw [after0_6]
  have e1 : (((win0_6.blk t).view.emb y) 1).val = (y 1).val := by blk_simp [idx t]
  have hy : (fun a => y a) = ix2 (0 : Fin 1) (y 1 : Fin 1024) := by
    funext a
    match a with
    | ⟨0, _⟩ => exact Fin.ext (by show (y 0).val = 0; omega)
    | ⟨1, _⟩ => rfl
  refine Eq.trans ?_ (dg_at _ _ _ _ (y 1) e1).symm
  refine (congrArg _ hy).trans ((acc6_last m cc (y 1) t (by omega)).trans ?_)
  refine (Finset.sum_congr rfl fun s _ => gsh_eq m cc (lastp s.val s.isLt) (by dsimp only; omega) (y 1)).trans ?_
  refine Fin.sum_mul_add_congr fun s i hl => ?_
  have er : row (lastp s.val s.isLt) i = ⟨s.val * 1024 + i.val, hl⟩ := Fin.ext (by dsimp only; omega)
  rw [er]

end Cert.InDxIdeal.Val
-- ==== Proof.InDxRef.lean ====
/-
  The reference's gradient of the norm and the projection, read row by row.
-/
module

public import proofs.«01_k».proof.Proof.Gen.InDxReferenceIdeal.Run
public import proofs.«01_k».proof.Proof.Gen.InDxReferenceIdeal.Read
public import proofs.«01_k».proof.Proof.RmsSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InDxReferenceIdeal.Rd

open Cert.InDxReferenceIdeal Cert.InDxReferenceIdeal.Read Cert.RmsSpec

variable (x0 : FVec Ideal S16384x10240 .bf16) (x1 : FVec Ideal S4x1024x10240 .f32) (x2 : FVec Ideal S16384x1024 .f32)
  (x3 : FVec Ideal S1024 .f32) (x4 : FVec Ideal S16384x1024 .f32)

/-- The gradient behind the gains. -/
def du (r : Fin 16384) (j : Fin 1024) : EReal := ∑ n : Fin 10240, x0 (ix2 r n) * x1 (ix3 0 j n)
/-- A row of the norm's input. -/
abbrev hrow (r : Fin 16384) : Fin 1024 → EReal := fun k => x2 (ix2 r k)
/-- The gains. -/
abbrev grow : Fin 1024 → EReal := fun k => x3 (ix1 k)

theorem r6 (r : Fin 16384) : val_main_v6 (F := Ideal) x2 (ix2 r 0) = ms (hrow x2 r) := by
  pointwise [val_main_v6, val_main_v5, val_main_v4, val_main_v3, val_main_v2, val_main_v1, val_main_v0, val_main_cst, val_main_cst_0, val_main_cst_1]
  rfl

theorem r7 (r : Fin 16384) : val_main_v7 (F := Ideal) x2 (ix2 r 0) = rr (hrow x2 r) :=
  congrArg Ideal.rsqrt (r6 x2 r)

theorem r10 (r : Fin 16384) : val_main_v10 (F := Ideal) x2 (ix2 r 0) = nhalf * Ideal.div (rr (hrow x2 r)) (ms (hrow x2 r)) := by
  rw [← r7, ← r6]
  generalize hv : val_main_v7 (F := Ideal) x2 = v
  generalize hw : val_main_v6 (F := Ideal) x2 = w
  pointwise [val_main_v10, val_main_v9, val_main_v8, val_main_cst_2, hv, hw]

theorem r12 (r : Fin 16384) (j : Fin 1024) : val_main_v12 (F := Ideal) x2 (ix2 r j) = x2 (ix2 r j) * rr (hrow x2 r) := by
  rw [← r7]
  generalize hv : val_main_v7 (F := Ideal) x2 = v
  pointwise [val_main_v12, val_main_v11, hv]

theorem r20 (r : Fin 16384) (j : Fin 1024) : val_main_v20 (F := Ideal) x0 x1 (ix2 r j) = du x0 x1 r j := by
  pointwise [val_main_v20, val_main_v19, val_main_v17, val_main_v16]
  rfl

theorem r25 (r : Fin 16384) (j : Fin 1024) : val_main_v25 (F := Ideal) x0 x1 x3 (ix2 r j) = du x0 x1 r j * x3 (ix1 j) := by
  rw [← r20]
  generalize hv : val_main_v20 (F := Ideal) x0 x1 = v
  pointwise [val_main_v25, val_main_v24, val_main_v13, hv]

theorem r29 (r : Fin 16384) : val_main_v29 (F := Ideal) x0 x1 x2 x3 (ix2 r 0) = ∑ k : Fin 1024, x2 (ix2 r k) * (du x0 x1 r k * x3 (ix1 k)) := by
  have e := fun k => r25 x0 x1 x3 r k
  generalize hv : val_main_v25 (F := Ideal) x0 x1 x3 = v at e
  pointwise [val_main_v29, val_main_v28, val_main_v27, val_main_cst_5, hv]
  exact Finset.sum_congr rfl fun k _ => congrArg (x2 (ix2 r k) * ·) (e k)

theorem r36 (r : Fin 16384) (j : Fin 1024) : val_main_v36 (F := Ideal) x0 x1 x2 x3 (ix2 r j) = tt (hrow x2 r) (grow x3) (du x0 x1 r) := by
  unfold tt
  rw [← r10, ← r29]
  generalize hv : val_main_v29 (F := Ideal) x0 x1 x2 x3 = v
  generalize hw : val_main_v10 (F := Ideal) x2 = w
  pointwise [val_main_v36, val_main_v35, val_main_v34, val_main_v33, val_main_v32, val_main_cst_6, val_main_cst_7, hv, hw]
  exact Fin.sum_univ_one _

theorem r41 (r : Fin 16384) (j : Fin 1024) :
    val_main_v41 (F := Ideal) x0 x1 x2 x3 x4 (ix2 r j) = x4 (ix2 r j) + dx' (hrow x2 r) (grow x3) (du x0 x1 r) j := by
  unfold dx'
  rw [← r36 x0 x1 x2 x3 r j, ← r25, ← r7]
  generalize hv : val_main_v36 (F := Ideal) x0 x1 x2 x3 = v
  generalize hw : val_main_v25 (F := Ideal) x0 x1 x3 = w
  generalize hz : val_main_v7 (F := Ideal) x2 = z
  pointwise [val_main_v41, val_main_v40, val_main_v39, val_main_v38, val_main_v37, val_main_v31, val_main_v30, hv, hw, hz]

/-- … in closed form. -/
theorem r41_closed (r : Fin 16384) (j : Fin 1024) :
    val_main_v41 (F := Ideal) x0 x1 x2 x3 x4 (ix2 r j) = dx (hrow x2 r) (grow x3) (du x0 x1 r) j + x4 (ix2 r j) := by
  rw [r41, dx'_eq, add_comm]

theorem r42 (j : Fin 1024) :
    val_main_v42 (F := Ideal) x0 x1 x2 (ix2 0 j) = ∑ r : Fin 16384, (x2 (ix2 r j) * rr (hrow x2 r)) * du x0 x1 r j := by
  have e := fun r => r20 x0 x1 r j
  have e' := fun r => r12 x2 r j
  generalize hv : val_main_v20 (F := Ideal) x0 x1 = v at e
  generalize hw : val_main_v12 (F := Ideal) x2 = w at e'
  pointwise [val_main_v42, val_main_v26, val_main_v23, val_main_v22, val_main_v21, val_main_cst_3, val_main_cst_4, hv, hw]
  refine Eq.trans (Fin.sum_univ_one _) ?_
  exact Finset.sum_congr rfl fun r _ => congrArg₂ (· * ·) (e' r) (e r)

end Cert.InDxReferenceIdeal.Rd
-- ==== Proof.InDxEq.lean ====
/-
  The gradient of the combined input projection and of the norm before it: the kernel's two arrays are the reference's.
-/
module

public import proofs.«01_k».proof.Proof.InDxVal
public import proofs.«01_k».proof.Proof.InDxRef

@[expose] public section

set_option maxRecDepth 16384

noncomputable section

open Idealize.ShloMosaic Idealize.ShloMosaic.TcCoe Idealize.SL.Sem

namespace Cert.InDxEq

open Cert.InDxIdeal Cert.RmsSpec Cert.InDxReferenceIdeal.Read

variable (x0 : FVec Ideal S16384x10240 .bf16) (x1 : FVec Ideal S4x1024x10240 .f32) (x2 : FVec Ideal S16384x1024 .f32)
  (x3 : FVec Ideal S1024 .f32) (x4 : FVec Ideal S16384x1024 .f32)

theorem dh_ref : val_main_v41 (F := Ideal) x0 x1 x2 x3 x4 = Val.dh x0 x1 x2 x3 x4 := by
  funext y
  have hy : y = ix2 (y 0 : Fin 16384) (y 1 : Fin 1024) := by
    funext a
    match a with
    | ⟨0, _⟩ => rfl
    | ⟨1, _⟩ => rfl
  exact (congrArg _ hy).trans (Cert.InDxReferenceIdeal.Rd.r41_closed x0 x1 x2 x3 x4 (y 0) (y 1))

theorem dg_ref : val_main_v42 (F := Ideal) x0 x1 x2 = Val.dg x0 x1 x2 := by
  funext y
  have hy : y = ix2 (0 : Fin 1) (y 1 : Fin 1024) := by
    funext a
    match a with
    | ⟨0, _⟩ => exact Fin.ext (by have h0 : (y 0).val < 1 := (y 0).isLt; show (y 0).val = 0; omega)
    | ⟨1, _⟩ => rfl
  exact (congrArg _ hy).trans (Cert.InDxReferenceIdeal.Rd.r42 x0 x1 x2 (y 1))

end Cert.InDxEq
-- ==== Proof.InDwVal.lean ====
/-
  The gradient of the combined input projection by its weights: the kernel's blocks, each the sum over the eight tiles
  of 2048 rows, are the reference's product, cut into the four shards.
-/
module

public import proofs.«01_k».proof.Proof.Gen.InDwIdeal.Value
public import proofs.«01_k».proof.Proof.Gen.InDwReferenceIdeal.Run
public import proofs.«01_k».proof.Proof.Gen.InDwReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InDwIdeal.Val

open Cert.InDwIdeal Cert.InDwIdeal.Gen

variable (m : (ℓ : Loc nD τ sig) → Buf (Elt Ideal) ℓ) (cc : Dev nD)

/-- A point's tile of activations. -/
abbrev b0 (t : Fin cfg0.N) : FVec Ideal S2048x1024 .bf16 := iblk m cc 0 t
/-- A point's tile of incoming gradients. -/
abbrev b1 (t : Fin cfg0.N) : FVec Ideal S2048x1280 .bf16 := iblk m cc 1 t

/-- One tile's share of a block. -/
def share (x0 : FVec Ideal S2048x1024 .bf16) (x1 : FVec Ideal S2048x1280 .bf16) (y : S1x1x1024x1280.Idx) : EReal :=
  ∑ i : Fin 2048, x0 (ix2 i (y 2)) * x1 (ix2 i (y 3))

theorem pay2_eq (x0 : FVec Ideal S2048x1024 .bf16) (x1 : FVec Ideal S2048x1280 .bf16) (y : S1x1x1024x1280.Idx) :
    k0_pay2 (F := Ideal) x0 x1 y = share x0 x1 y := by
  pointwise [k0_pay2, k0_pay1]
  rfl

theorem pay3_eq (x0 : FVec Ideal S2048x1024 .bf16) (x1 : FVec Ideal S2048x1280 .bf16) (v : FVec Ideal S1x1x1024x1280 .f32) (y : S1x1x1024x1280.Idx) :
    k0_pay3 (F := Ideal) x0 x1 v y = v y + share x0 x1 y := by
  pointwise [k0_pay3, k0_pay1]
  rfl

theorem out2_A (t : Fin cfg0.N) (h0 : t.val % 8 = 0) (y : S1x1x1024x1280.Idx) :
    outsAt0 m cc t.val t.isLt y = share (b0 m cc t) (b1 m cc t) y := by
  rw [outsAt0_A m cc t h0 (by omega)]
  frame_out
  exact pay2_eq _ _ y

theorem out2_B (t : Fin cfg0.N) (h0 : ¬ t.val % 8 = 0) (y : S1x1x1024x1280.Idx) :
    outsAt0 m cc t.val t.isLt y = outsAt0 m cc (t.val - 1) (Nat.lt_of_le_of_lt (Nat.sub_le _ _) t.isLt) y + share (b0 m cc t) (b1 m cc t) y := by
  rw [outsAt0_B m cc t h0 (by omega)]
  frame_out
  exact pay3_eq _ _ _ y

theorem idx (t : Fin cfg0.N) : win0_0.index t = ![t.val % 8, 0] ∧ win0_1.index t = ![t.val % 8, t.val / 8]
    ∧ win0_2.index t = ![0, t.val / 8 / 2, 0, t.val / 8 % 2] := by
  revert t
  decide +kernel

theorem b0_eq (t : Fin cfg0.N) (i : Fin 2048) (k : Fin 1024) :
    b0 m cc t (ix2 i k) = (m ((cc : Thread nD τ).loc main_arg0) : FVec Ideal S16384x1024 .bf16) (ix2 ⟨t.val % 8 * 2048 + i.val, by omega⟩ k) := by
  show iblk m cc 0 t (ix2 i k) = _
  blk_ext [iblk, V, idx t]

theorem b1_eq (t : Fin cfg0.N) (i : Fin 2048) (n : Fin 1280) :
    b1 m cc t (ix2 i n) = (m ((cc : Thread nD τ).loc main_arg1) : FVec Ideal S16384x10240 .bf16)
      (ix2 ⟨t.val % 8 * 2048 + i.val, by omega⟩ ⟨t.val / 8 * 1280 + n.val, by have : t.val < 64 := lt_of_lt_of_eq t.isLt N_0; omega⟩) := by
  show iblk m cc 1 t (ix2 i n) = _
  blk_ext [iblk, V, idx t]

/-- The whole gradient: shard `y 1`, row `y 2`, column `y 3`. -/
def dw (x0 : FVec Ideal S16384x1024 .bf16) (x1 : FVec Ideal S16384x10240 .bf16) : S1x4x1024x2560.Idx → EReal := fun y =>
  ∑ r : Fin 16384, x0 (ix2 r (y 2)) * x1 (ix2 r ⟨(y 1).val * 2560 + (y 3).val, by have : (y 1).val < 4 := (y 1).isLt; have : (y 3).val < 2560 := (y 3).isLt; omega⟩)

theorem dw_at (x0 : FVec Ideal S16384x1024 .bf16) (x1 : FVec Ideal S16384x10240 .bf16) (y : S1x4x1024x2560.Idx) (k : Fin 1024) (n : Fin 10240)
    (e2 : (y 2).val = k.val) (e3 : (y 1).val * 2560 + (y 3).val = n.val) : dw x0 x1 y = ∑ r : Fin 16384, x0 (ix2 r k) * x1 (ix2 r n) := by
  have ek : (y 2 : Fin 1024) = k := Fin.ext e2
  have en : (⟨(y 1).val * 2560 + (y 3).val, e3 ▸ n.isLt⟩ : Fin 10240) = n := Fin.ext e3
  unfold dw
  rw [← ek, ← en]

theorem final2 : (dats m 0 cc).arrAt 2 cfg0.N = dw (m ((cc : Thread nD τ).loc main_arg0)) (m ((cc : Thread nD τ).loc main_arg1)) := by
  refine (dats m 0 cc).arrAt_eq_of_covers 2 _ (by decide +kernel) fun t hf y => ?_
  have ht : t.val < 64 := lt_of_lt_of_eq t.isLt N_0
  have h3 : (y 3).val < 1280 := (y 3).isLt
  have h1 : (y 1).val < 1 := (y 1).isLt
  blk_simp
  rw [after0_2, Pipeline.eq_sum_fin_of_reset_step_apply_of_flush (fun n h => outsAt0 m cc n h) 8 (fun _ => 0) _
    (fun t h j => by rw [out2_A m cc t h]; exact (zero_add _).symm)
    (fun t h j => out2_B m cc t h j)
    t ((flush0_2 t).mp hf) _, zero_add]
  have e1 : (((win0_2.blk t).view.emb y) 1).val = t.val / 8 / 2 + (y 1).val := by blk_simp [idx t]
  have e2 : (((win0_2.blk t).view.emb y) 2).val = (y 2).val := by blk_simp [idx t]
  have e3 : (((win0_2.blk t).view.emb y) 3).val = t.val / 8 % 2 * 1280 + (y 3).val := by blk_simp [idx t]
  refine Eq.trans ?_ (dw_at _ _ _ (y 2) ⟨t.val / 8 * 1280 + (y 3).val, by omega⟩ e2 (by rw [e1, e3]; dsimp only; omega)).symm
  refine Fin.sum_mul_add_congr fun s i hl => ?_
  have e : (8 * (t.val / 8) + s.val) % 8 = s.val := by omega
  have e' : (8 * (t.val / 8) + s.val) / 8 = t.val / 8 := by omega
  refine congrArg₂ (· * ·) ((b0_eq m cc _ i (y 2)).trans (congrArg _ (congrArg (ix2 · (y 2)) (Fin.ext ?_))))
    ((b1_eq m cc _ i (y 3)).trans (congrArg _ (congrArg₂ ix2 (Fin.ext ?_) (Fin.ext ?_))))
  · dsimp only; omega
  · dsimp only; omega
  · dsimp only; omega

/-- The reference's product is the same sum. -/
theorem ref_eq (x0 : FVec Ideal S16384x1024 .bf16) (x1 : FVec Ideal S16384x10240 .bf16) :
    Cert.InDwReferenceIdeal.Read.val_main_v8 (F := Ideal) x0 x1 = dw x0 x1 := by
  funext y
  have h1 : (y 1).val < 4 := (y 1).isLt
  have h2 : (y 2).val < 1024 := (y 2).isLt
  have h3 : (y 3).val < 2560 := (y 3).isLt
  pointwise [Cert.InDwReferenceIdeal.Read.val_main_v8, Cert.InDwReferenceIdeal.Read.val_main_v7, Cert.InDwReferenceIdeal.Read.val_main_v6,
    Cert.InDwReferenceIdeal.Read.val_main_v5, Cert.InDwReferenceIdeal.Read.val_main_v4]
  exact Finset.sum_congr rfl fun x _ => mul_comm _ _

end Cert.InDwIdeal.Val
-- ==== Proof.lean ====
/-
  The proof of `Cert.Claim`. Each kernel and each reference runs to the end with its arguments kept and every counter at
  zero. For finite queries, keys and values the two results of the attention gradient's kernel are the reference's, and for
  finite arguments the three results of the retention gradient's kernel. For a finite incoming gradient, weights and gains
  the three results of the gradient through the convolution's output projection, silu and layer norm are the reference's.
  The results of the other projections, of their gradients, of the gated mixing's gradient and of the attention itself are
  the reference's for all arguments.
-/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnReferenceIdeal
public import proofs.«01_k».proof.Proof.Gen.AttnIdeal.Value
public import proofs.«01_k».proof.Proof.Gen.AttnReferenceIdeal.Run
public import proofs.«01_k».proof.Proof.Gen.AttnReferenceIdeal.Read
public import proofs.«01_k».proof.Proof.AttnEq
public import proofs.«01_k».proof.Proof.RetEq
public import proofs.«01_k».proof.Proof.Gen.InDx
public import proofs.«01_k».proof.Proof.Gen.InDx.Frame
public import proofs.«01_k».proof.Proof.Gen.InDw
public import proofs.«01_k».proof.Proof.Gen.InDw.Frame
public import proofs.«01_k».proof.Proof.Gen.InDxIdeal.Value
public import proofs.«01_k».proof.Proof.Gen.InDxReferenceIdeal.Run
public import proofs.«01_k».proof.Proof.Gen.InDxReferenceIdeal.Read
public import proofs.«01_k».proof.Proof.Gen.InDwIdeal.Value
public import proofs.«01_k».proof.Proof.Gen.InDwReferenceIdeal.Run
public import proofs.«01_k».proof.Proof.Gen.InDwReferenceIdeal.Read
public import proofs.«01_k».proof.Proof.Gen.In
public import proofs.«01_k».proof.Proof.Gen.In.Frame
public import proofs.«01_k».proof.Proof.Gen.InIdeal.Value
public import proofs.«01_k».proof.Proof.Gen.InReferenceIdeal.Run
public import proofs.«01_k».proof.Proof.Gen.InReferenceIdeal.Read
public import proofs.«01_k».proof.Proof.Gen.UpDx
public import proofs.«01_k».proof.Proof.Gen.UpDx.Frame
public import proofs.«01_k».proof.Proof.Gen.UpDxIdeal.Value
public import proofs.«01_k».proof.Proof.Gen.UpDxReferenceIdeal.Run
public import proofs.«01_k».proof.Proof.Gen.UpDxReferenceIdeal.Read
public import proofs.«01_k».proof.Proof.Gen.UpDw
public import proofs.«01_k».proof.Proof.Gen.UpDw.Frame
public import proofs.«01_k».proof.Proof.Gen.UpDwIdeal.Value
public import proofs.«01_k».proof.Proof.Gen.UpDwReferenceIdeal.Run
public import proofs.«01_k».proof.Proof.Gen.UpDwReferenceIdeal.Read
public import proofs.«01_k».proof.Proof.Gen.DownDx
public import proofs.«01_k».proof.Proof.Gen.DownDx.Frame
public import proofs.«01_k».proof.Proof.Gen.DownDxIdeal.Value
public import proofs.«01_k».proof.Proof.Gen.DownDxReferenceIdeal.Run
public import proofs.«01_k».proof.Proof.Gen.DownDxReferenceIdeal.Read
public import proofs.«01_k».proof.Proof.Gen.DownDw
public import proofs.«01_k».proof.Proof.Gen.DownDw.Frame
public import proofs.«01_k».proof.Proof.Gen.DownDwIdeal.Value
public import proofs.«01_k».proof.Proof.Gen.DownDwReferenceIdeal.Run
public import proofs.«01_k».proof.Proof.Gen.DownDwReferenceIdeal.Read
public import proofs.«01_k».proof.Proof.Gen.Ret
public import proofs.«01_k».proof.Proof.Gen.Ret.Frame
public import proofs.«01_k».proof.Proof.Gen.RetIdeal.Value
public import proofs.«01_k».proof.Proof.Gen.RetReferenceIdeal.Run
public import proofs.«01_k».proof.Proof.Gen.RetReferenceIdeal.Read
public import proofs.«01_k».proof.Proof.Gen.Up
public import proofs.«01_k».proof.Proof.Gen.Up.Frame
public import proofs.«01_k».proof.Proof.Gen.UpIdeal.Value
public import proofs.«01_k».proof.Proof.Gen.UpReferenceIdeal.Run
public import proofs.«01_k».proof.Proof.Gen.UpReferenceIdeal.Read
public import proofs.«01_k».proof.Proof.Gen.Down
public import proofs.«01_k».proof.Proof.Gen.Down.Frame
public import proofs.«01_k».proof.Proof.Gen.DownIdeal.Value
public import proofs.«01_k».proof.Proof.Gen.DownReferenceIdeal.Run
public import proofs.«01_k».proof.Proof.Gen.DownReferenceIdeal.Read
public import proofs.«01_k».proof.Proof.Gen.DownLast
public import proofs.«01_k».proof.Proof.Gen.DownLast.Frame
public import proofs.«01_k».proof.Proof.Gen.DownLastIdeal.Value
public import proofs.«01_k».proof.Proof.Gen.DownLastReferenceIdeal.Run
public import proofs.«01_k».proof.Proof.Gen.DownLastReferenceIdeal.Read
public import proofs.«01_k».proof.Proof.Gen.RetOut
public import proofs.«01_k».proof.Proof.Gen.RetOut.Frame
public import proofs.«01_k».proof.Proof.Gen.RetOutIdeal.Value
public import proofs.«01_k».proof.Proof.Gen.RetOutReferenceIdeal.Run
public import proofs.«01_k».proof.Proof.Gen.RetOutReferenceIdeal.Read
public import proofs.«01_k».proof.Proof.Gen.RetOutDx
public import proofs.«01_k».proof.Proof.Gen.RetOutDx.Frame
public import proofs.«01_k».proof.Proof.Gen.RetOutDxIdeal.Value
public import proofs.«01_k».proof.Proof.Gen.RetOutDxReferenceIdeal.Run
public import proofs.«01_k».proof.Proof.Gen.RetOutDxReferenceIdeal.Read
public import proofs.«01_k».proof.Proof.Gen.RetOutDw
public import proofs.«01_k».proof.Proof.Gen.RetOutDw.Frame
public import proofs.«01_k».proof.Proof.Gen.RetOutDwIdeal.Value
public import proofs.«01_k».proof.Proof.Gen.RetOutDwReferenceIdeal.Run
public import proofs.«01_k».proof.Proof.Gen.RetOutDwReferenceIdeal.Read
public import proofs.«01_k».proof.Proof.Gen.XoDx
public import proofs.«01_k».proof.Proof.Gen.XoDx.Frame
public import proofs.«01_k».proof.Proof.Gen.XoDxIdeal.Value
public import proofs.«01_k».proof.Proof.Gen.XoDxReferenceIdeal.Run
public import proofs.«01_k».proof.Proof.Gen.XoDxReferenceIdeal.Read
public import proofs.«01_k».proof.Proof.Gen.XoDw
public import proofs.«01_k».proof.Proof.Gen.XoDw.Frame
public import proofs.«01_k».proof.Proof.Gen.XoDwIdeal.Value
public import proofs.«01_k».proof.Proof.Gen.XoDwReferenceIdeal.Run
public import proofs.«01_k».proof.Proof.Gen.XoDwReferenceIdeal.Read
public import proofs.«01_k».proof.Proof.Gen.XqDw
public import proofs.«01_k».proof.Proof.Gen.XqDw.Frame
public import proofs.«01_k».proof.Proof.Gen.XqDwIdeal.Value
public import proofs.«01_k».proof.Proof.Gen.XqDwReferenceIdeal.Run
public import proofs.«01_k».proof.Proof.Gen.XqDwReferenceIdeal.Read
public import proofs.«01_k».proof.Proof.Gen.Xq
public import proofs.«01_k».proof.Proof.Gen.Xq.Frame
public import proofs.«01_k».proof.Proof.Gen.XqIdeal.Value
public import proofs.«01_k».proof.Proof.Gen.XqReferenceIdeal.Run
public import proofs.«01_k».proof.Proof.Gen.XqReferenceIdeal.Read
public import proofs.«01_k».proof.Proof.Gen.ConvOut
public import proofs.«01_k».proof.Proof.Gen.ConvOut.Frame
public import proofs.«01_k».proof.Proof.Gen.ConvOutIdeal.Value
public import proofs.«01_k».proof.Proof.Gen.ConvOutReferenceIdeal.Run
public import proofs.«01_k».proof.Proof.Gen.ConvOutReferenceIdeal.Read
public import proofs.«01_k».proof.Proof.InVal
public import proofs.«01_k».proof.Proof.UpVal
public import proofs.«01_k».proof.Proof.DownVal
public import proofs.«01_k».proof.Proof.DownLastVal
public import proofs.«01_k».proof.Proof.RetOutVal
public import proofs.«01_k».proof.Proof.RetOutDxVal
public import proofs.«01_k».proof.Proof.RetOutDwVal
public import proofs.«01_k».proof.Proof.XoDxVal
public import proofs.«01_k».proof.Proof.XoDwVal
public import proofs.«01_k».proof.Proof.XqDwVal
public import proofs.«01_k».proof.Proof.XqVal
public import proofs.«01_k».proof.Proof.ConvOutVal
public import proofs.«01_k».proof.Proof.Gen.GateBwd
public import proofs.«01_k».proof.Proof.Gen.GateBwd.Frame
public import proofs.«01_k».proof.Proof.Gen.ConvOutDx
public import proofs.«01_k».proof.Proof.Gen.ConvOutDx.Frame
public import proofs.«01_k».proof.Proof.Gen.ConvOutDxIdeal.Value
public import proofs.«01_k».proof.Proof.Gen.ConvOutDxReferenceIdeal.Run
public import proofs.«01_k».proof.Proof.Gen.ConvOutDxReferenceIdeal.Read
public import proofs.«01_k».proof.Proof.Gen.XqDx
public import proofs.«01_k».proof.Proof.Gen.XqDx.Frame
public import proofs.«01_k».proof.Proof.Gen.Xo
public import proofs.«01_k».proof.Proof.Gen.Xo.Frame
public import proofs.«01_k».proof.Proof.Gen.AttnFwd
public import proofs.«01_k».proof.Proof.Gen.AttnFwd.Frame
public import proofs.«01_k».proof.Proof.Gen.GateBwdIdeal.Value
public import proofs.«01_k».proof.Proof.Gen.GateBwdReferenceIdeal.Run
public import proofs.«01_k».proof.Proof.Gen.GateBwdReferenceIdeal.Read
public import proofs.«01_k».proof.Proof.Gen.XqDxIdeal.Value
public import proofs.«01_k».proof.Proof.Gen.XqDxReferenceIdeal.Run
public import proofs.«01_k».proof.Proof.Gen.XqDxReferenceIdeal.Read
public import proofs.«01_k».proof.Proof.Gen.XoIdeal.Value
public import proofs.«01_k».proof.Proof.Gen.XoReferenceIdeal.Run
public import proofs.«01_k».proof.Proof.Gen.XoReferenceIdeal.Read
public import proofs.«01_k».proof.Proof.Gen.AttnFwdIdeal.Value
public import proofs.«01_k».proof.Proof.Gen.AttnFwdReferenceIdeal.Run
public import proofs.«01_k».proof.Proof.Gen.AttnFwdReferenceIdeal.Read
public import proofs.«01_k».proof.Proof.GateBwdVal
public import proofs.«01_k».proof.Proof.XqDxEq
public import proofs.«01_k».proof.Proof.ConvOutDxEq
public import proofs.«01_k».proof.Proof.XoVal
public import proofs.«01_k».proof.Proof.AttnFwdVal
public import proofs.«01_k».proof.Proof.UpDxEq
public import proofs.«01_k».proof.Proof.UpDwVal
public import proofs.«01_k».proof.Proof.DownDxVal
public import proofs.«01_k».proof.Proof.DownDwVal
public import proofs.«01_k».proof.Proof.InDxEq
public import proofs.«01_k».proof.Proof.InDwVal
public import Idealize.ShloMosaic.Adequacy
public import Idealize.ShloMosaic.Init

@[expose] public section

noncomputable section

namespace Cert.Proof

open Idealize.ShloMosaic Idealize.SL.Sem Cert.Attn

theorem attn_frame_r : Cert.quiescent_AttnReferenceIdeal := fun m ρ _ =>
  (θ_run Cert.AttnReferenceIdeal.defs _ _).mono (fun r h => ⟨fun c => (h c).2.2, Idealize.ShloMosaic.sem_eq_zero_of_no_sems (by decide) r.2⟩)
    (Cert.AttnReferenceIdeal.Value.run (F := Ideal) m ρ)

instance : Cert.Pre_attn_finite.Facts := Cert.AttnEq.pre_facts

/-- The kernel's two results, both gradients, are the reference's. -/
theorem attn_algebraic : Cert.algebraic_AttnIdeal_AttnReferenceIdeal_pre_attn_finite := by
  intro m g m' g' hpre hagree
  refine ⟨fun c => (Cert.AttnIdeal.Gen.dats m 0 c).arrAt 3 Cert.AttnIdeal.cfg0.N, fun c => (Cert.AttnIdeal.Gen.dats m 0 c).arrAt 4 Cert.AttnIdeal.cfg0.N,
    Cert.AttnIdeal.Value.run_blocks (F := Ideal) m g,
    (θ_run Cert.AttnReferenceIdeal.defs _ _).mono (fun r h c => ?_) (Cert.AttnReferenceIdeal.Value.run (F := Ideal) m' g')⟩
  · have hq := Cert.AttnEq.q_real _ _ _ (hpre c)
    have hk := Cert.AttnEq.k_real _ _ _ (hpre c)
    refine ⟨(h c).1.trans ?_, (h c).2.1.trans ?_, (h c).2.2⟩
    · refine (Cert.AttnReferenceIdeal.Read.val_main_v70_eq m' c).trans ?_
      rw [(hagree c).1, (hagree c).2.1, (hagree c).2.2]
      exact ((Cert.AttnIdeal.Val.final3 m c).trans (Cert.AttnEq.dq_eq _ _ _ hq hk)).symm
    · refine (Cert.AttnReferenceIdeal.Read.val_main_v68_eq m' c).trans ?_
      rw [(hagree c).1, (hagree c).2.1, (hagree c).2.2]
      exact (Cert.AttnEq.final_dkv m c hq hk).symm

theorem in_dx_frame_r : Cert.quiescent_InDxReferenceIdeal := fun m ρ _ =>
  (θ_run Cert.InDxReferenceIdeal.defs _ _).mono (fun r h => ⟨fun c => (h c).2.2, Idealize.ShloMosaic.sem_eq_zero_of_no_sems (by decide) r.2⟩)
    (Cert.InDxReferenceIdeal.Value.run (F := Ideal) m ρ)

/-- The gradients of the projection's input and of the norm's gains are the reference's. -/
theorem in_dx_algebraic : Cert.algebraic_InDxIdeal_InDxReferenceIdeal := by
  intro m g m' g' _ hagree
  refine ⟨fun c => (Cert.InDxIdeal.Gen.dats m 0 c).arrAt 5 Cert.InDxIdeal.cfg0.N, fun c => (Cert.InDxIdeal.Gen.dats m 0 c).arrAt 6 Cert.InDxIdeal.cfg0.N,
    Cert.InDxIdeal.Value.run_blocks (F := Ideal) m g,
    (θ_run Cert.InDxReferenceIdeal.defs _ _).mono (fun r h c => ?_) (Cert.InDxReferenceIdeal.Value.run (F := Ideal) m' g')⟩
  · refine ⟨(h c).1.trans ?_, (h c).2.1.trans ?_, (h c).2.2⟩
    · refine (Cert.InDxReferenceIdeal.Read.val_main_v41_eq m' c).trans ?_
      rw [(hagree c).1, (hagree c).2.1, (hagree c).2.2.1, (hagree c).2.2.2.1, (hagree c).2.2.2.2]
      exact ((Cert.InDxIdeal.Val.final5 m c).trans (Cert.InDxEq.dh_ref _ _ _ _ _).symm).symm
    · refine (Cert.InDxReferenceIdeal.Read.val_main_v42_eq _ _ _).trans ?_
      rw [(hagree c).1, (hagree c).2.1, (hagree c).2.2.1]
      exact ((Cert.InDxIdeal.Val.final6 m c).trans (Cert.InDxEq.dg_ref _ _ _).symm).symm

theorem in_dw_frame_r : Cert.quiescent_InDwReferenceIdeal := fun m ρ _ =>
  (θ_run Cert.InDwReferenceIdeal.defs _ _).mono (fun r h => ⟨fun c => (h c).2, Idealize.ShloMosaic.sem_eq_zero_of_no_sems (by decide) r.2⟩)
    (Cert.InDwReferenceIdeal.Value.run (F := Ideal) m ρ)

/-- The gradient of the projection's weights is the reference's. -/
theorem in_dw_algebraic : Cert.algebraic_InDwIdeal_InDwReferenceIdeal := by
  intro m g m' g' _ hagree
  refine ⟨fun c => (Cert.InDwIdeal.Gen.dats m 0 c).arrAt 2 Cert.InDwIdeal.cfg0.N, Cert.InDwIdeal.Value.run_blocks (F := Ideal) m g,
    (θ_run Cert.InDwReferenceIdeal.defs _ _).mono (fun r h c => ?_) (Cert.InDwReferenceIdeal.Value.run (F := Ideal) m' g')⟩
  · refine ⟨(h c).1.trans ?_, (h c).2⟩
    refine (Cert.InDwReferenceIdeal.Read.val_main_v8_eq _ _).trans ?_
    rw [(hagree c).1, (hagree c).2]
    exact ((Cert.InDwIdeal.Val.final2 m c).trans (Cert.InDwIdeal.Val.ref_eq _ _).symm).symm

theorem in_frame_r : Cert.quiescent_InReferenceIdeal := fun m ρ _ =>
  (θ_run Cert.InReferenceIdeal.defs _ _).mono (fun r h => ⟨fun c => (h c).2, Idealize.ShloMosaic.sem_eq_zero_of_no_sems (by decide) r.2⟩)
    (Cert.InReferenceIdeal.Value.run (F := Ideal) m ρ)

/-- The projection is the reference's. -/
theorem in_algebraic : Cert.algebraic_InIdeal_InReferenceIdeal := by
  intro m g m' g' _ hagree
  refine ⟨fun c => (Cert.InIdeal.Gen.dats m 0 c).arrAt 2 Cert.InIdeal.cfg0.N, Cert.InIdeal.Value.run_blocks (F := Ideal) m g,
    (θ_run Cert.InReferenceIdeal.defs _ _).mono (fun r h c => ?_) (Cert.InReferenceIdeal.Value.run (F := Ideal) m' g')⟩
  · refine ⟨(h c).1.trans ?_, (h c).2⟩
    refine (Cert.InReferenceIdeal.Read.val_main_v3_eq _ _).trans ?_
    rw [(hagree c).1, (hagree c).2]
    exact ((Cert.InIdeal.Val.final2 m c).trans (Cert.InIdeal.Val.ref_eq _ _).symm).symm

theorem up_dx_frame_r : Cert.quiescent_UpDxReferenceIdeal := fun m ρ _ =>
  (θ_run Cert.UpDxReferenceIdeal.defs _ _).mono (fun r h => ⟨fun c => (h c).2.2, Idealize.ShloMosaic.sem_eq_zero_of_no_sems (by decide) r.2⟩)
    (Cert.UpDxReferenceIdeal.Value.run (F := Ideal) m ρ)

/-- The gradients of the first feed forward projection's input and of the norm's gains are the reference's. -/
theorem up_dx_algebraic : Cert.algebraic_UpDxIdeal_UpDxReferenceIdeal := by
  intro m g m' g' _ hagree
  refine ⟨fun c => (Cert.UpDxIdeal.Gen.dats m 0 c).arrAt 5 Cert.UpDxIdeal.cfg0.N, fun c => (Cert.UpDxIdeal.Gen.dats m 0 c).arrAt 6 Cert.UpDxIdeal.cfg0.N,
    Cert.UpDxIdeal.Value.run_blocks (F := Ideal) m g,
    (θ_run Cert.UpDxReferenceIdeal.defs _ _).mono (fun r h c => ?_) (Cert.UpDxReferenceIdeal.Value.run (F := Ideal) m' g')⟩
  · refine ⟨(h c).1.trans ?_, (h c).2.1.trans ?_, (h c).2.2⟩
    · refine (Cert.UpDxReferenceIdeal.Read.val_main_v41_eq m' c).trans ?_
      rw [(hagree c).1, (hagree c).2.1, (hagree c).2.2.1, (hagree c).2.2.2.1, (hagree c).2.2.2.2]
      exact ((Cert.UpDxIdeal.Val.final5 m c).trans (Cert.UpDxEq.dh_ref _ _ _ _ _).symm).symm
    · refine (Cert.UpDxReferenceIdeal.Read.val_main_v42_eq _ _ _).trans ?_
      rw [(hagree c).1, (hagree c).2.1, (hagree c).2.2.1]
      exact ((Cert.UpDxIdeal.Val.final6 m c).trans (Cert.UpDxEq.dg_ref _ _ _).symm).symm

theorem up_dw_frame_r : Cert.quiescent_UpDwReferenceIdeal := fun m ρ _ =>
  (θ_run Cert.UpDwReferenceIdeal.defs _ _).mono (fun r h => ⟨fun c => (h c).2, Idealize.ShloMosaic.sem_eq_zero_of_no_sems (by decide) r.2⟩)
    (Cert.UpDwReferenceIdeal.Value.run (F := Ideal) m ρ)

/-- The gradient of the first feed forward projection's weights is the reference's. -/
theorem up_dw_algebraic : Cert.algebraic_UpDwIdeal_UpDwReferenceIdeal := by
  intro m g m' g' _ hagree
  refine ⟨fun c => (Cert.UpDwIdeal.Gen.dats m 0 c).arrAt 2 Cert.UpDwIdeal.cfg0.N, Cert.UpDwIdeal.Value.run_blocks (F := Ideal) m g,
    (θ_run Cert.UpDwReferenceIdeal.defs _ _).mono (fun r h c => ?_) (Cert.UpDwReferenceIdeal.Value.run (F := Ideal) m' g')⟩
  · refine ⟨(h c).1.trans ?_, (h c).2⟩
    refine (Cert.UpDwReferenceIdeal.Read.val_main_v8_eq _ _).trans ?_
    rw [(hagree c).1, (hagree c).2]
    exact ((Cert.UpDwIdeal.Val.final2 m c).trans (Cert.UpDwIdeal.Val.ref_eq _ _).symm).symm

theorem down_dx_frame_r : Cert.quiescent_DownDxReferenceIdeal := fun m ρ _ =>
  (θ_run Cert.DownDxReferenceIdeal.defs _ _).mono (fun r h => ⟨fun c => (h c).2, Idealize.ShloMosaic.sem_eq_zero_of_no_sems (by decide) r.2⟩)
    (Cert.DownDxReferenceIdeal.Value.run (F := Ideal) m ρ)

/-- The gradient of the second feed forward projection's input is the reference's. -/
theorem down_dx_algebraic : Cert.algebraic_DownDxIdeal_DownDxReferenceIdeal := by
  intro m g m' g' _ hagree
  refine ⟨fun c => (Cert.DownDxIdeal.Gen.dats m 0 c).arrAt 2 Cert.DownDxIdeal.cfg0.N, Cert.DownDxIdeal.Value.run_blocks (F := Ideal) m g,
    (θ_run Cert.DownDxReferenceIdeal.defs _ _).mono (fun r h c => ?_) (Cert.DownDxReferenceIdeal.Value.run (F := Ideal) m' g')⟩
  · refine ⟨(h c).1.trans ?_, (h c).2⟩
    refine (Cert.DownDxReferenceIdeal.Read.val_main_v4_eq _ _).trans ?_
    rw [(hagree c).1, (hagree c).2]
    exact ((Cert.DownDxIdeal.Val.final2 m c).trans (Cert.DownDxIdeal.Val.ref_eq _ _).symm).symm

theorem down_dw_frame_r : Cert.quiescent_DownDwReferenceIdeal := fun m ρ _ =>
  (θ_run Cert.DownDwReferenceIdeal.defs _ _).mono (fun r h => ⟨fun c => (h c).2, Idealize.ShloMosaic.sem_eq_zero_of_no_sems (by decide) r.2⟩)
    (Cert.DownDwReferenceIdeal.Value.run (F := Ideal) m ρ)

/-- The gradient of the second feed forward projection's weights is the reference's. -/
theorem down_dw_algebraic : Cert.algebraic_DownDwIdeal_DownDwReferenceIdeal := by
  intro m g m' g' _ hagree
  refine ⟨fun c => (Cert.DownDwIdeal.Gen.dats m 0 c).arrAt 2 Cert.DownDwIdeal.cfg0.N, Cert.DownDwIdeal.Value.run_blocks (F := Ideal) m g,
    (θ_run Cert.DownDwReferenceIdeal.defs _ _).mono (fun r h c => ?_) (Cert.DownDwReferenceIdeal.Value.run (F := Ideal) m' g')⟩
  · refine ⟨(h c).1.trans ?_, (h c).2⟩
    refine (Cert.DownDwReferenceIdeal.Read.val_main_v5_eq _ _).trans ?_
    rw [(hagree c).1, (hagree c).2]
    exact ((Cert.DownDwIdeal.Val.final2 m c).trans (Cert.DownDwIdeal.Val.ref_eq _ _).symm).symm

theorem ret_frame_r : Cert.quiescent_RetReferenceIdeal := fun m ρ _ =>
  (θ_run Cert.RetReferenceIdeal.defs _ _).mono (fun r h => ⟨fun c => (h c).2.2.2, Idealize.ShloMosaic.sem_eq_zero_of_no_sems (by decide) r.2⟩)
    (Cert.RetReferenceIdeal.Value.run (F := Ideal) m ρ)

instance : Cert.Pre_ret_finite.Facts := Cert.RetEq.pre_facts

/-- The retention gradient's three results, of the queries, keys and values, are the reference's. -/
theorem ret_algebraic : Cert.algebraic_RetIdeal_RetReferenceIdeal_pre_ret_finite := by
  intro m g m' g' hpre hagree
  refine ⟨fun c => (Cert.RetIdeal.Gen.dats m 0 c).arrAt 11 Cert.RetIdeal.cfg0.N, fun c => (Cert.RetIdeal.Gen.dats m 0 c).arrAt 12 Cert.RetIdeal.cfg0.N,
    fun c => (Cert.RetIdeal.Gen.dats m 0 c).arrAt 13 Cert.RetIdeal.cfg0.N, Cert.RetIdeal.Value.run_blocks (F := Ideal) m g,
    (θ_run Cert.RetReferenceIdeal.defs _ _).mono (fun r h c => ?_) (Cert.RetReferenceIdeal.Value.run (F := Ideal) m' g')⟩
  obtain ⟨P, C, S, G, hP, hC, hS, hG⟩ := Cert.RetEq.reals _ _ _ _ (hpre c)
  obtain ⟨a0, a1, a2, a3⟩ := hagree c
  refine ⟨(h c).1.trans ?_, (h c).2.1.trans ?_, (h c).2.2.1.trans ?_, (h c).2.2.2⟩
  · refine (Cert.RetReferenceIdeal.Read.val_main_v194_eq _).trans ?_
    refine Eq.trans (b := Cert.RetReferenceIdeal.Read.val_main_v194 (F := Ideal) (m' ((c.tc : Thread Cert.RetReferenceIdeal.nD Cert.RetReferenceIdeal.τ).loc Cert.RetReferenceIdeal.main_arg0)) (m' ((c.tc : Thread Cert.RetReferenceIdeal.nD Cert.RetReferenceIdeal.τ).loc Cert.RetReferenceIdeal.main_arg1))
      (m' ((c.tc : Thread Cert.RetReferenceIdeal.nD Cert.RetReferenceIdeal.τ).loc Cert.RetReferenceIdeal.main_arg2)) (m' ((c.tc : Thread Cert.RetReferenceIdeal.nD Cert.RetReferenceIdeal.τ).loc Cert.RetReferenceIdeal.main_arg3))) rfl ?_
    rw [a0, a1, a2, a3]
    exact ((Cert.RetIdeal.Val.final11 m c P C S G hP hC hS hG).trans (Cert.RetEq.gq_eq _ _ _ _ P C S G hP hC hS hG)).symm
  · refine (Cert.RetReferenceIdeal.Read.val_main_v195_eq _).trans ?_
    refine Eq.trans (b := Cert.RetReferenceIdeal.Read.val_main_v195 (F := Ideal) (m' ((c.tc : Thread Cert.RetReferenceIdeal.nD Cert.RetReferenceIdeal.τ).loc Cert.RetReferenceIdeal.main_arg0)) (m' ((c.tc : Thread Cert.RetReferenceIdeal.nD Cert.RetReferenceIdeal.τ).loc Cert.RetReferenceIdeal.main_arg1))
      (m' ((c.tc : Thread Cert.RetReferenceIdeal.nD Cert.RetReferenceIdeal.τ).loc Cert.RetReferenceIdeal.main_arg2)) (m' ((c.tc : Thread Cert.RetReferenceIdeal.nD Cert.RetReferenceIdeal.τ).loc Cert.RetReferenceIdeal.main_arg3))) rfl ?_
    rw [a0, a1, a2, a3]
    exact ((Cert.RetIdeal.Val.final12 m c P C S G hP hC hS hG).trans (Cert.RetEq.gk_eq _ _ _ _ P C S G hP hC hS hG)).symm
  · refine (Cert.RetReferenceIdeal.Read.val_main_v196_eq _).trans ?_
    refine Eq.trans (b := Cert.RetReferenceIdeal.Read.val_main_v196 (F := Ideal) (m' ((c.tc : Thread Cert.RetReferenceIdeal.nD Cert.RetReferenceIdeal.τ).loc Cert.RetReferenceIdeal.main_arg0)) (m' ((c.tc : Thread Cert.RetReferenceIdeal.nD Cert.RetReferenceIdeal.τ).loc Cert.RetReferenceIdeal.main_arg1))
      (m' ((c.tc : Thread Cert.RetReferenceIdeal.nD Cert.RetReferenceIdeal.τ).loc Cert.RetReferenceIdeal.main_arg2)) (m' ((c.tc : Thread Cert.RetReferenceIdeal.nD Cert.RetReferenceIdeal.τ).loc Cert.RetReferenceIdeal.main_arg3))) rfl ?_
    rw [a0, a1, a2, a3]
    exact ((Cert.RetIdeal.Val.final13 m c P C S G hP hC hS hG).trans (Cert.RetEq.gv_eq _ _ _ _ P C S G hP hC hS hG)).symm

theorem up_frame_r : Cert.quiescent_UpReferenceIdeal := fun m ρ _ =>
  (θ_run Cert.UpReferenceIdeal.defs _ _).mono (fun r h => ⟨fun c => (h c).2, Idealize.ShloMosaic.sem_eq_zero_of_no_sems (by decide) r.2⟩)
    (Cert.UpReferenceIdeal.Value.run (F := Ideal) m ρ)

/-- The first feed forward projection is the reference's. -/
theorem up_algebraic : Cert.algebraic_UpIdeal_UpReferenceIdeal := by
  intro m g m' g' _ hagree
  refine ⟨fun c => (Cert.UpIdeal.Gen.dats m 0 c).arrAt 2 Cert.UpIdeal.cfg0.N, Cert.UpIdeal.Value.run_blocks (F := Ideal) m g,
    (θ_run Cert.UpReferenceIdeal.defs _ _).mono (fun r h c => ?_) (Cert.UpReferenceIdeal.Value.run (F := Ideal) m' g')⟩
  · refine ⟨(h c).1.trans ?_, (h c).2⟩
    refine (Cert.UpReferenceIdeal.Read.val_main_v3_eq _ _).trans ?_
    rw [(hagree c).1, (hagree c).2]
    exact ((Cert.UpIdeal.Val.final2 m c).trans (Cert.UpIdeal.Val.ref_eq _ _).symm).symm

theorem down_frame_r : Cert.quiescent_DownReferenceIdeal := fun m ρ _ =>
  (θ_run Cert.DownReferenceIdeal.defs _ _).mono (fun r h => ⟨fun c => (h c).2.2, Idealize.ShloMosaic.sem_eq_zero_of_no_sems (by decide) r.2⟩)
    (Cert.DownReferenceIdeal.Value.run (F := Ideal) m ρ)

/-- The second feed forward projection on top of the residual, and its normed rows, are the reference's. -/
theorem down_algebraic : Cert.algebraic_DownIdeal_DownReferenceIdeal := by
  intro m g m' g' _ hagree
  refine ⟨fun c => (Cert.DownIdeal.Gen.dats m 0 c).arrAt 4 Cert.DownIdeal.cfg0.N, fun c => (Cert.DownIdeal.Gen.dats m 0 c).arrAt 5 Cert.DownIdeal.cfg0.N,
    Cert.DownIdeal.Value.run_blocks (F := Ideal) m g,
    (θ_run Cert.DownReferenceIdeal.defs _ _).mono (fun r h c => ?_) (Cert.DownReferenceIdeal.Value.run (F := Ideal) m' g')⟩
  · obtain ⟨a0, a1, a2, a3⟩ := hagree c
    refine ⟨(h c).1.trans ?_, (h c).2.1.trans ?_, (h c).2.2⟩
    · refine (Cert.DownReferenceIdeal.Read.val_main_v4_eq _ _ _).trans ?_
      rw [a0, a1, a2]
      exact ((Cert.DownIdeal.Val.final4 m c).trans (Cert.DownIdeal.Val.ref_h _ _ _).symm).symm
    · refine (Cert.DownReferenceIdeal.Read.val_main_v18_eq _ _ _ _).trans ?_
      rw [a0, a1, a2, a3]
      exact ((Cert.DownIdeal.Val.final5 m c).trans (Cert.DownIdeal.Val.ref_u _ _ _ _).symm).symm

theorem ret_out_frame_r : Cert.quiescent_RetOutReferenceIdeal := fun m ρ _ =>
  (θ_run Cert.RetOutReferenceIdeal.defs _ _).mono (fun r h => ⟨fun c => (h c).2, Idealize.ShloMosaic.sem_eq_zero_of_no_sems (by decide) r.2⟩)
    (Cert.RetOutReferenceIdeal.Value.run (F := Ideal) m ρ)

/-- The retention's output projection is the reference's. -/
theorem ret_out_algebraic : Cert.algebraic_RetOutIdeal_RetOutReferenceIdeal := by
  intro m g m' g' _ hagree
  refine ⟨fun c => (Cert.RetOutIdeal.Gen.dats m 0 c).arrAt 2 Cert.RetOutIdeal.cfg0.N, Cert.RetOutIdeal.Value.run_blocks (F := Ideal) m g,
    (θ_run Cert.RetOutReferenceIdeal.defs _ _).mono (fun r h c => ?_) (Cert.RetOutReferenceIdeal.Value.run (F := Ideal) m' g')⟩
  · refine ⟨(h c).1.trans ?_, (h c).2⟩
    refine (Cert.RetOutReferenceIdeal.Read.val_main_v3_eq _ _).trans ?_
    rw [(hagree c).1, (hagree c).2]
    exact ((Cert.RetOutIdeal.Val.final2 m c).trans (Cert.RetOutIdeal.Val.ref_eq _ _).symm).symm

theorem ret_out_dx_frame_r : Cert.quiescent_RetOutDxReferenceIdeal := fun m ρ _ =>
  (θ_run Cert.RetOutDxReferenceIdeal.defs _ _).mono (fun r h => ⟨fun c => (h c).2, Idealize.ShloMosaic.sem_eq_zero_of_no_sems (by decide) r.2⟩)
    (Cert.RetOutDxReferenceIdeal.Value.run (F := Ideal) m ρ)

/-- The gradient of the retention's output projection by its input is the reference's. -/
theorem ret_out_dx_algebraic : Cert.algebraic_RetOutDxIdeal_RetOutDxReferenceIdeal := by
  intro m g m' g' _ hagree
  refine ⟨fun c => (Cert.RetOutDxIdeal.Gen.dats m 0 c).arrAt 2 Cert.RetOutDxIdeal.cfg0.N, Cert.RetOutDxIdeal.Value.run_blocks (F := Ideal) m g,
    (θ_run Cert.RetOutDxReferenceIdeal.defs _ _).mono (fun r h c => ?_) (Cert.RetOutDxReferenceIdeal.Value.run (F := Ideal) m' g')⟩
  · refine ⟨(h c).1.trans ?_, (h c).2⟩
    refine (Cert.RetOutDxReferenceIdeal.Read.val_main_v5_eq _ _).trans ?_
    rw [(hagree c).1, (hagree c).2]
    exact ((Cert.RetOutDxIdeal.Val.final2 m c).trans (Cert.RetOutDxIdeal.Val.ref_eq _ _).symm).symm

theorem ret_out_dw_frame_r : Cert.quiescent_RetOutDwReferenceIdeal := fun m ρ _ =>
  (θ_run Cert.RetOutDwReferenceIdeal.defs _ _).mono (fun r h => ⟨fun c => (h c).2, Idealize.ShloMosaic.sem_eq_zero_of_no_sems (by decide) r.2⟩)
    (Cert.RetOutDwReferenceIdeal.Value.run (F := Ideal) m ρ)

/-- The gradient of the retention's output projection by its weights is the reference's. -/
theorem ret_out_dw_algebraic : Cert.algebraic_RetOutDwIdeal_RetOutDwReferenceIdeal := by
  intro m g m' g' _ hagree
  refine ⟨fun c => (Cert.RetOutDwIdeal.Gen.dats m 0 c).arrAt 2 Cert.RetOutDwIdeal.cfg0.N, Cert.RetOutDwIdeal.Value.run_blocks (F := Ideal) m g,
    (θ_run Cert.RetOutDwReferenceIdeal.defs _ _).mono (fun r h c => ?_) (Cert.RetOutDwReferenceIdeal.Value.run (F := Ideal) m' g')⟩
  · refine ⟨(h c).1.trans ?_, (h c).2⟩
    refine (Cert.RetOutDwReferenceIdeal.Read.val_main_v6_eq _ _).trans ?_
    rw [(hagree c).1, (hagree c).2]
    exact ((Cert.RetOutDwIdeal.Val.final2 m c).trans (Cert.RetOutDwIdeal.Val.ref_eq _ _).symm).symm

theorem xo_dx_frame_r : Cert.quiescent_XoDxReferenceIdeal := fun m ρ _ =>
  (θ_run Cert.XoDxReferenceIdeal.defs _ _).mono (fun r h => ⟨fun c => (h c).2, Idealize.ShloMosaic.sem_eq_zero_of_no_sems (by decide) r.2⟩)
    (Cert.XoDxReferenceIdeal.Value.run (F := Ideal) m ρ)

/-- The gradient of the attention's output projection by its input is the reference's. -/
theorem xo_dx_algebraic : Cert.algebraic_XoDxIdeal_XoDxReferenceIdeal := by
  intro m g m' g' _ hagree
  refine ⟨fun c => (Cert.XoDxIdeal.Gen.dats m 0 c).arrAt 2 Cert.XoDxIdeal.cfg0.N, Cert.XoDxIdeal.Value.run_blocks (F := Ideal) m g,
    (θ_run Cert.XoDxReferenceIdeal.defs _ _).mono (fun r h c => ?_) (Cert.XoDxReferenceIdeal.Value.run (F := Ideal) m' g')⟩
  · refine ⟨(h c).1.trans ?_, (h c).2⟩
    refine (Cert.XoDxReferenceIdeal.Read.val_main_v4_eq _ _).trans ?_
    rw [(hagree c).1, (hagree c).2]
    exact ((Cert.XoDxIdeal.Val.final2 m c).trans (Cert.XoDxIdeal.Val.ref_eq _ _).symm).symm

theorem xo_dw_frame_r : Cert.quiescent_XoDwReferenceIdeal := fun m ρ _ =>
  (θ_run Cert.XoDwReferenceIdeal.defs _ _).mono (fun r h => ⟨fun c => (h c).2, Idealize.ShloMosaic.sem_eq_zero_of_no_sems (by decide) r.2⟩)
    (Cert.XoDwReferenceIdeal.Value.run (F := Ideal) m ρ)

/-- The gradient of the attention's output projection by its weights is the reference's. -/
theorem xo_dw_algebraic : Cert.algebraic_XoDwIdeal_XoDwReferenceIdeal := by
  intro m g m' g' _ hagree
  refine ⟨fun c => (Cert.XoDwIdeal.Gen.dats m 0 c).arrAt 2 Cert.XoDwIdeal.cfg0.N, Cert.XoDwIdeal.Value.run_blocks (F := Ideal) m g,
    (θ_run Cert.XoDwReferenceIdeal.defs _ _).mono (fun r h c => ?_) (Cert.XoDwReferenceIdeal.Value.run (F := Ideal) m' g')⟩
  · refine ⟨(h c).1.trans ?_, (h c).2⟩
    refine (Cert.XoDwReferenceIdeal.Read.val_main_v5_eq _ _).trans ?_
    rw [(hagree c).1, (hagree c).2]
    exact ((Cert.XoDwIdeal.Val.final2 m c).trans (Cert.XoDwIdeal.Val.ref_eq _ _).symm).symm

theorem xq_dw_frame_r : Cert.quiescent_XqDwReferenceIdeal := fun m ρ _ =>
  (θ_run Cert.XqDwReferenceIdeal.defs _ _).mono (fun r h => ⟨fun c => (h c).2, Idealize.ShloMosaic.sem_eq_zero_of_no_sems (by decide) r.2⟩)
    (Cert.XqDwReferenceIdeal.Value.run (F := Ideal) m ρ)

/-- The gradient of the queries' projection by its weights is the reference's. -/
theorem xq_dw_algebraic : Cert.algebraic_XqDwIdeal_XqDwReferenceIdeal := by
  intro m g m' g' _ hagree
  refine ⟨fun c => (Cert.XqDwIdeal.Gen.dats m 0 c).arrAt 2 Cert.XqDwIdeal.cfg0.N, Cert.XqDwIdeal.Value.run_blocks (F := Ideal) m g,
    (θ_run Cert.XqDwReferenceIdeal.defs _ _).mono (fun r h c => ?_) (Cert.XqDwReferenceIdeal.Value.run (F := Ideal) m' g')⟩
  · refine ⟨(h c).1.trans ?_, (h c).2⟩
    refine (Cert.XqDwReferenceIdeal.Read.val_main_v6_eq _ _).trans ?_
    rw [(hagree c).1, (hagree c).2]
    exact ((Cert.XqDwIdeal.Val.final2 m c).trans (Cert.XqDwIdeal.Val.ref_eq _ _).symm).symm

theorem xq_frame_r : Cert.quiescent_XqReferenceIdeal := fun m ρ _ =>
  (θ_run Cert.XqReferenceIdeal.defs _ _).mono (fun r h => ⟨fun c => (h c).2, Idealize.ShloMosaic.sem_eq_zero_of_no_sems (by decide) r.2⟩)
    (Cert.XqReferenceIdeal.Value.run (F := Ideal) m ρ)

/-- The queries' projection is the reference's. -/
theorem xq_algebraic : Cert.algebraic_XqIdeal_XqReferenceIdeal := by
  intro m g m' g' _ hagree
  refine ⟨fun c => (Cert.XqIdeal.Gen.dats m 0 c).arrAt 2 Cert.XqIdeal.cfg0.N, Cert.XqIdeal.Value.run_blocks (F := Ideal) m g,
    (θ_run Cert.XqReferenceIdeal.defs _ _).mono (fun r h c => ?_) (Cert.XqReferenceIdeal.Value.run (F := Ideal) m' g')⟩
  · refine ⟨(h c).1.trans ?_, (h c).2⟩
    refine (Cert.XqReferenceIdeal.Read.val_main_v4_eq _ _).trans ?_
    rw [(hagree c).1, (hagree c).2]
    exact ((Cert.XqIdeal.Val.final2 m c).trans (Cert.XqIdeal.Val.ref_eq _ _).symm).symm

theorem conv_out_frame_r : Cert.quiescent_ConvOutReferenceIdeal := fun m ρ _ =>
  (θ_run Cert.ConvOutReferenceIdeal.defs _ _).mono (fun r h => ⟨fun c => (h c).2, Idealize.ShloMosaic.sem_eq_zero_of_no_sems (by decide) r.2⟩)
    (Cert.ConvOutReferenceIdeal.Value.run (F := Ideal) m ρ)

/-- The convolution's output projection is the reference's. -/
theorem conv_out_algebraic : Cert.algebraic_ConvOutIdeal_ConvOutReferenceIdeal := by
  intro m g m' g' _ hagree
  refine ⟨fun c => (Cert.ConvOutIdeal.Gen.dats m 0 c).arrAt 2 Cert.ConvOutIdeal.cfg0.N, Cert.ConvOutIdeal.Value.run_blocks (F := Ideal) m g,
    (θ_run Cert.ConvOutReferenceIdeal.defs _ _).mono (fun r h c => ?_) (Cert.ConvOutReferenceIdeal.Value.run (F := Ideal) m' g')⟩
  · refine ⟨(h c).1.trans ?_, (h c).2⟩
    refine (Cert.ConvOutReferenceIdeal.Read.val_main_v3_eq _ _).trans ?_
    rw [(hagree c).1, (hagree c).2]
    exact ((Cert.ConvOutIdeal.Val.final2 m c).trans (Cert.ConvOutIdeal.Val.ref_eq _ _).symm).symm

theorem gate_bwd_frame_r : Cert.quiescent_GateBwdReferenceIdeal := fun m ρ _ =>
  (θ_run Cert.GateBwdReferenceIdeal.defs _ _).mono (fun r h => ⟨fun c => (h c).2.2.2.2.2, Idealize.ShloMosaic.sem_eq_zero_of_no_sems (by decide) r.2⟩)
    (Cert.GateBwdReferenceIdeal.Value.run (F := Ideal) m ρ)

/-- The gradients of the gated mixing by the attention's and the convolution's outputs, by the gates before their biases, and
the gradients of the two biases are the reference's. -/
theorem gate_bwd_algebraic : Cert.algebraic_GateBwdIdeal_GateBwdReferenceIdeal := by
  intro m g m' g' _ hagree
  refine ⟨fun c => (Cert.GateBwdIdeal.Gen.dats m 0 c).arrAt 6 Cert.GateBwdIdeal.cfg0.N, fun c => (Cert.GateBwdIdeal.Gen.dats m 0 c).arrAt 7 Cert.GateBwdIdeal.cfg0.N,
    fun c => (Cert.GateBwdIdeal.Gen.dats m 0 c).arrAt 8 Cert.GateBwdIdeal.cfg0.N, fun c => (Cert.GateBwdIdeal.Gen.dats m 0 c).arrAt 9 Cert.GateBwdIdeal.cfg0.N,
    fun c => (Cert.GateBwdIdeal.Gen.dats m 0 c).arrAt 10 Cert.GateBwdIdeal.cfg0.N, Cert.GateBwdIdeal.Value.run_blocks (F := Ideal) m g,
    (θ_run Cert.GateBwdReferenceIdeal.defs _ _).mono (fun r h c => ?_) (Cert.GateBwdReferenceIdeal.Value.run (F := Ideal) m' g')⟩
  · obtain ⟨a0, a1, a2, a3, a4, a5⟩ := hagree c
    refine ⟨(h c).1.trans ?_, (h c).2.1.trans ?_, (h c).2.2.1.trans ?_, (h c).2.2.2.1.trans ?_, (h c).2.2.2.2.1.trans ?_, (h c).2.2.2.2.2⟩
    · refine (Cert.GateBwdReferenceIdeal.Read.val_main_v35_eq _ _ _).trans ?_
      rw [a0, a1, a5]
      exact ((Cert.GateBwdIdeal.Val.final6 m c).trans (Cert.GateBwdIdeal.Val.ref6 _ _ _).symm).symm
    · refine (Cert.GateBwdReferenceIdeal.Read.val_main_v36_eq _ _ _).trans ?_
      rw [a0, a1, a5]
      exact ((Cert.GateBwdIdeal.Val.final7 m c).trans (Cert.GateBwdIdeal.Val.ref7 _ _ _).symm).symm
    · refine (Cert.GateBwdReferenceIdeal.Read.val_main_v37_eq _ _ _ _ _ _).trans ?_
      rw [a0, a1, a2, a3, a4, a5]
      exact ((Cert.GateBwdIdeal.Val.final8 m c).trans (Cert.GateBwdIdeal.Val.ref8 _ _ _ _ _ _).symm).symm
    · refine (Cert.GateBwdReferenceIdeal.Read.val_main_v38_eq _ _ _ _ _ _).trans ?_
      rw [a0, a1, a2, a3, a4, a5]
      exact ((Cert.GateBwdIdeal.Val.final9 m c).trans (Cert.GateBwdIdeal.Val.ref9 _ _ _ _ _ _).symm).symm
    · refine (Cert.GateBwdReferenceIdeal.Read.val_main_v39_eq _ _ _).trans ?_
      rw [a0, a1, a5]
      exact ((Cert.GateBwdIdeal.Val.final10 m c).trans (Cert.GateBwdIdeal.Val.ref10 _ _ _).symm).symm

theorem xq_dx_frame_r : Cert.quiescent_XqDxReferenceIdeal := fun m ρ _ =>
  (θ_run Cert.XqDxReferenceIdeal.defs _ _).mono (fun r h => ⟨fun c => (h c).2.2, Idealize.ShloMosaic.sem_eq_zero_of_no_sems (by decide) r.2⟩)
    (Cert.XqDxReferenceIdeal.Value.run (F := Ideal) m ρ)

/-- The gradients of the queries' projection by its input, through the norm, and of the norm's gains are the reference's. -/
theorem xq_dx_algebraic : Cert.algebraic_XqDxIdeal_XqDxReferenceIdeal := by
  intro m g m' g' _ hagree
  refine ⟨fun c => (Cert.XqDxIdeal.Gen.dats m 0 c).arrAt 5 Cert.XqDxIdeal.cfg0.N, fun c => (Cert.XqDxIdeal.Gen.dats m 0 c).arrAt 6 Cert.XqDxIdeal.cfg0.N,
    Cert.XqDxIdeal.Value.run_blocks (F := Ideal) m g,
    (θ_run Cert.XqDxReferenceIdeal.defs _ _).mono (fun r h c => ?_) (Cert.XqDxReferenceIdeal.Value.run (F := Ideal) m' g')⟩
  · refine ⟨(h c).1.trans ?_, (h c).2.1.trans ?_, (h c).2.2⟩
    · refine (Cert.XqDxReferenceIdeal.Read.val_main_v41_eq m' c).trans ?_
      rw [(hagree c).1, (hagree c).2.1, (hagree c).2.2.1, (hagree c).2.2.2.1, (hagree c).2.2.2.2]
      exact ((Cert.XqDxIdeal.Val.final5 m c).trans (Cert.XqDxEq.dh_ref _ _ _ _ _).symm).symm
    · refine (Cert.XqDxReferenceIdeal.Read.val_main_v42_eq _ _ _).trans ?_
      rw [(hagree c).1, (hagree c).2.1, (hagree c).2.2.1]
      exact ((Cert.XqDxIdeal.Val.final6 m c).trans (Cert.XqDxEq.dg_ref _ _ _).symm).symm

theorem xo_frame_r : Cert.quiescent_XoReferenceIdeal := fun m ρ _ =>
  (θ_run Cert.XoReferenceIdeal.defs _ _).mono (fun r h => ⟨fun c => (h c).2.2, Idealize.ShloMosaic.sem_eq_zero_of_no_sems (by decide) r.2⟩)
    (Cert.XoReferenceIdeal.Value.run (F := Ideal) m ρ)

/-- The attention's output projection on top of the residual, and its normed rows, are the reference's. -/
theorem xo_algebraic : Cert.algebraic_XoIdeal_XoReferenceIdeal := by
  intro m g m' g' _ hagree
  refine ⟨fun c => (Cert.XoIdeal.Gen.dats m 0 c).arrAt 4 Cert.XoIdeal.cfg0.N, fun c => (Cert.XoIdeal.Gen.dats m 0 c).arrAt 5 Cert.XoIdeal.cfg0.N,
    Cert.XoIdeal.Value.run_blocks (F := Ideal) m g,
    (θ_run Cert.XoReferenceIdeal.defs _ _).mono (fun r h c => ?_) (Cert.XoReferenceIdeal.Value.run (F := Ideal) m' g')⟩
  · obtain ⟨a0, a1, a2, a3⟩ := hagree c
    refine ⟨(h c).1.trans ?_, (h c).2.1.trans ?_, (h c).2.2⟩
    · refine (Cert.XoReferenceIdeal.Read.val_main_v4_eq _ _ _).trans ?_
      rw [a0, a1, a2]
      exact ((Cert.XoIdeal.Val.final4 m c).trans (Cert.XoIdeal.Val.ref_h _ _ _).symm).symm
    · refine (Cert.XoReferenceIdeal.Read.val_main_v18_eq _ _ _ _).trans ?_
      rw [a0, a1, a2, a3]
      exact ((Cert.XoIdeal.Val.final5 m c).trans (Cert.XoIdeal.Val.ref_u _ _ _ _).symm).symm

theorem attn_fwd_frame_r : Cert.quiescent_AttnFwdReferenceIdeal := fun m ρ _ =>
  (θ_run Cert.AttnFwdReferenceIdeal.defs _ _).mono (fun r h => ⟨fun c => (h c).2, Idealize.ShloMosaic.sem_eq_zero_of_no_sems (by decide) r.2⟩)
    (Cert.AttnFwdReferenceIdeal.Value.run (F := Ideal) m ρ)

/-- The memory attention is the reference's. -/
theorem attn_fwd_algebraic : Cert.algebraic_AttnFwdIdeal_AttnFwdReferenceIdeal := by
  intro m g m' g' _ hagree
  refine ⟨fun c => (Cert.AttnFwdIdeal.Gen.dats m 0 c).arrAt 2 Cert.AttnFwdIdeal.cfg0.N, Cert.AttnFwdIdeal.Value.run_blocks (F := Ideal) m g,
    (θ_run Cert.AttnFwdReferenceIdeal.defs _ _).mono (fun r h c => ?_) (Cert.AttnFwdReferenceIdeal.Value.run (F := Ideal) m' g')⟩
  · refine ⟨(h c).1.trans ?_, (h c).2⟩
    refine (Cert.AttnFwdReferenceIdeal.Read.val_main_v24_eq _ _).trans ?_
    rw [(hagree c).1, (hagree c).2]
    exact ((Cert.AttnFwdIdeal.Val.final2 m c).trans (Cert.AttnFwdIdeal.Val.ref_eq _ _).symm).symm

theorem conv_out_dx_frame_r : Cert.quiescent_ConvOutDxReferenceIdeal := fun m ρ _ =>
  (θ_run Cert.ConvOutDxReferenceIdeal.defs _ _).mono (fun r h => ⟨fun c => (h c).2.2.2, Idealize.ShloMosaic.sem_eq_zero_of_no_sems (by decide) r.2⟩)
    (Cert.ConvOutDxReferenceIdeal.Value.run (F := Ideal) m ρ)

instance : Cert.Pre_conv_out_finite.Facts := Cert.ConvOutDxEq.pre_facts

/-- The gradients of the convolution's output projection by its input, through silu and layer norm, and of the norm's gains and biases
    are the reference's. -/
theorem conv_out_dx_algebraic : Cert.algebraic_ConvOutDxIdeal_ConvOutDxReferenceIdeal_pre_conv_out_finite := by
  intro m g m' g' hpre hagree
  refine ⟨fun c => (Cert.ConvOutDxIdeal.Gen.dats m 0 c).arrAt 5 Cert.ConvOutDxIdeal.cfg0.N, fun c => (Cert.ConvOutDxIdeal.Gen.dats m 0 c).arrAt 6 Cert.ConvOutDxIdeal.cfg0.N,
    fun c => (Cert.ConvOutDxIdeal.Gen.dats m 0 c).arrAt 7 Cert.ConvOutDxIdeal.cfg0.N, Cert.ConvOutDxIdeal.Value.run_blocks (F := Ideal) m g,
    (θ_run Cert.ConvOutDxReferenceIdeal.defs _ _).mono (fun r h c => ?_) (Cert.ConvOutDxReferenceIdeal.Value.run (F := Ideal) m' g')⟩
  obtain ⟨hd, hg⟩ := Cert.ConvOutDxEq.reals _ _ _ _ _ (hpre c)
  obtain ⟨a0, a1, a2, a3, a4⟩ := hagree c
  refine ⟨(h c).1.trans ?_, (h c).2.1.trans ?_, (h c).2.2.1.trans ?_, (h c).2.2.2⟩
  · refine (Cert.ConvOutDxReferenceIdeal.Read.val_main_v68_eq m' c).trans ?_
    rw [a0, a1, a2, a3, a4]
    exact ((Cert.ConvOutDxIdeal.Val.final5 m c).trans (Cert.ConvOutDxEq.dh_ref _ _ _ _ _ hd hg).symm).symm
  · refine (Cert.ConvOutDxReferenceIdeal.Read.val_main_v69_eq m' c).trans ?_
    rw [a0, a1, a2, a3, a4]
    exact ((Cert.ConvOutDxIdeal.Val.final6 m c).trans (Cert.ConvOutDxEq.dg_ref _ _ _ _ _ hd).symm).symm
  · refine (Cert.ConvOutDxReferenceIdeal.Read.val_main_v70_eq m' c).trans ?_
    rw [a0, a1, a2, a3, a4]
    exact ((Cert.ConvOutDxIdeal.Val.final7 m c).trans (Cert.ConvOutDxEq.db_ref _ _ _ _ _ hd).symm).symm

theorem down_last_frame_r : Cert.quiescent_DownLastReferenceIdeal := fun m ρ _ =>
  (θ_run Cert.DownLastReferenceIdeal.defs _ _).mono (fun r h => ⟨fun c => (h c).2, Idealize.ShloMosaic.sem_eq_zero_of_no_sems (by decide) r.2⟩)
    (Cert.DownLastReferenceIdeal.Value.run (F := Ideal) m ρ)

/-- The last layer's second projection of the feed forward part on top of the residual is the reference's. -/
theorem down_last_algebraic : Cert.algebraic_DownLastIdeal_DownLastReferenceIdeal := by
  intro m g m' g' _ hagree
  refine ⟨fun c => (Cert.DownLastIdeal.Gen.dats m 0 c).arrAt 3 Cert.DownLastIdeal.cfg0.N, Cert.DownLastIdeal.Value.run_blocks (F := Ideal) m g,
    (θ_run Cert.DownLastReferenceIdeal.defs _ _).mono (fun r h c => ?_) (Cert.DownLastReferenceIdeal.Value.run (F := Ideal) m' g')⟩
  · obtain ⟨a0, a1, a2⟩ := hagree c
    refine ⟨(h c).1.trans ?_, (h c).2⟩
    refine (Cert.DownLastReferenceIdeal.Read.val_main_v4_eq _ _ _).trans ?_
    rw [a0, a1, a2]
    exact ((Cert.DownLastIdeal.Val.final3 m c).trans (Cert.DownLastIdeal.Val.ref_h _ _ _).symm).symm

theorem claim : Cert.Claim := ⟨Cert.Attn.Gen.facts, Cert.AttnIdeal.Gen.facts, Cert.AttnReferenceIdeal.Gen.facts,
  Cert.InDx.Gen.facts, Cert.InDxIdeal.Gen.facts, Cert.InDxReferenceIdeal.Gen.facts,
  Cert.InDw.Gen.facts, Cert.InDwIdeal.Gen.facts, Cert.InDwReferenceIdeal.Gen.facts,
  Cert.In.Gen.facts, Cert.InIdeal.Gen.facts, Cert.InReferenceIdeal.Gen.facts,
  Cert.UpDx.Gen.facts, Cert.UpDxIdeal.Gen.facts, Cert.UpDxReferenceIdeal.Gen.facts,
  Cert.UpDw.Gen.facts, Cert.UpDwIdeal.Gen.facts, Cert.UpDwReferenceIdeal.Gen.facts,
  Cert.DownDx.Gen.facts, Cert.DownDxIdeal.Gen.facts, Cert.DownDxReferenceIdeal.Gen.facts,
  Cert.DownDw.Gen.facts, Cert.DownDwIdeal.Gen.facts, Cert.DownDwReferenceIdeal.Gen.facts,
  Cert.Ret.Gen.facts, Cert.RetIdeal.Gen.facts, Cert.RetReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.RetOut.Gen.facts, Cert.RetOutIdeal.Gen.facts, Cert.RetOutReferenceIdeal.Gen.facts,
  Cert.RetOutDx.Gen.facts, Cert.RetOutDxIdeal.Gen.facts, Cert.RetOutDxReferenceIdeal.Gen.facts,
  Cert.RetOutDw.Gen.facts, Cert.RetOutDwIdeal.Gen.facts, Cert.RetOutDwReferenceIdeal.Gen.facts,
  Cert.XoDx.Gen.facts, Cert.XoDxIdeal.Gen.facts, Cert.XoDxReferenceIdeal.Gen.facts,
  Cert.XoDw.Gen.facts, Cert.XoDwIdeal.Gen.facts, Cert.XoDwReferenceIdeal.Gen.facts,
  Cert.XqDw.Gen.facts, Cert.XqDwIdeal.Gen.facts, Cert.XqDwReferenceIdeal.Gen.facts,
  Cert.Xq.Gen.facts, Cert.XqIdeal.Gen.facts, Cert.XqReferenceIdeal.Gen.facts,
  Cert.ConvOut.Gen.facts, Cert.ConvOutIdeal.Gen.facts, Cert.ConvOutReferenceIdeal.Gen.facts,
  Cert.GateBwd.Gen.facts, Cert.GateBwdIdeal.Gen.facts, Cert.GateBwdReferenceIdeal.Gen.facts,
  Cert.XqDx.Gen.facts, Cert.XqDxIdeal.Gen.facts, Cert.XqDxReferenceIdeal.Gen.facts,
  Cert.Xo.Gen.facts, Cert.XoIdeal.Gen.facts, Cert.XoReferenceIdeal.Gen.facts,
  Cert.AttnFwd.Gen.facts, Cert.AttnFwdIdeal.Gen.facts, Cert.AttnFwdReferenceIdeal.Gen.facts,
  Cert.ConvOutDx.Gen.facts, Cert.ConvOutDxIdeal.Gen.facts, Cert.ConvOutDxReferenceIdeal.Gen.facts,
  Cert.DownLast.Gen.facts, Cert.DownLastIdeal.Gen.facts, Cert.DownLastReferenceIdeal.Gen.facts,
  Cert.AttnEq.pre_facts, Cert.RetEq.pre_facts, Cert.ConvOutDxEq.pre_facts,
  fun m ρ _ => Cert.Attn.Gen.frame m ρ, fun m ρ _ => Cert.AttnIdeal.Gen.frame m ρ, fun m ρ _ => Cert.AttnIdeal.Gen.frame m ρ,
  attn_frame_r, fun m ρ _ => attn_frame_r m ρ trivial,
  fun m ρ _ => Cert.InDx.Gen.frame m ρ, fun m ρ _ => Cert.InDxIdeal.Gen.frame m ρ, in_dx_frame_r,
  fun m ρ _ => Cert.InDw.Gen.frame m ρ, fun m ρ _ => Cert.InDwIdeal.Gen.frame m ρ, in_dw_frame_r,
  fun m ρ _ => Cert.In.Gen.frame m ρ, fun m ρ _ => Cert.InIdeal.Gen.frame m ρ, in_frame_r,
  fun m ρ _ => Cert.UpDx.Gen.frame m ρ, fun m ρ _ => Cert.UpDxIdeal.Gen.frame m ρ, up_dx_frame_r,
  fun m ρ _ => Cert.UpDw.Gen.frame m ρ, fun m ρ _ => Cert.UpDwIdeal.Gen.frame m ρ, up_dw_frame_r,
  fun m ρ _ => Cert.DownDx.Gen.frame m ρ, fun m ρ _ => Cert.DownDxIdeal.Gen.frame m ρ, down_dx_frame_r,
  fun m ρ _ => Cert.DownDw.Gen.frame m ρ, fun m ρ _ => Cert.DownDwIdeal.Gen.frame m ρ, down_dw_frame_r,
  fun m ρ _ => Cert.Ret.Gen.frame m ρ, fun m ρ _ => Cert.RetIdeal.Gen.frame m ρ, fun m ρ _ => Cert.RetIdeal.Gen.frame m ρ,
  ret_frame_r, fun m ρ _ => ret_frame_r m ρ trivial,
  fun m ρ _ => Cert.Up.Gen.frame m ρ, fun m ρ _ => Cert.UpIdeal.Gen.frame m ρ, up_frame_r,
  fun m ρ _ => Cert.Down.Gen.frame m ρ, fun m ρ _ => Cert.DownIdeal.Gen.frame m ρ, down_frame_r,
  fun m ρ _ => Cert.RetOut.Gen.frame m ρ, fun m ρ _ => Cert.RetOutIdeal.Gen.frame m ρ, ret_out_frame_r,
  fun m ρ _ => Cert.RetOutDx.Gen.frame m ρ, fun m ρ _ => Cert.RetOutDxIdeal.Gen.frame m ρ, ret_out_dx_frame_r,
  fun m ρ _ => Cert.RetOutDw.Gen.frame m ρ, fun m ρ _ => Cert.RetOutDwIdeal.Gen.frame m ρ, ret_out_dw_frame_r,
  fun m ρ _ => Cert.XoDx.Gen.frame m ρ, fun m ρ _ => Cert.XoDxIdeal.Gen.frame m ρ, xo_dx_frame_r,
  fun m ρ _ => Cert.XoDw.Gen.frame m ρ, fun m ρ _ => Cert.XoDwIdeal.Gen.frame m ρ, xo_dw_frame_r,
  fun m ρ _ => Cert.XqDw.Gen.frame m ρ, fun m ρ _ => Cert.XqDwIdeal.Gen.frame m ρ, xq_dw_frame_r,
  fun m ρ _ => Cert.Xq.Gen.frame m ρ, fun m ρ _ => Cert.XqIdeal.Gen.frame m ρ, xq_frame_r,
  fun m ρ _ => Cert.ConvOut.Gen.frame m ρ, fun m ρ _ => Cert.ConvOutIdeal.Gen.frame m ρ, conv_out_frame_r,
  fun m ρ _ => Cert.GateBwd.Gen.frame m ρ, fun m ρ _ => Cert.GateBwdIdeal.Gen.frame m ρ, gate_bwd_frame_r,
  fun m ρ _ => Cert.XqDx.Gen.frame m ρ, fun m ρ _ => Cert.XqDxIdeal.Gen.frame m ρ, xq_dx_frame_r,
  fun m ρ _ => Cert.Xo.Gen.frame m ρ, fun m ρ _ => Cert.XoIdeal.Gen.frame m ρ, xo_frame_r,
  fun m ρ _ => Cert.AttnFwd.Gen.frame m ρ, fun m ρ _ => Cert.AttnFwdIdeal.Gen.frame m ρ, attn_fwd_frame_r,
  fun m ρ _ => Cert.ConvOutDx.Gen.frame m ρ, fun m ρ _ => Cert.ConvOutDxIdeal.Gen.frame m ρ, fun m ρ _ => Cert.ConvOutDxIdeal.Gen.frame m ρ,
  conv_out_dx_frame_r, fun m ρ _ => conv_out_dx_frame_r m ρ trivial,
  fun m ρ _ => Cert.DownLast.Gen.frame m ρ, fun m ρ _ => Cert.DownLastIdeal.Gen.frame m ρ, down_last_frame_r,
  trivial, attn_algebraic, trivial, in_dx_algebraic, trivial, in_dw_algebraic,
  trivial, in_algebraic, trivial, up_dx_algebraic, trivial, up_dw_algebraic, trivial, down_dx_algebraic, trivial, down_dw_algebraic,
  trivial, ret_algebraic,
  trivial, up_algebraic, trivial, down_algebraic, trivial, ret_out_algebraic, trivial, ret_out_dx_algebraic, trivial, ret_out_dw_algebraic,
  trivial, xo_dx_algebraic, trivial, xo_dw_algebraic, trivial, xq_dw_algebraic, trivial, xq_algebraic, trivial, conv_out_algebraic,
  trivial, gate_bwd_algebraic, trivial, xq_dx_algebraic, trivial, xo_algebraic, trivial, attn_fwd_algebraic,
  trivial, conv_out_dx_algebraic, trivial, down_last_algebraic⟩

end Cert.Proof

end
